-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGwDown (m : (ℓ : Loc Cert.KernelGwDown.nD Cert.KernelGwDown.τ Cert.KernelGwDown.sig) → Buf (Elt Bits) ℓ) : Prop :=
  True

def Pre_KernelGwDownIdeal (m : (ℓ : Loc Cert.KernelGwDownIdeal.nD Cert.KernelGwDownIdeal.τ Cert.KernelGwDownIdeal.sig) → Buf (Elt Ideal) ℓ) : Prop :=
  True

def Pre_ReferenceGwDownIdeal (m : (ℓ : Loc Cert.ReferenceGwDownIdeal.nD Cert.ReferenceGwDownIdeal.τ Cert.ReferenceGwDownIdeal.sig) → Buf (Elt Ideal) ℓ) : Prop :=
  True

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelGwUp (m : (ℓ : Loc Cert.KernelGwUp.nD Cert.KernelGwUp.τ Cert.KernelGwUp.sig) → Buf (Elt Bits) ℓ) : Prop :=
  True

def Pre_KernelGwUpIdeal (m : (ℓ : Loc Cert.KernelGwUpIdeal.nD Cert.KernelGwUpIdeal.τ Cert.KernelGwUpIdeal.sig) → Buf (Elt Ideal) ℓ) : Prop :=
  True

def Pre_ReferenceGwUpIdeal (m : (ℓ : Loc Cert.ReferenceGwUpIdeal.nD Cert.ReferenceGwUpIdeal.τ Cert.ReferenceGwUpIdeal.sig) → Buf (Elt Ideal) ℓ) : Prop :=
  True

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_ReferenceDh2Ideal (m : (ℓ : Loc Cert.ReferenceDh2Ideal.nD Cert.ReferenceDh2Ideal.τ Cert.ReferenceDh2Ideal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGwOut (m : (ℓ : Loc Cert.KernelGwOut.nD Cert.KernelGwOut.τ Cert.KernelGwOut.sig) → Buf (Elt Bits) ℓ) : Prop :=
  True

def Pre_KernelGwOutIdeal (m : (ℓ : Loc Cert.KernelGwOutIdeal.nD Cert.KernelGwOutIdeal.τ Cert.KernelGwOutIdeal.sig) → Buf (Elt Ideal) ℓ) : Prop :=
  True

def Pre_ReferenceGwOutIdeal (m : (ℓ : Loc Cert.ReferenceGwOutIdeal.nD Cert.ReferenceGwOutIdeal.τ Cert.ReferenceGwOutIdeal.sig) → Buf (Elt Ideal) ℓ) : Prop :=
  True

def Pre_KernelDycat (m : (ℓ : Loc Cert.KernelDycat.nD Cert.KernelDycat.τ Cert.KernelDycat.sig) → Buf (Elt Bits) ℓ) : Prop :=
  True

def Pre_KernelDycatIdeal (m : (ℓ : Loc Cert.KernelDycatIdeal.nD Cert.KernelDycatIdeal.τ Cert.KernelDycatIdeal.sig) → Buf (Elt Ideal) ℓ) : Prop :=
  True

def Pre_ReferenceDycatIdeal (m : (ℓ : Loc Cert.ReferenceDycatIdeal.nD Cert.ReferenceDycatIdeal.τ Cert.ReferenceDycatIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelGwUkv (m : (ℓ : Loc Cert.KernelGwUkv.nD Cert.KernelGwUkv.τ Cert.KernelGwUkv.sig) → Buf (Elt Bits) ℓ) : Prop :=
  True

def Pre_KernelGwUkvIdeal (m : (ℓ : Loc Cert.KernelGwUkvIdeal.nD Cert.KernelGwUkvIdeal.τ Cert.KernelGwUkvIdeal.sig) → Buf (Elt Ideal) ℓ) : Prop :=
  True

def Pre_ReferenceGwUkvIdeal (m : (ℓ : Loc Cert.ReferenceGwUkvIdeal.nD Cert.ReferenceGwUkvIdeal.τ Cert.ReferenceGwUkvIdeal.sig) → Buf (Elt Ideal) ℓ) : Prop :=
  True

def Pre_KernelDckv (m : (ℓ : Loc Cert.KernelDckv.nD Cert.KernelDckv.τ Cert.KernelDckv.sig) → Buf (Elt Bits) ℓ) : Prop :=
  True

def Pre_KernelDckvIdeal (m : (ℓ : Loc Cert.KernelDckvIdeal.nD Cert.KernelDckvIdeal.τ Cert.KernelDckvIdeal.sig) → Buf (Elt Ideal) ℓ) : Prop :=
  True

def Pre_ReferenceDckvIdeal (m : (ℓ : Loc Cert.ReferenceDckvIdeal.nD Cert.ReferenceDckvIdeal.τ Cert.ReferenceDckvIdeal.sig) → Buf (Elt Ideal) ℓ) : Prop :=
  True

def Pre_KernelAdamwMlp (m : (ℓ : Loc Cert.KernelAdamwMlp.nD Cert.KernelAdamwMlp.τ Cert.KernelAdamwMlp.sig) → Buf (Elt Bits) ℓ) : Prop :=
  True

def Pre_KernelAdamwMlpIdeal (m : (ℓ : Loc Cert.KernelAdamwMlpIdeal.nD Cert.KernelAdamwMlpIdeal.τ Cert.KernelAdamwMlpIdeal.sig) → Buf (Elt Ideal) ℓ) : Prop :=
  True

def Pre_ReferenceAdamwMlpIdeal (m : (ℓ : Loc Cert.ReferenceAdamwMlpIdeal.nD Cert.ReferenceAdamwMlpIdeal.τ Cert.ReferenceAdamwMlpIdeal.sig) → Buf (Elt Ideal) ℓ) : Prop :=
  True

def Pre_KernelAdamwIn (m : (ℓ : Loc Cert.KernelAdamwIn.nD Cert.KernelAdamwIn.τ Cert.KernelAdamwIn.sig) → Buf (Elt Bits) ℓ) : Prop :=
  True

def Pre_KernelAdamwInIdeal (m : (ℓ : Loc Cert.KernelAdamwInIdeal.nD Cert.KernelAdamwInIdeal.τ Cert.KernelAdamwInIdeal.sig) → Buf (Elt Ideal) ℓ) : Prop :=
  True

def Pre_ReferenceAdamwInIdeal (m : (ℓ : Loc Cert.ReferenceAdamwInIdeal.nD Cert.ReferenceAdamwInIdeal.τ Cert.ReferenceAdamwInIdeal.sig) → Buf (Elt Ideal) ℓ) : Prop :=
  True

def Pre_KernelAdamwUq (m : (ℓ : Loc Cert.KernelAdamwUq.nD Cert.KernelAdamwUq.τ Cert.KernelAdamwUq.sig) → Buf (Elt Bits) ℓ) : Prop :=
  True

def Pre_KernelAdamwUqIdeal (m : (ℓ : Loc Cert.KernelAdamwUqIdeal.nD Cert.KernelAdamwUqIdeal.τ Cert.KernelAdamwUqIdeal.sig) → Buf (Elt Ideal) ℓ) : Prop :=
  True

def Pre_ReferenceAdamwUqIdeal (m : (ℓ : Loc Cert.ReferenceAdamwUqIdeal.nD Cert.ReferenceAdamwUqIdeal.τ Cert.ReferenceAdamwUqIdeal.sig) → Buf (Elt Ideal) ℓ) : Prop :=
  True

def Pre_KernelAdamwUkv (m : (ℓ : Loc Cert.KernelAdamwUkv.nD Cert.KernelAdamwUkv.τ Cert.KernelAdamwUkv.sig) → Buf (Elt Bits) ℓ) : Prop :=
  True

def Pre_KernelAdamwUkvIdeal (m : (ℓ : Loc Cert.KernelAdamwUkvIdeal.nD Cert.KernelAdamwUkvIdeal.τ Cert.KernelAdamwUkvIdeal.sig) → Buf (Elt Ideal) ℓ) : Prop :=
  True

def Pre_ReferenceAdamwUkvIdeal (m : (ℓ : Loc Cert.ReferenceAdamwUkvIdeal.nD Cert.ReferenceAdamwUkvIdeal.τ Cert.ReferenceAdamwUkvIdeal.sig) → Buf (Elt Ideal) ℓ) : Prop :=
  True

def Pre_KernelAdamwO (m : (ℓ : Loc Cert.KernelAdamwO.nD Cert.KernelAdamwO.τ Cert.KernelAdamwO.sig) → Buf (Elt Bits) ℓ) : Prop :=
  True

def Pre_KernelAdamwOIdeal (m : (ℓ : Loc Cert.KernelAdamwOIdeal.nD Cert.KernelAdamwOIdeal.τ Cert.KernelAdamwOIdeal.sig) → Buf (Elt Ideal) ℓ) : Prop :=
  True

def Pre_ReferenceAdamwOIdeal (m : (ℓ : Loc Cert.ReferenceAdamwOIdeal.nD Cert.ReferenceAdamwOIdeal.τ Cert.ReferenceAdamwOIdeal.sig) → Buf (Elt Ideal) ℓ) : Prop :=
  True

def Pre_KernelAdamwSmall (m : (ℓ : Loc Cert.KernelAdamwSmall.nD Cert.KernelAdamwSmall.τ Cert.KernelAdamwSmall.sig) → Buf (Elt Bits) ℓ) : Prop :=
  True

def Pre_KernelAdamwSmallIdeal (m : (ℓ : Loc Cert.KernelAdamwSmallIdeal.nD Cert.KernelAdamwSmallIdeal.τ Cert.KernelAdamwSmallIdeal.sig) → Buf (Elt Ideal) ℓ) : Prop :=
  True

def Pre_ReferenceAdamwSmallIdeal (m : (ℓ : Loc Cert.ReferenceAdamwSmallIdeal.nD Cert.ReferenceAdamwSmallIdeal.τ Cert.ReferenceAdamwSmallIdeal.sig) → Buf (Elt Ideal) ℓ) : Prop :=
  True

def Pre_KernelInput (m : (ℓ : Loc Cert.KernelInput.nD Cert.KernelInput.τ Cert.KernelInput.sig) → Buf (Elt Bits) ℓ) : Prop :=
  True

def Pre_KernelInputIdeal (m : (ℓ : Loc Cert.KernelInputIdeal.nD Cert.KernelInputIdeal.τ Cert.KernelInputIdeal.sig) → Buf (Elt Ideal) ℓ) : Prop :=
  True

def Pre_ReferenceInputIdeal (m : (ℓ : Loc Cert.ReferenceInputIdeal.nD Cert.ReferenceInputIdeal.τ Cert.ReferenceInputIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelGwIn (m : (ℓ : Loc Cert.KernelGwIn.nD Cert.KernelGwIn.τ Cert.KernelGwIn.sig) → Buf (Elt Bits) ℓ) : Prop :=
  True

def Pre_KernelGwInIdeal (m : (ℓ : Loc Cert.KernelGwInIdeal.nD Cert.KernelGwInIdeal.τ Cert.KernelGwInIdeal.sig) → Buf (Elt Ideal) ℓ) : Prop :=
  True

def Pre_ReferenceGwInIdeal (m : (ℓ : Loc Cert.ReferenceGwInIdeal.nD Cert.ReferenceGwInIdeal.τ Cert.ReferenceGwInIdeal.sig) → Buf (Elt Ideal) ℓ) : Prop :=
  True

def Pre_KernelDh1 (m : (ℓ : Loc Cert.KernelDh1.nD Cert.KernelDh1.τ Cert.KernelDh1.sig) → Buf (Elt Bits) ℓ) : Prop :=
  True

def Pre_KernelDh1Ideal (m : (ℓ : Loc Cert.KernelDh1Ideal.nD Cert.KernelDh1Ideal.τ Cert.KernelDh1Ideal.sig) → Buf (Elt Ideal) ℓ) : Prop :=
  True

def Pre_ReferenceDh1Ideal (m : (ℓ : Loc Cert.ReferenceDh1Ideal.nD Cert.ReferenceDh1Ideal.τ Cert.ReferenceDh1Ideal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelGwUq (m : (ℓ : Loc Cert.KernelGwUq.nD Cert.KernelGwUq.τ Cert.KernelGwUq.sig) → Buf (Elt Bits) ℓ) : Prop :=
  True

def Pre_KernelGwUqIdeal (m : (ℓ : Loc Cert.KernelGwUqIdeal.nD Cert.KernelGwUqIdeal.τ Cert.KernelGwUqIdeal.sig) → Buf (Elt Ideal) ℓ) : Prop :=
  True

def Pre_ReferenceGwUqIdeal (m : (ℓ : Loc Cert.ReferenceGwUqIdeal.nD Cert.ReferenceGwUqIdeal.τ Cert.ReferenceGwUqIdeal.sig) → Buf (Elt Ideal) ℓ) : Prop :=
  True

def Pre_KernelDcq (m : (ℓ : Loc Cert.KernelDcq.nD Cert.KernelDcq.τ Cert.KernelDcq.sig) → Buf (Elt Bits) ℓ) : Prop :=
  True

def Pre_KernelDcqIdeal (m : (ℓ : Loc Cert.KernelDcqIdeal.nD Cert.KernelDcqIdeal.τ Cert.KernelDcqIdeal.sig) → Buf (Elt Ideal) ℓ) : Prop :=
  True

def Pre_ReferenceDcqIdeal (m : (ℓ : Loc Cert.ReferenceDcqIdeal.nD Cert.ReferenceDcqIdeal.τ Cert.ReferenceDcqIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGwDown [hKernelGwDown : Cert.KernelGwDown.Facts] : Prop :=
  ∀ (m : (ℓ : Loc Cert.KernelGwDown.nD Cert.KernelGwDown.τ Cert.KernelGwDown.sig) → Buf (Elt Bits) ℓ) (g : Dev Cert.KernelGwDown.nD → PrngReg), Pre_KernelGwDown m →
    θ_run (Cert.KernelGwDown.defs (F := Bits)) (onTc (τ := Cert.KernelGwDown.τ) (Cert.KernelGwDown.main (F := Bits))) ⟨m, fun _ => 0, g⟩ (fun r => (∀ c : Dev Cert.KernelGwDown.nD,
      r.2.mem ((c.tc : Thread Cert.KernelGwDown.nD Cert.KernelGwDown.τ).loc Cert.KernelGwDown.main_arg0) = m ((c.tc : Thread Cert.KernelGwDown.nD Cert.KernelGwDown.τ).loc Cert.KernelGwDown.main_arg0)
      ∧ r.2.mem ((c.tc : Thread Cert.KernelGwDown.nD Cert.KernelGwDown.τ).loc Cert.KernelGwDown.main_arg1) = m ((c.tc : Thread Cert.KernelGwDown.nD Cert.KernelGwDown.τ).loc Cert.KernelGwDown.main_arg1)
      ∧ r.2.mem ((c.tc : Thread Cert.KernelGwDown.nD Cert.KernelGwDown.τ).loc Cert.KernelGwDown.main_arg2) = m ((c.tc : Thread Cert.KernelGwDown.nD Cert.KernelGwDown.τ).loc Cert.KernelGwDown.main_arg2))
      ∧ r.2.sem = fun _ => 0)

def quiescent_KernelGwDownIdeal [hKernelGwDownIdeal : Cert.KernelGwDownIdeal.Facts] : Prop :=
  ∀ (m : (ℓ : Loc Cert.KernelGwDownIdeal.nD Cert.KernelGwDownIdeal.τ Cert.KernelGwDownIdeal.sig) → Buf (Elt Ideal) ℓ) (g : Dev Cert.KernelGwDownIdeal.nD → PrngReg), Pre_KernelGwDownIdeal m →
    θ_run (Cert.KernelGwDownIdeal.defs (F := Ideal)) (onTc (τ := Cert.KernelGwDownIdeal.τ) (Cert.KernelGwDownIdeal.main (F := Ideal))) ⟨m, fun _ => 0, g⟩ (fun r => (∀ c : Dev Cert.KernelGwDownIdeal.nD,
      r.2.mem ((c.tc : Thread Cert.KernelGwDownIdeal.nD Cert.KernelGwDownIdeal.τ).loc Cert.KernelGwDownIdeal.main_arg0) = m ((c.tc : Thread Cert.KernelGwDownIdeal.nD Cert.KernelGwDownIdeal.τ).loc Cert.KernelGwDownIdeal.main_arg0)
      ∧ r.2.mem ((c.tc : Thread Cert.KernelGwDownIdeal.nD Cert.KernelGwDownIdeal.τ).loc Cert.KernelGwDownIdeal.main_arg1) = m ((c.tc : Thread Cert.KernelGwDownIdeal.nD Cert.KernelGwDownIdeal.τ).loc Cert.KernelGwDownIdeal.main_arg1)
      ∧ r.2.mem ((c.tc : Thread Cert.KernelGwDownIdeal.nD Cert.KernelGwDownIdeal.τ).loc Cert.KernelGwDownIdeal.main_arg2) = m ((c.tc : Thread Cert.KernelGwDownIdeal.nD Cert.KernelGwDownIdeal.τ).loc Cert.KernelGwDownIdeal.main_arg2))
      ∧ r.2.sem = fun _ => 0)

def quiescent_ReferenceGwDownIdeal [hReferenceGwDownIdeal : Cert.ReferenceGwDownIdeal.Facts] : Prop :=
  ∀ (m : (ℓ : Loc Cert.ReferenceGwDownIdeal.nD Cert.ReferenceGwDownIdeal.τ Cert.ReferenceGwDownIdeal.sig) → Buf (Elt Ideal) ℓ) (g : Dev Cert.ReferenceGwDownIdeal.nD → PrngReg), Pre_ReferenceGwDownIdeal m →
    θ_run (Cert.ReferenceGwDownIdeal.defs (F := Ideal)) (onTc (τ := Cert.ReferenceGwDownIdeal.τ) (Cert.ReferenceGwDownIdeal.main (F := Ideal))) ⟨m, fun _ => 0, g⟩ (fun r => (∀ c : Dev Cert.ReferenceGwDownIdeal.nD,
      r.2.mem ((c.tc : Thread Cert.ReferenceGwDownIdeal.nD Cert.ReferenceGwDownIdeal.τ).loc Cert.ReferenceGwDownIdeal.main_arg0) = m ((c.tc : Thread Cert.ReferenceGwDownIdeal.nD Cert.ReferenceGwDownIdeal.τ).loc Cert.ReferenceGwDownIdeal.main_arg0)
      ∧ r.2.mem ((c.tc : Thread Cert.ReferenceGwDownIdeal.nD Cert.ReferenceGwDownIdeal.τ).loc Cert.ReferenceGwDownIdeal.main_arg1) = m ((c.tc : Thread Cert.ReferenceGwDownIdeal.nD Cert.ReferenceGwDownIdeal.τ).loc Cert.ReferenceGwDownIdeal.main_arg1)
      ∧ r.2.mem ((c.tc : Thread Cert.ReferenceGwDownIdeal.nD Cert.ReferenceGwDownIdeal.τ).loc Cert.ReferenceGwDownIdeal.main_arg2) = m ((c.tc : Thread Cert.ReferenceGwDownIdeal.nD Cert.ReferenceGwDownIdeal.τ).loc Cert.ReferenceGwDownIdeal.main_arg2))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1)
      ∧ r.2.mem ((c.tc : Thread Cert.KernelDact.nD Cert.KernelDact.τ).loc Cert.KernelDact.main_arg2) = m ((c.tc : Thread Cert.KernelDact.nD Cert.KernelDact.τ).loc Cert.KernelDact.main_arg2))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
      ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelGwUp [hKernelGwUp : Cert.KernelGwUp.Facts] : Prop :=
  ∀ (m : (ℓ : Loc Cert.KernelGwUp.nD Cert.KernelGwUp.τ Cert.KernelGwUp.sig) → Buf (Elt Bits) ℓ) (g : Dev Cert.KernelGwUp.nD → PrngReg), Pre_KernelGwUp m →
    θ_run (Cert.KernelGwUp.defs (F := Bits)) (onTc (τ := Cert.KernelGwUp.τ) (Cert.KernelGwUp.main (F := Bits))) ⟨m, fun _ => 0, g⟩ (fun r => (∀ c : Dev Cert.KernelGwUp.nD,
      r.2.mem ((c.tc : Thread Cert.KernelGwUp.nD Cert.KernelGwUp.τ).loc Cert.KernelGwUp.main_arg0) = m ((c.tc : Thread Cert.KernelGwUp.nD Cert.KernelGwUp.τ).loc Cert.KernelGwUp.main_arg0)
      ∧ r.2.mem ((c.tc : Thread Cert.KernelGwUp.nD Cert.KernelGwUp.τ).loc Cert.KernelGwUp.main_arg1) = m ((c.tc : Thread Cert.KernelGwUp.nD Cert.KernelGwUp.τ).loc Cert.KernelGwUp.main_arg1)
      ∧ r.2.mem ((c.tc : Thread Cert.KernelGwUp.nD Cert.KernelGwUp.τ).loc Cert.KernelGwUp.main_arg2) = m ((c.tc : Thread Cert.KernelGwUp.nD Cert.KernelGwUp.τ).loc Cert.KernelGwUp.main_arg2))
      ∧ r.2.sem = fun _ => 0)

def quiescent_KernelGwUpIdeal [hKernelGwUpIdeal : Cert.KernelGwUpIdeal.Facts] : Prop :=
  ∀ (m : (ℓ : Loc Cert.KernelGwUpIdeal.nD Cert.KernelGwUpIdeal.τ Cert.KernelGwUpIdeal.sig) → Buf (Elt Ideal) ℓ) (g : Dev Cert.KernelGwUpIdeal.nD → PrngReg), Pre_KernelGwUpIdeal m →
    θ_run (Cert.KernelGwUpIdeal.defs (F := Ideal)) (onTc (τ := Cert.KernelGwUpIdeal.τ) (Cert.KernelGwUpIdeal.main (F := Ideal))) ⟨m, fun _ => 0, g⟩ (fun r => (∀ c : Dev Cert.KernelGwUpIdeal.nD,
      r.2.mem ((c.tc : Thread Cert.KernelGwUpIdeal.nD Cert.KernelGwUpIdeal.τ).loc Cert.KernelGwUpIdeal.main_arg0) = m ((c.tc : Thread Cert.KernelGwUpIdeal.nD Cert.KernelGwUpIdeal.τ).loc Cert.KernelGwUpIdeal.main_arg0)
      ∧ r.2.mem ((c.tc : Thread Cert.KernelGwUpIdeal.nD Cert.KernelGwUpIdeal.τ).loc Cert.KernelGwUpIdeal.main_arg1) = m ((c.tc : Thread Cert.KernelGwUpIdeal.nD Cert.KernelGwUpIdeal.τ).loc Cert.KernelGwUpIdeal.main_arg1)
      ∧ r.2.mem ((c.tc : Thread Cert.KernelGwUpIdeal.nD Cert.KernelGwUpIdeal.τ).loc Cert.KernelGwUpIdeal.main_arg2) = m ((c.tc : Thread Cert.KernelGwUpIdeal.nD Cert.KernelGwUpIdeal.τ).loc Cert.KernelGwUpIdeal.main_arg2))
      ∧ r.2.sem = fun _ => 0)

def quiescent_ReferenceGwUpIdeal [hReferenceGwUpIdeal : Cert.ReferenceGwUpIdeal.Facts] : Prop :=
  ∀ (m : (ℓ : Loc Cert.ReferenceGwUpIdeal.nD Cert.ReferenceGwUpIdeal.τ Cert.ReferenceGwUpIdeal.sig) → Buf (Elt Ideal) ℓ) (g : Dev Cert.ReferenceGwUpIdeal.nD → PrngReg), Pre_ReferenceGwUpIdeal m →
    θ_run (Cert.ReferenceGwUpIdeal.defs (F := Ideal)) (onTc (τ := Cert.ReferenceGwUpIdeal.τ) (Cert.ReferenceGwUpIdeal.main (F := Ideal))) ⟨m, fun _ => 0, g⟩ (fun r => (∀ c : Dev Cert.ReferenceGwUpIdeal.nD,
      r.2.mem ((c.tc : Thread Cert.ReferenceGwUpIdeal.nD Cert.ReferenceGwUpIdeal.τ).loc Cert.ReferenceGwUpIdeal.main_arg0) = m ((c.tc : Thread Cert.ReferenceGwUpIdeal.nD Cert.ReferenceGwUpIdeal.τ).loc Cert.ReferenceGwUpIdeal.main_arg0)
      ∧ r.2.mem ((c.tc : Thread Cert.ReferenceGwUpIdeal.nD Cert.ReferenceGwUpIdeal.τ).loc Cert.ReferenceGwUpIdeal.main_arg1) = m ((c.tc : Thread Cert.ReferenceGwUpIdeal.nD Cert.ReferenceGwUpIdeal.τ).loc Cert.ReferenceGwUpIdeal.main_arg1)
      ∧ r.2.mem ((c.tc : Thread Cert.ReferenceGwUpIdeal.nD Cert.ReferenceGwUpIdeal.τ).loc Cert.ReferenceGwUpIdeal.main_arg2) = m ((c.tc : Thread Cert.ReferenceGwUpIdeal.nD Cert.ReferenceGwUpIdeal.τ).loc Cert.ReferenceGwUpIdeal.main_arg2))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1)
      ∧ r.2.mem ((c.tc : Thread Cert.KernelDh2.nD Cert.KernelDh2.τ).loc Cert.KernelDh2.main_arg2) = m ((c.tc : Thread Cert.KernelDh2.nD Cert.KernelDh2.τ).loc Cert.KernelDh2.main_arg2))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelGwOut [hKernelGwOut : Cert.KernelGwOut.Facts] : Prop :=
  ∀ (m : (ℓ : Loc Cert.KernelGwOut.nD Cert.KernelGwOut.τ Cert.KernelGwOut.sig) → Buf (Elt Bits) ℓ) (g : Dev Cert.KernelGwOut.nD → PrngReg), Pre_KernelGwOut m →
    θ_run (Cert.KernelGwOut.defs (F := Bits)) (onTc (τ := Cert.KernelGwOut.τ) (Cert.KernelGwOut.main (F := Bits))) ⟨m, fun _ => 0, g⟩ (fun r => (∀ c : Dev Cert.KernelGwOut.nD,
      r.2.mem ((c.tc : Thread Cert.KernelGwOut.nD Cert.KernelGwOut.τ).loc Cert.KernelGwOut.main_arg0) = m ((c.tc : Thread Cert.KernelGwOut.nD Cert.KernelGwOut.τ).loc Cert.KernelGwOut.main_arg0)
      ∧ r.2.mem ((c.tc : Thread Cert.KernelGwOut.nD Cert.KernelGwOut.τ).loc Cert.KernelGwOut.main_arg1) = m ((c.tc : Thread Cert.KernelGwOut.nD Cert.KernelGwOut.τ).loc Cert.KernelGwOut.main_arg1)
      ∧ r.2.mem ((c.tc : Thread Cert.KernelGwOut.nD Cert.KernelGwOut.τ).loc Cert.KernelGwOut.main_arg2) = m ((c.tc : Thread Cert.KernelGwOut.nD Cert.KernelGwOut.τ).loc Cert.KernelGwOut.main_arg2))
      ∧ r.2.sem = fun _ => 0)

def quiescent_KernelGwOutIdeal [hKernelGwOutIdeal : Cert.KernelGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg), Pre_KernelGwOutIdeal m →
    θ_run (Cert.KernelGwOutIdeal.defs (F := Ideal)) (onTc (τ := Cert.KernelGwOutIdeal.τ) (Cert.KernelGwOutIdeal.main (F := Ideal))) ⟨m, fun _ => 0, g⟩ (fun r => (∀ c : Dev Cert.KernelGwOutIdeal.nD,
      r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
      ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1)
      ∧ r.2.mem ((c.tc : Thread Cert.KernelGwOutIdeal.nD Cert.KernelGwOutIdeal.τ).loc Cert.KernelGwOutIdeal.main_arg2) = m ((c.tc : Thread Cert.KernelGwOutIdeal.nD Cert.KernelGwOutIdeal.τ).loc Cert.KernelGwOutIdeal.main_arg2))
      ∧ r.2.sem = fun _ => 0)

def quiescent_ReferenceGwOutIdeal [hReferenceGwOutIdeal : Cert.ReferenceGwOutIdeal.Facts] : Prop :=
  ∀ (m : (ℓ : Loc Cert.ReferenceGwOutIdeal.nD Cert.ReferenceGwOutIdeal.τ Cert.ReferenceGwOutIdeal.sig) → Buf (Elt Ideal) ℓ) (g : Dev Cert.ReferenceGwOutIdeal.nD → PrngReg), Pre_ReferenceGwOutIdeal m →
    θ_run (Cert.ReferenceGwOutIdeal.defs (F := Ideal)) (onTc (τ := Cert.ReferenceGwOutIdeal.τ) (Cert.ReferenceGwOutIdeal.main (F := Ideal))) ⟨m, fun _ => 0, g⟩ (fun r => (∀ c : Dev Cert.ReferenceGwOutIdeal.nD,
      r.2.mem ((c.tc : Thread Cert.ReferenceGwOutIdeal.nD Cert.ReferenceGwOutIdeal.τ).loc Cert.ReferenceGwOutIdeal.main_arg0) = m ((c.tc : Thread Cert.ReferenceGwOutIdeal.nD Cert.ReferenceGwOutIdeal.τ).loc Cert.ReferenceGwOutIdeal.main_arg0)
      ∧ r.2.mem ((c.tc : Thread Cert.ReferenceGwOutIdeal.nD Cert.ReferenceGwOutIdeal.τ).loc Cert.ReferenceGwOutIdeal.main_arg1) = m ((c.tc : Thread Cert.ReferenceGwOutIdeal.nD Cert.ReferenceGwOutIdeal.τ).loc Cert.ReferenceGwOutIdeal.main_arg1)
      ∧ r.2.mem ((c.tc : Thread Cert.ReferenceGwOutIdeal.nD Cert.ReferenceGwOutIdeal.τ).loc Cert.ReferenceGwOutIdeal.main_arg2) = m ((c.tc : Thread Cert.ReferenceGwOutIdeal.nD Cert.ReferenceGwOutIdeal.τ).loc Cert.ReferenceGwOutIdeal.main_arg2))
      ∧ r.2.sem = fun _ => 0)

def quiescent_KernelDycat [hKernelDycat : Cert.KernelDycat.Facts] : Prop :=
  ∀ (m : (ℓ : Loc Cert.KernelDycat.nD Cert.KernelDycat.τ Cert.KernelDycat.sig) → Buf (Elt Bits) ℓ) (g : Dev Cert.KernelDycat.nD → PrngReg), Pre_KernelDycat m →
    θ_run (Cert.KernelDycat.defs (F := Bits)) (onTc (τ := Cert.KernelDycat.τ) (Cert.KernelDycat.main (F := Bits))) ⟨m, fun _ => 0, g⟩ (fun r => (∀ c : Dev Cert.KernelDycat.nD,
      r.2.mem ((c.tc : Thread Cert.KernelDycat.nD Cert.KernelDycat.τ).loc Cert.KernelDycat.main_arg0) = m ((c.tc : Thread Cert.KernelDycat.nD Cert.KernelDycat.τ).loc Cert.KernelDycat.main_arg0)
      ∧ r.2.mem ((c.tc : Thread Cert.KernelDycat.nD Cert.KernelDycat.τ).loc Cert.KernelDycat.main_arg1) = m ((c.tc : Thread Cert.KernelDycat.nD Cert.KernelDycat.τ).loc Cert.KernelDycat.main_arg1)
      ∧ r.2.mem ((c.tc : Thread Cert.KernelDycat.nD Cert.KernelDycat.τ).loc Cert.KernelDycat.main_arg2) = m ((c.tc : Thread Cert.KernelDycat.nD Cert.KernelDycat.τ).loc Cert.KernelDycat.main_arg2))
      ∧ r.2.sem = fun _ => 0)

def quiescent_KernelDycatIdeal [hKernelDycatIdeal : Cert.KernelDycatIdeal.Facts] : Prop :=
  ∀ (m : (ℓ : Loc Cert.KernelDycatIdeal.nD Cert.KernelDycatIdeal.τ Cert.KernelDycatIdeal.sig) → Buf (Elt Ideal) ℓ) (g : Dev Cert.KernelDycatIdeal.nD → PrngReg), Pre_KernelDycatIdeal m →
    θ_run (Cert.KernelDycatIdeal.defs (F := Ideal)) (onTc (τ := Cert.KernelDycatIdeal.τ) (Cert.KernelDycatIdeal.main (F := Ideal))) ⟨m, fun _ => 0, g⟩ (fun r => (∀ c : Dev Cert.KernelDycatIdeal.nD,
      r.2.mem ((c.tc : Thread Cert.KernelDycatIdeal.nD Cert.KernelDycatIdeal.τ).loc Cert.KernelDycatIdeal.main_arg0) = m ((c.tc : Thread Cert.KernelDycatIdeal.nD Cert.KernelDycatIdeal.τ).loc Cert.KernelDycatIdeal.main_arg0)
      ∧ r.2.mem ((c.tc : Thread Cert.KernelDycatIdeal.nD Cert.KernelDycatIdeal.τ).loc Cert.KernelDycatIdeal.main_arg1) = m ((c.tc : Thread Cert.KernelDycatIdeal.nD Cert.KernelDycatIdeal.τ).loc Cert.KernelDycatIdeal.main_arg1)
      ∧ r.2.mem ((c.tc : Thread Cert.KernelDycatIdeal.nD Cert.KernelDycatIdeal.τ).loc Cert.KernelDycatIdeal.main_arg2) = m ((c.tc : Thread Cert.KernelDycatIdeal.nD Cert.KernelDycatIdeal.τ).loc Cert.KernelDycatIdeal.main_arg2))
      ∧ r.2.sem = fun _ => 0)

def quiescent_ReferenceDycatIdeal [hReferenceDycatIdeal : Cert.ReferenceDycatIdeal.Facts] : Prop :=
  ∀ (m : (ℓ : Loc Cert.ReferenceDycatIdeal.nD Cert.ReferenceDycatIdeal.τ Cert.ReferenceDycatIdeal.sig) → Buf (Elt Ideal) ℓ) (g : Dev Cert.ReferenceDycatIdeal.nD → PrngReg), Pre_ReferenceDycatIdeal m →
    θ_run (Cert.ReferenceDycatIdeal.defs (F := Ideal)) (onTc (τ := Cert.ReferenceDycatIdeal.τ) (Cert.ReferenceDycatIdeal.main (F := Ideal))) ⟨m, fun _ => 0, g⟩ (fun r => (∀ c : Dev Cert.ReferenceDycatIdeal.nD,
      r.2.mem ((c.tc : Thread Cert.ReferenceDycatIdeal.nD Cert.ReferenceDycatIdeal.τ).loc Cert.ReferenceDycatIdeal.main_arg0) = m ((c.tc : Thread Cert.ReferenceDycatIdeal.nD Cert.ReferenceDycatIdeal.τ).loc Cert.ReferenceDycatIdeal.main_arg0)
      ∧ r.2.mem ((c.tc : Thread Cert.ReferenceDycatIdeal.nD Cert.ReferenceDycatIdeal.τ).loc Cert.ReferenceDycatIdeal.main_arg1) = m ((c.tc : Thread Cert.ReferenceDycatIdeal.nD Cert.ReferenceDycatIdeal.τ).loc Cert.ReferenceDycatIdeal.main_arg1)
      ∧ r.2.mem ((c.tc : Thread Cert.ReferenceDycatIdeal.nD Cert.ReferenceDycatIdeal.τ).loc Cert.ReferenceDycatIdeal.main_arg2) = m ((c.tc : Thread Cert.ReferenceDycatIdeal.nD Cert.ReferenceDycatIdeal.τ).loc Cert.ReferenceDycatIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelGwUkv [hKernelGwUkv : Cert.KernelGwUkv.Facts] : Prop :=
  ∀ (m : (ℓ : Loc Cert.KernelGwUkv.nD Cert.KernelGwUkv.τ Cert.KernelGwUkv.sig) → Buf (Elt Bits) ℓ) (g : Dev Cert.KernelGwUkv.nD → PrngReg), Pre_KernelGwUkv m →
    θ_run (Cert.KernelGwUkv.defs (F := Bits)) (onTc (τ := Cert.KernelGwUkv.τ) (Cert.KernelGwUkv.main (F := Bits))) ⟨m, fun _ => 0, g⟩ (fun r => (∀ c : Dev Cert.KernelGwUkv.nD,
      r.2.mem ((c.tc : Thread Cert.KernelGwUkv.nD Cert.KernelGwUkv.τ).loc Cert.KernelGwUkv.main_arg0) = m ((c.tc : Thread Cert.KernelGwUkv.nD Cert.KernelGwUkv.τ).loc Cert.KernelGwUkv.main_arg0)
      ∧ r.2.mem ((c.tc : Thread Cert.KernelGwUkv.nD Cert.KernelGwUkv.τ).loc Cert.KernelGwUkv.main_arg1) = m ((c.tc : Thread Cert.KernelGwUkv.nD Cert.KernelGwUkv.τ).loc Cert.KernelGwUkv.main_arg1)
      ∧ r.2.mem ((c.tc : Thread Cert.KernelGwUkv.nD Cert.KernelGwUkv.τ).loc Cert.KernelGwUkv.main_arg2) = m ((c.tc : Thread Cert.KernelGwUkv.nD Cert.KernelGwUkv.τ).loc Cert.KernelGwUkv.main_arg2))
      ∧ r.2.sem = fun _ => 0)

def quiescent_KernelGwUkvIdeal [hKernelGwUkvIdeal : Cert.KernelGwUkvIdeal.Facts] : Prop :=
  ∀ (m : (ℓ : Loc Cert.KernelGwUkvIdeal.nD Cert.KernelGwUkvIdeal.τ Cert.KernelGwUkvIdeal.sig) → Buf (Elt Ideal) ℓ) (g : Dev Cert.KernelGwUkvIdeal.nD → PrngReg), Pre_KernelGwUkvIdeal m →
    θ_run (Cert.KernelGwUkvIdeal.defs (F := Ideal)) (onTc (τ := Cert.KernelGwUkvIdeal.τ) (Cert.KernelGwUkvIdeal.main (F := Ideal))) ⟨m, fun _ => 0, g⟩ (fun r => (∀ c : Dev Cert.KernelGwUkvIdeal.nD,
      r.2.mem ((c.tc : Thread Cert.KernelGwUkvIdeal.nD Cert.KernelGwUkvIdeal.τ).loc Cert.KernelGwUkvIdeal.main_arg0) = m ((c.tc : Thread Cert.KernelGwUkvIdeal.nD Cert.KernelGwUkvIdeal.τ).loc Cert.KernelGwUkvIdeal.main_arg0)
      ∧ r.2.mem ((c.tc : Thread Cert.KernelGwUkvIdeal.nD Cert.KernelGwUkvIdeal.τ).loc Cert.KernelGwUkvIdeal.main_arg1) = m ((c.tc : Thread Cert.KernelGwUkvIdeal.nD Cert.KernelGwUkvIdeal.τ).loc Cert.KernelGwUkvIdeal.main_arg1)
      ∧ r.2.mem ((c.tc : Thread Cert.KernelGwUkvIdeal.nD Cert.KernelGwUkvIdeal.τ).loc Cert.KernelGwUkvIdeal.main_arg2) = m ((c.tc : Thread Cert.KernelGwUkvIdeal.nD Cert.KernelGwUkvIdeal.τ).loc Cert.KernelGwUkvIdeal.main_arg2))
      ∧ r.2.sem = fun _ => 0)

def quiescent_ReferenceGwUkvIdeal [hReferenceGwUkvIdeal : Cert.ReferenceGwUkvIdeal.Facts] : Prop :=
  ∀ (m : (ℓ : Loc Cert.ReferenceGwUkvIdeal.nD Cert.ReferenceGwUkvIdeal.τ Cert.ReferenceGwUkvIdeal.sig) → Buf (Elt Ideal) ℓ) (g : Dev Cert.ReferenceGwUkvIdeal.nD → PrngReg), Pre_ReferenceGwUkvIdeal m →
    θ_run (Cert.ReferenceGwUkvIdeal.defs (F := Ideal)) (onTc (τ := Cert.ReferenceGwUkvIdeal.τ) (Cert.ReferenceGwUkvIdeal.main (F := Ideal))) ⟨m, fun _ => 0, g⟩ (fun r => (∀ c : Dev Cert.ReferenceGwUkvIdeal.nD,
      r.2.mem ((c.tc : Thread Cert.ReferenceGwUkvIdeal.nD Cert.ReferenceGwUkvIdeal.τ).loc Cert.ReferenceGwUkvIdeal.main_arg0) = m ((c.tc : Thread Cert.ReferenceGwUkvIdeal.nD Cert.ReferenceGwUkvIdeal.τ).loc Cert.ReferenceGwUkvIdeal.main_arg0)
      ∧ r.2.mem ((c.tc : Thread Cert.ReferenceGwUkvIdeal.nD Cert.ReferenceGwUkvIdeal.τ).loc Cert.ReferenceGwUkvIdeal.main_arg1) = m ((c.tc : Thread Cert.ReferenceGwUkvIdeal.nD Cert.ReferenceGwUkvIdeal.τ).loc Cert.ReferenceGwUkvIdeal.main_arg1)
      ∧ r.2.mem ((c.tc : Thread Cert.ReferenceGwUkvIdeal.nD Cert.ReferenceGwUkvIdeal.τ).loc Cert.ReferenceGwUkvIdeal.main_arg2) = m ((c.tc : Thread Cert.ReferenceGwUkvIdeal.nD Cert.ReferenceGwUkvIdeal.τ).loc Cert.ReferenceGwUkvIdeal.main_arg2))
      ∧ r.2.sem = fun _ => 0)

def quiescent_KernelDckv [hKernelDckv : Cert.KernelDckv.Facts] : Prop :=
  ∀ (m : (ℓ : Loc Cert.KernelDckv.nD Cert.KernelDckv.τ Cert.KernelDckv.sig) → Buf (Elt Bits) ℓ) (g : Dev Cert.KernelDckv.nD → PrngReg), Pre_KernelDckv m →
    θ_run (Cert.KernelDckv.defs (F := Bits)) (onTc (τ := Cert.KernelDckv.τ) (Cert.KernelDckv.main (F := Bits))) ⟨m, fun _ => 0, g⟩ (fun r => (∀ c : Dev Cert.KernelDckv.nD,
      r.2.mem ((c.tc : Thread Cert.KernelDckv.nD Cert.KernelDckv.τ).loc Cert.KernelDckv.main_arg0) = m ((c.tc : Thread Cert.KernelDckv.nD Cert.KernelDckv.τ).loc Cert.KernelDckv.main_arg0)
      ∧ r.2.mem ((c.tc : Thread Cert.KernelDckv.nD Cert.KernelDckv.τ).loc Cert.KernelDckv.main_arg1) = m ((c.tc : Thread Cert.KernelDckv.nD Cert.KernelDckv.τ).loc Cert.KernelDckv.main_arg1)
      ∧ r.2.mem ((c.tc : Thread Cert.KernelDckv.nD Cert.KernelDckv.τ).loc Cert.KernelDckv.main_arg2) = m ((c.tc : Thread Cert.KernelDckv.nD Cert.KernelDckv.τ).loc Cert.KernelDckv.main_arg2))
      ∧ r.2.sem = fun _ => 0)

def quiescent_KernelDckvIdeal [hKernelDckvIdeal : Cert.KernelDckvIdeal.Facts] : Prop :=
  ∀ (m : (ℓ : Loc Cert.KernelDckvIdeal.nD Cert.KernelDckvIdeal.τ Cert.KernelDckvIdeal.sig) → Buf (Elt Ideal) ℓ) (g : Dev Cert.KernelDckvIdeal.nD → PrngReg), Pre_KernelDckvIdeal m →
    θ_run (Cert.KernelDckvIdeal.defs (F := Ideal)) (onTc (τ := Cert.KernelDckvIdeal.τ) (Cert.KernelDckvIdeal.main (F := Ideal))) ⟨m, fun _ => 0, g⟩ (fun r => (∀ c : Dev Cert.KernelDckvIdeal.nD,
      r.2.mem ((c.tc : Thread Cert.KernelDckvIdeal.nD Cert.KernelDckvIdeal.τ).loc Cert.KernelDckvIdeal.main_arg0) = m ((c.tc : Thread Cert.KernelDckvIdeal.nD Cert.KernelDckvIdeal.τ).loc Cert.KernelDckvIdeal.main_arg0)
      ∧ r.2.mem ((c.tc : Thread Cert.KernelDckvIdeal.nD Cert.KernelDckvIdeal.τ).loc Cert.KernelDckvIdeal.main_arg1) = m ((c.tc : Thread Cert.KernelDckvIdeal.nD Cert.KernelDckvIdeal.τ).loc Cert.KernelDckvIdeal.main_arg1)
      ∧ r.2.mem ((c.tc : Thread Cert.KernelDckvIdeal.nD Cert.KernelDckvIdeal.τ).loc Cert.KernelDckvIdeal.main_arg2) = m ((c.tc : Thread Cert.KernelDckvIdeal.nD Cert.KernelDckvIdeal.τ).loc Cert.KernelDckvIdeal.main_arg2))
      ∧ r.2.sem = fun _ => 0)

def quiescent_ReferenceDckvIdeal [hReferenceDckvIdeal : Cert.ReferenceDckvIdeal.Facts] : Prop :=
  ∀ (m : (ℓ : Loc Cert.ReferenceDckvIdeal.nD Cert.ReferenceDckvIdeal.τ Cert.ReferenceDckvIdeal.sig) → Buf (Elt Ideal) ℓ) (g : Dev Cert.ReferenceDckvIdeal.nD → PrngReg), Pre_ReferenceDckvIdeal m →
    θ_run (Cert.ReferenceDckvIdeal.defs (F := Ideal)) (onTc (τ := Cert.ReferenceDckvIdeal.τ) (Cert.ReferenceDckvIdeal.main (F := Ideal))) ⟨m, fun _ => 0, g⟩ (fun r => (∀ c : Dev Cert.ReferenceDckvIdeal.nD,
      r.2.mem ((c.tc : Thread Cert.ReferenceDckvIdeal.nD Cert.ReferenceDckvIdeal.τ).loc Cert.ReferenceDckvIdeal.main_arg0) = m ((c.tc : Thread Cert.ReferenceDckvIdeal.nD Cert.ReferenceDckvIdeal.τ).loc Cert.ReferenceDckvIdeal.main_arg0)
      ∧ r.2.mem ((c.tc : Thread Cert.ReferenceDckvIdeal.nD Cert.ReferenceDckvIdeal.τ).loc Cert.ReferenceDckvIdeal.main_arg1) = m ((c.tc : Thread Cert.ReferenceDckvIdeal.nD Cert.ReferenceDckvIdeal.τ).loc Cert.ReferenceDckvIdeal.main_arg1)
      ∧ r.2.mem ((c.tc : Thread Cert.ReferenceDckvIdeal.nD Cert.ReferenceDckvIdeal.τ).loc Cert.ReferenceDckvIdeal.main_arg2) = m ((c.tc : Thread Cert.ReferenceDckvIdeal.nD Cert.ReferenceDckvIdeal.τ).loc Cert.ReferenceDckvIdeal.main_arg2))
      ∧ r.2.sem = fun _ => 0)

def quiescent_KernelAdamwMlp [hKernelAdamwMlp : Cert.KernelAdamwMlp.Facts] : Prop :=
  ∀ (m : (ℓ : Loc Cert.KernelAdamwMlp.nD Cert.KernelAdamwMlp.τ Cert.KernelAdamwMlp.sig) → Buf (Elt Bits) ℓ) (g : Dev Cert.KernelAdamwMlp.nD → PrngReg), Pre_KernelAdamwMlp m →
    θ_run (Cert.KernelAdamwMlp.defs (F := Bits)) (onTc (τ := Cert.KernelAdamwMlp.τ) (Cert.KernelAdamwMlp.main (F := Bits))) ⟨m, fun _ => 0, g⟩ (fun r => (∀ c : Dev Cert.KernelAdamwMlp.nD,
      r.2.mem ((c.tc : Thread Cert.KernelAdamwMlp.nD Cert.KernelAdamwMlp.τ).loc Cert.KernelAdamwMlp.main_arg0) = m ((c.tc : Thread Cert.KernelAdamwMlp.nD Cert.KernelAdamwMlp.τ).loc Cert.KernelAdamwMlp.main_arg0)
      ∧ r.2.mem ((c.tc : Thread Cert.KernelAdamwMlp.nD Cert.KernelAdamwMlp.τ).loc Cert.KernelAdamwMlp.main_arg1) = m ((c.tc : Thread Cert.KernelAdamwMlp.nD Cert.KernelAdamwMlp.τ).loc Cert.KernelAdamwMlp.main_arg1)
      ∧ r.2.mem ((c.tc : Thread Cert.KernelAdamwMlp.nD Cert.KernelAdamwMlp.τ).loc Cert.KernelAdamwMlp.main_arg2) = m ((c.tc : Thread Cert.KernelAdamwMlp.nD Cert.KernelAdamwMlp.τ).loc Cert.KernelAdamwMlp.main_arg2)
      ∧ r.2.mem ((c.tc : Thread Cert.KernelAdamwMlp.nD Cert.KernelAdamwMlp.τ).loc Cert.KernelAdamwMlp.main_arg3) = m ((c.tc : Thread Cert.KernelAdamwMlp.nD Cert.KernelAdamwMlp.τ).loc Cert.KernelAdamwMlp.main_arg3))
      ∧ r.2.sem = fun _ => 0)

def quiescent_KernelAdamwMlpIdeal [hKernelAdamwMlpIdeal : Cert.KernelAdamwMlpIdeal.Facts] : Prop :=
  ∀ (m : (ℓ : Loc Cert.KernelAdamwMlpIdeal.nD Cert.KernelAdamwMlpIdeal.τ Cert.KernelAdamwMlpIdeal.sig) → Buf (Elt Ideal) ℓ) (g : Dev Cert.KernelAdamwMlpIdeal.nD → PrngReg), Pre_KernelAdamwMlpIdeal m →
    θ_run (Cert.KernelAdamwMlpIdeal.defs (F := Ideal)) (onTc (τ := Cert.KernelAdamwMlpIdeal.τ) (Cert.KernelAdamwMlpIdeal.main (F := Ideal))) ⟨m, fun _ => 0, g⟩ (fun r => (∀ c : Dev Cert.KernelAdamwMlpIdeal.nD,
      r.2.mem ((c.tc : Thread Cert.KernelAdamwMlpIdeal.nD Cert.KernelAdamwMlpIdeal.τ).loc Cert.KernelAdamwMlpIdeal.main_arg0) = m ((c.tc : Thread Cert.KernelAdamwMlpIdeal.nD Cert.KernelAdamwMlpIdeal.τ).loc Cert.KernelAdamwMlpIdeal.main_arg0)
      ∧ r.2.mem ((c.tc : Thread Cert.KernelAdamwMlpIdeal.nD Cert.KernelAdamwMlpIdeal.τ).loc Cert.KernelAdamwMlpIdeal.main_arg1) = m ((c.tc : Thread Cert.KernelAdamwMlpIdeal.nD Cert.KernelAdamwMlpIdeal.τ).loc Cert.KernelAdamwMlpIdeal.main_arg1)
      ∧ r.2.mem ((c.tc : Thread Cert.KernelAdamwMlpIdeal.nD Cert.KernelAdamwMlpIdeal.τ).loc Cert.KernelAdamwMlpIdeal.main_arg2) = m ((c.tc : Thread Cert.KernelAdamwMlpIdeal.nD Cert.KernelAdamwMlpIdeal.τ).loc Cert.KernelAdamwMlpIdeal.main_arg2)
      ∧ r.2.mem ((c.tc : Thread Cert.KernelAdamwMlpIdeal.nD Cert.KernelAdamwMlpIdeal.τ).loc Cert.KernelAdamwMlpIdeal.main_arg3) = m ((c.tc : Thread Cert.KernelAdamwMlpIdeal.nD Cert.KernelAdamwMlpIdeal.τ).loc Cert.KernelAdamwMlpIdeal.main_arg3))
      ∧ r.2.sem = fun _ => 0)

def quiescent_ReferenceAdamwMlpIdeal [hReferenceAdamwMlpIdeal : Cert.ReferenceAdamwMlpIdeal.Facts] : Prop :=
  ∀ (m : (ℓ : Loc Cert.ReferenceAdamwMlpIdeal.nD Cert.ReferenceAdamwMlpIdeal.τ Cert.ReferenceAdamwMlpIdeal.sig) → Buf (Elt Ideal) ℓ) (g : Dev Cert.ReferenceAdamwMlpIdeal.nD → PrngReg), Pre_ReferenceAdamwMlpIdeal m →
    θ_run (Cert.ReferenceAdamwMlpIdeal.defs (F := Ideal)) (onTc (τ := Cert.ReferenceAdamwMlpIdeal.τ) (Cert.ReferenceAdamwMlpIdeal.main (F := Ideal))) ⟨m, fun _ => 0, g⟩ (fun r => (∀ c : Dev Cert.ReferenceAdamwMlpIdeal.nD,
      r.2.mem ((c.tc : Thread Cert.ReferenceAdamwMlpIdeal.nD Cert.ReferenceAdamwMlpIdeal.τ).loc Cert.ReferenceAdamwMlpIdeal.main_arg0) = m ((c.tc : Thread Cert.ReferenceAdamwMlpIdeal.nD Cert.ReferenceAdamwMlpIdeal.τ).loc Cert.ReferenceAdamwMlpIdeal.main_arg0)
      ∧ r.2.mem ((c.tc : Thread Cert.ReferenceAdamwMlpIdeal.nD Cert.ReferenceAdamwMlpIdeal.τ).loc Cert.ReferenceAdamwMlpIdeal.main_arg1) = m ((c.tc : Thread Cert.ReferenceAdamwMlpIdeal.nD Cert.ReferenceAdamwMlpIdeal.τ).loc Cert.ReferenceAdamwMlpIdeal.main_arg1)
      ∧ r.2.mem ((c.tc : Thread Cert.ReferenceAdamwMlpIdeal.nD Cert.ReferenceAdamwMlpIdeal.τ).loc Cert.ReferenceAdamwMlpIdeal.main_arg2) = m ((c.tc : Thread Cert.ReferenceAdamwMlpIdeal.nD Cert.ReferenceAdamwMlpIdeal.τ).loc Cert.ReferenceAdamwMlpIdeal.main_arg2)
      ∧ r.2.mem ((c.tc : Thread Cert.ReferenceAdamwMlpIdeal.nD Cert.ReferenceAdamwMlpIdeal.τ).loc Cert.ReferenceAdamwMlpIdeal.main_arg3) = m ((c.tc : Thread Cert.ReferenceAdamwMlpIdeal.nD Cert.ReferenceAdamwMlpIdeal.τ).loc Cert.ReferenceAdamwMlpIdeal.main_arg3))
      ∧ r.2.sem = fun _ => 0)

def quiescent_KernelAdamwIn [hKernelAdamwIn : Cert.KernelAdamwIn.Facts] : Prop :=
  ∀ (m : (ℓ : Loc Cert.KernelAdamwIn.nD Cert.KernelAdamwIn.τ Cert.KernelAdamwIn.sig) → Buf (Elt Bits) ℓ) (g : Dev Cert.KernelAdamwIn.nD → PrngReg), Pre_KernelAdamwIn m →
    θ_run (Cert.KernelAdamwIn.defs (F := Bits)) (onTc (τ := Cert.KernelAdamwIn.τ) (Cert.KernelAdamwIn.main (F := Bits))) ⟨m, fun _ => 0, g⟩ (fun r => (∀ c : Dev Cert.KernelAdamwIn.nD,
      r.2.mem ((c.tc : Thread Cert.KernelAdamwIn.nD Cert.KernelAdamwIn.τ).loc Cert.KernelAdamwIn.main_arg0) = m ((c.tc : Thread Cert.KernelAdamwIn.nD Cert.KernelAdamwIn.τ).loc Cert.KernelAdamwIn.main_arg0)
      ∧ r.2.mem ((c.tc : Thread Cert.KernelAdamwIn.nD Cert.KernelAdamwIn.τ).loc Cert.KernelAdamwIn.main_arg1) = m ((c.tc : Thread Cert.KernelAdamwIn.nD Cert.KernelAdamwIn.τ).loc Cert.KernelAdamwIn.main_arg1)
      ∧ r.2.mem ((c.tc : Thread Cert.KernelAdamwIn.nD Cert.KernelAdamwIn.τ).loc Cert.KernelAdamwIn.main_arg2) = m ((c.tc : Thread Cert.KernelAdamwIn.nD Cert.KernelAdamwIn.τ).loc Cert.KernelAdamwIn.main_arg2)
      ∧ r.2.mem ((c.tc : Thread Cert.KernelAdamwIn.nD Cert.KernelAdamwIn.τ).loc Cert.KernelAdamwIn.main_arg3) = m ((c.tc : Thread Cert.KernelAdamwIn.nD Cert.KernelAdamwIn.τ).loc Cert.KernelAdamwIn.main_arg3))
      ∧ r.2.sem = fun _ => 0)

def quiescent_KernelAdamwInIdeal [hKernelAdamwInIdeal : Cert.KernelAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg), Pre_KernelAdamwInIdeal m →
    θ_run (Cert.KernelAdamwInIdeal.defs (F := Ideal)) (onTc (τ := Cert.KernelAdamwInIdeal.τ) (Cert.KernelAdamwInIdeal.main (F := Ideal))) ⟨m, fun _ => 0, g⟩ (fun r => (∀ c : Dev Cert.KernelAdamwInIdeal.nD,
      r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
      ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
      ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
      ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ r.2.sem = fun _ => 0)

def quiescent_ReferenceAdamwInIdeal [hReferenceAdamwInIdeal : Cert.ReferenceAdamwInIdeal.Facts] : Prop :=
  ∀ (m : (ℓ : Loc Cert.ReferenceAdamwInIdeal.nD Cert.ReferenceAdamwInIdeal.τ Cert.ReferenceAdamwInIdeal.sig) → Buf (Elt Ideal) ℓ) (g : Dev Cert.ReferenceAdamwInIdeal.nD → PrngReg), Pre_ReferenceAdamwInIdeal m →
    θ_run (Cert.ReferenceAdamwInIdeal.defs (F := Ideal)) (onTc (τ := Cert.ReferenceAdamwInIdeal.τ) (Cert.ReferenceAdamwInIdeal.main (F := Ideal))) ⟨m, fun _ => 0, g⟩ (fun r => (∀ c : Dev Cert.ReferenceAdamwInIdeal.nD,
      r.2.mem ((c.tc : Thread Cert.ReferenceAdamwInIdeal.nD Cert.ReferenceAdamwInIdeal.τ).loc Cert.ReferenceAdamwInIdeal.main_arg0) = m ((c.tc : Thread Cert.ReferenceAdamwInIdeal.nD Cert.ReferenceAdamwInIdeal.τ).loc Cert.ReferenceAdamwInIdeal.main_arg0)
      ∧ r.2.mem ((c.tc : Thread Cert.ReferenceAdamwInIdeal.nD Cert.ReferenceAdamwInIdeal.τ).loc Cert.ReferenceAdamwInIdeal.main_arg1) = m ((c.tc : Thread Cert.ReferenceAdamwInIdeal.nD Cert.ReferenceAdamwInIdeal.τ).loc Cert.ReferenceAdamwInIdeal.main_arg1)
      ∧ r.2.mem ((c.tc : Thread Cert.ReferenceAdamwInIdeal.nD Cert.ReferenceAdamwInIdeal.τ).loc Cert.ReferenceAdamwInIdeal.main_arg2) = m ((c.tc : Thread Cert.ReferenceAdamwInIdeal.nD Cert.ReferenceAdamwInIdeal.τ).loc Cert.ReferenceAdamwInIdeal.main_arg2)
      ∧ r.2.mem ((c.tc : Thread Cert.ReferenceAdamwInIdeal.nD Cert.ReferenceAdamwInIdeal.τ).loc Cert.ReferenceAdamwInIdeal.main_arg3) = m ((c.tc : Thread Cert.ReferenceAdamwInIdeal.nD Cert.ReferenceAdamwInIdeal.τ).loc Cert.ReferenceAdamwInIdeal.main_arg3))
      ∧ r.2.sem = fun _ => 0)

def quiescent_KernelAdamwUq [hKernelAdamwUq : Cert.KernelAdamwUq.Facts] : Prop :=
  ∀ (m : (ℓ : Loc Cert.KernelAdamwUq.nD Cert.KernelAdamwUq.τ Cert.KernelAdamwUq.sig) → Buf (Elt Bits) ℓ) (g : Dev Cert.KernelAdamwUq.nD → PrngReg), Pre_KernelAdamwUq m →
    θ_run (Cert.KernelAdamwUq.defs (F := Bits)) (onTc (τ := Cert.KernelAdamwUq.τ) (Cert.KernelAdamwUq.main (F := Bits))) ⟨m, fun _ => 0, g⟩ (fun r => (∀ c : Dev Cert.KernelAdamwUq.nD,
      r.2.mem ((c.tc : Thread Cert.KernelAdamwUq.nD Cert.KernelAdamwUq.τ).loc Cert.KernelAdamwUq.main_arg0) = m ((c.tc : Thread Cert.KernelAdamwUq.nD Cert.KernelAdamwUq.τ).loc Cert.KernelAdamwUq.main_arg0)
      ∧ r.2.mem ((c.tc : Thread Cert.KernelAdamwUq.nD Cert.KernelAdamwUq.τ).loc Cert.KernelAdamwUq.main_arg1) = m ((c.tc : Thread Cert.KernelAdamwUq.nD Cert.KernelAdamwUq.τ).loc Cert.KernelAdamwUq.main_arg1)
      ∧ r.2.mem ((c.tc : Thread Cert.KernelAdamwUq.nD Cert.KernelAdamwUq.τ).loc Cert.KernelAdamwUq.main_arg2) = m ((c.tc : Thread Cert.KernelAdamwUq.nD Cert.KernelAdamwUq.τ).loc Cert.KernelAdamwUq.main_arg2)
      ∧ r.2.mem ((c.tc : Thread Cert.KernelAdamwUq.nD Cert.KernelAdamwUq.τ).loc Cert.KernelAdamwUq.main_arg3) = m ((c.tc : Thread Cert.KernelAdamwUq.nD Cert.KernelAdamwUq.τ).loc Cert.KernelAdamwUq.main_arg3))
      ∧ r.2.sem = fun _ => 0)

def quiescent_KernelAdamwUqIdeal [hKernelAdamwUqIdeal : Cert.KernelAdamwUqIdeal.Facts] : Prop :=
  ∀ (m : (ℓ : Loc Cert.KernelAdamwUqIdeal.nD Cert.KernelAdamwUqIdeal.τ Cert.KernelAdamwUqIdeal.sig) → Buf (Elt Ideal) ℓ) (g : Dev Cert.KernelAdamwUqIdeal.nD → PrngReg), Pre_KernelAdamwUqIdeal m →
    θ_run (Cert.KernelAdamwUqIdeal.defs (F := Ideal)) (onTc (τ := Cert.KernelAdamwUqIdeal.τ) (Cert.KernelAdamwUqIdeal.main (F := Ideal))) ⟨m, fun _ => 0, g⟩ (fun r => (∀ c : Dev Cert.KernelAdamwUqIdeal.nD,
      r.2.mem ((c.tc : Thread Cert.KernelAdamwUqIdeal.nD Cert.KernelAdamwUqIdeal.τ).loc Cert.KernelAdamwUqIdeal.main_arg0) = m ((c.tc : Thread Cert.KernelAdamwUqIdeal.nD Cert.KernelAdamwUqIdeal.τ).loc Cert.KernelAdamwUqIdeal.main_arg0)
      ∧ r.2.mem ((c.tc : Thread Cert.KernelAdamwUqIdeal.nD Cert.KernelAdamwUqIdeal.τ).loc Cert.KernelAdamwUqIdeal.main_arg1) = m ((c.tc : Thread Cert.KernelAdamwUqIdeal.nD Cert.KernelAdamwUqIdeal.τ).loc Cert.KernelAdamwUqIdeal.main_arg1)
      ∧ r.2.mem ((c.tc : Thread Cert.KernelAdamwUqIdeal.nD Cert.KernelAdamwUqIdeal.τ).loc Cert.KernelAdamwUqIdeal.main_arg2) = m ((c.tc : Thread Cert.KernelAdamwUqIdeal.nD Cert.KernelAdamwUqIdeal.τ).loc Cert.KernelAdamwUqIdeal.main_arg2)
      ∧ r.2.mem ((c.tc : Thread Cert.KernelAdamwUqIdeal.nD Cert.KernelAdamwUqIdeal.τ).loc Cert.KernelAdamwUqIdeal.main_arg3) = m ((c.tc : Thread Cert.KernelAdamwUqIdeal.nD Cert.KernelAdamwUqIdeal.τ).loc Cert.KernelAdamwUqIdeal.main_arg3))
      ∧ r.2.sem = fun _ => 0)

def quiescent_ReferenceAdamwUqIdeal [hReferenceAdamwUqIdeal : Cert.ReferenceAdamwUqIdeal.Facts] : Prop :=
  ∀ (m : (ℓ : Loc Cert.ReferenceAdamwUqIdeal.nD Cert.ReferenceAdamwUqIdeal.τ Cert.ReferenceAdamwUqIdeal.sig) → Buf (Elt Ideal) ℓ) (g : Dev Cert.ReferenceAdamwUqIdeal.nD → PrngReg), Pre_ReferenceAdamwUqIdeal m →
    θ_run (Cert.ReferenceAdamwUqIdeal.defs (F := Ideal)) (onTc (τ := Cert.ReferenceAdamwUqIdeal.τ) (Cert.ReferenceAdamwUqIdeal.main (F := Ideal))) ⟨m, fun _ => 0, g⟩ (fun r => (∀ c : Dev Cert.ReferenceAdamwUqIdeal.nD,
      r.2.mem ((c.tc : Thread Cert.ReferenceAdamwUqIdeal.nD Cert.ReferenceAdamwUqIdeal.τ).loc Cert.ReferenceAdamwUqIdeal.main_arg0) = m ((c.tc : Thread Cert.ReferenceAdamwUqIdeal.nD Cert.ReferenceAdamwUqIdeal.τ).loc Cert.ReferenceAdamwUqIdeal.main_arg0)
      ∧ r.2.mem ((c.tc : Thread Cert.ReferenceAdamwUqIdeal.nD Cert.ReferenceAdamwUqIdeal.τ).loc Cert.ReferenceAdamwUqIdeal.main_arg1) = m ((c.tc : Thread Cert.ReferenceAdamwUqIdeal.nD Cert.ReferenceAdamwUqIdeal.τ).loc Cert.ReferenceAdamwUqIdeal.main_arg1)
      ∧ r.2.mem ((c.tc : Thread Cert.ReferenceAdamwUqIdeal.nD Cert.ReferenceAdamwUqIdeal.τ).loc Cert.ReferenceAdamwUqIdeal.main_arg2) = m ((c.tc : Thread Cert.ReferenceAdamwUqIdeal.nD Cert.ReferenceAdamwUqIdeal.τ).loc Cert.ReferenceAdamwUqIdeal.main_arg2)
      ∧ r.2.mem ((c.tc : Thread Cert.ReferenceAdamwUqIdeal.nD Cert.ReferenceAdamwUqIdeal.τ).loc Cert.ReferenceAdamwUqIdeal.main_arg3) = m ((c.tc : Thread Cert.ReferenceAdamwUqIdeal.nD Cert.ReferenceAdamwUqIdeal.τ).loc Cert.ReferenceAdamwUqIdeal.main_arg3))
      ∧ r.2.sem = fun _ => 0)

def quiescent_KernelAdamwUkv [hKernelAdamwUkv : Cert.KernelAdamwUkv.Facts] : Prop :=
  ∀ (m : (ℓ : Loc Cert.KernelAdamwUkv.nD Cert.KernelAdamwUkv.τ Cert.KernelAdamwUkv.sig) → Buf (Elt Bits) ℓ) (g : Dev Cert.KernelAdamwUkv.nD → PrngReg), Pre_KernelAdamwUkv m →
    θ_run (Cert.KernelAdamwUkv.defs (F := Bits)) (onTc (τ := Cert.KernelAdamwUkv.τ) (Cert.KernelAdamwUkv.main (F := Bits))) ⟨m, fun _ => 0, g⟩ (fun r => (∀ c : Dev Cert.KernelAdamwUkv.nD,
      r.2.mem ((c.tc : Thread Cert.KernelAdamwUkv.nD Cert.KernelAdamwUkv.τ).loc Cert.KernelAdamwUkv.main_arg0) = m ((c.tc : Thread Cert.KernelAdamwUkv.nD Cert.KernelAdamwUkv.τ).loc Cert.KernelAdamwUkv.main_arg0)
      ∧ r.2.mem ((c.tc : Thread Cert.KernelAdamwUkv.nD Cert.KernelAdamwUkv.τ).loc Cert.KernelAdamwUkv.main_arg1) = m ((c.tc : Thread Cert.KernelAdamwUkv.nD Cert.KernelAdamwUkv.τ).loc Cert.KernelAdamwUkv.main_arg1)
      ∧ r.2.mem ((c.tc : Thread Cert.KernelAdamwUkv.nD Cert.KernelAdamwUkv.τ).loc Cert.KernelAdamwUkv.main_arg2) = m ((c.tc : Thread Cert.KernelAdamwUkv.nD Cert.KernelAdamwUkv.τ).loc Cert.KernelAdamwUkv.main_arg2)
      ∧ r.2.mem ((c.tc : Thread Cert.KernelAdamwUkv.nD Cert.KernelAdamwUkv.τ).loc Cert.KernelAdamwUkv.main_arg3) = m ((c.tc : Thread Cert.KernelAdamwUkv.nD Cert.KernelAdamwUkv.τ).loc Cert.KernelAdamwUkv.main_arg3))
      ∧ r.2.sem = fun _ => 0)

def quiescent_KernelAdamwUkvIdeal [hKernelAdamwUkvIdeal : Cert.KernelAdamwUkvIdeal.Facts] : Prop :=
  ∀ (m : (ℓ : Loc Cert.KernelAdamwUkvIdeal.nD Cert.KernelAdamwUkvIdeal.τ Cert.KernelAdamwUkvIdeal.sig) → Buf (Elt Ideal) ℓ) (g : Dev Cert.KernelAdamwUkvIdeal.nD → PrngReg), Pre_KernelAdamwUkvIdeal m →
    θ_run (Cert.KernelAdamwUkvIdeal.defs (F := Ideal)) (onTc (τ := Cert.KernelAdamwUkvIdeal.τ) (Cert.KernelAdamwUkvIdeal.main (F := Ideal))) ⟨m, fun _ => 0, g⟩ (fun r => (∀ c : Dev Cert.KernelAdamwUkvIdeal.nD,
      r.2.mem ((c.tc : Thread Cert.KernelAdamwUkvIdeal.nD Cert.KernelAdamwUkvIdeal.τ).loc Cert.KernelAdamwUkvIdeal.main_arg0) = m ((c.tc : Thread Cert.KernelAdamwUkvIdeal.nD Cert.KernelAdamwUkvIdeal.τ).loc Cert.KernelAdamwUkvIdeal.main_arg0)
      ∧ r.2.mem ((c.tc : Thread Cert.KernelAdamwUkvIdeal.nD Cert.KernelAdamwUkvIdeal.τ).loc Cert.KernelAdamwUkvIdeal.main_arg1) = m ((c.tc : Thread Cert.KernelAdamwUkvIdeal.nD Cert.KernelAdamwUkvIdeal.τ).loc Cert.KernelAdamwUkvIdeal.main_arg1)
      ∧ r.2.mem ((c.tc : Thread Cert.KernelAdamwUkvIdeal.nD Cert.KernelAdamwUkvIdeal.τ).loc Cert.KernelAdamwUkvIdeal.main_arg2) = m ((c.tc : Thread Cert.KernelAdamwUkvIdeal.nD Cert.KernelAdamwUkvIdeal.τ).loc Cert.KernelAdamwUkvIdeal.main_arg2)
      ∧ r.2.mem ((c.tc : Thread Cert.KernelAdamwUkvIdeal.nD Cert.KernelAdamwUkvIdeal.τ).loc Cert.KernelAdamwUkvIdeal.main_arg3) = m ((c.tc : Thread Cert.KernelAdamwUkvIdeal.nD Cert.KernelAdamwUkvIdeal.τ).loc Cert.KernelAdamwUkvIdeal.main_arg3))
      ∧ r.2.sem = fun _ => 0)

def quiescent_ReferenceAdamwUkvIdeal [hReferenceAdamwUkvIdeal : Cert.ReferenceAdamwUkvIdeal.Facts] : Prop :=
  ∀ (m : (ℓ : Loc Cert.ReferenceAdamwUkvIdeal.nD Cert.ReferenceAdamwUkvIdeal.τ Cert.ReferenceAdamwUkvIdeal.sig) → Buf (Elt Ideal) ℓ) (g : Dev Cert.ReferenceAdamwUkvIdeal.nD → PrngReg), Pre_ReferenceAdamwUkvIdeal m →
    θ_run (Cert.ReferenceAdamwUkvIdeal.defs (F := Ideal)) (onTc (τ := Cert.ReferenceAdamwUkvIdeal.τ) (Cert.ReferenceAdamwUkvIdeal.main (F := Ideal))) ⟨m, fun _ => 0, g⟩ (fun r => (∀ c : Dev Cert.ReferenceAdamwUkvIdeal.nD,
      r.2.mem ((c.tc : Thread Cert.ReferenceAdamwUkvIdeal.nD Cert.ReferenceAdamwUkvIdeal.τ).loc Cert.ReferenceAdamwUkvIdeal.main_arg0) = m ((c.tc : Thread Cert.ReferenceAdamwUkvIdeal.nD Cert.ReferenceAdamwUkvIdeal.τ).loc Cert.ReferenceAdamwUkvIdeal.main_arg0)
      ∧ r.2.mem ((c.tc : Thread Cert.ReferenceAdamwUkvIdeal.nD Cert.ReferenceAdamwUkvIdeal.τ).loc Cert.ReferenceAdamwUkvIdeal.main_arg1) = m ((c.tc : Thread Cert.ReferenceAdamwUkvIdeal.nD Cert.ReferenceAdamwUkvIdeal.τ).loc Cert.ReferenceAdamwUkvIdeal.main_arg1)
      ∧ r.2.mem ((c.tc : Thread Cert.ReferenceAdamwUkvIdeal.nD Cert.ReferenceAdamwUkvIdeal.τ).loc Cert.ReferenceAdamwUkvIdeal.main_arg2) = m ((c.tc : Thread Cert.ReferenceAdamwUkvIdeal.nD Cert.ReferenceAdamwUkvIdeal.τ).loc Cert.ReferenceAdamwUkvIdeal.main_arg2)
      ∧ r.2.mem ((c.tc : Thread Cert.ReferenceAdamwUkvIdeal.nD Cert.ReferenceAdamwUkvIdeal.τ).loc Cert.ReferenceAdamwUkvIdeal.main_arg3) = m ((c.tc : Thread Cert.ReferenceAdamwUkvIdeal.nD Cert.ReferenceAdamwUkvIdeal.τ).loc Cert.ReferenceAdamwUkvIdeal.main_arg3))
      ∧ r.2.sem = fun _ => 0)

def quiescent_KernelAdamwO [hKernelAdamwO : Cert.KernelAdamwO.Facts] : Prop :=
  ∀ (m : (ℓ : Loc Cert.KernelAdamwO.nD Cert.KernelAdamwO.τ Cert.KernelAdamwO.sig) → Buf (Elt Bits) ℓ) (g : Dev Cert.KernelAdamwO.nD → PrngReg), Pre_KernelAdamwO m →
    θ_run (Cert.KernelAdamwO.defs (F := Bits)) (onTc (τ := Cert.KernelAdamwO.τ) (Cert.KernelAdamwO.main (F := Bits))) ⟨m, fun _ => 0, g⟩ (fun r => (∀ c : Dev Cert.KernelAdamwO.nD,
      r.2.mem ((c.tc : Thread Cert.KernelAdamwO.nD Cert.KernelAdamwO.τ).loc Cert.KernelAdamwO.main_arg0) = m ((c.tc : Thread Cert.KernelAdamwO.nD Cert.KernelAdamwO.τ).loc Cert.KernelAdamwO.main_arg0)
      ∧ r.2.mem ((c.tc : Thread Cert.KernelAdamwO.nD Cert.KernelAdamwO.τ).loc Cert.KernelAdamwO.main_arg1) = m ((c.tc : Thread Cert.KernelAdamwO.nD Cert.KernelAdamwO.τ).loc Cert.KernelAdamwO.main_arg1)
      ∧ r.2.mem ((c.tc : Thread Cert.KernelAdamwO.nD Cert.KernelAdamwO.τ).loc Cert.KernelAdamwO.main_arg2) = m ((c.tc : Thread Cert.KernelAdamwO.nD Cert.KernelAdamwO.τ).loc Cert.KernelAdamwO.main_arg2)
      ∧ r.2.mem ((c.tc : Thread Cert.KernelAdamwO.nD Cert.KernelAdamwO.τ).loc Cert.KernelAdamwO.main_arg3) = m ((c.tc : Thread Cert.KernelAdamwO.nD Cert.KernelAdamwO.τ).loc Cert.KernelAdamwO.main_arg3))
      ∧ r.2.sem = fun _ => 0)

def quiescent_KernelAdamwOIdeal [hKernelAdamwOIdeal : Cert.KernelAdamwOIdeal.Facts] : Prop :=
  ∀ (m : (ℓ : Loc Cert.KernelAdamwOIdeal.nD Cert.KernelAdamwOIdeal.τ Cert.KernelAdamwOIdeal.sig) → Buf (Elt Ideal) ℓ) (g : Dev Cert.KernelAdamwOIdeal.nD → PrngReg), Pre_KernelAdamwOIdeal m →
    θ_run (Cert.KernelAdamwOIdeal.defs (F := Ideal)) (onTc (τ := Cert.KernelAdamwOIdeal.τ) (Cert.KernelAdamwOIdeal.main (F := Ideal))) ⟨m, fun _ => 0, g⟩ (fun r => (∀ c : Dev Cert.KernelAdamwOIdeal.nD,
      r.2.mem ((c.tc : Thread Cert.KernelAdamwOIdeal.nD Cert.KernelAdamwOIdeal.τ).loc Cert.KernelAdamwOIdeal.main_arg0) = m ((c.tc : Thread Cert.KernelAdamwOIdeal.nD Cert.KernelAdamwOIdeal.τ).loc Cert.KernelAdamwOIdeal.main_arg0)
      ∧ r.2.mem ((c.tc : Thread Cert.KernelAdamwOIdeal.nD Cert.KernelAdamwOIdeal.τ).loc Cert.KernelAdamwOIdeal.main_arg1) = m ((c.tc : Thread Cert.KernelAdamwOIdeal.nD Cert.KernelAdamwOIdeal.τ).loc Cert.KernelAdamwOIdeal.main_arg1)
      ∧ r.2.mem ((c.tc : Thread Cert.KernelAdamwOIdeal.nD Cert.KernelAdamwOIdeal.τ).loc Cert.KernelAdamwOIdeal.main_arg2) = m ((c.tc : Thread Cert.KernelAdamwOIdeal.nD Cert.KernelAdamwOIdeal.τ).loc Cert.KernelAdamwOIdeal.main_arg2)
      ∧ r.2.mem ((c.tc : Thread Cert.KernelAdamwOIdeal.nD Cert.KernelAdamwOIdeal.τ).loc Cert.KernelAdamwOIdeal.main_arg3) = m ((c.tc : Thread Cert.KernelAdamwOIdeal.nD Cert.KernelAdamwOIdeal.τ).loc Cert.KernelAdamwOIdeal.main_arg3))
      ∧ r.2.sem = fun _ => 0)

def quiescent_ReferenceAdamwOIdeal [hReferenceAdamwOIdeal : Cert.ReferenceAdamwOIdeal.Facts] : Prop :=
  ∀ (m : (ℓ : Loc Cert.ReferenceAdamwOIdeal.nD Cert.ReferenceAdamwOIdeal.τ Cert.ReferenceAdamwOIdeal.sig) → Buf (Elt Ideal) ℓ) (g : Dev Cert.ReferenceAdamwOIdeal.nD → PrngReg), Pre_ReferenceAdamwOIdeal m →
    θ_run (Cert.ReferenceAdamwOIdeal.defs (F := Ideal)) (onTc (τ := Cert.ReferenceAdamwOIdeal.τ) (Cert.ReferenceAdamwOIdeal.main (F := Ideal))) ⟨m, fun _ => 0, g⟩ (fun r => (∀ c : Dev Cert.ReferenceAdamwOIdeal.nD,
      r.2.mem ((c.tc : Thread Cert.ReferenceAdamwOIdeal.nD Cert.ReferenceAdamwOIdeal.τ).loc Cert.ReferenceAdamwOIdeal.main_arg0) = m ((c.tc : Thread Cert.ReferenceAdamwOIdeal.nD Cert.ReferenceAdamwOIdeal.τ).loc Cert.ReferenceAdamwOIdeal.main_arg0)
      ∧ r.2.mem ((c.tc : Thread Cert.ReferenceAdamwOIdeal.nD Cert.ReferenceAdamwOIdeal.τ).loc Cert.ReferenceAdamwOIdeal.main_arg1) = m ((c.tc : Thread Cert.ReferenceAdamwOIdeal.nD Cert.ReferenceAdamwOIdeal.τ).loc Cert.ReferenceAdamwOIdeal.main_arg1)
      ∧ r.2.mem ((c.tc : Thread Cert.ReferenceAdamwOIdeal.nD Cert.ReferenceAdamwOIdeal.τ).loc Cert.ReferenceAdamwOIdeal.main_arg2) = m ((c.tc : Thread Cert.ReferenceAdamwOIdeal.nD Cert.ReferenceAdamwOIdeal.τ).loc Cert.ReferenceAdamwOIdeal.main_arg2)
      ∧ r.2.mem ((c.tc : Thread Cert.ReferenceAdamwOIdeal.nD Cert.ReferenceAdamwOIdeal.τ).loc Cert.ReferenceAdamwOIdeal.main_arg3) = m ((c.tc : Thread Cert.ReferenceAdamwOIdeal.nD Cert.ReferenceAdamwOIdeal.τ).loc Cert.ReferenceAdamwOIdeal.main_arg3))
      ∧ r.2.sem = fun _ => 0)

def quiescent_KernelAdamwSmall [hKernelAdamwSmall : Cert.KernelAdamwSmall.Facts] : Prop :=
  ∀ (m : (ℓ : Loc Cert.KernelAdamwSmall.nD Cert.KernelAdamwSmall.τ Cert.KernelAdamwSmall.sig) → Buf (Elt Bits) ℓ) (g : Dev Cert.KernelAdamwSmall.nD → PrngReg), Pre_KernelAdamwSmall m →
    θ_run (Cert.KernelAdamwSmall.defs (F := Bits)) (onTc (τ := Cert.KernelAdamwSmall.τ) (Cert.KernelAdamwSmall.main (F := Bits))) ⟨m, fun _ => 0, g⟩ (fun r => (∀ c : Dev Cert.KernelAdamwSmall.nD,
      r.2.mem ((c.tc : Thread Cert.KernelAdamwSmall.nD Cert.KernelAdamwSmall.τ).loc Cert.KernelAdamwSmall.main_arg0) = m ((c.tc : Thread Cert.KernelAdamwSmall.nD Cert.KernelAdamwSmall.τ).loc Cert.KernelAdamwSmall.main_arg0)
      ∧ r.2.mem ((c.tc : Thread Cert.KernelAdamwSmall.nD Cert.KernelAdamwSmall.τ).loc Cert.KernelAdamwSmall.main_arg1) = m ((c.tc : Thread Cert.KernelAdamwSmall.nD Cert.KernelAdamwSmall.τ).loc Cert.KernelAdamwSmall.main_arg1)
      ∧ r.2.mem ((c.tc : Thread Cert.KernelAdamwSmall.nD Cert.KernelAdamwSmall.τ).loc Cert.KernelAdamwSmall.main_arg2) = m ((c.tc : Thread Cert.KernelAdamwSmall.nD Cert.KernelAdamwSmall.τ).loc Cert.KernelAdamwSmall.main_arg2)
      ∧ r.2.mem ((c.tc : Thread Cert.KernelAdamwSmall.nD Cert.KernelAdamwSmall.τ).loc Cert.KernelAdamwSmall.main_arg3) = m ((c.tc : Thread Cert.KernelAdamwSmall.nD Cert.KernelAdamwSmall.τ).loc Cert.KernelAdamwSmall.main_arg3))
      ∧ r.2.sem = fun _ => 0)

def quiescent_KernelAdamwSmallIdeal [hKernelAdamwSmallIdeal : Cert.KernelAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg), Pre_KernelAdamwSmallIdeal m →
    θ_run (Cert.KernelAdamwSmallIdeal.defs (F := Ideal)) (onTc (τ := Cert.KernelAdamwSmallIdeal.τ) (Cert.KernelAdamwSmallIdeal.main (F := Ideal))) ⟨m, fun _ => 0, g⟩ (fun r => (∀ c : Dev Cert.KernelAdamwSmallIdeal.nD,
      r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
      ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
      ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
      ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3))
      ∧ r.2.sem = fun _ => 0)

def quiescent_ReferenceAdamwSmallIdeal [hReferenceAdamwSmallIdeal : Cert.ReferenceAdamwSmallIdeal.Facts] : Prop :=
  ∀ (m : (ℓ : Loc Cert.ReferenceAdamwSmallIdeal.nD Cert.ReferenceAdamwSmallIdeal.τ Cert.ReferenceAdamwSmallIdeal.sig) → Buf (Elt Ideal) ℓ) (g : Dev Cert.ReferenceAdamwSmallIdeal.nD → PrngReg), Pre_ReferenceAdamwSmallIdeal m →
    θ_run (Cert.ReferenceAdamwSmallIdeal.defs (F := Ideal)) (onTc (τ := Cert.ReferenceAdamwSmallIdeal.τ) (Cert.ReferenceAdamwSmallIdeal.main (F := Ideal))) ⟨m, fun _ => 0, g⟩ (fun r => (∀ c : Dev Cert.ReferenceAdamwSmallIdeal.nD,
      r.2.mem ((c.tc : Thread Cert.ReferenceAdamwSmallIdeal.nD Cert.ReferenceAdamwSmallIdeal.τ).loc Cert.ReferenceAdamwSmallIdeal.main_arg0) = m ((c.tc : Thread Cert.ReferenceAdamwSmallIdeal.nD Cert.ReferenceAdamwSmallIdeal.τ).loc Cert.ReferenceAdamwSmallIdeal.main_arg0)
      ∧ r.2.mem ((c.tc : Thread Cert.ReferenceAdamwSmallIdeal.nD Cert.ReferenceAdamwSmallIdeal.τ).loc Cert.ReferenceAdamwSmallIdeal.main_arg1) = m ((c.tc : Thread Cert.ReferenceAdamwSmallIdeal.nD Cert.ReferenceAdamwSmallIdeal.τ).loc Cert.ReferenceAdamwSmallIdeal.main_arg1)
      ∧ r.2.mem ((c.tc : Thread Cert.ReferenceAdamwSmallIdeal.nD Cert.ReferenceAdamwSmallIdeal.τ).loc Cert.ReferenceAdamwSmallIdeal.main_arg2) = m ((c.tc : Thread Cert.ReferenceAdamwSmallIdeal.nD Cert.ReferenceAdamwSmallIdeal.τ).loc Cert.ReferenceAdamwSmallIdeal.main_arg2)
      ∧ r.2.mem ((c.tc : Thread Cert.ReferenceAdamwSmallIdeal.nD Cert.ReferenceAdamwSmallIdeal.τ).loc Cert.ReferenceAdamwSmallIdeal.main_arg3) = m ((c.tc : Thread Cert.ReferenceAdamwSmallIdeal.nD Cert.ReferenceAdamwSmallIdeal.τ).loc Cert.ReferenceAdamwSmallIdeal.main_arg3))
      ∧ r.2.sem = fun _ => 0)

def quiescent_KernelInput [hKernelInput : Cert.KernelInput.Facts] : Prop :=
  ∀ (m : (ℓ : Loc Cert.KernelInput.nD Cert.KernelInput.τ Cert.KernelInput.sig) → Buf (Elt Bits) ℓ) (g : Dev Cert.KernelInput.nD → PrngReg), Pre_KernelInput m →
    θ_run (Cert.KernelInput.defs (F := Bits)) (onTc (τ := Cert.KernelInput.τ) (Cert.KernelInput.main (F := Bits))) ⟨m, fun _ => 0, g⟩ (fun r => (∀ c : Dev Cert.KernelInput.nD,
      r.2.mem ((c.tc : Thread Cert.KernelInput.nD Cert.KernelInput.τ).loc Cert.KernelInput.main_arg0) = m ((c.tc : Thread Cert.KernelInput.nD Cert.KernelInput.τ).loc Cert.KernelInput.main_arg0)
      ∧ r.2.mem ((c.tc : Thread Cert.KernelInput.nD Cert.KernelInput.τ).loc Cert.KernelInput.main_arg1) = m ((c.tc : Thread Cert.KernelInput.nD Cert.KernelInput.τ).loc Cert.KernelInput.main_arg1)
      ∧ r.2.mem ((c.tc : Thread Cert.KernelInput.nD Cert.KernelInput.τ).loc Cert.KernelInput.main_arg2) = m ((c.tc : Thread Cert.KernelInput.nD Cert.KernelInput.τ).loc Cert.KernelInput.main_arg2)
      ∧ r.2.mem ((c.tc : Thread Cert.KernelInput.nD Cert.KernelInput.τ).loc Cert.KernelInput.main_arg3) = m ((c.tc : Thread Cert.KernelInput.nD Cert.KernelInput.τ).loc Cert.KernelInput.main_arg3))
      ∧ r.2.sem = fun _ => 0)

def quiescent_KernelInputIdeal [hKernelInputIdeal : Cert.KernelInputIdeal.Facts] : Prop :=
  ∀ (m : (ℓ : Loc Cert.KernelInputIdeal.nD Cert.KernelInputIdeal.τ Cert.KernelInputIdeal.sig) → Buf (Elt Ideal) ℓ) (g : Dev Cert.KernelInputIdeal.nD → PrngReg), Pre_KernelInputIdeal m →
    θ_run (Cert.KernelInputIdeal.defs (F := Ideal)) (onTc (τ := Cert.KernelInputIdeal.τ) (Cert.KernelInputIdeal.main (F := Ideal))) ⟨m, fun _ => 0, g⟩ (fun r => (∀ c : Dev Cert.KernelInputIdeal.nD,
      r.2.mem ((c.tc : Thread Cert.KernelInputIdeal.nD Cert.KernelInputIdeal.τ).loc Cert.KernelInputIdeal.main_arg0) = m ((c.tc : Thread Cert.KernelInputIdeal.nD Cert.KernelInputIdeal.τ).loc Cert.KernelInputIdeal.main_arg0)
      ∧ r.2.mem ((c.tc : Thread Cert.KernelInputIdeal.nD Cert.KernelInputIdeal.τ).loc Cert.KernelInputIdeal.main_arg1) = m ((c.tc : Thread Cert.KernelInputIdeal.nD Cert.KernelInputIdeal.τ).loc Cert.KernelInputIdeal.main_arg1)
      ∧ r.2.mem ((c.tc : Thread Cert.KernelInputIdeal.nD Cert.KernelInputIdeal.τ).loc Cert.KernelInputIdeal.main_arg2) = m ((c.tc : Thread Cert.KernelInputIdeal.nD Cert.KernelInputIdeal.τ).loc Cert.KernelInputIdeal.main_arg2)
      ∧ r.2.mem ((c.tc : Thread Cert.KernelInputIdeal.nD Cert.KernelInputIdeal.τ).loc Cert.KernelInputIdeal.main_arg3) = m ((c.tc : Thread Cert.KernelInputIdeal.nD Cert.KernelInputIdeal.τ).loc Cert.KernelInputIdeal.main_arg3))
      ∧ r.2.sem = fun _ => 0)

def quiescent_ReferenceInputIdeal [hReferenceInputIdeal : Cert.ReferenceInputIdeal.Facts] : Prop :=
  ∀ (m : (ℓ : Loc Cert.ReferenceInputIdeal.nD Cert.ReferenceInputIdeal.τ Cert.ReferenceInputIdeal.sig) → Buf (Elt Ideal) ℓ) (g : Dev Cert.ReferenceInputIdeal.nD → PrngReg), Pre_ReferenceInputIdeal m →
    θ_run (Cert.ReferenceInputIdeal.defs (F := Ideal)) (onTc (τ := Cert.ReferenceInputIdeal.τ) (Cert.ReferenceInputIdeal.main (F := Ideal))) ⟨m, fun _ => 0, g⟩ (fun r => (∀ c : Dev Cert.ReferenceInputIdeal.nD,
      r.2.mem ((c.tc : Thread Cert.ReferenceInputIdeal.nD Cert.ReferenceInputIdeal.τ).loc Cert.ReferenceInputIdeal.main_arg0) = m ((c.tc : Thread Cert.ReferenceInputIdeal.nD Cert.ReferenceInputIdeal.τ).loc Cert.ReferenceInputIdeal.main_arg0)
      ∧ r.2.mem ((c.tc : Thread Cert.ReferenceInputIdeal.nD Cert.ReferenceInputIdeal.τ).loc Cert.ReferenceInputIdeal.main_arg1) = m ((c.tc : Thread Cert.ReferenceInputIdeal.nD Cert.ReferenceInputIdeal.τ).loc Cert.ReferenceInputIdeal.main_arg1)
      ∧ r.2.mem ((c.tc : Thread Cert.ReferenceInputIdeal.nD Cert.ReferenceInputIdeal.τ).loc Cert.ReferenceInputIdeal.main_arg2) = m ((c.tc : Thread Cert.ReferenceInputIdeal.nD Cert.ReferenceInputIdeal.τ).loc Cert.ReferenceInputIdeal.main_arg2)
      ∧ r.2.mem ((c.tc : Thread Cert.ReferenceInputIdeal.nD Cert.ReferenceInputIdeal.τ).loc Cert.ReferenceInputIdeal.main_arg3) = m ((c.tc : Thread Cert.ReferenceInputIdeal.nD Cert.ReferenceInputIdeal.τ).loc Cert.ReferenceInputIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelGwIn [hKernelGwIn : Cert.KernelGwIn.Facts] : Prop :=
  ∀ (m : (ℓ : Loc Cert.KernelGwIn.nD Cert.KernelGwIn.τ Cert.KernelGwIn.sig) → Buf (Elt Bits) ℓ) (g : Dev Cert.KernelGwIn.nD → PrngReg), Pre_KernelGwIn m →
    θ_run (Cert.KernelGwIn.defs (F := Bits)) (onTc (τ := Cert.KernelGwIn.τ) (Cert.KernelGwIn.main (F := Bits))) ⟨m, fun _ => 0, g⟩ (fun r => (∀ c : Dev Cert.KernelGwIn.nD,
      r.2.mem ((c.tc : Thread Cert.KernelGwIn.nD Cert.KernelGwIn.τ).loc Cert.KernelGwIn.main_arg0) = m ((c.tc : Thread Cert.KernelGwIn.nD Cert.KernelGwIn.τ).loc Cert.KernelGwIn.main_arg0)
      ∧ r.2.mem ((c.tc : Thread Cert.KernelGwIn.nD Cert.KernelGwIn.τ).loc Cert.KernelGwIn.main_arg1) = m ((c.tc : Thread Cert.KernelGwIn.nD Cert.KernelGwIn.τ).loc Cert.KernelGwIn.main_arg1)
      ∧ r.2.mem ((c.tc : Thread Cert.KernelGwIn.nD Cert.KernelGwIn.τ).loc Cert.KernelGwIn.main_arg2) = m ((c.tc : Thread Cert.KernelGwIn.nD Cert.KernelGwIn.τ).loc Cert.KernelGwIn.main_arg2))
      ∧ r.2.sem = fun _ => 0)

def quiescent_KernelGwInIdeal [hKernelGwInIdeal : Cert.KernelGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg), Pre_KernelGwInIdeal m →
    θ_run (Cert.KernelGwInIdeal.defs (F := Ideal)) (onTc (τ := Cert.KernelGwInIdeal.τ) (Cert.KernelGwInIdeal.main (F := Ideal))) ⟨m, fun _ => 0, g⟩ (fun r => (∀ c : Dev Cert.KernelGwInIdeal.nD,
      r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
      ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1)
      ∧ r.2.mem ((c.tc : Thread Cert.KernelGwInIdeal.nD Cert.KernelGwInIdeal.τ).loc Cert.KernelGwInIdeal.main_arg2) = m ((c.tc : Thread Cert.KernelGwInIdeal.nD Cert.KernelGwInIdeal.τ).loc Cert.KernelGwInIdeal.main_arg2))
      ∧ r.2.sem = fun _ => 0)

def quiescent_ReferenceGwInIdeal [hReferenceGwInIdeal : Cert.ReferenceGwInIdeal.Facts] : Prop :=
  ∀ (m : (ℓ : Loc Cert.ReferenceGwInIdeal.nD Cert.ReferenceGwInIdeal.τ Cert.ReferenceGwInIdeal.sig) → Buf (Elt Ideal) ℓ) (g : Dev Cert.ReferenceGwInIdeal.nD → PrngReg), Pre_ReferenceGwInIdeal m →
    θ_run (Cert.ReferenceGwInIdeal.defs (F := Ideal)) (onTc (τ := Cert.ReferenceGwInIdeal.τ) (Cert.ReferenceGwInIdeal.main (F := Ideal))) ⟨m, fun _ => 0, g⟩ (fun r => (∀ c : Dev Cert.ReferenceGwInIdeal.nD,
      r.2.mem ((c.tc : Thread Cert.ReferenceGwInIdeal.nD Cert.ReferenceGwInIdeal.τ).loc Cert.ReferenceGwInIdeal.main_arg0) = m ((c.tc : Thread Cert.ReferenceGwInIdeal.nD Cert.ReferenceGwInIdeal.τ).loc Cert.ReferenceGwInIdeal.main_arg0)
      ∧ r.2.mem ((c.tc : Thread Cert.ReferenceGwInIdeal.nD Cert.ReferenceGwInIdeal.τ).loc Cert.ReferenceGwInIdeal.main_arg1) = m ((c.tc : Thread Cert.ReferenceGwInIdeal.nD Cert.ReferenceGwInIdeal.τ).loc Cert.ReferenceGwInIdeal.main_arg1)
      ∧ r.2.mem ((c.tc : Thread Cert.ReferenceGwInIdeal.nD Cert.ReferenceGwInIdeal.τ).loc Cert.ReferenceGwInIdeal.main_arg2) = m ((c.tc : Thread Cert.ReferenceGwInIdeal.nD Cert.ReferenceGwInIdeal.τ).loc Cert.ReferenceGwInIdeal.main_arg2))
      ∧ r.2.sem = fun _ => 0)

def quiescent_KernelDh1 [hKernelDh1 : Cert.KernelDh1.Facts] : Prop :=
  ∀ (m : (ℓ : Loc Cert.KernelDh1.nD Cert.KernelDh1.τ Cert.KernelDh1.sig) → Buf (Elt Bits) ℓ) (g : Dev Cert.KernelDh1.nD → PrngReg), Pre_KernelDh1 m →
    θ_run (Cert.KernelDh1.defs (F := Bits)) (onTc (τ := Cert.KernelDh1.τ) (Cert.KernelDh1.main (F := Bits))) ⟨m, fun _ => 0, g⟩ (fun r => (∀ c : Dev Cert.KernelDh1.nD,
      r.2.mem ((c.tc : Thread Cert.KernelDh1.nD Cert.KernelDh1.τ).loc Cert.KernelDh1.main_arg0) = m ((c.tc : Thread Cert.KernelDh1.nD Cert.KernelDh1.τ).loc Cert.KernelDh1.main_arg0)
      ∧ r.2.mem ((c.tc : Thread Cert.KernelDh1.nD Cert.KernelDh1.τ).loc Cert.KernelDh1.main_arg1) = m ((c.tc : Thread Cert.KernelDh1.nD Cert.KernelDh1.τ).loc Cert.KernelDh1.main_arg1)
      ∧ r.2.mem ((c.tc : Thread Cert.KernelDh1.nD Cert.KernelDh1.τ).loc Cert.KernelDh1.main_arg2) = m ((c.tc : Thread Cert.KernelDh1.nD Cert.KernelDh1.τ).loc Cert.KernelDh1.main_arg2))
      ∧ r.2.sem = fun _ => 0)

def quiescent_KernelDh1Ideal [hKernelDh1Ideal : Cert.KernelDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
      ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2))
      ∧ r.2.sem = fun _ => 0)

def quiescent_ReferenceDh1Ideal [hReferenceDh1Ideal : Cert.ReferenceDh1Ideal.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1)
      ∧ r.2.mem ((c.tc : Thread Cert.ReferenceDh1Ideal.nD Cert.ReferenceDh1Ideal.τ).loc Cert.ReferenceDh1Ideal.main_arg2) = m ((c.tc : Thread Cert.ReferenceDh1Ideal.nD Cert.ReferenceDh1Ideal.τ).loc Cert.ReferenceDh1Ideal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelGwUq [hKernelGwUq : Cert.KernelGwUq.Facts] : Prop :=
  ∀ (m : (ℓ : Loc Cert.KernelGwUq.nD Cert.KernelGwUq.τ Cert.KernelGwUq.sig) → Buf (Elt Bits) ℓ) (g : Dev Cert.KernelGwUq.nD → PrngReg), Pre_KernelGwUq m →
    θ_run (Cert.KernelGwUq.defs (F := Bits)) (onTc (τ := Cert.KernelGwUq.τ) (Cert.KernelGwUq.main (F := Bits))) ⟨m, fun _ => 0, g⟩ (fun r => (∀ c : Dev Cert.KernelGwUq.nD,
      r.2.mem ((c.tc : Thread Cert.KernelGwUq.nD Cert.KernelGwUq.τ).loc Cert.KernelGwUq.main_arg0) = m ((c.tc : Thread Cert.KernelGwUq.nD Cert.KernelGwUq.τ).loc Cert.KernelGwUq.main_arg0)
      ∧ r.2.mem ((c.tc : Thread Cert.KernelGwUq.nD Cert.KernelGwUq.τ).loc Cert.KernelGwUq.main_arg1) = m ((c.tc : Thread Cert.KernelGwUq.nD Cert.KernelGwUq.τ).loc Cert.KernelGwUq.main_arg1)
      ∧ r.2.mem ((c.tc : Thread Cert.KernelGwUq.nD Cert.KernelGwUq.τ).loc Cert.KernelGwUq.main_arg2) = m ((c.tc : Thread Cert.KernelGwUq.nD Cert.KernelGwUq.τ).loc Cert.KernelGwUq.main_arg2))
      ∧ r.2.sem = fun _ => 0)

def quiescent_KernelGwUqIdeal [hKernelGwUqIdeal : Cert.KernelGwUqIdeal.Facts] : Prop :=
  ∀ (m : (ℓ : Loc Cert.KernelGwUqIdeal.nD Cert.KernelGwUqIdeal.τ Cert.KernelGwUqIdeal.sig) → Buf (Elt Ideal) ℓ) (g : Dev Cert.KernelGwUqIdeal.nD → PrngReg), Pre_KernelGwUqIdeal m →
    θ_run (Cert.KernelGwUqIdeal.defs (F := Ideal)) (onTc (τ := Cert.KernelGwUqIdeal.τ) (Cert.KernelGwUqIdeal.main (F := Ideal))) ⟨m, fun _ => 0, g⟩ (fun r => (∀ c : Dev Cert.KernelGwUqIdeal.nD,
      r.2.mem ((c.tc : Thread Cert.KernelGwUqIdeal.nD Cert.KernelGwUqIdeal.τ).loc Cert.KernelGwUqIdeal.main_arg0) = m ((c.tc : Thread Cert.KernelGwUqIdeal.nD Cert.KernelGwUqIdeal.τ).loc Cert.KernelGwUqIdeal.main_arg0)
      ∧ r.2.mem ((c.tc : Thread Cert.KernelGwUqIdeal.nD Cert.KernelGwUqIdeal.τ).loc Cert.KernelGwUqIdeal.main_arg1) = m ((c.tc : Thread Cert.KernelGwUqIdeal.nD Cert.KernelGwUqIdeal.τ).loc Cert.KernelGwUqIdeal.main_arg1)
      ∧ r.2.mem ((c.tc : Thread Cert.KernelGwUqIdeal.nD Cert.KernelGwUqIdeal.τ).loc Cert.KernelGwUqIdeal.main_arg2) = m ((c.tc : Thread Cert.KernelGwUqIdeal.nD Cert.KernelGwUqIdeal.τ).loc Cert.KernelGwUqIdeal.main_arg2))
      ∧ r.2.sem = fun _ => 0)

def quiescent_ReferenceGwUqIdeal [hReferenceGwUqIdeal : Cert.ReferenceGwUqIdeal.Facts] : Prop :=
  ∀ (m : (ℓ : Loc Cert.ReferenceGwUqIdeal.nD Cert.ReferenceGwUqIdeal.τ Cert.ReferenceGwUqIdeal.sig) → Buf (Elt Ideal) ℓ) (g : Dev Cert.ReferenceGwUqIdeal.nD → PrngReg), Pre_ReferenceGwUqIdeal m →
    θ_run (Cert.ReferenceGwUqIdeal.defs (F := Ideal)) (onTc (τ := Cert.ReferenceGwUqIdeal.τ) (Cert.ReferenceGwUqIdeal.main (F := Ideal))) ⟨m, fun _ => 0, g⟩ (fun r => (∀ c : Dev Cert.ReferenceGwUqIdeal.nD,
      r.2.mem ((c.tc : Thread Cert.ReferenceGwUqIdeal.nD Cert.ReferenceGwUqIdeal.τ).loc Cert.ReferenceGwUqIdeal.main_arg0) = m ((c.tc : Thread Cert.ReferenceGwUqIdeal.nD Cert.ReferenceGwUqIdeal.τ).loc Cert.ReferenceGwUqIdeal.main_arg0)
      ∧ r.2.mem ((c.tc : Thread Cert.ReferenceGwUqIdeal.nD Cert.ReferenceGwUqIdeal.τ).loc Cert.ReferenceGwUqIdeal.main_arg1) = m ((c.tc : Thread Cert.ReferenceGwUqIdeal.nD Cert.ReferenceGwUqIdeal.τ).loc Cert.ReferenceGwUqIdeal.main_arg1)
      ∧ r.2.mem ((c.tc : Thread Cert.ReferenceGwUqIdeal.nD Cert.ReferenceGwUqIdeal.τ).loc Cert.ReferenceGwUqIdeal.main_arg2) = m ((c.tc : Thread Cert.ReferenceGwUqIdeal.nD Cert.ReferenceGwUqIdeal.τ).loc Cert.ReferenceGwUqIdeal.main_arg2))
      ∧ r.2.sem = fun _ => 0)

def quiescent_KernelDcq [hKernelDcq : Cert.KernelDcq.Facts] : Prop :=
  ∀ (m : (ℓ : Loc Cert.KernelDcq.nD Cert.KernelDcq.τ Cert.KernelDcq.sig) → Buf (Elt Bits) ℓ) (g : Dev Cert.KernelDcq.nD → PrngReg), Pre_KernelDcq m →
    θ_run (Cert.KernelDcq.defs (F := Bits)) (onTc (τ := Cert.KernelDcq.τ) (Cert.KernelDcq.main (F := Bits))) ⟨m, fun _ => 0, g⟩ (fun r => (∀ c : Dev Cert.KernelDcq.nD,
      r.2.mem ((c.tc : Thread Cert.KernelDcq.nD Cert.KernelDcq.τ).loc Cert.KernelDcq.main_arg0) = m ((c.tc : Thread Cert.KernelDcq.nD Cert.KernelDcq.τ).loc Cert.KernelDcq.main_arg0)
      ∧ r.2.mem ((c.tc : Thread Cert.KernelDcq.nD Cert.KernelDcq.τ).loc Cert.KernelDcq.main_arg1) = m ((c.tc : Thread Cert.KernelDcq.nD Cert.KernelDcq.τ).loc Cert.KernelDcq.main_arg1)
      ∧ r.2.mem ((c.tc : Thread Cert.KernelDcq.nD Cert.KernelDcq.τ).loc Cert.KernelDcq.main_arg2) = m ((c.tc : Thread Cert.KernelDcq.nD Cert.KernelDcq.τ).loc Cert.KernelDcq.main_arg2))
      ∧ r.2.sem = fun _ => 0)

def quiescent_KernelDcqIdeal [hKernelDcqIdeal : Cert.KernelDcqIdeal.Facts] : Prop :=
  ∀ (m : (ℓ : Loc Cert.KernelDcqIdeal.nD Cert.KernelDcqIdeal.τ Cert.KernelDcqIdeal.sig) → Buf (Elt Ideal) ℓ) (g : Dev Cert.KernelDcqIdeal.nD → PrngReg), Pre_KernelDcqIdeal m →
    θ_run (Cert.KernelDcqIdeal.defs (F := Ideal)) (onTc (τ := Cert.KernelDcqIdeal.τ) (Cert.KernelDcqIdeal.main (F := Ideal))) ⟨m, fun _ => 0, g⟩ (fun r => (∀ c : Dev Cert.KernelDcqIdeal.nD,
      r.2.mem ((c.tc : Thread Cert.KernelDcqIdeal.nD Cert.KernelDcqIdeal.τ).loc Cert.KernelDcqIdeal.main_arg0) = m ((c.tc : Thread Cert.KernelDcqIdeal.nD Cert.KernelDcqIdeal.τ).loc Cert.KernelDcqIdeal.main_arg0)
      ∧ r.2.mem ((c.tc : Thread Cert.KernelDcqIdeal.nD Cert.KernelDcqIdeal.τ).loc Cert.KernelDcqIdeal.main_arg1) = m ((c.tc : Thread Cert.KernelDcqIdeal.nD Cert.KernelDcqIdeal.τ).loc Cert.KernelDcqIdeal.main_arg1)
      ∧ r.2.mem ((c.tc : Thread Cert.KernelDcqIdeal.nD Cert.KernelDcqIdeal.τ).loc Cert.KernelDcqIdeal.main_arg2) = m ((c.tc : Thread Cert.KernelDcqIdeal.nD Cert.KernelDcqIdeal.τ).loc Cert.KernelDcqIdeal.main_arg2))
      ∧ r.2.sem = fun _ => 0)

def quiescent_ReferenceDcqIdeal [hReferenceDcqIdeal : Cert.ReferenceDcqIdeal.Facts] : Prop :=
  ∀ (m : (ℓ : Loc Cert.ReferenceDcqIdeal.nD Cert.ReferenceDcqIdeal.τ Cert.ReferenceDcqIdeal.sig) → Buf (Elt Ideal) ℓ) (g : Dev Cert.ReferenceDcqIdeal.nD → PrngReg), Pre_ReferenceDcqIdeal m →
    θ_run (Cert.ReferenceDcqIdeal.defs (F := Ideal)) (onTc (τ := Cert.ReferenceDcqIdeal.τ) (Cert.ReferenceDcqIdeal.main (F := Ideal))) ⟨m, fun _ => 0, g⟩ (fun r => (∀ c : Dev Cert.ReferenceDcqIdeal.nD,
      r.2.mem ((c.tc : Thread Cert.ReferenceDcqIdeal.nD Cert.ReferenceDcqIdeal.τ).loc Cert.ReferenceDcqIdeal.main_arg0) = m ((c.tc : Thread Cert.ReferenceDcqIdeal.nD Cert.ReferenceDcqIdeal.τ).loc Cert.ReferenceDcqIdeal.main_arg0)
      ∧ r.2.mem ((c.tc : Thread Cert.ReferenceDcqIdeal.nD Cert.ReferenceDcqIdeal.τ).loc Cert.ReferenceDcqIdeal.main_arg1) = m ((c.tc : Thread Cert.ReferenceDcqIdeal.nD Cert.ReferenceDcqIdeal.τ).loc Cert.ReferenceDcqIdeal.main_arg1)
      ∧ r.2.mem ((c.tc : Thread Cert.ReferenceDcqIdeal.nD Cert.ReferenceDcqIdeal.τ).loc Cert.ReferenceDcqIdeal.main_arg2) = m ((c.tc : Thread Cert.ReferenceDcqIdeal.nD Cert.ReferenceDcqIdeal.τ).loc Cert.ReferenceDcqIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v5)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGwDown_KernelGwDownIdeal : Prop :=
  True

def algebraic_KernelGwDownIdeal_ReferenceGwDownIdeal [hKernelGwDownIdeal : Cert.KernelGwDownIdeal.Facts] [hReferenceGwDownIdeal : Cert.ReferenceGwDownIdeal.Facts] : Prop :=
  ∀ (m : (ℓ : Loc Cert.KernelGwDownIdeal.nD Cert.KernelGwDownIdeal.τ Cert.KernelGwDownIdeal.sig) → Buf (Elt Ideal) ℓ) (g : Dev Cert.KernelGwDownIdeal.nD → PrngReg)
    (m' : (ℓ : Loc Cert.ReferenceGwDownIdeal.nD Cert.ReferenceGwDownIdeal.τ Cert.ReferenceGwDownIdeal.sig) → Buf (Elt Ideal) ℓ) (g' : Dev Cert.ReferenceGwDownIdeal.nD → PrngReg), Pre_KernelGwDownIdeal m →
    (∀ c : Dev Cert.KernelGwDownIdeal.nD,
      m' ((c.tc : Thread Cert.ReferenceGwDownIdeal.nD Cert.ReferenceGwDownIdeal.τ).loc Cert.ReferenceGwDownIdeal.main_arg0) = m ((c.tc : Thread Cert.KernelGwDownIdeal.nD Cert.KernelGwDownIdeal.τ).loc Cert.KernelGwDownIdeal.main_arg0)
      ∧ m' ((c.tc : Thread Cert.ReferenceGwDownIdeal.nD Cert.ReferenceGwDownIdeal.τ).loc Cert.ReferenceGwDownIdeal.main_arg1) = m ((c.tc : Thread Cert.KernelGwDownIdeal.nD Cert.KernelGwDownIdeal.τ).loc Cert.KernelGwDownIdeal.main_arg1)
      ∧ m' ((c.tc : Thread Cert.ReferenceGwDownIdeal.nD Cert.ReferenceGwDownIdeal.τ).loc Cert.ReferenceGwDownIdeal.main_arg2) = m ((c.tc : Thread Cert.KernelGwDownIdeal.nD Cert.KernelGwDownIdeal.τ).loc Cert.KernelGwDownIdeal.main_arg2)) →
    ∃ (v0 : (c : Dev Cert.KernelGwDownIdeal.nD) → Buf (Elt Ideal) ((c.tc : Thread Cert.KernelGwDownIdeal.nD Cert.KernelGwDownIdeal.τ).loc Cert.KernelGwDownIdeal.main_v5)),
      θ_run (Cert.KernelGwDownIdeal.defs (F := Ideal)) (onTc (τ := Cert.KernelGwDownIdeal.τ) (Cert.KernelGwDownIdeal.main (F := Ideal))) ⟨m, fun _ => 0, g⟩ (fun r => ∀ c : Dev Cert.KernelGwDownIdeal.nD,
          r.2.mem ((c.tc : Thread Cert.KernelGwDownIdeal.nD Cert.KernelGwDownIdeal.τ).loc Cert.KernelGwDownIdeal.main_v5) = v0 c
          ∧ r.2.mem ((c.tc : Thread Cert.KernelGwDownIdeal.nD Cert.KernelGwDownIdeal.τ).loc Cert.KernelGwDownIdeal.main_arg0) = m ((c.tc : Thread Cert.KernelGwDownIdeal.nD Cert.KernelGwDownIdeal.τ).loc Cert.KernelGwDownIdeal.main_arg0)
          ∧ r.2.mem ((c.tc : Thread Cert.KernelGwDownIdeal.nD Cert.KernelGwDownIdeal.τ).loc Cert.KernelGwDownIdeal.main_arg1) = m ((c.tc : Thread Cert.KernelGwDownIdeal.nD Cert.KernelGwDownIdeal.τ).loc Cert.KernelGwDownIdeal.main_arg1)
          ∧ r.2.mem ((c.tc : Thread Cert.KernelGwDownIdeal.nD Cert.KernelGwDownIdeal.τ).loc Cert.KernelGwDownIdeal.main_arg2) = m ((c.tc : Thread Cert.KernelGwDownIdeal.nD Cert.KernelGwDownIdeal.τ).loc Cert.KernelGwDownIdeal.main_arg2))
      ∧ θ_run (Cert.ReferenceGwDownIdeal.defs (F := Ideal)) (onTc (τ := Cert.ReferenceGwDownIdeal.τ) (Cert.ReferenceGwDownIdeal.main (F := Ideal))) ⟨m', fun _ => 0, g'⟩ (fun r => ∀ c : Dev Cert.ReferenceGwDownIdeal.nD,
          r.2.mem ((c.tc : Thread Cert.ReferenceGwDownIdeal.nD Cert.ReferenceGwDownIdeal.τ).loc Cert.ReferenceGwDownIdeal.main_v14) = v0 c
          ∧ r.2.mem ((c.tc : Thread Cert.ReferenceGwDownIdeal.nD Cert.ReferenceGwDownIdeal.τ).loc Cert.ReferenceGwDownIdeal.main_arg0) = m' ((c.tc : Thread Cert.ReferenceGwDownIdeal.nD Cert.ReferenceGwDownIdeal.τ).loc Cert.ReferenceGwDownIdeal.main_arg0)
          ∧ r.2.mem ((c.tc : Thread Cert.ReferenceGwDownIdeal.nD Cert.ReferenceGwDownIdeal.τ).loc Cert.ReferenceGwDownIdeal.main_arg1) = m' ((c.tc : Thread Cert.ReferenceGwDownIdeal.nD Cert.ReferenceGwDownIdeal.τ).loc Cert.ReferenceGwDownIdeal.main_arg1)
          ∧ r.2.mem ((c.tc : Thread Cert.ReferenceGwDownIdeal.nD Cert.ReferenceGwDownIdeal.τ).loc Cert.ReferenceGwDownIdeal.main_arg2) = m' ((c.tc : Thread Cert.ReferenceGwDownIdeal.nD Cert.ReferenceGwDownIdeal.τ).loc Cert.ReferenceGwDownIdeal.main_arg2))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)
      ∧ m' ((c.tc : Thread Cert.ReferenceDactIdeal.nD Cert.ReferenceDactIdeal.τ).loc Cert.ReferenceDactIdeal.main_arg2) = m ((c.tc : Thread Cert.KernelDactIdeal.nD Cert.KernelDactIdeal.τ).loc Cert.KernelDactIdeal.main_arg2)) →
    ∃ (v0 : (c : Dev Cert.KernelDactIdeal.nD) → Buf (Elt Ideal) ((c.tc : Thread Cert.KernelDactIdeal.nD Cert.KernelDactIdeal.τ).loc Cert.KernelDactIdeal.main_v3)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v3) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
          ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v14) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v4_0)) (v1 : (c : Dev Cert.KernelUpIdeal.nD) → Buf (Elt Ideal) ((c.tc : Thread Cert.KernelUpIdeal.nD Cert.KernelUpIdeal.τ).loc Cert.KernelUpIdeal.main_v4_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_0) = v0 c
          ∧ r.2.mem ((c.tc : Thread Cert.KernelUpIdeal.nD Cert.KernelUpIdeal.τ).loc Cert.KernelUpIdeal.main_v4_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v1) = v0 c
          ∧ r.2.mem ((c.tc : Thread Cert.ReferenceUpIdeal.nD Cert.ReferenceUpIdeal.τ).loc Cert.ReferenceUpIdeal.main_v4) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelGwUp_KernelGwUpIdeal : Prop :=
  True

def algebraic_KernelGwUpIdeal_ReferenceGwUpIdeal [hKernelGwUpIdeal : Cert.KernelGwUpIdeal.Facts] [hReferenceGwUpIdeal : Cert.ReferenceGwUpIdeal.Facts] : Prop :=
  ∀ (m : (ℓ : Loc Cert.KernelGwUpIdeal.nD Cert.KernelGwUpIdeal.τ Cert.KernelGwUpIdeal.sig) → Buf (Elt Ideal) ℓ) (g : Dev Cert.KernelGwUpIdeal.nD → PrngReg)
    (m' : (ℓ : Loc Cert.ReferenceGwUpIdeal.nD Cert.ReferenceGwUpIdeal.τ Cert.ReferenceGwUpIdeal.sig) → Buf (Elt Ideal) ℓ) (g' : Dev Cert.ReferenceGwUpIdeal.nD → PrngReg), Pre_KernelGwUpIdeal m →
    (∀ c : Dev Cert.KernelGwUpIdeal.nD,
      m' ((c.tc : Thread Cert.ReferenceGwUpIdeal.nD Cert.ReferenceGwUpIdeal.τ).loc Cert.ReferenceGwUpIdeal.main_arg0) = m ((c.tc : Thread Cert.KernelGwUpIdeal.nD Cert.KernelGwUpIdeal.τ).loc Cert.KernelGwUpIdeal.main_arg0)
      ∧ m' ((c.tc : Thread Cert.ReferenceGwUpIdeal.nD Cert.ReferenceGwUpIdeal.τ).loc Cert.ReferenceGwUpIdeal.main_arg1) = m ((c.tc : Thread Cert.KernelGwUpIdeal.nD Cert.KernelGwUpIdeal.τ).loc Cert.KernelGwUpIdeal.main_arg1)
      ∧ m' ((c.tc : Thread Cert.ReferenceGwUpIdeal.nD Cert.ReferenceGwUpIdeal.τ).loc Cert.ReferenceGwUpIdeal.main_arg2) = m ((c.tc : Thread Cert.KernelGwUpIdeal.nD Cert.KernelGwUpIdeal.τ).loc Cert.KernelGwUpIdeal.main_arg2)) →
    ∃ (v0 : (c : Dev Cert.KernelGwUpIdeal.nD) → Buf (Elt Ideal) ((c.tc : Thread Cert.KernelGwUpIdeal.nD Cert.KernelGwUpIdeal.τ).loc Cert.KernelGwUpIdeal.main_v2)),
      θ_run (Cert.KernelGwUpIdeal.defs (F := Ideal)) (onTc (τ := Cert.KernelGwUpIdeal.τ) (Cert.KernelGwUpIdeal.main (F := Ideal))) ⟨m, fun _ => 0, g⟩ (fun r => ∀ c : Dev Cert.KernelGwUpIdeal.nD,
          r.2.mem ((c.tc : Thread Cert.KernelGwUpIdeal.nD Cert.KernelGwUpIdeal.τ).loc Cert.KernelGwUpIdeal.main_v2) = v0 c
          ∧ r.2.mem ((c.tc : Thread Cert.KernelGwUpIdeal.nD Cert.KernelGwUpIdeal.τ).loc Cert.KernelGwUpIdeal.main_arg0) = m ((c.tc : Thread Cert.KernelGwUpIdeal.nD Cert.KernelGwUpIdeal.τ).loc Cert.KernelGwUpIdeal.main_arg0)
          ∧ r.2.mem ((c.tc : Thread Cert.KernelGwUpIdeal.nD Cert.KernelGwUpIdeal.τ).loc Cert.KernelGwUpIdeal.main_arg1) = m ((c.tc : Thread Cert.KernelGwUpIdeal.nD Cert.KernelGwUpIdeal.τ).loc Cert.KernelGwUpIdeal.main_arg1)
          ∧ r.2.mem ((c.tc : Thread Cert.KernelGwUpIdeal.nD Cert.KernelGwUpIdeal.τ).loc Cert.KernelGwUpIdeal.main_arg2) = m ((c.tc : Thread Cert.KernelGwUpIdeal.nD Cert.KernelGwUpIdeal.τ).loc Cert.KernelGwUpIdeal.main_arg2))
      ∧ θ_run (Cert.ReferenceGwUpIdeal.defs (F := Ideal)) (onTc (τ := Cert.ReferenceGwUpIdeal.τ) (Cert.ReferenceGwUpIdeal.main (F := Ideal))) ⟨m', fun _ => 0, g'⟩ (fun r => ∀ c : Dev Cert.ReferenceGwUpIdeal.nD,
          r.2.mem ((c.tc : Thread Cert.ReferenceGwUpIdeal.nD Cert.ReferenceGwUpIdeal.τ).loc Cert.ReferenceGwUpIdeal.main_v13) = v0 c
          ∧ r.2.mem ((c.tc : Thread Cert.ReferenceGwUpIdeal.nD Cert.ReferenceGwUpIdeal.τ).loc Cert.ReferenceGwUpIdeal.main_arg0) = m' ((c.tc : Thread Cert.ReferenceGwUpIdeal.nD Cert.ReferenceGwUpIdeal.τ).loc Cert.ReferenceGwUpIdeal.main_arg0)
          ∧ r.2.mem ((c.tc : Thread Cert.ReferenceGwUpIdeal.nD Cert.ReferenceGwUpIdeal.τ).loc Cert.ReferenceGwUpIdeal.main_arg1) = m' ((c.tc : Thread Cert.ReferenceGwUpIdeal.nD Cert.ReferenceGwUpIdeal.τ).loc Cert.ReferenceGwUpIdeal.main_arg1)
          ∧ r.2.mem ((c.tc : Thread Cert.ReferenceGwUpIdeal.nD Cert.ReferenceGwUpIdeal.τ).loc Cert.ReferenceGwUpIdeal.main_arg2) = m' ((c.tc : Thread Cert.ReferenceGwUpIdeal.nD Cert.ReferenceGwUpIdeal.τ).loc Cert.ReferenceGwUpIdeal.main_arg2))

def preserves_KernelDh2_KernelDh2Ideal : Prop :=
  True

def algebraic_KernelDh2Ideal_ReferenceDh2Ideal [hKernelDh2Ideal : Cert.KernelDh2Ideal.Facts] [hReferenceDh2Ideal : Cert.ReferenceDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)
      ∧ m' ((c.tc : Thread Cert.ReferenceDh2Ideal.nD Cert.ReferenceDh2Ideal.τ).loc Cert.ReferenceDh2Ideal.main_arg2) = m ((c.tc : Thread Cert.KernelDh2Ideal.nD Cert.KernelDh2Ideal.τ).loc Cert.KernelDh2Ideal.main_arg2)) →
    ∃ (v0 : (c : Dev Cert.KernelDh2Ideal.nD) → Buf (Elt Ideal) ((c.tc : Thread Cert.KernelDh2Ideal.nD Cert.KernelDh2Ideal.τ).loc Cert.KernelDh2Ideal.main_v4)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v4) = v0 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
          ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v3) = v0 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1)
          ∧ r.2.mem ((c.tc : Thread Cert.ReferenceDh2Ideal.nD Cert.ReferenceDh2Ideal.τ).loc Cert.ReferenceDh2Ideal.main_arg2) = m' ((c.tc : Thread Cert.ReferenceDh2Ideal.nD Cert.ReferenceDh2Ideal.τ).loc Cert.ReferenceDh2Ideal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelGwOut_KernelGwOutIdeal : Prop :=
  True

def algebraic_KernelGwOutIdeal_ReferenceGwOutIdeal [hKernelGwOutIdeal : Cert.KernelGwOutIdeal.Facts] [hReferenceGwOutIdeal : Cert.ReferenceGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg)
    (m' : (ℓ : Loc Cert.ReferenceGwOutIdeal.nD Cert.ReferenceGwOutIdeal.τ Cert.ReferenceGwOutIdeal.sig) → Buf (Elt Ideal) ℓ) (g' : Dev Cert.ReferenceGwOutIdeal.nD → PrngReg), Pre_KernelGwOutIdeal m →
    (∀ c : Dev Cert.KernelGwOutIdeal.nD,
      m' ((c.tc : Thread Cert.ReferenceGwOutIdeal.nD Cert.ReferenceGwOutIdeal.τ).loc Cert.ReferenceGwOutIdeal.main_arg0) = m ((c.tc : Thread Cert.KernelGwOutIdeal.nD Cert.KernelGwOutIdeal.τ).loc Cert.KernelGwOutIdeal.main_arg0)
      ∧ m' ((c.tc : Thread Cert.ReferenceGwOutIdeal.nD Cert.ReferenceGwOutIdeal.τ).loc Cert.ReferenceGwOutIdeal.main_arg1) = m ((c.tc : Thread Cert.KernelGwOutIdeal.nD Cert.KernelGwOutIdeal.τ).loc Cert.KernelGwOutIdeal.main_arg1)
      ∧ m' ((c.tc : Thread Cert.ReferenceGwOutIdeal.nD Cert.ReferenceGwOutIdeal.τ).loc Cert.ReferenceGwOutIdeal.main_arg2) = m ((c.tc : Thread Cert.KernelGwOutIdeal.nD Cert.KernelGwOutIdeal.τ).loc Cert.KernelGwOutIdeal.main_arg2)) →
    ∃ (v0 : (c : Dev Cert.KernelGwOutIdeal.nD) → Buf (Elt Ideal) ((c.tc : Thread Cert.KernelGwOutIdeal.nD Cert.KernelGwOutIdeal.τ).loc Cert.KernelGwOutIdeal.main_v2)),
      θ_run (Cert.KernelGwOutIdeal.defs (F := Ideal)) (onTc (τ := Cert.KernelGwOutIdeal.τ) (Cert.KernelGwOutIdeal.main (F := Ideal))) ⟨m, fun _ => 0, g⟩ (fun r => ∀ c : Dev Cert.KernelGwOutIdeal.nD,
          r.2.mem ((c.tc : Thread Cert.KernelGwOutIdeal.nD Cert.KernelGwOutIdeal.τ).loc Cert.KernelGwOutIdeal.main_v2) = v0 c
          ∧ r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
          ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1)
          ∧ r.2.mem ((c.tc : Thread Cert.KernelGwOutIdeal.nD Cert.KernelGwOutIdeal.τ).loc Cert.KernelGwOutIdeal.main_arg2) = m ((c.tc : Thread Cert.KernelGwOutIdeal.nD Cert.KernelGwOutIdeal.τ).loc Cert.KernelGwOutIdeal.main_arg2))
      ∧ θ_run (Cert.ReferenceGwOutIdeal.defs (F := Ideal)) (onTc (τ := Cert.ReferenceGwOutIdeal.τ) (Cert.ReferenceGwOutIdeal.main (F := Ideal))) ⟨m', fun _ => 0, g'⟩ (fun r => ∀ c : Dev Cert.ReferenceGwOutIdeal.nD,
          r.2.mem ((c.tc : Thread Cert.ReferenceGwOutIdeal.nD Cert.ReferenceGwOutIdeal.τ).loc Cert.ReferenceGwOutIdeal.main_v4) = v0 c
          ∧ r.2.mem ((c.tc : Thread Cert.ReferenceGwOutIdeal.nD Cert.ReferenceGwOutIdeal.τ).loc Cert.ReferenceGwOutIdeal.main_arg0) = m' ((c.tc : Thread Cert.ReferenceGwOutIdeal.nD Cert.ReferenceGwOutIdeal.τ).loc Cert.ReferenceGwOutIdeal.main_arg0)
          ∧ r.2.mem ((c.tc : Thread Cert.ReferenceGwOutIdeal.nD Cert.ReferenceGwOutIdeal.τ).loc Cert.ReferenceGwOutIdeal.main_arg1) = m' ((c.tc : Thread Cert.ReferenceGwOutIdeal.nD Cert.ReferenceGwOutIdeal.τ).loc Cert.ReferenceGwOutIdeal.main_arg1)
          ∧ r.2.mem ((c.tc : Thread Cert.ReferenceGwOutIdeal.nD Cert.ReferenceGwOutIdeal.τ).loc Cert.ReferenceGwOutIdeal.main_arg2) = m' ((c.tc : Thread Cert.ReferenceGwOutIdeal.nD Cert.ReferenceGwOutIdeal.τ).loc Cert.ReferenceGwOutIdeal.main_arg2))

def preserves_KernelDycat_KernelDycatIdeal : Prop :=
  True

def algebraic_KernelDycatIdeal_ReferenceDycatIdeal [hKernelDycatIdeal : Cert.KernelDycatIdeal.Facts] [hReferenceDycatIdeal : Cert.ReferenceDycatIdeal.Facts] : Prop :=
  ∀ (m : (ℓ : Loc Cert.KernelDycatIdeal.nD Cert.KernelDycatIdeal.τ Cert.KernelDycatIdeal.sig) → Buf (Elt Ideal) ℓ) (g : Dev Cert.KernelDycatIdeal.nD → PrngReg)
    (m' : (ℓ : Loc Cert.ReferenceDycatIdeal.nD Cert.ReferenceDycatIdeal.τ Cert.ReferenceDycatIdeal.sig) → Buf (Elt Ideal) ℓ) (g' : Dev Cert.ReferenceDycatIdeal.nD → PrngReg), Pre_KernelDycatIdeal m →
    (∀ c : Dev Cert.KernelDycatIdeal.nD,
      m' ((c.tc : Thread Cert.ReferenceDycatIdeal.nD Cert.ReferenceDycatIdeal.τ).loc Cert.ReferenceDycatIdeal.main_arg0) = m ((c.tc : Thread Cert.KernelDycatIdeal.nD Cert.KernelDycatIdeal.τ).loc Cert.KernelDycatIdeal.main_arg0)
      ∧ m' ((c.tc : Thread Cert.ReferenceDycatIdeal.nD Cert.ReferenceDycatIdeal.τ).loc Cert.ReferenceDycatIdeal.main_arg1) = m ((c.tc : Thread Cert.KernelDycatIdeal.nD Cert.KernelDycatIdeal.τ).loc Cert.KernelDycatIdeal.main_arg1)
      ∧ m' ((c.tc : Thread Cert.ReferenceDycatIdeal.nD Cert.ReferenceDycatIdeal.τ).loc Cert.ReferenceDycatIdeal.main_arg2) = m ((c.tc : Thread Cert.KernelDycatIdeal.nD Cert.KernelDycatIdeal.τ).loc Cert.KernelDycatIdeal.main_arg2)) →
    ∃ (v0 : (c : Dev Cert.KernelDycatIdeal.nD) → Buf (Elt Ideal) ((c.tc : Thread Cert.KernelDycatIdeal.nD Cert.KernelDycatIdeal.τ).loc Cert.KernelDycatIdeal.main_v2)),
      θ_run (Cert.KernelDycatIdeal.defs (F := Ideal)) (onTc (τ := Cert.KernelDycatIdeal.τ) (Cert.KernelDycatIdeal.main (F := Ideal))) ⟨m, fun _ => 0, g⟩ (fun r => ∀ c : Dev Cert.KernelDycatIdeal.nD,
          r.2.mem ((c.tc : Thread Cert.KernelDycatIdeal.nD Cert.KernelDycatIdeal.τ).loc Cert.KernelDycatIdeal.main_v2) = v0 c
          ∧ r.2.mem ((c.tc : Thread Cert.KernelDycatIdeal.nD Cert.KernelDycatIdeal.τ).loc Cert.KernelDycatIdeal.main_arg0) = m ((c.tc : Thread Cert.KernelDycatIdeal.nD Cert.KernelDycatIdeal.τ).loc Cert.KernelDycatIdeal.main_arg0)
          ∧ r.2.mem ((c.tc : Thread Cert.KernelDycatIdeal.nD Cert.KernelDycatIdeal.τ).loc Cert.KernelDycatIdeal.main_arg1) = m ((c.tc : Thread Cert.KernelDycatIdeal.nD Cert.KernelDycatIdeal.τ).loc Cert.KernelDycatIdeal.main_arg1)
          ∧ r.2.mem ((c.tc : Thread Cert.KernelDycatIdeal.nD Cert.KernelDycatIdeal.τ).loc Cert.KernelDycatIdeal.main_arg2) = m ((c.tc : Thread Cert.KernelDycatIdeal.nD Cert.KernelDycatIdeal.τ).loc Cert.KernelDycatIdeal.main_arg2))
      ∧ θ_run (Cert.ReferenceDycatIdeal.defs (F := Ideal)) (onTc (τ := Cert.ReferenceDycatIdeal.τ) (Cert.ReferenceDycatIdeal.main (F := Ideal))) ⟨m', fun _ => 0, g'⟩ (fun r => ∀ c : Dev Cert.ReferenceDycatIdeal.nD,
          r.2.mem ((c.tc : Thread Cert.ReferenceDycatIdeal.nD Cert.ReferenceDycatIdeal.τ).loc Cert.ReferenceDycatIdeal.main_v3) = v0 c
          ∧ r.2.mem ((c.tc : Thread Cert.ReferenceDycatIdeal.nD Cert.ReferenceDycatIdeal.τ).loc Cert.ReferenceDycatIdeal.main_arg0) = m' ((c.tc : Thread Cert.ReferenceDycatIdeal.nD Cert.ReferenceDycatIdeal.τ).loc Cert.ReferenceDycatIdeal.main_arg0)
          ∧ r.2.mem ((c.tc : Thread Cert.ReferenceDycatIdeal.nD Cert.ReferenceDycatIdeal.τ).loc Cert.ReferenceDycatIdeal.main_arg1) = m' ((c.tc : Thread Cert.ReferenceDycatIdeal.nD Cert.ReferenceDycatIdeal.τ).loc Cert.ReferenceDycatIdeal.main_arg1)
          ∧ r.2.mem ((c.tc : Thread Cert.ReferenceDycatIdeal.nD Cert.ReferenceDycatIdeal.τ).loc Cert.ReferenceDycatIdeal.main_arg2) = m' ((c.tc : Thread Cert.ReferenceDycatIdeal.nD Cert.ReferenceDycatIdeal.τ).loc Cert.ReferenceDycatIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v1) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelGwUkv_KernelGwUkvIdeal : Prop :=
  True

def algebraic_KernelGwUkvIdeal_ReferenceGwUkvIdeal [hKernelGwUkvIdeal : Cert.KernelGwUkvIdeal.Facts] [hReferenceGwUkvIdeal : Cert.ReferenceGwUkvIdeal.Facts] : Prop :=
  ∀ (m : (ℓ : Loc Cert.KernelGwUkvIdeal.nD Cert.KernelGwUkvIdeal.τ Cert.KernelGwUkvIdeal.sig) → Buf (Elt Ideal) ℓ) (g : Dev Cert.KernelGwUkvIdeal.nD → PrngReg)
    (m' : (ℓ : Loc Cert.ReferenceGwUkvIdeal.nD Cert.ReferenceGwUkvIdeal.τ Cert.ReferenceGwUkvIdeal.sig) → Buf (Elt Ideal) ℓ) (g' : Dev Cert.ReferenceGwUkvIdeal.nD → PrngReg), Pre_KernelGwUkvIdeal m →
    (∀ c : Dev Cert.KernelGwUkvIdeal.nD,
      m' ((c.tc : Thread Cert.ReferenceGwUkvIdeal.nD Cert.ReferenceGwUkvIdeal.τ).loc Cert.ReferenceGwUkvIdeal.main_arg0) = m ((c.tc : Thread Cert.KernelGwUkvIdeal.nD Cert.KernelGwUkvIdeal.τ).loc Cert.KernelGwUkvIdeal.main_arg0)
      ∧ m' ((c.tc : Thread Cert.ReferenceGwUkvIdeal.nD Cert.ReferenceGwUkvIdeal.τ).loc Cert.ReferenceGwUkvIdeal.main_arg1) = m ((c.tc : Thread Cert.KernelGwUkvIdeal.nD Cert.KernelGwUkvIdeal.τ).loc Cert.KernelGwUkvIdeal.main_arg1)
      ∧ m' ((c.tc : Thread Cert.ReferenceGwUkvIdeal.nD Cert.ReferenceGwUkvIdeal.τ).loc Cert.ReferenceGwUkvIdeal.main_arg2) = m ((c.tc : Thread Cert.KernelGwUkvIdeal.nD Cert.KernelGwUkvIdeal.τ).loc Cert.KernelGwUkvIdeal.main_arg2)) →
    ∃ (v0 : (c : Dev Cert.KernelGwUkvIdeal.nD) → Buf (Elt Ideal) ((c.tc : Thread Cert.KernelGwUkvIdeal.nD Cert.KernelGwUkvIdeal.τ).loc Cert.KernelGwUkvIdeal.main_v2)),
      θ_run (Cert.KernelGwUkvIdeal.defs (F := Ideal)) (onTc (τ := Cert.KernelGwUkvIdeal.τ) (Cert.KernelGwUkvIdeal.main (F := Ideal))) ⟨m, fun _ => 0, g⟩ (fun r => ∀ c : Dev Cert.KernelGwUkvIdeal.nD,
          r.2.mem ((c.tc : Thread Cert.KernelGwUkvIdeal.nD Cert.KernelGwUkvIdeal.τ).loc Cert.KernelGwUkvIdeal.main_v2) = v0 c
          ∧ r.2.mem ((c.tc : Thread Cert.KernelGwUkvIdeal.nD Cert.KernelGwUkvIdeal.τ).loc Cert.KernelGwUkvIdeal.main_arg0) = m ((c.tc : Thread Cert.KernelGwUkvIdeal.nD Cert.KernelGwUkvIdeal.τ).loc Cert.KernelGwUkvIdeal.main_arg0)
          ∧ r.2.mem ((c.tc : Thread Cert.KernelGwUkvIdeal.nD Cert.KernelGwUkvIdeal.τ).loc Cert.KernelGwUkvIdeal.main_arg1) = m ((c.tc : Thread Cert.KernelGwUkvIdeal.nD Cert.KernelGwUkvIdeal.τ).loc Cert.KernelGwUkvIdeal.main_arg1)
          ∧ r.2.mem ((c.tc : Thread Cert.KernelGwUkvIdeal.nD Cert.KernelGwUkvIdeal.τ).loc Cert.KernelGwUkvIdeal.main_arg2) = m ((c.tc : Thread Cert.KernelGwUkvIdeal.nD Cert.KernelGwUkvIdeal.τ).loc Cert.KernelGwUkvIdeal.main_arg2))
      ∧ θ_run (Cert.ReferenceGwUkvIdeal.defs (F := Ideal)) (onTc (τ := Cert.ReferenceGwUkvIdeal.τ) (Cert.ReferenceGwUkvIdeal.main (F := Ideal))) ⟨m', fun _ => 0, g'⟩ (fun r => ∀ c : Dev Cert.ReferenceGwUkvIdeal.nD,
          r.2.mem ((c.tc : Thread Cert.ReferenceGwUkvIdeal.nD Cert.ReferenceGwUkvIdeal.τ).loc Cert.ReferenceGwUkvIdeal.main_v4) = v0 c
          ∧ r.2.mem ((c.tc : Thread Cert.ReferenceGwUkvIdeal.nD Cert.ReferenceGwUkvIdeal.τ).loc Cert.ReferenceGwUkvIdeal.main_arg0) = m' ((c.tc : Thread Cert.ReferenceGwUkvIdeal.nD Cert.ReferenceGwUkvIdeal.τ).loc Cert.ReferenceGwUkvIdeal.main_arg0)
          ∧ r.2.mem ((c.tc : Thread Cert.ReferenceGwUkvIdeal.nD Cert.ReferenceGwUkvIdeal.τ).loc Cert.ReferenceGwUkvIdeal.main_arg1) = m' ((c.tc : Thread Cert.ReferenceGwUkvIdeal.nD Cert.ReferenceGwUkvIdeal.τ).loc Cert.ReferenceGwUkvIdeal.main_arg1)
          ∧ r.2.mem ((c.tc : Thread Cert.ReferenceGwUkvIdeal.nD Cert.ReferenceGwUkvIdeal.τ).loc Cert.ReferenceGwUkvIdeal.main_arg2) = m' ((c.tc : Thread Cert.ReferenceGwUkvIdeal.nD Cert.ReferenceGwUkvIdeal.τ).loc Cert.ReferenceGwUkvIdeal.main_arg2))

def preserves_KernelDckv_KernelDckvIdeal : Prop :=
  True

def algebraic_KernelDckvIdeal_ReferenceDckvIdeal [hKernelDckvIdeal : Cert.KernelDckvIdeal.Facts] [hReferenceDckvIdeal : Cert.ReferenceDckvIdeal.Facts] : Prop :=
  ∀ (m : (ℓ : Loc Cert.KernelDckvIdeal.nD Cert.KernelDckvIdeal.τ Cert.KernelDckvIdeal.sig) → Buf (Elt Ideal) ℓ) (g : Dev Cert.KernelDckvIdeal.nD → PrngReg)
    (m' : (ℓ : Loc Cert.ReferenceDckvIdeal.nD Cert.ReferenceDckvIdeal.τ Cert.ReferenceDckvIdeal.sig) → Buf (Elt Ideal) ℓ) (g' : Dev Cert.ReferenceDckvIdeal.nD → PrngReg), Pre_KernelDckvIdeal m →
    (∀ c : Dev Cert.KernelDckvIdeal.nD,
      m' ((c.tc : Thread Cert.ReferenceDckvIdeal.nD Cert.ReferenceDckvIdeal.τ).loc Cert.ReferenceDckvIdeal.main_arg0) = m ((c.tc : Thread Cert.KernelDckvIdeal.nD Cert.KernelDckvIdeal.τ).loc Cert.KernelDckvIdeal.main_arg0)
      ∧ m' ((c.tc : Thread Cert.ReferenceDckvIdeal.nD Cert.ReferenceDckvIdeal.τ).loc Cert.ReferenceDckvIdeal.main_arg1) = m ((c.tc : Thread Cert.KernelDckvIdeal.nD Cert.KernelDckvIdeal.τ).loc Cert.KernelDckvIdeal.main_arg1)
      ∧ m' ((c.tc : Thread Cert.ReferenceDckvIdeal.nD Cert.ReferenceDckvIdeal.τ).loc Cert.ReferenceDckvIdeal.main_arg2) = m ((c.tc : Thread Cert.KernelDckvIdeal.nD Cert.KernelDckvIdeal.τ).loc Cert.KernelDckvIdeal.main_arg2)) →
    ∃ (v0 : (c : Dev Cert.KernelDckvIdeal.nD) → Buf (Elt Ideal) ((c.tc : Thread Cert.KernelDckvIdeal.nD Cert.KernelDckvIdeal.τ).loc Cert.KernelDckvIdeal.main_v2)),
      θ_run (Cert.KernelDckvIdeal.defs (F := Ideal)) (onTc (τ := Cert.KernelDckvIdeal.τ) (Cert.KernelDckvIdeal.main (F := Ideal))) ⟨m, fun _ => 0, g⟩ (fun r => ∀ c : Dev Cert.KernelDckvIdeal.nD,
          r.2.mem ((c.tc : Thread Cert.KernelDckvIdeal.nD Cert.KernelDckvIdeal.τ).loc Cert.KernelDckvIdeal.main_v2) = v0 c
          ∧ r.2.mem ((c.tc : Thread Cert.KernelDckvIdeal.nD Cert.KernelDckvIdeal.τ).loc Cert.KernelDckvIdeal.main_arg0) = m ((c.tc : Thread Cert.KernelDckvIdeal.nD Cert.KernelDckvIdeal.τ).loc Cert.KernelDckvIdeal.main_arg0)
          ∧ r.2.mem ((c.tc : Thread Cert.KernelDckvIdeal.nD Cert.KernelDckvIdeal.τ).loc Cert.KernelDckvIdeal.main_arg1) = m ((c.tc : Thread Cert.KernelDckvIdeal.nD Cert.KernelDckvIdeal.τ).loc Cert.KernelDckvIdeal.main_arg1)
          ∧ r.2.mem ((c.tc : Thread Cert.KernelDckvIdeal.nD Cert.KernelDckvIdeal.τ).loc Cert.KernelDckvIdeal.main_arg2) = m ((c.tc : Thread Cert.KernelDckvIdeal.nD Cert.KernelDckvIdeal.τ).loc Cert.KernelDckvIdeal.main_arg2))
      ∧ θ_run (Cert.ReferenceDckvIdeal.defs (F := Ideal)) (onTc (τ := Cert.ReferenceDckvIdeal.τ) (Cert.ReferenceDckvIdeal.main (F := Ideal))) ⟨m', fun _ => 0, g'⟩ (fun r => ∀ c : Dev Cert.ReferenceDckvIdeal.nD,
          r.2.mem ((c.tc : Thread Cert.ReferenceDckvIdeal.nD Cert.ReferenceDckvIdeal.τ).loc Cert.ReferenceDckvIdeal.main_v3) = v0 c
          ∧ r.2.mem ((c.tc : Thread Cert.ReferenceDckvIdeal.nD Cert.ReferenceDckvIdeal.τ).loc Cert.ReferenceDckvIdeal.main_arg0) = m' ((c.tc : Thread Cert.ReferenceDckvIdeal.nD Cert.ReferenceDckvIdeal.τ).loc Cert.ReferenceDckvIdeal.main_arg0)
          ∧ r.2.mem ((c.tc : Thread Cert.ReferenceDckvIdeal.nD Cert.ReferenceDckvIdeal.τ).loc Cert.ReferenceDckvIdeal.main_arg1) = m' ((c.tc : Thread Cert.ReferenceDckvIdeal.nD Cert.ReferenceDckvIdeal.τ).loc Cert.ReferenceDckvIdeal.main_arg1)
          ∧ r.2.mem ((c.tc : Thread Cert.ReferenceDckvIdeal.nD Cert.ReferenceDckvIdeal.τ).loc Cert.ReferenceDckvIdeal.main_arg2) = m' ((c.tc : Thread Cert.ReferenceDckvIdeal.nD Cert.ReferenceDckvIdeal.τ).loc Cert.ReferenceDckvIdeal.main_arg2))

def preserves_KernelAdamwMlp_KernelAdamwMlpIdeal : Prop :=
  True

def algebraic_KernelAdamwMlpIdeal_ReferenceAdamwMlpIdeal [hKernelAdamwMlpIdeal : Cert.KernelAdamwMlpIdeal.Facts] [hReferenceAdamwMlpIdeal : Cert.ReferenceAdamwMlpIdeal.Facts] : Prop :=
  ∀ (m : (ℓ : Loc Cert.KernelAdamwMlpIdeal.nD Cert.KernelAdamwMlpIdeal.τ Cert.KernelAdamwMlpIdeal.sig) → Buf (Elt Ideal) ℓ) (g : Dev Cert.KernelAdamwMlpIdeal.nD → PrngReg)
    (m' : (ℓ : Loc Cert.ReferenceAdamwMlpIdeal.nD Cert.ReferenceAdamwMlpIdeal.τ Cert.ReferenceAdamwMlpIdeal.sig) → Buf (Elt Ideal) ℓ) (g' : Dev Cert.ReferenceAdamwMlpIdeal.nD → PrngReg), Pre_KernelAdamwMlpIdeal m →
    (∀ c : Dev Cert.KernelAdamwMlpIdeal.nD,
      m' ((c.tc : Thread Cert.ReferenceAdamwMlpIdeal.nD Cert.ReferenceAdamwMlpIdeal.τ).loc Cert.ReferenceAdamwMlpIdeal.main_arg0) = m ((c.tc : Thread Cert.KernelAdamwMlpIdeal.nD Cert.KernelAdamwMlpIdeal.τ).loc Cert.KernelAdamwMlpIdeal.main_arg0)
      ∧ m' ((c.tc : Thread Cert.ReferenceAdamwMlpIdeal.nD Cert.ReferenceAdamwMlpIdeal.τ).loc Cert.ReferenceAdamwMlpIdeal.main_arg1) = m ((c.tc : Thread Cert.KernelAdamwMlpIdeal.nD Cert.KernelAdamwMlpIdeal.τ).loc Cert.KernelAdamwMlpIdeal.main_arg1)
      ∧ m' ((c.tc : Thread Cert.ReferenceAdamwMlpIdeal.nD Cert.ReferenceAdamwMlpIdeal.τ).loc Cert.ReferenceAdamwMlpIdeal.main_arg2) = m ((c.tc : Thread Cert.KernelAdamwMlpIdeal.nD Cert.KernelAdamwMlpIdeal.τ).loc Cert.KernelAdamwMlpIdeal.main_arg2)
      ∧ m' ((c.tc : Thread Cert.ReferenceAdamwMlpIdeal.nD Cert.ReferenceAdamwMlpIdeal.τ).loc Cert.ReferenceAdamwMlpIdeal.main_arg3) = m ((c.tc : Thread Cert.KernelAdamwMlpIdeal.nD Cert.KernelAdamwMlpIdeal.τ).loc Cert.KernelAdamwMlpIdeal.main_arg3)) →
    ∃ (v0 : (c : Dev Cert.KernelAdamwMlpIdeal.nD) → Buf (Elt Ideal) ((c.tc : Thread Cert.KernelAdamwMlpIdeal.nD Cert.KernelAdamwMlpIdeal.τ).loc Cert.KernelAdamwMlpIdeal.main_v0_0)) (v1 : (c : Dev Cert.KernelAdamwMlpIdeal.nD) → Buf (Elt Ideal) ((c.tc : Thread Cert.KernelAdamwMlpIdeal.nD Cert.KernelAdamwMlpIdeal.τ).loc Cert.KernelAdamwMlpIdeal.main_v0_1)) (v2 : (c : Dev Cert.KernelAdamwMlpIdeal.nD) → Buf (Elt Ideal) ((c.tc : Thread Cert.KernelAdamwMlpIdeal.nD Cert.KernelAdamwMlpIdeal.τ).loc Cert.KernelAdamwMlpIdeal.main_v0_2)) (v3 : (c : Dev Cert.KernelAdamwMlpIdeal.nD) → Buf (Elt Ideal) ((c.tc : Thread Cert.KernelAdamwMlpIdeal.nD Cert.KernelAdamwMlpIdeal.τ).loc Cert.KernelAdamwMlpIdeal.main_v0_3)),
      θ_run (Cert.KernelAdamwMlpIdeal.defs (F := Ideal)) (onTc (τ := Cert.KernelAdamwMlpIdeal.τ) (Cert.KernelAdamwMlpIdeal.main (F := Ideal))) ⟨m, fun _ => 0, g⟩ (fun r => ∀ c : Dev Cert.KernelAdamwMlpIdeal.nD,
          r.2.mem ((c.tc : Thread Cert.KernelAdamwMlpIdeal.nD Cert.KernelAdamwMlpIdeal.τ).loc Cert.KernelAdamwMlpIdeal.main_v0_0) = v0 c
          ∧ r.2.mem ((c.tc : Thread Cert.KernelAdamwMlpIdeal.nD Cert.KernelAdamwMlpIdeal.τ).loc Cert.KernelAdamwMlpIdeal.main_v0_1) = v1 c
          ∧ r.2.mem ((c.tc : Thread Cert.KernelAdamwMlpIdeal.nD Cert.KernelAdamwMlpIdeal.τ).loc Cert.KernelAdamwMlpIdeal.main_v0_2) = v2 c
          ∧ r.2.mem ((c.tc : Thread Cert.KernelAdamwMlpIdeal.nD Cert.KernelAdamwMlpIdeal.τ).loc Cert.KernelAdamwMlpIdeal.main_v0_3) = v3 c
          ∧ r.2.mem ((c.tc : Thread Cert.KernelAdamwMlpIdeal.nD Cert.KernelAdamwMlpIdeal.τ).loc Cert.KernelAdamwMlpIdeal.main_arg0) = m ((c.tc : Thread Cert.KernelAdamwMlpIdeal.nD Cert.KernelAdamwMlpIdeal.τ).loc Cert.KernelAdamwMlpIdeal.main_arg0)
          ∧ r.2.mem ((c.tc : Thread Cert.KernelAdamwMlpIdeal.nD Cert.KernelAdamwMlpIdeal.τ).loc Cert.KernelAdamwMlpIdeal.main_arg1) = m ((c.tc : Thread Cert.KernelAdamwMlpIdeal.nD Cert.KernelAdamwMlpIdeal.τ).loc Cert.KernelAdamwMlpIdeal.main_arg1)
          ∧ r.2.mem ((c.tc : Thread Cert.KernelAdamwMlpIdeal.nD Cert.KernelAdamwMlpIdeal.τ).loc Cert.KernelAdamwMlpIdeal.main_arg2) = m ((c.tc : Thread Cert.KernelAdamwMlpIdeal.nD Cert.KernelAdamwMlpIdeal.τ).loc Cert.KernelAdamwMlpIdeal.main_arg2)
          ∧ r.2.mem ((c.tc : Thread Cert.KernelAdamwMlpIdeal.nD Cert.KernelAdamwMlpIdeal.τ).loc Cert.KernelAdamwMlpIdeal.main_arg3) = m ((c.tc : Thread Cert.KernelAdamwMlpIdeal.nD Cert.KernelAdamwMlpIdeal.τ).loc Cert.KernelAdamwMlpIdeal.main_arg3))
      ∧ θ_run (Cert.ReferenceAdamwMlpIdeal.defs (F := Ideal)) (onTc (τ := Cert.ReferenceAdamwMlpIdeal.τ) (Cert.ReferenceAdamwMlpIdeal.main (F := Ideal))) ⟨m', fun _ => 0, g'⟩ (fun r => ∀ c : Dev Cert.ReferenceAdamwMlpIdeal.nD,
          r.2.mem ((c.tc : Thread Cert.ReferenceAdamwMlpIdeal.nD Cert.ReferenceAdamwMlpIdeal.τ).loc Cert.ReferenceAdamwMlpIdeal.main_v23) = v0 c
          ∧ r.2.mem ((c.tc : Thread Cert.ReferenceAdamwMlpIdeal.nD Cert.ReferenceAdamwMlpIdeal.τ).loc Cert.ReferenceAdamwMlpIdeal.main_v4) = v1 c
          ∧ r.2.mem ((c.tc : Thread Cert.ReferenceAdamwMlpIdeal.nD Cert.ReferenceAdamwMlpIdeal.τ).loc Cert.ReferenceAdamwMlpIdeal.main_v10) = v2 c
          ∧ r.2.mem ((c.tc : Thread Cert.ReferenceAdamwMlpIdeal.nD Cert.ReferenceAdamwMlpIdeal.τ).loc Cert.ReferenceAdamwMlpIdeal.main_arg1) = v3 c
          ∧ r.2.mem ((c.tc : Thread Cert.ReferenceAdamwMlpIdeal.nD Cert.ReferenceAdamwMlpIdeal.τ).loc Cert.ReferenceAdamwMlpIdeal.main_arg0) = m' ((c.tc : Thread Cert.ReferenceAdamwMlpIdeal.nD Cert.ReferenceAdamwMlpIdeal.τ).loc Cert.ReferenceAdamwMlpIdeal.main_arg0)
          ∧ r.2.mem ((c.tc : Thread Cert.ReferenceAdamwMlpIdeal.nD Cert.ReferenceAdamwMlpIdeal.τ).loc Cert.ReferenceAdamwMlpIdeal.main_arg1) = m' ((c.tc : Thread Cert.ReferenceAdamwMlpIdeal.nD Cert.ReferenceAdamwMlpIdeal.τ).loc Cert.ReferenceAdamwMlpIdeal.main_arg1)
          ∧ r.2.mem ((c.tc : Thread Cert.ReferenceAdamwMlpIdeal.nD Cert.ReferenceAdamwMlpIdeal.τ).loc Cert.ReferenceAdamwMlpIdeal.main_arg2) = m' ((c.tc : Thread Cert.ReferenceAdamwMlpIdeal.nD Cert.ReferenceAdamwMlpIdeal.τ).loc Cert.ReferenceAdamwMlpIdeal.main_arg2)
          ∧ r.2.mem ((c.tc : Thread Cert.ReferenceAdamwMlpIdeal.nD Cert.ReferenceAdamwMlpIdeal.τ).loc Cert.ReferenceAdamwMlpIdeal.main_arg3) = m' ((c.tc : Thread Cert.ReferenceAdamwMlpIdeal.nD Cert.ReferenceAdamwMlpIdeal.τ).loc Cert.ReferenceAdamwMlpIdeal.main_arg3))

def preserves_KernelAdamwIn_KernelAdamwInIdeal : Prop :=
  True

def algebraic_KernelAdamwInIdeal_ReferenceAdamwInIdeal [hKernelAdamwInIdeal : Cert.KernelAdamwInIdeal.Facts] [hReferenceAdamwInIdeal : Cert.ReferenceAdamwInIdeal.Facts] : Prop :=
  ∀ (m : (ℓ : Loc Cert.KernelAdamwInIdeal.nD Cert.KernelAdamwInIdeal.τ Cert.KernelAdamwInIdeal.sig) → Buf (Elt Ideal) ℓ) (g : Dev Cert.KernelAdamwInIdeal.nD → PrngReg)
    (m' : (ℓ : Loc Cert.ReferenceAdamwInIdeal.nD Cert.ReferenceAdamwInIdeal.τ Cert.ReferenceAdamwInIdeal.sig) → Buf (Elt Ideal) ℓ) (g' : Dev Cert.ReferenceAdamwInIdeal.nD → PrngReg), Pre_KernelAdamwInIdeal m →
    (∀ c : Dev Cert.KernelAdamwInIdeal.nD,
      m' ((c.tc : Thread Cert.ReferenceAdamwInIdeal.nD Cert.ReferenceAdamwInIdeal.τ).loc Cert.ReferenceAdamwInIdeal.main_arg0) = m ((c.tc : Thread Cert.KernelAdamwInIdeal.nD Cert.KernelAdamwInIdeal.τ).loc Cert.KernelAdamwInIdeal.main_arg0)
      ∧ m' ((c.tc : Thread Cert.ReferenceAdamwInIdeal.nD Cert.ReferenceAdamwInIdeal.τ).loc Cert.ReferenceAdamwInIdeal.main_arg1) = m ((c.tc : Thread Cert.KernelAdamwInIdeal.nD Cert.KernelAdamwInIdeal.τ).loc Cert.KernelAdamwInIdeal.main_arg1)
      ∧ m' ((c.tc : Thread Cert.ReferenceAdamwInIdeal.nD Cert.ReferenceAdamwInIdeal.τ).loc Cert.ReferenceAdamwInIdeal.main_arg2) = m ((c.tc : Thread Cert.KernelAdamwInIdeal.nD Cert.KernelAdamwInIdeal.τ).loc Cert.KernelAdamwInIdeal.main_arg2)
      ∧ m' ((c.tc : Thread Cert.ReferenceAdamwInIdeal.nD Cert.ReferenceAdamwInIdeal.τ).loc Cert.ReferenceAdamwInIdeal.main_arg3) = m ((c.tc : Thread Cert.KernelAdamwInIdeal.nD Cert.KernelAdamwInIdeal.τ).loc Cert.KernelAdamwInIdeal.main_arg3)) →
    ∃ (v0 : (c : Dev Cert.KernelAdamwInIdeal.nD) → Buf (Elt Ideal) ((c.tc : Thread Cert.KernelAdamwInIdeal.nD Cert.KernelAdamwInIdeal.τ).loc Cert.KernelAdamwInIdeal.main_v0_0)) (v1 : (c : Dev Cert.KernelAdamwInIdeal.nD) → Buf (Elt Ideal) ((c.tc : Thread Cert.KernelAdamwInIdeal.nD Cert.KernelAdamwInIdeal.τ).loc Cert.KernelAdamwInIdeal.main_v0_1)) (v2 : (c : Dev Cert.KernelAdamwInIdeal.nD) → Buf (Elt Ideal) ((c.tc : Thread Cert.KernelAdamwInIdeal.nD Cert.KernelAdamwInIdeal.τ).loc Cert.KernelAdamwInIdeal.main_v0_2)) (v3 : (c : Dev Cert.KernelAdamwInIdeal.nD) → Buf (Elt Ideal) ((c.tc : Thread Cert.KernelAdamwInIdeal.nD Cert.KernelAdamwInIdeal.τ).loc Cert.KernelAdamwInIdeal.main_v0_3)),
      θ_run (Cert.KernelAdamwInIdeal.defs (F := Ideal)) (onTc (τ := Cert.KernelAdamwInIdeal.τ) (Cert.KernelAdamwInIdeal.main (F := Ideal))) ⟨m, fun _ => 0, g⟩ (fun r => ∀ c : Dev Cert.KernelAdamwInIdeal.nD,
          r.2.mem ((c.tc : Thread Cert.KernelAdamwInIdeal.nD Cert.KernelAdamwInIdeal.τ).loc Cert.KernelAdamwInIdeal.main_v0_0) = v0 c
          ∧ r.2.mem ((c.tc : Thread Cert.KernelAdamwInIdeal.nD Cert.KernelAdamwInIdeal.τ).loc Cert.KernelAdamwInIdeal.main_v0_1) = v1 c
          ∧ r.2.mem ((c.tc : Thread Cert.KernelAdamwInIdeal.nD Cert.KernelAdamwInIdeal.τ).loc Cert.KernelAdamwInIdeal.main_v0_2) = v2 c
          ∧ r.2.mem ((c.tc : Thread Cert.KernelAdamwInIdeal.nD Cert.KernelAdamwInIdeal.τ).loc Cert.KernelAdamwInIdeal.main_v0_3) = v3 c
          ∧ r.2.mem ((c.tc : Thread Cert.KernelAdamwInIdeal.nD Cert.KernelAdamwInIdeal.τ).loc Cert.KernelAdamwInIdeal.main_arg0) = m ((c.tc : Thread Cert.KernelAdamwInIdeal.nD Cert.KernelAdamwInIdeal.τ).loc Cert.KernelAdamwInIdeal.main_arg0)
          ∧ r.2.mem ((c.tc : Thread Cert.KernelAdamwInIdeal.nD Cert.KernelAdamwInIdeal.τ).loc Cert.KernelAdamwInIdeal.main_arg1) = m ((c.tc : Thread Cert.KernelAdamwInIdeal.nD Cert.KernelAdamwInIdeal.τ).loc Cert.KernelAdamwInIdeal.main_arg1)
          ∧ r.2.mem ((c.tc : Thread Cert.KernelAdamwInIdeal.nD Cert.KernelAdamwInIdeal.τ).loc Cert.KernelAdamwInIdeal.main_arg2) = m ((c.tc : Thread Cert.KernelAdamwInIdeal.nD Cert.KernelAdamwInIdeal.τ).loc Cert.KernelAdamwInIdeal.main_arg2)
          ∧ r.2.mem ((c.tc : Thread Cert.KernelAdamwInIdeal.nD Cert.KernelAdamwInIdeal.τ).loc Cert.KernelAdamwInIdeal.main_arg3) = m ((c.tc : Thread Cert.KernelAdamwInIdeal.nD Cert.KernelAdamwInIdeal.τ).loc Cert.KernelAdamwInIdeal.main_arg3))
      ∧ θ_run (Cert.ReferenceAdamwInIdeal.defs (F := Ideal)) (onTc (τ := Cert.ReferenceAdamwInIdeal.τ) (Cert.ReferenceAdamwInIdeal.main (F := Ideal))) ⟨m', fun _ => 0, g'⟩ (fun r => ∀ c : Dev Cert.ReferenceAdamwInIdeal.nD,
          r.2.mem ((c.tc : Thread Cert.ReferenceAdamwInIdeal.nD Cert.ReferenceAdamwInIdeal.τ).loc Cert.ReferenceAdamwInIdeal.main_v23) = v0 c
          ∧ r.2.mem ((c.tc : Thread Cert.ReferenceAdamwInIdeal.nD Cert.ReferenceAdamwInIdeal.τ).loc Cert.ReferenceAdamwInIdeal.main_v4) = v1 c
          ∧ r.2.mem ((c.tc : Thread Cert.ReferenceAdamwInIdeal.nD Cert.ReferenceAdamwInIdeal.τ).loc Cert.ReferenceAdamwInIdeal.main_v10) = v2 c
          ∧ r.2.mem ((c.tc : Thread Cert.ReferenceAdamwInIdeal.nD Cert.ReferenceAdamwInIdeal.τ).loc Cert.ReferenceAdamwInIdeal.main_arg1) = v3 c
          ∧ r.2.mem ((c.tc : Thread Cert.ReferenceAdamwInIdeal.nD Cert.ReferenceAdamwInIdeal.τ).loc Cert.ReferenceAdamwInIdeal.main_arg0) = m' ((c.tc : Thread Cert.ReferenceAdamwInIdeal.nD Cert.ReferenceAdamwInIdeal.τ).loc Cert.ReferenceAdamwInIdeal.main_arg0)
          ∧ r.2.mem ((c.tc : Thread Cert.ReferenceAdamwInIdeal.nD Cert.ReferenceAdamwInIdeal.τ).loc Cert.ReferenceAdamwInIdeal.main_arg1) = m' ((c.tc : Thread Cert.ReferenceAdamwInIdeal.nD Cert.ReferenceAdamwInIdeal.τ).loc Cert.ReferenceAdamwInIdeal.main_arg1)
          ∧ r.2.mem ((c.tc : Thread Cert.ReferenceAdamwInIdeal.nD Cert.ReferenceAdamwInIdeal.τ).loc Cert.ReferenceAdamwInIdeal.main_arg2) = m' ((c.tc : Thread Cert.ReferenceAdamwInIdeal.nD Cert.ReferenceAdamwInIdeal.τ).loc Cert.ReferenceAdamwInIdeal.main_arg2)
          ∧ r.2.mem ((c.tc : Thread Cert.ReferenceAdamwInIdeal.nD Cert.ReferenceAdamwInIdeal.τ).loc Cert.ReferenceAdamwInIdeal.main_arg3) = m' ((c.tc : Thread Cert.ReferenceAdamwInIdeal.nD Cert.ReferenceAdamwInIdeal.τ).loc Cert.ReferenceAdamwInIdeal.main_arg3))

def preserves_KernelAdamwUq_KernelAdamwUqIdeal : Prop :=
  True

def algebraic_KernelAdamwUqIdeal_ReferenceAdamwUqIdeal [hKernelAdamwUqIdeal : Cert.KernelAdamwUqIdeal.Facts] [hReferenceAdamwUqIdeal : Cert.ReferenceAdamwUqIdeal.Facts] : Prop :=
  ∀ (m : (ℓ : Loc Cert.KernelAdamwUqIdeal.nD Cert.KernelAdamwUqIdeal.τ Cert.KernelAdamwUqIdeal.sig) → Buf (Elt Ideal) ℓ) (g : Dev Cert.KernelAdamwUqIdeal.nD → PrngReg)
    (m' : (ℓ : Loc Cert.ReferenceAdamwUqIdeal.nD Cert.ReferenceAdamwUqIdeal.τ Cert.ReferenceAdamwUqIdeal.sig) → Buf (Elt Ideal) ℓ) (g' : Dev Cert.ReferenceAdamwUqIdeal.nD → PrngReg), Pre_KernelAdamwUqIdeal m →
    (∀ c : Dev Cert.KernelAdamwUqIdeal.nD,
      m' ((c.tc : Thread Cert.ReferenceAdamwUqIdeal.nD Cert.ReferenceAdamwUqIdeal.τ).loc Cert.ReferenceAdamwUqIdeal.main_arg0) = m ((c.tc : Thread Cert.KernelAdamwUqIdeal.nD Cert.KernelAdamwUqIdeal.τ).loc Cert.KernelAdamwUqIdeal.main_arg0)
      ∧ m' ((c.tc : Thread Cert.ReferenceAdamwUqIdeal.nD Cert.ReferenceAdamwUqIdeal.τ).loc Cert.ReferenceAdamwUqIdeal.main_arg1) = m ((c.tc : Thread Cert.KernelAdamwUqIdeal.nD Cert.KernelAdamwUqIdeal.τ).loc Cert.KernelAdamwUqIdeal.main_arg1)
      ∧ m' ((c.tc : Thread Cert.ReferenceAdamwUqIdeal.nD Cert.ReferenceAdamwUqIdeal.τ).loc Cert.ReferenceAdamwUqIdeal.main_arg2) = m ((c.tc : Thread Cert.KernelAdamwUqIdeal.nD Cert.KernelAdamwUqIdeal.τ).loc Cert.KernelAdamwUqIdeal.main_arg2)
      ∧ m' ((c.tc : Thread Cert.ReferenceAdamwUqIdeal.nD Cert.ReferenceAdamwUqIdeal.τ).loc Cert.ReferenceAdamwUqIdeal.main_arg3) = m ((c.tc : Thread Cert.KernelAdamwUqIdeal.nD Cert.KernelAdamwUqIdeal.τ).loc Cert.KernelAdamwUqIdeal.main_arg3)) →
    ∃ (v0 : (c : Dev Cert.KernelAdamwUqIdeal.nD) → Buf (Elt Ideal) ((c.tc : Thread Cert.KernelAdamwUqIdeal.nD Cert.KernelAdamwUqIdeal.τ).loc Cert.KernelAdamwUqIdeal.main_v0_0)) (v1 : (c : Dev Cert.KernelAdamwUqIdeal.nD) → Buf (Elt Ideal) ((c.tc : Thread Cert.KernelAdamwUqIdeal.nD Cert.KernelAdamwUqIdeal.τ).loc Cert.KernelAdamwUqIdeal.main_v0_1)) (v2 : (c : Dev Cert.KernelAdamwUqIdeal.nD) → Buf (Elt Ideal) ((c.tc : Thread Cert.KernelAdamwUqIdeal.nD Cert.KernelAdamwUqIdeal.τ).loc Cert.KernelAdamwUqIdeal.main_v0_2)) (v3 : (c : Dev Cert.KernelAdamwUqIdeal.nD) → Buf (Elt Ideal) ((c.tc : Thread Cert.KernelAdamwUqIdeal.nD Cert.KernelAdamwUqIdeal.τ).loc Cert.KernelAdamwUqIdeal.main_v0_3)),
      θ_run (Cert.KernelAdamwUqIdeal.defs (F := Ideal)) (onTc (τ := Cert.KernelAdamwUqIdeal.τ) (Cert.KernelAdamwUqIdeal.main (F := Ideal))) ⟨m, fun _ => 0, g⟩ (fun r => ∀ c : Dev Cert.KernelAdamwUqIdeal.nD,
          r.2.mem ((c.tc : Thread Cert.KernelAdamwUqIdeal.nD Cert.KernelAdamwUqIdeal.τ).loc Cert.KernelAdamwUqIdeal.main_v0_0) = v0 c
          ∧ r.2.mem ((c.tc : Thread Cert.KernelAdamwUqIdeal.nD Cert.KernelAdamwUqIdeal.τ).loc Cert.KernelAdamwUqIdeal.main_v0_1) = v1 c
          ∧ r.2.mem ((c.tc : Thread Cert.KernelAdamwUqIdeal.nD Cert.KernelAdamwUqIdeal.τ).loc Cert.KernelAdamwUqIdeal.main_v0_2) = v2 c
          ∧ r.2.mem ((c.tc : Thread Cert.KernelAdamwUqIdeal.nD Cert.KernelAdamwUqIdeal.τ).loc Cert.KernelAdamwUqIdeal.main_v0_3) = v3 c
          ∧ r.2.mem ((c.tc : Thread Cert.KernelAdamwUqIdeal.nD Cert.KernelAdamwUqIdeal.τ).loc Cert.KernelAdamwUqIdeal.main_arg0) = m ((c.tc : Thread Cert.KernelAdamwUqIdeal.nD Cert.KernelAdamwUqIdeal.τ).loc Cert.KernelAdamwUqIdeal.main_arg0)
          ∧ r.2.mem ((c.tc : Thread Cert.KernelAdamwUqIdeal.nD Cert.KernelAdamwUqIdeal.τ).loc Cert.KernelAdamwUqIdeal.main_arg1) = m ((c.tc : Thread Cert.KernelAdamwUqIdeal.nD Cert.KernelAdamwUqIdeal.τ).loc Cert.KernelAdamwUqIdeal.main_arg1)
          ∧ r.2.mem ((c.tc : Thread Cert.KernelAdamwUqIdeal.nD Cert.KernelAdamwUqIdeal.τ).loc Cert.KernelAdamwUqIdeal.main_arg2) = m ((c.tc : Thread Cert.KernelAdamwUqIdeal.nD Cert.KernelAdamwUqIdeal.τ).loc Cert.KernelAdamwUqIdeal.main_arg2)
          ∧ r.2.mem ((c.tc : Thread Cert.KernelAdamwUqIdeal.nD Cert.KernelAdamwUqIdeal.τ).loc Cert.KernelAdamwUqIdeal.main_arg3) = m ((c.tc : Thread Cert.KernelAdamwUqIdeal.nD Cert.KernelAdamwUqIdeal.τ).loc Cert.KernelAdamwUqIdeal.main_arg3))
      ∧ θ_run (Cert.ReferenceAdamwUqIdeal.defs (F := Ideal)) (onTc (τ := Cert.ReferenceAdamwUqIdeal.τ) (Cert.ReferenceAdamwUqIdeal.main (F := Ideal))) ⟨m', fun _ => 0, g'⟩ (fun r => ∀ c : Dev Cert.ReferenceAdamwUqIdeal.nD,
          r.2.mem ((c.tc : Thread Cert.ReferenceAdamwUqIdeal.nD Cert.ReferenceAdamwUqIdeal.τ).loc Cert.ReferenceAdamwUqIdeal.main_v23) = v0 c
          ∧ r.2.mem ((c.tc : Thread Cert.ReferenceAdamwUqIdeal.nD Cert.ReferenceAdamwUqIdeal.τ).loc Cert.ReferenceAdamwUqIdeal.main_v4) = v1 c
          ∧ r.2.mem ((c.tc : Thread Cert.ReferenceAdamwUqIdeal.nD Cert.ReferenceAdamwUqIdeal.τ).loc Cert.ReferenceAdamwUqIdeal.main_v10) = v2 c
          ∧ r.2.mem ((c.tc : Thread Cert.ReferenceAdamwUqIdeal.nD Cert.ReferenceAdamwUqIdeal.τ).loc Cert.ReferenceAdamwUqIdeal.main_arg1) = v3 c
          ∧ r.2.mem ((c.tc : Thread Cert.ReferenceAdamwUqIdeal.nD Cert.ReferenceAdamwUqIdeal.τ).loc Cert.ReferenceAdamwUqIdeal.main_arg0) = m' ((c.tc : Thread Cert.ReferenceAdamwUqIdeal.nD Cert.ReferenceAdamwUqIdeal.τ).loc Cert.ReferenceAdamwUqIdeal.main_arg0)
          ∧ r.2.mem ((c.tc : Thread Cert.ReferenceAdamwUqIdeal.nD Cert.ReferenceAdamwUqIdeal.τ).loc Cert.ReferenceAdamwUqIdeal.main_arg1) = m' ((c.tc : Thread Cert.ReferenceAdamwUqIdeal.nD Cert.ReferenceAdamwUqIdeal.τ).loc Cert.ReferenceAdamwUqIdeal.main_arg1)
          ∧ r.2.mem ((c.tc : Thread Cert.ReferenceAdamwUqIdeal.nD Cert.ReferenceAdamwUqIdeal.τ).loc Cert.ReferenceAdamwUqIdeal.main_arg2) = m' ((c.tc : Thread Cert.ReferenceAdamwUqIdeal.nD Cert.ReferenceAdamwUqIdeal.τ).loc Cert.ReferenceAdamwUqIdeal.main_arg2)
          ∧ r.2.mem ((c.tc : Thread Cert.ReferenceAdamwUqIdeal.nD Cert.ReferenceAdamwUqIdeal.τ).loc Cert.ReferenceAdamwUqIdeal.main_arg3) = m' ((c.tc : Thread Cert.ReferenceAdamwUqIdeal.nD Cert.ReferenceAdamwUqIdeal.τ).loc Cert.ReferenceAdamwUqIdeal.main_arg3))

def preserves_KernelAdamwUkv_KernelAdamwUkvIdeal : Prop :=
  True

def algebraic_KernelAdamwUkvIdeal_ReferenceAdamwUkvIdeal [hKernelAdamwUkvIdeal : Cert.KernelAdamwUkvIdeal.Facts] [hReferenceAdamwUkvIdeal : Cert.ReferenceAdamwUkvIdeal.Facts] : Prop :=
  ∀ (m : (ℓ : Loc Cert.KernelAdamwUkvIdeal.nD Cert.KernelAdamwUkvIdeal.τ Cert.KernelAdamwUkvIdeal.sig) → Buf (Elt Ideal) ℓ) (g : Dev Cert.KernelAdamwUkvIdeal.nD → PrngReg)
    (m' : (ℓ : Loc Cert.ReferenceAdamwUkvIdeal.nD Cert.ReferenceAdamwUkvIdeal.τ Cert.ReferenceAdamwUkvIdeal.sig) → Buf (Elt Ideal) ℓ) (g' : Dev Cert.ReferenceAdamwUkvIdeal.nD → PrngReg), Pre_KernelAdamwUkvIdeal m →
    (∀ c : Dev Cert.KernelAdamwUkvIdeal.nD,
      m' ((c.tc : Thread Cert.ReferenceAdamwUkvIdeal.nD Cert.ReferenceAdamwUkvIdeal.τ).loc Cert.ReferenceAdamwUkvIdeal.main_arg0) = m ((c.tc : Thread Cert.KernelAdamwUkvIdeal.nD Cert.KernelAdamwUkvIdeal.τ).loc Cert.KernelAdamwUkvIdeal.main_arg0)
      ∧ m' ((c.tc : Thread Cert.ReferenceAdamwUkvIdeal.nD Cert.ReferenceAdamwUkvIdeal.τ).loc Cert.ReferenceAdamwUkvIdeal.main_arg1) = m ((c.tc : Thread Cert.KernelAdamwUkvIdeal.nD Cert.KernelAdamwUkvIdeal.τ).loc Cert.KernelAdamwUkvIdeal.main_arg1)
      ∧ m' ((c.tc : Thread Cert.ReferenceAdamwUkvIdeal.nD Cert.ReferenceAdamwUkvIdeal.τ).loc Cert.ReferenceAdamwUkvIdeal.main_arg2) = m ((c.tc : Thread Cert.KernelAdamwUkvIdeal.nD Cert.KernelAdamwUkvIdeal.τ).loc Cert.KernelAdamwUkvIdeal.main_arg2)
      ∧ m' ((c.tc : Thread Cert.ReferenceAdamwUkvIdeal.nD Cert.ReferenceAdamwUkvIdeal.τ).loc Cert.ReferenceAdamwUkvIdeal.main_arg3) = m ((c.tc : Thread Cert.KernelAdamwUkvIdeal.nD Cert.KernelAdamwUkvIdeal.τ).loc Cert.KernelAdamwUkvIdeal.main_arg3)) →
    ∃ (v0 : (c : Dev Cert.KernelAdamwUkvIdeal.nD) → Buf (Elt Ideal) ((c.tc : Thread Cert.KernelAdamwUkvIdeal.nD Cert.KernelAdamwUkvIdeal.τ).loc Cert.KernelAdamwUkvIdeal.main_v0_0)) (v1 : (c : Dev Cert.KernelAdamwUkvIdeal.nD) → Buf (Elt Ideal) ((c.tc : Thread Cert.KernelAdamwUkvIdeal.nD Cert.KernelAdamwUkvIdeal.τ).loc Cert.KernelAdamwUkvIdeal.main_v0_1)) (v2 : (c : Dev Cert.KernelAdamwUkvIdeal.nD) → Buf (Elt Ideal) ((c.tc : Thread Cert.KernelAdamwUkvIdeal.nD Cert.KernelAdamwUkvIdeal.τ).loc Cert.KernelAdamwUkvIdeal.main_v0_2)) (v3 : (c : Dev Cert.KernelAdamwUkvIdeal.nD) → Buf (Elt Ideal) ((c.tc : Thread Cert.KernelAdamwUkvIdeal.nD Cert.KernelAdamwUkvIdeal.τ).loc Cert.KernelAdamwUkvIdeal.main_v0_3)),
      θ_run (Cert.KernelAdamwUkvIdeal.defs (F := Ideal)) (onTc (τ := Cert.KernelAdamwUkvIdeal.τ) (Cert.KernelAdamwUkvIdeal.main (F := Ideal))) ⟨m, fun _ => 0, g⟩ (fun r => ∀ c : Dev Cert.KernelAdamwUkvIdeal.nD,
          r.2.mem ((c.tc : Thread Cert.KernelAdamwUkvIdeal.nD Cert.KernelAdamwUkvIdeal.τ).loc Cert.KernelAdamwUkvIdeal.main_v0_0) = v0 c
          ∧ r.2.mem ((c.tc : Thread Cert.KernelAdamwUkvIdeal.nD Cert.KernelAdamwUkvIdeal.τ).loc Cert.KernelAdamwUkvIdeal.main_v0_1) = v1 c
          ∧ r.2.mem ((c.tc : Thread Cert.KernelAdamwUkvIdeal.nD Cert.KernelAdamwUkvIdeal.τ).loc Cert.KernelAdamwUkvIdeal.main_v0_2) = v2 c
          ∧ r.2.mem ((c.tc : Thread Cert.KernelAdamwUkvIdeal.nD Cert.KernelAdamwUkvIdeal.τ).loc Cert.KernelAdamwUkvIdeal.main_v0_3) = v3 c
          ∧ r.2.mem ((c.tc : Thread Cert.KernelAdamwUkvIdeal.nD Cert.KernelAdamwUkvIdeal.τ).loc Cert.KernelAdamwUkvIdeal.main_arg0) = m ((c.tc : Thread Cert.KernelAdamwUkvIdeal.nD Cert.KernelAdamwUkvIdeal.τ).loc Cert.KernelAdamwUkvIdeal.main_arg0)
          ∧ r.2.mem ((c.tc : Thread Cert.KernelAdamwUkvIdeal.nD Cert.KernelAdamwUkvIdeal.τ).loc Cert.KernelAdamwUkvIdeal.main_arg1) = m ((c.tc : Thread Cert.KernelAdamwUkvIdeal.nD Cert.KernelAdamwUkvIdeal.τ).loc Cert.KernelAdamwUkvIdeal.main_arg1)
          ∧ r.2.mem ((c.tc : Thread Cert.KernelAdamwUkvIdeal.nD Cert.KernelAdamwUkvIdeal.τ).loc Cert.KernelAdamwUkvIdeal.main_arg2) = m ((c.tc : Thread Cert.KernelAdamwUkvIdeal.nD Cert.KernelAdamwUkvIdeal.τ).loc Cert.KernelAdamwUkvIdeal.main_arg2)
          ∧ r.2.mem ((c.tc : Thread Cert.KernelAdamwUkvIdeal.nD Cert.KernelAdamwUkvIdeal.τ).loc Cert.KernelAdamwUkvIdeal.main_arg3) = m ((c.tc : Thread Cert.KernelAdamwUkvIdeal.nD Cert.KernelAdamwUkvIdeal.τ).loc Cert.KernelAdamwUkvIdeal.main_arg3))
      ∧ θ_run (Cert.ReferenceAdamwUkvIdeal.defs (F := Ideal)) (onTc (τ := Cert.ReferenceAdamwUkvIdeal.τ) (Cert.ReferenceAdamwUkvIdeal.main (F := Ideal))) ⟨m', fun _ => 0, g'⟩ (fun r => ∀ c : Dev Cert.ReferenceAdamwUkvIdeal.nD,
          r.2.mem ((c.tc : Thread Cert.ReferenceAdamwUkvIdeal.nD Cert.ReferenceAdamwUkvIdeal.τ).loc Cert.ReferenceAdamwUkvIdeal.main_v23) = v0 c
          ∧ r.2.mem ((c.tc : Thread Cert.ReferenceAdamwUkvIdeal.nD Cert.ReferenceAdamwUkvIdeal.τ).loc Cert.ReferenceAdamwUkvIdeal.main_v4) = v1 c
          ∧ r.2.mem ((c.tc : Thread Cert.ReferenceAdamwUkvIdeal.nD Cert.ReferenceAdamwUkvIdeal.τ).loc Cert.ReferenceAdamwUkvIdeal.main_v10) = v2 c
          ∧ r.2.mem ((c.tc : Thread Cert.ReferenceAdamwUkvIdeal.nD Cert.ReferenceAdamwUkvIdeal.τ).loc Cert.ReferenceAdamwUkvIdeal.main_arg1) = v3 c
          ∧ r.2.mem ((c.tc : Thread Cert.ReferenceAdamwUkvIdeal.nD Cert.ReferenceAdamwUkvIdeal.τ).loc Cert.ReferenceAdamwUkvIdeal.main_arg0) = m' ((c.tc : Thread Cert.ReferenceAdamwUkvIdeal.nD Cert.ReferenceAdamwUkvIdeal.τ).loc Cert.ReferenceAdamwUkvIdeal.main_arg0)
          ∧ r.2.mem ((c.tc : Thread Cert.ReferenceAdamwUkvIdeal.nD Cert.ReferenceAdamwUkvIdeal.τ).loc Cert.ReferenceAdamwUkvIdeal.main_arg1) = m' ((c.tc : Thread Cert.ReferenceAdamwUkvIdeal.nD Cert.ReferenceAdamwUkvIdeal.τ).loc Cert.ReferenceAdamwUkvIdeal.main_arg1)
          ∧ r.2.mem ((c.tc : Thread Cert.ReferenceAdamwUkvIdeal.nD Cert.ReferenceAdamwUkvIdeal.τ).loc Cert.ReferenceAdamwUkvIdeal.main_arg2) = m' ((c.tc : Thread Cert.ReferenceAdamwUkvIdeal.nD Cert.ReferenceAdamwUkvIdeal.τ).loc Cert.ReferenceAdamwUkvIdeal.main_arg2)
          ∧ r.2.mem ((c.tc : Thread Cert.ReferenceAdamwUkvIdeal.nD Cert.ReferenceAdamwUkvIdeal.τ).loc Cert.ReferenceAdamwUkvIdeal.main_arg3) = m' ((c.tc : Thread Cert.ReferenceAdamwUkvIdeal.nD Cert.ReferenceAdamwUkvIdeal.τ).loc Cert.ReferenceAdamwUkvIdeal.main_arg3))

def preserves_KernelAdamwO_KernelAdamwOIdeal : Prop :=
  True

def algebraic_KernelAdamwOIdeal_ReferenceAdamwOIdeal [hKernelAdamwOIdeal : Cert.KernelAdamwOIdeal.Facts] [hReferenceAdamwOIdeal : Cert.ReferenceAdamwOIdeal.Facts] : Prop :=
  ∀ (m : (ℓ : Loc Cert.KernelAdamwOIdeal.nD Cert.KernelAdamwOIdeal.τ Cert.KernelAdamwOIdeal.sig) → Buf (Elt Ideal) ℓ) (g : Dev Cert.KernelAdamwOIdeal.nD → PrngReg)
    (m' : (ℓ : Loc Cert.ReferenceAdamwOIdeal.nD Cert.ReferenceAdamwOIdeal.τ Cert.ReferenceAdamwOIdeal.sig) → Buf (Elt Ideal) ℓ) (g' : Dev Cert.ReferenceAdamwOIdeal.nD → PrngReg), Pre_KernelAdamwOIdeal m →
    (∀ c : Dev Cert.KernelAdamwOIdeal.nD,
      m' ((c.tc : Thread Cert.ReferenceAdamwOIdeal.nD Cert.ReferenceAdamwOIdeal.τ).loc Cert.ReferenceAdamwOIdeal.main_arg0) = m ((c.tc : Thread Cert.KernelAdamwOIdeal.nD Cert.KernelAdamwOIdeal.τ).loc Cert.KernelAdamwOIdeal.main_arg0)
      ∧ m' ((c.tc : Thread Cert.ReferenceAdamwOIdeal.nD Cert.ReferenceAdamwOIdeal.τ).loc Cert.ReferenceAdamwOIdeal.main_arg1) = m ((c.tc : Thread Cert.KernelAdamwOIdeal.nD Cert.KernelAdamwOIdeal.τ).loc Cert.KernelAdamwOIdeal.main_arg1)
      ∧ m' ((c.tc : Thread Cert.ReferenceAdamwOIdeal.nD Cert.ReferenceAdamwOIdeal.τ).loc Cert.ReferenceAdamwOIdeal.main_arg2) = m ((c.tc : Thread Cert.KernelAdamwOIdeal.nD Cert.KernelAdamwOIdeal.τ).loc Cert.KernelAdamwOIdeal.main_arg2)
      ∧ m' ((c.tc : Thread Cert.ReferenceAdamwOIdeal.nD Cert.ReferenceAdamwOIdeal.τ).loc Cert.ReferenceAdamwOIdeal.main_arg3) = m ((c.tc : Thread Cert.KernelAdamwOIdeal.nD Cert.KernelAdamwOIdeal.τ).loc Cert.KernelAdamwOIdeal.main_arg3)) →
    ∃ (v0 : (c : Dev Cert.KernelAdamwOIdeal.nD) → Buf (Elt Ideal) ((c.tc : Thread Cert.KernelAdamwOIdeal.nD Cert.KernelAdamwOIdeal.τ).loc Cert.KernelAdamwOIdeal.main_v0_0)) (v1 : (c : Dev Cert.KernelAdamwOIdeal.nD) → Buf (Elt Ideal) ((c.tc : Thread Cert.KernelAdamwOIdeal.nD Cert.KernelAdamwOIdeal.τ).loc Cert.KernelAdamwOIdeal.main_v0_1)) (v2 : (c : Dev Cert.KernelAdamwOIdeal.nD) → Buf (Elt Ideal) ((c.tc : Thread Cert.KernelAdamwOIdeal.nD Cert.KernelAdamwOIdeal.τ).loc Cert.KernelAdamwOIdeal.main_v0_2)) (v3 : (c : Dev Cert.KernelAdamwOIdeal.nD) → Buf (Elt Ideal) ((c.tc : Thread Cert.KernelAdamwOIdeal.nD Cert.KernelAdamwOIdeal.τ).loc Cert.KernelAdamwOIdeal.main_v0_3)),
      θ_run (Cert.KernelAdamwOIdeal.defs (F := Ideal)) (onTc (τ := Cert.KernelAdamwOIdeal.τ) (Cert.KernelAdamwOIdeal.main (F := Ideal))) ⟨m, fun _ => 0, g⟩ (fun r => ∀ c : Dev Cert.KernelAdamwOIdeal.nD,
          r.2.mem ((c.tc : Thread Cert.KernelAdamwOIdeal.nD Cert.KernelAdamwOIdeal.τ).loc Cert.KernelAdamwOIdeal.main_v0_0) = v0 c
          ∧ r.2.mem ((c.tc : Thread Cert.KernelAdamwOIdeal.nD Cert.KernelAdamwOIdeal.τ).loc Cert.KernelAdamwOIdeal.main_v0_1) = v1 c
          ∧ r.2.mem ((c.tc : Thread Cert.KernelAdamwOIdeal.nD Cert.KernelAdamwOIdeal.τ).loc Cert.KernelAdamwOIdeal.main_v0_2) = v2 c
          ∧ r.2.mem ((c.tc : Thread Cert.KernelAdamwOIdeal.nD Cert.KernelAdamwOIdeal.τ).loc Cert.KernelAdamwOIdeal.main_v0_3) = v3 c
          ∧ r.2.mem ((c.tc : Thread Cert.KernelAdamwOIdeal.nD Cert.KernelAdamwOIdeal.τ).loc Cert.KernelAdamwOIdeal.main_arg0) = m ((c.tc : Thread Cert.KernelAdamwOIdeal.nD Cert.KernelAdamwOIdeal.τ).loc Cert.KernelAdamwOIdeal.main_arg0)
          ∧ r.2.mem ((c.tc : Thread Cert.KernelAdamwOIdeal.nD Cert.KernelAdamwOIdeal.τ).loc Cert.KernelAdamwOIdeal.main_arg1) = m ((c.tc : Thread Cert.KernelAdamwOIdeal.nD Cert.KernelAdamwOIdeal.τ).loc Cert.KernelAdamwOIdeal.main_arg1)
          ∧ r.2.mem ((c.tc : Thread Cert.KernelAdamwOIdeal.nD Cert.KernelAdamwOIdeal.τ).loc Cert.KernelAdamwOIdeal.main_arg2) = m ((c.tc : Thread Cert.KernelAdamwOIdeal.nD Cert.KernelAdamwOIdeal.τ).loc Cert.KernelAdamwOIdeal.main_arg2)
          ∧ r.2.mem ((c.tc : Thread Cert.KernelAdamwOIdeal.nD Cert.KernelAdamwOIdeal.τ).loc Cert.KernelAdamwOIdeal.main_arg3) = m ((c.tc : Thread Cert.KernelAdamwOIdeal.nD Cert.KernelAdamwOIdeal.τ).loc Cert.KernelAdamwOIdeal.main_arg3))
      ∧ θ_run (Cert.ReferenceAdamwOIdeal.defs (F := Ideal)) (onTc (τ := Cert.ReferenceAdamwOIdeal.τ) (Cert.ReferenceAdamwOIdeal.main (F := Ideal))) ⟨m', fun _ => 0, g'⟩ (fun r => ∀ c : Dev Cert.ReferenceAdamwOIdeal.nD,
          r.2.mem ((c.tc : Thread Cert.ReferenceAdamwOIdeal.nD Cert.ReferenceAdamwOIdeal.τ).loc Cert.ReferenceAdamwOIdeal.main_v23) = v0 c
          ∧ r.2.mem ((c.tc : Thread Cert.ReferenceAdamwOIdeal.nD Cert.ReferenceAdamwOIdeal.τ).loc Cert.ReferenceAdamwOIdeal.main_v4) = v1 c
          ∧ r.2.mem ((c.tc : Thread Cert.ReferenceAdamwOIdeal.nD Cert.ReferenceAdamwOIdeal.τ).loc Cert.ReferenceAdamwOIdeal.main_v10) = v2 c
          ∧ r.2.mem ((c.tc : Thread Cert.ReferenceAdamwOIdeal.nD Cert.ReferenceAdamwOIdeal.τ).loc Cert.ReferenceAdamwOIdeal.main_arg1) = v3 c
          ∧ r.2.mem ((c.tc : Thread Cert.ReferenceAdamwOIdeal.nD Cert.ReferenceAdamwOIdeal.τ).loc Cert.ReferenceAdamwOIdeal.main_arg0) = m' ((c.tc : Thread Cert.ReferenceAdamwOIdeal.nD Cert.ReferenceAdamwOIdeal.τ).loc Cert.ReferenceAdamwOIdeal.main_arg0)
          ∧ r.2.mem ((c.tc : Thread Cert.ReferenceAdamwOIdeal.nD Cert.ReferenceAdamwOIdeal.τ).loc Cert.ReferenceAdamwOIdeal.main_arg1) = m' ((c.tc : Thread Cert.ReferenceAdamwOIdeal.nD Cert.ReferenceAdamwOIdeal.τ).loc Cert.ReferenceAdamwOIdeal.main_arg1)
          ∧ r.2.mem ((c.tc : Thread Cert.ReferenceAdamwOIdeal.nD Cert.ReferenceAdamwOIdeal.τ).loc Cert.ReferenceAdamwOIdeal.main_arg2) = m' ((c.tc : Thread Cert.ReferenceAdamwOIdeal.nD Cert.ReferenceAdamwOIdeal.τ).loc Cert.ReferenceAdamwOIdeal.main_arg2)
          ∧ r.2.mem ((c.tc : Thread Cert.ReferenceAdamwOIdeal.nD Cert.ReferenceAdamwOIdeal.τ).loc Cert.ReferenceAdamwOIdeal.main_arg3) = m' ((c.tc : Thread Cert.ReferenceAdamwOIdeal.nD Cert.ReferenceAdamwOIdeal.τ).loc Cert.ReferenceAdamwOIdeal.main_arg3))

def preserves_KernelAdamwSmall_KernelAdamwSmallIdeal : Prop :=
  True

def algebraic_KernelAdamwSmallIdeal_ReferenceAdamwSmallIdeal [hKernelAdamwSmallIdeal : Cert.KernelAdamwSmallIdeal.Facts] [hReferenceAdamwSmallIdeal : Cert.ReferenceAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg)
    (m' : (ℓ : Loc Cert.ReferenceAdamwSmallIdeal.nD Cert.ReferenceAdamwSmallIdeal.τ Cert.ReferenceAdamwSmallIdeal.sig) → Buf (Elt Ideal) ℓ) (g' : Dev Cert.ReferenceAdamwSmallIdeal.nD → PrngReg), Pre_KernelAdamwSmallIdeal m →
    (∀ c : Dev Cert.KernelAdamwSmallIdeal.nD,
      m' ((c.tc : Thread Cert.ReferenceAdamwSmallIdeal.nD Cert.ReferenceAdamwSmallIdeal.τ).loc Cert.ReferenceAdamwSmallIdeal.main_arg0) = m ((c.tc : Thread Cert.KernelAdamwSmallIdeal.nD Cert.KernelAdamwSmallIdeal.τ).loc Cert.KernelAdamwSmallIdeal.main_arg0)
      ∧ m' ((c.tc : Thread Cert.ReferenceAdamwSmallIdeal.nD Cert.ReferenceAdamwSmallIdeal.τ).loc Cert.ReferenceAdamwSmallIdeal.main_arg1) = m ((c.tc : Thread Cert.KernelAdamwSmallIdeal.nD Cert.KernelAdamwSmallIdeal.τ).loc Cert.KernelAdamwSmallIdeal.main_arg1)
      ∧ m' ((c.tc : Thread Cert.ReferenceAdamwSmallIdeal.nD Cert.ReferenceAdamwSmallIdeal.τ).loc Cert.ReferenceAdamwSmallIdeal.main_arg2) = m ((c.tc : Thread Cert.KernelAdamwSmallIdeal.nD Cert.KernelAdamwSmallIdeal.τ).loc Cert.KernelAdamwSmallIdeal.main_arg2)
      ∧ m' ((c.tc : Thread Cert.ReferenceAdamwSmallIdeal.nD Cert.ReferenceAdamwSmallIdeal.τ).loc Cert.ReferenceAdamwSmallIdeal.main_arg3) = m ((c.tc : Thread Cert.KernelAdamwSmallIdeal.nD Cert.KernelAdamwSmallIdeal.τ).loc Cert.KernelAdamwSmallIdeal.main_arg3)) →
    ∃ (v0 : (c : Dev Cert.KernelAdamwSmallIdeal.nD) → Buf (Elt Ideal) ((c.tc : Thread Cert.KernelAdamwSmallIdeal.nD Cert.KernelAdamwSmallIdeal.τ).loc Cert.KernelAdamwSmallIdeal.main_v0_0)) (v1 : (c : Dev Cert.KernelAdamwSmallIdeal.nD) → Buf (Elt Ideal) ((c.tc : Thread Cert.KernelAdamwSmallIdeal.nD Cert.KernelAdamwSmallIdeal.τ).loc Cert.KernelAdamwSmallIdeal.main_v0_1)) (v2 : (c : Dev Cert.KernelAdamwSmallIdeal.nD) → Buf (Elt Ideal) ((c.tc : Thread Cert.KernelAdamwSmallIdeal.nD Cert.KernelAdamwSmallIdeal.τ).loc Cert.KernelAdamwSmallIdeal.main_v0_2)) (v3 : (c : Dev Cert.KernelAdamwSmallIdeal.nD) → Buf (Elt Ideal) ((c.tc : Thread Cert.KernelAdamwSmallIdeal.nD Cert.KernelAdamwSmallIdeal.τ).loc Cert.KernelAdamwSmallIdeal.main_v0_3)),
      θ_run (Cert.KernelAdamwSmallIdeal.defs (F := Ideal)) (onTc (τ := Cert.KernelAdamwSmallIdeal.τ) (Cert.KernelAdamwSmallIdeal.main (F := Ideal))) ⟨m, fun _ => 0, g⟩ (fun r => ∀ c : Dev Cert.KernelAdamwSmallIdeal.nD,
          r.2.mem ((c.tc : Thread Cert.KernelAdamwSmallIdeal.nD Cert.KernelAdamwSmallIdeal.τ).loc Cert.KernelAdamwSmallIdeal.main_v0_0) = v0 c
          ∧ r.2.mem ((c.tc : Thread Cert.KernelAdamwSmallIdeal.nD Cert.KernelAdamwSmallIdeal.τ).loc Cert.KernelAdamwSmallIdeal.main_v0_1) = v1 c
          ∧ r.2.mem ((c.tc : Thread Cert.KernelAdamwSmallIdeal.nD Cert.KernelAdamwSmallIdeal.τ).loc Cert.KernelAdamwSmallIdeal.main_v0_2) = v2 c
          ∧ r.2.mem ((c.tc : Thread Cert.KernelAdamwSmallIdeal.nD Cert.KernelAdamwSmallIdeal.τ).loc Cert.KernelAdamwSmallIdeal.main_v0_3) = v3 c
          ∧ r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
          ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
          ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
          ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3))
      ∧ θ_run (Cert.ReferenceAdamwSmallIdeal.defs (F := Ideal)) (onTc (τ := Cert.ReferenceAdamwSmallIdeal.τ) (Cert.ReferenceAdamwSmallIdeal.main (F := Ideal))) ⟨m', fun _ => 0, g'⟩ (fun r => ∀ c : Dev Cert.ReferenceAdamwSmallIdeal.nD,
          r.2.mem ((c.tc : Thread Cert.ReferenceAdamwSmallIdeal.nD Cert.ReferenceAdamwSmallIdeal.τ).loc Cert.ReferenceAdamwSmallIdeal.main_v23) = v0 c
          ∧ r.2.mem ((c.tc : Thread Cert.ReferenceAdamwSmallIdeal.nD Cert.ReferenceAdamwSmallIdeal.τ).loc Cert.ReferenceAdamwSmallIdeal.main_v4) = v1 c
          ∧ r.2.mem ((c.tc : Thread Cert.ReferenceAdamwSmallIdeal.nD Cert.ReferenceAdamwSmallIdeal.τ).loc Cert.ReferenceAdamwSmallIdeal.main_v10) = v2 c
          ∧ r.2.mem ((c.tc : Thread Cert.ReferenceAdamwSmallIdeal.nD Cert.ReferenceAdamwSmallIdeal.τ).loc Cert.ReferenceAdamwSmallIdeal.main_arg1) = v3 c
          ∧ r.2.mem ((c.tc : Thread Cert.ReferenceAdamwSmallIdeal.nD Cert.ReferenceAdamwSmallIdeal.τ).loc Cert.ReferenceAdamwSmallIdeal.main_arg0) = m' ((c.tc : Thread Cert.ReferenceAdamwSmallIdeal.nD Cert.ReferenceAdamwSmallIdeal.τ).loc Cert.ReferenceAdamwSmallIdeal.main_arg0)
          ∧ r.2.mem ((c.tc : Thread Cert.ReferenceAdamwSmallIdeal.nD Cert.ReferenceAdamwSmallIdeal.τ).loc Cert.ReferenceAdamwSmallIdeal.main_arg1) = m' ((c.tc : Thread Cert.ReferenceAdamwSmallIdeal.nD Cert.ReferenceAdamwSmallIdeal.τ).loc Cert.ReferenceAdamwSmallIdeal.main_arg1)
          ∧ r.2.mem ((c.tc : Thread Cert.ReferenceAdamwSmallIdeal.nD Cert.ReferenceAdamwSmallIdeal.τ).loc Cert.ReferenceAdamwSmallIdeal.main_arg2) = m' ((c.tc : Thread Cert.ReferenceAdamwSmallIdeal.nD Cert.ReferenceAdamwSmallIdeal.τ).loc Cert.ReferenceAdamwSmallIdeal.main_arg2)
          ∧ r.2.mem ((c.tc : Thread Cert.ReferenceAdamwSmallIdeal.nD Cert.ReferenceAdamwSmallIdeal.τ).loc Cert.ReferenceAdamwSmallIdeal.main_arg3) = m' ((c.tc : Thread Cert.ReferenceAdamwSmallIdeal.nD Cert.ReferenceAdamwSmallIdeal.τ).loc Cert.ReferenceAdamwSmallIdeal.main_arg3))

def preserves_KernelInput_KernelInputIdeal : Prop :=
  True

def algebraic_KernelInputIdeal_ReferenceInputIdeal [hKernelInputIdeal : Cert.KernelInputIdeal.Facts] [hReferenceInputIdeal : Cert.ReferenceInputIdeal.Facts] : Prop :=
  ∀ (m : (ℓ : Loc Cert.KernelInputIdeal.nD Cert.KernelInputIdeal.τ Cert.KernelInputIdeal.sig) → Buf (Elt Ideal) ℓ) (g : Dev Cert.KernelInputIdeal.nD → PrngReg)
    (m' : (ℓ : Loc Cert.ReferenceInputIdeal.nD Cert.ReferenceInputIdeal.τ Cert.ReferenceInputIdeal.sig) → Buf (Elt Ideal) ℓ) (g' : Dev Cert.ReferenceInputIdeal.nD → PrngReg), Pre_KernelInputIdeal m →
    (∀ c : Dev Cert.KernelInputIdeal.nD,
      m' ((c.tc : Thread Cert.ReferenceInputIdeal.nD Cert.ReferenceInputIdeal.τ).loc Cert.ReferenceInputIdeal.main_arg0) = m ((c.tc : Thread Cert.KernelInputIdeal.nD Cert.KernelInputIdeal.τ).loc Cert.KernelInputIdeal.main_arg0)
      ∧ m' ((c.tc : Thread Cert.ReferenceInputIdeal.nD Cert.ReferenceInputIdeal.τ).loc Cert.ReferenceInputIdeal.main_arg1) = m ((c.tc : Thread Cert.KernelInputIdeal.nD Cert.KernelInputIdeal.τ).loc Cert.KernelInputIdeal.main_arg1)
      ∧ m' ((c.tc : Thread Cert.ReferenceInputIdeal.nD Cert.ReferenceInputIdeal.τ).loc Cert.ReferenceInputIdeal.main_arg2) = m ((c.tc : Thread Cert.KernelInputIdeal.nD Cert.KernelInputIdeal.τ).loc Cert.KernelInputIdeal.main_arg2)
      ∧ m' ((c.tc : Thread Cert.ReferenceInputIdeal.nD Cert.ReferenceInputIdeal.τ).loc Cert.ReferenceInputIdeal.main_arg3) = m ((c.tc : Thread Cert.KernelInputIdeal.nD Cert.KernelInputIdeal.τ).loc Cert.KernelInputIdeal.main_arg3)) →
    ∃ (v0 : (c : Dev Cert.KernelInputIdeal.nD) → Buf (Elt Ideal) ((c.tc : Thread Cert.KernelInputIdeal.nD Cert.KernelInputIdeal.τ).loc Cert.KernelInputIdeal.main_v0_0)) (v1 : (c : Dev Cert.KernelInputIdeal.nD) → Buf (Elt Ideal) ((c.tc : Thread Cert.KernelInputIdeal.nD Cert.KernelInputIdeal.τ).loc Cert.KernelInputIdeal.main_v0_1)),
      θ_run (Cert.KernelInputIdeal.defs (F := Ideal)) (onTc (τ := Cert.KernelInputIdeal.τ) (Cert.KernelInputIdeal.main (F := Ideal))) ⟨m, fun _ => 0, g⟩ (fun r => ∀ c : Dev Cert.KernelInputIdeal.nD,
          r.2.mem ((c.tc : Thread Cert.KernelInputIdeal.nD Cert.KernelInputIdeal.τ).loc Cert.KernelInputIdeal.main_v0_0) = v0 c
          ∧ r.2.mem ((c.tc : Thread Cert.KernelInputIdeal.nD Cert.KernelInputIdeal.τ).loc Cert.KernelInputIdeal.main_v0_1) = v1 c
          ∧ r.2.mem ((c.tc : Thread Cert.KernelInputIdeal.nD Cert.KernelInputIdeal.τ).loc Cert.KernelInputIdeal.main_arg0) = m ((c.tc : Thread Cert.KernelInputIdeal.nD Cert.KernelInputIdeal.τ).loc Cert.KernelInputIdeal.main_arg0)
          ∧ r.2.mem ((c.tc : Thread Cert.KernelInputIdeal.nD Cert.KernelInputIdeal.τ).loc Cert.KernelInputIdeal.main_arg1) = m ((c.tc : Thread Cert.KernelInputIdeal.nD Cert.KernelInputIdeal.τ).loc Cert.KernelInputIdeal.main_arg1)
          ∧ r.2.mem ((c.tc : Thread Cert.KernelInputIdeal.nD Cert.KernelInputIdeal.τ).loc Cert.KernelInputIdeal.main_arg2) = m ((c.tc : Thread Cert.KernelInputIdeal.nD Cert.KernelInputIdeal.τ).loc Cert.KernelInputIdeal.main_arg2)
          ∧ r.2.mem ((c.tc : Thread Cert.KernelInputIdeal.nD Cert.KernelInputIdeal.τ).loc Cert.KernelInputIdeal.main_arg3) = m ((c.tc : Thread Cert.KernelInputIdeal.nD Cert.KernelInputIdeal.τ).loc Cert.KernelInputIdeal.main_arg3))
      ∧ θ_run (Cert.ReferenceInputIdeal.defs (F := Ideal)) (onTc (τ := Cert.ReferenceInputIdeal.τ) (Cert.ReferenceInputIdeal.main (F := Ideal))) ⟨m', fun _ => 0, g'⟩ (fun r => ∀ c : Dev Cert.ReferenceInputIdeal.nD,
          r.2.mem ((c.tc : Thread Cert.ReferenceInputIdeal.nD Cert.ReferenceInputIdeal.τ).loc Cert.ReferenceInputIdeal.main_v34) = v0 c
          ∧ r.2.mem ((c.tc : Thread Cert.ReferenceInputIdeal.nD Cert.ReferenceInputIdeal.τ).loc Cert.ReferenceInputIdeal.main_v17) = v1 c
          ∧ r.2.mem ((c.tc : Thread Cert.ReferenceInputIdeal.nD Cert.ReferenceInputIdeal.τ).loc Cert.ReferenceInputIdeal.main_arg0) = m' ((c.tc : Thread Cert.ReferenceInputIdeal.nD Cert.ReferenceInputIdeal.τ).loc Cert.ReferenceInputIdeal.main_arg0)
          ∧ r.2.mem ((c.tc : Thread Cert.ReferenceInputIdeal.nD Cert.ReferenceInputIdeal.τ).loc Cert.ReferenceInputIdeal.main_arg1) = m' ((c.tc : Thread Cert.ReferenceInputIdeal.nD Cert.ReferenceInputIdeal.τ).loc Cert.ReferenceInputIdeal.main_arg1)
          ∧ r.2.mem ((c.tc : Thread Cert.ReferenceInputIdeal.nD Cert.ReferenceInputIdeal.τ).loc Cert.ReferenceInputIdeal.main_arg2) = m' ((c.tc : Thread Cert.ReferenceInputIdeal.nD Cert.ReferenceInputIdeal.τ).loc Cert.ReferenceInputIdeal.main_arg2)
          ∧ r.2.mem ((c.tc : Thread Cert.ReferenceInputIdeal.nD Cert.ReferenceInputIdeal.τ).loc Cert.ReferenceInputIdeal.main_arg3) = m' ((c.tc : Thread Cert.ReferenceInputIdeal.nD Cert.ReferenceInputIdeal.τ).loc Cert.ReferenceInputIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v21)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v21) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v8) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelGwIn_KernelGwInIdeal : Prop :=
  True

def algebraic_KernelGwInIdeal_ReferenceGwInIdeal [hKernelGwInIdeal : Cert.KernelGwInIdeal.Facts] [hReferenceGwInIdeal : Cert.ReferenceGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg)
    (m' : (ℓ : Loc Cert.ReferenceGwInIdeal.nD Cert.ReferenceGwInIdeal.τ Cert.ReferenceGwInIdeal.sig) → Buf (Elt Ideal) ℓ) (g' : Dev Cert.ReferenceGwInIdeal.nD → PrngReg), Pre_KernelGwInIdeal m →
    (∀ c : Dev Cert.KernelGwInIdeal.nD,
      m' ((c.tc : Thread Cert.ReferenceGwInIdeal.nD Cert.ReferenceGwInIdeal.τ).loc Cert.ReferenceGwInIdeal.main_arg0) = m ((c.tc : Thread Cert.KernelGwInIdeal.nD Cert.KernelGwInIdeal.τ).loc Cert.KernelGwInIdeal.main_arg0)
      ∧ m' ((c.tc : Thread Cert.ReferenceGwInIdeal.nD Cert.ReferenceGwInIdeal.τ).loc Cert.ReferenceGwInIdeal.main_arg1) = m ((c.tc : Thread Cert.KernelGwInIdeal.nD Cert.KernelGwInIdeal.τ).loc Cert.KernelGwInIdeal.main_arg1)
      ∧ m' ((c.tc : Thread Cert.ReferenceGwInIdeal.nD Cert.ReferenceGwInIdeal.τ).loc Cert.ReferenceGwInIdeal.main_arg2) = m ((c.tc : Thread Cert.KernelGwInIdeal.nD Cert.KernelGwInIdeal.τ).loc Cert.KernelGwInIdeal.main_arg2)) →
    ∃ (v0 : (c : Dev Cert.KernelGwInIdeal.nD) → Buf (Elt Ideal) ((c.tc : Thread Cert.KernelGwInIdeal.nD Cert.KernelGwInIdeal.τ).loc Cert.KernelGwInIdeal.main_v8)),
      θ_run (Cert.KernelGwInIdeal.defs (F := Ideal)) (onTc (τ := Cert.KernelGwInIdeal.τ) (Cert.KernelGwInIdeal.main (F := Ideal))) ⟨m, fun _ => 0, g⟩ (fun r => ∀ c : Dev Cert.KernelGwInIdeal.nD,
          r.2.mem ((c.tc : Thread Cert.KernelGwInIdeal.nD Cert.KernelGwInIdeal.τ).loc Cert.KernelGwInIdeal.main_v8) = v0 c
          ∧ r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
          ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1)
          ∧ r.2.mem ((c.tc : Thread Cert.KernelGwInIdeal.nD Cert.KernelGwInIdeal.τ).loc Cert.KernelGwInIdeal.main_arg2) = m ((c.tc : Thread Cert.KernelGwInIdeal.nD Cert.KernelGwInIdeal.τ).loc Cert.KernelGwInIdeal.main_arg2))
      ∧ θ_run (Cert.ReferenceGwInIdeal.defs (F := Ideal)) (onTc (τ := Cert.ReferenceGwInIdeal.τ) (Cert.ReferenceGwInIdeal.main (F := Ideal))) ⟨m', fun _ => 0, g'⟩ (fun r => ∀ c : Dev Cert.ReferenceGwInIdeal.nD,
          r.2.mem ((c.tc : Thread Cert.ReferenceGwInIdeal.nD Cert.ReferenceGwInIdeal.τ).loc Cert.ReferenceGwInIdeal.main_v12) = v0 c
          ∧ r.2.mem ((c.tc : Thread Cert.ReferenceGwInIdeal.nD Cert.ReferenceGwInIdeal.τ).loc Cert.ReferenceGwInIdeal.main_arg0) = m' ((c.tc : Thread Cert.ReferenceGwInIdeal.nD Cert.ReferenceGwInIdeal.τ).loc Cert.ReferenceGwInIdeal.main_arg0)
          ∧ r.2.mem ((c.tc : Thread Cert.ReferenceGwInIdeal.nD Cert.ReferenceGwInIdeal.τ).loc Cert.ReferenceGwInIdeal.main_arg1) = m' ((c.tc : Thread Cert.ReferenceGwInIdeal.nD Cert.ReferenceGwInIdeal.τ).loc Cert.ReferenceGwInIdeal.main_arg1)
          ∧ r.2.mem ((c.tc : Thread Cert.ReferenceGwInIdeal.nD Cert.ReferenceGwInIdeal.τ).loc Cert.ReferenceGwInIdeal.main_arg2) = m' ((c.tc : Thread Cert.ReferenceGwInIdeal.nD Cert.ReferenceGwInIdeal.τ).loc Cert.ReferenceGwInIdeal.main_arg2))

def preserves_KernelDh1_KernelDh1Ideal : Prop :=
  True

def algebraic_KernelDh1Ideal_ReferenceDh1Ideal [hKernelDh1Ideal : Cert.KernelDh1Ideal.Facts] [hReferenceDh1Ideal : Cert.ReferenceDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg)
    (m' : (ℓ : Loc Cert.ReferenceDh1Ideal.nD Cert.ReferenceDh1Ideal.τ Cert.ReferenceDh1Ideal.sig) → Buf (Elt Ideal) ℓ) (g' : Dev Cert.ReferenceDh1Ideal.nD → PrngReg), Pre_KernelDh1Ideal m →
    (∀ c : Dev Cert.KernelDh1Ideal.nD,
      m' ((c.tc : Thread Cert.ReferenceDh1Ideal.nD Cert.ReferenceDh1Ideal.τ).loc Cert.ReferenceDh1Ideal.main_arg0) = m ((c.tc : Thread Cert.KernelDh1Ideal.nD Cert.KernelDh1Ideal.τ).loc Cert.KernelDh1Ideal.main_arg0)
      ∧ m' ((c.tc : Thread Cert.ReferenceDh1Ideal.nD Cert.ReferenceDh1Ideal.τ).loc Cert.ReferenceDh1Ideal.main_arg1) = m ((c.tc : Thread Cert.KernelDh1Ideal.nD Cert.KernelDh1Ideal.τ).loc Cert.KernelDh1Ideal.main_arg1)
      ∧ m' ((c.tc : Thread Cert.ReferenceDh1Ideal.nD Cert.ReferenceDh1Ideal.τ).loc Cert.ReferenceDh1Ideal.main_arg2) = m ((c.tc : Thread Cert.KernelDh1Ideal.nD Cert.KernelDh1Ideal.τ).loc Cert.KernelDh1Ideal.main_arg2)) →
    ∃ (v0 : (c : Dev Cert.KernelDh1Ideal.nD) → Buf (Elt Ideal) ((c.tc : Thread Cert.KernelDh1Ideal.nD Cert.KernelDh1Ideal.τ).loc Cert.KernelDh1Ideal.main_v27)),
      θ_run (Cert.KernelDh1Ideal.defs (F := Ideal)) (onTc (τ := Cert.KernelDh1Ideal.τ) (Cert.KernelDh1Ideal.main (F := Ideal))) ⟨m, fun _ => 0, g⟩ (fun r => ∀ c : Dev Cert.KernelDh1Ideal.nD,
          r.2.mem ((c.tc : Thread Cert.KernelDh1Ideal.nD Cert.KernelDh1Ideal.τ).loc Cert.KernelDh1Ideal.main_v27) = v0 c
          ∧ r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
          ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
          ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2))
      ∧ θ_run (Cert.ReferenceDh1Ideal.defs (F := Ideal)) (onTc (τ := Cert.ReferenceDh1Ideal.τ) (Cert.ReferenceDh1Ideal.main (F := Ideal))) ⟨m', fun _ => 0, g'⟩ (fun r => ∀ c : Dev Cert.ReferenceDh1Ideal.nD,
          r.2.mem ((c.tc : Thread Cert.ReferenceDh1Ideal.nD Cert.ReferenceDh1Ideal.τ).loc Cert.ReferenceDh1Ideal.main_v3) = v0 c
          ∧ r.2.mem ((c.tc : Thread Cert.ReferenceDh1Ideal.nD Cert.ReferenceDh1Ideal.τ).loc Cert.ReferenceDh1Ideal.main_arg0) = m' ((c.tc : Thread Cert.ReferenceDh1Ideal.nD Cert.ReferenceDh1Ideal.τ).loc Cert.ReferenceDh1Ideal.main_arg0)
          ∧ r.2.mem ((c.tc : Thread Cert.ReferenceDh1Ideal.nD Cert.ReferenceDh1Ideal.τ).loc Cert.ReferenceDh1Ideal.main_arg1) = m' ((c.tc : Thread Cert.ReferenceDh1Ideal.nD Cert.ReferenceDh1Ideal.τ).loc Cert.ReferenceDh1Ideal.main_arg1)
          ∧ r.2.mem ((c.tc : Thread Cert.ReferenceDh1Ideal.nD Cert.ReferenceDh1Ideal.τ).loc Cert.ReferenceDh1Ideal.main_arg2) = m' ((c.tc : Thread Cert.ReferenceDh1Ideal.nD Cert.ReferenceDh1Ideal.τ).loc Cert.ReferenceDh1Ideal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v5)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v5) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v4) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelGwUq_KernelGwUqIdeal : Prop :=
  True

def algebraic_KernelGwUqIdeal_ReferenceGwUqIdeal [hKernelGwUqIdeal : Cert.KernelGwUqIdeal.Facts] [hReferenceGwUqIdeal : Cert.ReferenceGwUqIdeal.Facts] : Prop :=
  ∀ (m : (ℓ : Loc Cert.KernelGwUqIdeal.nD Cert.KernelGwUqIdeal.τ Cert.KernelGwUqIdeal.sig) → Buf (Elt Ideal) ℓ) (g : Dev Cert.KernelGwUqIdeal.nD → PrngReg)
    (m' : (ℓ : Loc Cert.ReferenceGwUqIdeal.nD Cert.ReferenceGwUqIdeal.τ Cert.ReferenceGwUqIdeal.sig) → Buf (Elt Ideal) ℓ) (g' : Dev Cert.ReferenceGwUqIdeal.nD → PrngReg), Pre_KernelGwUqIdeal m →
    (∀ c : Dev Cert.KernelGwUqIdeal.nD,
      m' ((c.tc : Thread Cert.ReferenceGwUqIdeal.nD Cert.ReferenceGwUqIdeal.τ).loc Cert.ReferenceGwUqIdeal.main_arg0) = m ((c.tc : Thread Cert.KernelGwUqIdeal.nD Cert.KernelGwUqIdeal.τ).loc Cert.KernelGwUqIdeal.main_arg0)
      ∧ m' ((c.tc : Thread Cert.ReferenceGwUqIdeal.nD Cert.ReferenceGwUqIdeal.τ).loc Cert.ReferenceGwUqIdeal.main_arg1) = m ((c.tc : Thread Cert.KernelGwUqIdeal.nD Cert.KernelGwUqIdeal.τ).loc Cert.KernelGwUqIdeal.main_arg1)
      ∧ m' ((c.tc : Thread Cert.ReferenceGwUqIdeal.nD Cert.ReferenceGwUqIdeal.τ).loc Cert.ReferenceGwUqIdeal.main_arg2) = m ((c.tc : Thread Cert.KernelGwUqIdeal.nD Cert.KernelGwUqIdeal.τ).loc Cert.KernelGwUqIdeal.main_arg2)) →
    ∃ (v0 : (c : Dev Cert.KernelGwUqIdeal.nD) → Buf (Elt Ideal) ((c.tc : Thread Cert.KernelGwUqIdeal.nD Cert.KernelGwUqIdeal.τ).loc Cert.KernelGwUqIdeal.main_v5)),
      θ_run (Cert.KernelGwUqIdeal.defs (F := Ideal)) (onTc (τ := Cert.KernelGwUqIdeal.τ) (Cert.KernelGwUqIdeal.main (F := Ideal))) ⟨m, fun _ => 0, g⟩ (fun r => ∀ c : Dev Cert.KernelGwUqIdeal.nD,
          r.2.mem ((c.tc : Thread Cert.KernelGwUqIdeal.nD Cert.KernelGwUqIdeal.τ).loc Cert.KernelGwUqIdeal.main_v5) = v0 c
          ∧ r.2.mem ((c.tc : Thread Cert.KernelGwUqIdeal.nD Cert.KernelGwUqIdeal.τ).loc Cert.KernelGwUqIdeal.main_arg0) = m ((c.tc : Thread Cert.KernelGwUqIdeal.nD Cert.KernelGwUqIdeal.τ).loc Cert.KernelGwUqIdeal.main_arg0)
          ∧ r.2.mem ((c.tc : Thread Cert.KernelGwUqIdeal.nD Cert.KernelGwUqIdeal.τ).loc Cert.KernelGwUqIdeal.main_arg1) = m ((c.tc : Thread Cert.KernelGwUqIdeal.nD Cert.KernelGwUqIdeal.τ).loc Cert.KernelGwUqIdeal.main_arg1)
          ∧ r.2.mem ((c.tc : Thread Cert.KernelGwUqIdeal.nD Cert.KernelGwUqIdeal.τ).loc Cert.KernelGwUqIdeal.main_arg2) = m ((c.tc : Thread Cert.KernelGwUqIdeal.nD Cert.KernelGwUqIdeal.τ).loc Cert.KernelGwUqIdeal.main_arg2))
      ∧ θ_run (Cert.ReferenceGwUqIdeal.defs (F := Ideal)) (onTc (τ := Cert.ReferenceGwUqIdeal.τ) (Cert.ReferenceGwUqIdeal.main (F := Ideal))) ⟨m', fun _ => 0, g'⟩ (fun r => ∀ c : Dev Cert.ReferenceGwUqIdeal.nD,
          r.2.mem ((c.tc : Thread Cert.ReferenceGwUqIdeal.nD Cert.ReferenceGwUqIdeal.τ).loc Cert.ReferenceGwUqIdeal.main_v8) = v0 c
          ∧ r.2.mem ((c.tc : Thread Cert.ReferenceGwUqIdeal.nD Cert.ReferenceGwUqIdeal.τ).loc Cert.ReferenceGwUqIdeal.main_arg0) = m' ((c.tc : Thread Cert.ReferenceGwUqIdeal.nD Cert.ReferenceGwUqIdeal.τ).loc Cert.ReferenceGwUqIdeal.main_arg0)
          ∧ r.2.mem ((c.tc : Thread Cert.ReferenceGwUqIdeal.nD Cert.ReferenceGwUqIdeal.τ).loc Cert.ReferenceGwUqIdeal.main_arg1) = m' ((c.tc : Thread Cert.ReferenceGwUqIdeal.nD Cert.ReferenceGwUqIdeal.τ).loc Cert.ReferenceGwUqIdeal.main_arg1)
          ∧ r.2.mem ((c.tc : Thread Cert.ReferenceGwUqIdeal.nD Cert.ReferenceGwUqIdeal.τ).loc Cert.ReferenceGwUqIdeal.main_arg2) = m' ((c.tc : Thread Cert.ReferenceGwUqIdeal.nD Cert.ReferenceGwUqIdeal.τ).loc Cert.ReferenceGwUqIdeal.main_arg2))

def preserves_KernelDcq_KernelDcqIdeal : Prop :=
  True

def algebraic_KernelDcqIdeal_ReferenceDcqIdeal [hKernelDcqIdeal : Cert.KernelDcqIdeal.Facts] [hReferenceDcqIdeal : Cert.ReferenceDcqIdeal.Facts] : Prop :=
  ∀ (m : (ℓ : Loc Cert.KernelDcqIdeal.nD Cert.KernelDcqIdeal.τ Cert.KernelDcqIdeal.sig) → Buf (Elt Ideal) ℓ) (g : Dev Cert.KernelDcqIdeal.nD → PrngReg)
    (m' : (ℓ : Loc Cert.ReferenceDcqIdeal.nD Cert.ReferenceDcqIdeal.τ Cert.ReferenceDcqIdeal.sig) → Buf (Elt Ideal) ℓ) (g' : Dev Cert.ReferenceDcqIdeal.nD → PrngReg), Pre_KernelDcqIdeal m →
    (∀ c : Dev Cert.KernelDcqIdeal.nD,
      m' ((c.tc : Thread Cert.ReferenceDcqIdeal.nD Cert.ReferenceDcqIdeal.τ).loc Cert.ReferenceDcqIdeal.main_arg0) = m ((c.tc : Thread Cert.KernelDcqIdeal.nD Cert.KernelDcqIdeal.τ).loc Cert.KernelDcqIdeal.main_arg0)
      ∧ m' ((c.tc : Thread Cert.ReferenceDcqIdeal.nD Cert.ReferenceDcqIdeal.τ).loc Cert.ReferenceDcqIdeal.main_arg1) = m ((c.tc : Thread Cert.KernelDcqIdeal.nD Cert.KernelDcqIdeal.τ).loc Cert.KernelDcqIdeal.main_arg1)
      ∧ m' ((c.tc : Thread Cert.ReferenceDcqIdeal.nD Cert.ReferenceDcqIdeal.τ).loc Cert.ReferenceDcqIdeal.main_arg2) = m ((c.tc : Thread Cert.KernelDcqIdeal.nD Cert.KernelDcqIdeal.τ).loc Cert.KernelDcqIdeal.main_arg2)) →
    ∃ (v0 : (c : Dev Cert.KernelDcqIdeal.nD) → Buf (Elt Ideal) ((c.tc : Thread Cert.KernelDcqIdeal.nD Cert.KernelDcqIdeal.τ).loc Cert.KernelDcqIdeal.main_v8)),
      θ_run (Cert.KernelDcqIdeal.defs (F := Ideal)) (onTc (τ := Cert.KernelDcqIdeal.τ) (Cert.KernelDcqIdeal.main (F := Ideal))) ⟨m, fun _ => 0, g⟩ (fun r => ∀ c : Dev Cert.KernelDcqIdeal.nD,
          r.2.mem ((c.tc : Thread Cert.KernelDcqIdeal.nD Cert.KernelDcqIdeal.τ).loc Cert.KernelDcqIdeal.main_v8) = v0 c
          ∧ r.2.mem ((c.tc : Thread Cert.KernelDcqIdeal.nD Cert.KernelDcqIdeal.τ).loc Cert.KernelDcqIdeal.main_arg0) = m ((c.tc : Thread Cert.KernelDcqIdeal.nD Cert.KernelDcqIdeal.τ).loc Cert.KernelDcqIdeal.main_arg0)
          ∧ r.2.mem ((c.tc : Thread Cert.KernelDcqIdeal.nD Cert.KernelDcqIdeal.τ).loc Cert.KernelDcqIdeal.main_arg1) = m ((c.tc : Thread Cert.KernelDcqIdeal.nD Cert.KernelDcqIdeal.τ).loc Cert.KernelDcqIdeal.main_arg1)
          ∧ r.2.mem ((c.tc : Thread Cert.KernelDcqIdeal.nD Cert.KernelDcqIdeal.τ).loc Cert.KernelDcqIdeal.main_arg2) = m ((c.tc : Thread Cert.KernelDcqIdeal.nD Cert.KernelDcqIdeal.τ).loc Cert.KernelDcqIdeal.main_arg2))
      ∧ θ_run (Cert.ReferenceDcqIdeal.defs (F := Ideal)) (onTc (τ := Cert.ReferenceDcqIdeal.τ) (Cert.ReferenceDcqIdeal.main (F := Ideal))) ⟨m', fun _ => 0, g'⟩ (fun r => ∀ c : Dev Cert.ReferenceDcqIdeal.nD,
          r.2.mem ((c.tc : Thread Cert.ReferenceDcqIdeal.nD Cert.ReferenceDcqIdeal.τ).loc Cert.ReferenceDcqIdeal.main_v3) = v0 c
          ∧ r.2.mem ((c.tc : Thread Cert.ReferenceDcqIdeal.nD Cert.ReferenceDcqIdeal.τ).loc Cert.ReferenceDcqIdeal.main_arg0) = m' ((c.tc : Thread Cert.ReferenceDcqIdeal.nD Cert.ReferenceDcqIdeal.τ).loc Cert.ReferenceDcqIdeal.main_arg0)
          ∧ r.2.mem ((c.tc : Thread Cert.ReferenceDcqIdeal.nD Cert.ReferenceDcqIdeal.τ).loc Cert.ReferenceDcqIdeal.main_arg1) = m' ((c.tc : Thread Cert.ReferenceDcqIdeal.nD Cert.ReferenceDcqIdeal.τ).loc Cert.ReferenceDcqIdeal.main_arg1)
          ∧ r.2.mem ((c.tc : Thread Cert.ReferenceDcqIdeal.nD Cert.ReferenceDcqIdeal.τ).loc Cert.ReferenceDcqIdeal.main_arg2) = m' ((c.tc : Thread Cert.ReferenceDcqIdeal.nD Cert.ReferenceDcqIdeal.τ).loc Cert.ReferenceDcqIdeal.main_arg2))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelGwDown : Cert.KernelGwDown.Facts) (hKernelGwDownIdeal : Cert.KernelGwDownIdeal.Facts) (hReferenceGwDownIdeal : Cert.ReferenceGwDownIdeal.Facts) (hKernelDact : Cert.KernelDact.Facts) (hKernelDactIdeal : Cert.KernelDactIdeal.Facts) (hReferenceDactIdeal : Cert.ReferenceDactIdeal.Facts) (hKernelUp : Cert.KernelUp.Facts) (hKernelUpIdeal : Cert.KernelUpIdeal.Facts) (hReferenceUpIdeal : Cert.ReferenceUpIdeal.Facts) (hKernelGwUp : Cert.KernelGwUp.Facts) (hKernelGwUpIdeal : Cert.KernelGwUpIdeal.Facts) (hReferenceGwUpIdeal : Cert.ReferenceGwUpIdeal.Facts) (hKernelDh2 : Cert.KernelDh2.Facts) (hKernelDh2Ideal : Cert.KernelDh2Ideal.Facts) (hReferenceDh2Ideal : Cert.ReferenceDh2Ideal.Facts) (hKernelOut : Cert.KernelOut.Facts) (hKernelOutIdeal : Cert.KernelOutIdeal.Facts) (hReferenceOutIdeal : Cert.ReferenceOutIdeal.Facts) (hKernelGwOut : Cert.KernelGwOut.Facts) (hKernelGwOutIdeal : Cert.KernelGwOutIdeal.Facts) (hReferenceGwOutIdeal : Cert.ReferenceGwOutIdeal.Facts) (hKernelDycat : Cert.KernelDycat.Facts) (hKernelDycatIdeal : Cert.KernelDycatIdeal.Facts) (hReferenceDycatIdeal : Cert.ReferenceDycatIdeal.Facts) (hKernelKv : Cert.KernelKv.Facts) (hKernelKvIdeal : Cert.KernelKvIdeal.Facts) (hReferenceKvIdeal : Cert.ReferenceKvIdeal.Facts) (hKernelGwUkv : Cert.KernelGwUkv.Facts) (hKernelGwUkvIdeal : Cert.KernelGwUkvIdeal.Facts) (hReferenceGwUkvIdeal : Cert.ReferenceGwUkvIdeal.Facts) (hKernelDckv : Cert.KernelDckv.Facts) (hKernelDckvIdeal : Cert.KernelDckvIdeal.Facts) (hReferenceDckvIdeal : Cert.ReferenceDckvIdeal.Facts) (hKernelAdamwMlp : Cert.KernelAdamwMlp.Facts) (hKernelAdamwMlpIdeal : Cert.KernelAdamwMlpIdeal.Facts) (hReferenceAdamwMlpIdeal : Cert.ReferenceAdamwMlpIdeal.Facts) (hKernelAdamwIn : Cert.KernelAdamwIn.Facts) (hKernelAdamwInIdeal : Cert.KernelAdamwInIdeal.Facts) (hReferenceAdamwInIdeal : Cert.ReferenceAdamwInIdeal.Facts) (hKernelAdamwUq : Cert.KernelAdamwUq.Facts) (hKernelAdamwUqIdeal : Cert.KernelAdamwUqIdeal.Facts) (hReferenceAdamwUqIdeal : Cert.ReferenceAdamwUqIdeal.Facts) (hKernelAdamwUkv : Cert.KernelAdamwUkv.Facts) (hKernelAdamwUkvIdeal : Cert.KernelAdamwUkvIdeal.Facts) (hReferenceAdamwUkvIdeal : Cert.ReferenceAdamwUkvIdeal.Facts) (hKernelAdamwO : Cert.KernelAdamwO.Facts) (hKernelAdamwOIdeal : Cert.KernelAdamwOIdeal.Facts) (hReferenceAdamwOIdeal : Cert.ReferenceAdamwOIdeal.Facts) (hKernelAdamwSmall : Cert.KernelAdamwSmall.Facts) (hKernelAdamwSmallIdeal : Cert.KernelAdamwSmallIdeal.Facts) (hReferenceAdamwSmallIdeal : Cert.ReferenceAdamwSmallIdeal.Facts) (hKernelInput : Cert.KernelInput.Facts) (hKernelInputIdeal : Cert.KernelInputIdeal.Facts) (hReferenceInputIdeal : Cert.ReferenceInputIdeal.Facts) (hKernelProj : Cert.KernelProj.Facts) (hKernelProjIdeal : Cert.KernelProjIdeal.Facts) (hReferenceProjIdeal : Cert.ReferenceProjIdeal.Facts) (hKernelGwIn : Cert.KernelGwIn.Facts) (hKernelGwInIdeal : Cert.KernelGwInIdeal.Facts) (hReferenceGwInIdeal : Cert.ReferenceGwInIdeal.Facts) (hKernelDh1 : Cert.KernelDh1.Facts) (hKernelDh1Ideal : Cert.KernelDh1Ideal.Facts) (hReferenceDh1Ideal : Cert.ReferenceDh1Ideal.Facts) (hKernelQ : Cert.KernelQ.Facts) (hKernelQIdeal : Cert.KernelQIdeal.Facts) (hReferenceQIdeal : Cert.ReferenceQIdeal.Facts) (hKernelGwUq : Cert.KernelGwUq.Facts) (hKernelGwUqIdeal : Cert.KernelGwUqIdeal.Facts) (hReferenceGwUqIdeal : Cert.ReferenceGwUqIdeal.Facts) (hKernelDcq : Cert.KernelDcq.Facts) (hKernelDcqIdeal : Cert.KernelDcqIdeal.Facts) (hReferenceDcqIdeal : Cert.ReferenceDcqIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGwDown (hKernelGwDown := hKernelGwDown)
    ∧ quiescent_KernelGwDownIdeal (hKernelGwDownIdeal := hKernelGwDownIdeal)
    ∧ quiescent_ReferenceGwDownIdeal (hReferenceGwDownIdeal := hReferenceGwDownIdeal)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelGwUp (hKernelGwUp := hKernelGwUp)
    ∧ quiescent_KernelGwUpIdeal (hKernelGwUpIdeal := hKernelGwUpIdeal)
    ∧ quiescent_ReferenceGwUpIdeal (hReferenceGwUpIdeal := hReferenceGwUpIdeal)
    ∧ quiescent_KernelDh2 (hKernelDh2 := hKernelDh2)
    ∧ quiescent_KernelDh2Ideal (hKernelDh2Ideal := hKernelDh2Ideal)
    ∧ quiescent_ReferenceDh2Ideal (hReferenceDh2Ideal := hReferenceDh2Ideal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGwOut (hKernelGwOut := hKernelGwOut)
    ∧ quiescent_KernelGwOutIdeal (hKernelGwOutIdeal := hKernelGwOutIdeal)
    ∧ quiescent_ReferenceGwOutIdeal (hReferenceGwOutIdeal := hReferenceGwOutIdeal)
    ∧ quiescent_KernelDycat (hKernelDycat := hKernelDycat)
    ∧ quiescent_KernelDycatIdeal (hKernelDycatIdeal := hKernelDycatIdeal)
    ∧ quiescent_ReferenceDycatIdeal (hReferenceDycatIdeal := hReferenceDycatIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelGwUkv (hKernelGwUkv := hKernelGwUkv)
    ∧ quiescent_KernelGwUkvIdeal (hKernelGwUkvIdeal := hKernelGwUkvIdeal)
    ∧ quiescent_ReferenceGwUkvIdeal (hReferenceGwUkvIdeal := hReferenceGwUkvIdeal)
    ∧ quiescent_KernelDckv (hKernelDckv := hKernelDckv)
    ∧ quiescent_KernelDckvIdeal (hKernelDckvIdeal := hKernelDckvIdeal)
    ∧ quiescent_ReferenceDckvIdeal (hReferenceDckvIdeal := hReferenceDckvIdeal)
    ∧ quiescent_KernelAdamwMlp (hKernelAdamwMlp := hKernelAdamwMlp)
    ∧ quiescent_KernelAdamwMlpIdeal (hKernelAdamwMlpIdeal := hKernelAdamwMlpIdeal)
    ∧ quiescent_ReferenceAdamwMlpIdeal (hReferenceAdamwMlpIdeal := hReferenceAdamwMlpIdeal)
    ∧ quiescent_KernelAdamwIn (hKernelAdamwIn := hKernelAdamwIn)
    ∧ quiescent_KernelAdamwInIdeal (hKernelAdamwInIdeal := hKernelAdamwInIdeal)
    ∧ quiescent_ReferenceAdamwInIdeal (hReferenceAdamwInIdeal := hReferenceAdamwInIdeal)
    ∧ quiescent_KernelAdamwUq (hKernelAdamwUq := hKernelAdamwUq)
    ∧ quiescent_KernelAdamwUqIdeal (hKernelAdamwUqIdeal := hKernelAdamwUqIdeal)
    ∧ quiescent_ReferenceAdamwUqIdeal (hReferenceAdamwUqIdeal := hReferenceAdamwUqIdeal)
    ∧ quiescent_KernelAdamwUkv (hKernelAdamwUkv := hKernelAdamwUkv)
    ∧ quiescent_KernelAdamwUkvIdeal (hKernelAdamwUkvIdeal := hKernelAdamwUkvIdeal)
    ∧ quiescent_ReferenceAdamwUkvIdeal (hReferenceAdamwUkvIdeal := hReferenceAdamwUkvIdeal)
    ∧ quiescent_KernelAdamwO (hKernelAdamwO := hKernelAdamwO)
    ∧ quiescent_KernelAdamwOIdeal (hKernelAdamwOIdeal := hKernelAdamwOIdeal)
    ∧ quiescent_ReferenceAdamwOIdeal (hReferenceAdamwOIdeal := hReferenceAdamwOIdeal)
    ∧ quiescent_KernelAdamwSmall (hKernelAdamwSmall := hKernelAdamwSmall)
    ∧ quiescent_KernelAdamwSmallIdeal (hKernelAdamwSmallIdeal := hKernelAdamwSmallIdeal)
    ∧ quiescent_ReferenceAdamwSmallIdeal (hReferenceAdamwSmallIdeal := hReferenceAdamwSmallIdeal)
    ∧ quiescent_KernelInput (hKernelInput := hKernelInput)
    ∧ quiescent_KernelInputIdeal (hKernelInputIdeal := hKernelInputIdeal)
    ∧ quiescent_ReferenceInputIdeal (hReferenceInputIdeal := hReferenceInputIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelGwIn (hKernelGwIn := hKernelGwIn)
    ∧ quiescent_KernelGwInIdeal (hKernelGwInIdeal := hKernelGwInIdeal)
    ∧ quiescent_ReferenceGwInIdeal (hReferenceGwInIdeal := hReferenceGwInIdeal)
    ∧ quiescent_KernelDh1 (hKernelDh1 := hKernelDh1)
    ∧ quiescent_KernelDh1Ideal (hKernelDh1Ideal := hKernelDh1Ideal)
    ∧ quiescent_ReferenceDh1Ideal (hReferenceDh1Ideal := hReferenceDh1Ideal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelGwUq (hKernelGwUq := hKernelGwUq)
    ∧ quiescent_KernelGwUqIdeal (hKernelGwUqIdeal := hKernelGwUqIdeal)
    ∧ quiescent_ReferenceGwUqIdeal (hReferenceGwUqIdeal := hReferenceGwUqIdeal)
    ∧ quiescent_KernelDcq (hKernelDcq := hKernelDcq)
    ∧ quiescent_KernelDcqIdeal (hKernelDcqIdeal := hKernelDcqIdeal)
    ∧ quiescent_ReferenceDcqIdeal (hReferenceDcqIdeal := hReferenceDcqIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelGwDown_KernelGwDownIdeal
    ∧ algebraic_KernelGwDownIdeal_ReferenceGwDownIdeal (hKernelGwDownIdeal := hKernelGwDownIdeal) (hReferenceGwDownIdeal := hReferenceGwDownIdeal)
    ∧ preserves_KernelDact_KernelDactIdeal
    ∧ algebraic_KernelDactIdeal_ReferenceDactIdeal (hKernelDactIdeal := hKernelDactIdeal) (hReferenceDactIdeal := hReferenceDactIdeal)
    ∧ preserves_KernelUp_KernelUpIdeal
    ∧ algebraic_KernelUpIdeal_ReferenceUpIdeal (hKernelUpIdeal := hKernelUpIdeal) (hReferenceUpIdeal := hReferenceUpIdeal)
    ∧ preserves_KernelGwUp_KernelGwUpIdeal
    ∧ algebraic_KernelGwUpIdeal_ReferenceGwUpIdeal (hKernelGwUpIdeal := hKernelGwUpIdeal) (hReferenceGwUpIdeal := hReferenceGwUpIdeal)
    ∧ preserves_KernelDh2_KernelDh2Ideal
    ∧ algebraic_KernelDh2Ideal_ReferenceDh2Ideal (hKernelDh2Ideal := hKernelDh2Ideal) (hReferenceDh2Ideal := hReferenceDh2Ideal)
    ∧ preserves_KernelOut_KernelOutIdeal
    ∧ algebraic_KernelOutIdeal_ReferenceOutIdeal (hKernelOutIdeal := hKernelOutIdeal) (hReferenceOutIdeal := hReferenceOutIdeal)
    ∧ preserves_KernelGwOut_KernelGwOutIdeal
    ∧ algebraic_KernelGwOutIdeal_ReferenceGwOutIdeal (hKernelGwOutIdeal := hKernelGwOutIdeal) (hReferenceGwOutIdeal := hReferenceGwOutIdeal)
    ∧ preserves_KernelDycat_KernelDycatIdeal
    ∧ algebraic_KernelDycatIdeal_ReferenceDycatIdeal (hKernelDycatIdeal := hKernelDycatIdeal) (hReferenceDycatIdeal := hReferenceDycatIdeal)
    ∧ preserves_KernelKv_KernelKvIdeal
    ∧ algebraic_KernelKvIdeal_ReferenceKvIdeal (hKernelKvIdeal := hKernelKvIdeal) (hReferenceKvIdeal := hReferenceKvIdeal)
    ∧ preserves_KernelGwUkv_KernelGwUkvIdeal
    ∧ algebraic_KernelGwUkvIdeal_ReferenceGwUkvIdeal (hKernelGwUkvIdeal := hKernelGwUkvIdeal) (hReferenceGwUkvIdeal := hReferenceGwUkvIdeal)
    ∧ preserves_KernelDckv_KernelDckvIdeal
    ∧ algebraic_KernelDckvIdeal_ReferenceDckvIdeal (hKernelDckvIdeal := hKernelDckvIdeal) (hReferenceDckvIdeal := hReferenceDckvIdeal)
    ∧ preserves_KernelAdamwMlp_KernelAdamwMlpIdeal
    ∧ algebraic_KernelAdamwMlpIdeal_ReferenceAdamwMlpIdeal (hKernelAdamwMlpIdeal := hKernelAdamwMlpIdeal) (hReferenceAdamwMlpIdeal := hReferenceAdamwMlpIdeal)
    ∧ preserves_KernelAdamwIn_KernelAdamwInIdeal
    ∧ algebraic_KernelAdamwInIdeal_ReferenceAdamwInIdeal (hKernelAdamwInIdeal := hKernelAdamwInIdeal) (hReferenceAdamwInIdeal := hReferenceAdamwInIdeal)
    ∧ preserves_KernelAdamwUq_KernelAdamwUqIdeal
    ∧ algebraic_KernelAdamwUqIdeal_ReferenceAdamwUqIdeal (hKernelAdamwUqIdeal := hKernelAdamwUqIdeal) (hReferenceAdamwUqIdeal := hReferenceAdamwUqIdeal)
    ∧ preserves_KernelAdamwUkv_KernelAdamwUkvIdeal
    ∧ algebraic_KernelAdamwUkvIdeal_ReferenceAdamwUkvIdeal (hKernelAdamwUkvIdeal := hKernelAdamwUkvIdeal) (hReferenceAdamwUkvIdeal := hReferenceAdamwUkvIdeal)
    ∧ preserves_KernelAdamwO_KernelAdamwOIdeal
    ∧ algebraic_KernelAdamwOIdeal_ReferenceAdamwOIdeal (hKernelAdamwOIdeal := hKernelAdamwOIdeal) (hReferenceAdamwOIdeal := hReferenceAdamwOIdeal)
    ∧ preserves_KernelAdamwSmall_KernelAdamwSmallIdeal
    ∧ algebraic_KernelAdamwSmallIdeal_ReferenceAdamwSmallIdeal (hKernelAdamwSmallIdeal := hKernelAdamwSmallIdeal) (hReferenceAdamwSmallIdeal := hReferenceAdamwSmallIdeal)
    ∧ preserves_KernelInput_KernelInputIdeal
    ∧ algebraic_KernelInputIdeal_ReferenceInputIdeal (hKernelInputIdeal := hKernelInputIdeal) (hReferenceInputIdeal := hReferenceInputIdeal)
    ∧ preserves_KernelProj_KernelProjIdeal
    ∧ algebraic_KernelProjIdeal_ReferenceProjIdeal (hKernelProjIdeal := hKernelProjIdeal) (hReferenceProjIdeal := hReferenceProjIdeal)
    ∧ preserves_KernelGwIn_KernelGwInIdeal
    ∧ algebraic_KernelGwInIdeal_ReferenceGwInIdeal (hKernelGwInIdeal := hKernelGwInIdeal) (hReferenceGwInIdeal := hReferenceGwInIdeal)
    ∧ preserves_KernelDh1_KernelDh1Ideal
    ∧ algebraic_KernelDh1Ideal_ReferenceDh1Ideal (hKernelDh1Ideal := hKernelDh1Ideal) (hReferenceDh1Ideal := hReferenceDh1Ideal)
    ∧ preserves_KernelQ_KernelQIdeal
    ∧ algebraic_KernelQIdeal_ReferenceQIdeal (hKernelQIdeal := hKernelQIdeal) (hReferenceQIdeal := hReferenceQIdeal)
    ∧ preserves_KernelGwUq_KernelGwUqIdeal
    ∧ algebraic_KernelGwUqIdeal_ReferenceGwUqIdeal (hKernelGwUqIdeal := hKernelGwUqIdeal) (hReferenceGwUqIdeal := hReferenceGwUqIdeal)
    ∧ preserves_KernelDcq_KernelDcqIdeal
    ∧ algebraic_KernelDcqIdeal_ReferenceDcqIdeal (hKernelDcqIdeal := hKernelDcqIdeal) (hReferenceDcqIdeal := hReferenceDcqIdeal)
-- ==== Pre_finite.lean ====
abbrev S1x2048x8x192 : Shape := ⟨4, ![1, 2048, 8, 192]⟩
abbrev S1x2048x8x256 : Shape := ⟨4, ![1, 2048, 8, 256]⟩
abbrev S1x2048x64 : Shape := ⟨3, ![1, 2048, 64]⟩
abbrev S1024 : Shape := ⟨1, ![1024]⟩
abbrev S1x2048x2048 : Shape := ⟨3, ![1, 2048, 2048]⟩
abbrev S_ : Shape := ⟨0, ![]⟩

class Facts : Prop where
  bcast_S_S1x2048x8x192 : S_.BroadcastsInDim S1x2048x8x192 (![] : Fin 0 → Fin S1x2048x8x192.rank)
  reducesTo_S1x2048x8x192_S_d0_1_2_3 : S1x2048x8x192.ReducesTo [0, 1, 2, 3] S_
  h_S_ : 0 < S_.numel
  bcast_S_S1x2048x8x256 : S_.BroadcastsInDim S1x2048x8x256 (![] : Fin 0 → Fin S1x2048x8x256.rank)
  reducesTo_S1x2048x8x256_S_d0_1_2_3 : S1x2048x8x256.ReducesTo [0, 1, 2, 3] S_
  bcast_S_S1x2048x64 : S_.BroadcastsInDim S1x2048x64 (![] : Fin 0 → Fin S1x2048x64.rank)
  reducesTo_S1x2048x64_S_d0_1_2 : S1x2048x64.ReducesTo [0, 1, 2] S_
  bcast_S_S1024 : S_.BroadcastsInDim S1024 (![] : Fin 0 → Fin S1024.rank)
  reducesTo_S1024_S_d0 : S1024.ReducesTo [0] S_
  bcast_S_S1x2048x2048 : S_.BroadcastsInDim S1x2048x2048 (![] : Fin 0 → Fin S1x2048x2048.rank)
  reducesTo_S1x2048x2048_S_d0_1_2 : S1x2048x2048.ReducesTo [0, 1, 2] S_

variable [Facts]

def fn_part1 {F : FTy → Type} [FloatOps F] (main_arg4 : FVec F S1x2048x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048x2048 .f32 := Host.absf main_arg4
  let main_cst_6 : FVec F S_ .f32 := constant S_ .f32 0x7F800000#32
  let main_v20 : FVec F S1x2048x2048 .f32 := broadcastInDim S1x2048x2048 ![] bcast_S_S1x2048x2048 main_cst_6
  let main_v21 : IVec S1x2048x2048 1 := cmpf .olt main_v19 main_v20
  let main_c_7 : IVec S_ 1 := constantI S_ 1 1#1
  let main_v22 : IVec S_ 1 := (fun x v => Host.reduce IntOp.andi x v reducesTo_S1x2048x2048_S_d0_1_2 h_S_) main_v21 main_c_7
  let main_v23 : IVec S_ 1 := andi main_v18 main_v22
  main_v23

def fn {F : FTy → Type} [FloatOps F] (main_arg0 : FVec F S1x2048x8x192 .f32) (main_arg1 : FVec F S1x2048x8x256 .f32) (main_arg2 : FVec F S1x2048x64 .f32) (main_arg3 : FVec F S1024 .f32) (main_arg4 : FVec F S1x2048x2048 .f32) : IVec S_ 1 :=
  let main_v0 : FVec F S1x2048x8x192 .f32 := Host.absf main_arg0
  let main_cst : FVec F S_ .f32 := constant S_ .f32 0x7F800000#32
  let main_v1 : FVec F S1x2048x8x192 .f32 := broadcastInDim S1x2048x8x192 ![] bcast_S_S1x2048x8x192 main_cst
  let main_v2 : IVec S1x2048x8x192 1 := cmpf .olt main_v0 main_v1
  let main_c : IVec S_ 1 := constantI S_ 1 1#1
  let main_v3 : IVec S_ 1 := (fun x v => Host.reduce IntOp.andi x v reducesTo_S1x2048x8x192_S_d0_1_2_3 h_S_) main_v2 main_c
  let main_v4 : FVec F S1x2048x8x256 .f32 := Host.absf main_arg1
  let main_cst_0 : FVec F S_ .f32 := constant S_ .f32 0x7F800000#32
  let main_v5 : FVec F S1x2048x8x256 .f32 := broadcastInDim S1x2048x8x256 ![] bcast_S_S1x2048x8x256 main_cst_0
  let main_v6 : IVec S1x2048x8x256 1 := cmpf .olt main_v4 main_v5
  let main_c_1 : IVec S_ 1 := constantI S_ 1 1#1
  let main_v7 : IVec S_ 1 := (fun x v => Host.reduce IntOp.andi x v reducesTo_S1x2048x8x256_S_d0_1_2_3 h_S_) main_v6 main_c_1
  let main_v8 : IVec S_ 1 := andi main_v3 main_v7
  let main_v9 : FVec F S1x2048x64 .f32 := Host.absf main_arg2
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_c_3 : IVec S_ 1 := constantI S_ 1 1#1
  let main_v12 : IVec S_ 1 := (fun x v => Host.reduce IntOp.andi x v reducesTo_S1x2048x64_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S1x2048x8x192 : Shape := ⟨4, ![1, 2048, 8, 192]⟩
abbrev S1x2048x8x256 : Shape := ⟨4, ![1, 2048, 8, 256]⟩
abbrev S1x2048x64 : Shape := ⟨3, ![1, 2048, 64]⟩
abbrev S1024 : Shape := ⟨1, ![1024]⟩
abbrev S1x2048x2048 : Shape := ⟨3, ![1, 2048, 2048]⟩
abbrev S1x2048x8x128 : Shape := ⟨4, ![1, 2048, 8, 128]⟩
abbrev S1x2048x8x64 : Shape := ⟨4, ![1, 2048, 8, 64]⟩
abbrev S1x8x2048x2048 : Shape := ⟨4, ![1, 8, 2048, 2048]⟩
abbrev S1x2048x2048x8 : Shape := ⟨4, ![1, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8 : Shape := ⟨3, ![1, 2048, 8]⟩
abbrev S2048x8x192 : Shape := ⟨3, ![2048, 8, 192]⟩
abbrev S2048x8x256 : Shape := ⟨3, ![2048, 8, 256]⟩
abbrev S2048x64 : Shape := ⟨2, ![2048, 64]⟩
abbrev S2048x128 : Shape := ⟨2, ![2048, 128]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩
abbrev S1x1024 : Shape := ⟨2, ![1, 1024]⟩
abbrev S2048x256 : Shape := ⟨2, ![2048, 256]⟩
abbrev S1x128 : Shape := ⟨2, ![1, 128]⟩
abbrev S128 : Shape := ⟨1, ![128]⟩
abbrev S1024x256 : Shape := ⟨2, ![1024, 256]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 88
  | .vmem => 26
  | .smem => 0
  | _ => 0

abbrev bufTy : (tb : Table) → Fin (tcTables nBuf tb) → BufTy
  | .hbm, ⟨0, _⟩ => ⟨S1x2048x8x192, .f32⟩
  | .hbm, ⟨1, _⟩ => ⟨S1x2048x8x256, .f32⟩
  | .hbm, ⟨2, _⟩ => ⟨S1x2048x64, .f32⟩
  | .hbm, ⟨3, _⟩ => ⟨S1024, .f32⟩
  | .hbm, ⟨4, _⟩ => ⟨S1x2048x2048, .f32⟩
  | .hbm, ⟨5, _⟩ => ⟨S1x2048x8x128, .f32⟩
  | .hbm, ⟨6, _⟩ => ⟨S1x2048x8x64, .f32⟩
  | .hbm, ⟨7, _⟩ => ⟨S1x2048x8x128, .f32⟩
  | .hbm, ⟨8, _⟩ => ⟨S1x2048x8x128, .f32⟩
  | .hbm, ⟨9, _⟩ => ⟨S1x8x2048x2048, .f32⟩
  | .hbm, ⟨10, _⟩ => ⟨S1x2048x2048x8, .f32⟩
  | .hbm, ⟨11, _⟩ => ⟨S1x8x2048x2048, .f32⟩
  | .hbm, ⟨12, _⟩ => ⟨S1x8x2048x2048, .f32⟩
  | .hbm, ⟨13, _⟩ => ⟨S_, .f32⟩
  | .hbm, ⟨14, _⟩ => ⟨S1x8x2048x2048, .f32⟩
  | .hbm, ⟨15, _⟩ => ⟨S1x8x2048x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S1x8x2048x2048, .i1⟩
  | .hbm, ⟨43, _⟩ => ⟨S1x8x2048x2048, .f32⟩
  | .hbm, ⟨44, _⟩ => ⟨S1x8x2048x2048, .f32⟩
  | .hbm, ⟨45, _⟩ => ⟨S_, .f32⟩
  | .hbm, ⟨46, _⟩ => ⟨S1x8x2048, .f32⟩
  | .hbm, ⟨47, _⟩ => ⟨S1x8x2048x1, .f32⟩
  | .hbm, ⟨48, _⟩ => ⟨S1x8x2048x2048, .f32⟩
  | .hbm, ⟨49, _⟩ => ⟨S1x8x2048x2048, .f32⟩
  | .hbm, ⟨50, _⟩ => ⟨S1x8x2048x2048, .f32⟩
  | .hbm, ⟨51, _⟩ => ⟨S_, .f32⟩
  | .hbm, ⟨52, _⟩ => ⟨S1x8x2048, .f32⟩
  | .hbm, ⟨53, _⟩ => ⟨S1x8x2048x1, .f32⟩
  | .hbm, ⟨54, _⟩ => ⟨S1x8x2048x2048, .f32⟩
  | .hbm, ⟨55, _⟩ => ⟨S1x8x2048x2048, .f32⟩
  | .hbm, ⟨56, _⟩ => ⟨S1x8x128x2048, .f32⟩
  | .hbm, ⟨57, _⟩ => ⟨S1x2048x8x128, .f32⟩
  | .hbm, ⟨58, _⟩ => ⟨S1x8x2048x1, .f32⟩
  | .hbm, ⟨59, _⟩ => ⟨S1x8x2048x1, .f32⟩
  | .hbm, ⟨60, _⟩ => ⟨S1x8x2048, .f32⟩
  | .hbm, ⟨61, _⟩ => ⟨S1x2048x8, .f32⟩
  | .hbm, ⟨62, _⟩ => ⟨S2048x8x192, .f32⟩
  | .hbm, ⟨63, _⟩ => ⟨S_, .i32⟩
  | .hbm, ⟨64, _⟩ => ⟨S_, .f32⟩
  | .hbm, ⟨65, _⟩ => ⟨S2048x8x256, .f32⟩
  | .hbm, ⟨66, _⟩ => ⟨S2048x2048, .f32⟩
  | .hbm, ⟨67, _⟩ => ⟨S2048x64, .f32⟩
  | .hbm, ⟨68, _⟩ => ⟨S_, .i32⟩
  | .hbm, ⟨69, _⟩ => ⟨S_, .f32⟩
  | .hbm, ⟨70, _⟩ => ⟨S2048x128, .f32⟩
  | .hbm, ⟨71, _⟩ => ⟨S2048x8, .f32⟩
  | .hbm, ⟨72, _⟩ => ⟨S2048x8x1, .f32⟩
  | .hbm, ⟨73, _⟩ => ⟨S2048x8x128, .f32⟩
  | .hbm, ⟨74, _⟩ => ⟨S2048x1024, .f32⟩
  | .hbm, ⟨75, _⟩ => ⟨S2048x2048, .bf16⟩
  | .hbm, ⟨76, _⟩ => ⟨S2048x8x256, .f32⟩
  | .hbm, ⟨77, _⟩ => ⟨S2048x2048, .f32⟩
  | .hbm, ⟨78, _⟩ => ⟨S2048x2048, .bf16⟩
  | .hbm, ⟨79, _⟩ => ⟨S2048x128, .bf16⟩
  | .hbm, ⟨80, _⟩ => ⟨S2048x8x128, .f32⟩
  | .hbm, ⟨81, _⟩ => ⟨S2048x1024, .f32⟩
  | .hbm, ⟨82, _⟩ => ⟨S1x1024, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x1024, .f32⟩
  | .hbm, ⟨87, _⟩ => ⟨S1x1024, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | .local _ .vmem, ⟨12, _⟩ => ⟨S1x128, .f32⟩
  | .local _ .vmem, ⟨13, _⟩ => ⟨S2048x128, .f32⟩
  | .local _ .vmem, ⟨14, _⟩ => ⟨S2048x128, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x128, .f32⟩
  | .local _ .vmem, ⟨20, _⟩ => ⟨S2048x128, .f32⟩
  | .local _ .vmem, ⟨21, _⟩ => ⟨S1x128, .f32⟩
  | .local _ .vmem, ⟨22, _⟩ => ⟨S1x128, .f32⟩
  | .local _ .vmem, ⟨23, _⟩ => ⟨S2048x256, .bf16⟩
  | .local _ .vmem, ⟨24, _⟩ => ⟨S2048x128, .bf16⟩
  | .local _ .vmem, ⟨25, _⟩ => ⟨S2048x128, .f32⟩
  | _, _ => ⟨S1x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_3 : Ref sig .tc := ⟨.hbm, 63, rfl⟩
abbrev main_call2_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_call3_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51_0 : Ref sig .tc := ⟨.hbm, 84, rfl⟩
abbrev main_v51_1 : Ref sig .tc := ⟨.hbm, 85, rfl⟩
abbrev main_v51_2 : Ref sig .tc := ⟨.hbm, 86, rfl⟩
abbrev main_v51_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v60 : BitVec 32 := Scalar.addi c0_i32 c2_i32
  let c1_i32 : BitVec 32 := 1#32
  ⟨c0_i32, v60, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  v61
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v63 : Index := Scalar.indexCast v62
  let c0_34 : Index := 0#32
  ![v63.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v65 : Index := Scalar.indexCast v62
  let c0_35 : Index := 0#32
  ![v65.toNat, 0]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c1024_i32_36 : BitVec 32 := 1024#32
  let v68 : BitVec 32 := Scalar.muli arg16 c1024_i32_36
  v68
@[reducible] def k0_t2_loop (k0_t1 : Fin k0_t1_loop.trips) : Scf.Loop 32 :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c2_i32_59 : BitVec 32 := 2#32
  let v131 : BitVec 32 := Scalar.subi c2_i32_59 v130
  let c1_i32_61 : BitVec 32 := 1#32
  let v133 : BitVec 32 := Scalar.divsi v131 c1_i32_61
  let v134 : BitVec 32 := Scalar.muli v133 c1_i32_61
  let v135 : BitVec 32 := Scalar.addi v130 v134
  let c1_i32_62 : BitVec 32 := 1#32
  ⟨v130, v135, c1_i32_62⟩
def k0_mult3 (k0_t1 : Fin k0_t1_loop.trips) (k0_t2 : Fin (k0_t2_loop k0_t1).trips) : BitVec 32 :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c1_i32_62 : BitVec 32 := 1#32
  let arg17 : BitVec 32 := Scf.iv v130 c1_i32_62 k0_t2
  let c1024_i32_64 : BitVec 32 := 1024#32
  let v138 : BitVec 32 := Scalar.muli arg17 c1024_i32_64
  v138
def k0_off3 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c1_i32_62 : BitVec 32 := 1#32
  let arg17 : BitVec 32 := Scf.iv v130 c1_i32_62 k0_t2
  let c1024_i32_64 : BitVec 32 := 1024#32
  let v138 : BitVec 32 := Scalar.muli arg17 c1024_i32_64
  let v139 : BitVec 32 := v138
  let v140 : Index := Scalar.indexCast v139
  let c0_65 : Index := 0#32
  ![v140.toNat, 0]
def k0_off4 (k0_t1 : Fin k0_t1_loop.trips) (k0_t2 : Fin (k0_t2_loop k0_t1).trips) : Fin 2 → Nat :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c1_i32_62 : BitVec 32 := 1#32
  let arg17 : BitVec 32 := Scf.iv v130 c1_i32_62 k0_t2
  let c1024_i32_64 : BitVec 32 := 1024#32
  let v138 : BitVec 32 := Scalar.muli arg17 c1024_i32_64
  let v139 : BitVec 32 := v138
  let v143 : Index := Scalar.indexCast v139
  let c0_66 : Index := 0#32
  ![v143.toNat, 0]
def k0_off5 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v165 : Index := Scalar.indexCast v62
  let c0_73 : Index := 0#32
  ![v165.toNat, 0]
def k0_off6 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v173 : Index := Scalar.indexCast v62
  let c0_76 : Index := 0#32
  ![v173.toNat, 0]
@[reducible] def k0_t3_loop (k0_t1 : Fin k0_t1_loop.trips) : Scf.Loop 32 :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c2_i32_59 : BitVec 32 := 2#32
  let v131 : BitVec 32 := Scalar.subi c2_i32_59 v130
  let c1_i32_61 : BitVec 32 := 1#32
  let v133 : BitVec 32 := Scalar.divsi v131 c1_i32_61
  let v134 : BitVec 32 := Scalar.muli v133 c1_i32_61
  let v135 : BitVec 32 := Scalar.addi v130 v134
  let v132 : BitVec 32 := Scalar.addi v130 v131
  let c1_i32_63 : BitVec 32 := 1#32
  ⟨v135, v132, c1_i32_63⟩
def k0_mult4 (k0_t1 : Fin k0_t1_loop.trips) (k0_t3 : Fin (k0_t3_loop k0_t1).trips) : BitVec 32 :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c2_i32_59 : BitVec 32 := 2#32
  let v131 : BitVec 32 := Scalar.subi c2_i32_59 v130
  let c1_i32_61 : BitVec 32 := 1#32
  let v133 : BitVec 32 := Scalar.divsi v131 c1_i32_61
  let v134 : BitVec 32 := Scalar.muli v133 c1_i32_61
  let v135 : BitVec 32 := Scalar.addi v130 v134
  let c1_i32_63 : BitVec 32 := 1#32
  let arg17 : BitVec 32 := Scf.iv v135 c1_i32_63 k0_t3
  let c1024_i32_64 : BitVec 32 := 1024#32
  let v138 : BitVec 32 := Scalar.muli arg17 c1024_i32_64
  v138
def k0_off7 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c2_i32_59 : BitVec 32 := 2#32
  let v131 : BitVec 32 := Scalar.subi c2_i32_59 v130
  let c1_i32_61 : BitVec 32 := 1#32
  let v133 : BitVec 32 := Scalar.divsi v131 c1_i32_61
  let v134 : BitVec 32 := Scalar.muli v133 c1_i32_61
  let v135 : BitVec 32 := Scalar.addi v130 v134
  let c1_i32_63 : BitVec 32 := 1#32
  let arg17 : BitVec 32 := Scf.iv v135 c1_i32_63 k0_t3
  let c1024_i32_64 : BitVec 32 := 1024#32
  let v138 : BitVec 32 := Scalar.muli arg17 c1024_i32_64
  let v139 : BitVec 32 := v138
  let v140 : Index := Scalar.indexCast v139
  let c0_65 : Index := 0#32
  ![v140.toNat, 0]
def k0_off8 (k0_t1 : Fin k0_t1_loop.trips) (k0_t3 : Fin (k0_t3_loop k0_t1).trips) : Fin 2 → Nat :=
  let c0_i32 : BitVec 32 := 0#32
  let c1_i32 : BitVec 32 := 1#32
  let arg16 : BitVec 32 := Scf.iv c0_i32 c1_i32 k0_t1
  let c1_i32_58 : BitVec 32 := 1#32
  let v130 : BitVec 32 := Scalar.addi arg16 c1_i32_58
  let c2_i32_59 : BitVec 32 := 2#32
  let v131 : BitVec 32 := Scalar.subi c2_i32_59 v130
  let c1_i32_61 : BitVec 32 := 1#32
  let v133 : BitVec 32 := Scalar.divsi v131 c1_i32_61
  let v134 : BitVec 32 := Scalar.muli v133 c1_i32_61
  let v135 : BitVec 32 := Scalar.addi v130 v134
  let c1_i32_63 : BitVec 32 := 1#32
  let arg17 : BitVec 32 := Scf.iv v135 c1_i32_63 k0_t3
  let c1024_i32_64 : BitVec 32 := 1024#32
  let v138 : BitVec 32 := Scalar.muli arg17 c1024_i32_64
  let v139 : BitVec 32 := v138
  let v143 : Index := Scalar.indexCast v139
  let c0_66 : Index := 0#32
  ![v143.toNat, 0]
def k0_off9 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v165 : Index := Scalar.indexCast v62
  let c0_73 : Index := 0#32
  ![v165.toNat, 0]
def k0_off10 (k0_t1 : Fin k0_t1_loop.trips) : Fin 2 → Nat :=
  let c0_i32 : BitVec 32 := 0#32
  let c1_i32 : BitVec 32 := 1#32
  let arg16 : BitVec 32 := Scf.iv c0_i32 c1_i32 k0_t1
  let c1024_i32 : BitVec 32 := 1024#32
  let v61 : BitVec 32 := Scalar.muli arg16 c1024_i32
  let v62 : BitVec 32 := v61
  let v173 : Index := Scalar.indexCast v62
  let c0_76 : Index := 0#32
  ![v173.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x2048x8x192 : Shape := ⟨4, ![1, 2048, 8, 192]⟩
abbrev S1x2048x8x256 : Shape := ⟨4, ![1, 2048, 8, 256]⟩
abbrev S1x2048x64 : Shape := ⟨3, ![1, 2048, 64]⟩
abbrev S1024 : Shape := ⟨1, ![1024]⟩
abbrev S1x2048x2048 : Shape := ⟨3, ![1, 2048, 2048]⟩
abbrev S1x2048x8x128 : Shape := ⟨4, ![1, 2048, 8, 128]⟩
abbrev S1x2048x1x64 : Shape := ⟨4, ![1, 2048, 1, 64]⟩
abbrev S1x2048x8x64 : Shape := ⟨4, ![1, 2048, 8, 64]⟩
abbrev S1x8x128 : Shape := ⟨3, ![1, 8, 128]⟩
abbrev S1x2048x1024 : Shape := ⟨3, ![1, 2048, 1024]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S8x128 : Shape := ⟨2, ![8, 128]⟩
abbrev S2048x8 : Shape := ⟨2, ![2048, 8]⟩
abbrev S8x2048 : Shape := ⟨2, ![8, 2048]⟩
abbrev S1x8x2048x64 : Shape := ⟨4, ![1, 8, 2048, 64]⟩
abbrev S1x8x2048x128 : Shape := ⟨4, ![1, 8, 2048, 128]⟩
abbrev S2048x1024 : Shape := ⟨2, ![2048, 1024]⟩
abbrev S1x1024 : Shape := ⟨2, ![1, 1024]⟩

abbrev nBuf : Space → Nat
  | .hbm => 184
  | .vmem => 0
  | .smem => 0
  | _ => 0

abbrev hbmTy0_0 (i : Nat) : BufTy := match i % 128 with
  | 0 => ⟨S1x2048x8x192, .f32⟩
  | 1 => ⟨S1x2048x8x256, .f32⟩
  | 2 => ⟨S1x2048x64, .f32⟩
  | 3 => ⟨S1024, .f32⟩
  | 4 => ⟨S1x2048x2048, .f32⟩
  | 5 => ⟨S1x2048x8x128, .f32⟩
  | 6 => ⟨S1x2048x8x128, .f32⟩
  | 7 => ⟨S1x2048x1x64, .f32⟩
  | 8 => ⟨S1x2048x8x64, .f32⟩
  | 9 => ⟨S1x8x128, .f32⟩
  | 10 => ⟨S1x2048x1024, .f32⟩
  | 11 => ⟨S1x2048x8x128, .f32⟩
  | 12 => ⟨S1x2048x8x128, .f32⟩
  | 13 => ⟨S1x2048x8x64, .f32⟩
  | 14 => ⟨S1x8x2048x2048, .f32⟩
  | 15 => ⟨S1x8x2048x2048, .f32⟩
  | 16 => ⟨S1x8x2048x2048, .f32⟩
  | 17 => ⟨S_, .f32⟩
  | 18 => ⟨S1x8x2048x2048, .f32⟩
  | 19 => ⟨S1x8x2048x2048, .f32⟩
  | 20 => ⟨S2048, .i32⟩
  | 21 => ⟨S_, .i32⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S2048, .i32⟩
  | 30 => ⟨S2048, .i32⟩
  | 31 => ⟨S_, .i32⟩
  | 32 => ⟨S2048, .i32⟩
  | 33 => ⟨S2048, .i1⟩
  | 34 => ⟨S2048, .i1⟩
  | 35 => ⟨S_, .i32⟩
  | 36 => ⟨S2048, .i32⟩
  | 37 => ⟨S2048, .i32⟩
  | 38 => ⟨S2048, .i32⟩
  | 39 => ⟨S1x2048, .i32⟩
  | 40 => ⟨S2048x1, .i32⟩
  | 41 => ⟨S2048x2048, .i32⟩
  | 42 => ⟨S2048x2048, .i32⟩
  | 43 => ⟨S2048x2048, .i1⟩
  | 44 => ⟨S_, .f32⟩
  | 45 => ⟨S_, .f32⟩
  | 46 => ⟨S1x8x2048x2048, .i1⟩
  | 47 => ⟨S1x8x2048x2048, .f32⟩
  | 48 => ⟨S1x8x2048x2048, .f32⟩
  | 49 => ⟨S_, .f32⟩
  | 50 => ⟨S1x8x2048x2048, .f32⟩
  | 51 => ⟨S_, .f32⟩
  | 52 => ⟨S1x8x2048, .f32⟩
  | 53 => ⟨S1x8x2048x1, .f32⟩
  | 54 => ⟨S1x8x2048x2048, .f32⟩
  | 55 => ⟨S1x8x2048x2048, .i1⟩
  | 56 => ⟨S1x8x2048x2048, .f32⟩
  | 57 => ⟨S_, .f32⟩
  | 58 => ⟨S1x8x2048, .f32⟩
  | 59 => ⟨S_, .f32⟩
  | 60 => ⟨S1x8x2048, .f32⟩
  | 61 => ⟨S1x8x2048, .f32⟩
  | 62 => ⟨S_, .f32⟩
  | 63 => ⟨S1x8x2048, .f32⟩
  | 64 => ⟨S1x8x2048, .i1⟩
  | 65 => ⟨S_, .f32⟩
  | 66 => ⟨S1x8x2048, .f32⟩
  | 67 => ⟨S1x8x2048, .i1⟩
  | 68 => ⟨S_, .f32⟩
  | 69 => ⟨S1x8x2048, .f32⟩
  | 70 => ⟨S_, .f32⟩
  | 71 => ⟨S1x8x2048, .f32⟩
  | 72 => ⟨S_, .f32⟩
  | 73 => ⟨S1x8x2048, .f32⟩
  | 74 => ⟨S1x8x2048, .f32⟩
  | 75 => ⟨S1x8x2048, .f32⟩
  | 76 => ⟨S1x8x2048x1, .f32⟩
  | 77 => ⟨S1x8x2048x2048, .f32⟩
  | 78 => ⟨S1x8x2048x2048, .f32⟩
  | 79 => ⟨S1x8x2048x2048, .f32⟩
  | 80 => ⟨S_, .f32⟩
  | 81 => ⟨S1x8x2048, .f32⟩
  | 82 => ⟨S1x8x2048x1, .f32⟩
  | 83 => ⟨S1x8x2048x2048, .f32⟩
  | 84 => ⟨S1x8x2048x2048, .f32⟩
  | 85 => ⟨S1x8x2048x1, .f32⟩
  | 86 => ⟨S_, .f32⟩
  | 87 => ⟨S1x8x2048x1, .f32⟩
  | 88 => ⟨S1x8x2048x1, .f32⟩
  | 89 => ⟨S1x8x128x2048, .f32⟩
  | 90 => ⟨S1x2048x8x128, .f32⟩
  | 91 => ⟨S1x2048x8x128, .f32⟩
  | 92 => ⟨S_, .f32⟩
  | 93 => ⟨S1x2048x8, .f32⟩
  | 94 => ⟨S1x2048x8x1, .f32⟩
  | 95 => ⟨S_, .f32⟩
  | 96 => ⟨S1x2048x8x1, .f32⟩
  | 97 => ⟨S1x2048x8x1, .f32⟩
  | 98 => ⟨S_, .f32⟩
  | 99 => ⟨S1x2048x8x1, .f32⟩
  | 100 => ⟨S1x2048x8x1, .f32⟩
  | 101 => ⟨S1x2048x8x1, .f32⟩
  | 102 => ⟨S1x2048x8x1, .f32⟩
  | 103 => ⟨S_, .f32⟩
  | 104 => ⟨S1x2048x8x1, .f32⟩
  | 105 => ⟨S1x2048x8x1, .f32⟩
  | 106 => ⟨S1x2048x8x128, .f32⟩
  | 107 => ⟨S1x2048x8x128, .f32⟩
  | 108 => ⟨S1x1x8x128, .f32⟩
  | 109 => ⟨S1x2048x8x128, .f32⟩
  | 110 => ⟨S1x2048x8x128, .f32⟩
  | 111 => ⟨S1x2048x8x128, .f32⟩
  | 112 => ⟨S_, .f32⟩
  | 113 => ⟨S1x8x128, .f32⟩
  | 114 => ⟨S1x1x8x128, .f32⟩
  | 115 => ⟨S1x2048x8x128, .f32⟩
  | 116 => ⟨S1x2048x8x128, .f32⟩
  | 117 => ⟨S_, .f32⟩
  | 118 => ⟨S8x128, .f32⟩
  | 119 => ⟨S1x8x128, .f32⟩
  | 120 => ⟨S1x2048x8x128, .f32⟩
  | 121 => ⟨S_, .f32⟩
  | 122 => ⟨S1x2048x8, .f32⟩
  | 123 => ⟨S1x2048x8x1, .f32⟩
  | 124 => ⟨S1x2048x8x128, .f32⟩
  | 125 => ⟨S1x2048x8x128, .f32⟩
  | 126 => ⟨S1x2048x8x1, .f32⟩
  | 127 => ⟨S_, .f32⟩
  | _ => ⟨S1x2048x8x192, .f32⟩

abbrev hbmTy0_1 (i : Nat) : BufTy := match i % 128 with
  | 0 => ⟨S1x2048x8x1, .f32⟩
  | 1 => ⟨S1x2048x8x1, .f32⟩
  | 2 => ⟨S_, .f32⟩
  | 3 => ⟨S2048x8, .f32⟩
  | 4 => ⟨S1x2048x8, .f32⟩
  | 5 => ⟨S1x2048x8x128, .f32⟩
  | 6 => ⟨S1x2048x8x128, .f32⟩
  | 7 => ⟨S1x2048x8x128, .f32⟩
  | 8 => ⟨S1x2048x8x128, .f32⟩
  | 9 => ⟨S1x2048x8x128, .f32⟩
  | 10 => ⟨S1x8x128x2048, .f32⟩
  | 11 => ⟨S1x8x2048x2048, .f32⟩
  | 12 => ⟨S1x8x128x2048, .f32⟩
  | 13 => ⟨S1x2048x8x128, .f32⟩
  | 14 => ⟨S1x8x2048x2048, .f32⟩
  | 15 => ⟨S1x8x2048x2048, .f32⟩
  | 16 => ⟨S1x8x2048x2048, .f32⟩
  | 17 => ⟨S_, .f32⟩
  | 18 => ⟨S1x8x2048, .f32⟩
  | 19 => ⟨S1x8x2048x1, .f32⟩
  | 20 => ⟨S1x8x2048x1, .f32⟩
  | 21 => ⟨S1x8x2048x2048, .f32⟩
  | 22 => ⟨S1x8x2048x2048, .f32⟩
  | 23 => ⟨S_, .f32⟩
  | 24 => ⟨S8x2048, .f32⟩
  | 25 => ⟨S1x8x2048, .f32⟩
  | 26 => ⟨S1x8x2048x2048, .f32⟩
  | 27 => ⟨S1x8x2048x2048, .f32⟩
  | 28 => ⟨S1x8x2048x2048, .f32⟩
  | 29 => ⟨S_, .f32⟩
  | 30 => ⟨S1x8x2048x2048, .f32⟩
  | 31 => ⟨S1x8x2048x2048, .f32⟩
  | 32 => ⟨S_, .f32⟩
  | 33 => ⟨S1x8x2048x2048, .f32⟩
  | 34 => ⟨S1x8x2048x2048, .f32⟩
  | 35 => ⟨S1x8x2048x64, .f32⟩
  | 36 => ⟨S1x2048x8x64, .f32⟩
  | 37 => ⟨S1x8x2048x64, .f32⟩
  | 38 => ⟨S1x2048x8x64, .f32⟩
  | 39 => ⟨S1x8x2048x128, .f32⟩
  | 40 => ⟨S1x2048x8x128, .f32⟩
  | 41 => ⟨S1x8x2048x128, .f32⟩
  | 42 => ⟨S1x2048x8x128, .f32⟩
  | 43 => ⟨S_, .f32⟩
  | 44 => ⟨S1x2048x8x192, .f32⟩
  | 45 => ⟨S_, .f32⟩
  | 46 => ⟨S1x2048x8x192, .f32⟩
  | 47 => ⟨S1x2048x8x192, .f32⟩
  | 48 => ⟨S_, .f32⟩
  | 49 => ⟨S1x2048x8x64, .f32⟩
  | 50 => ⟨S1x2048x8x256, .f32⟩
  | 51 => ⟨S2048x2048, .f32⟩
  | 52 => ⟨S1x2048x8x256, .f32⟩
  | 53 => ⟨S2048x2048, .f32⟩
  | 54 => ⟨S2048x1024, .f32⟩
  | 55 => ⟨S1x1024, .f32⟩
  | _ => ⟨S1x2048x8x192, .f32⟩

abbrev hbmTy (i : Nat) : BufTy := match i / 128 with
  | 0 => hbmTy0_0 i
  | 1 => hbmTy0_1 i
  | _ => ⟨S1x2048x8x192, .f32⟩

abbrev bufTy : (tb : Table) → Fin (tcTables nBuf tb) → BufTy
  | .hbm, ⟨i, _⟩ => hbmTy i
  | _, _ => ⟨S1x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_call1_v0 : Ref sig .tc := ⟨.hbm, 45, rfl⟩
abbrev main_v21_1 : Ref sig .tc := ⟨.hbm, 46, rfl⟩
abbrev main_call1_v2 : Ref sig .tc := ⟨.hbm, 47, rfl⟩
abbrev main_v21_0 : Ref sig .tc := ⟨.hbm, 48, rfl⟩
abbrev main_call1_cst : Ref sig .tc := ⟨.hbm, 49, rfl⟩
abbrev main_v21_2 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_9 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_11 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_cst_13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_14 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_16 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_17 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_18 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_20 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_21 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_call2_cst : Ref sig .tc := ⟨.hbm, 157, rfl⟩
abbrev main_call2_v0 : Ref sig .tc := ⟨.hbm, 158, rfl⟩
abbrev main_v107 : Ref sig .tc := ⟨.hbm, 159, rfl⟩
abbrev main_cst_22 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_23 : Ref sig .tc := ⟨.hbm, 171, rfl⟩
abbrev main_v118 : Ref sig .tc := ⟨.hbm, 172, rfl⟩
abbrev main_cst_24 : Ref sig .tc := ⟨.hbm, 173, rfl⟩
abbrev main_v119 : Ref sig .tc := ⟨.hbm, 174, rfl⟩
abbrev main_v120 : Ref sig .tc := ⟨.hbm, 175, rfl⟩
abbrev main_cst_25 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩

abbrev nD : Nat := 1
abbrev τ : Topo := Topo.v7x

variable {F : FTy → Type} [FloatOps F]
-- ==== KernelDown.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .hbm, ⟨8, _⟩ => ⟨S2048x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelGwDown.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S2048x2048, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwDownIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S8192x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelDact.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .bf16⟩
  | .hbm, ⟨5, _⟩ => ⟨S2048x8192, .bf16⟩
  | .hbm, ⟨6, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDactIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S8192x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelUp.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x4x2048, .f32⟩
  | .hbm, ⟨4, _⟩ => ⟨S4x2048x2048, .f32⟩
  | .hbm, ⟨5, _⟩ => ⟨S4x2048x2048, .bf16⟩
  | .hbm, ⟨6, _⟩ => ⟨S2048x8192, .bf16⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelGwUp.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x2048, .bf16⟩
  | .hbm, ⟨4, _⟩ => ⟨S2048x8192, .bf16⟩
  | .hbm, ⟨5, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwUpIdeal.lean ====
abbrev S2048x2048 : Shape := ⟨2, ![2048, 2048]⟩
abbrev S2048x8192 : Shape := ⟨2, ![2048, 8192]⟩
abbrev S8192x2048 : Shape := ⟨2, ![8192, 2048]⟩
abbrev S1x2048x2048 : Shape := ⟨3, ![1, 2048, 2048]⟩
abbrev S4x2048x2048 : Shape := ⟨3, ![4, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S8192x2048, .f32⟩
  | .hbm, ⟨5, _⟩ => ⟨S2048x8192, .f32⟩
  | .hbm, ⟨6, _⟩ => ⟨S2048x2048, .f32⟩
  | .hbm, ⟨7, _⟩ => ⟨S2048x8192, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048x2048, .bf16⟩
  | .hbm, ⟨13, _⟩ => ⟨S1x2048x2048, .bf16⟩
  | .hbm, ⟨14, _⟩ => ⟨S1x2048x2048, .bf16⟩
  | .hbm, ⟨15, _⟩ => ⟨S1x2048x2048, .bf16⟩
  | .hbm, ⟨16, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelDh2.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S2048x4x2048, .f32⟩
  | .hbm, ⟨5, _⟩ => ⟨S4x2048x2048, .f32⟩
  | .hbm, ⟨6, _⟩ => ⟨S4x2048x2048, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh2Ideal.lean ====
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S8192x2048, .f32⟩
  | .hbm, ⟨5, _⟩ => ⟨S2048x8192, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGwOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwOutIdeal.lean ====
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDycat.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDycatIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelKv.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x512, .bf16⟩
  | .hbm, ⟨3, _⟩ => ⟨S512x2048, .bf16⟩
  | .hbm, ⟨4, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGwUkv.lean ====
abbrev S2048x512 : Shape := ⟨2, ![2048, 512]⟩
abbrev S512x2048 : Shape := ⟨2, ![512, 2048]⟩
abbrev S2048x2048 : Shape := ⟨2, ![2048, 2048]⟩
abbrev S2048x1024 : Shape := ⟨2, ![2048, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x512, .bf16⟩
  | .hbm, ⟨4, _⟩ => ⟨S2048x2048, .bf16⟩
  | .hbm, ⟨5, _⟩ => ⟨S512x2048, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwUkvIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S2048x512, .f32⟩
  | .hbm, ⟨7, _⟩ => ⟨S512x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDckv.lean ====
abbrev S2048x512 : Shape := ⟨2, ![2048, 512]⟩
abbrev S512x2048 : Shape := ⟨2, ![512, 2048]⟩
abbrev S2048x2048 : Shape := ⟨2, ![2048, 2048]⟩
abbrev S1024x2048 : Shape := ⟨2, ![1024, 2048]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x2048, .bf16⟩
  | .hbm, ⟨4, _⟩ => ⟨S512x2048, .bf16⟩
  | .hbm, ⟨5, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDckvIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAdamwMlp.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamwMlpIdeal.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwMlpIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwIn.lean ====
abbrev S2048x1104 : Shape := ⟨2, ![2048, 1104]⟩
abbrev S256x1104 : Shape := ⟨2, ![256, 1104]⟩

abbrev nBuf : Space → Nat
  | .hbm => 8
  | .vmem => 16
  | .smem => 0
  | _ => 0

abbrev bufTy : (tb : Table) → Fin (tcTables nBuf tb) → BufTy
  | .hbm, ⟨0, _⟩ => ⟨S2048x1104, .f32⟩
  | .hbm, ⟨1, _⟩ => ⟨S2048x1104, .f32⟩
  | .hbm, ⟨2, _⟩ => ⟨S2048x1104, .f32⟩
  | .hbm, ⟨3, _⟩ => ⟨S2048x1104, .f32⟩
  | .hbm, ⟨4, _⟩ => ⟨S2048x1104, .f32⟩
  | .hbm, ⟨5, _⟩ => ⟨S2048x1104, .f32⟩
  | .hbm, ⟨6, _⟩ => ⟨S2048x1104, .f32⟩
  | .hbm, ⟨7, _⟩ => ⟨S2048x1104, .f32⟩
  | .local _ .vmem, ⟨0, _⟩ => ⟨S256x1104, .f32⟩
  | .local _ .vmem, ⟨1, _⟩ => ⟨S256x1104, .f32⟩
  | .local _ .vmem, ⟨2, _⟩ => ⟨S256x1104, .f32⟩
  | .local _ .vmem, ⟨3, _⟩ => ⟨S256x1104, .f32⟩
  | .local _ .vmem, ⟨4, _⟩ => ⟨S256x1104, .f32⟩
  | .local _ .vmem, ⟨5, _⟩ => ⟨S256x1104, .f32⟩
  | .local _ .vmem, ⟨6, _⟩ => ⟨S256x1104, .f32⟩
  | .local _ .vmem, ⟨7, _⟩ => ⟨S256x1104, .f32⟩
  | .local _ .vmem, ⟨8, _⟩ => ⟨S256x1104, .f32⟩
  | .local _ .vmem, ⟨9, _⟩ => ⟨S256x1104, .f32⟩
  | .local _ .vmem, ⟨10, _⟩ => ⟨S256x1104, .f32⟩
  | .local _ .vmem, ⟨11, _⟩ => ⟨S256x1104, .f32⟩
  | .local _ .vmem, ⟨12, _⟩ => ⟨S256x1104, .f32⟩
  | .local _ .vmem, ⟨13, _⟩ => ⟨S256x1104, .f32⟩
  | .local _ .vmem, ⟨14, _⟩ => ⟨S256x1104, .f32⟩
  | .local _ .vmem, ⟨15, _⟩ => ⟨S256x1104, .f32⟩
  | _, _ => ⟨S2048x1104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1104 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1104 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1104 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1104 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1104 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1104 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1104 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamwInIdeal.lean ====
abbrev S2048x1104 : Shape := ⟨2, ![2048, 1104]⟩
abbrev S256x1104 : Shape := ⟨2, ![256, 1104]⟩

abbrev nBuf : Space → Nat
  | .hbm => 8
  | .vmem => 16
  | .smem => 0
  | _ => 0

abbrev bufTy : (tb : Table) → Fin (tcTables nBuf tb) → BufTy
  | .hbm, ⟨0, _⟩ => ⟨S2048x1104, .f32⟩
  | .hbm, ⟨1, _⟩ => ⟨S2048x1104, .f32⟩
  | .hbm, ⟨2, _⟩ => ⟨S2048x1104, .f32⟩
  | .hbm, ⟨3, _⟩ => ⟨S2048x1104, .f32⟩
  | .hbm, ⟨4, _⟩ => ⟨S2048x1104, .f32⟩
  | .hbm, ⟨5, _⟩ => ⟨S2048x1104, .f32⟩
  | .hbm, ⟨6, _⟩ => ⟨S2048x1104, .f32⟩
  | .hbm, ⟨7, _⟩ => ⟨S2048x1104, .f32⟩
  | .local _ .vmem, ⟨0, _⟩ => ⟨S256x1104, .f32⟩
  | .local _ .vmem, ⟨1, _⟩ => ⟨S256x1104, .f32⟩
  | .local _ .vmem, ⟨2, _⟩ => ⟨S256x1104, .f32⟩
  | .local _ .vmem, ⟨3, _⟩ => ⟨S256x1104, .f32⟩
  | .local _ .vmem, ⟨4, _⟩ => ⟨S256x1104, .f32⟩
  | .local _ .vmem, ⟨5, _⟩ => ⟨S256x1104, .f32⟩
  | .local _ .vmem, ⟨6, _⟩ => ⟨S256x1104, .f32⟩
  | .local _ .vmem, ⟨7, _⟩ => ⟨S256x1104, .f32⟩
  | .local _ .vmem, ⟨8, _⟩ => ⟨S256x1104, .f32⟩
  | .local _ .vmem, ⟨9, _⟩ => ⟨S256x1104, .f32⟩
  | .local _ .vmem, ⟨10, _⟩ => ⟨S256x1104, .f32⟩
  | .local _ .vmem, ⟨11, _⟩ => ⟨S256x1104, .f32⟩
  | .local _ .vmem, ⟨12, _⟩ => ⟨S256x1104, .f32⟩
  | .local _ .vmem, ⟨13, _⟩ => ⟨S256x1104, .f32⟩
  | .local _ .vmem, ⟨14, _⟩ => ⟨S256x1104, .f32⟩
  | .local _ .vmem, ⟨15, _⟩ => ⟨S256x1104, .f32⟩
  | _, _ => ⟨S2048x1104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1104 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1104 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1104 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1104 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1104 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1104 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1104 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwInIdeal.lean ====
abbrev S2048x1104 : Shape := ⟨2, ![2048, 1104]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1104, .f32⟩
  | .hbm, ⟨1, _⟩ => ⟨S2048x1104, .f32⟩
  | .hbm, ⟨2, _⟩ => ⟨S2048x1104, .f32⟩
  | .hbm, ⟨3, _⟩ => ⟨S2048x1104, .f32⟩
  | .hbm, ⟨4, _⟩ => ⟨S_, .f32⟩
  | .hbm, ⟨5, _⟩ => ⟨S2048x1104, .f32⟩
  | .hbm, ⟨6, _⟩ => ⟨S2048x1104, .f32⟩
  | .hbm, ⟨7, _⟩ => ⟨S_, .f32⟩
  | .hbm, ⟨8, _⟩ => ⟨S2048x1104, .f32⟩
  | .hbm, ⟨9, _⟩ => ⟨S2048x1104, .f32⟩
  | .hbm, ⟨10, _⟩ => ⟨S2048x1104, .f32⟩
  | .hbm, ⟨11, _⟩ => ⟨S_, .f32⟩
  | .hbm, ⟨12, _⟩ => ⟨S2048x1104, .f32⟩
  | .hbm, ⟨13, _⟩ => ⟨S2048x1104, .f32⟩
  | .hbm, ⟨14, _⟩ => ⟨S2048x1104, .f32⟩
  | .hbm, ⟨15, _⟩ => ⟨S_, .f32⟩
  | .hbm, ⟨16, _⟩ => ⟨S2048x1104, .f32⟩
  | .hbm, ⟨17, _⟩ => ⟨S2048x1104, .f32⟩
  | .hbm, ⟨18, _⟩ => ⟨S2048x1104, .f32⟩
  | .hbm, ⟨19, _⟩ => ⟨S_, .f32⟩
  | .hbm, ⟨20, _⟩ => ⟨S2048x1104, .f32⟩
  | .hbm, ⟨21, _⟩ => ⟨S2048x1104, .f32⟩
  | .hbm, ⟨22, _⟩ => ⟨S_, .f32⟩
  | .hbm, ⟨23, _⟩ => ⟨S2048x1104, .f32⟩
  | .hbm, ⟨24, _⟩ => ⟨S2048x1104, .f32⟩
  | .hbm, ⟨25, _⟩ => ⟨S2048x1104, .f32⟩
  | .hbm, ⟨26, _⟩ => ⟨S_, .f32⟩
  | .hbm, ⟨27, _⟩ => ⟨S2048x1104, .f32⟩
  | .hbm, ⟨28, _⟩ => ⟨S2048x1104, .f32⟩
  | .hbm, ⟨29, _⟩ => ⟨S2048x1104, .f32⟩
  | .hbm, ⟨30, _⟩ => ⟨S_, .f32⟩
  | .hbm, ⟨31, _⟩ => ⟨S2048x1104, .f32⟩
  | .hbm, ⟨32, _⟩ => ⟨S2048x1104, .f32⟩
  | .hbm, ⟨33, _⟩ => ⟨S2048x1104, .f32⟩
  | .hbm, ⟨34, _⟩ => ⟨S_, .f32⟩
  | .hbm, ⟨35, _⟩ => ⟨S2048x1104, .f32⟩
  | .hbm, ⟨36, _⟩ => ⟨S2048x1104, .f32⟩
  | _, _ => ⟨S2048x1104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwUq.lean ====
abbrev S768x384 : Shape := ⟨2, ![768, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamwUqIdeal.lean ====
abbrev S768x384 : Shape := ⟨2, ![768, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwUqIdeal.lean ====
abbrev S768x384 : Shape := ⟨2, ![768, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S_, .f32⟩
  | .hbm, ⟨5, _⟩ => ⟨S768x384, .f32⟩
  | .hbm, ⟨6, _⟩ => ⟨S768x384, .f32⟩
  | .hbm, ⟨7, _⟩ => ⟨S_, .f32⟩
  | .hbm, ⟨8, _⟩ => ⟨S768x384, .f32⟩
  | .hbm, ⟨9, _⟩ => ⟨S768x384, .f32⟩
  | .hbm, ⟨10, _⟩ => ⟨S768x384, .f32⟩
  | .hbm, ⟨11, _⟩ => ⟨S_, .f32⟩
  | .hbm, ⟨12, _⟩ => ⟨S768x384, .f32⟩
  | .hbm, ⟨13, _⟩ => ⟨S768x384, .f32⟩
  | .hbm, ⟨14, _⟩ => ⟨S768x384, .f32⟩
  | .hbm, ⟨15, _⟩ => ⟨S_, .f32⟩
  | .hbm, ⟨16, _⟩ => ⟨S768x384, .f32⟩
  | .hbm, ⟨17, _⟩ => ⟨S768x384, .f32⟩
  | .hbm, ⟨18, _⟩ => ⟨S768x384, .f32⟩
  | .hbm, ⟨19, _⟩ => ⟨S_, .f32⟩
  | .hbm, ⟨20, _⟩ => ⟨S768x384, .f32⟩
  | .hbm, ⟨21, _⟩ => ⟨S768x384, .f32⟩
  | .hbm, ⟨22, _⟩ => ⟨S_, .f32⟩
  | .hbm, ⟨23, _⟩ => ⟨S768x384, .f32⟩
  | .hbm, ⟨24, _⟩ => ⟨S768x384, .f32⟩
  | .hbm, ⟨25, _⟩ => ⟨S768x384, .f32⟩
  | .hbm, ⟨26, _⟩ => ⟨S_, .f32⟩
  | .hbm, ⟨27, _⟩ => ⟨S768x384, .f32⟩
  | .hbm, ⟨28, _⟩ => ⟨S768x384, .f32⟩
  | .hbm, ⟨29, _⟩ => ⟨S768x384, .f32⟩
  | .hbm, ⟨30, _⟩ => ⟨S_, .f32⟩
  | .hbm, ⟨31, _⟩ => ⟨S768x384, .f32⟩
  | .hbm, ⟨32, _⟩ => ⟨S768x384, .f32⟩
  | .hbm, ⟨33, _⟩ => ⟨S768x384, .f32⟩
  | .hbm, ⟨34, _⟩ => ⟨S_, .f32⟩
  | .hbm, ⟨35, _⟩ => ⟨S768x384, .f32⟩
  | .hbm, ⟨36, _⟩ => ⟨S768x384, .f32⟩
  | _, _ => ⟨S768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwUkv.lean ====
abbrev S512x512 : Shape := ⟨2, ![512, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamwUkvIdeal.lean ====
abbrev S512x512 : Shape := ⟨2, ![512, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwUkvIdeal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwO.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamwOIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwOIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamwSmall.lean ====
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwSmallIdeal.lean ====
abbrev S16x2048 : Shape := ⟨2, ![16, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelInput.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v32 : BitVec 32 := Scalar.extui v29
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let v_true : BitVec 1 := 1#1
  let v34 : BitVec 1 := Scalar.xori v29 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceInputIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelProj.lean ====
abbrev S2048x2048 : Shape := ⟨2, ![2048, 2048]⟩
abbrev S2048x4416 : Shape := ⟨2, ![2048, 4416]⟩
abbrev S2048x4x1104 : Shape := ⟨3, ![2048, 4, 1104]⟩
abbrev S4x2048x1104 : Shape := ⟨3, ![4, 2048, 1104]⟩
abbrev S_ : Shape := ⟨0, ![]⟩
abbrev S2048x192 : Shape := ⟨2, ![2048, 192]⟩
abbrev S1x2048x1104 : Shape := ⟨3, ![1, 2048, 1104]⟩
abbrev S2048x1104 : Shape := ⟨2, ![2048, 1104]⟩
abbrev S2048x528 : Shape := ⟨2, ![2048, 528]⟩
abbrev S2048x64 : Shape := ⟨2, ![2048, 64]⟩
abbrev S2048x512 : Shape := ⟨2, ![2048, 512]⟩
abbrev S2048x4608 : Shape := ⟨2, ![2048, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 25
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4x1104, .f32⟩
  | .hbm, ⟨3, _⟩ => ⟨S4x2048x1104, .f32⟩
  | .hbm, ⟨4, _⟩ => ⟨S4x2048x1104, .bf16⟩
  | .hbm, ⟨5, _⟩ => ⟨S_, .bf16⟩
  | .hbm, ⟨6, _⟩ => ⟨S2048x192, .bf16⟩
  | .hbm, ⟨7, _⟩ => ⟨S1x2048x1104, .bf16⟩
  | .hbm, ⟨8, _⟩ => ⟨S2048x1104, .bf16⟩
  | .hbm, ⟨9, _⟩ => ⟨S1x2048x1104, .bf16⟩
  | .hbm, ⟨10, _⟩ => ⟨S2048x1104, .bf16⟩
  | .hbm, ⟨11, _⟩ => ⟨S1x2048x1104, .bf16⟩
  | .hbm, ⟨12, _⟩ => ⟨S2048x1104, .bf16⟩
  | .hbm, ⟨13, _⟩ => ⟨S1x2048x1104, .bf16⟩
  | .hbm, ⟨14, _⟩ => ⟨S2048x1104, .bf16⟩
  | .hbm, ⟨15, _⟩ => ⟨S2048x528, .bf16⟩
  | .hbm, ⟨16, _⟩ => ⟨S1x2048x1104, .bf16⟩
  | .hbm, ⟨17, _⟩ => ⟨S2048x1104, .bf16⟩
  | .hbm, ⟨18, _⟩ => ⟨S2048x64, .bf16⟩
  | .hbm, ⟨19, _⟩ => ⟨S1x2048x1104, .bf16⟩
  | .hbm, ⟨20, _⟩ => ⟨S2048x1104, .bf16⟩
  | .hbm, ⟨21, _⟩ => ⟨S2048x512, .bf16⟩
  | .hbm, ⟨22, _⟩ => ⟨S2048x4608, .bf16⟩
  | .hbm, ⟨23, _⟩ => ⟨S2048x2048, .bf16⟩
  | .hbm, ⟨24, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S2048x2048 : Shape := ⟨2, ![2048, 2048]⟩
abbrev S2048x4416 : Shape := ⟨2, ![2048, 4416]⟩
abbrev S2048x1024 : Shape := ⟨2, ![2048, 1024]⟩
abbrev S2048x768 : Shape := ⟨2, ![2048, 768]⟩
abbrev S2048x512 : Shape := ⟨2, ![2048, 512]⟩
abbrev S2048x64 : Shape := ⟨2, ![2048, 64]⟩
abbrev S_ : Shape := ⟨0, ![]⟩
abbrev S2048x192 : Shape := ⟨2, ![2048, 192]⟩
abbrev S2048x4608 : Shape := ⟨2, ![2048, 4608]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4416, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x768, .f32⟩
  | .hbm, ⟨7, _⟩ => ⟨S2048x512, .f32⟩
  | .hbm, ⟨8, _⟩ => ⟨S2048x64, .f32⟩
  | .hbm, ⟨9, _⟩ => ⟨S_, .f32⟩
  | .hbm, ⟨10, _⟩ => ⟨S2048x192, .f32⟩
  | .hbm, ⟨11, _⟩ => ⟨S2048x4608, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelGwIn.lean ====
abbrev S2048x2048 : Shape := ⟨2, ![2048, 2048]⟩
abbrev S2048x4416 : Shape := ⟨2, ![2048, 4416]⟩
abbrev S2048x3840 : Shape := ⟨2, ![2048, 3840]⟩
abbrev S2048x64 : Shape := ⟨2, ![2048, 64]⟩
abbrev S_ : Shape := ⟨0, ![]⟩
abbrev S2048x128 : Shape := ⟨2, ![2048, 128]⟩
abbrev S2048x512 : Shape := ⟨2, ![2048, 512]⟩
abbrev S2048x4608 : Shape := ⟨2, ![2048, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 14
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4416, .f32⟩
  | .hbm, ⟨3, _⟩ => ⟨S2048x2048, .bf16⟩
  | .hbm, ⟨4, _⟩ => ⟨S2048x4416, .bf16⟩
  | .hbm, ⟨5, _⟩ => ⟨S2048x3840, .bf16⟩
  | .hbm, ⟨6, _⟩ => ⟨S2048x64, .bf16⟩
  | .hbm, ⟨7, _⟩ => ⟨S_, .bf16⟩
  | .hbm, ⟨8, _⟩ => ⟨S2048x64, .bf16⟩
  | .hbm, ⟨9, _⟩ => ⟨S_, .bf16⟩
  | .hbm, ⟨10, _⟩ => ⟨S2048x128, .bf16⟩
  | .hbm, ⟨11, _⟩ => ⟨S2048x512, .bf16⟩
  | .hbm, ⟨12, _⟩ => ⟨S2048x4608, .bf16⟩
  | .hbm, ⟨13, _⟩ => ⟨S2048x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwInIdeal.lean ====
abbrev S2048x2048 : Shape := ⟨2, ![2048, 2048]⟩
abbrev S2048x4416 : Shape := ⟨2, ![2048, 4416]⟩
abbrev S4416x2048 : Shape := ⟨2, ![4416, 2048]⟩
abbrev S2048x1024 : Shape := ⟨2, ![2048, 1024]⟩
abbrev S2048x768 : Shape := ⟨2, ![2048, 768]⟩
abbrev S2048x512 : Shape := ⟨2, ![2048, 512]⟩
abbrev S2048x64 : Shape := ⟨2, ![2048, 64]⟩
abbrev S_ : Shape := ⟨0, ![]⟩
abbrev S2048x192 : Shape := ⟨2, ![2048, 192]⟩
abbrev S2048x4608 : Shape := ⟨2, ![2048, 4608]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4416, .f32⟩
  | .hbm, ⟨3, _⟩ => ⟨S2048x4416, .f32⟩
  | .hbm, ⟨4, _⟩ => ⟨S4416x2048, .f32⟩
  | .hbm, ⟨5, _⟩ => ⟨S2048x4416, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x768, .f32⟩
  | .hbm, ⟨11, _⟩ => ⟨S2048x512, .f32⟩
  | .hbm, ⟨12, _⟩ => ⟨S2048x64, .f32⟩
  | .hbm, ⟨13, _⟩ => ⟨S_, .f32⟩
  | .hbm, ⟨14, _⟩ => ⟨S2048x192, .f32⟩
  | .hbm, ⟨15, _⟩ => ⟨S2048x4608, .f32⟩
  | .hbm, ⟨16, _⟩ => ⟨S2048x4608, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDh1.lean ====
abbrev S2048x2048 : Shape := ⟨2, ![2048, 2048]⟩
abbrev S2048x4416 : Shape := ⟨2, ![2048, 4416]⟩
abbrev S2048x4x1104 : Shape := ⟨3, ![2048, 4, 1104]⟩
abbrev S4x2048x1104 : Shape := ⟨3, ![4, 2048, 1104]⟩
abbrev S_ : Shape := ⟨0, ![]⟩
abbrev S2048x192 : Shape := ⟨2, ![2048, 192]⟩
abbrev S1x2048x1104 : Shape := ⟨3, ![1, 2048, 1104]⟩
abbrev S2048x1104 : Shape := ⟨2, ![2048, 1104]⟩
abbrev S2048x528 : Shape := ⟨2, ![2048, 528]⟩
abbrev S2048x64 : Shape := ⟨2, ![2048, 64]⟩
abbrev S2048x512 : Shape := ⟨2, ![2048, 512]⟩
abbrev S2048x4608 : Shape := ⟨2, ![2048, 4608]⟩
abbrev S2048x3840 : Shape := ⟨2, ![2048, 3840]⟩
abbrev S2048x128 : Shape := ⟨2, ![2048, 128]⟩
abbrev S1024x2304 : Shape := ⟨2, ![1024, 2304]⟩
abbrev S1024x1024 : Shape := ⟨2, ![1024, 1024]⟩

abbrev nBuf : Space → Nat
  | .hbm => 34
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4416, .f32⟩
  | .hbm, ⟨3, _⟩ => ⟨S2048x4x1104, .f32⟩
  | .hbm, ⟨4, _⟩ => ⟨S4x2048x1104, .f32⟩
  | .hbm, ⟨5, _⟩ => ⟨S4x2048x1104, .bf16⟩
  | .hbm, ⟨6, _⟩ => ⟨S_, .bf16⟩
  | .hbm, ⟨7, _⟩ => ⟨S2048x192, .bf16⟩
  | .hbm, ⟨8, _⟩ => ⟨S1x2048x1104, .bf16⟩
  | .hbm, ⟨9, _⟩ => ⟨S2048x1104, .bf16⟩
  | .hbm, ⟨10, _⟩ => ⟨S1x2048x1104, .bf16⟩
  | .hbm, ⟨11, _⟩ => ⟨S2048x1104, .bf16⟩
  | .hbm, ⟨12, _⟩ => ⟨S1x2048x1104, .bf16⟩
  | .hbm, ⟨13, _⟩ => ⟨S2048x1104, .bf16⟩
  | .hbm, ⟨14, _⟩ => ⟨S1x2048x1104, .bf16⟩
  | .hbm, ⟨15, _⟩ => ⟨S2048x1104, .bf16⟩
  | .hbm, ⟨16, _⟩ => ⟨S2048x528, .bf16⟩
  | .hbm, ⟨17, _⟩ => ⟨S1x2048x1104, .bf16⟩
  | .hbm, ⟨18, _⟩ => ⟨S2048x1104, .bf16⟩
  | .hbm, ⟨19, _⟩ => ⟨S2048x64, .bf16⟩
  | .hbm, ⟨20, _⟩ => ⟨S1x2048x1104, .bf16⟩
  | .hbm, ⟨21, _⟩ => ⟨S2048x1104, .bf16⟩
  | .hbm, ⟨22, _⟩ => ⟨S2048x512, .bf16⟩
  | .hbm, ⟨23, _⟩ => ⟨S2048x4608, .bf16⟩
  | .hbm, ⟨24, _⟩ => ⟨S2048x4416, .bf16⟩
  | .hbm, ⟨25, _⟩ => ⟨S2048x3840, .bf16⟩
  | .hbm, ⟨26, _⟩ => ⟨S2048x64, .bf16⟩
  | .hbm, ⟨27, _⟩ => ⟨S_, .bf16⟩
  | .hbm, ⟨28, _⟩ => ⟨S2048x64, .bf16⟩
  | .hbm, ⟨29, _⟩ => ⟨S_, .bf16⟩
  | .hbm, ⟨30, _⟩ => ⟨S2048x128, .bf16⟩
  | .hbm, ⟨31, _⟩ => ⟨S2048x512, .bf16⟩
  | .hbm, ⟨32, _⟩ => ⟨S2048x4608, .bf16⟩
  | .hbm, ⟨33, _⟩ => ⟨S2048x2048, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh1Ideal.lean ====
abbrev S2048x2048 : Shape := ⟨2, ![2048, 2048]⟩
abbrev S2048x4416 : Shape := ⟨2, ![2048, 4416]⟩
abbrev S4416x2048 : Shape := ⟨2, ![4416, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4416, .f32⟩
  | .hbm, ⟨2, _⟩ => ⟨S2048x4416, .f32⟩
  | .hbm, ⟨3, _⟩ => ⟨S2048x4416, .f32⟩
  | .hbm, ⟨4, _⟩ => ⟨S4416x2048, .f32⟩
  | .hbm, ⟨5, _⟩ => ⟨S2048x4416, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelQ.lean ====
abbrev S2048x768 : Shape := ⟨2, ![2048, 768]⟩
abbrev S768x1536 : Shape := ⟨2, ![768, 1536]⟩
abbrev S768x8x192 : Shape := ⟨3, ![768, 8, 192]⟩
abbrev S_ : Shape := ⟨0, ![]⟩
abbrev S768x8x256 : Shape := ⟨3, ![768, 8, 256]⟩
abbrev S768x2048 : Shape := ⟨2, ![768, 2048]⟩
abbrev S2048x2048 : Shape := ⟨2, ![2048, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S768x1536, .bf16⟩
  | .hbm, ⟨3, _⟩ => ⟨S768x8x192, .bf16⟩
  | .hbm, ⟨4, _⟩ => ⟨S_, .i32⟩
  | .hbm, ⟨5, _⟩ => ⟨S_, .bf16⟩
  | .hbm, ⟨6, _⟩ => ⟨S768x8x256, .bf16⟩
  | .hbm, ⟨7, _⟩ => ⟨S768x2048, .bf16⟩
  | .hbm, ⟨8, _⟩ => ⟨S2048x768, .bf16⟩
  | .hbm, ⟨9, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQIdeal.lean ====
abbrev S2048x768 : Shape := ⟨2, ![2048, 768]⟩
abbrev S768x1536 : Shape := ⟨2, ![768, 1536]⟩
abbrev S2048x1536 : Shape := ⟨2, ![2048, 1536]⟩
abbrev S_ : Shape := ⟨0, ![]⟩
abbrev S2048x8x64 : Shape := ⟨3, ![2048, 8, 64]⟩
abbrev S2048x8x192 : Shape := ⟨3, ![2048, 8, 192]⟩
abbrev S2048x8x256 : Shape := ⟨3, ![2048, 8, 256]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S_, .f32⟩
  | .hbm, ⟨4, _⟩ => ⟨S2048x8x64, .f32⟩
  | .hbm, ⟨5, _⟩ => ⟨S2048x8x192, .f32⟩
  | .hbm, ⟨6, _⟩ => ⟨S2048x8x256, .f32⟩
  | .hbm, ⟨7, _⟩ => ⟨S2048x2048, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGwUq.lean ====
abbrev S2048x768 : Shape := ⟨2, ![2048, 768]⟩
abbrev S768x1536 : Shape := ⟨2, ![768, 1536]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S2048x768, .bf16⟩
  | .hbm, ⟨4, _⟩ => ⟨S2048x1536, .bf16⟩
  | .hbm, ⟨5, _⟩ => ⟨S2048x8x192, .bf16⟩
  | .hbm, ⟨6, _⟩ => ⟨S_, .i32⟩
  | .hbm, ⟨7, _⟩ => ⟨S_, .bf16⟩
  | .hbm, ⟨8, _⟩ => ⟨S2048x8x256, .bf16⟩
  | .hbm, ⟨9, _⟩ => ⟨S2048x2048, .bf16⟩
  | .hbm, ⟨10, _⟩ => ⟨S768x2048, .bf16⟩
  | .local _ .vmem, ⟨0, _⟩ => ⟨S2048x768, .bf16⟩
  | .local _ .vmem, ⟨1, _⟩ => ⟨S2048x1024, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwUqIdeal.lean ====
abbrev S2048x768 : Shape := ⟨2, ![2048, 768]⟩
abbrev S768x1536 : Shape := ⟨2, ![768, 1536]⟩
abbrev S2048x1536 : Shape := ⟨2, ![2048, 1536]⟩
abbrev S1536x768 : Shape := ⟨2, ![1536, 768]⟩
abbrev S_ : Shape := ⟨0, ![]⟩
abbrev S768x8x64 : Shape := ⟨3, ![768, 8, 64]⟩
abbrev S768x8x192 : Shape := ⟨3, ![768, 8, 192]⟩
abbrev S768x8x256 : Shape := ⟨3, ![768, 8, 256]⟩
abbrev S768x2048 : Shape := ⟨2, ![768, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S2048x1536, .f32⟩
  | .hbm, ⟨4, _⟩ => ⟨S1536x768, .f32⟩
  | .hbm, ⟨5, _⟩ => ⟨S768x1536, .f32⟩
  | .hbm, ⟨6, _⟩ => ⟨S2048x768, .f32⟩
  | .hbm, ⟨7, _⟩ => ⟨S_, .f32⟩
  | .hbm, ⟨8, _⟩ => ⟨S768x8x64, .f32⟩
  | .hbm, ⟨9, _⟩ => ⟨S768x8x192, .f32⟩
  | .hbm, ⟨10, _⟩ => ⟨S768x8x256, .f32⟩
  | .hbm, ⟨11, _⟩ => ⟨S768x2048, .f32⟩
  | .hbm, ⟨12, _⟩ => ⟨S768x2048, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelDcq.lean ====
abbrev S2048x768 : Shape := ⟨2, ![2048, 768]⟩
abbrev S768x1536 : Shape := ⟨2, ![768, 1536]⟩
abbrev S2048x1536 : Shape := ⟨2, ![2048, 1536]⟩
abbrev S768x8x192 : Shape := ⟨3, ![768, 8, 192]⟩
abbrev S_ : Shape := ⟨0, ![]⟩
abbrev S768x8x256 : Shape := ⟨3, ![768, 8, 256]⟩
abbrev S768x2048 : Shape := ⟨2, ![768, 2048]⟩
abbrev S2048x8x192 : Shape := ⟨3, ![2048, 8, 192]⟩
abbrev S2048x8x256 : Shape := ⟨3, ![2048, 8, 256]⟩
abbrev S2048x2048 : Shape := ⟨2, ![2048, 2048]⟩
abbrev S1024x2048 : Shape := ⟨2, ![1024, 2048]⟩
abbrev S1024x768 : Shape := ⟨2, ![1024, 768]⟩

abbrev nBuf : Space → Nat
  | .hbm => 16
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S768x1536, .bf16⟩
  | .hbm, ⟨4, _⟩ => ⟨S768x8x192, .bf16⟩
  | .hbm, ⟨5, _⟩ => ⟨S_, .i32⟩
  | .hbm, ⟨6, _⟩ => ⟨S_, .bf16⟩
  | .hbm, ⟨7, _⟩ => ⟨S768x8x256, .bf16⟩
  | .hbm, ⟨8, _⟩ => ⟨S768x2048, .bf16⟩
  | .hbm, ⟨9, _⟩ => ⟨S2048x1536, .bf16⟩
  | .hbm, ⟨10, _⟩ => ⟨S2048x8x192, .bf16⟩
  | .hbm, ⟨11, _⟩ => ⟨S_, .i32⟩
  | .hbm, ⟨12, _⟩ => ⟨S_, .bf16⟩
  | .hbm, ⟨13, _⟩ => ⟨S2048x8x256, .bf16⟩
  | .hbm, ⟨14, _⟩ => ⟨S2048x2048, .bf16⟩
  | .hbm, ⟨15, _⟩ => ⟨S2048x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDcqIdeal.lean ====
abbrev S2048x768 : Shape := ⟨2, ![2048, 768]⟩
abbrev S768x1536 : Shape := ⟨2, ![768, 1536]⟩
abbrev S2048x1536 : Shape := ⟨2, ![2048, 1536]⟩
abbrev S1536x768 : Shape := ⟨2, ![1536, 768]⟩

abbrev nBuf : Space → Nat
  | .hbm => 7
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S2048x1536, .f32⟩
  | .hbm, ⟨4, _⟩ => ⟨S1536x768, .f32⟩
  | .hbm, ⟨5, _⟩ => ⟨S768x1536, .f32⟩
  | .hbm, ⟨6, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.Scf

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A loop whose trips are listed is the chain of its trips. -/
theorem loop_eq_list {E : Type → Type _} {σ : Type} (l : Scf.Loop 32) (hok : l.OK) (init : σ) (body : Fin l.trips → σ → Prog E σ)
    (ks : List (Fin l.trips)) (hks : List.finRange l.trips = ks) :
    Scf.Loop.for l hok init body = Scf.forFrom body ks init := by
  subst hks; exact Scf.for_eq _ _ _ hok init body
abbrev j0 : Fin k0_t1_loop.trips := ⟨0, by decide⟩
abbrev j1 : Fin k0_t1_loop.trips := ⟨1, by decide⟩
abbrev i0 : Fin (k0_t2_loop j0).trips := ⟨0, by decide⟩
theorem trips1 : List.finRange k0_t1_loop.trips = [j0, j1] := by decide
theorem trips2_0 : List.finRange (k0_t2_loop j0).trips = [i0] := by decide
theorem trips2_1 : List.finRange (k0_t2_loop j1).trips = [] := by decide
theorem trips3_0 : List.finRange (k0_t3_loop j0).trips = [] := by decide
theorem trips3_1 : List.finRange (k0_t3_loop j1).trips = [] := by decide
theorem for_t1 {E : Type → Type _} {σ : Type} (hok : k0_t1_loop.OK) (init : σ) (body : Fin k0_t1_loop.trips → σ → Prog E σ) :
    Scf.Loop.for k0_t1_loop hok init body = (body j0 init >>= fun a => body j1 a >>= fun a => .ret a) := by
  rw [loop_eq_list _ _ _ _ _ trips1]; rfl
theorem for_t2_0 {E : Type → Type _} {σ : Type} (hok : (k0_t2_loop j0).OK) (init : σ) (body : Fin (k0_t2_loop j0).trips → σ → Prog E σ) :
    Scf.Loop.for (k0_t2_loop j0) hok init body = (body i0 init >>= fun a => .ret a) := by
  rw [loop_eq_list _ _ _ _ _ trips2_0]; rfl
theorem for_t2_1 {E : Type → Type _} {σ : Type} (hok : (k0_t2_loop j1).OK) (init : σ) (body : Fin (k0_t2_loop j1).trips → σ → Prog E σ) :
    Scf.Loop.for (k0_t2_loop j1) hok init body = .ret init := by
  rw [loop_eq_list _ _ _ _ _ trips2_1]; rfl
theorem for_t3_0 {E : Type → Type _} {σ : Type} (hok : (k0_t3_loop j0).OK) (init : σ) (body : Fin (k0_t3_loop j0).trips → σ → Prog E σ) :
    Scf.Loop.for (k0_t3_loop j0) hok init body = .ret init := by
  rw [loop_eq_list _ _ _ _ _ trips3_0]; rfl
theorem for_t3_1 {E : Type → Type _} {σ : Type} (hok : (k0_t3_loop j1).OK) (init : σ) (body : Fin (k0_t3_loop j1).trips → σ → Prog E σ) :
    Scf.Loop.for (k0_t3_loop j1) hok init body = .ret init := by
  rw [loop_eq_list _ _ _ _ _ trips3_1]; rfl

section
variable {Ix Name U Lvl : Type} [DecidableEq Ix] [DecidableEq Name] [RA.URA U] [Preorder Lvl]

abbrev TT (Ix Name U Lvl : Type) [DecidableEq Ix] [DecidableEq Name] [RA.URA U] [Preorder Lvl] (c : Dev nD) {sp : Space} {S : Shape} {e : EltTy} (M : Memref sig .tc sp S e)
    (f : Buf (Elt F) (M.view.loc (c : Thread nD τ))) : sProp (MT nD τ sig Ix (Elt F) Name U Lvl) :=
  M.view.loc (c : Thread nD τ) ↦[M.view.set]{fullShare} f

set_option maxHeartbeats 4000000 in
noncomputable def bodyRun (𝒱 : Variants) (c : Dev nD) (bd : Option 𝒱.V) (E : Set Name) (i : grid0.Coords)
    (arg1 : Memref sig .tc .vmem S2048x256 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x128 .f32) (harg11 : arg11.IsWhole) (arg12 : Memref sig .tc .vmem S1x128 .f32) (harg12 : arg12.IsWhole)
    (arg13 : Memref sig .tc .vmem S2048x256 .bf16) (harg13 : arg13.IsWhole) (arg14 : Memref sig .tc .vmem S2048x128 .bf16) (harg14 : arg14.IsWhole)
    (arg15 : Memref sig .tc .vmem S2048x128 .f32) (harg15 : arg15.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) :
    Σ' (L9 : List (View.Piece (Elt F) S2048x256 .f32)) (L10 : List (View.Piece (Elt F) S2048x256 .f32)) (L11 : List (View.Piece (Elt F) S2048x128 .f32))
       (L12 : List (View.Piece (Elt F) S1x128 .f32)) (L13 : List (View.Piece (Elt F) S2048x256 .bf16)) (L14 : List (View.Piece (Elt F) S2048x128 .bf16)),
    { L15 : List (View.Piece (Elt F) S2048x128 .f32) //
      ∀ (K : PUnit → sProp (MT nD τ sig Ix (Elt F) Name U Lvl)),
        iprop(TT Ix Name U Lvl c arg1 f1 ∗ TT Ix Name U Lvl c arg2 f2 ∗ TT Ix Name U Lvl c arg3 f3 ∗ TT Ix Name U Lvl c arg4 f4 ∗ TT Ix Name U Lvl c arg5 f5
          ∗ TT Ix Name U Lvl c arg6 f6 ∗ TT Ix Name U Lvl c arg7 f7 ∗ TT Ix Name U Lvl c arg8 f8
          ∗ TT Ix Name U Lvl c arg9 f9 ∗ TT Ix Name U Lvl c arg10 f10 ∗ TT Ix Name U Lvl c arg11 f11 ∗ TT Ix Name U Lvl c arg12 f12
          ∗ TT Ix Name U Lvl c arg13 f13 ∗ TT Ix Name U Lvl c arg14 f14 ∗ TT Ix Name U Lvl c arg15 f15
          ∗ (iprop(TT Ix Name U Lvl c arg1 f1 ∗ TT Ix Name U Lvl c arg2 f2 ∗ TT Ix Name U Lvl c arg3 f3 ∗ TT Ix Name U Lvl c arg4 f4 ∗ TT Ix Name U Lvl c arg5 f5
          ∗ TT Ix Name U Lvl c arg6 f6 ∗ TT Ix Name U Lvl c arg7 f7 ∗ TT Ix Name U Lvl c arg8 f8
          ∗ TT Ix Name U Lvl c arg9 (arg9.view.writes (Elt F) f9 L9) ∗ TT Ix Name U Lvl c arg10 (arg10.view.writes (Elt F) f10 L10)
          ∗ TT Ix Name U Lvl c arg11 (arg11.view.writes (Elt F) f11 L11) ∗ TT Ix Name U Lvl c arg12 (arg12.view.writes (Elt F) f12 L12)
          ∗ TT Ix Name U Lvl c arg13 (arg13.view.writes (Elt F) f13 L13) ∗ TT Ix Name U Lvl c arg14 (arg14.view.writes (Elt F) f14 L14)
          ∗ TT Ix Name U Lvl c arg15 (arg15.view.writes (Elt F) f15 L15)) -∗ K ⟨⟩))
        ⊢ wp frame (wpE (defs₀ (F := F)) 𝒱 (c : Thread nD τ) bd) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun K => ?run⟩
  case run =>
    rw [cc0_attn_bwd_eq_skeleton]; unfold cc0_attn_bwd_skel
    simp only [for_t1]
    unfold k0_t1_body
    simp only [for_t2_0, for_t2_1, for_t3_0, for_t3_1]
    unfold k0_t2_body
    iintro ⟨H1, H2, H3, H4, H5, H6, H7, H8, H9, H10, H11, H12, H13, H14, H15, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end
end Cert.KernelIdeal.Hand
-- ==== Proof.Values.lean ====
module

public import proofs.«01_k».proof.Proof.Body

/-!
  What one grid point of the call leaves in its four output blocks, as functions of its eight input blocks alone.
  `kcat` is the concatenated key, `dob` the incoming gradient after the norm's backward pass, `del` its row sum
  against the output; `pD j`, `dD j` are the probabilities and the shifted score gradient of diagonal tile `j`,
  `pO`, `sO` the probabilities and the score gradient of the tile below the diagonal.
-/

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

theorem in1 : ∀ (j : Fin k0_t1_loop.trips) (a : Fin 2), k0_off1 j a + ![1024, 256] a ≤ S2048x256.size a := by decide
theorem in2 : ∀ (j : Fin k0_t1_loop.trips) (a : Fin 2), k0_off2 j a + ![1024, 128] a ≤ S2048x128.size a := by decide
theorem in3 : ∀ a : Fin 2, k0_off3 j0 i0 a + ![1024, 256] a ≤ S2048x256.size a := by decide
theorem in4 : ∀ a : Fin 2, k0_off4 j0 i0 a + ![1024, 128] a ≤ S2048x128.size a := by decide
theorem in5 : ∀ a : Fin 2, k0_off5 j0 a + ![1024, 128] a ≤ S2048x128.size a := by decide
theorem in6 : ∀ a : Fin 2, k0_off6 j0 a + ![1024, 256] a ≤ S2048x256.size a := by decide

abbrev R1 (j : Fin k0_t1_loop.trips) : Rect S2048x256 := Rect.unit (k0_off1 j) ![1024, 256] (in1 j)
abbrev R2 (j : Fin k0_t1_loop.trips) : Rect S2048x128 := Rect.unit (k0_off2 j) ![1024, 128] (in2 j)
abbrev R3 : Rect S2048x256 := Rect.unit (k0_off3 j0 i0) ![1024, 256] in3
abbrev R4 : Rect S2048x128 := Rect.unit (k0_off4 j0 i0) ![1024, 128] in4
abbrev R5 : Rect S2048x128 := Rect.unit (k0_off5 j0) ![1024, 128] in5
abbrev R6 : Rect S2048x256 := Rect.unit (k0_off6 j0) ![1024, 256] in6
abbrev Wa : Rect S2048x128 := Rect.unit ![0, 0] ![2048, 128] inb_S2048x128_S2048x128_0_0
abbrev Wb : Rect S2048x256 := Rect.unit ![0, 0] ![2048, 256] inb_S2048x256_S2048x256_0_0
abbrev Wg : Rect S1x128 := Rect.unit ![0, 0] ![1, 128] inb_S1x128_S1x128_0_0

section
variable (X1 : Vec F S2048x256 .bf16) (X2 X3 X4 : Vec F S2048x128 .bf16) (X5 X6 : Vec F S2048x128 .f32)
  (X7 : Vec F S1x128 .f32) (X8 : Vec F S2048x128 .f32)

def kcat : Vec F S2048x256 .bf16 :=
  View.canon [⟨Rect.unit ![0, 128] ![2048, 128] inb_S2048x256_S2048x128_0_128, k0_pay3 (View.ld X4 Wa)⟩,
    ⟨Rect.unit ![0, 0] ![2048, 128] inb_S2048x256_S2048x128_0_0, k0_pay2 (View.ld X2 Wa)⟩]
def dob : Vec F S2048x128 .bf16 := View.canon [⟨Wa, k0_pay33 (View.ld X5 Wa) (View.ld X7 Wg) (View.ld X8 Wa)⟩]
def del : Vec F S2048x128 .f32 := View.canon [⟨Wa, k0_pay34 (View.ld X5 Wa) (View.ld X7 Wg) (View.ld X8 Wa)⟩]

def pD (j : Fin k0_t1_loop.trips) : FVec F S1024x1024 .f32 :=
  k0_pay25 (View.ld (kcat X2 X4) (R1 j)) (View.ld X1 (R1 j)) (View.ld X6 (R2 j))
def dD (j : Fin k0_t1_loop.trips) : FVec F S1024x1024 .f32 :=
  k0_pay26 (View.ld X3 (R2 j)) (View.ld (dob X5 X7 X8) (R2 j)) (View.ld (del X5 X7 X8) (R2 j))
def sO : FVec F S1024x1024 .bf16 :=
  k0_pay15 (View.ld (kcat X2 X4) (R1 j0)) (k0_pay23 (View.ld X3 (R2 j0))) (View.ld X1 R3) (View.ld (dob X5 X7 X8) R4)
    (View.ld X6 R4) (View.ld (del X5 X7 X8) R4)

def dq1 : List (View.Piece (Elt F) S2048x256 .f32) := [⟨Wb, k0_pay4⟩]
def dq2 : List (View.Piece (Elt F) S2048x256 .f32) :=
  ⟨R1 j0, k0_pay10 (View.ld (kcat X2 X4) (R1 j0)) (pD X1 X2 X4 X6 j0) (dD X3 X5 X7 X8 j0) (View.ld (View.canon dq1) (R1 j0))⟩ :: dq1
def dq3 : List (View.Piece (Elt F) S2048x256 .f32) :=
  ⟨R3, k0_pay11 (View.ld (kcat X2 X4) (R1 j0)) (sO X1 X2 X3 X4 X5 X6 X7 X8) (View.ld (View.canon (dq2 X1 X2 X3 X4 X5 X6 X7 X8)) R3)⟩
    :: dq2 X1 X2 X3 X4 X5 X6 X7 X8
/-- The writes to the block of q's gradient, last first. -/
def dq4 : List (View.Piece (Elt F) S2048x256 .f32) :=
  ⟨R1 j1, k0_pay10 (View.ld (kcat X2 X4) (R1 j1)) (pD X1 X2 X4 X6 j1) (dD X3 X5 X7 X8 j1)
    (View.ld (View.canon (dq3 X1 X2 X3 X4 X5 X6 X7 X8)) (R1 j1))⟩ :: dq3 X1 X2 X3 X4 X5 X6 X7 X8

def dk1 : List (View.Piece (Elt F) S2048x256 .f32) := [⟨Wb, k0_pay5⟩]
def dk2 : List (View.Piece (Elt F) S2048x256 .f32) :=
  ⟨R1 j0, k0_pay9 (k0_pay24 (View.ld X1 (R1 j0))) (pD X1 X2 X4 X6 j0) (dD X3 X5 X7 X8 j0) (View.ld (View.canon dk1) (R1 j0))⟩ :: dk1
def dk3 : List (View.Piece (Elt F) S2048x256 .f32) :=
  ⟨R6, k0_pay17 (View.ld (kcat X2 X4) (R1 j0)) (k0_pay23 (View.ld X3 (R2 j0))) (View.ld X1 R3) (View.ld (dob X5 X7 X8) R4)
    (View.ld X6 R4) (View.ld (del X5 X7 X8) R4) (View.ld (View.canon (dk2 X1 X2 X3 X4 X5 X6 X7 X8)) R6)⟩
    :: dk2 X1 X2 X3 X4 X5 X6 X7 X8
/-- The writes to the block of the concatenated key's gradient, last first. -/
def dk4 : List (View.Piece (Elt F) S2048x256 .f32) :=
  ⟨R1 j1, k0_pay9 (k0_pay24 (View.ld X1 (R1 j1))) (pD X1 X2 X4 X6 j1) (dD X3 X5 X7 X8 j1)
    (View.ld (View.canon (dk3 X1 X2 X3 X4 X5 X6 X7 X8)) (R1 j1))⟩ :: dk3 X1 X2 X3 X4 X5 X6 X7 X8

def dv1 : List (View.Piece (Elt F) S2048x128 .f32) := [⟨Wa, k0_pay6⟩]
def dv2 : List (View.Piece (Elt F) S2048x128 .f32) :=
  ⟨R2 j0, k0_pay8 (View.ld (dob X5 X7 X8) (R2 j0)) (pD X1 X2 X4 X6 j0) (View.ld (View.canon dv1) (R2 j0))⟩ :: dv1
def dv3 : List (View.Piece (Elt F) S2048x128 .f32) :=
  ⟨R5, k0_pay16 (View.ld (kcat X2 X4) (R1 j0)) (View.ld X1 R3) (View.ld (dob X5 X7 X8) R4) (View.ld X6 R4)
    (View.ld (View.canon (dv2 X1 X2 X4 X5 X6 X7 X8)) R5)⟩ :: dv2 X1 X2 X4 X5 X6 X7 X8
/-- The writes to the block of v's gradient, last first. -/
def dv4 : List (View.Piece (Elt F) S2048x128 .f32) :=
  ⟨R2 j1, k0_pay8 (View.ld (dob X5 X7 X8) (R2 j1)) (pD X1 X2 X4 X6 j1)
    (View.ld (View.canon (dv3 X1 X2 X4 X5 X6 X7 X8)) (R2 j1))⟩ :: dv3 X1 X2 X4 X5 X6 X7 X8

/-- The write to the block of the norm gain's gradient. -/
def dg1 : List (View.Piece (Elt F) S1x128 .f32) := [⟨Wg, k0_pay1 (k0_pay32 (View.ld X5 Wa) (View.ld X8 Wa))⟩]

def outQ : Vec F S2048x256 .f32 := View.canon (dq4 X1 X2 X3 X4 X5 X6 X7 X8)
def outK : Vec F S2048x256 .f32 := View.canon (dk4 X1 X2 X3 X4 X5 X6 X7 X8)
def outV : Vec F S2048x128 .f32 := View.canon (dv4 X1 X2 X4 X5 X6 X7 X8)
def outG : Vec F S1x128 .f32 := View.canon (dg1 X5 X8)

end

section
variable {Ix Name U Lvl : Type} [DecidableEq Ix] [DecidableEq Name] [RA.URA U] [Preorder Lvl]
variable (𝒱 : Variants) (c : Dev nD) (bd : Option 𝒱.V) (E : Set Name) (i : grid0.Coords)
    (arg1 : Memref sig .tc .vmem S2048x256 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x128 .f32) (harg11 : arg11.IsWhole) (arg12 : Memref sig .tc .vmem S1x128 .f32) (harg12 : arg12.IsWhole)
    (arg13 : Memref sig .tc .vmem S2048x256 .bf16) (harg13 : arg13.IsWhole) (arg14 : Memref sig .tc .vmem S2048x128 .bf16) (harg14 : arg14.IsWhole)
    (arg15 : Memref sig .tc .vmem S2048x128 .f32) (harg15 : arg15.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (f15 : Buf (Elt F) (arg15.view.loc (c : Thread nD τ)))

abbrev theRun := bodyRun (Ix := Ix) (Name := Name) (U := U) (Lvl := Lvl) 𝒱 c bd E i arg1 harg1 arg2 harg2 arg3 harg3 arg4 harg4 arg5 harg5 arg6 harg6 arg7 harg7 arg8 harg8 arg9 harg9
  arg10 harg10 arg11 harg11 arg12 harg12 arg13 harg13 arg14 harg14 arg15 harg15 f1 f2 f3 f4 f5 f6 f7 f8 f9 f10 f11 f12 f13 f14 f15

theorem v64_eq : bodyRun.sl.v64 c arg2 arg4 arg13 f2 f4
    = View.ld (kcat (arg2.view.read (Elt F) f2) (arg4.view.read (Elt F) f4)) (R1 j0) := by
  unfold bodyRun.sl.v64; rw [View.readCov_eq_canon']; rfl

theorem v74_eq : bodyRun.sl.v74 c arg5 arg7 arg8 arg14 f5 f7 f8
    = View.ld (dob (arg5.view.read (Elt F) f5) (arg7.view.read (Elt F) f7) (arg8.view.read (Elt F) f8)) (R2 j0) := by
  unfold bodyRun.sl.v74; rw [View.readCov_eq_canon']; rfl

theorem v100_eq : bodyRun.sl.v100 c arg5 arg7 arg8 arg15 f5 f7 f8
    = View.ld (del (arg5.view.read (Elt F) f5) (arg7.view.read (Elt F) f7) (arg8.view.read (Elt F) f8)) (R2 j0) := by
  unfold bodyRun.sl.v100; rw [View.readCov_eq_canon']; rfl

theorem v64_1_eq : bodyRun.sl.v64_1 c arg2 arg4 arg13 f2 f4
    = View.ld (kcat (arg2.view.read (Elt F) f2) (arg4.view.read (Elt F) f4)) (R1 j1) := by
  unfold bodyRun.sl.v64_1; rw [View.readCov_eq_canon']; rfl

theorem v74_1_eq : bodyRun.sl.v74_1 c arg5 arg7 arg8 arg14 f5 f7 f8
    = View.ld (dob (arg5.view.read (Elt F) f5) (arg7.view.read (Elt F) f7) (arg8.view.read (Elt F) f8)) (R2 j1) := by
  unfold bodyRun.sl.v74_1; rw [View.readCov_eq_canon']; rfl

theorem v100_1_eq : bodyRun.sl.v100_1 c arg5 arg7 arg8 arg15 f5 f7 f8
    = View.ld (del (arg5.view.read (Elt F) f5) (arg7.view.read (Elt F) f7) (arg8.view.read (Elt F) f8)) (R2 j1) := by
  unfold bodyRun.sl.v100_1; rw [View.readCov_eq_canon']; rfl

theorem v144_eq : bodyRun.sl.v144 c arg5 arg7 arg8 arg14 f5 f7 f8
    = View.ld (dob (arg5.view.read (Elt F) f5) (arg7.view.read (Elt F) f7) (arg8.view.read (Elt F) f8)) R4 := by
  unfold bodyRun.sl.v144; rw [View.readCov_eq_canon']; rfl

theorem v157_eq : bodyRun.sl.v157 c arg5 arg7 arg8 arg15 f5 f7 f8
    = View.ld (del (arg5.view.read (Elt F) f5) (arg7.view.read (Elt F) f7) (arg8.view.read (Elt F) f8)) R4 := by
  unfold bodyRun.sl.v157; rw [View.readCov_eq_canon']; rfl

theorem r_2_eq : bodyRun.sl.r_2 c arg1 arg2 arg4 arg6 arg13 f1 f2 f4 f6
    = pD (arg1.view.read (Elt F) f1) (arg2.view.read (Elt F) f2) (arg4.view.read (Elt F) f4) (arg6.view.read (Elt F) f6) j0 := by
  unfold bodyRun.sl.r_2 pD; rw [v64_eq]; rfl

theorem r_3_eq : bodyRun.sl.r_3 c arg3 arg5 arg7 arg8 arg14 arg15 f3 f5 f7 f8
    = dD (arg3.view.read (Elt F) f3) (arg5.view.read (Elt F) f5) (arg7.view.read (Elt F) f7) (arg8.view.read (Elt F) f8) j0 := by
  unfold bodyRun.sl.r_3 dD; rw [v74_eq, v100_eq]; rfl

theorem r_6_eq : bodyRun.sl.r_6 c arg1 arg2 arg4 arg6 arg13 f1 f2 f4 f6
    = pD (arg1.view.read (Elt F) f1) (arg2.view.read (Elt F) f2) (arg4.view.read (Elt F) f4) (arg6.view.read (Elt F) f6) j1 := by
  unfold bodyRun.sl.r_6 pD; rw [v64_1_eq]; rfl

theorem r_7_eq : bodyRun.sl.r_7 c arg3 arg5 arg7 arg8 arg14 arg15 f3 f5 f7 f8
    = dD (arg3.view.read (Elt F) f3) (arg5.view.read (Elt F) f5) (arg7.view.read (Elt F) f7) (arg8.view.read (Elt F) f8) j1 := by
  unfold bodyRun.sl.r_7 dD; rw [v74_1_eq, v100_1_eq]; rfl

theorem v164_eq : bodyRun.sl.v164 c arg1 arg2 arg3 arg4 arg5 arg6 arg7 arg8 arg13 arg14 arg15 f1 f2 f3 f4 f5 f6 f7 f8
    = sO (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold sO; rw [← v64_eq (arg13 := arg13), ← v144_eq (arg14 := arg14), ← v157_eq (arg15 := arg15)]; rfl

end
end Cert.KernelIdeal.Hand
-- ==== Proof.Pieces.lean ====
module

public import proofs.«01_k».proof.Proof.Values

/-! The writes the body's run finds are the writes of the value functions. -/

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

section
variable {Ix Name U Lvl : Type} [DecidableEq Ix] [DecidableEq Name] [RA.URA U] [Preorder Lvl]
variable (𝒱 : Variants) (c : Dev nD) (bd : Option 𝒱.V) (E : Set Name) (i : grid0.Coords)
    (arg1 : Memref sig .tc .vmem S2048x256 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x128 .f32) (harg11 : arg11.IsWhole) (arg12 : Memref sig .tc .vmem S1x128 .f32) (harg12 : arg12.IsWhole)
    (arg13 : Memref sig .tc .vmem S2048x256 .bf16) (harg13 : arg13.IsWhole) (arg14 : Memref sig .tc .vmem S2048x128 .bf16) (harg14 : arg14.IsWhole)
    (arg15 : Memref sig .tc .vmem S2048x128 .f32) (harg15 : arg15.IsWhole)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (f15 : Buf (Elt F) (arg15.view.loc (c : Thread nD τ)))

theorem v124_eq : bodyRun.sl.v124 (F := F) arg9
    = View.ld (View.canon dq1) (R1 j0) := by
  rw [bodyRun.sl.v124, View.readCov_eq_canon'] <;> rfl

theorem H9_2_eq : bodyRun.sl.H9_2 c arg1 arg2 arg3 arg4 arg5 arg6 arg7 arg8 arg9 arg13 arg14 arg15 f1 f2 f3 f4 f5 f6 f7 f8
    = dq2 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold bodyRun.sl.H9_2 dq2; rw [v64_eq, r_2_eq, r_3_eq, v124_eq]; rfl

theorem v181_eq : bodyRun.sl.v181 c arg1 arg2 arg3 arg4 arg5 arg6 arg7 arg8 arg9 arg13 arg14 arg15 f1 f2 f3 f4 f5 f6 f7 f8
    = View.ld (View.canon (dq2 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))) R3 := by
  rw [bodyRun.sl.v181, View.readCov_eq_canon', H9_2_eq] <;> rfl

theorem H9_3_eq : bodyRun.sl.H9_3 c arg1 arg2 arg3 arg4 arg5 arg6 arg7 arg8 arg9 arg13 arg14 arg15 f1 f2 f3 f4 f5 f6 f7 f8
    = dq3 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold bodyRun.sl.H9_3 dq3; rw [v64_eq, v164_eq, v181_eq, H9_2_eq] <;> rfl

theorem v124_1_eq : bodyRun.sl.v124_1 c arg1 arg2 arg3 arg4 arg5 arg6 arg7 arg8 arg9 arg13 arg14 arg15 f1 f2 f3 f4 f5 f6 f7 f8
    = View.ld (View.canon (dq3 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))) (R1 j1) := by
  rw [bodyRun.sl.v124_1, View.readCov_eq_canon', H9_3_eq] <;> rfl

theorem v117_eq : bodyRun.sl.v117 (F := F) arg10
    = View.ld (View.canon dk1) (R1 j0) := by
  rw [bodyRun.sl.v117, View.readCov_eq_canon'] <;> rfl

theorem H10_2_eq : bodyRun.sl.H10_2 c arg1 arg2 arg3 arg4 arg5 arg6 arg7 arg8 arg10 arg13 arg14 arg15 f1 f2 f3 f4 f5 f6 f7 f8
    = dk2 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold bodyRun.sl.H10_2 dk2; rw [r_2_eq, r_3_eq, v117_eq]; rfl

theorem v174_eq : bodyRun.sl.v174 c arg1 arg2 arg3 arg4 arg5 arg6 arg7 arg8 arg10 arg13 arg14 arg15 f1 f2 f3 f4 f5 f6 f7 f8
    = View.ld (View.canon (dk2 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))) R6 := by
  rw [bodyRun.sl.v174, View.readCov_eq_canon', H10_2_eq] <;> rfl

theorem H10_3_eq : bodyRun.sl.H10_3 c arg1 arg2 arg3 arg4 arg5 arg6 arg7 arg8 arg10 arg13 arg14 arg15 f1 f2 f3 f4 f5 f6 f7 f8
    = dk3 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold bodyRun.sl.H10_3 dk3; rw [H10_2_eq, ← v174_eq (arg10 := arg10) (arg13 := arg13) (arg14 := arg14) (arg15 := arg15), ← v64_eq (arg13 := arg13), ← v144_eq (arg14 := arg14), ← v157_eq (arg15 := arg15)]; rfl

theorem v117_1_eq : bodyRun.sl.v117_1 c arg1 arg2 arg3 arg4 arg5 arg6 arg7 arg8 arg10 arg13 arg14 arg15 f1 f2 f3 f4 f5 f6 f7 f8
    = View.ld (View.canon (dk3 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8))) (R1 j1) := by
  rw [bodyRun.sl.v117_1, View.readCov_eq_canon', H10_3_eq] <;> rfl

theorem v109_eq : bodyRun.sl.v109 (F := F) arg11
    = View.ld (View.canon dv1) (R2 j0) := by
  rw [bodyRun.sl.v109, View.readCov_eq_canon'] <;> rfl

theorem H11_2_eq : bodyRun.sl.H11_2 c arg1 arg2 arg4 arg5 arg6 arg7 arg8 arg11 arg13 arg14 f1 f2 f4 f5 f6 f7 f8
    = dv2 (arg1.view.read (Elt F) f1) (arg2.view.read (Elt F) f2) (arg4.view.read (Elt F) f4) (arg5.view.read (Elt F) f5) (arg6.view.read (Elt F) f6) (arg7.view.read (Elt F) f7) (arg8.view.read (Elt F) f8) := by
  unfold bodyRun.sl.H11_2 dv2; rw [v74_eq, r_2_eq, v109_eq]; rfl

theorem v166_eq : bodyRun.sl.v166 c arg1 arg2 arg4 arg5 arg6 arg7 arg8 arg11 arg13 arg14 f1 f2 f4 f5 f6 f7 f8
    = View.ld (View.canon (dv2 (arg1.view.read (Elt F) f1) (arg2.view.read (Elt F) f2) (arg4.view.read (Elt F) f4) (arg5.view.read (Elt F) f5) (arg6.view.read (Elt F) f6) (arg7.view.read (Elt F) f7) (arg8.view.read (Elt F) f8))) R5 := by
  rw [bodyRun.sl.v166, View.readCov_eq_canon', H11_2_eq] <;> rfl

theorem H11_3_eq : bodyRun.sl.H11_3 c arg1 arg2 arg4 arg5 arg6 arg7 arg8 arg11 arg13 arg14 f1 f2 f4 f5 f6 f7 f8
    = dv3 (arg1.view.read (Elt F) f1) (arg2.view.read (Elt F) f2) (arg4.view.read (Elt F) f4) (arg5.view.read (Elt F) f5) (arg6.view.read (Elt F) f6) (arg7.view.read (Elt F) f7) (arg8.view.read (Elt F) f8) := by
  unfold bodyRun.sl.H11_3 dv3; rw [H11_2_eq, ← v166_eq (arg11 := arg11) (arg13 := arg13) (arg14 := arg14), ← v64_eq (arg13 := arg13), ← v144_eq (arg14 := arg14)]; rfl

theorem v109_1_eq : bodyRun.sl.v109_1 c arg1 arg2 arg4 arg5 arg6 arg7 arg8 arg11 arg13 arg14 f1 f2 f4 f5 f6 f7 f8
    = View.ld (View.canon (dv3 (arg1.view.read (Elt F) f1) (arg2.view.read (Elt F) f2) (arg4.view.read (Elt F) f4) (arg5.view.read (Elt F) f5) (arg6.view.read (Elt F) f6) (arg7.view.read (Elt F) f7) (arg8.view.read (Elt F) f8))) (R2 j1) := by
  rw [bodyRun.sl.v109_1, View.readCov_eq_canon', H11_3_eq] <;> rfl

theorem run_dq : (theRun (Ix := Ix) (Name := Name) (U := U) (Lvl := Lvl) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1
    = dq4 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold dq4; rw [← v64_1_eq (arg13 := arg13), ← r_6_eq (arg13 := arg13), ← r_7_eq (arg14 := arg14) (arg15 := arg15), ← v124_1_eq (arg9 := arg9) (arg13 := arg13) (arg14 := arg14) (arg15 := arg15), ← H9_3_eq (arg9 := arg9) (arg13 := arg13) (arg14 := arg14) (arg15 := arg15)]; rfl

theorem run_dk : (theRun (Ix := Ix) (Name := Name) (U := U) (Lvl := Lvl) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2.1
    = dk4 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) := by
  unfold dk4; rw [← r_6_eq (arg13 := arg13), ← r_7_eq (arg14 := arg14) (arg15 := arg15), ← v117_1_eq (arg10 := arg10) (arg13 := arg13) (arg14 := arg14) (arg15 := arg15), ← H10_3_eq (arg10 := arg10) (arg13 := arg13) (arg14 := arg14) (arg15 := arg15)]; rfl

theorem run_dv : (theRun (Ix := Ix) (Name := Name) (U := U) (Lvl := Lvl) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2.2.1
    = dv4 (arg1.view.read (Elt F) f1) (arg2.view.read (Elt F) f2) (arg4.view.read (Elt F) f4) (arg5.view.read (Elt F) f5) (arg6.view.read (Elt F) f6) (arg7.view.read (Elt F) f7) (arg8.view.read (Elt F) f8) := by
  unfold dv4; rw [← r_6_eq (arg13 := arg13), ← v74_1_eq (arg14 := arg14), ← v109_1_eq (arg11 := arg11) (arg13 := arg13) (arg14 := arg14), ← H11_3_eq (arg11 := arg11) (arg13 := arg13) (arg14 := arg14)]; rfl

theorem run_dg : (theRun (Ix := Ix) (Name := Name) (U := U) (Lvl := Lvl) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2.2.2.1
    = dg1 (arg5.view.read (Elt F) f5) (arg8.view.read (Elt F) f8) := by
  rfl

end
end Cert.KernelIdeal.Hand
-- ==== Proof.Run.lean ====
module

public import proofs.«01_k».proof.Proof.Gen.KernelIdeal.Frame
public import proofs.«01_k».proof.Proof.Pieces
public import Idealize.ShloMosaic.Lib.Pipeline.Value

/-!
  The run of the whole program: at each of the eight grid points the body turns the eight input blocks into the four
  output blocks `outQ`, `outK`, `outV`, `outG`; the arguments end unchanged and every semaphore at zero.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

section
variable (X1 : Vec F S2048x256 .bf16) (X2 X3 X4 : Vec F S2048x128 .bf16) (X5 X6 : Vec F S2048x128 .f32)
  (X7 : Vec F S1x128 .f32) (X8 : Vec F S2048x128 .f32)

theorem cover_dq (y : S2048x256.Idx) : ∃ p ∈ dq4 X1 X2 X3 X4 X5 X6 X7 X8, y ∈ p.1.set :=
  ⟨⟨Wb, k0_pay4⟩, by simp [dq4, dq3, dq2, dq1], View.mem_set_unit_zero (by decide) inb_S2048x256_S2048x256_0_0 y⟩
theorem cover_dk (y : S2048x256.Idx) : ∃ p ∈ dk4 X1 X2 X3 X4 X5 X6 X7 X8, y ∈ p.1.set :=
  ⟨⟨Wb, k0_pay5⟩, by simp [dk4, dk3, dk2, dk1], View.mem_set_unit_zero (by decide) inb_S2048x256_S2048x256_0_0 y⟩
theorem cover_dv (y : S2048x128.Idx) : ∃ p ∈ dv4 X1 X2 X4 X5 X6 X7 X8, y ∈ p.1.set :=
  ⟨⟨Wa, k0_pay6⟩, by simp [dv4, dv3, dv2, dv1], View.mem_set_unit_zero (by decide) inb_S2048x128_S2048x128_0_0 y⟩
theorem cover_dg (y : S1x128.Idx) : ∃ p ∈ dg1 X5 X8, y ∈ p.1.set :=
  ⟨_, List.mem_singleton_self _, View.mem_set_unit_zero (by decide) inb_S1x128_S1x128_0_0 y⟩
end

section
variable {Ix Name U Lvl : Type} [DecidableEq Ix] [DecidableEq Name] [RA.URA U] [Preorder Lvl]
variable (𝒱 : Variants) (c : Dev nD) (bd : Option 𝒱.V) (E : Set Name) (i : grid0.Coords)
    (arg1 : Memref sig .tc .vmem S2048x256 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S1x128 .f32) (harg7 : arg7.IsWhole) (arg8 : Memref sig .tc .vmem S2048x128 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x128 .f32) (harg11 : arg11.IsWhole) (arg12 : Memref sig .tc .vmem S1x128 .f32) (harg12 : arg12.IsWhole)
    (arg13 : Memref sig .tc .vmem S2048x256 .bf16) (harg13 : arg13.IsWhole) (arg14 : Memref sig .tc .vmem S2048x128 .bf16) (harg14 : arg14.IsWhole)
    (arg15 : Memref sig .tc .vmem S2048x128 .f32) (harg15 : arg15.IsWhole)
    (X1 : Vec F S2048x256 .bf16) (X2 X3 X4 : Vec F S2048x128 .bf16) (X5 X6 : Vec F S2048x128 .f32)
    (X7 : Vec F S1x128 .f32) (X8 : Vec F S2048x128 .f32)

/-- One grid point: the body's triple over whole staging buffers, at any algebra. -/
theorem body_owns (K : PUnit → sProp (MT nD τ sig Ix (Elt F) Name U Lvl)) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (outQ X1 X2 X3 X4 X5 X6 X7 X8) ∗ owns (c : Thread nD τ) arg10 fullShare (outK X1 X2 X3 X4 X5 X6 X7 X8) ∗ owns (c : Thread nD τ) arg11 fullShare (outV X1 X2 X4 X5 X6 X7 X8) ∗ owns (c : Thread nD τ) arg12 fullShare (outG X5 X8) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) 𝒱 (c : Thread nD τ) bd) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst h1 h2 h3 h4 h5 h6 h7 h8
  iapply ((theRun 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2.2.2.2.2.2.2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, H13, H14, H15⟩
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H8]
  · iexists f8; isplitr; swap; · iexact H8
    ipureintro; rfl
  isplitl [H9]
  · iexists _; isplitr; swap; · iexact H9
    ipureintro; rw [run_dq]; exact View.read_writes_eq_canon _ _ _ (cover_dq _ _ _ _ _ _ _ _)
  isplitl [H10]
  · iexists _; isplitr; swap; · iexact H10
    ipureintro; rw [run_dk]; exact View.read_writes_eq_canon _ _ _ (cover_dk _ _ _ _ _ _ _ _)
  isplitl [H11]
  · iexists _; isplitr; swap; · iexact H11
    ipureintro; rw [run_dv]; exact View.read_writes_eq_canon _ _ _ (cover_dv _ _ _ _ _ _ _)
  isplitl [H12]
  · iexists _; isplitr; swap; · iexact H12
    ipureintro; rw [run_dg]; exact View.read_writes_eq_canon _ _ _ (cover_dg _ _)
  isplitl [H13]
  · iexists _; iexists _; isplitr; swap; · iexact H13
    ipureintro; rfl
  isplitl [H14]
  · iexists _; iexists _; isplitr; swap; · iexact H14
    ipureintro; rfl
  · iexists _; iexists _; isplitr; swap; · iexact H15
    ipureintro; rfl
end

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S2048x256 .bf16 := win0_0.stage (cfg0.slots t 0)
abbrev ms0_1 (t : Fin cfg0.N) : Memref sig .tc .vmem S2048x128 .bf16 := win0_1.stage (cfg0.slots t 1)
abbrev ms0_2 (t : Fin cfg0.N) : Memref sig .tc .vmem S2048x128 .bf16 := win0_2.stage (cfg0.slots t 2)
abbrev ms0_3 (t : Fin cfg0.N) : Memref sig .tc .vmem S2048x128 .bf16 := win0_3.stage (cfg0.slots t 3)
abbrev ms0_4 (t : Fin cfg0.N) : Memref sig .tc .vmem S2048x128 .f32 := win0_4.stage (cfg0.slots t 4)
abbrev ms0_5 (t : Fin cfg0.N) : Memref sig .tc .vmem S2048x128 .f32 := win0_5.stage (cfg0.slots t 5)
abbrev ms0_6 (t : Fin cfg0.N) : Memref sig .tc .vmem S1x128 .f32 := win0_6.stage (cfg0.slots t 6)
abbrev ms0_7 (t : Fin cfg0.N) : Memref sig .tc .vmem S2048x128 .f32 := win0_7.stage (cfg0.slots t 7)
abbrev ms0_8 (t : Fin cfg0.N) : Memref sig .tc .vmem S2048x256 .f32 := win0_8.stage (cfg0.slots t 8)
abbrev ms0_9 (t : Fin cfg0.N) : Memref sig .tc .vmem S2048x256 .f32 := win0_9.stage (cfg0.slots t 9)
abbrev ms0_10 (t : Fin cfg0.N) : Memref sig .tc .vmem S2048x128 .f32 := win0_10.stage (cfg0.slots t 10)
abbrev ms0_11 (t : Fin cfg0.N) : Memref sig .tc .vmem S1x128 .f32 := win0_11.stage (cfg0.slots t 11)
/-- The block of input window 0 at a grid point. -/
abbrev x0 (c : Dev nD) (t : Fin cfg0.N) : Vec F S2048x256 .bf16 := iblk m c 0 t
/-- The block of input window 1 at a grid point. -/
abbrev x1 (c : Dev nD) (t : Fin cfg0.N) : Vec F S2048x128 .bf16 := iblk m c 1 t
/-- The block of input window 2 at a grid point. -/
abbrev x2 (c : Dev nD) (t : Fin cfg0.N) : Vec F S2048x128 .bf16 := iblk m c 2 t
/-- The block of input window 3 at a grid point. -/
abbrev x3 (c : Dev nD) (t : Fin cfg0.N) : Vec F S2048x128 .bf16 := iblk m c 3 t
/-- The block of input window 4 at a grid point. -/
abbrev x4 (c : Dev nD) (t : Fin cfg0.N) : Vec F S2048x128 .f32 := iblk m c 4 t
/-- The block of input window 5 at a grid point. -/
abbrev x5 (c : Dev nD) (t : Fin cfg0.N) : Vec F S2048x128 .f32 := iblk m c 5 t
/-- The block of input window 6 at a grid point. -/
abbrev x6 (c : Dev nD) (t : Fin cfg0.N) : Vec F S1x128 .f32 := iblk m c 6 t
/-- The block of input window 7 at a grid point. -/
abbrev x7 (c : Dev nD) (t : Fin cfg0.N) : Vec F S2048x128 .f32 := iblk m c 7 t

/-- The proof data: the arrays as the region finds them, each input's block in place after the body, each result's block
    at its value, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (x0 m c t) (x1 m c t) (x2 m c t) (x3 m c t) (x4 m c t) (x5 m c t) (x6 m c t) (x7 m c t)
    | ⟨9, _⟩ => outK (x0 m c t) (x1 m c t) (x2 m c t) (x3 m c t) (x4 m c t) (x5 m c t) (x6 m c t) (x7 m c t)
    | ⟨10, _⟩ => outV (x0 m c t) (x1 m c t) (x3 m c t) (x4 m c t) (x5 m c t) (x6 m c t) (x7 m c t)
    | ⟨11, _⟩ => outG (x4 m c t) (x7 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ (x0 m c t) (x1 m c t) (x2 m c t) (x3 m c t) (x4 m c t) (x5 m c t) (x6 m c t) (x7 m c t) := by dsimp only [dats]
theorem after_9 (c : Dev nD) (t : Fin cfg0.N) : (dats m 0 c).after 9 t = outK (x0 m c t) (x1 m c t) (x2 m c t) (x3 m c t) (x4 m c t) (x5 m c t) (x6 m c t) (x7 m c t) := by dsimp only [dats]
theorem after_10 (c : Dev nD) (t : Fin cfg0.N) : (dats m 0 c).after 10 t = outV (x0 m c t) (x1 m c t) (x3 m c t) (x4 m c t) (x5 m c t) (x6 m c t) (x7 m c t) := by dsimp only [dats]
theorem after_11 (c : Dev nD) (t : Fin cfg0.N) : (dats m 0 c).after 11 t = outG (x4 m c t) (x7 m c t) := by dsimp only [dats]
theorem before_0 (c : Dev nD) (t : Fin cfg0.N) (d) : (dats m 0 c).before 0 t d = x0 m c t :=
  before0_0_of m (dats m 0 c) (A_eq m c 0) (after_0 m c) t d
theorem before_1 (c : Dev nD) (t : Fin cfg0.N) (d) : (dats m 0 c).before 1 t d = x1 m c t :=
  before0_1_of m (dats m 0 c) (A_eq m c 1) (after_1 m c) t d
theorem before_2 (c : Dev nD) (t : Fin cfg0.N) (d) : (dats m 0 c).before 2 t d = x2 m c t :=
  before0_2_of m (dats m 0 c) (A_eq m c 2) (after_2 m c) t d
theorem before_3 (c : Dev nD) (t : Fin cfg0.N) (d) : (dats m 0 c).before 3 t d = x3 m c t :=
  before0_3_of m (dats m 0 c) (A_eq m c 3) (after_3 m c) t d
theorem before_4 (c : Dev nD) (t : Fin cfg0.N) (d) : (dats m 0 c).before 4 t d = x4 m c t :=
  before0_4_of m (dats m 0 c) (A_eq m c 4) (after_4 m c) t d
theorem before_5 (c : Dev nD) (t : Fin cfg0.N) (d) : (dats m 0 c).before 5 t d = x5 m c t :=
  before0_5_of m (dats m 0 c) (A_eq m c 5) (after_5 m c) t d
theorem before_6 (c : Dev nD) (t : Fin cfg0.N) (d) : (dats m 0 c).before 6 t d = x6 m c t :=
  before0_6_of m (dats m 0 c) (A_eq m c 6) (after_6 m c) t d
theorem before_7 (c : Dev nD) (t : Fin cfg0.N) (d) : (dats m 0 c).before 7 t d = x7 m c t :=
  before0_7_of m (dats m 0 c) (A_eq m c 7) (after_7 m c) t d

theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ ∃ r, prngReg c r) := by
  unfold Pipeline.ΦA
  rw [scopedRest0_eq]
  simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl, PhiA_eq]
  unfold Dat.owesAt Pipeline.owesWithin
  rw [show (dats m 0 c).owed t.castSucc = 0 from rfl, show (dats m 0 c).owed t.succ = 0 from rfl]
  simp only [before_0, before_1, before_2, before_3, before_4, before_5, before_6, before_7, after_0, after_1, after_2, after_3, after_4, after_5, after_6, after_7, after_8, after_9, after_10, after_11]
  iintro ⟨⟨⟨HS0, HS1, HS2⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_owns (Ix := Unit) (Name := ℕ) (U := UR sig nD τ) (Lvl := ℕ) Variants.none c none Set.univ (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _
    _ _ _ _ _ _ (x0 m c t) (x1 m c t) (x2 m c t) (x3 m c t) (x4 m c t) (x5 m c t) (x6 m c t) (x7 m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · isplitl [HS0]; · iexact HS0
      isplitl [HS1]; · iexact HS1
      iexact HS2
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the proof data say, everything else as the region found it, every semaphore at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The program runs, its arguments end unchanged, every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_main m ρ)

end Cert.KernelIdeal.Hand
-- ==== Proof.Spec.lean ====
module

public import Idealize.ShloMosaic.PureOps.Ideal

/-!
  The mathematics both programs are compared with, in real numbers and for one head: a causal softmax by chunks of 64
  positions, the output's root-mean-square norm with a gain, and the gradient of the two against a cotangent.
-/

@[expose] public section

noncomputable section

namespace Cert.Spec

/-- One head's data: queries and keys (256 wide), values, the cotangent of the normed output and the norm's gain. -/
structure Head where
  q : Fin 2048 → Fin 256 → ℝ
  k : Fin 2048 → Fin 256 → ℝ
  v : Fin 2048 → Fin 128 → ℝ
  c : Fin 2048 → Fin 128 → ℝ
  g : Fin 128 → ℝ

/-- The scores' scale: the 32-bit float nearest to one over the square root of 192. -/
def scl : ℝ := 9686330 / 2 ^ 27
/-- The norm's offset: the 32-bit float nearest to one millionth. -/
def eps : ℝ := 8796093 / 2 ^ 43

theorem eps_pos : 0 < eps := by unfold eps; positivity

/-- Position `j` is seen from position `i` when its chunk is not later. -/
abbrev Vis (i j : Fin 2048) : Prop := j.val / 64 ≤ i.val / 64

variable (H : Head)

def sc (i j : Fin 2048) : ℝ := (∑ d, H.q i d * H.k j d) * scl
def w (i j : Fin 2048) : ℝ := if Vis i j then Real.exp (sc H i j) else 0
def l (i : Fin 2048) : ℝ := ∑ j, w H i j
/-- The softmax. -/
def p (i j : Fin 2048) : ℝ := w H i j / l H i
/-- The attention's output before the norm. -/
def o (i : Fin 2048) (d : Fin 128) : ℝ := ∑ j, H.v j d * p H i j
def den (i : Fin 2048) : ℝ := (∑ d, o H i d * o H i d) / 128 + eps
def r (i : Fin 2048) : ℝ := (Real.sqrt (den H i))⁻¹
def xn (i : Fin 2048) (d : Fin 128) : ℝ := o H i d * r H i
def u (i : Fin 2048) (d : Fin 128) : ℝ := H.c i d * H.g d
/-- The gradient that reaches the output before the norm. -/
def dO (i : Fin 2048) (d : Fin 128) : ℝ := r H i * (u H i d - xn H i d * ((∑ d', xn H i d' * u H i d') / 128))
def delta (i : Fin 2048) : ℝ := ∑ d, dO H i d * o H i d
def dp (i j : Fin 2048) : ℝ := ∑ d, dO H i d * H.v j d
/-- The gradient of the scores before the scale, scaled. -/
def ds (i j : Fin 2048) : ℝ := p H i j * (dp H i j - delta H i) * scl
def dq (i : Fin 2048) (d : Fin 256) : ℝ := ∑ j, ds H i j * H.k j d
def dk (j : Fin 2048) (d : Fin 256) : ℝ := ∑ i, ds H i j * H.q i d
def dv (j : Fin 2048) (d : Fin 128) : ℝ := ∑ i, p H i j * dO H i d
def dg (d : Fin 128) : ℝ := ∑ i, H.c i d * xn H i d

theorem w_nonneg (i j : Fin 2048) : 0 ≤ w H i j := by unfold w; split <;> positivity

theorem l_pos (i : Fin 2048) : 0 < l H i :=
  Finset.sum_pos' (fun j _ => w_nonneg H i j) ⟨i, Finset.mem_univ _, by unfold w; rw [if_pos (le_refl _)]; positivity⟩

theorem den_pos (i : Fin 2048) : 0 < den H i := by
  have : 0 ≤ ∑ d, o H i d * o H i d := Finset.sum_nonneg fun d _ => mul_self_nonneg _
  unfold den; have := eps_pos; positivity

theorem p_exp (i j : Fin 2048) (h : Vis i j) : Real.exp (sc H i j - Real.log (l H i)) = p H i j := by
  rw [Real.exp_sub, Real.exp_log (l_pos H i)]; unfold p w; rw [if_pos h]

theorem p_zero (i j : Fin 2048) (h : ¬ Vis i j) : p H i j = 0 := by unfold p w; rw [if_neg h, zero_div]

theorem ds_zero (i j : Fin 2048) (h : ¬ Vis i j) : ds H i j = 0 := by unfold ds; rw [p_zero H i j h]; ring

/-- A common shift of a row's scores leaves the softmax as it is. -/
theorem shift_sum (M : ℝ) (i : Fin 2048) :
    ∑ j, (if Vis i j then Real.exp (sc H i j - M) else 0) = l H i * Real.exp (-M) := by
  unfold l; rw [Finset.sum_mul]
  refine Finset.sum_congr rfl fun j _ => ?_
  unfold w; split
  · rw [← Real.exp_add, sub_eq_add_neg]
  · rw [zero_mul]

theorem shift_p (M : ℝ) (i j : Fin 2048) :
    (if Vis i j then Real.exp (sc H i j - M) else 0) / (l H i * Real.exp (-M)) = p H i j := by
  have h1 := (l_pos H i).ne'
  have h2 := (Real.exp_pos (-M)).ne'
  unfold p w; split
  · rw [sub_eq_add_neg, Real.exp_add]; field_simp
  · simp

theorem shift_log (M : ℝ) (i : Fin 2048) : M + Real.log (l H i * Real.exp (-M)) = Real.log (l H i) := by
  rw [Real.log_mul (l_pos H i).ne' (Real.exp_pos _).ne', Real.log_exp]; ring

/-! Sums of real numbers read in the extended reals, and a sum over 2048 positions in two halves. -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

abbrev lo (a : Fin 1024) : Fin 2048 := ⟨a.val, by omega⟩
abbrev hi (a : Fin 1024) : Fin 2048 := ⟨1024 + a.val, by omega⟩

theorem sum_halves (f : Fin 2048 → ℝ) : ∑ i, f i = ∑ a, f (lo a) + ∑ a, f (hi a) :=
  Fin.sum_univ_add (a := 1024) (b := 1024) f

theorem half_cases (i : Fin 2048) : (∃ a, i = lo a) ∨ ∃ a, i = hi a := by
  by_cases h : i.val < 1024
  · exact .inl ⟨⟨i.val, h⟩, rfl⟩
  · exact .inr ⟨⟨i.val - 1024, by omega⟩, Fin.ext (by show i.val = 1024 + (i.val - 1024); omega)⟩

end Cert.Spec
-- ==== Proof.Tiles.lean ====
module

public import proofs.«01_k».proof.Proof.Values
public import proofs.«01_k».proof.Proof.Spec
public import Idealize.ShloMosaic.Lib.ValueIdx
public import Idealize.ShloMosaic.Lib.MatmulPlain
public import Idealize.ShloMosaic.Lib.Pipeline.Value
public import Idealize.ShloMosaic.Lib.Pointwise.Reduce

/-!
  The values the call's body computes on one tile, at the ideal semantics and at an index: when the blocks it reads hold
  real numbers, the tile's products, probabilities and gradients are the real numbers of the same formulas.
-/

@[expose] public section

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

/-! ## The literals -/

theorem scl_bits : (Scalar.ofBits .f32 0x3D93CD3A#32 : Ideal .f32) = ((Spec.scl : ℝ) : EReal) := by
  show Ideal.ofBits .f32 0x3D93CD3A#32 = _
  unfold Spec.scl; simp [Ideal.ofBits, Ideal.ieee, -EReal.coe_mul]; norm_num
theorem eps_bits : (Scalar.ofBits .f32 0x358637BD#32 : Ideal .f32) = ((Spec.eps : ℝ) : EReal) := by
  show Ideal.ofBits .f32 0x358637BD#32 = _
  unfold Spec.eps; simp [Ideal.ofBits, Ideal.ieee, -EReal.coe_mul]; norm_num
theorem n128_bits : (Scalar.ofBits .f32 0x43000000#32 : Ideal .f32) = ((128 : ℝ) : EReal) := by
  show Ideal.ofBits .f32 0x43000000#32 = _
  simp [Ideal.ofBits, Ideal.ieee, -EReal.coe_mul]; norm_num
theorem zero_bits : (Scalar.ofBits .f32 0x00000000#32 : Ideal .f32) = ((0 : ℝ) : EReal) := by
  show Ideal.ofBits .f32 0x00000000#32 = _
  rw [Ideal.ofBits_zero_f32]; rfl
theorem mask_bot : (Named.named κ "mask" 0xF149F2CA#32 : Ideal .f32) = (⊥ : EReal) := rfl

/-! ## Products -/

theorem nt_at {M K N : ℕ} {φ₁ φ₂ : FTy} (x : FVec Ideal ⟨2, ![M, K]⟩ φ₁) (y : FVec Ideal ⟨2, ![N, K]⟩ φ₂)
    (A : Fin M → Fin K → ℝ) (B : Fin N → Fin K → ℝ) (hx : ∀ a d, x (ix2 a d) = ((A a d : ℝ) : EReal))
    (hy : ∀ b d, y (ix2 b d) = ((B b d : ℝ) : EReal)) (a : Fin M) (b : Fin N) :
    FloatOps.matmul (DotDims.transposedRhs M K N) none x y (constant ⟨2, ![M, N]⟩ .f32 0x00000000#32) (ix2 a b)
      = ((∑ d, A a d * B b d : ℝ) : EReal) := by
  rw [Ideal.matmul_transposedRhs_apply, ← Spec.coe_sum]
  simp only [hx, hy, EReal.coe_mul]
  rw [show (constant ⟨2, ![M, N]⟩ .f32 0x00000000#32 : FVec Ideal _ _) (ix2 a b) = (0 : EReal) from Ideal.ofBits_zero_f32, zero_add]

theorem nn_at {M K N : ℕ} {φ₁ φ₂ : FTy} (x : FVec Ideal ⟨2, ![M, K]⟩ φ₁) (y : FVec Ideal ⟨2, ![K, N]⟩ φ₂)
    (A : Fin M → Fin K → ℝ) (B : Fin K → Fin N → ℝ) (hx : ∀ a d, x (ix2 a d) = ((A a d : ℝ) : EReal))
    (hy : ∀ b d, y (ix2 b d) = ((B b d : ℝ) : EReal)) (a : Fin M) (b : Fin N) :
    FloatOps.matmul (DotDims.plain M K N) none x y (constant ⟨2, ![M, N]⟩ .f32 0x00000000#32) (ix2 a b)
      = ((∑ d, A a d * B d b : ℝ) : EReal) := by
  rw [Ideal.matmul_plain_apply, ← Spec.coe_sum]
  simp only [hx, hy, EReal.coe_mul]
  rw [show (constant ⟨2, ![M, N]⟩ .f32 0x00000000#32 : FVec Ideal _ _) (ix2 a b) = (0 : EReal) from Ideal.ofBits_zero_f32, zero_add]

theorem tn256_at (x : FVec Ideal S1024x1024 .bf16) (y : FVec Ideal S1024x256 .bf16)
    (A : Fin 1024 → Fin 1024 → ℝ) (B : Fin 1024 → Fin 256 → ℝ) (hx : ∀ a d, x (ix2 a d) = ((A a d : ℝ) : EReal))
    (hy : ∀ b d, y (ix2 b d) = ((B b d : ℝ) : EReal)) (a : Fin 1024) (b : Fin 256) :
    FloatOps.matmul dot_S1024x1024_S1024x256_S1024x256_0_0_1_1_n_n none x y (constant S1024x256 .f32 0x00000000#32) (ix2 a b)
      = ((∑ d, A d a * B d b : ℝ) : EReal) := by
  rw [Ideal.matmul_constant_zero_apply, ← Equiv.sum_comp (contrEquiv1 dot_S1024x1024_S1024x256_S1024x256_0_0_1_1_n_n 1024 rfl rfl).symm, ← Spec.coe_sum]
  refine Finset.sum_congr rfl fun k _ => ?_
  have hk := contrEquiv1_symm_val dot_S1024x1024_S1024x256_S1024x256_0_0_1_1_n_n 1024 rfl rfl k
  have el : dot_S1024x1024_S1024x256_S1024x256_0_0_1_1_n_n.lhsIdx (ix2 a b)
      ((contrEquiv1 dot_S1024x1024_S1024x256_S1024x256_0_0_1_1_n_n 1024 rfl rfl).symm k) = ix2 k a := by
    funext z; apply Fin.ext
    match z with
    | ⟨0, _⟩ => exact hk
    | ⟨1, _⟩ => rfl
  have er : dot_S1024x1024_S1024x256_S1024x256_0_0_1_1_n_n.rhsIdx (ix2 a b)
      ((contrEquiv1 dot_S1024x1024_S1024x256_S1024x256_0_0_1_1_n_n 1024 rfl rfl).symm k) = ix2 k b := by
    funext z; apply Fin.ext
    match z with
    | ⟨0, _⟩ => exact hk
    | ⟨1, _⟩ => rfl
  rw [el, er, hx, hy, EReal.coe_mul]

theorem tn128_at (x : FVec Ideal S1024x1024 .bf16) (y : FVec Ideal S1024x128 .bf16)
    (A : Fin 1024 → Fin 1024 → ℝ) (B : Fin 1024 → Fin 128 → ℝ) (hx : ∀ a d, x (ix2 a d) = ((A a d : ℝ) : EReal))
    (hy : ∀ b d, y (ix2 b d) = ((B b d : ℝ) : EReal)) (a : Fin 1024) (b : Fin 128) :
    FloatOps.matmul dot_S1024x1024_S1024x128_S1024x128_0_0_1_1_n_n none x y (constant S1024x128 .f32 0x00000000#32) (ix2 a b)
      = ((∑ d, A d a * B d b : ℝ) : EReal) := by
  rw [Ideal.matmul_constant_zero_apply, ← Equiv.sum_comp (contrEquiv1 dot_S1024x1024_S1024x128_S1024x128_0_0_1_1_n_n 1024 rfl rfl).symm, ← Spec.coe_sum]
  refine Finset.sum_congr rfl fun k _ => ?_
  have hk := contrEquiv1_symm_val dot_S1024x1024_S1024x128_S1024x128_0_0_1_1_n_n 1024 rfl rfl k
  have el : dot_S1024x1024_S1024x128_S1024x128_0_0_1_1_n_n.lhsIdx (ix2 a b)
      ((contrEquiv1 dot_S1024x1024_S1024x128_S1024x128_0_0_1_1_n_n 1024 rfl rfl).symm k) = ix2 k a := by
    funext z; apply Fin.ext
    match z with
    | ⟨0, _⟩ => exact hk
    | ⟨1, _⟩ => rfl
  have er : dot_S1024x1024_S1024x128_S1024x128_0_0_1_1_n_n.rhsIdx (ix2 a b)
      ((contrEquiv1 dot_S1024x1024_S1024x128_S1024x128_0_0_1_1_n_n 1024 rfl rfl).symm k) = ix2 k b := by
    funext z; apply Fin.ext
    match z with
    | ⟨0, _⟩ => exact hk
    | ⟨1, _⟩ => rfl
  rw [el, er, hx, hy, EReal.coe_mul]

/-! ## Layout -/

theorem cast_self {s : Shape} {α : Type} (h : s.ShapeCasts s) (x : s.Idx → α) : shapeCast s x h = x := by
  funext i; exact shapeCast_apply x h i i rfl

/-- A column read out of a block and repeated along the rows. -/
theorem col_at (x : FVec Ideal S1024x128 .f32) (a b : Fin 1024) :
    broadcastTo S1024x1024 (extractStridedSlice S1024x1 ![0, 0] x slices_S1024x128_o0_0_S1024x1) broadcasts_S1024x1_S1024x1024 (ix2 a b)
      = x (ix2 a 0) := by
  refine congrArg x (funext fun z => Fin.ext ?_)
  match z with
  | ⟨0, _⟩ => show 0 + a.val = a.val; omega
  | ⟨1, _⟩ => rfl

/-! ## One tile's probabilities and gradients -/

section Tile
variable (Q K : Fin 1024 → Fin 256 → ℝ) (V D : Fin 1024 → Fin 128 → ℝ) (L E : Fin 1024 → ℝ)

def tS (a b : Fin 1024) : ℝ := (∑ d, Q a d * K b d) * Spec.scl
def tP (a b : Fin 1024) : ℝ := if b.val / 64 ≤ a.val / 64 then Real.exp (tS Q K a b - L a) else 0
def tPo (a b : Fin 1024) : ℝ := Real.exp (tS Q K a b - L a)
def tD (a b : Fin 1024) : ℝ := (∑ d, D a d * V b d) - E a

variable {Q K V D L E}
variable {q k : Vec Ideal S1024x256 .bf16} {v d : Vec Ideal S1024x128 .bf16} {lse e : Vec Ideal S1024x128 .f32}

theorem pay13_eq (q : Vec Ideal S1024x256 .bf16) : k0_pay13 q = q := cast_self _ q
theorem pay24_eq (q : Vec Ideal S1024x256 .bf16) : k0_pay24 q = q := cast_self _ q
theorem pay23_eq (v : Vec Ideal S1024x128 .bf16) : k0_pay23 v = v := cast_self _ v

theorem chunk_word (n : ℕ) (h : n < 2048) : IntOp.shrui .vector (0#32 + BitVec.ofNat 32 n) 6#32 = BitVec.ofNat 32 (n / 64) := by
  rw [BitVec.zero_add]
  unfold IntOp.shrui
  rw [if_pos (by decide)]
  apply BitVec.eq_of_toNat_eq
  rw [BitVec.ushiftRight_eq', BitVec.toNat_ushiftRight, BitVec.toNat_ofNat, BitVec.toNat_ofNat, BitVec.toNat_ofNat,
    Nat.shiftRight_eq_div_pow, show 2 ^ (6 % 2 ^ 32) = 64 from rfl, Nat.mod_eq_of_lt (show n < 2 ^ 32 by omega),
    Nat.mod_eq_of_lt (show n / 64 < 2 ^ 32 by omega)]

theorem word_le (m n : ℕ) (hm : m < 2048) (hn : n < 2048) :
    IntOp.cmpi .sle (BitVec.ofNat 32 m) (BitVec.ofNat 32 n) = if m ≤ n then 1#1 else 0#1 := by
  show BitVec.ofBool ((BitVec.ofNat 32 m).sle (BitVec.ofNat 32 n)) = _
  have e : (BitVec.ofNat 32 m).sle (BitVec.ofNat 32 n) = decide (m ≤ n) := by
    rw [Bool.eq_iff_iff, BitVec.sle_iff_toInt_le, decide_eq_true_iff, BitVec.toInt_eq_toNat_of_lt, BitVec.toInt_eq_toNat_of_lt]
    · simp only [BitVec.toNat_ofNat]; omega
    · simp only [BitVec.toNat_ofNat]; omega
    · simp only [BitVec.toNat_ofNat]; omega
  rw [e]; by_cases h : m ≤ n <;> simp [h]

theorem chunk_bit (a b : Fin 1024) :
    (cmpi .sle (shrui (addi (broadcast S1024x1024 0#32) (iota .tc S1024x1024 32 [1] iota_S1024x1024_d1_w32)) (broadcast S1024x1024 6#32))
      (shrui (addi (broadcast S1024x1024 0#32) (iota .tc S1024x1024 32 [0] iota_S1024x1024_d0_w32)) (broadcast S1024x1024 6#32))) (ix2 a b)
      = if b.val / 64 ≤ a.val / 64 then 1#1 else 0#1 := by
  show IntOp.cmpi .sle (IntOp.shrui .vector (0#32 + BitVec.ofNat 32 (0 * 1024 + b.val)) 6#32)
    (IntOp.shrui .vector (0#32 + BitVec.ofNat 32 (0 * 1024 + a.val)) 6#32) = _
  rw [Nat.zero_mul, Nat.zero_add, Nat.zero_add, chunk_word _ (by omega), chunk_word _ (by omega), word_le _ _ (by omega) (by omega)]

theorem score_at (hq : ∀ a d, q (ix2 a d) = ((Q a d : ℝ) : EReal)) (hk : ∀ b d, k (ix2 b d) = ((K b d : ℝ) : EReal)) (a b : Fin 1024) :
    mulf (matmul (φ₁ := .bf16) (φ₂ := .bf16) dot_S1024x256_S1024x256_S1024x1024_1_1_0_0_n_n none q k (constant (F := Ideal) S1024x1024 .f32 0x00000000#32))
      (broadcast S1024x1024 (Scalar.ofBits .f32 0x3D93CD3A#32)) (ix2 a b) = ((tS Q K a b : ℝ) : EReal) := by
  rw [mulf_apply, broadcast_apply, scl_bits]
  unfold tS
  rw [EReal.coe_mul]
  exact congrArg (· * _) (nt_at q k Q K hq hk a b)

theorem pay25_at (hq : ∀ a d, q (ix2 a d) = ((Q a d : ℝ) : EReal)) (hk : ∀ b d, k (ix2 b d) = ((K b d : ℝ) : EReal))
    (hl : ∀ a, lse (ix2 a 0) = ((L a : ℝ) : EReal)) (a b : Fin 1024) :
    k0_pay25 k q lse (ix2 a b) = ((tP Q K L a b : ℝ) : EReal) := by
  unfold k0_pay25
  rw [pay24_eq]
  simp only [cast_self]
  show Ideal.exp (_ - _) = _
  rw [col_at, hl, select_apply, chunk_bit, score_at hq hk, broadcast_apply, mask_bot]
  unfold tP
  split
  · rw [select_one, ← EReal.coe_sub, Ideal.exp_coe]
  · rw [select_zero, EReal.bot_sub, Ideal.exp_bot]; rfl

theorem pay14_at (hq : ∀ a d, q (ix2 a d) = ((Q a d : ℝ) : EReal)) (hk : ∀ b d, k (ix2 b d) = ((K b d : ℝ) : EReal))
    (hl : ∀ a, lse (ix2 a 0) = ((L a : ℝ) : EReal)) (a b : Fin 1024) :
    k0_pay14 k q lse (ix2 a b) = ((tPo Q K L a b : ℝ) : EReal) := by
  unfold k0_pay14
  rw [pay13_eq]
  simp only [cast_self]
  show Ideal.exp (_ - _) = _
  rw [col_at, hl, score_at hq hk, ← EReal.coe_sub, Ideal.exp_coe]; rfl

theorem pay26_at (hv : ∀ b x, v (ix2 b x) = ((V b x : ℝ) : EReal)) (hd : ∀ a x, d (ix2 a x) = ((D a x : ℝ) : EReal))
    (he : ∀ a, e (ix2 a 0) = ((E a : ℝ) : EReal)) (a b : Fin 1024) :
    k0_pay26 v d e (ix2 a b) = ((tD V D E a b : ℝ) : EReal) := by
  unfold k0_pay26 tD
  rw [pay23_eq]
  show (_ - _ : EReal) = _
  rw [col_at, he, EReal.coe_sub]
  exact congrArg (· - _) (nt_at d v D V hd hv a b)

variable {p dd : FVec Ideal S1024x1024 .f32} {s : FVec Ideal S1024x1024 .bf16} {P DD : Fin 1024 → Fin 1024 → ℝ}

theorem pay7_at (hp : ∀ a b, p (ix2 a b) = ((P a b : ℝ) : EReal)) (hd : ∀ a b, dd (ix2 a b) = ((DD a b : ℝ) : EReal)) (a b : Fin 1024) :
    k0_pay7 p dd (ix2 a b) = ((P a b * DD a b * Spec.scl : ℝ) : EReal) := by
  unfold k0_pay7
  show (p (ix2 a b) * dd (ix2 a b) * Scalar.ofBits (F := Ideal) .f32 0x3D93CD3A#32 : EReal) = _
  rw [hp, hd, scl_bits, EReal.coe_mul, EReal.coe_mul]

theorem pay15_at (hq : ∀ a d, q (ix2 a d) = ((Q a d : ℝ) : EReal)) (hk : ∀ b d, k (ix2 b d) = ((K b d : ℝ) : EReal))
    (hl : ∀ a, lse (ix2 a 0) = ((L a : ℝ) : EReal))
    (hv : ∀ b x, v (ix2 b x) = ((V b x : ℝ) : EReal)) (hd : ∀ a x, d (ix2 a x) = ((D a x : ℝ) : EReal))
    (he : ∀ a, e (ix2 a 0) = ((E a : ℝ) : EReal)) (a b : Fin 1024) :
    k0_pay15 k v q d lse e (ix2 a b) = ((tPo Q K L a b * tD V D E a b * Spec.scl : ℝ) : EReal) := by
  have h := pay26_at hv hd he a b
  unfold k0_pay26 at h
  rw [pay23_eq] at h
  unfold k0_pay15
  show (k0_pay14 k q lse (ix2 a b) * _ * Scalar.ofBits (F := Ideal) .f32 0x3D93CD3A#32 : EReal) = _
  rw [pay14_at hq hk hl, scl_bits, EReal.coe_mul, EReal.coe_mul]
  exact congrArg (fun z => _ * z * _) h

/-! ## One tile's contributions to the outputs -/

variable {accW : Vec Ideal S1024x256 .f32} {accN : Vec Ideal S1024x128 .f32} {A : ℝ}

theorem pay8_at (hd : ∀ a x, d (ix2 a x) = ((D a x : ℝ) : EReal)) (hp : ∀ a b, p (ix2 a b) = ((P a b : ℝ) : EReal))
    (b : Fin 1024) (x : Fin 128) (ha : accN (ix2 b x) = ((A : ℝ) : EReal)) :
    k0_pay8 d p accN (ix2 b x) = ((A + ∑ a, P a b * D a x : ℝ) : EReal) := by
  unfold k0_pay8
  rw [cast_self, addf_apply, ha, EReal.coe_add]
  exact congrArg (_ + ·) (tn128_at (truncf .bf16 p bitsLt_bf16_f32) d P D hp hd b x)

theorem pay9_at (hq : ∀ a d, q (ix2 a d) = ((Q a d : ℝ) : EReal)) (hp : ∀ a b, p (ix2 a b) = ((P a b : ℝ) : EReal))
    (hdd : ∀ a b, dd (ix2 a b) = ((DD a b : ℝ) : EReal)) (b : Fin 1024) (x : Fin 256) (ha : accW (ix2 b x) = ((A : ℝ) : EReal)) :
    k0_pay9 q p dd accW (ix2 b x) = ((A + ∑ a, P a b * DD a b * Spec.scl * Q a x : ℝ) : EReal) := by
  unfold k0_pay9
  rw [cast_self, addf_apply, ha, EReal.coe_add]
  exact congrArg (_ + ·) (tn256_at (k0_pay7 p dd) q _ Q (pay7_at hp hdd) hq b x)

theorem pay10_at (hk : ∀ b d, k (ix2 b d) = ((K b d : ℝ) : EReal)) (hp : ∀ a b, p (ix2 a b) = ((P a b : ℝ) : EReal))
    (hdd : ∀ a b, dd (ix2 a b) = ((DD a b : ℝ) : EReal)) (a : Fin 1024) (x : Fin 256) (ha : accW (ix2 a x) = ((A : ℝ) : EReal)) :
    k0_pay10 k p dd accW (ix2 a x) = ((A + ∑ b, P a b * DD a b * Spec.scl * K b x : ℝ) : EReal) := by
  unfold k0_pay10
  rw [cast_self, addf_apply, ha, EReal.coe_add]
  exact congrArg (_ + ·) (nn_at (k0_pay7 p dd) k _ K (pay7_at hp hdd) hk a x)

theorem pay11_at (hk : ∀ b d, k (ix2 b d) = ((K b d : ℝ) : EReal)) (hs : ∀ a b, s (ix2 a b) = ((P a b : ℝ) : EReal))
    (a : Fin 1024) (x : Fin 256) (ha : accW (ix2 a x) = ((A : ℝ) : EReal)) :
    k0_pay11 k s accW (ix2 a x) = ((A + ∑ b, P a b * K b x : ℝ) : EReal) := by
  unfold k0_pay11
  rw [cast_self, addf_apply, ha, EReal.coe_add]
  exact congrArg (_ + ·) (nn_at s k _ K hs hk a x)

theorem pay16_at (hq : ∀ a d, q (ix2 a d) = ((Q a d : ℝ) : EReal)) (hk : ∀ b d, k (ix2 b d) = ((K b d : ℝ) : EReal))
    (hl : ∀ a, lse (ix2 a 0) = ((L a : ℝ) : EReal)) (hd : ∀ a x, d (ix2 a x) = ((D a x : ℝ) : EReal))
    (b : Fin 1024) (x : Fin 128) (ha : accN (ix2 b x) = ((A : ℝ) : EReal)) :
    k0_pay16 k q d lse accN (ix2 b x) = ((A + ∑ a, tPo Q K L a b * D a x : ℝ) : EReal) := by
  unfold k0_pay16
  rw [cast_self, addf_apply, ha, EReal.coe_add]
  exact congrArg (_ + ·) (tn128_at (truncf .bf16 (k0_pay14 k q lse) bitsLt_bf16_f32) d _ D (pay14_at hq hk hl) hd b x)

theorem pay17_at (hq : ∀ a d, q (ix2 a d) = ((Q a d : ℝ) : EReal)) (hk : ∀ b d, k (ix2 b d) = ((K b d : ℝ) : EReal))
    (hl : ∀ a, lse (ix2 a 0) = ((L a : ℝ) : EReal))
    (hv : ∀ b x, v (ix2 b x) = ((V b x : ℝ) : EReal)) (hd : ∀ a x, d (ix2 a x) = ((D a x : ℝ) : EReal))
    (he : ∀ a, e (ix2 a 0) = ((E a : ℝ) : EReal)) (b : Fin 1024) (x : Fin 256) (ha : accW (ix2 b x) = ((A : ℝ) : EReal)) :
    k0_pay17 k v q d lse e accW (ix2 b x)
      = ((A + ∑ a, tPo Q K L a b * tD V D E a b * Spec.scl * Q a x : ℝ) : EReal) := by
  unfold k0_pay17
  rw [cast_self, addf_apply, ha, EReal.coe_add, pay13_eq]
  exact congrArg (_ + ·) (tn256_at (k0_pay15 k v q d lse e) q _ Q (pay15_at hq hk hl hv hd he) hq b x)

end Tile

end Cert.KernelIdeal.Hand
-- ==== Proof.RefScores.lean ====
module

public import proofs.«01_k».proof.Proof.Gen.ReferenceIdeal.Read
public import proofs.«01_k».proof.Proof.Tiles

/-!
  The reference's softmax, read at an index from real arguments: the scores, the mask, the row maximum, the weights and
  the output before the norm.
-/

@[expose] public section

noncomputable section

namespace Cert.Values

open Cert.ReferenceIdeal Cert.ReferenceIdeal.Gen Cert.ReferenceIdeal.Read
open Idealize.ShloMosaic hiding ix1 ix2 ix3 ix4
open Idealize.ShloMosaic.TcCoe Idealize.ShloMosaic.ValueIdx

/-- A real array as one of extended reals. -/
abbrev up {s : Shape} (a : s.Idx → ℝ) : (⟨s, .f32⟩ : BufTy).Contents (Elt Ideal) := fun i => ((a i : ℝ) : EReal)

/-- Real arguments of the call: the queries, the keys' first columns with the values, the keys' last columns, the
    norm's gains, the cotangent. -/
structure Args where
  x0 : S1x2048x8x192.Idx → ℝ
  x1 : S1x2048x8x256.Idx → ℝ
  x2 : S1x2048x64.Idx → ℝ
  x3 : S1024.Idx → ℝ
  x4 : S1x2048x2048.Idx → ℝ

variable (a : Args)

/-- What head `h` works on: its queries and keys padded with zeros to 256 columns, its values, its part of the
    cotangent and of the norm's gains. -/
def head (h : Fin 8) : Spec.Head where
  q i d := if hd : d.val < 192 then a.x0 (ix4 0 i h ⟨d.val, hd⟩) else 0
  k i d := if d.val < 128 then a.x1 (ix4 0 i h d) else if hd : d.val - 128 < 64 then a.x2 (ix3 0 i ⟨d.val - 128, hd⟩) else 0
  v i d := a.x1 (ix4 0 i h ⟨128 + d.val, by omega⟩)
  c i d := a.x4 (ix3 0 i ⟨1024 + (128 * h.val + d.val), by omega⟩)
  g d := a.x3 (ix1 ⟨128 * h.val + d.val, by omega⟩)

/-- The first 128 columns. -/
abbrev c0 (d : Fin 128) : Fin 256 := ⟨d.val, by omega⟩
/-- The 64 columns after them. -/
abbrev c1 (d : Fin 64) : Fin 256 := ⟨128 + d.val, by omega⟩

theorem head_q0 (h : Fin 8) (i : Fin 2048) (d : Fin 128) : (head a h).q i (c0 d) = a.x0 (ix4 0 i h ⟨d.val, by omega⟩) :=
  dif_pos (show d.val < 192 by omega)
theorem head_q1 (h : Fin 8) (i : Fin 2048) (d : Fin 64) : (head a h).q i (c1 d) = a.x0 (ix4 0 i h ⟨128 + d.val, by omega⟩) :=
  dif_pos (show 128 + d.val < 192 by omega)
theorem head_k0 (h : Fin 8) (i : Fin 2048) (d : Fin 128) : (head a h).k i (c0 d) = a.x1 (ix4 0 i h (c0 d)) :=
  if_pos (show d.val < 128 by omega)
theorem head_k1 (h : Fin 8) (i : Fin 2048) (d : Fin 64) : (head a h).k i (c1 d) = a.x2 (ix3 0 i d) := by
  refine (if_neg (show ¬ 128 + d.val < 128 by omega)).trans ((dif_pos (show 128 + d.val - 128 < 64 by omega)).trans ?_)
  exact congrArg (fun x => a.x2 (ix3 0 i x)) (Fin.ext (show 128 + d.val - 128 = d.val by omega))
theorem head_q2 (h : Fin 8) (i : Fin 2048) (d : Fin 256) (hd' : 192 ≤ d.val) : (head a h).q i d = 0 := dif_neg (by omega)
theorem head_k2 (h : Fin 8) (i : Fin 2048) (d : Fin 256) (hd' : 192 ≤ d.val) : (head a h).k i d = 0 :=
  (if_neg (by omega)).trans (dif_neg (by omega))

theorem sum_cols (f : Fin 256 → ℝ) (hf : ∀ d : Fin 256, 192 ≤ d.val → f d = 0) :
    ∑ d, f d = ∑ d : Fin 128, f (c0 d) + ∑ d : Fin 64, f (c1 d) := by
  rw [Fin.sum_univ_add (a := 192) (b := 64) f, Fin.sum_univ_add (a := 128) (b := 64) (fun d : Fin 192 => f (Fin.castAdd 64 d))]
  rw [Finset.sum_eq_zero (s := Finset.univ) (f := fun d : Fin 64 => f (Fin.natAdd 192 d)) (fun d _ => hf _ (Nat.le_add_right _ _)), add_zero]
  rfl

/-! Slices of the arguments. -/

theorem v0_at (i : Fin 2048) (h : Fin 8) (d : Fin 128) : val_main_v0 (F := Ideal) (up a.x1) (ix4 0 i h d) = ↑((head a h).k i (c0 d)) := by
  rw [head_k0, val_main_v0_apply]; exact congrArg (up a.x1) (ValueIdx.eq_ix4 _)
theorem v1_at (i : Fin 2048) (h : Fin 8) (d : Fin 128) : val_main_v1 (F := Ideal) (up a.x1) (ix4 0 i h d) = ↑((head a h).v i d) := by
  rw [val_main_v1_apply]; exact congrArg (up a.x1) (ValueIdx.eq_ix4 _)
theorem v3_at (i : Fin 2048) (h : Fin 8) (d : Fin 64) : val_main_v3 (F := Ideal) (up a.x2) (ix4 0 i h d) = ↑((head a h).k i (c1 d)) := by
  rw [head_k1, val_main_v3_apply, val_main_v2_apply]; exact congrArg (up a.x2) (ValueIdx.eq_ix3 _)
theorem v7_at (i : Fin 2048) (h : Fin 8) (d : Fin 128) : val_main_v7 (F := Ideal) (up a.x0) (ix4 0 i h d) = ↑((head a h).q i (c0 d)) := by
  rw [head_q0, val_main_v7_apply]; exact congrArg (up a.x0) (ValueIdx.eq_ix4 _)
theorem v8_at (i : Fin 2048) (h : Fin 8) (d : Fin 64) : val_main_v8 (F := Ideal) (up a.x0) (ix4 0 i h d) = ↑((head a h).q i (c1 d)) := by
  rw [head_q1, val_main_v8_apply]; exact congrArg (up a.x0) (ValueIdx.eq_ix4 _)

/-- The scores. -/
theorem v13_at (h : Fin 8) (i j : Fin 2048) :
    val_main_v13 (F := Ideal) (up a.x0) (up a.x1) (up a.x2) (ix4 0 h i j) = ↑(Spec.sc (head a h) i j) := by
  have e9 : val_main_v9 (F := Ideal) (up a.x0) (up a.x1) (ix4 0 h i j) = ↑(∑ d : Fin 128, (head a h).q i (c0 d) * (head a h).k j (c0 d)) := by
    rw [val_main_v9_apply, ← Spec.coe_sum]
    refine Finset.sum_congr rfl fun d _ => ?_
    rw [EReal.coe_mul, ← v7_at, ← v0_at a]
    exact congrArg₂ (· * ·) (congrArg _ (ValueIdx.eq_ix4 _)) (congrArg _ (ValueIdx.eq_ix4 _))
  have e10 : val_main_v10 (F := Ideal) (up a.x0) (up a.x2) (ix4 0 h i j) = ↑(∑ d : Fin 64, (head a h).q i (c1 d) * (head a h).k j (c1 d)) := by
    rw [val_main_v10_apply, ← Spec.coe_sum]
    refine Finset.sum_congr rfl fun d _ => ?_
    rw [EReal.coe_mul, ← v8_at, ← v3_at a]
    exact congrArg₂ (· * ·) (congrArg _ (ValueIdx.eq_ix4 _)) (congrArg _ (ValueIdx.eq_ix4 _))
  rw [val_main_v13_apply, val_main_v11_apply, e9, e10, val_main_v12_apply]
  show ((_ : EReal) + _) * Ideal.ofBits .f32 0x3D93CD3A#32 = _
  rw [show Ideal.ofBits .f32 0x3D93CD3A#32 = _ from Cert.KernelIdeal.Hand.scl_bits, ← EReal.coe_add, ← EReal.coe_mul]
  unfold Spec.sc
  rw [sum_cols _ (fun d hd' => by rw [head_q2 _ _ _ _ hd', zero_mul])]

/-- The chunk of a position. -/
theorem v15_at (i : Fin 2048) : val_main_v15 (F := Ideal) (ix1 i) = BitVec.ofNat 32 (i.val / 64) := by
  have key : ∀ i : Fin 2048, Scalar.select (IntOp.andi (IntOp.cmpi .ne
      (if BitVec.ofNat 32 i.val = 0 then 0 else if (BitVec.ofNat 32 i.val).msb then -1 else 1 : BitVec 32)
      (if 64#32 = 0 then 0 else if (64#32).msb then -1 else 1 : BitVec 32))
      (IntOp.cmpi .ne (IntOp.remsi .host (BitVec.ofNat 32 i.val) 64#32) 0#32)) (IntOp.subi (IntOp.divsi .host (BitVec.ofNat 32 i.val) 64#32) 1#32)
      (IntOp.divsi .host (BitVec.ofNat 32 i.val) 64#32) = BitVec.ofNat 32 (i.val / 64) := by decide +kernel
  exact key i

theorem v21_1_at (h : Fin 8) (i j : Fin 2048) :
    val_main_v21_1 (F := Ideal) (ix4 0 h i j) = if Spec.Vis i j then 1#1 else 0#1 := by
  rw [val_main_v21_1_apply, val_main_v20_apply, val_main_v18_apply, val_main_v19_apply, val_main_v16_apply, val_main_v17_apply,
    show idx_main_v16 (idx_main_v18 (idx_main_v21_1 (ix4 0 h i j))) = ix1 j from ValueIdx.eq_ix1 _,
    show idx_main_v17 (idx_main_v19 (idx_main_v21_1 (ix4 0 h i j))) = ix1 i from ValueIdx.eq_ix1 _, v15_at, v15_at,
    Cert.KernelIdeal.Hand.word_le _ _ (by omega) (by omega)]

theorem ninf_bits : (Scalar.ofBits .f32 0xFF800000#32 : Ideal .f32) = (⊥ : EReal) := by
  show Ideal.ofBits .f32 0xFF800000#32 = _
  simp [Ideal.ofBits, Ideal.ieee]

/-- The masked scores. -/
theorem v21_at (h : Fin 8) (i j : Fin 2048) :
    val_main_v21_0 (F := Ideal) (up a.x0) (up a.x1) (up a.x2) (ix4 0 h i j)
      = if Spec.Vis i j then (↑(Spec.sc (head a h) i j) : EReal) else ⊥ := by
  rw [val_main_v21_0_apply, v21_1_at, v13_at, val_main_call1_v2_apply]
  split
  · exact select_one _ _
  · exact (select_zero _ _).trans ninf_bits

theorem split4 (k : S1x8x2048x2048.Idx) : ∃ (h : Fin 8) (i j : Fin 2048), k = ix4 0 h i j :=
  ⟨k 1, k 2, k 3, (ValueIdx.eq_ix4 k).trans (congrArg (fun z => ix4 z (k 1) (k 2) (k 3)) (Fin.fin_one_eq_zero _))⟩

theorem v21_ne_top (k : S1x8x2048x2048.Idx) : val_main_v21_0 (F := Ideal) (up a.x0) (up a.x1) (up a.x2) k ≠ (⊤ : EReal) := by
  obtain ⟨h, i, j, rfl⟩ := split4 k
  rw [v21_at]; split <;> simp

/-- A running maximum from −∞ over numbers below +∞, one of them real, is real. -/
theorem fold_real {ι : Type} (f : ι → EReal) (xs : List ι) (hf : ∀ x ∈ xs, f x ≠ ⊤) (hx : ∃ x ∈ xs, f x ≠ ⊥) :
    ∃ M : ℝ, xs.foldl (fun r n => max r (f n)) ⊥ = ↑M := by
  have up : ∀ (ys : List ι) (b : EReal), b ≤ ys.foldl (fun r n => max r (f n)) b := by
    intro ys; induction ys with
    | nil => intro b; exact le_refl _
    | cons y ys ih => intro b; exact (le_max_left _ _).trans (ih _)
  have mem : ∀ (ys : List ι) (b : EReal), ∀ x ∈ ys, f x ≤ ys.foldl (fun r n => max r (f n)) b := by
    intro ys; induction ys with
    | nil => intro b x hx; cases hx
    | cons y ys ih =>
      intro b x hx
      rcases List.mem_cons.mp hx with rfl | hx
      · exact (le_max_right _ _).trans (up ys _)
      · exact ih _ x hx
  have top : ∀ (ys : List ι) (b : EReal), (∀ x ∈ ys, f x ≠ ⊤) → b ≠ ⊤ → ys.foldl (fun r n => max r (f n)) b ≠ ⊤ := by
    intro ys; induction ys with
    | nil => intro b _ hb; exact hb
    | cons y ys ih =>
      intro b hy hb
      refine ih _ (fun x hx => hy x (List.mem_cons_of_mem _ hx)) ?_
      show max b (f y) ≠ ⊤
      rcases max_choice b (f y) with e | e <;> rw [e]
      · exact hb
      · exact hy y List.mem_cons_self
  obtain ⟨x, hx, hb⟩ := hx
  have h1 : xs.foldl (fun r n => max r (f n)) ⊥ ≠ ⊥ := fun e => hb (le_bot_iff.mp (e ▸ mem xs ⊥ x hx))
  exact ⟨_, (EReal.coe_toReal (top xs ⊥ hf (by simp)) h1).symm⟩

/-- The maximum of a row of scores. -/
def M (h : Fin 8) (i : Fin 2048) : ℝ := (val_main_v22 (F := Ideal) (up a.x0) (up a.x1) (up a.x2) (ix3 0 h i)).toReal

theorem v22_at (h : Fin 8) (i : Fin 2048) :
    val_main_v22 (F := Ideal) (up a.x0) (up a.x1) (up a.x2) (ix3 0 h i) = ↑(M a h i) := by
  have key : ∃ m : ℝ, val_main_v22 (F := Ideal) (up a.x0) (up a.x1) (up a.x2) (ix3 0 h i) = ↑m := by
    unfold val_main_v22 Host.reduce
    rw [show val_main_cst_1 (F := Ideal) (Shape.Idx.first h_S_) = (⊥ : EReal) from ninf_bits]
    refine fold_real (fun n => val_main_v21_0 (F := Ideal) (up a.x0) (up a.x1) (up a.x2) (S1x8x2048x2048.rowMajor.symm n)) _ ?_ ?_
    · intro n _
      exact v21_ne_top a _
    · refine ⟨S1x8x2048x2048.rowMajor (ix4 0 h i i), ?_, ?_⟩
      · rw [List.mem_filter, Equiv.symm_apply_apply]
        refine ⟨List.mem_finRange _, decide_eq_true ?_⟩
        exact ValueIdx.eq_ix3 _
      · show val_main_v21_0 (F := Ideal) (up a.x0) (up a.x1) (up a.x2) (S1x8x2048x2048.rowMajor.symm (S1x8x2048x2048.rowMajor (ix4 0 h i i))) ≠ ⊥
        rw [Equiv.symm_apply_apply, v21_at, if_pos (le_refl _)]; simp
  obtain ⟨m, e⟩ := key
  unfold M; rw [e, EReal.toReal_coe]

/-- A weight before its row's sum divides it. -/
def E (h : Fin 8) (i j : Fin 2048) : ℝ := if Spec.Vis i j then Real.exp (Spec.sc (head a h) i j - M a h i) else 0
/-- The sum of a row's weights. -/
def L (h : Fin 8) (i : Fin 2048) : ℝ := Spec.l (head a h) i * Real.exp (-M a h i)

theorem L_pos (h : Fin 8) (i : Fin 2048) : 0 < L a h i := mul_pos (Spec.l_pos _ _) (Real.exp_pos _)

theorem exp_masked (h : Fin 8) (i j : Fin 2048) :
    Ideal.exp ((if Spec.Vis i j then (↑(Spec.sc (head a h) i j) : EReal) else ⊥) - ↑(M a h i)) = ↑(E a h i j) := by
  unfold E; split
  · rw [← EReal.coe_sub, Ideal.exp_coe]
  · rw [EReal.bot_sub, Ideal.exp_bot]; rfl

theorem max_ninf (k : S_.Idx) (x : Ideal .f32) : FloatOps.maximumf (val_main_cst_3 (F := Ideal) k) x = x :=
  (congrArg (fun y : EReal => max y x) ninf_bits).trans (max_eq_right bot_le)

theorem v42_at (h : Fin 8) (i j : Fin 2048) :
    val_main_v42 (F := Ideal) (up a.x0) (up a.x1) (up a.x2) (ix4 0 h i j) = ↑(E a h i j) := by
  rw [val_main_v42_apply, val_main_v41_apply, v21_at, val_main_v40_apply, val_main_v39_apply, val_main_v29_apply,
    show idx_main_v39 (idx_main_v40 (ix4 0 h i j)) = ix3 0 h i from ValueIdx.eq_ix3 _, v22_at, val_main_v28_apply]
  rw [max_ninf]
  exact exp_masked a h i j

theorem v43_at (h : Fin 8) (i : Fin 2048) :
    val_main_v43 (F := Ideal) (up a.x0) (up a.x1) (up a.x2) (ix3 0 h i) = ↑(L a h i) := by
  rw [val_main_v43_apply, show val_main_cst_9 (F := Ideal) (Shape.Idx.first h_S_) = ((0 : ℝ) : EReal) from Cert.KernelIdeal.Hand.zero_bits,
    EReal.coe_zero, zero_add]
  unfold L
  rw [← Spec.shift_sum, ← Spec.coe_sum]
  exact Finset.sum_congr rfl fun j _ => (congrArg _ (ValueIdx.eq_ix4 _)).trans (v42_at a h i j)

theorem v44_at (h : Fin 8) (i : Fin 2048) :
    val_main_v44 (F := Ideal) (up a.x0) (up a.x1) (up a.x2) (ix4 0 h i 0) = ↑(L a h i) := by
  rw [val_main_v44_apply]; exact (congrArg _ (ValueIdx.eq_ix3 _)).trans (v43_at a h i)

theorem div_real (x y : ℝ) (hy : y ≠ 0) : Ideal.div (↑x : EReal) (↑y : EReal) = ↑(x / y) := by
  rw [Ideal.div_coe hy, ← EReal.coe_mul, mul_one_div]

/-- The softmax. -/
theorem v46_at (h : Fin 8) (i j : Fin 2048) :
    val_main_v46 (F := Ideal) (up a.x0) (up a.x1) (up a.x2) (ix4 0 h i j) = ↑(Spec.p (head a h) i j) := by
  rw [val_main_v46_apply, v42_at, val_main_v45_apply, show idx_main_v45 (ix4 0 h i j) = ix4 0 h i 0 from ValueIdx.eq_ix4 _, v44_at,
    ← Spec.shift_p (head a h) (M a h i)]
  exact div_real _ _ (L_pos a h i).ne'

/-- The output before the norm. -/
theorem v51_at (h : Fin 8) (i : Fin 2048) (d : Fin 128) :
    val_main_v51 (F := Ideal) (up a.x0) (up a.x1) (up a.x2) (ix4 0 i h d) = ↑(Spec.o (head a h) i d) := by
  rw [val_main_v51_apply, val_main_v50_apply]
  unfold Spec.o
  rw [← Spec.coe_sum]
  refine Finset.sum_congr rfl fun j _ => ?_
  rw [EReal.coe_mul, ← v1_at, ← v46_at]
  exact congrArg₂ (· * ·) (congrArg _ (ValueIdx.eq_ix4 _)) (congrArg _ (ValueIdx.eq_ix4 _))

end Cert.Values
-- ==== Proof.HostValue.lean ====
module

public import proofs.«01_k».proof.Proof.Gen.KernelIdeal.Frame
public import proofs.«01_k».proof.Proof.RefScores
public import Idealize.ShloMosaic.Lib.StableHlo.Run

/-!
  The arrays the call is launched on, as the host operations before it leave them: queries, keys and the cotangent laid
  out row by row, the softmax's output and the logarithm of its denominators.
-/

@[expose] public section

set_option maxRecDepth 65536

noncomputable section

namespace Cert.KernelIdeal.HostVal

open Cert.KernelIdeal Cert.KernelIdeal.Gen
open Idealize.ShloMosaic hiding ix1 ix2 ix3 ix4
open Idealize.ShloMosaic.TcCoe Idealize.ShloMosaic.ValueIdx Idealize.ShloMosaic.StableHlo
open Idealize.SL.Sem

abbrev Val := Valuation τ sig (Elt Ideal)

def W1 (V : Val) : Val := after hostOps0 V
def W2 (V : Val) : Val := after hostOps0_1 V
def W3 (V : Val) : Val := after hostOps0_2 V
def W4 (V : Val) : Val := after hostOps0_3 V
def W5 (V : Val) : Val := after hostOps0_4 V
def W6 (V : Val) : Val := after hostOps0_5 V
def W7 (V : Val) : Val := after hostOps0_6 V
def W8 (V : Val) : Val := after hostOps0_7 V
def W9 (V : Val) : Val := after hostOps0_8 V
def WA (V : Val) : Val := W9 (W8 (W7 (W6 (W5 (W4 (W3 (W2 (W1 V))))))))

theorem V_eq (m : (ℓ : Loc nD τ sig) → Buf (Elt Ideal) ℓ) (c : Dev nD) (b : Ref sig .tc) :
    V m c b = WA (fun b => m (c, b)) b := rfl

section Reads
variable (U : Val)

abbrev a0 : (⟨S1x2048x8x192, .f32⟩ : BufTy).Contents (Elt Ideal) := U main_arg0
abbrev a1 : (⟨S1x2048x8x256, .f32⟩ : BufTy).Contents (Elt Ideal) := U main_arg1
abbrev a2 : (⟨S1x2048x64, .f32⟩ : BufTy).Contents (Elt Ideal) := U main_arg2
abbrev a3 : (⟨S1024, .f32⟩ : BufTy).Contents (Elt Ideal) := U main_arg3
abbrev a4 : (⟨S1x2048x2048, .f32⟩ : BufTy).Contents (Elt Ideal) := U main_arg4

set_option maxHeartbeats 2000000 in
theorem v49_eq : WA U main_v49 = (shapeCast S1x1024 (a3 U) shapeCasts_S1024_S1x1024 : (⟨S1x1024, .f32⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

set_option maxHeartbeats 4000000 in
theorem v50_eq : WA U main_v50 = (shapeCast S2048x2048 (a4 U) shapeCasts_S1x2048x2048_S2048x2048 : (⟨S2048x2048, .f32⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

/-- The queries, padded with zeros to 256 columns a head. -/
abbrev qPad : FVec Ideal S2048x8x256 .f32 := pad S2048x8x256 ![0, 0, 0] ![0, 0, 64] ![0, 0, 0]
  (shapeCast S2048x8x192 (a0 U) shapeCasts_S1x2048x8x192_S2048x8x192) (sitofp (F := Ideal) .f32 (constantI S_ 32 0#32))
  pads_S2048x8x192_S2048x8x256_000_000_0640 h_S_
/-- The keys' last columns, padded with zeros to 128. -/
abbrev krPad : FVec Ideal S2048x128 .f32 := pad S2048x128 ![0, 0] ![0, 64] ![0, 0]
  (shapeCast S2048x64 (a2 U) shapeCasts_S1x2048x64_S2048x64) (sitofp (F := Ideal) .f32 (constantI S_ 32 0#32))
  pads_S2048x64_S2048x128_000_0640 h_S_

set_option maxHeartbeats 4000000 in
theorem v42_eq : WA U main_v42 = (truncf (F := Ideal) (φ := .f32) .bf16 (shapeCast S2048x2048 (qPad U) shapeCasts_S2048x8x256_S2048x2048) bitsLt_bf16_f32 : (⟨S2048x2048, .bf16⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

set_option maxHeartbeats 4000000 in
theorem v45_eq : WA U main_v45 = (truncf (F := Ideal) (φ := .f32) .bf16 (shapeCast S2048x2048 (shapeCast S2048x8x256 (a1 U) shapeCasts_S1x2048x8x256_S2048x8x256) shapeCasts_S2048x8x256_S2048x2048) bitsLt_bf16_f32 : (⟨S2048x2048, .bf16⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

set_option maxHeartbeats 4000000 in
theorem v46_eq : WA U main_v46 = (truncf (F := Ideal) (φ := .f32) .bf16 (krPad U) bitsLt_bf16_f32 : (⟨S2048x128, .bf16⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

/-- The scaled scores. -/
def hSc : FVec Ideal S1x8x2048x2048 .f32 :=
  mulf (F := Ideal) (addf (F := Ideal) (Cert.ReferenceIdeal.Read.val_main_v9 (F := Ideal) (a0 U) (a1 U))
    (transpose S1x8x2048x2048 [0, 3, 2, 1] (Host.dotGeneral (F := Ideal) (φ₁ := .f32) (φ₂ := .f32) dot_S1x2048x64_S1x2048x8x64_S1x2048x2048x8_2_3_1_12_0_0 none (a2 U)
      (Cert.ReferenceIdeal.Read.val_main_v8 (F := Ideal) (a0 U))) transposes_S1x2048x2048x8_S1x8x2048x2048_0_3_2_1))
    (Cert.ReferenceIdeal.Read.val_main_v12 (F := Ideal))
/-- The masked scores. -/
def hSm : FVec Ideal S1x8x2048x2048 .f32 :=
  select (Cert.ReferenceIdeal.Read.val_main_v21_1 (F := Ideal)) (hSc U) (Cert.ReferenceIdeal.Read.val_main_call1_v2 (F := Ideal))
/-- The rows' maxima. -/
def hMx : FVec Ideal S1x8x2048x1 .f32 :=
  broadcastInDim S1x8x2048x1 ![0, 1, 2] bcast_S1x8x2048_S1x8x2048x1_0_1_2 (Host.reduce (α := Ideal .f32) FloatOps.maximumf (hSm U)
    (constant (F := Ideal) S_ .f32 0xFF800000#32) reducesTo_S1x8x2048x2048_S1x8x2048_d3 h_S_)
/-- The weights before their row's sum divides them. -/
def hE : FVec Ideal S1x8x2048x2048 .f32 :=
  Host.exp (F := Ideal) (subf (F := Ideal) (hSm U) (broadcastInDim S1x8x2048x2048 ![0, 1, 2, 3] bcast_S1x8x2048x1_S1x8x2048x2048_0_1_2_3 (hMx U)))
/-- The rows' sums. -/
def hL : FVec Ideal S1x8x2048x1 .f32 :=
  broadcastInDim S1x8x2048x1 ![0, 1, 2] bcast_S1x8x2048_S1x8x2048x1_0_1_2
    (Host.reduceAdd (F := Ideal) (hE U) (constant (F := Ideal) S_ .f32 0x00000000#32) reducesTo_S1x8x2048x2048_S1x8x2048_d3 h_S_)
/-- The output before the norm. -/
def hO : FVec Ideal S1x2048x8x128 .f32 :=
  transpose S1x2048x8x128 [0, 3, 1, 2] (Host.dotGeneral (F := Ideal) (φ₁ := .f32) (φ₂ := .f32) dot_S1x2048x8x128_S1x8x2048x2048_S1x8x128x2048_1_3_3_2_02_01 none
    (Cert.ReferenceIdeal.Read.val_main_v1 (F := Ideal) (a1 U))
    (Host.divf (F := Ideal) (hE U) (broadcastInDim S1x8x2048x2048 ![0, 1, 2, 3] bcast_S1x8x2048x1_S1x8x2048x2048_0_1_2_3 (hL U))))
    transposes_S1x8x128x2048_S1x2048x8x128_0_3_1_2
/-- The logarithm of the rows' sums before the shift. -/
def hLse : FVec Ideal S1x2048x8 .f32 :=
  transpose S1x2048x8 [0, 2, 1] (shapeCast S1x8x2048 (addf (F := Ideal) (hMx U) (Host.log (F := Ideal) (hL U))) shapeCasts_S1x8x2048x1_S1x8x2048)
    transposes_S1x8x2048_S1x2048x8_0_2_1

set_option maxHeartbeats 4000000 in
theorem v48_eq : WA U main_v48 = (shapeCast S2048x1024 (shapeCast S2048x8x128 (hO U) shapeCasts_S1x2048x8x128_S2048x8x128) shapeCasts_S2048x8x128_S2048x1024 : (⟨S2048x1024, .f32⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

set_option maxHeartbeats 4000000 in
theorem v41_eq : WA U main_v41 = (shapeCast S2048x1024 (broadcastInDim S2048x8x128 ![0, 1, 2] bcast_S2048x8x1_S2048x8x128_0_1_2
    (broadcastInDim S2048x8x1 ![0, 1] bcast_S2048x8_S2048x8x1_0_1 (shapeCast S2048x8 (hLse U) shapeCasts_S1x2048x8_S2048x8)))
    shapeCasts_S2048x8x128_S2048x1024 : (⟨S2048x1024, .f32⟩ : BufTy).Contents (Elt Ideal)) := by
  unfold WA W1 W2 W3 W4 W5 W6 W7 W8 W9
  simp only [hostOps0_1, hostOps0_3, hostOps0_5, hostOps0_7, TRef.binary, TRef.nullary, TRef.unary, TRef.ternary, TRef.toBuf, TRef.ofBuf, cast_eq]
  after_results_simp
  rfl

end Reads

end Cert.KernelIdeal.HostVal
-- ==== Proof.RefGrads.lean ====
module

public import proofs.«01_k».proof.Proof.RefScores
public import Idealize.ShloMosaic.Lib.KernelVsHost

/-!
  The reference's gradients, read at an index from real arguments: back through the norm, the softmax and the scores.
-/

@[expose] public section

noncomputable section

namespace Cert.Values

open Cert.ReferenceIdeal Cert.ReferenceIdeal.Gen Cert.ReferenceIdeal.Read
open Idealize.ShloMosaic hiding ix1 ix2 ix3 ix4
open Idealize.ShloMosaic.TcCoe Idealize.ShloMosaic.ValueIdx

variable (a : Args)

theorem zero32 : (Scalar.ofBits .f32 0x00000000#32 : Ideal .f32) = (0 : EReal) := Cert.KernelIdeal.Hand.zero_bits
theorem one32 : (Scalar.ofBits .f32 0x3F800000#32 : Ideal .f32) = ((1 : ℝ) : EReal) := by
  show Ideal.ofBits .f32 0x3F800000#32 = _
  simp [Ideal.ofBits, Ideal.ieee, -EReal.coe_mul]; norm_num
theorem mhalf32 : (Scalar.ofBits .f32 0xBF000000#32 : Ideal .f32) = ((-1 / 2 : ℝ) : EReal) := by
  show Ideal.ofBits .f32 0xBF000000#32 = _
  simp [Ideal.ofBits, Ideal.ieee, -EReal.coe_mul]; norm_num

/-- A sum over axes of size one is the one element it ranges over. -/
theorem sum_unit {s t : Shape} {axes : List (Fin s.rank)} (h : s.ReducesTo axes t) (x : s.Idx → EReal) (init : EReal)
    (j : t.Idx) (k : s.Idx) (hk : h.drop k = j) (hu : ∀ i, h.drop i = j → i = k) : Ideal.hostReduceAdd h x init j = init + x k := by
  unfold Ideal.hostReduceAdd
  have e : (Finset.univ.filter fun i => h.drop i = j) = {k} := by
    ext i; simp only [Finset.mem_filter, Finset.mem_univ, true_and, Finset.mem_singleton]
    exact ⟨hu i, fun e => e ▸ hk⟩
  rw [e, Finset.sum_singleton]

/-! The norm. -/

theorem v53_at (h : Fin 8) (i : Fin 2048) : val_main_v53 (F := Ideal) (up a.x0) (up a.x1) (up a.x2) (ix3 0 i h)
    = ↑(∑ d, Spec.o (head a h) i d * Spec.o (head a h) i d) := by
  rw [val_main_v53_apply, show val_main_cst_11 (F := Ideal) (Shape.Idx.first h_S_) = (0 : EReal) from zero32, zero_add, ← Spec.coe_sum]
  refine Finset.sum_congr rfl fun d _ => ?_
  rw [val_main_v52_apply, show idx_main_v53 (ix3 0 i h) d = ix4 0 i h d from ValueIdx.eq_ix4 _, v51_at, EReal.coe_mul]
  rfl

theorem v58_at (h : Fin 8) (i : Fin 2048) : val_main_v58 (F := Ideal) (up a.x0) (up a.x1) (up a.x2) (ix4 0 i h 0)
    = ↑(Spec.den (head a h) i) := by
  rw [val_main_v58_apply, val_main_v56_apply, val_main_v54_apply, val_main_v55_apply, val_main_v57_apply,
    show idx_main_v54 (ix4 0 i h 0) = ix3 0 i h from ValueIdx.eq_ix3 _, v53_at]
  show Ideal.div _ (Ideal.ofBits .f32 0x43000000#32) + Ideal.ofBits .f32 0x358637BD#32 = _
  rw [show Ideal.ofBits .f32 0x43000000#32 = _ from Cert.KernelIdeal.Hand.n128_bits,
    show Ideal.ofBits .f32 0x358637BD#32 = _ from Cert.KernelIdeal.Hand.eps_bits, div_real _ _ (by norm_num), ← EReal.coe_add]
  rfl

theorem v59_at (h : Fin 8) (i : Fin 2048) : val_main_v59 (F := Ideal) (up a.x0) (up a.x1) (up a.x2) (ix4 0 i h 0)
    = ↑(Spec.r (head a h) i) := by
  rw [val_main_v59_apply, v58_at]
  refine (show _ = Ideal.rsqrt (↑(Spec.den (head a h) i) : EReal) from rfl).trans ?_
  rw [Ideal.rsqrt_coe, if_neg (not_lt.mpr (Spec.den_pos _ _).le), if_neg (Spec.den_pos _ _).ne']
  unfold Spec.r
  first | rfl | rw [one_div]

theorem v62_at (h : Fin 8) (i : Fin 2048) : val_main_v62 (F := Ideal) (up a.x0) (up a.x1) (up a.x2) (ix4 0 i h 0)
    = ↑((-1 / 2 : ℝ) * (Spec.r (head a h) i / Spec.den (head a h) i)) := by
  rw [val_main_v62_apply, val_main_v60_apply, val_main_v61_apply, v59_at, v58_at]
  show Ideal.ofBits .f32 0xBF000000#32 * Ideal.div _ _ = _
  rw [show Ideal.ofBits .f32 0xBF000000#32 = _ from mhalf32, div_real _ _ (Spec.den_pos _ _).ne', ← EReal.coe_mul]

theorem v64_at (h : Fin 8) (i : Fin 2048) (d : Fin 128) : val_main_v64 (F := Ideal) (up a.x0) (up a.x1) (up a.x2) (ix4 0 i h d)
    = ↑(Spec.xn (head a h) i d) := by
  rw [val_main_v64_apply, val_main_v63_apply, show idx_main_v63 (ix4 0 i h d) = ix4 0 i h 0 from ValueIdx.eq_ix4 _, v51_at, v59_at]
  exact (EReal.coe_mul _ _).symm

theorem v6_at (h : Fin 8) (i : Fin 2048) (d : Fin 128) : val_main_v6 (F := Ideal) (up a.x4) (ix4 0 i h d) = ↑((head a h).c i d) := by
  rw [val_main_v6_apply, val_main_v5_apply]
  refine congrArg (up a.x4) (funext fun b => Fin.ext ?_)
  match b with
  | ⟨0, _⟩ => rfl
  | ⟨1, _⟩ =>
    show (((0 * 2048 + i.val) * 8 + h.val) * 128 + d.val) / 1024 % 2048 = i.val
    omega
  | ⟨2, _⟩ =>
    show 1024 + (((0 * 2048 + i.val) * 8 + h.val) * 128 + d.val) % 1024 = 1024 + (128 * h.val + d.val)
    omega

theorem v65_at (h : Fin 8) (d : Fin 128) : val_main_v65 (F := Ideal) (up a.x3) (ix4 0 0 h d) = ↑((head a h).g d) := by
  rw [val_main_v65_apply, val_main_v4_apply]
  refine congrArg (up a.x3) (funext fun b => Fin.ext ?_)
  match b with
  | ⟨0, _⟩ =>
    show (0 * 8 + h.val) * 128 + d.val = 128 * h.val + d.val
    omega

theorem v72_at (h : Fin 8) (i : Fin 2048) (d : Fin 128) : val_main_v72 (F := Ideal) (up a.x3) (up a.x4) (ix4 0 i h d)
    = ↑(Spec.u (head a h) i d) := by
  rw [val_main_v72_apply, val_main_v71_apply, show idx_main_v71 (ix4 0 i h d) = ix4 0 0 h d from ValueIdx.eq_ix4 _, v6_at, v65_at]
  exact (EReal.coe_mul _ _).symm

/-- The gains' gradient. -/
theorem v69_at (h : Fin 8) (d : Fin 128) : val_main_v69 (F := Ideal) (up a.x0) (up a.x1) (up a.x2) (up a.x4) (ix3 0 h d)
    = ↑(Spec.dg (head a h) d) := by
  rw [val_main_v69_apply, show val_main_cst_15 (F := Ideal) (Shape.Idx.first h_S_) = (0 : EReal) from zero32, zero_add]
  unfold Spec.dg
  rw [← Spec.coe_sum]
  refine Finset.sum_congr rfl fun i _ => ?_
  rw [val_main_v68_apply, show idx_main_v69 (ix3 0 h d) i = ix4 0 i h d from ValueIdx.eq_ix4 _, v64_at, v6_at, mul_comm ((head a h).c i d)]
  exact (EReal.coe_mul _ _).symm

theorem v74_at (h : Fin 8) (d : Fin 128) : val_main_v74 (F := Ideal) (up a.x0) (up a.x1) (up a.x2) (up a.x4) (ix3 0 h d)
    = ↑(Spec.dg (head a h) d) := by
  rw [val_main_v74_apply, show idx_main_v74 (ix3 0 h d) = ix2 h d from ValueIdx.eq_ix2 _]
  unfold val_main_v73
  simp only [Host.reduceAdd, Ideal.hostReduceAdd_def]
  refine (sum_unit _ _ _ _ (ix4 0 0 h d) (ValueIdx.eq_ix2 _) fun k hk => ?_).trans ?_
  · have e0 := congrFun hk 0
    have e1 := congrFun hk 1
    refine funext fun b => Fin.ext ?_
    match b with
    | ⟨0, _⟩ => exact Nat.lt_one_iff.mp (k 0).isLt
    | ⟨1, _⟩ => exact Nat.lt_one_iff.mp (k 1).isLt
    | ⟨2, _⟩ => exact congrArg Fin.val e0
    | ⟨3, _⟩ => exact congrArg Fin.val e1
  · rw [show val_main_cst_16 (F := Ideal) (Shape.Idx.first h_S_) = (0 : EReal) from zero32, zero_add, val_main_v70_apply, ← v69_at]
    refine congrArg _ (funext fun b => Fin.ext ?_)
    match b with
    | ⟨0, _⟩ => rfl
    | ⟨1, _⟩ => show (((0 * 1 + 0) * 8 + h.val) * 128 + d.val) / 128 % 8 = h.val; omega
    | ⟨2, _⟩ => show (((0 * 1 + 0) * 8 + h.val) * 128 + d.val) % 128 = d.val; omega

/-- What the norm's denominator hands back to each of its 128 terms, halved. -/
def Z (h : Fin 8) (i : Fin 2048) : ℝ :=
  (∑ d, Spec.o (head a h) i d * Spec.u (head a h) i d) * ((-1 / 2) * (Spec.r (head a h) i / Spec.den (head a h) i)) / 128

theorem v82_at (h : Fin 8) (i : Fin 2048) :
    val_main_v82 (F := Ideal) (up a.x0) (up a.x1) (up a.x2) (up a.x3) (up a.x4) (ix4 0 i h 0) = ↑(Z a h i) := by
  have e76 : val_main_v76 (F := Ideal) (up a.x0) (up a.x1) (up a.x2) (up a.x3) (up a.x4) (ix3 0 i h)
      = ↑(∑ d, Spec.o (head a h) i d * Spec.u (head a h) i d) := by
    rw [val_main_v76_apply, show val_main_cst_17 (F := Ideal) (Shape.Idx.first h_S_) = (0 : EReal) from zero32, zero_add, ← Spec.coe_sum]
    refine Finset.sum_congr rfl fun d _ => ?_
    rw [val_main_v75_apply, show idx_main_v76 (ix3 0 i h) d = ix4 0 i h d from ValueIdx.eq_ix4 _, v51_at, v72_at]
    exact (EReal.coe_mul _ _).symm
  rw [val_main_v82_apply, val_main_v80_apply, val_main_v77_apply, val_main_v81_apply, v62_at,
    show idx_main_v77 (ix4 0 i h 0) = ix3 0 i h from funext fun b => Fin.ext (by
      match b with
      | ⟨0, _⟩ => rfl
      | ⟨1, _⟩ => show (((0 * 2048 + i.val) * 8 + h.val) * 1 + 0) / 8 % 2048 = i.val; omega
      | ⟨2, _⟩ => show (((0 * 2048 + i.val) * 8 + h.val) * 1 + 0) % 8 = h.val; omega), e76]
  show Ideal.div (_ * _) (Ideal.ofBits .f32 0x43000000#32) = _
  rw [show Ideal.ofBits .f32 0x43000000#32 = _ from Cert.KernelIdeal.Hand.n128_bits, ← EReal.coe_mul, div_real _ _ (by norm_num)]
  rfl

theorem v85_at (h : Fin 8) (i : Fin 2048) (d : Fin 128) :
    val_main_v85 (F := Ideal) (up a.x0) (up a.x1) (up a.x2) (up a.x3) (up a.x4) (ix4 0 i h d) = ↑(Z a h i) := by
  rw [val_main_v85_apply, show idx_main_v85 (ix4 0 i h d) = ix3 0 i h from ValueIdx.eq_ix3 _, val_main_v84_apply,
    show idx_main_v84 (ix3 0 i h) = ix2 i h from ValueIdx.eq_ix2 _]
  unfold val_main_v83
  simp only [Host.reduceAdd, Ideal.hostReduceAdd_def]
  refine (sum_unit _ _ _ _ (ix4 0 i h 0) (ValueIdx.eq_ix2 _) fun k hk => ?_).trans ?_
  · have e0 := congrFun hk 0
    have e1 := congrFun hk 1
    refine funext fun b => Fin.ext ?_
    match b with
    | ⟨0, _⟩ => exact Nat.lt_one_iff.mp (k 0).isLt
    | ⟨1, _⟩ => exact congrArg Fin.val e0
    | ⟨2, _⟩ => exact congrArg Fin.val e1
    | ⟨3, _⟩ => exact Nat.lt_one_iff.mp (k 3).isLt
  · rw [show val_main_cst_19 (F := Ideal) (Shape.Idx.first h_S_) = (0 : EReal) from zero32, zero_add, v82_at]

/-- The gradient at the output before the norm. -/
theorem v89_at (h : Fin 8) (i : Fin 2048) (d : Fin 128) :
    val_main_v89 (F := Ideal) (up a.x0) (up a.x1) (up a.x2) (up a.x3) (up a.x4) (ix4 0 i h d) = ↑(Spec.dO (head a h) i d) := by
  rw [val_main_v89_apply, val_main_v87_apply, val_main_v79_apply, val_main_v86_apply, val_main_v88_apply, val_main_v78_apply,
    show idx_main_v78 (ix4 0 i h d) = ix4 0 i h 0 from ValueIdx.eq_ix4 _, v59_at, v72_at, v85_at, v51_at]
  show (_ * _ + _ * _) + _ * _ = _
  rw [← EReal.coe_mul, ← EReal.coe_mul, ← EReal.coe_mul, ← EReal.coe_add, ← EReal.coe_add]
  refine congrArg _ ?_
  have hr : Spec.r (head a h) i / Spec.den (head a h) i = Spec.r (head a h) i * (Spec.r (head a h) i * Spec.r (head a h) i) := by
    unfold Spec.r
    rw [← mul_inv, Real.mul_self_sqrt (Spec.den_pos _ _).le, div_eq_mul_inv]
  have hs : ∑ d', Spec.xn (head a h) i d' * Spec.u (head a h) i d'
      = Spec.r (head a h) i * ∑ d', Spec.o (head a h) i d' * Spec.u (head a h) i d' := by
    rw [Finset.mul_sum]; exact Finset.sum_congr rfl fun d' _ => by unfold Spec.xn; ring
  unfold Z Spec.dO
  rw [hr, hs]
  unfold Spec.xn
  ring

/-! The softmax and the scores. -/

theorem v90_at (h : Fin 8) (i : Fin 2048) (d : Fin 128) :
    val_main_v90 (F := Ideal) (up a.x0) (up a.x1) (up a.x2) (up a.x3) (up a.x4) (ix4 0 h d i) = ↑(Spec.dO (head a h) i d) := by
  rw [val_main_v90_apply, ← v89_at]; exact congrArg _ (ValueIdx.eq_ix4 _)

theorem v91_at (h : Fin 8) (i j : Fin 2048) :
    val_main_v91 (F := Ideal) (up a.x0) (up a.x1) (up a.x2) (up a.x3) (up a.x4) (ix4 0 h i j) = ↑(Spec.dp (head a h) i j) := by
  rw [val_main_v91_apply]
  unfold Spec.dp
  rw [← Spec.coe_sum]
  refine Finset.sum_congr rfl fun d _ => ?_
  rw [EReal.coe_mul, ← v90_at, ← v1_at]
  exact congrArg₂ (· * ·) (congrArg _ (ValueIdx.eq_ix4 _)) (congrArg _ (ValueIdx.eq_ix4 _))

/-- The values' gradient. -/
theorem v93_at (h : Fin 8) (j : Fin 2048) (d : Fin 128) :
    val_main_v93 (F := Ideal) (up a.x0) (up a.x1) (up a.x2) (up a.x3) (up a.x4) (ix4 0 j h d) = ↑(Spec.dv (head a h) j d) := by
  rw [val_main_v93_apply, show idx_main_v93 (ix4 0 j h d) = ix4 0 h d j from ValueIdx.eq_ix4 _, val_main_v92_apply]
  unfold Spec.dv
  rw [← Spec.coe_sum]
  refine Finset.sum_congr rfl fun i _ => ?_
  rw [mul_comm (Spec.p _ _ _), EReal.coe_mul, ← v90_at, ← v46_at]
  exact congrArg₂ (· * ·) (congrArg _ (ValueIdx.eq_ix4 _)) (congrArg _ (ValueIdx.eq_ix4 _))

theorem delta_eq (H : Spec.Head) (i : Fin 2048) : Spec.delta H i = ∑ j, Spec.dp H i j * Spec.p H i j := by
  unfold Spec.delta Spec.dp Spec.o
  simp only [Finset.mul_sum, Finset.sum_mul]
  rw [Finset.sum_comm]
  exact Finset.sum_congr rfl fun j _ => Finset.sum_congr rfl fun d _ => by ring

/-- The sum a row's weights hand back to their divisor. -/
def Y (h : Fin 8) (i : Fin 2048) : ℝ := ∑ j, Spec.dp (head a h) i j * (1 / (L a h i * L a h i)) * E a h i j

theorem p_EL (h : Fin 8) (i j : Fin 2048) : Spec.p (head a h) i j = E a h i j / L a h i := (Spec.shift_p (head a h) (M a h i) i j).symm

theorem v97_at (h : Fin 8) (i : Fin 2048) :
    val_main_v97 (F := Ideal) (up a.x0) (up a.x1) (up a.x2) (up a.x3) (up a.x4) (ix3 0 h i) = ↑(Y a h i) := by
  rw [val_main_v97_apply, show val_main_cst_20 (F := Ideal) (Shape.Idx.first h_S_) = (0 : EReal) from zero32, zero_add]
  unfold Y
  rw [← Spec.coe_sum]
  refine Finset.sum_congr rfl fun j _ => ?_
  rw [show idx_main_v97 (ix3 0 h i) j = ix4 0 h i j from ValueIdx.eq_ix4 _, val_main_v96_apply, val_main_v95_apply, v91_at, v42_at,
    val_main_v94_apply, show idx_main_v94 (ix4 0 h i j) = ix4 0 h i 0 from ValueIdx.eq_ix4 _, val_main_v49_apply, val_main_v47_apply,
    val_main_v48_apply, v44_at]
  show _ * Ideal.div (Ideal.ofBits .f32 0x3F800000#32) (_ * _) * _ = _
  rw [show Ideal.ofBits .f32 0x3F800000#32 = _ from one32, ← EReal.coe_mul, div_real _ _ (mul_pos (L_pos a h i) (L_pos a h i)).ne',
    ← EReal.coe_mul, ← EReal.coe_mul]

theorem v104_at (h : Fin 8) (i j : Fin 2048) :
    val_main_v104 (F := Ideal) (up a.x0) (up a.x1) (up a.x2) (up a.x3) (up a.x4) (ix4 0 h i j) = ↑(-Y a h i) := by
  rw [val_main_v104_apply, show idx_main_v104 (ix4 0 h i j) = ix3 0 h i from ValueIdx.eq_ix3 _, val_main_v103_apply,
    show idx_main_v103 (ix3 0 h i) = ix2 h i from ValueIdx.eq_ix2 _]
  unfold val_main_v102
  simp only [Host.reduceAdd, Ideal.hostReduceAdd_def]
  refine (sum_unit _ _ _ _ (ix4 0 h i 0) (ValueIdx.eq_ix2 _) fun k hk => ?_).trans ?_
  · have e0 := congrFun hk 0
    have e1 := congrFun hk 1
    refine funext fun b => Fin.ext ?_
    match b with
    | ⟨0, _⟩ => exact Nat.lt_one_iff.mp (k 0).isLt
    | ⟨1, _⟩ => exact congrArg Fin.val e0
    | ⟨2, _⟩ => exact congrArg Fin.val e1
    | ⟨3, _⟩ => exact Nat.lt_one_iff.mp (k 3).isLt
  · rw [show val_main_cst_21 (F := Ideal) (Shape.Idx.first h_S_) = (0 : EReal) from zero32, zero_add, val_main_v99_apply, val_main_v98_apply,
      show idx_main_v98 (ix4 0 h i 0) = ix3 0 h i from funext fun b => Fin.ext (by
        match b with
        | ⟨0, _⟩ => rfl
        | ⟨1, _⟩ => show (((0 * 8 + h.val) * 2048 + i.val) * 1 + 0) / 2048 % 8 = h.val; omega
        | ⟨2, _⟩ => show (((0 * 8 + h.val) * 2048 + i.val) * 1 + 0) % 2048 = i.val; omega), v97_at]
    exact (EReal.coe_neg _).symm

/-- The scores' gradient, scaled. -/
theorem v109_at (h : Fin 8) (i j : Fin 2048) :
    val_main_v109 (F := Ideal) (up a.x0) (up a.x1) (up a.x2) (up a.x3) (up a.x4) (ix4 0 h i j) = ↑(Spec.ds (head a h) i j) := by
  have e106 : val_main_v106 (F := Ideal) (up a.x0) (up a.x1) (up a.x2) (up a.x3) (up a.x4) (ix4 0 h i j)
      = ↑((Spec.dp (head a h) i j / L a h i + -Y a h i) * E a h i j) := by
    rw [val_main_v106_apply, val_main_v105_apply, val_main_v101_apply, v91_at, v104_at, v42_at, val_main_v100_apply,
      show idx_main_v100 (ix4 0 h i j) = ix4 0 h i 0 from ValueIdx.eq_ix4 _, v44_at]
    show (Ideal.div _ _ + _) * _ = _
    rw [div_real _ _ (L_pos a h i).ne', ← EReal.coe_add, ← EReal.coe_mul]
  rw [val_main_v109_apply, val_main_v107_apply, val_main_v108_apply, v21_1_at, e106, val_main_call2_v0_apply]
  by_cases hv : Spec.Vis i j
  · rw [if_pos hv, select_one]
    show _ * Ideal.ofBits .f32 0x3D93CD3A#32 = _
    rw [show Ideal.ofBits .f32 0x3D93CD3A#32 = _ from Cert.KernelIdeal.Hand.scl_bits, ← EReal.coe_mul]
    refine congrArg _ ?_
    unfold Spec.ds
    rw [delta_eq]
    simp only [p_EL]
    have hL := (L_pos a h i).ne'
    have hY : Y a h i = (∑ j, Spec.dp (head a h) i j * (E a h i j / L a h i)) / L a h i := by
      unfold Y; rw [Finset.sum_div]
      exact Finset.sum_congr rfl fun j _ => by field_simp
    rw [hY]
    field_simp
    ring
  · rw [if_neg hv, select_zero, Spec.ds_zero _ _ _ hv]
    show Ideal.ofBits .f32 0x00000000#32 * Ideal.ofBits .f32 0x3D93CD3A#32 = _
    rw [show Ideal.ofBits .f32 0x00000000#32 = _ from zero32, zero_mul]
    rfl

theorem v111_at (h : Fin 8) (j : Fin 2048) (d : Fin 64) :
    val_main_v111 (F := Ideal) (up a.x0) (up a.x1) (up a.x2) (up a.x3) (up a.x4) (ix4 0 j h d) = ↑(Spec.dk (head a h) j (c1 d)) := by
  rw [val_main_v111_apply, show idx_main_v111 (ix4 0 j h d) = ix4 0 h j d from ValueIdx.eq_ix4 _, val_main_v110_apply]
  unfold Spec.dk
  rw [← Spec.coe_sum]
  refine Finset.sum_congr rfl fun i _ => ?_
  rw [EReal.coe_mul, ← v109_at, ← v8_at]
  exact congrArg₂ (· * ·) (congrArg _ (ValueIdx.eq_ix4 _)) (congrArg _ (ValueIdx.eq_ix4 _))

theorem v113_at (h : Fin 8) (i : Fin 2048) (d : Fin 64) :
    val_main_v113 (F := Ideal) (up a.x0) (up a.x1) (up a.x2) (up a.x3) (up a.x4) (ix4 0 i h d) = ↑(Spec.dq (head a h) i (c1 d)) := by
  rw [val_main_v113_apply, show idx_main_v113 (ix4 0 i h d) = ix4 0 h i d from ValueIdx.eq_ix4 _, val_main_v112_apply]
  unfold Spec.dq
  rw [← Spec.coe_sum]
  refine Finset.sum_congr rfl fun j _ => ?_
  rw [EReal.coe_mul, ← v109_at, ← v3_at]
  exact congrArg₂ (· * ·) (congrArg _ (ValueIdx.eq_ix4 _)) (congrArg _ (ValueIdx.eq_ix4 _))

theorem v115_at (h : Fin 8) (j : Fin 2048) (d : Fin 128) :
    val_main_v115 (F := Ideal) (up a.x0) (up a.x1) (up a.x2) (up a.x3) (up a.x4) (ix4 0 j h d) = ↑(Spec.dk (head a h) j (c0 d)) := by
  rw [val_main_v115_apply, show idx_main_v115 (ix4 0 j h d) = ix4 0 h j d from ValueIdx.eq_ix4 _, val_main_v114_apply]
  unfold Spec.dk
  rw [← Spec.coe_sum]
  refine Finset.sum_congr rfl fun i _ => ?_
  rw [EReal.coe_mul, ← v109_at, ← v7_at]
  exact congrArg₂ (· * ·) (congrArg _ (ValueIdx.eq_ix4 _)) (congrArg _ (ValueIdx.eq_ix4 _))

theorem v117_at (h : Fin 8) (i : Fin 2048) (d : Fin 128) :
    val_main_v117 (F := Ideal) (up a.x0) (up a.x1) (up a.x2) (up a.x3) (up a.x4) (ix4 0 i h d) = ↑(Spec.dq (head a h) i (c0 d)) := by
  rw [val_main_v117_apply, show idx_main_v117 (ix4 0 i h d) = ix4 0 h i d from ValueIdx.eq_ix4 _, val_main_v116_apply]
  unfold Spec.dq
  rw [← Spec.coe_sum]
  refine Finset.sum_congr rfl fun j _ => ?_
  rw [EReal.coe_mul, ← v109_at, ← v0_at]
  exact congrArg₂ (· * ·) (congrArg _ (ValueIdx.eq_ix4 _)) (congrArg _ (ValueIdx.eq_ix4 _))

end Cert.Values
-- ==== Proof.RefOuts.lean ====
module

public import proofs.«01_k».proof.Proof.RefGrads

/-!
  The reference's four results, read at an index from real arguments.
-/

@[expose] public section

noncomputable section

namespace Cert.Values

open Cert.ReferenceIdeal Cert.ReferenceIdeal.Gen Cert.ReferenceIdeal.Read
open Idealize.ShloMosaic hiding ix1 ix2 ix3 ix4
open Idealize.ShloMosaic.TcCoe Idealize.ShloMosaic.ValueIdx

variable (a : Args)

/-- Column `d` of head `h` among the columns of eight heads of 256. -/
abbrev colK (h : Fin 8) (d : Fin 256) : Fin 2048 := ⟨256 * h.val + d.val, by omega⟩
/-- Column `d` of head `h` among the columns of eight heads of 128. -/
abbrev colV (h : Fin 8) (d : Fin 128) : Fin 1024 := ⟨128 * h.val + d.val, by omega⟩

theorem v121_at (i : Fin 2048) (h : Fin 8) (d : Fin 64) : val_main_v121 (F := Ideal) (ix4 0 i h d) = (0 : EReal) := by
  rw [val_main_v121_apply]; exact zero32

theorem v118_lo (h : Fin 8) (i : Fin 2048) (d : Fin 192) (hd : d.val < 128) :
    val_main_v118 (F := Ideal) (up a.x0) (up a.x1) (up a.x2) (up a.x3) (up a.x4) (ix4 0 i h d) = (0 : EReal) := by
  unfold val_main_v118
  refine (pad_apply_of_not_inside _ _ _ _ _ _ _ _ 3 ?_).trans zero32
  intro hc
  have h1 : 128 ≤ d.val := hc.1
  omega

theorem v118_hi (h : Fin 8) (i : Fin 2048) (d : Fin 64) :
    val_main_v118 (F := Ideal) (up a.x0) (up a.x1) (up a.x2) (up a.x3) (up a.x4) (ix4 0 i h ⟨128 + d.val, by omega⟩)
      = ↑(Spec.dq (head a h) i (c1 d)) := by
  unfold val_main_v118
  refine (pad_apply_of_inside _ _ _ _ _ _ _ _ (ix4 0 i h d) ?_).trans (v113_at a h i d)
  intro b
  match b with
  | ⟨0, _⟩ => show 0 = 0 + 0 * 1; rfl
  | ⟨1, _⟩ => show i.val = 0 + i.val * 1; omega
  | ⟨2, _⟩ => show h.val = 0 + h.val * 1; omega
  | ⟨3, _⟩ => show 128 + d.val = 128 + d.val * 1; omega

theorem v119_lo (h : Fin 8) (i : Fin 2048) (d : Fin 128) :
    val_main_v119 (F := Ideal) (up a.x0) (up a.x1) (up a.x2) (up a.x3) (up a.x4) (ix4 0 i h ⟨d.val, by omega⟩)
      = ↑(Spec.dq (head a h) i (c0 d)) := by
  unfold val_main_v119
  refine (pad_apply_of_inside _ _ _ _ _ _ _ _ (ix4 0 i h d) ?_).trans (v117_at a h i d)
  intro b
  match b with
  | ⟨0, _⟩ => show 0 = 0 + 0 * 1; rfl
  | ⟨1, _⟩ => show i.val = 0 + i.val * 1; omega
  | ⟨2, _⟩ => show h.val = 0 + h.val * 1; omega
  | ⟨3, _⟩ => show d.val = 0 + d.val * 1; omega

theorem v119_hi (h : Fin 8) (i : Fin 2048) (d : Fin 192) (hd : 128 ≤ d.val) :
    val_main_v119 (F := Ideal) (up a.x0) (up a.x1) (up a.x2) (up a.x3) (up a.x4) (ix4 0 i h d) = (0 : EReal) := by
  unfold val_main_v119
  refine (pad_apply_of_not_inside _ _ _ _ _ _ _ _ 3 ?_).trans zero32
  intro hc
  have h1 : (d.val - 0) / 1 < 128 := hc.2.2
  omega

/-- The three parts of a head's 256 columns. -/
theorem cols_cases (d : Fin 256) : (∃ x : Fin 128, d = c0 x) ∨ (∃ x : Fin 64, d = c1 x) ∨ ∃ x : Fin 64, d = ⟨192 + x.val, by omega⟩ := by
  rcases Nat.lt_or_ge d.val 128 with h | h
  · exact Or.inl ⟨⟨d.val, h⟩, rfl⟩
  · rcases Nat.lt_or_ge d.val 192 with h' | h'
    · exact Or.inr (Or.inl ⟨⟨d.val - 128, by omega⟩, Fin.ext (by show d.val = 128 + (d.val - 128); omega)⟩)
    · exact Or.inr (Or.inr ⟨⟨d.val - 192, by omega⟩, Fin.ext (by show d.val = 192 + (d.val - 192); omega)⟩)

theorem v122_at (h : Fin 8) (i : Fin 2048) (d : Fin 256) :
    val_main_v122 (F := Ideal) (up a.x0) (up a.x1) (up a.x2) (up a.x3) (up a.x4) (ix4 0 i h d) = ↑(Spec.dq (head a h) i d) := by
  unfold val_main_v122
  rcases cols_cases d with ⟨x, rfl⟩ | ⟨x, rfl⟩ | ⟨x, rfl⟩
  · refine (concatenate_pair_apply_left (t := S1x2048x8x256) (s₁ := S1x2048x8x192) (s₂ := S1x2048x8x64) 3 _ _
      concatenates_S1x2048x8x192_S1x2048x8x64_S1x2048x8x256_d3 _ rfl (ix4 0 i h (⟨x.val, by omega⟩ : Fin 192)) ?_).trans ?_
    · intro b
      match b with
      | ⟨0, _⟩ => rfl
      | ⟨1, _⟩ => rfl
      | ⟨2, _⟩ => rfl
      | ⟨3, _⟩ => rfl
    · rw [val_main_v120_apply, v118_lo a h i ⟨x.val, by omega⟩ x.isLt, v119_lo]
      exact zero_add _
  · refine (concatenate_pair_apply_left (t := S1x2048x8x256) (s₁ := S1x2048x8x192) (s₂ := S1x2048x8x64) 3 _ _
      concatenates_S1x2048x8x192_S1x2048x8x64_S1x2048x8x256_d3 _ rfl (ix4 0 i h (⟨128 + x.val, by omega⟩ : Fin 192)) ?_).trans ?_
    · intro b
      match b with
      | ⟨0, _⟩ => rfl
      | ⟨1, _⟩ => rfl
      | ⟨2, _⟩ => rfl
      | ⟨3, _⟩ => rfl
    · rw [val_main_v120_apply, v118_hi, v119_hi a h i ⟨128 + x.val, by omega⟩ (Nat.le_add_right _ _)]
      exact add_zero _
  · refine (concatenate_pair_apply_right (t := S1x2048x8x256) (s₁ := S1x2048x8x192) (s₂ := S1x2048x8x64) 3 _ _
      concatenates_S1x2048x8x192_S1x2048x8x64_S1x2048x8x256_d3 _ rfl rfl (ix4 0 i h x) ?_ ?_).trans ((v121_at i h x).trans ?_)
    · intro b hb
      match b with
      | ⟨0, _⟩ => rfl
      | ⟨1, _⟩ => rfl
      | ⟨2, _⟩ => rfl
      | ⟨3, _⟩ => exact absurd rfl hb
    · show x.val + 192 = 192 + x.val; omega
    · unfold Spec.dq
      rw [Finset.sum_eq_zero fun j _ => by rw [head_k2 a h j _ (Nat.le_add_right _ _), mul_zero]]
      rfl

/-- The queries' gradient. -/
theorem v123_at (h : Fin 8) (i : Fin 2048) (d : Fin 256) :
    val_main_v123 (F := Ideal) (up a.x0) (up a.x1) (up a.x2) (up a.x3) (up a.x4) (ix2 i (colK h d)) = ↑(Spec.dq (head a h) i d) := by
  rw [val_main_v123_apply, ← v122_at]
  refine congrArg _ (funext fun b => Fin.ext ?_)
  match b with
  | ⟨0, _⟩ => rfl
  | ⟨1, _⟩ => show (i.val * 2048 + (256 * h.val + d.val)) / 2048 % 2048 = i.val; omega
  | ⟨2, _⟩ => show (i.val * 2048 + (256 * h.val + d.val)) / 256 % 8 = h.val; omega
  | ⟨3, _⟩ => show (i.val * 2048 + (256 * h.val + d.val)) % 256 = d.val; omega

/-- The three parts of a key's gradient. -/
abbrev parts : List ((s : Shape) × (s.Idx → EReal)) :=
  [⟨S1x2048x8x128, val_main_v115 (F := Ideal) (up a.x0) (up a.x1) (up a.x2) (up a.x3) (up a.x4)⟩,
    ⟨S1x2048x8x64, val_main_v111 (F := Ideal) (up a.x0) (up a.x1) (up a.x2) (up a.x3) (up a.x4)⟩, ⟨S1x2048x8x64, val_main_v121 (F := Ideal)⟩]

theorem v124_at (h : Fin 8) (j : Fin 2048) (d : Fin 256) :
    val_main_v124 (F := Ideal) (up a.x0) (up a.x1) (up a.x2) (up a.x3) (up a.x4) (ix4 0 j h d) = ↑(Spec.dk (head a h) j d) := by
  unfold val_main_v124
  rcases cols_cases d with ⟨x, rfl⟩ | ⟨x, rfl⟩ | ⟨x, rfl⟩
  · refine (concatenate_apply_piece (t := S1x2048x8x256) 3 (parts a)
      concatenates_S1x2048x8x128_S1x2048x8x64_S1x2048x8x64_S1x2048x8x256_d3 _ 0 (show 0 < 3 by decide) S1x2048x8x128 _ rfl rfl 0 rfl (ix4 0 j h x) ?_ ?_).trans (v115_at a h j x)
    · intro b hb
      match b with
      | ⟨0, _⟩ => rfl
      | ⟨1, _⟩ => rfl
      | ⟨2, _⟩ => rfl
      | ⟨3, _⟩ => exact absurd rfl hb
    · show 0 + x.val = x.val; omega
  · refine (concatenate_apply_piece (t := S1x2048x8x256) 3 (parts a)
      concatenates_S1x2048x8x128_S1x2048x8x64_S1x2048x8x64_S1x2048x8x256_d3 _ 1 (show 1 < 3 by decide) S1x2048x8x64 _ rfl rfl 128 rfl (ix4 0 j h x) ?_ ?_).trans (v111_at a h j x)
    · intro b hb
      match b with
      | ⟨0, _⟩ => rfl
      | ⟨1, _⟩ => rfl
      | ⟨2, _⟩ => rfl
      | ⟨3, _⟩ => exact absurd rfl hb
    · rfl
  · refine (concatenate_apply_piece (t := S1x2048x8x256) 3 (parts a)
      concatenates_S1x2048x8x128_S1x2048x8x64_S1x2048x8x64_S1x2048x8x256_d3 _ 2 (show 2 < 3 by decide) S1x2048x8x64 _ rfl rfl 192 rfl (ix4 0 j h x) ?_ ?_).trans ((v121_at j h x).trans ?_)
    · intro b hb
      match b with
      | ⟨0, _⟩ => rfl
      | ⟨1, _⟩ => rfl
      | ⟨2, _⟩ => rfl
      | ⟨3, _⟩ => exact absurd rfl hb
    · rfl
    · unfold Spec.dk
      rw [Finset.sum_eq_zero fun i _ => by rw [head_q2 a h i _ (Nat.le_add_right _ _), mul_zero]]
      rfl

/-- The keys' gradient. -/
theorem v125_at (h : Fin 8) (j : Fin 2048) (d : Fin 256) :
    val_main_v125 (F := Ideal) (up a.x0) (up a.x1) (up a.x2) (up a.x3) (up a.x4) (ix2 j (colK h d)) = ↑(Spec.dk (head a h) j d) := by
  rw [val_main_v125_apply, ← v124_at]
  refine congrArg _ (funext fun b => Fin.ext ?_)
  match b with
  | ⟨0, _⟩ => rfl
  | ⟨1, _⟩ => show (j.val * 2048 + (256 * h.val + d.val)) / 2048 % 2048 = j.val; omega
  | ⟨2, _⟩ => show (j.val * 2048 + (256 * h.val + d.val)) / 256 % 8 = h.val; omega
  | ⟨3, _⟩ => show (j.val * 2048 + (256 * h.val + d.val)) % 256 = d.val; omega

/-- The values' gradient. -/
theorem v126_at (h : Fin 8) (j : Fin 2048) (d : Fin 128) :
    val_main_v126 (F := Ideal) (up a.x0) (up a.x1) (up a.x2) (up a.x3) (up a.x4) (ix2 j (colV h d)) = ↑(Spec.dv (head a h) j d) := by
  rw [val_main_v126_apply, ← v93_at]
  refine congrArg _ (funext fun b => Fin.ext ?_)
  match b with
  | ⟨0, _⟩ => rfl
  | ⟨1, _⟩ => show (j.val * 1024 + (128 * h.val + d.val)) / 1024 % 2048 = j.val; omega
  | ⟨2, _⟩ => show (j.val * 1024 + (128 * h.val + d.val)) / 128 % 8 = h.val; omega
  | ⟨3, _⟩ => show (j.val * 1024 + (128 * h.val + d.val)) % 128 = d.val; omega

/-- The gains' gradient. -/
theorem v127_at (h : Fin 8) (d : Fin 128) :
    val_main_v127 (F := Ideal) (up a.x0) (up a.x1) (up a.x2) (up a.x4) (ix2 0 (colV h d)) = ↑(Spec.dg (head a h) d) := by
  rw [val_main_v127_apply, ← v74_at]
  refine congrArg _ (funext fun b => Fin.ext ?_)
  match b with
  | ⟨0, _⟩ => rfl
  | ⟨1, _⟩ => show (0 * 1024 + (128 * h.val + d.val)) / 128 % 8 = h.val; omega
  | ⟨2, _⟩ => show (0 * 1024 + (128 * h.val + d.val)) % 128 = d.val; omega

end Cert.Values
-- ==== Proof.HostSoft.lean ====
module

public import proofs.«01_k».proof.Proof.HostValue
public import proofs.«01_k».proof.Proof.RefOuts
public import Idealize.ShloMosaic.Lib.KernelVsHost

/-!
  The softmax on the host before the call, read at an index from real arguments.
-/

@[expose] public section

noncomputable section

namespace Cert.KernelIdeal.HostVal

open Cert.KernelIdeal Cert.KernelIdeal.Gen Cert.Values
open Idealize.ShloMosaic hiding ix1 ix2 ix3 ix4
open Idealize.ShloMosaic.TcCoe Idealize.ShloMosaic.ValueIdx Idealize.ShloMosaic.StableHlo
open Cert.ReferenceIdeal.Read (val_main_v8 val_main_v9 val_main_v12 val_main_v13 val_main_v21_0 val_main_v22 val_main_v42 val_main_v44 val_main_v51)

/-! The product of the keys' last columns with the queries', at an index. -/

theorem lhs_kr_0 (i : S1x2048x2048x8.Idx) (q : dot_S1x2048x64_S1x2048x8x64_S1x2048x2048x8_2_3_1_12_0_0.contr.Idx) :
    (dot_S1x2048x64_S1x2048x8x64_S1x2048x2048x8_2_3_1_12_0_0.lhsIdx i q 0).val = (i 0).val := by
  unfold DotDims.lhsIdx
  rw [dif_pos (show (0 : Fin S1x2048x64.rank) ∈ dot_S1x2048x64_S1x2048x8x64_S1x2048x2048x8_2_3_1_12_0_0.lhsBatch by decide)]
  rfl
theorem lhs_kr_1 (i : S1x2048x2048x8.Idx) (q : dot_S1x2048x64_S1x2048x8x64_S1x2048x2048x8_2_3_1_12_0_0.contr.Idx) :
    (dot_S1x2048x64_S1x2048x8x64_S1x2048x2048x8_2_3_1_12_0_0.lhsIdx i q 1).val = (i 1).val := by
  unfold DotDims.lhsIdx
  rw [dif_neg (show ¬(1 : Fin S1x2048x64.rank) ∈ dot_S1x2048x64_S1x2048x8x64_S1x2048x2048x8_2_3_1_12_0_0.lhsBatch by decide), dif_pos (show (1 : Fin S1x2048x64.rank) ∈ dot_S1x2048x64_S1x2048x8x64_S1x2048x2048x8_2_3_1_12_0_0.lhsNonContracting by decide)]
  rfl
theorem lhs_kr_2 (i : S1x2048x2048x8.Idx) (q : dot_S1x2048x64_S1x2048x8x64_S1x2048x2048x8_2_3_1_12_0_0.contr.Idx) :
    (dot_S1x2048x64_S1x2048x8x64_S1x2048x2048x8_2_3_1_12_0_0.lhsIdx i q 2).val = (q ⟨0, by decide⟩).val :=
  dot_S1x2048x64_S1x2048x8x64_S1x2048x2048x8_2_3_1_12_0_0.lhsIdx_val_of_single rfl i q
theorem rhs_kr_0 (i : S1x2048x2048x8.Idx) (q : dot_S1x2048x64_S1x2048x8x64_S1x2048x2048x8_2_3_1_12_0_0.contr.Idx) :
    (dot_S1x2048x64_S1x2048x8x64_S1x2048x2048x8_2_3_1_12_0_0.rhsIdx i q 0).val = (i 0).val := by
  unfold DotDims.rhsIdx
  rw [dif_pos (show (0 : Fin S1x2048x8x64.rank) ∈ dot_S1x2048x64_S1x2048x8x64_S1x2048x2048x8_2_3_1_12_0_0.rhsBatch by decide)]
  rfl
theorem rhs_kr_1 (i : S1x2048x2048x8.Idx) (q : dot_S1x2048x64_S1x2048x8x64_S1x2048x2048x8_2_3_1_12_0_0.contr.Idx) :
    (dot_S1x2048x64_S1x2048x8x64_S1x2048x2048x8_2_3_1_12_0_0.rhsIdx i q 1).val = (i 2).val := by
  unfold DotDims.rhsIdx
  rw [dif_neg (show ¬(1 : Fin S1x2048x8x64.rank) ∈ dot_S1x2048x64_S1x2048x8x64_S1x2048x2048x8_2_3_1_12_0_0.rhsBatch by decide), dif_pos (show (1 : Fin S1x2048x8x64.rank) ∈ dot_S1x2048x64_S1x2048x8x64_S1x2048x2048x8_2_3_1_12_0_0.rhsNonContracting by decide)]
  rfl
theorem rhs_kr_2 (i : S1x2048x2048x8.Idx) (q : dot_S1x2048x64_S1x2048x8x64_S1x2048x2048x8_2_3_1_12_0_0.contr.Idx) :
    (dot_S1x2048x64_S1x2048x8x64_S1x2048x2048x8_2_3_1_12_0_0.rhsIdx i q 2).val = (i 3).val := by
  unfold DotDims.rhsIdx
  rw [dif_neg (show ¬(2 : Fin S1x2048x8x64.rank) ∈ dot_S1x2048x64_S1x2048x8x64_S1x2048x2048x8_2_3_1_12_0_0.rhsBatch by decide), dif_pos (show (2 : Fin S1x2048x8x64.rank) ∈ dot_S1x2048x64_S1x2048x8x64_S1x2048x2048x8_2_3_1_12_0_0.rhsNonContracting by decide)]
  rfl
theorem rhs_kr_3 (i : S1x2048x2048x8.Idx) (q : dot_S1x2048x64_S1x2048x8x64_S1x2048x2048x8_2_3_1_12_0_0.contr.Idx) :
    (dot_S1x2048x64_S1x2048x8x64_S1x2048x2048x8_2_3_1_12_0_0.rhsIdx i q 3).val = (q ⟨0, by decide⟩).val :=
  dot_S1x2048x64_S1x2048x8x64_S1x2048x2048x8_2_3_1_12_0_0.rhsIdx_val_of_single rfl i q

theorem kr_at (y0 : FVec Ideal S1x2048x64 .f32) (y1 : FVec Ideal S1x2048x8x64 .f32) (i j : Fin 2048) (h : Fin 8) :
    Host.dotGeneral (F := Ideal) dot_S1x2048x64_S1x2048x8x64_S1x2048x2048x8_2_3_1_12_0_0 none y0 y1 (ix4 0 j i h)
      = ∑ k : Fin 64, y0 (ix3 0 j k) * y1 (ix4 0 i h k) := by
  simp only [Host.dotGeneral]
  rw [Ideal.dotGeneral_apply, ← Equiv.sum_comp (ValueIdx.contrEquiv1 dot_S1x2048x64_S1x2048x8x64_S1x2048x2048x8_2_3_1_12_0_0 64 rfl rfl).symm]
  refine Finset.sum_congr rfl fun k _ => ?_
  have hk := ValueIdx.contrEquiv1_symm_val dot_S1x2048x64_S1x2048x8x64_S1x2048x2048x8_2_3_1_12_0_0 64 rfl rfl k
  refine congrArg₂ (· * ·) (congrArg y0 (funext fun b => Fin.ext ?_)) (congrArg y1 (funext fun b => Fin.ext ?_))
  · match b with
    | ⟨0, _⟩ => exact lhs_kr_0 _ _
    | ⟨1, _⟩ => exact lhs_kr_1 _ _
    | ⟨2, _⟩ => exact (lhs_kr_2 _ _).trans hk
  · match b with
    | ⟨0, _⟩ => exact rhs_kr_0 _ _
    | ⟨1, _⟩ => exact rhs_kr_1 _ _
    | ⟨2, _⟩ => exact rhs_kr_2 _ _
    | ⟨3, _⟩ => exact (rhs_kr_3 _ _).trans hk

/-- The arguments are these real ones. -/
structure IsReal (U : Val) (a : Args) : Prop where
  e0 : a0 U = up a.x0
  e1 : a1 U = up a.x1
  e2 : a2 U = up a.x2
  e3 : a3 U = up a.x3
  e4 : a4 U = up a.x4

variable {U : Val} {a : Args}

/-! The softmax on the host. -/

theorem hSc_eq (hU : IsReal U a) : hSc U = val_main_v13 (F := Ideal) (up a.x0) (up a.x1) (up a.x2) := by
  unfold hSc
  rw [hU.e0, hU.e1, hU.e2]
  funext k
  obtain ⟨h, i, j, rfl⟩ := split4 k
  rw [Cert.ReferenceIdeal.Read.val_main_v13_apply, Cert.ReferenceIdeal.Read.val_main_v11_apply]
  refine congrArg (fun z : Ideal .f32 => FloatOps.mulf (FloatOps.addf (val_main_v9 (F := Ideal) (up a.x0) (up a.x1) (ix4 0 h i j)) z) (val_main_v12 (F := Ideal) (ix4 0 h i j))) ?_
  rw [transpose_apply _ _ transposes_S1x2048x2048x8_S1x8x2048x2048_0_3_2_1 (ix4 0 h i j) (ix4 0 j i h) (fun b => match b with
    | ⟨0, _⟩ => rfl
    | ⟨1, _⟩ => rfl
    | ⟨2, _⟩ => rfl
    | ⟨3, _⟩ => rfl), kr_at, Cert.ReferenceIdeal.Read.val_main_v10_apply]
  refine Finset.sum_congr rfl fun k _ => (mul_comm _ _).trans ?_
  refine congrArg₂ (· * ·) (congrArg _ (ValueIdx.eq_ix4 _).symm) ?_
  rw [show Cert.ReferenceIdeal.Read.ridx_main_v10 (ix4 0 h i j) k = ix4 0 j h k from ValueIdx.eq_ix4 _, v3_at a, head_k1]

theorem hSm_eq (hU : IsReal U a) : hSm U = val_main_v21_0 (F := Ideal) (up a.x0) (up a.x1) (up a.x2) := by
  unfold hSm; rw [hSc_eq hU]; rfl

theorem hMx_at (hU : IsReal U a) (h : Fin 8) (i : Fin 2048) : hMx U (ix4 0 h i 0) = ((M a h i : ℝ) : EReal) := by
  unfold hMx; rw [hSm_eq hU]
  refine (broadcastInDim_apply _ _ _ _ (ix3 0 h i) (fun b => match b with
    | ⟨0, _⟩ => rfl
    | ⟨1, _⟩ => rfl
    | ⟨2, _⟩ => rfl)).trans (v22_at a h i)

theorem hE_eq (hU : IsReal U a) : hE U = val_main_v42 (F := Ideal) (up a.x0) (up a.x1) (up a.x2) := by
  funext k
  obtain ⟨h, i, j, rfl⟩ := split4 k
  rw [v42_at]
  have e := broadcastInDim_apply _ bcast_S1x8x2048x1_S1x8x2048x2048_0_1_2_3 (hMx U) (ix4 0 h i j) (ix4 0 h i 0) (fun b => match b with
    | ⟨0, _⟩ => rfl
    | ⟨1, _⟩ => rfl
    | ⟨2, _⟩ => rfl
    | ⟨3, _⟩ => rfl)
  refine Eq.trans ?_ (exp_masked a h i j)
  refine (show hE U (ix4 0 h i j) = Ideal.exp (hSm U (ix4 0 h i j) - broadcastInDim S1x8x2048x2048 ![0, 1, 2, 3] bcast_S1x8x2048x1_S1x8x2048x2048_0_1_2_3 (hMx U) (ix4 0 h i j)) from rfl).trans ?_
  rw [e, hMx_at hU, hSm_eq hU, v21_at]

theorem hL_eq (hU : IsReal U a) : hL U = val_main_v44 (F := Ideal) (up a.x0) (up a.x1) (up a.x2) := by
  unfold hL; rw [hE_eq hU]; rfl

theorem hO_at (hU : IsReal U a) (i : Fin 2048) (h : Fin 8) (d : Fin 128) : hO U (ix4 0 i h d) = ((Spec.o (head a h) i d : ℝ) : EReal) := by
  rw [← v51_at]; unfold hO; rw [hE_eq hU, hL_eq hU, hU.e1]; rfl

theorem log_real (x y : ℝ) (hy : 0 < y) : (↑x : EReal) + Ideal.log (↑y : EReal) = ((x + Real.log y : ℝ) : EReal) := by
  rw [Ideal.log_coe, if_neg (not_le.mpr hy), ← EReal.coe_add]

theorem hL_at (hU : IsReal U a) (i : Fin 2048) (h : Fin 8) : hL U (ix4 0 h i 0) = ((L a h i : ℝ) : EReal) := by
  rw [hL_eq hU]; exact v44_at a h i

theorem sum_log_at (X Y : FVec Ideal S1x8x2048x1 .f32) (i : Fin 2048) (h : Fin 8) (x y : ℝ) (hy : 0 < y)
    (e1 : X (ix4 0 h i 0) = (x : EReal)) (e2 : Y (ix4 0 h i 0) = (y : EReal)) :
    addf (F := Ideal) X (Host.log (F := Ideal) Y) (ix4 0 h i 0) = ((x + Real.log y : ℝ) : EReal) := by
  refine (show _ = (X (ix4 0 h i 0) : EReal) + Ideal.log (Y (ix4 0 h i 0)) from rfl).trans ?_
  rw [e1, e2, log_real _ _ hy]

theorem log_L (i : Fin 2048) (h : Fin 8) : M a h i + Real.log (L a h i) = Real.log (Spec.l (head a h) i) := by
  unfold L; rw [Spec.shift_log]

theorem hSum_at (hU : IsReal U a) (i : Fin 2048) (h : Fin 8) :
    addf (F := Ideal) (hMx U) (Host.log (F := Ideal) (hL U)) (ix4 0 h i 0) = ((Real.log (Spec.l (head a h) i) : ℝ) : EReal) :=
  (sum_log_at _ _ i h _ _ (L_pos a h i) (hMx_at hU h i) (hL_at hU i h)).trans (congrArg (fun x : ℝ => (x : EReal)) (log_L i h))

theorem hLse_at (hU : IsReal U a) (i : Fin 2048) (h : Fin 8) : hLse U (ix3 0 i h) = ((Real.log (Spec.l (head a h) i) : ℝ) : EReal) := by
  refine Eq.trans ?_ (hSum_at hU i h)
  unfold hLse
  generalize addf (F := Ideal) (hMx U) (Host.log (F := Ideal) (hL U)) = X
  rw [transpose_apply _ _ transposes_S1x8x2048_S1x2048x8_0_2_1 (ix3 0 i h) (ix3 0 h i) (fun b => match b with
    | ⟨0, _⟩ => rfl
    | ⟨1, _⟩ => rfl
    | ⟨2, _⟩ => rfl)]
  exact shapeCast_apply _ shapeCasts_S1x8x2048x1_S1x8x2048 (ix3 0 h i) (ix4 0 h i 0)
      (by rewrite [Shape.rowMajor_val_three, Shape.rowMajor_val_four]; show ((0 * 8 + h.val) * 2048 + i.val) * 1 + 0 = (0 * 8 + h.val) * 2048 + i.val; omega)

end Cert.KernelIdeal.HostVal
-- ==== Proof.HostReads.lean ====
module

public import proofs.«01_k».proof.Proof.HostSoft
public import proofs.«01_k».proof.Proof.RefOuts
public import Idealize.ShloMosaic.Lib.KernelVsHost

/-!
  The arrays the call is launched on, read at an index from real arguments.
-/

@[expose] public section

noncomputable section

namespace Cert.KernelIdeal.HostVal

open Cert.KernelIdeal Cert.KernelIdeal.Gen Cert.Values
open Idealize.ShloMosaic hiding ix1 ix2 ix3 ix4
open Idealize.ShloMosaic.TcCoe Idealize.ShloMosaic.ValueIdx Idealize.ShloMosaic.StableHlo
open Cert.ReferenceIdeal.Read (val_main_v8 val_main_v9 val_main_v12 val_main_v13 val_main_v21_0 val_main_v22 val_main_v42 val_main_v44 val_main_v51)

variable {U : Val} {a : Args}

/-! The six arrays. -/

theorem zero_word (k : S_.Idx) : sitofp (F := Ideal) .f32 (constantI S_ 32 0#32) k = ((0 : ℝ) : EReal) := by
  show ((((0#32 : BitVec 32).toInt : ℤ) : ℝ) : EReal) = _
  simp

theorem v42_at (hU : IsReal U a) (i : Fin 2048) (h : Fin 8) (d : Fin 256) :
    WA U main_v42 (ix2 i (colK h d)) = (((head a h).q i d : ℝ) : EReal) := by
  rw [v42_eq]
  refine (show _ = shapeCast S2048x2048 (qPad U) shapeCasts_S2048x8x256_S2048x2048 (ix2 i (colK h d)) from rfl).trans ?_
  rw [shapeCast_apply _ shapeCasts_S2048x8x256_S2048x2048 (ix2 i (colK h d)) (ix3 i h d)
      (by rewrite [Shape.rowMajor_val_two, Shape.rowMajor_val_three]; show (i.val * 8 + h.val) * 256 + d.val = i.val * 2048 + (256 * h.val + d.val); omega)]
  unfold qPad
  by_cases hd : d.val < 192
  · refine (pad_apply_of_inside _ _ _ _ _ _ _ _ (ix3 i h ⟨d.val, hd⟩) (fun b => match b with
      | ⟨0, _⟩ => (show i.val = 0 + i.val * 1 by omega)
      | ⟨1, _⟩ => (show h.val = 0 + h.val * 1 by omega)
      | ⟨2, _⟩ => (show d.val = 0 + d.val * 1 by omega))).trans ?_
    rw [shapeCast_apply _ shapeCasts_S1x2048x8x192_S2048x8x192 (ix3 i h ⟨d.val, hd⟩) (ix4 0 i h ⟨d.val, hd⟩)
      (by rewrite [Shape.rowMajor_val_three, Shape.rowMajor_val_four]; show ((0 * 2048 + i.val) * 8 + h.val) * 192 + d.val = (i.val * 8 + h.val) * 192 + d.val; omega), hU.e0]
    exact congrArg (fun x : ℝ => (x : EReal)) (show (head a h).q i d = a.x0 (ix4 0 i h ⟨d.val, hd⟩) from dif_pos hd).symm
  · refine (pad_apply_of_not_inside _ _ _ _ _ _ _ _ 2 ?_).trans ?_
    · intro hc
      have h1 : (d.val - 0) / 1 < 192 := hc.2.2
      omega
    · rw [head_q2 a h i d (by omega)]; exact zero_word _

theorem v46_at (hU : IsReal U a) (h : Fin 8) (i : Fin 2048) (d : Fin 128) :
    WA U main_v46 (ix2 i d) = (((head a h).k i ⟨128 + d.val, by omega⟩ : ℝ) : EReal) := by
  rw [v46_eq]
  refine (show _ = krPad U (ix2 i d) from rfl).trans ?_
  unfold krPad
  by_cases hd : d.val < 64
  · refine (pad_apply_of_inside _ _ _ _ _ _ _ _ (ix2 i ⟨d.val, hd⟩) (fun b => match b with
      | ⟨0, _⟩ => (show i.val = 0 + i.val * 1 by omega)
      | ⟨1, _⟩ => (show d.val = 0 + d.val * 1 by omega))).trans ?_
    rw [shapeCast_apply _ shapeCasts_S1x2048x64_S2048x64 (ix2 i ⟨d.val, hd⟩) (ix3 0 i ⟨d.val, hd⟩)
      (by rewrite [Shape.rowMajor_val_two, Shape.rowMajor_val_three]; show (0 * 2048 + i.val) * 64 + d.val = i.val * 64 + d.val; omega), hU.e2]
    exact congrArg (fun x : ℝ => (x : EReal)) (head_k1 a h i ⟨d.val, hd⟩).symm
  · refine (pad_apply_of_not_inside _ _ _ _ _ _ _ _ 1 ?_).trans ?_
    · intro hc
      have h1 : (d.val - 0) / 1 < 64 := hc.2.2
      omega
    · rw [head_k2 a h i ⟨128 + d.val, by omega⟩ (by show 192 ≤ 128 + d.val; omega)]; exact zero_word _

theorem v45_at (hU : IsReal U a) (i : Fin 2048) (h : Fin 8) (d : Fin 256) :
    WA U main_v45 (ix2 i (colK h d)) = ((a.x1 (ix4 0 i h d) : ℝ) : EReal) := by
  rw [v45_eq]
  refine (show _ = shapeCast S2048x2048 (shapeCast S2048x8x256 (a1 U) shapeCasts_S1x2048x8x256_S2048x8x256) shapeCasts_S2048x8x256_S2048x2048 (ix2 i (colK h d)) from rfl).trans ?_
  rw [shapeCast_apply _ shapeCasts_S2048x8x256_S2048x2048 (ix2 i (colK h d)) (ix3 i h d)
      (by rewrite [Shape.rowMajor_val_two, Shape.rowMajor_val_three]; show (i.val * 8 + h.val) * 256 + d.val = i.val * 2048 + (256 * h.val + d.val); omega),
    shapeCast_apply _ shapeCasts_S1x2048x8x256_S2048x8x256 (ix3 i h d) (ix4 0 i h d)
      (by rewrite [Shape.rowMajor_val_three, Shape.rowMajor_val_four]; show ((0 * 2048 + i.val) * 8 + h.val) * 256 + d.val = (i.val * 8 + h.val) * 256 + d.val; omega), hU.e1]

theorem v48_at (hU : IsReal U a) (i : Fin 2048) (h : Fin 8) (d : Fin 128) :
    WA U main_v48 (ix2 i (colV h d)) = ((Spec.o (head a h) i d : ℝ) : EReal) := by
  rw [v48_eq, shapeCast_apply _ shapeCasts_S2048x8x128_S2048x1024 (ix2 i (colV h d)) (ix3 i h d)
      (by rewrite [Shape.rowMajor_val_two, Shape.rowMajor_val_three]; show (i.val * 8 + h.val) * 128 + d.val = i.val * 1024 + (128 * h.val + d.val); omega),
    shapeCast_apply _ shapeCasts_S1x2048x8x128_S2048x8x128 (ix3 i h d) (ix4 0 i h d)
      (by rewrite [Shape.rowMajor_val_three, Shape.rowMajor_val_four]; show ((0 * 2048 + i.val) * 8 + h.val) * 128 + d.val = (i.val * 8 + h.val) * 128 + d.val; omega), hO_at hU]

theorem v41_at (hU : IsReal U a) (i : Fin 2048) (h : Fin 8) (d : Fin 128) :
    WA U main_v41 (ix2 i (colV h d)) = ((Real.log (Spec.l (head a h) i) : ℝ) : EReal) := by
  rw [v41_eq, shapeCast_apply _ shapeCasts_S2048x8x128_S2048x1024 (ix2 i (colV h d)) (ix3 i h d)
      (by rewrite [Shape.rowMajor_val_two, Shape.rowMajor_val_three]; show (i.val * 8 + h.val) * 128 + d.val = i.val * 1024 + (128 * h.val + d.val); omega),
    broadcastInDim_apply _ bcast_S2048x8x1_S2048x8x128_0_1_2 _ (ix3 i h d) (ix3 i h 0) (fun b => match b with
      | ⟨0, _⟩ => rfl
      | ⟨1, _⟩ => rfl
      | ⟨2, _⟩ => rfl),
    broadcastInDim_apply _ bcast_S2048x8_S2048x8x1_0_1 _ (ix3 i h 0) (ix2 i h) (fun b => match b with
      | ⟨0, _⟩ => rfl
      | ⟨1, _⟩ => rfl),
    shapeCast_apply _ shapeCasts_S1x2048x8_S2048x8 (ix2 i h) (ix3 0 i h)
      (by rewrite [Shape.rowMajor_val_two, Shape.rowMajor_val_three]; show (0 * 2048 + i.val) * 8 + h.val = i.val * 8 + h.val; omega), hLse_at hU]

theorem v49_at (hU : IsReal U a) (h : Fin 8) (d : Fin 128) : WA U main_v49 (ix2 0 (colV h d)) = (((head a h).g d : ℝ) : EReal) := by
  rw [v49_eq, shapeCast_apply _ shapeCasts_S1024_S1x1024 (ix2 0 (colV h d)) (ix1 (colV h d))
      (by rewrite [Shape.rowMajor_val_one, Shape.rowMajor_val_two]; show 128 * h.val + d.val = 0 * 1024 + (128 * h.val + d.val); omega), hU.e3]
  rfl

theorem v50_at (hU : IsReal U a) (i : Fin 2048) (h : Fin 8) (d : Fin 128) :
    WA U main_v50 (ix2 i ⟨1024 + (128 * h.val + d.val), by omega⟩) = (((head a h).c i d : ℝ) : EReal) := by
  rw [v50_eq, shapeCast_apply _ shapeCasts_S1x2048x2048_S2048x2048 (ix2 i ⟨1024 + (128 * h.val + d.val), by omega⟩) (ix3 0 i ⟨1024 + (128 * h.val + d.val), by omega⟩)
      (by rewrite [Shape.rowMajor_val_two, Shape.rowMajor_val_three]; show (0 * 2048 + i.val) * 2048 + (1024 + (128 * h.val + d.val)) = i.val * 2048 + (1024 + (128 * h.val + d.val)); omega), hU.e4]
  rfl

end Cert.KernelIdeal.HostVal
-- ==== Proof.BlockValue.lean ====
module

public import proofs.«01_k».proof.Proof.Tiles

/-!
  What one grid point leaves in its output blocks, at an index: one head's gradients of `Spec`, when the input blocks
  hold the head's data, its output before the norm and the logarithm of its softmax's denominators.
-/

@[expose] public section

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

/-! ## The norm's backward pass -/

theorem rowsum_at (x : FVec Ideal S2048x128 .f32) (A : Fin 2048 → Fin 128 → ℝ) (hx : ∀ i d, x (ix2 i d) = ((A i d : ℝ) : EReal)) (i : Fin 2048) :
    shapeCast S2048x1 (multiReduction .add [1] S2048 x 0x00000000#32 reduces_S2048x128_S2048 (.inl rfl) rfl) shapeCasts_S2048_S2048x1 (ix2 i 0)
      = ((∑ d, A i d : ℝ) : EReal) := by
  rw [shapeCast_apply _ _ (ix2 i 0) (ix1 i) (by rw [Shape.rowMajor_val_two, Shape.rowMajor_val_one]; show i.val = i.val * 1 + 0; omega)]
  refine (Ideal.multiReduction_add_single x _ _ _ _ (ix1 i)).trans ?_
  rw [← Spec.coe_sum]
  refine Finset.sum_congr rfl fun d _ => ?_
  refine Eq.trans (congrArg x (funext fun z => Fin.ext ?_)) (hx i d)
  match z with
  | ⟨0, _⟩ => rfl
  | ⟨1, _⟩ => rfl

theorem bcol_at (x : FVec Ideal S2048x1 .f32) (i : Fin 2048) (d : Fin 128) :
    broadcastTo S2048x128 x broadcasts_S2048x1_S2048x128 (ix2 i d) = x (ix2 i 0) := by
  refine congrArg x (funext fun z => Fin.ext ?_)
  match z with
  | ⟨0, _⟩ => rfl
  | ⟨1, _⟩ => rfl

theorem brow_at (x : FVec Ideal S1x128 .f32) (i : Fin 2048) (d : Fin 128) :
    broadcastTo S2048x128 x broadcasts_S1x128_S2048x128 (ix2 i d) = x (ix2 0 d) := by
  refine congrArg x (funext fun z => Fin.ext ?_)
  match z with
  | ⟨0, _⟩ => rfl
  | ⟨1, _⟩ => rfl

section Norm
variable {H : Spec.Head} {X5 X8 : Vec Ideal S2048x128 .f32} {X7 : Vec Ideal S1x128 .f32}

theorem pay27_eq (x : Vec Ideal S2048x128 .f32) : k0_pay27 x = x := cast_self _ x
theorem pay28_eq (x : Vec Ideal S2048x128 .f32) : k0_pay28 x = x := cast_self _ x

theorem pay29_at (h5 : ∀ i d, X5 (ix2 i d) = ((Spec.o H i d : ℝ) : EReal)) (i : Fin 2048) :
    k0_pay29 X5 (ix2 i 0) = ((Spec.r H i : ℝ) : EReal) := by
  unfold k0_pay29
  rw [pay27_eq]
  show Ideal.rsqrt (Ideal.div (shapeCast S2048x1 _ _ (ix2 i 0)) (Scalar.ofBits (F := Ideal) .f32 0x43000000#32) + Scalar.ofBits (F := Ideal) .f32 0x358637BD#32) = _
  rw [rowsum_at (mulf X5 X5) (fun i d => Spec.o H i d * Spec.o H i d) (fun i d => by rw [mulf_apply, h5, EReal.coe_mul]), n128_bits, eps_bits,
    Ideal.div_coe (by norm_num), ← EReal.coe_mul, ← EReal.coe_add,
    show (∑ d, Spec.o H i d * Spec.o H i d) * (1 / 128) + Spec.eps = Spec.den H i by unfold Spec.den; ring, Ideal.rsqrt_coe,
    if_neg (Spec.den_pos H i).not_gt, if_neg (Spec.den_pos H i).ne']
  rfl

theorem pay30_at (h5 : ∀ i d, X5 (ix2 i d) = ((Spec.o H i d : ℝ) : EReal)) (i : Fin 2048) (d : Fin 128) :
    k0_pay30 X5 (ix2 i d) = ((Spec.xn H i d : ℝ) : EReal) := by
  unfold k0_pay30 Spec.xn
  rw [mulf_apply, bcol_at, pay29_at h5, pay27_eq, h5, EReal.coe_mul]

theorem pay32_at (h5 : ∀ i d, X5 (ix2 i d) = ((Spec.o H i d : ℝ) : EReal)) (h8 : ∀ i d, X8 (ix2 i d) = ((H.c i d : ℝ) : EReal))
    (i : Fin 2048) (d : Fin 128) : k0_pay32 X5 X8 (ix2 i d) = ((H.c i d * Spec.xn H i d : ℝ) : EReal) := by
  unfold k0_pay32
  rw [mulf_apply, pay28_eq, h8, pay30_at h5, EReal.coe_mul]

theorem pay31_at (h5 : ∀ i d, X5 (ix2 i d) = ((Spec.o H i d : ℝ) : EReal)) (h7 : ∀ d, X7 (ix2 0 d) = ((H.g d : ℝ) : EReal))
    (h8 : ∀ i d, X8 (ix2 i d) = ((H.c i d : ℝ) : EReal)) (i : Fin 2048) (d : Fin 128) :
    k0_pay31 X5 X7 X8 (ix2 i d) = ((Spec.dO H i d : ℝ) : EReal) := by
  have hu : ∀ i d, mulf (F := Ideal) (φ := .f32) X8 (broadcastTo S2048x128 X7 broadcasts_S1x128_S2048x128) (ix2 i d) = ((Spec.u H i d : ℝ) : EReal) := fun i d => by
    unfold Spec.u; rw [mulf_apply, brow_at, h7, h8, EReal.coe_mul]
  unfold k0_pay31
  rw [pay28_eq, cast_self]
  rw [mulf_apply, subf_apply, mulf_apply (k0_pay30 X5), bcol_at, bcol_at, pay29_at h5, hu, pay30_at h5]
  show (_ * (_ - _ * Ideal.div (shapeCast S2048x1 _ _ (ix2 i 0)) (Scalar.ofBits (F := Ideal) .f32 0x43000000#32)) : EReal) = _
  rw [rowsum_at _ (fun i d => Spec.xn H i d * Spec.u H i d) (fun i d => by rw [mulf_apply, pay30_at h5, hu, EReal.coe_mul]), n128_bits,
    Ideal.div_coe (by norm_num), ← EReal.coe_mul, ← EReal.coe_mul, ← EReal.coe_sub, ← EReal.coe_mul]
  unfold Spec.dO
  refine congrArg _ ?_
  ring

theorem pay33_at (h5 : ∀ i d, X5 (ix2 i d) = ((Spec.o H i d : ℝ) : EReal)) (h7 : ∀ d, X7 (ix2 0 d) = ((H.g d : ℝ) : EReal))
    (h8 : ∀ i d, X8 (ix2 i d) = ((H.c i d : ℝ) : EReal)) (i : Fin 2048) (d : Fin 128) :
    k0_pay33 X5 X7 X8 (ix2 i d) = ((Spec.dO H i d : ℝ) : EReal) := by
  unfold k0_pay33
  rw [cast_self]
  exact pay31_at h5 h7 h8 i d

theorem pay34_at (h5 : ∀ i d, X5 (ix2 i d) = ((Spec.o H i d : ℝ) : EReal)) (h7 : ∀ d, X7 (ix2 0 d) = ((H.g d : ℝ) : EReal))
    (h8 : ∀ i d, X8 (ix2 i d) = ((H.c i d : ℝ) : EReal)) (i : Fin 2048) (d : Fin 128) :
    k0_pay34 X5 X7 X8 (ix2 i d) = ((Spec.delta H i : ℝ) : EReal) := by
  unfold k0_pay34
  simp only [cast_self]
  rw [bcol_at, rowsum_at _ (fun i d => Spec.dO H i d * Spec.o H i d)
    (fun i d => by rw [mulf_apply, pay31_at h5 h7 h8, pay27_eq, h5, EReal.coe_mul])]
  rfl

theorem pay1_at (x : FVec Ideal S2048x128 .f32) (A : Fin 2048 → Fin 128 → ℝ) (hx : ∀ i d, x (ix2 i d) = ((A i d : ℝ) : EReal)) (d : Fin 128) :
    k0_pay1 x (ix2 0 d) = ((∑ i, A i d : ℝ) : EReal) := by
  unfold k0_pay1
  rw [shapeCast_apply _ _ (ix2 0 d) (ix1 d) (by rw [Shape.rowMajor_val_two, Shape.rowMajor_val_one]; show d.val = 0 * 128 + d.val; omega)]
  refine (Ideal.multiReduction_add_single x _ _ _ _ (ix1 d)).trans ?_
  rw [← Spec.coe_sum]
  refine Finset.sum_congr rfl fun i _ => ?_
  refine Eq.trans (congrArg x (funext fun z => Fin.ext ?_)) (hx i d)
  match z with
  | ⟨0, _⟩ => rfl
  | ⟨1, _⟩ => rfl

end Norm

/-! ## Reading and writing blocks of rows -/

section Rows
variable {α : Type} {e : EltTy} {N : ℕ}

theorem ld_at (X : Vec Ideal ⟨2, ![2048, N]⟩ e) (off : Fin 2 → ℕ) (M : ℕ) (inb : ∀ a : Fin 2, off a + ![M, N] a ≤ (⟨2, ![2048, N]⟩ : Shape).size a)
    (a : Fin M) (d : Fin N) (i : Fin 2048) (h0 : i.val = off 0 + a.val) (h1 : off 1 = 0) :
    View.ld X (Rect.unit (s := ⟨2, ![2048, N]⟩) off ![M, N] inb) (ix2 a d) = X (ix2 i d) := by
  refine congrArg X (funext fun z => Fin.ext ?_)
  match z with
  | ⟨0, _⟩ => show off 0 + 1 * a.val = i.val; omega
  | ⟨1, _⟩ => show off 1 + 1 * d.val = d.val; omega

theorem emb_at (off : Fin 2 → ℕ) (M : ℕ) (inb : ∀ a : Fin 2, off a + ![M, N] a ≤ (⟨2, ![2048, N]⟩ : Shape).size a)
    (a : Fin M) (d : Fin N) (i : Fin 2048) (h0 : i.val = off 0 + a.val) (h1 : off 1 = 0) :
    (Rect.unit (s := ⟨2, ![2048, N]⟩) off ![M, N] inb).emb (ix2 a d) = ix2 i d := by
  refine funext fun z => Fin.ext ?_
  match z with
  | ⟨0, _⟩ => show off 0 + 1 * a.val = i.val; omega
  | ⟨1, _⟩ => show off 1 + 1 * d.val = d.val; omega

theorem canon_in (off : Fin 2 → ℕ) (M : ℕ) (inb : ∀ a : Fin 2, off a + ![M, N] a ≤ (⟨2, ![2048, N]⟩ : Shape).size a)
    (w : (⟨2, ![M, N]⟩ : Shape).Idx → Elt Ideal e) (L : List (View.Piece (Elt Ideal) ⟨2, ![2048, N]⟩ e))
    (a : Fin M) (d : Fin N) (i : Fin 2048) (h0 : i.val = off 0 + a.val) (h1 : off 1 = 0) :
    View.canon (⟨Rect.unit (s := ⟨2, ![2048, N]⟩) off ![M, N] inb, w⟩ :: L) (ix2 i d) = w (ix2 a d) := by
  rw [← emb_at off M inb a d i h0 h1]
  exact View.canon_cons_emb (Val := Elt Ideal) (Rect.unit (s := ⟨2, ![2048, N]⟩) off ![M, N] inb) w L (ix2 a d)

theorem canon_out (off : Fin 2 → ℕ) (M : ℕ) (inb : ∀ a : Fin 2, off a + ![M, N] a ≤ (⟨2, ![2048, N]⟩ : Shape).size a)
    (w : (⟨2, ![M, N]⟩ : Shape).Idx → Elt Ideal e) (L : List (View.Piece (Elt Ideal) ⟨2, ![2048, N]⟩ e))
    (d : Fin N) (i : Fin 2048) (h0 : i.val < off 0 ∨ off 0 + M ≤ i.val) :
    View.canon (⟨Rect.unit (s := ⟨2, ![2048, N]⟩) off ![M, N] inb, w⟩ :: L) (ix2 i d) = View.canon L (ix2 i d) := by
  refine View.canon_cons_of_not_mem (Val := Elt Ideal) ⟨Rect.unit (s := ⟨2, ![2048, N]⟩) off ![M, N] inb, w⟩ L ?_
  rw [Rect.mem_set_unit]
  intro h
  have := h 0
  have h1 : off 0 ≤ i.val := this.1
  have h2 : i.val < off 0 + M := this.2
  omega

end Rows

theorem ldWa (e : EltTy) (X : Vec Ideal S2048x128 e) : View.ld X Wa = X := by
  funext i; rw [ValueIdx.eq_ix2 i]
  exact ld_at (N := 128) X ![0, 0] 2048 _ (i 0) (i 1) (i 0) (Nat.zero_add _).symm rfl
theorem ldWg (e : EltTy) (X : Vec Ideal S1x128 e) : View.ld X Wg = X := by
  funext i
  refine congrArg X (funext fun z => Fin.ext ?_)
  match z with
  | ⟨0, _⟩ => show 0 + 1 * (i 0).val = (i 0).val; omega
  | ⟨1, _⟩ => show 0 + 1 * (i 1).val = (i 1).val; omega

/-! ## The offsets of the two tiles and of the tile below the diagonal -/

/-- The rows of tile `j`. -/
abbrev row (j : Fin k0_t1_loop.trips) (a : Fin 1024) : Fin 2048 :=
  ⟨1024 * j.val + a.val, by have : j.val < 2 := j.isLt; omega⟩

theorem row0 (a : Fin 1024) : row j0 a = Spec.lo a := Fin.ext (by show 1024 * 0 + a.val = a.val; omega)
theorem row1 (a : Fin 1024) : row j1 a = Spec.hi a := rfl

theorem off1_0 (j : Fin k0_t1_loop.trips) : k0_off1 j 0 = 1024 * j.val := by rw [k0_off1_eq]; rfl
theorem off1_1 (j : Fin k0_t1_loop.trips) : k0_off1 j 1 = 0 := by rw [k0_off1_eq]; rfl
theorem off2_0 (j : Fin k0_t1_loop.trips) : k0_off2 j 0 = 1024 * j.val := by rw [k0_off2_eq]; rfl
theorem off2_1 (j : Fin k0_t1_loop.trips) : k0_off2 j 1 = 0 := by rw [k0_off2_eq]; rfl
theorem off3_0 : k0_off3 j0 i0 0 = 1024 := by decide
theorem off3_1 : k0_off3 j0 i0 1 = 0 := by decide
theorem off4_0 : k0_off4 j0 i0 0 = 1024 := by decide
theorem off4_1 : k0_off4 j0 i0 1 = 0 := by decide
theorem off5_0 : k0_off5 j0 0 = 0 := by decide
theorem off5_1 : k0_off5 j0 1 = 0 := by decide
theorem off6_0 : k0_off6 j0 0 = 0 := by decide
theorem off6_1 : k0_off6 j0 1 = 0 := by decide

theorem ld1 {e : EltTy} (X : Vec Ideal S2048x256 e) (j : Fin k0_t1_loop.trips) (a : Fin 1024) (d : Fin 256) :
    View.ld X (R1 j) (ix2 a d) = X (ix2 (row j a) d) := ld_at (N := 256) X (k0_off1 j) 1024 _ a d _ (by rw [off1_0]) (off1_1 j)
theorem ld2 {e : EltTy} (X : Vec Ideal S2048x128 e) (j : Fin k0_t1_loop.trips) (a : Fin 1024) (d : Fin 128) :
    View.ld X (R2 j) (ix2 a d) = X (ix2 (row j a) d) := ld_at (N := 128) X (k0_off2 j) 1024 _ a d _ (by rw [off2_0]) (off2_1 j)
theorem ld3 {e : EltTy} (X : Vec Ideal S2048x256 e) (a : Fin 1024) (d : Fin 256) :
    View.ld X R3 (ix2 a d) = X (ix2 (Spec.hi a) d) := ld_at (N := 256) X (k0_off3 j0 i0) 1024 _ a d _ (by rw [off3_0]) off3_1
theorem ld4 {e : EltTy} (X : Vec Ideal S2048x128 e) (a : Fin 1024) (d : Fin 128) :
    View.ld X R4 (ix2 a d) = X (ix2 (Spec.hi a) d) := ld_at (N := 128) X (k0_off4 j0 i0) 1024 _ a d _ (by rw [off4_0]) off4_1
theorem ld5 {e : EltTy} (X : Vec Ideal S2048x128 e) (a : Fin 1024) (d : Fin 128) :
    View.ld X R5 (ix2 a d) = X (ix2 (Spec.lo a) d) := ld_at (N := 128) X (k0_off5 j0) 1024 _ a d _ (by rw [off5_0, Nat.zero_add]) off5_1
theorem ld6 {e : EltTy} (X : Vec Ideal S2048x256 e) (a : Fin 1024) (d : Fin 256) :
    View.ld X R6 (ix2 a d) = X (ix2 (Spec.lo a) d) := ld_at (N := 256) X (k0_off6 j0) 1024 _ a d _ (by rw [off6_0, Nat.zero_add]) off6_1

theorem zero4 (i : S2048x256.Idx) : k0_pay4 (F := Ideal) i = ((0 : ℝ) : EReal) := zero_bits
theorem zero5 (i : S2048x256.Idx) : k0_pay5 (F := Ideal) i = ((0 : ℝ) : EReal) := zero_bits
theorem zero6 (i : S2048x128.Idx) : k0_pay6 (F := Ideal) i = ((0 : ℝ) : EReal) := zero_bits

/-! ## One grid point -/

/-- The blocks hold one head's data. -/
structure Holds (H : Spec.Head) (X1 : Vec Ideal S2048x256 .bf16) (X2 X3 X4 : Vec Ideal S2048x128 .bf16) (X5 X6 : Vec Ideal S2048x128 .f32)
    (X7 : Vec Ideal S1x128 .f32) (X8 : Vec Ideal S2048x128 .f32) : Prop where
  q : ∀ i d, X1 (ix2 i d) = ((H.q i d : ℝ) : EReal)
  kn : ∀ i (d : Fin 128), X2 (ix2 i d) = ((H.k i ⟨d.val, by omega⟩ : ℝ) : EReal)
  v : ∀ i d, X3 (ix2 i d) = ((H.v i d : ℝ) : EReal)
  kr : ∀ i (d : Fin 128), X4 (ix2 i d) = ((H.k i ⟨128 + d.val, by omega⟩ : ℝ) : EReal)
  o : ∀ i d, X5 (ix2 i d) = ((Spec.o H i d : ℝ) : EReal)
  lse : ∀ i, X6 (ix2 i 0) = ((Real.log (Spec.l H i) : ℝ) : EReal)
  g : ∀ d, X7 (ix2 0 d) = ((H.g d : ℝ) : EReal)
  c : ∀ i d, X8 (ix2 i d) = ((H.c i d : ℝ) : EReal)

section Point
variable {H : Spec.Head} {X1 : Vec Ideal S2048x256 .bf16} {X2 X3 X4 : Vec Ideal S2048x128 .bf16} {X5 X6 : Vec Ideal S2048x128 .f32}
  {X7 : Vec Ideal S1x128 .f32} {X8 : Vec Ideal S2048x128 .f32}

theorem kcat_at (h : Holds H X1 X2 X3 X4 X5 X6 X7 X8) (i : Fin 2048) (d : Fin 256) : kcat X2 X4 (ix2 i d) = ((H.k i d : ℝ) : EReal) := by
  unfold kcat
  by_cases hd : d.val < 128
  · rw [View.canon_cons_of_not_mem (Val := Elt Ideal) ⟨Rect.unit (s := S2048x256) ![0, 128] ![2048, 128] inb_S2048x256_S2048x128_0_128, _⟩]
    · have e : (Rect.unit (s := S2048x256) ![0, 0] ![2048, 128] inb_S2048x256_S2048x128_0_0).emb (ix2 i ⟨d.val, hd⟩) = ix2 i d := by
        refine funext fun z => Fin.ext ?_
        match z with
        | ⟨0, _⟩ => show 0 + 1 * i.val = i.val; omega
        | ⟨1, _⟩ => show 0 + 1 * d.val = d.val; omega
      rw [← e]
      refine (View.canon_cons_emb (Val := Elt Ideal) (Rect.unit (s := S2048x256) ![0, 0] ![2048, 128] inb_S2048x256_S2048x128_0_0) _ _ (ix2 i ⟨d.val, hd⟩)).trans ?_
      unfold k0_pay2
      simp only [cast_self]
      rw [ldWa]
      exact h.kn i ⟨d.val, hd⟩
    · rw [Rect.mem_set_unit]
      intro hm
      have : 128 ≤ d.val := (hm 1).1
      omega
  · have e : (Rect.unit (s := S2048x256) ![0, 128] ![2048, 128] inb_S2048x256_S2048x128_0_128).emb (ix2 i ⟨d.val - 128, by omega⟩) = ix2 i d := by
      refine funext fun z => Fin.ext ?_
      match z with
      | ⟨0, _⟩ => show 0 + 1 * i.val = i.val; omega
      | ⟨1, _⟩ => show 128 + 1 * (d.val - 128) = d.val; omega
    rw [← e]
    refine (View.canon_cons_emb (Val := Elt Ideal) (Rect.unit (s := S2048x256) ![0, 128] ![2048, 128] inb_S2048x256_S2048x128_0_128) _ _ (ix2 i ⟨d.val - 128, by omega⟩)).trans ?_
    unfold k0_pay3
    simp only [cast_self]
    rw [ldWa]
    refine (h.kr i ⟨d.val - 128, by omega⟩).trans ?_
    exact congrArg (fun z => ((H.k i z : ℝ) : EReal)) (Fin.ext (by show 128 + (d.val - 128) = d.val; omega))

theorem dob_at (h : Holds H X1 X2 X3 X4 X5 X6 X7 X8) (i : Fin 2048) (d : Fin 128) : dob X5 X7 X8 (ix2 i d) = ((Spec.dO H i d : ℝ) : EReal) := by
  unfold dob
  rw [canon_in (N := 128) ![0, 0] 2048 _ _ _ i d i (Nat.zero_add _).symm rfl, ldWa, ldWa, ldWg]
  exact pay33_at h.o h.g h.c i d

theorem del_at (h : Holds H X1 X2 X3 X4 X5 X6 X7 X8) (i : Fin 2048) (d : Fin 128) : del X5 X7 X8 (ix2 i d) = ((Spec.delta H i : ℝ) : EReal) := by
  unfold del
  rw [canon_in (N := 128) ![0, 0] 2048 _ _ _ i d i (Nat.zero_add _).symm rfl, ldWa, ldWa, ldWg]
  exact pay34_at h.o h.g h.c i d

theorem pD_at (h : Holds H X1 X2 X3 X4 X5 X6 X7 X8) (j : Fin k0_t1_loop.trips) (a b : Fin 1024) :
    pD X1 X2 X4 X6 j (ix2 a b) = ((Spec.p H (row j a) (row j b) : ℝ) : EReal) := by
  unfold pD
  rw [pay25_at (Q := fun a d => H.q (row j a) d) (K := fun b d => H.k (row j b) d) (L := fun a => Real.log (Spec.l H (row j a)))
    (fun a d => by rw [ld1, h.q]) (fun b d => by rw [ld1, kcat_at h]) (fun a => by rw [ld2, h.lse])]
  refine congrArg _ ?_
  have hv : b.val / 64 ≤ a.val / 64 ↔ Spec.Vis (row j a) (row j b) := by
    show _ ↔ (1024 * j.val + b.val) / 64 ≤ (1024 * j.val + a.val) / 64; omega
  unfold tP
  split
  · next hc => exact Spec.p_exp H _ _ (hv.1 hc)
  · next hc => exact (Spec.p_zero H _ _ (fun hh => hc (hv.2 hh))).symm

theorem dD_at (h : Holds H X1 X2 X3 X4 X5 X6 X7 X8) (j : Fin k0_t1_loop.trips) (a b : Fin 1024) :
    dD X3 X5 X7 X8 j (ix2 a b) = ((Spec.dp H (row j a) (row j b) - Spec.delta H (row j a) : ℝ) : EReal) := by
  unfold dD
  rw [pay26_at (V := fun b x => H.v (row j b) x) (D := fun a x => Spec.dO H (row j a) x) (E := fun a => Spec.delta H (row j a))
    (fun b x => by rw [ld2, h.v]) (fun a x => by rw [ld2, dob_at h]) (fun a => by rw [ld2, del_at h])]
  rfl

theorem tPo_eq (a b : Fin 1024) : tPo (fun a d => H.q (Spec.hi a) d) (fun b d => H.k (row j0 b) d) (fun a => Real.log (Spec.l H (Spec.hi a))) a b
    = Spec.p H (Spec.hi a) (Spec.lo b) := by
  refine Eq.trans ?_ (Spec.p_exp H (Spec.hi a) (Spec.lo b) (by show b.val / 64 ≤ (1024 + a.val) / 64; omega))
  rw [← row0]; rfl

theorem sO_at (h : Holds H X1 X2 X3 X4 X5 X6 X7 X8) (a b : Fin 1024) :
    sO X1 X2 X3 X4 X5 X6 X7 X8 (ix2 a b) = ((Spec.ds H (Spec.hi a) (Spec.lo b) : ℝ) : EReal) := by
  unfold sO
  rw [pay23_eq, pay15_at (Q := fun a d => H.q (Spec.hi a) d) (K := fun b d => H.k (row j0 b) d) (L := fun a => Real.log (Spec.l H (Spec.hi a)))
    (V := fun b x => H.v (row j0 b) x) (D := fun a x => Spec.dO H (Spec.hi a) x) (E := fun a => Spec.delta H (Spec.hi a))
    (fun a d => by rw [ld3, h.q]) (fun b d => by rw [ld1, kcat_at h]) (fun a => by rw [ld4, h.lse])
    (fun b x => by rw [ld2, h.v]) (fun a x => by rw [ld4, dob_at h]) (fun a => by rw [ld4, del_at h]), tPo_eq]
  unfold Spec.ds tD Spec.dp
  simp only [row0]

/-! ### The gradient of the queries -/

theorem dq1_at (i : Fin 2048) (d : Fin 256) : View.canon (dq1 (F := Ideal)) (ix2 i d) = ((0 : ℝ) : EReal) :=
  (canon_in (N := 256) ![0, 0] 2048 _ _ _ i d i (Nat.zero_add _).symm rfl).trans (zero4 _)

theorem dq2_lo (h : Holds H X1 X2 X3 X4 X5 X6 X7 X8) (a : Fin 1024) (d : Fin 256) :
    View.canon (dq2 X1 X2 X3 X4 X5 X6 X7 X8) (ix2 (Spec.lo a) d)
      = ((∑ b, Spec.ds H (Spec.lo a) (Spec.lo b) * H.k (Spec.lo b) d : ℝ) : EReal) := by
  unfold dq2
  rw [canon_in (N := 256) (k0_off1 j0) 1024 _ _ _ a d (Spec.lo a) (by rw [off1_0]; show a.val = 1024 * 0 + a.val; omega) (off1_1 j0),
    pay10_at (K := fun b d => H.k (row j0 b) d) (fun b d => by rw [ld1, kcat_at h]) (pD_at h j0) (dD_at h j0) a d (A := 0)
      (by rw [ld1, dq1_at])]
  simp only [row0, zero_add]
  rfl

theorem dq2_hi (a : Fin 1024) (d : Fin 256) :
    View.canon (dq2 X1 X2 X3 X4 X5 X6 X7 X8) (ix2 (Spec.hi a) d) = ((0 : ℝ) : EReal) := by
  unfold dq2
  rw [canon_out (N := 256) (k0_off1 j0) 1024 _ _ _ d (Spec.hi a) (.inr (by rw [off1_0]; show 1024 * 0 + 1024 ≤ 1024 + a.val; omega)), dq1_at]

theorem outQ_lo (h : Holds H X1 X2 X3 X4 X5 X6 X7 X8) (a : Fin 1024) (d : Fin 256) :
    outQ X1 X2 X3 X4 X5 X6 X7 X8 (ix2 (Spec.lo a) d) = ((Spec.dq H (Spec.lo a) d : ℝ) : EReal) := by
  unfold outQ dq4
  rw [canon_out (N := 256) (k0_off1 j1) 1024 _ _ _ d (Spec.lo a) (.inl (by rw [off1_0]; show a.val < 1024 * 1; omega))]
  unfold dq3
  rw [canon_out (N := 256) (k0_off3 j0 i0) 1024 _ _ _ d (Spec.lo a) (.inl (by rw [off3_0]; exact a.isLt)), dq2_lo h]
  unfold Spec.dq
  rw [Spec.sum_halves, Finset.sum_eq_zero (f := fun b => Spec.ds H (Spec.lo a) (Spec.hi b) * H.k (Spec.hi b) d)
    (fun b _ => by rw [Spec.ds_zero H _ _ (by show ¬ (1024 + b.val) / 64 ≤ a.val / 64; omega), zero_mul]), add_zero]

theorem outQ_hi (h : Holds H X1 X2 X3 X4 X5 X6 X7 X8) (a : Fin 1024) (d : Fin 256) :
    outQ X1 X2 X3 X4 X5 X6 X7 X8 (ix2 (Spec.hi a) d) = ((Spec.dq H (Spec.hi a) d : ℝ) : EReal) := by
  have h3 : View.canon (dq3 X1 X2 X3 X4 X5 X6 X7 X8) (ix2 (Spec.hi a) d)
      = ((∑ b, Spec.ds H (Spec.hi a) (Spec.lo b) * H.k (Spec.lo b) d : ℝ) : EReal) := by
    unfold dq3
    rw [canon_in (N := 256) (k0_off3 j0 i0) 1024 _ _ _ a d (Spec.hi a) (by rw [off3_0]) off3_1,
      pay11_at (K := fun b d => H.k (row j0 b) d) (fun b d => by rw [ld1, kcat_at h]) (sO_at h) a d (A := 0) (by rw [ld3, dq2_hi])]
    simp only [row0, zero_add]
  unfold outQ dq4
  rw [canon_in (N := 256) (k0_off1 j1) 1024 _ _ _ a d (Spec.hi a) (by rw [off1_0]; rfl) (off1_1 j1),
    pay10_at (K := fun b d => H.k (row j1 b) d) (fun b d => by rw [ld1, kcat_at h]) (pD_at h j1) (dD_at h j1) a d
      (by rw [ld1, row1, h3])]
  unfold Spec.dq
  rw [Spec.sum_halves]
  rfl

theorem outQ_at (h : Holds H X1 X2 X3 X4 X5 X6 X7 X8) (i : Fin 2048) (d : Fin 256) :
    outQ X1 X2 X3 X4 X5 X6 X7 X8 (ix2 i d) = ((Spec.dq H i d : ℝ) : EReal) := by
  rcases Spec.half_cases i with ⟨a, rfl⟩ | ⟨a, rfl⟩
  · exact outQ_lo h a d
  · exact outQ_hi h a d

/-! ### The gradient of the keys -/

theorem dk1_at (i : Fin 2048) (d : Fin 256) : View.canon (dk1 (F := Ideal)) (ix2 i d) = ((0 : ℝ) : EReal) :=
  (canon_in (N := 256) ![0, 0] 2048 _ _ _ i d i (Nat.zero_add _).symm rfl).trans (zero5 _)

theorem dk2_lo (h : Holds H X1 X2 X3 X4 X5 X6 X7 X8) (b : Fin 1024) (d : Fin 256) :
    View.canon (dk2 X1 X2 X3 X4 X5 X6 X7 X8) (ix2 (Spec.lo b) d)
      = ((∑ a, Spec.ds H (Spec.lo a) (Spec.lo b) * H.q (Spec.lo a) d : ℝ) : EReal) := by
  unfold dk2
  rw [canon_in (N := 256) (k0_off1 j0) 1024 _ _ _ b d (Spec.lo b) (by rw [off1_0]; show b.val = 1024 * 0 + b.val; omega) (off1_1 j0),
    pay24_eq, pay9_at (Q := fun a d => H.q (row j0 a) d) (fun a d => by rw [ld1, h.q]) (pD_at h j0) (dD_at h j0) b d (A := 0)
      (by rw [ld1, dk1_at])]
  simp only [row0, zero_add]
  rfl

theorem dk2_hi (b : Fin 1024) (d : Fin 256) :
    View.canon (dk2 X1 X2 X3 X4 X5 X6 X7 X8) (ix2 (Spec.hi b) d) = ((0 : ℝ) : EReal) := by
  unfold dk2
  rw [canon_out (N := 256) (k0_off1 j0) 1024 _ _ _ d (Spec.hi b) (.inr (by rw [off1_0]; show 1024 * 0 + 1024 ≤ 1024 + b.val; omega)), dk1_at]

theorem dk3_hi (b : Fin 1024) (d : Fin 256) :
    View.canon (dk3 X1 X2 X3 X4 X5 X6 X7 X8) (ix2 (Spec.hi b) d) = ((0 : ℝ) : EReal) := by
  unfold dk3
  rw [canon_out (N := 256) (k0_off6 j0) 1024 _ _ _ d (Spec.hi b) (.inr (by rw [off6_0]; show 0 + 1024 ≤ 1024 + b.val; omega)), dk2_hi]

theorem outK_lo (h : Holds H X1 X2 X3 X4 X5 X6 X7 X8) (b : Fin 1024) (d : Fin 256) :
    outK X1 X2 X3 X4 X5 X6 X7 X8 (ix2 (Spec.lo b) d) = ((Spec.dk H (Spec.lo b) d : ℝ) : EReal) := by
  unfold outK dk4
  rw [canon_out (N := 256) (k0_off1 j1) 1024 _ _ _ d (Spec.lo b) (.inl (by rw [off1_0]; show b.val < 1024 * 1; omega))]
  unfold dk3
  rw [canon_in (N := 256) (k0_off6 j0) 1024 _ _ _ b d (Spec.lo b) (by rw [off6_0, Nat.zero_add]) off6_1, pay23_eq,
    pay17_at (Q := fun a d => H.q (Spec.hi a) d) (K := fun b d => H.k (row j0 b) d) (L := fun a => Real.log (Spec.l H (Spec.hi a)))
      (V := fun b x => H.v (row j0 b) x) (D := fun a x => Spec.dO H (Spec.hi a) x) (E := fun a => Spec.delta H (Spec.hi a))
      (fun a d => by rw [ld3, h.q]) (fun b d => by rw [ld1, kcat_at h]) (fun a => by rw [ld4, h.lse])
      (fun b x => by rw [ld2, h.v]) (fun a x => by rw [ld4, dob_at h]) (fun a => by rw [ld4, del_at h]) b d
      (by rw [ld6, dk2_lo h])]
  unfold Spec.dk
  rw [Spec.sum_halves]
  simp only [tPo_eq]
  unfold Spec.ds tD Spec.dp
  simp only [row0]

theorem outK_hi (h : Holds H X1 X2 X3 X4 X5 X6 X7 X8) (b : Fin 1024) (d : Fin 256) :
    outK X1 X2 X3 X4 X5 X6 X7 X8 (ix2 (Spec.hi b) d) = ((Spec.dk H (Spec.hi b) d : ℝ) : EReal) := by
  unfold outK dk4
  rw [canon_in (N := 256) (k0_off1 j1) 1024 _ _ _ b d (Spec.hi b) (by rw [off1_0]; rfl) (off1_1 j1), pay24_eq,
    pay9_at (Q := fun a d => H.q (row j1 a) d) (fun a d => by rw [ld1, h.q]) (pD_at h j1) (dD_at h j1) b d (A := 0)
      (by rw [ld1, row1, dk3_hi])]
  unfold Spec.dk
  rw [Spec.sum_halves, Finset.sum_eq_zero (f := fun a => Spec.ds H (Spec.lo a) (Spec.hi b) * H.q (Spec.lo a) d)
    (fun a _ => by rw [Spec.ds_zero H _ _ (by show ¬ (1024 + b.val) / 64 ≤ a.val / 64; omega), zero_mul])]
  rfl

theorem outK_at (h : Holds H X1 X2 X3 X4 X5 X6 X7 X8) (i : Fin 2048) (d : Fin 256) :
    outK X1 X2 X3 X4 X5 X6 X7 X8 (ix2 i d) = ((Spec.dk H i d : ℝ) : EReal) := by
  rcases Spec.half_cases i with ⟨a, rfl⟩ | ⟨a, rfl⟩
  · exact outK_lo h a d
  · exact outK_hi h a d

/-! ### The gradient of the values -/

theorem dv1_at (i : Fin 2048) (d : Fin 128) : View.canon (dv1 (F := Ideal)) (ix2 i d) = ((0 : ℝ) : EReal) :=
  (canon_in (N := 128) ![0, 0] 2048 _ _ _ i d i (Nat.zero_add _).symm rfl).trans (zero6 _)

theorem dv2_lo (h : Holds H X1 X2 X3 X4 X5 X6 X7 X8) (b : Fin 1024) (d : Fin 128) :
    View.canon (dv2 X1 X2 X4 X5 X6 X7 X8) (ix2 (Spec.lo b) d)
      = ((∑ a, Spec.p H (Spec.lo a) (Spec.lo b) * Spec.dO H (Spec.lo a) d : ℝ) : EReal) := by
  unfold dv2
  rw [canon_in (N := 128) (k0_off2 j0) 1024 _ _ _ b d (Spec.lo b) (by rw [off2_0]; show b.val = 1024 * 0 + b.val; omega) (off2_1 j0),
    pay8_at (D := fun a d => Spec.dO H (row j0 a) d) (fun a d => by rw [ld2, dob_at h]) (pD_at h j0) b d (A := 0) (by rw [ld2, dv1_at])]
  simp only [row0, zero_add]

theorem dv2_hi (b : Fin 1024) (d : Fin 128) :
    View.canon (dv2 X1 X2 X4 X5 X6 X7 X8) (ix2 (Spec.hi b) d) = ((0 : ℝ) : EReal) := by
  unfold dv2
  rw [canon_out (N := 128) (k0_off2 j0) 1024 _ _ _ d (Spec.hi b) (.inr (by rw [off2_0]; show 1024 * 0 + 1024 ≤ 1024 + b.val; omega)), dv1_at]

theorem dv3_hi (b : Fin 1024) (d : Fin 128) :
    View.canon (dv3 X1 X2 X4 X5 X6 X7 X8) (ix2 (Spec.hi b) d) = ((0 : ℝ) : EReal) := by
  unfold dv3
  rw [canon_out (N := 128) (k0_off5 j0) 1024 _ _ _ d (Spec.hi b) (.inr (by rw [off5_0]; show 0 + 1024 ≤ 1024 + b.val; omega)), dv2_hi]

theorem outV_lo (h : Holds H X1 X2 X3 X4 X5 X6 X7 X8) (b : Fin 1024) (d : Fin 128) :
    outV X1 X2 X4 X5 X6 X7 X8 (ix2 (Spec.lo b) d) = ((Spec.dv H (Spec.lo b) d : ℝ) : EReal) := by
  unfold outV dv4
  rw [canon_out (N := 128) (k0_off2 j1) 1024 _ _ _ d (Spec.lo b) (.inl (by rw [off2_0]; show b.val < 1024 * 1; omega))]
  unfold dv3
  rw [canon_in (N := 128) (k0_off5 j0) 1024 _ _ _ b d (Spec.lo b) (by rw [off5_0, Nat.zero_add]) off5_1,
    pay16_at (Q := fun a d => H.q (Spec.hi a) d) (K := fun b d => H.k (row j0 b) d) (L := fun a => Real.log (Spec.l H (Spec.hi a)))
      (D := fun a x => Spec.dO H (Spec.hi a) x)
      (fun a d => by rw [ld3, h.q]) (fun b d => by rw [ld1, kcat_at h]) (fun a => by rw [ld4, h.lse])
      (fun a x => by rw [ld4, dob_at h]) b d (by rw [ld5, dv2_lo h])]
  unfold Spec.dv
  rw [Spec.sum_halves]
  simp only [tPo_eq]

theorem outV_hi (h : Holds H X1 X2 X3 X4 X5 X6 X7 X8) (b : Fin 1024) (d : Fin 128) :
    outV X1 X2 X4 X5 X6 X7 X8 (ix2 (Spec.hi b) d) = ((Spec.dv H (Spec.hi b) d : ℝ) : EReal) := by
  unfold outV dv4
  rw [canon_in (N := 128) (k0_off2 j1) 1024 _ _ _ b d (Spec.hi b) (by rw [off2_0]; rfl) (off2_1 j1),
    pay8_at (D := fun a d => Spec.dO H (row j1 a) d) (fun a d => by rw [ld2, dob_at h]) (pD_at h j1) b d (A := 0)
      (by rw [ld2, row1, dv3_hi])]
  unfold Spec.dv
  rw [Spec.sum_halves, Finset.sum_eq_zero (f := fun a => Spec.p H (Spec.lo a) (Spec.hi b) * Spec.dO H (Spec.lo a) d)
    (fun a _ => by rw [Spec.p_zero H _ _ (by show ¬ (1024 + b.val) / 64 ≤ a.val / 64; omega), zero_mul])]
  rfl

theorem outV_at (h : Holds H X1 X2 X3 X4 X5 X6 X7 X8) (i : Fin 2048) (d : Fin 128) :
    outV X1 X2 X4 X5 X6 X7 X8 (ix2 i d) = ((Spec.dv H i d : ℝ) : EReal) := by
  rcases Spec.half_cases i with ⟨a, rfl⟩ | ⟨a, rfl⟩
  · exact outV_lo h a d
  · exact outV_hi h a d

/-! ### The gradient of the gain -/

theorem outG_at (h : Holds H X1 X2 X3 X4 X5 X6 X7 X8) (d : Fin 128) :
    outG X5 X8 (ix2 0 d) = ((Spec.dg H d : ℝ) : EReal) := by
  unfold outG dg1
  have e : (Rect.unit (s := S1x128) ![0, 0] ![1, 128] inb_S1x128_S1x128_0_0).emb (ix2 0 d) = ix2 0 d := by
    refine funext fun z => Fin.ext ?_
    match z with
    | ⟨0, _⟩ => rfl
    | ⟨1, _⟩ => show 0 + 1 * d.val = d.val; omega
  rw [← e]
  refine (View.canon_cons_emb (Val := Elt Ideal) (Rect.unit (s := S1x128) ![0, 0] ![1, 128] inb_S1x128_S1x128_0_0) _ _ (ix2 0 d)).trans ?_
  rw [ldWa, ldWa]
  exact pay1_at _ _ (pay32_at h.o h.c) d

end Point

end Cert.KernelIdeal.Hand
-- ==== Proof.Blocks.lean ====
module

public import proofs.«01_k».proof.Proof.HostReads
public import proofs.«01_k».proof.Proof.BlockValue
public import proofs.«01_k».proof.Proof.Run
public import Idealize.ShloMosaic.Lib.Pipeline.ValueKit.Geometry

/-!
  The call's input blocks at a grid point: one head's arrays.
-/

@[expose] public section

set_option maxRecDepth 8192

noncomputable section

namespace Cert.KernelIdeal.HostVal

open Cert.KernelIdeal Cert.KernelIdeal.Gen Cert.KernelIdeal.Hand Cert.Values
open Idealize.ShloMosaic hiding ix1 ix2 ix3 ix4
open Idealize.ShloMosaic.TcCoe Idealize.ShloMosaic.ValueIdx Idealize.ShloMosaic.ValueKit
open Idealize.SL.Sem
open Cert.ReferenceIdeal.Read (val_main_v123 val_main_v125 val_main_v126 val_main_v127)

/-- The head a grid point works on. -/
abbrev hd (t : Fin cfg0.N) : Fin 8 := ⟨t.val, t.isLt⟩

theorem i0 : ∀ t : Fin cfg0.N, win0_0.index t = ![0, t.val] := (by decide +kernel : ∀ t : Fin grid0.N, _)
theorem i1 : ∀ t : Fin cfg0.N, win0_1.index t = ![0, 2 * t.val] := (by decide +kernel : ∀ t : Fin grid0.N, _)
theorem i2 : ∀ t : Fin cfg0.N, win0_2.index t = ![0, 2 * t.val + 1] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, t.val] := (by decide +kernel : ∀ t : Fin grid0.N, _)
theorem i5 : ∀ t : Fin cfg0.N, win0_5.index t = ![0, t.val] := (by decide +kernel : ∀ t : Fin grid0.N, _)
theorem i6 : ∀ t : Fin cfg0.N, win0_6.index t = ![0, t.val] := (by decide +kernel : ∀ t : Fin grid0.N, _)
theorem i7 : ∀ t : Fin cfg0.N, win0_7.index t = ![0, 8 + t.val] := (by decide +kernel : ∀ t : Fin grid0.N, _)
theorem i8 : ∀ t : Fin cfg0.N, win0_8.index t = ![0, t.val] := (by decide +kernel : ∀ t : Fin grid0.N, _)
theorem i9 : ∀ t : Fin cfg0.N, win0_9.index t = ![0, t.val] := (by decide +kernel : ∀ t : Fin grid0.N, _)
theorem i10 : ∀ t : Fin cfg0.N, win0_10.index t = ![0, t.val] := (by decide +kernel : ∀ t : Fin grid0.N, _)
theorem i11 : ∀ t : Fin cfg0.N, win0_11.index t = ![0, t.val] := (by decide +kernel : ∀ t : Fin grid0.N, _)

variable (m : (ℓ : Loc nD τ sig) → Buf (Elt Ideal) ℓ) (c : Dev nD) (a : Args)

/-- Device `c`'s arguments are these real ones. -/
abbrev ArgsAre : Prop := IsReal (fun b => m (c, b)) a

variable {m c a}

/-! A window's block read at an index is its array there. -/

theorem w0 (X : (b : Ref sig .tc) → Buf (Elt Ideal) ((c : Thread nD τ).loc b)) (t : Fin cfg0.N) (i : Fin 2048) (d : Fin 256) :
    ((cfg0.win 0).blk t).view.read (Elt Ideal) (X (Pipeline.arrRef spec0 0)) (ix2 i d) = X main_v42 (ix2 i (colK (hd t) d)) := by
  blk_simp
  refine congrArg _ ?_
  blk_ext [i0]
  show t.val * 256 + d.val = 256 * t.val + d.val
  omega

theorem w1 (X : (b : Ref sig .tc) → Buf (Elt Ideal) ((c : Thread nD τ).loc b)) (t : Fin cfg0.N) (i : Fin 2048) (d : Fin 128) :
    ((cfg0.win 1).blk t).view.read (Elt Ideal) (X (Pipeline.arrRef spec0 1)) (ix2 i d) = X main_v45 (ix2 i (colK (hd t) (c0 d))) := by
  blk_simp
  refine congrArg _ ?_
  blk_ext [i1]
  show 2 * t.val * 128 + d.val = 256 * t.val + d.val
  omega

theorem w2 (X : (b : Ref sig .tc) → Buf (Elt Ideal) ((c : Thread nD τ).loc b)) (t : Fin cfg0.N) (i : Fin 2048) (d : Fin 128) :
    ((cfg0.win 2).blk t).view.read (Elt Ideal) (X (Pipeline.arrRef spec0 2)) (ix2 i d) = X main_v45 (ix2 i (colK (hd t) ⟨128 + d.val, by omega⟩)) := by
  blk_simp
  refine congrArg _ ?_
  blk_ext [i2]
  show (2 * t.val + 1) * 128 + d.val = 256 * t.val + (128 + d.val)
  omega

theorem w3 (X : (b : Ref sig .tc) → Buf (Elt Ideal) ((c : Thread nD τ).loc b)) (t : Fin cfg0.N) (i : Fin 2048) (d : Fin 128) :
    ((cfg0.win 3).blk t).view.read (Elt Ideal) (X (Pipeline.arrRef spec0 3)) (ix2 i d) = X main_v46 (ix2 i (d)) := by
  blk_simp
  refine congrArg _ ?_
  blk_ext [i3]

theorem w4 (X : (b : Ref sig .tc) → Buf (Elt Ideal) ((c : Thread nD τ).loc b)) (t : Fin cfg0.N) (i : Fin 2048) (d : Fin 128) :
    ((cfg0.win 4).blk t).view.read (Elt Ideal) (X (Pipeline.arrRef spec0 4)) (ix2 i d) = X main_v48 (ix2 i (colV (hd t) d)) := by
  blk_simp
  refine congrArg _ ?_
  blk_ext [i4]
  show t.val * 128 + d.val = 128 * t.val + d.val
  omega

theorem w5 (X : (b : Ref sig .tc) → Buf (Elt Ideal) ((c : Thread nD τ).loc b)) (t : Fin cfg0.N) (i : Fin 2048) (d : Fin 128) :
    ((cfg0.win 5).blk t).view.read (Elt Ideal) (X (Pipeline.arrRef spec0 5)) (ix2 i d) = X main_v41 (ix2 i (colV (hd t) d)) := by
  blk_simp
  refine congrArg _ ?_
  blk_ext [i5]
  show t.val * 128 + d.val = 128 * t.val + d.val
  omega

theorem w6 (X : (b : Ref sig .tc) → Buf (Elt Ideal) ((c : Thread nD τ).loc b)) (t : Fin cfg0.N) (d : Fin 128) :
    ((cfg0.win 6).blk t).view.read (Elt Ideal) (X (Pipeline.arrRef spec0 6)) (ix2 0 d) = X main_v49 (ix2 0 (colV (hd t) d)) := by
  blk_simp
  refine congrArg _ ?_
  blk_ext [i6]
  show t.val * 128 + d.val = 128 * t.val + d.val
  omega

theorem w7 (X : (b : Ref sig .tc) → Buf (Elt Ideal) ((c : Thread nD τ).loc b)) (t : Fin cfg0.N) (i : Fin 2048) (d : Fin 128) :
    ((cfg0.win 7).blk t).view.read (Elt Ideal) (X (Pipeline.arrRef spec0 7)) (ix2 i d) = X main_v50 (ix2 i (⟨1024 + (128 * t.val + d.val), by have := t.isLt; have : cfg0.N = 8 := rfl; omega⟩)) := by
  blk_simp
  refine congrArg _ ?_
  blk_ext [i7]
  show (8 + t.val) * 128 + d.val = 1024 + (128 * t.val + d.val)
  omega

/-! The input blocks at an index. -/

theorem b0 (hA : ArgsAre m c a) (t : Fin cfg0.N) (i : Fin 2048) (d : Fin 256) : x0 m c t (ix2 i d) = (((head a (hd t)).q i d : ℝ) : EReal) :=
  (w0 (V m c) t i d).trans ((congrFun (V_eq m c main_v42) _).trans (v42_at hA i (hd t) d))
theorem b1 (hA : ArgsAre m c a) (t : Fin cfg0.N) (i : Fin 2048) (d : Fin 128) : x1 m c t (ix2 i d) = (((head a (hd t)).k i (c0 d) : ℝ) : EReal) :=
  (w1 (V m c) t i d).trans ((congrFun (V_eq m c main_v45) _).trans ((v45_at hA i (hd t) (c0 d)).trans (congrArg (fun x : ℝ => (x : EReal)) (head_k0 a (hd t) i d).symm)))
theorem b2 (hA : ArgsAre m c a) (t : Fin cfg0.N) (i : Fin 2048) (d : Fin 128) : x2 m c t (ix2 i d) = (((head a (hd t)).v i d : ℝ) : EReal) :=
  (w2 (V m c) t i d).trans ((congrFun (V_eq m c main_v45) _).trans (v45_at hA i (hd t) ⟨128 + d.val, by omega⟩))
theorem b3 (hA : ArgsAre m c a) (t : Fin cfg0.N) (i : Fin 2048) (d : Fin 128) : x3 m c t (ix2 i d) = (((head a (hd t)).k i ⟨128 + d.val, by omega⟩ : ℝ) : EReal) :=
  (w3 (V m c) t i d).trans ((congrFun (V_eq m c main_v46) _).trans (v46_at hA (hd t) i d))
theorem b4 (hA : ArgsAre m c a) (t : Fin cfg0.N) (i : Fin 2048) (d : Fin 128) : x4 m c t (ix2 i d) = ((Spec.o (head a (hd t)) i d : ℝ) : EReal) :=
  (w4 (V m c) t i d).trans ((congrFun (V_eq m c main_v48) _).trans (v48_at hA i (hd t) d))
theorem b5 (hA : ArgsAre m c a) (t : Fin cfg0.N) (i : Fin 2048) (d : Fin 128) : x5 m c t (ix2 i d) = ((Real.log (Spec.l (head a (hd t)) i) : ℝ) : EReal) :=
  (w5 (V m c) t i d).trans ((congrFun (V_eq m c main_v41) _).trans (v41_at hA i (hd t) d))
theorem b6 (hA : ArgsAre m c a) (t : Fin cfg0.N) (d : Fin 128) : x6 m c t (ix2 0 d) = (((head a (hd t)).g d : ℝ) : EReal) :=
  (w6 (V m c) t d).trans ((congrFun (V_eq m c main_v49) _).trans (v49_at hA (hd t) d))
theorem b7 (hA : ArgsAre m c a) (t : Fin cfg0.N) (i : Fin 2048) (d : Fin 128) : x7 m c t (ix2 i d) = (((head a (hd t)).c i d : ℝ) : EReal) :=
  (w7 (V m c) t i d).trans ((congrFun (V_eq m c main_v50) _).trans (v50_at hA i (hd t) d))

/-- The input blocks at a grid point are the head's arrays. -/
theorem holds (hA : ArgsAre m c a) (t : Fin cfg0.N) :
    Holds (head a (hd t)) (x0 m c t) (x1 m c t) (x2 m c t) (x3 m c t) (x4 m c t) (x5 m c t) (x6 m c t) (x7 m c t) where
  q := b0 hA t
  kn := b1 hA t
  v := b2 hA t
  kr := b3 hA t
  o := b4 hA t
  lse i := b5 hA t i 0
  g := b6 hA t
  c := b7 hA t

end Cert.KernelIdeal.HostVal
-- ==== Proof.Arrays.lean ====
module

public import proofs.«01_k».proof.Proof.Blocks
public import Idealize.ShloMosaic.Lib.Pipeline.ValueKit.Geometry

/-!
  The four result arrays of the call after its run: at each grid point the input blocks are one head's arrays, so the
  blocks written back are the head's gradients, and the eight points' blocks tile the arrays.
-/

@[expose] public section

set_option maxRecDepth 8192

noncomputable section

namespace Cert.KernelIdeal.HostVal

open Cert.KernelIdeal Cert.KernelIdeal.Gen Cert.KernelIdeal.Hand Cert.Values
open Idealize.ShloMosaic hiding ix1 ix2 ix3 ix4
open Idealize.ShloMosaic.TcCoe Idealize.ShloMosaic.ValueIdx Idealize.ShloMosaic.ValueKit
open Idealize.SL.Sem
open Cert.ReferenceIdeal.Read (val_main_v123 val_main_v125 val_main_v126 val_main_v127)

variable {m : (ℓ : Loc nD τ sig) → Buf (Elt Ideal) ℓ} {c : Dev nD} {a : Args}

theorem r8 (hA : ArgsAre m c a) : (dats m 0 c).arrAt 8 cfg0.N = val_main_v123 (F := Ideal) (up a.x0) (up a.x1) (up a.x2) (up a.x3) (up a.x4) := by
  refine (dats m 0 c).arrAt_eq_of_covers 8 _ (by decide +kernel) fun t hf y => ?_
  blk_simp
  rw [after_8]
  obtain ⟨i, d, rfl⟩ : ∃ (i : Fin 2048) (d : Fin 256), y = ix2 i d := ⟨y 0, y 1, ValueIdx.eq_ix2 y⟩

  rw [outQ_at (holds hA t), ← v123_at a (hd t) i d]
  refine congrArg _ ?_
  blk_ext [i8]
  show 256 * t.val + d.val = t.val * 256 + d.val
  omega

theorem r9 (hA : ArgsAre m c a) : (dats m 0 c).arrAt 9 cfg0.N = val_main_v125 (F := Ideal) (up a.x0) (up a.x1) (up a.x2) (up a.x3) (up a.x4) := by
  refine (dats m 0 c).arrAt_eq_of_covers 9 _ (by decide +kernel) fun t hf y => ?_
  blk_simp
  rw [after_9]
  obtain ⟨i, d, rfl⟩ : ∃ (i : Fin 2048) (d : Fin 256), y = ix2 i d := ⟨y 0, y 1, ValueIdx.eq_ix2 y⟩

  rw [outK_at (holds hA t), ← v125_at a (hd t) i d]
  refine congrArg _ ?_
  blk_ext [i9]
  show 256 * t.val + d.val = t.val * 256 + d.val
  omega

theorem r10 (hA : ArgsAre m c a) : (dats m 0 c).arrAt 10 cfg0.N = val_main_v126 (F := Ideal) (up a.x0) (up a.x1) (up a.x2) (up a.x3) (up a.x4) := by
  refine (dats m 0 c).arrAt_eq_of_covers 10 _ (by decide +kernel) fun t hf y => ?_
  blk_simp
  rw [after_10]
  obtain ⟨i, d, rfl⟩ : ∃ (i : Fin 2048) (d : Fin 128), y = ix2 i d := ⟨y 0, y 1, ValueIdx.eq_ix2 y⟩

  rw [outV_at (holds hA t), ← v126_at a (hd t) i d]
  refine congrArg _ ?_
  blk_ext [i10]
  show 128 * t.val + d.val = t.val * 128 + d.val
  omega

theorem r11 (hA : ArgsAre m c a) : (dats m 0 c).arrAt 11 cfg0.N = val_main_v127 (F := Ideal) (up a.x0) (up a.x1) (up a.x2) (up a.x4) := by
  refine (dats m 0 c).arrAt_eq_of_covers 11 _ (by decide +kernel) fun t hf y => ?_
  blk_simp
  rw [after_11]
  obtain ⟨i, d, rfl⟩ : ∃ (i : Fin 1) (d : Fin 128), y = ix2 i d := ⟨y 0, y 1, ValueIdx.eq_ix2 y⟩
  obtain rfl : i = 0 := Fin.fin_one_eq_zero i
  rw [outG_at (holds hA t), ← v127_at a (hd t) d]
  refine congrArg _ ?_
  blk_ext [i11]
  show 128 * t.val + d.val = t.val * 128 + d.val
  omega

end Cert.KernelIdeal.HostVal
-- ==== Proof.Finite.lean ====
module

public import proofs.«01_k».proof.Defs
public import proofs.«01_k».proof.Proof.RefScores
public import Idealize.ShloMosaic.Lib.ReduceAll

/-!
  The precondition: arguments whose absolute values are all below +∞ are real.
-/

@[expose] public section

noncomputable section

namespace Cert.Values

open Idealize.ShloMosaic hiding ix1 ix2 ix3 ix4
open Idealize.ShloMosaic.TcCoe Idealize.ShloMosaic.ValueIdx

theorem inf_bits : (Scalar.ofBits .f32 0x7F800000#32 : Ideal .f32) = (⊤ : EReal) := by
  show Ideal.ofBits .f32 0x7F800000#32 = _
  simp [Ideal.ofBits, Ideal.ieee]

/-- A number whose absolute value is below +∞ is real. -/
theorem real_of_abs (x : EReal) (h : Ideal.cmp .olt (max x (-x)) (⊤ : EReal) = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

theorem andi_left {x y : BitVec 1} (h : IntOp.andi x y = 1#1) : x = 1#1 := (IntOp.andi_eq_one.1 h).1
theorem andi_right {x y : BitVec 1} (h : IntOp.andi x y = 1#1) : y = 1#1 := (IntOp.andi_eq_one.1 h).2

/-- The real numbers an array holds. -/
abbrev down {s : Shape} (x : (⟨s, .f32⟩ : BufTy).Contents (Elt Ideal)) : s.Idx → ℝ := fun i => EReal.toReal (x i)

variable {s t u v : Shape} {axes : List (Fin s.rank)} [Subsingleton t.Idx]

theorem up_down (x : (⟨s, .f32⟩ : BufTy).Contents (Elt Ideal)) (dims : Fin u.rank → Fin s.rank) (hb : u.BroadcastsInDim s dims)
    (init : v.Idx → BitVec 1) (h : s.ReducesTo axes t) (hu : 0 < v.numel) (j : t.Idx)
    (e : Host.reduce IntOp.andi (cmpf (F := Ideal) (φ := .f32) .olt (Host.absf (F := Ideal) (φ := .f32) x)
      (broadcastInDim s dims hb (constant (F := Ideal) u .f32 0x7F800000#32))) init h hu j = 1#1) :
    x = up (down x) := by
  funext i
  have := Host.reduce_andi_all _ init h hu j e i
  refine real_of_abs (x i) ?_
  rw [← this, ← inf_bits]
  rfl

variable [Cert.Pre_finite.Facts]

theorem finite_up (x0 : (⟨Cert.Pre_finite.S1x2048x8x192, .f32⟩ : BufTy).Contents (Elt Ideal)) (x1 : (⟨Cert.Pre_finite.S1x2048x8x256, .f32⟩ : BufTy).Contents (Elt Ideal))
    (x2 : (⟨Cert.Pre_finite.S1x2048x64, .f32⟩ : BufTy).Contents (Elt Ideal)) (x3 : (⟨Cert.Pre_finite.S1024, .f32⟩ : BufTy).Contents (Elt Ideal))
    (x4 : (⟨Cert.Pre_finite.S1x2048x2048, .f32⟩ : BufTy).Contents (Elt Ideal)) (h : Cert.Pre_finite.fn (F := Ideal) x0 x1 x2 x3 x4 = fun _ => 1#1) :
    x0 = up (down x0) ∧ x1 = up (down x1) ∧ x2 = up (down x2) ∧ x3 = up (down x3) ∧ x4 = up (down x4) := by
  have e := congrFun h (fun b => b.elim0)
  unfold Cert.Pre_finite.fn Cert.Pre_finite.fn_part1 at e
  have e4 := andi_right e
  have e := andi_left e
  have e3 := andi_right e
  have e := andi_left e
  have e2 := andi_right e
  have e := andi_left e
  have e1 := andi_right e
  have e0 := andi_left e
  haveI : Subsingleton Cert.Pre_finite.S_.Idx := ⟨fun x y => funext fun b => b.elim0⟩
  exact ⟨up_down x0 _ _ _ _ _ _ e0, up_down x1 _ _ _ _ _ _ e1, up_down x2 _ _ _ _ _ _ e2, up_down x3 _ _ _ _ _ _ e3, up_down x4 _ _ _ _ _ _ e4⟩

end Cert.Values
-- ==== Proof.Products.lean ====
module

public import Idealize.ShloMosaic.Lib.ValueIdx
public import Idealize.ShloMosaic.Lib.MatmulPlain
public import Idealize.ShloMosaic.Lib.Pipeline.Value

/-!
  Matrix products of blocks at an index, at the ideal semantics: sums of products over the whole contracted axis.
-/

@[expose] public section

noncomputable section

namespace Cert.Products

open Idealize.ShloMosaic
open Idealize.ShloMosaic.TcCoe Idealize.ShloMosaic.ValueIdx

/-- Rows by columns. -/
theorem nn {M K N : ℕ} {φ₁ φ₂ : FTy} (x : FVec Ideal ⟨2, ![M, K]⟩ φ₁) (y : FVec Ideal ⟨2, ![K, N]⟩ φ₂) (a : Fin M) (b : Fin N) :
    FloatOps.matmul (DotDims.plain M K N) none x y (constant ⟨2, ![M, N]⟩ .f32 0x00000000#32) (ix2 a b)
      = ∑ k : Fin K, (x (ix2 a k) : EReal) * y (ix2 k b) := by
  rw [Ideal.matmul_plain_apply]
  rw [show (constant ⟨2, ![M, N]⟩ .f32 0x00000000#32 : FVec Ideal _ _) (ix2 a b) = (0 : EReal) from Ideal.ofBits_zero_f32, zero_add]

/-- Rows by rows. -/
theorem nt {M K N : ℕ} {φ₁ φ₂ : FTy} (x : FVec Ideal ⟨2, ![M, K]⟩ φ₁) (y : FVec Ideal ⟨2, ![N, K]⟩ φ₂) (a : Fin M) (b : Fin N) :
    FloatOps.matmul (DotDims.transposedRhs M K N) none x y (constant ⟨2, ![M, N]⟩ .f32 0x00000000#32) (ix2 a b)
      = ∑ k : Fin K, (x (ix2 a k) : EReal) * y (ix2 b k) := by
  rw [Ideal.matmul_transposedRhs_apply]
  rw [show (constant ⟨2, ![M, N]⟩ .f32 0x00000000#32 : FVec Ideal _ _) (ix2 a b) = (0 : EReal) from Ideal.ofBits_zero_f32, zero_add]

/-- Products of equal factors. -/
theorem mul_eq {a a' b b' : EReal} (ha : a = a') (hb : b = b') : a * b = a' * b' := by rw [ha, hb]

/-- Sums that agree term by term. -/
theorem sum_eq {K : ℕ} {f g f' g' : Fin K → EReal} (hf : ∀ k, f k = f' k) (hg : ∀ k, g k = g' k) :
    ∑ k, f k * g k = ∑ k, f' k * g' k :=
  Finset.sum_congr rfl fun k _ => by rw [hf, hg]

/-- A sum over consecutive parts of equal length. -/
theorem split {P K n : ℕ} (h : n = P * K) (f : Fin n → EReal) :
    ∑ k, f k = ∑ s : Fin P, ∑ k : Fin K, f ⟨k.val + K * s.val, h ▸ (finProdFinEquiv (s, k)).isLt⟩ := by
  subst h
  rw [← Equiv.sum_comp finProdFinEquiv f, Fintype.sum_prod_type]
  rfl

end Cert.Products
-- ==== Proof.Down.lean ====
module

public import proofs.«01_k».proof.Defs
public import proofs.«01_k».proof.Proof.Products
public import proofs.«01_k».proof.Proof.Gen.KernelDownIdeal.Value
public import proofs.«01_k».proof.Proof.Gen.ReferenceDownIdeal.Read
public import proofs.«01_k».proof.Proof.Gen.ReferenceDownIdeal.Run
public import Idealize.ShloMosaic.Lib.Pipeline.ValueKit.Geometry

/-!
  The MLP's second product, forward: each grid point's block is the whole rows of squared activations by whole columns of
  the weight.
-/

@[expose] public section

set_option maxRecDepth 8192

noncomputable section

namespace Cert.KernelDownIdeal.Hand

open Cert.KernelDownIdeal Cert.KernelDownIdeal.Gen
open Idealize.ShloMosaic
open Idealize.ShloMosaic.TcCoe Idealize.ShloMosaic.ValueIdx Idealize.ShloMosaic.ValueKit Idealize.ShloMosaic.StableHlo
open Idealize.SL.Sem
open Cert.ReferenceDownIdeal.Read (val_main_v2 val_main_v1 val_main_v2_apply)

abbrev X0 := (⟨S2048x8192, .f32⟩ : BufTy).Contents (Elt Ideal)
abbrev X1 := (⟨S8192x2048, .f32⟩ : BufTy).Contents (Elt Ideal)

variable (m : (ℓ : Loc nD τ sig) → Buf (Elt Ideal) ℓ) (c : Dev nD)

/-- The first two arguments. -/
abbrev a0 : X0 := m ((c : Thread nD τ).loc main_arg0)
abbrev a1 : X1 := m ((c : Thread nD τ).loc main_arg1)

theorem v3_eq : V m c main_v3 = (fun i => (val_main_v1 (F := Ideal) (a0 m c)) i : (⟨S2048x8192, .bf16⟩ : BufTy).Contents (Elt Ideal)) := by
  unfold V
  after_results_simp
  rfl

theorem v4_eq : V m c main_v4 = (fun i => (a1 m c) i : (⟨S8192x2048, .bf16⟩ : BufTy).Contents (Elt Ideal)) := by
  unfold V
  after_results_simp
  rfl

theorem i0 : ∀ t : Fin cfg0.N, win0_0.index t = ![t.val / 4, 0] := (by decide +kernel : ∀ t : Fin grid0.N, _)
theorem i1 : ∀ t : Fin cfg0.N, win0_1.index t = ![0, t.val % 4] := (by decide +kernel : ∀ t : Fin grid0.N, _)
theorem i2 : ∀ t : Fin cfg0.N, win0_2.index t = ![t.val / 4, t.val % 4] := (by decide +kernel : ∀ t : Fin grid0.N, _)

theorem row_lt (t : Fin cfg0.N) (i : Fin 512) : 512 * (t.val / 4) + i.val < 2048 := by
  have := t.isLt; have : cfg0.N = 16 := rfl; omega
theorem col_lt (t : Fin cfg0.N) (j : Fin 512) : 512 * (t.val % 4) + j.val < 2048 := by
  omega

theorem w0 {c : Dev nD} (X : (b : Ref sig .tc) → Buf (Elt Ideal) ((c : Thread nD τ).loc b)) (t : Fin cfg0.N) (i : Fin 512) (k : Fin 8192) :
    ((cfg0.win 0).blk t).view.read (Elt Ideal) (X (Pipeline.arrRef spec0 0)) (ix2 i k) = X main_v3 (ix2 ⟨512 * (t.val / 4) + i.val, row_lt t i⟩ k) := by
  blk_simp
  refine congrArg _ ?_
  blk_ext [i0]
  show t.val / 4 * 512 + i.val = 512 * (t.val / 4) + i.val
  omega

theorem w1 {c : Dev nD} (X : (b : Ref sig .tc) → Buf (Elt Ideal) ((c : Thread nD τ).loc b)) (t : Fin cfg0.N) (k : Fin 8192) (j : Fin 512) :
    ((cfg0.win 1).blk t).view.read (Elt Ideal) (X (Pipeline.arrRef spec0 1)) (ix2 k j) = X main_v4 (ix2 k ⟨512 * (t.val % 4) + j.val, col_lt t j⟩) := by
  blk_simp
  refine congrArg _ ?_
  blk_ext [i1]
  show t.val % 4 * 512 + j.val = 512 * (t.val % 4) + j.val
  omega

/-- What a point's body leaves. -/
theorem out_at (x : Vec Ideal S512x8192 .bf16) (y : Vec Ideal S8192x512 .bf16) (i : Fin 512) (j : Fin 512) :
    out0_2 x y (ix2 i j) = ∑ k : Fin 8192, (x (ix2 i k) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nn x y i j

/-- The reference at an index. -/
theorem ref_at (x : X0) (y : X1) (i j : Fin 2048) :
    val_main_v2 (F := Ideal) x y (ix2 i j) = ∑ k : Fin 8192, (val_main_v1 (F := Ideal) x (ix2 i k) : EReal) * y (ix2 k j) := by
  rw [val_main_v2_apply]
  refine Cert.Products.sum_eq (fun k => congrArg _ ?_) (fun k => congrArg _ ?_) <;>
  · funext z
    match z with
    | ⟨0, _⟩ => rfl
    | ⟨1, _⟩ => rfl

/-- The result array. -/
theorem result : (dats m 0 c).arrAt 2 cfg0.N = val_main_v2 (F := Ideal) (a0 m c) (a1 m c) := by
  refine (dats m 0 c).arrAt_eq_of_covers 2 _ (by decide +kernel) fun t hf y => ?_
  blk_simp
  rw [after0_2]
  obtain ⟨i, j, rfl⟩ : ∃ (i : Fin 512) (j : Fin 512), y = ix2 i j := ⟨y 0, y 1, ValueIdx.eq_ix2 y⟩
  refine (out_at _ _ i j).trans ((Cert.Products.sum_eq
    (fun k => (w0 (V m c) t i k).trans (congrFun (v3_eq m c) _))
    (fun k => (w1 (V m c) t k j).trans (congrFun (v4_eq m c) _))).trans
      ((ref_at (a0 m c) (a1 m c) ⟨512 * (t.val / 4) + i.val, row_lt t i⟩ ⟨512 * (t.val % 4) + j.val, col_lt t j⟩).symm.trans ?_))
  refine congrArg _ ?_
  blk_ext [i2]
  · show 512 * (t.val / 4) + i.val = t.val / 4 * 512 + i.val
    omega
  · show 512 * (t.val % 4) + j.val = t.val % 4 * 512 + j.val
    omega

/-- Over the extended reals the call is the reference. -/
theorem same : Cert.algebraic_KernelDownIdeal_ReferenceDownIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceDownIdeal.defs _ _).mono (fun r h c => ?_) (Cert.ReferenceDownIdeal.Value.run (F := Ideal) m' g')
    have h := h c
    have e := hargs c
    refine ⟨?_, h.2⟩
    refine (h.1.trans (Cert.ReferenceDownIdeal.Read.val_main_v2_eq _ _)).trans ?_
    refine Eq.trans ?_ (result m c).symm
    exact congr (congrArg _ e.1) e.2

end Cert.KernelDownIdeal.Hand
-- ==== Proof.GwDown.lean ====
module

public import proofs.«01_k».proof.Defs
public import proofs.«01_k».proof.Proof.Products
public import proofs.«01_k».proof.Proof.Gen.KernelGwDownIdeal.Value
public import proofs.«01_k».proof.Proof.Gen.ReferenceGwDownIdeal.Read
public import proofs.«01_k».proof.Proof.Gen.ReferenceGwDownIdeal.Run
public import Idealize.ShloMosaic.Lib.Pipeline.ValueKit.Geometry

/-!
  The gradient of the MLP's second weight: each grid point's block is whole columns of the squared activations by whole
  columns of the output's gradient, summed over the rows.
-/

@[expose] public section

set_option maxRecDepth 8192

noncomputable section

namespace Cert.KernelGwDownIdeal.Hand

open Cert.KernelGwDownIdeal Cert.KernelGwDownIdeal.Gen
open Idealize.ShloMosaic
open Idealize.ShloMosaic.TcCoe Idealize.ShloMosaic.ValueIdx Idealize.ShloMosaic.ValueKit Idealize.ShloMosaic.StableHlo
open Idealize.SL.Sem
open Cert.ReferenceGwDownIdeal.Read (val_main_v14 val_main_v4 val_main_v8_apply)

abbrev X0 := (⟨S2048x8192, .f32⟩ : BufTy).Contents (Elt Ideal)
abbrev X1 := (⟨S8192x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v3_eq : V m c main_v3 = (fun i => (val_main_v4 (F := Ideal) (a0 m c)) i : (⟨S2048x8192, .bf16⟩ : BufTy).Contents (Elt Ideal)) := by
  unfold V
  after_results_simp
  rfl

theorem v4_eq : V m c main_v4 = (fun i => (a2 m c) i : (⟨S2048x2048, .bf16⟩ : BufTy).Contents (Elt Ideal)) := by
  unfold V
  after_results_simp
  rfl

theorem i0 : ∀ t : Fin cfg0.N, win0_0.index t = ![0, t.val / 2] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 8192 := by
  have := t.isLt; have : cfg0.N = 16 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (k : Fin 2048) (i : Fin 1024) :
    ((cfg0.win 0).blk t).view.read (Elt Ideal) (X (Pipeline.arrRef spec0 0)) (ix2 k i) = X main_v3 (ix2 k ⟨1024 * (t.val / 2) + i.val, row_lt t i⟩) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v4 (ix2 k ⟨1024 * (t.val % 2) + j.val, col_lt t j⟩) := by
  blk_simp
  refine congrArg _ ?_
  blk_ext [i1]
  show t.val % 2 * 1024 + j.val = 1024 * (t.val % 2) + j.val
  omega

/-- Columns by columns. -/
theorem tn (x y : FVec Ideal S2048x1024 .bf16) (a b : Fin 1024) :
    FloatOps.matmul dot_S2048x1024_S2048x1024_S1024x1024_0_0_1_1_n_n none x y (constant S1024x1024 .f32 0x00000000#32) (ix2 a b)
      = ∑ k : Fin 2048, (x (ix2 k a) : EReal) * y (ix2 k b) := by
  rw [Ideal.matmul_constant_zero_apply, ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b)
      ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b)
      ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x y : Vec Ideal S2048x1024 .bf16) (i j : Fin 1024) :
    out0_2 x y (ix2 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact tn x y i j

/-- The reference at an index. -/
theorem ref_at (x : X0) (z : X2) (i : Fin 8192) (j : Fin 2048) :
    val_main_v14 (F := Ideal) x z (ix2 i j) = ∑ k : Fin 2048, (val_main_v4 (F := Ideal) x (ix2 k i) : EReal) * z (ix2 k j) := by
  refine (Cert.ReferenceGwDownIdeal.Read.val_main_v9_apply x z (ix2 i j)).trans ((val_main_v8_apply x z _).trans ?_)
  refine Finset.sum_congr rfl fun k _ => ?_
  rw [mul_comm]
  refine congr (congrArg _ (congrArg _ ?_)) (congrArg _ ?_) <;>
  · funext z
    match z with
    | ⟨0, _⟩ => rfl
    | ⟨1, _⟩ => rfl

/-- The result array. -/
theorem result : (dats m 0 c).arrAt 2 cfg0.N = val_main_v14 (F := Ideal) (a0 m c) (a2 m c) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, ValueIdx.eq_ix2 y⟩
  refine (out_at _ _ i j).trans ((Cert.Products.sum_eq
    (fun k => (w0 (V m c) t k i).trans (congrFun (v3_eq m c) _))
    (fun k => (w1 (V m c) t k j).trans (congrFun (v4_eq m c) _))).trans
      ((ref_at (a0 m c) (a2 m c) ⟨1024 * (t.val / 2) + i.val, row_lt t i⟩ ⟨1024 * (t.val % 2) + j.val, col_lt t j⟩).symm.trans ?_))
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelGwDownIdeal_ReferenceGwDownIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwDownIdeal.defs _ _).mono (fun r h c => ?_) (Cert.ReferenceGwDownIdeal.Value.run (F := Ideal) m' g')
    have h := h c
    have e := hargs c
    refine ⟨?_, h.2⟩
    refine (h.1.trans (Cert.ReferenceGwDownIdeal.Read.val_main_v14_eq _ _)).trans ?_
    refine Eq.trans ?_ (result m c).symm
    exact congr (congrArg _ e.1) e.2.2

end Cert.KernelGwDownIdeal.Hand
-- ==== Proof.Dact.lean ====
module

public import proofs.«01_k».proof.Defs
public import proofs.«01_k».proof.Proof.Products
public import proofs.«01_k».proof.Proof.Gen.KernelDactIdeal.Value
public import proofs.«01_k».proof.Proof.Gen.ReferenceDactIdeal.Read
public import proofs.«01_k».proof.Proof.Gen.ReferenceDactIdeal.Run
public import Idealize.ShloMosaic.Lib.Pipeline.ValueKit.Geometry

/-!
  The gradient of the MLP's first product: each grid point's block is whole rows of the output's gradient by whole rows of the
  second weight, times twice the activation where it is positive.
-/

@[expose] public section

set_option maxRecDepth 8192

noncomputable section

namespace Cert.KernelDactIdeal.Hand

open Cert.KernelDactIdeal Cert.KernelDactIdeal.Gen
open Idealize.ShloMosaic
open Idealize.ShloMosaic.TcCoe Idealize.ShloMosaic.ValueIdx Idealize.ShloMosaic.ValueKit Idealize.ShloMosaic.StableHlo
open Idealize.SL.Sem
open Cert.ReferenceDactIdeal.Read (val_main_v14 val_main_v10_apply)

abbrev X0 := (⟨S2048x8192, .f32⟩ : BufTy).Contents (Elt Ideal)
abbrev X1 := (⟨S8192x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a2 m c) i : (⟨S2048x2048, .bf16⟩ : BufTy).Contents (Elt Ideal)) := by
  unfold V
  after_results_simp
  rfl

theorem v1_eq : V m c main_v1 = (fun i => (a1 m c) i : (⟨S8192x2048, .bf16⟩ : BufTy).Contents (Elt Ideal)) := by
  unfold V
  after_results_simp
  rfl

theorem v2_eq : V m c main_v2 = (fun i => (a0 m c) i : (⟨S2048x8192, .bf16⟩ : BufTy).Contents (Elt Ideal)) := by
  unfold V
  after_results_simp
  rfl

theorem i0 : ∀ t : Fin cfg0.N, win0_0.index t = ![t.val / 8, 0] := (by decide +kernel : ∀ t : Fin grid0.N, _)
theorem i1 : ∀ t : Fin cfg0.N, win0_1.index t = ![t.val % 8, 0] := (by decide +kernel : ∀ t : Fin grid0.N, _)
theorem i2 : ∀ t : Fin cfg0.N, win0_2.index t = ![t.val / 8, t.val % 8] := (by decide +kernel : ∀ t : Fin grid0.N, _)
theorem i3 : ∀ t : Fin cfg0.N, win0_3.index t = ![t.val / 8, t.val % 8] := (by decide +kernel : ∀ t : Fin grid0.N, _)

theorem row_lt (t : Fin cfg0.N) (i : Fin 1024) : 1024 * (t.val / 8) + i.val < 2048 := by
  have := t.isLt; have : cfg0.N = 16 := rfl; omega
theorem col_lt (t : Fin cfg0.N) (j : Fin 1024) : 1024 * (t.val % 8) + j.val < 8192 := by
  omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v0 (ix2 ⟨1024 * (t.val / 8) + i.val, row_lt t i⟩ k) := by
  blk_simp
  refine congrArg _ ?_
  blk_ext [i0]
  show t.val / 8 * 1024 + i.val = 1024 * (t.val / 8) + i.val
  omega

theorem w1 {c : Dev nD} (X : (b : Ref sig .tc) → Buf (Elt Ideal) ((c : Thread nD τ).loc b)) (t : Fin cfg0.N) (j : Fin 1024) (k : Fin 2048) :
    ((cfg0.win 1).blk t).view.read (Elt Ideal) (X (Pipeline.arrRef spec0 1)) (ix2 j k) = X main_v1 (ix2 ⟨1024 * (t.val % 8) + j.val, col_lt t j⟩ k) := by
  blk_simp
  refine congrArg _ ?_
  blk_ext [i1]
  show t.val % 8 * 1024 + j.val = 1024 * (t.val % 8) + j.val
  omega

theorem w2 {c : Dev nD} (X : (b : Ref sig .tc) → Buf (Elt Ideal) ((c : Thread nD τ).loc b)) (t : Fin cfg0.N) (i j : Fin 1024) :
    ((cfg0.win 2).blk t).view.read (Elt Ideal) (X (Pipeline.arrRef spec0 2)) (ix2 i j)
      = X main_v2 (ix2 ⟨1024 * (t.val / 8) + i.val, row_lt t i⟩ ⟨1024 * (t.val % 8) + j.val, col_lt t j⟩) := by
  blk_simp
  refine congrArg _ ?_
  blk_ext [i2]
  · show t.val / 8 * 1024 + i.val = 1024 * (t.val / 8) + i.val
    omega
  · show t.val % 8 * 1024 + j.val = 1024 * (t.val % 8) + j.val
    omega

/-- The derivative's factor, two, as the programs spell it. -/
abbrev tw : EReal := Ideal.ofBits .f32 0x40000000#32

/-- What a point's body leaves. -/
theorem out_at (x y : Vec Ideal S1024x2048 .bf16) (u : Vec Ideal S1024x1024 .bf16) (i j : Fin 1024) :
    out0_3 x y u (ix2 i j) = (∑ k : Fin 2048, (x (ix2 i k) : EReal) * y (ix2 j k)) * (tw * max (u (ix2 i j) : EReal) 0) := by
  have e : out0_3 x y u = k0_pay1 x y u := by
    unfold out0_3
    rw [View.canon_cons_unit_lit _ _ _ (by decide), View.ld_unit_lit _ _ (by decide), View.ld_unit_lit _ _ (by decide),
      View.ld_unit_lit _ _ (by decide)]
  rw [e]
  unfold k0_pay1
  simp only [shapeCast_self]
  have h0 : Ideal.ofBits .f32 0x00000000#32 = (0 : EReal) := Ideal.ofBits_zero_f32
  refine Eq.trans ?_ (Cert.Products.mul_eq (Cert.Products.nt (φ₁ := .bf16) (φ₂ := .bf16) x y i j) (congrArg (fun z : EReal => tw * max (u (ix2 i j) : EReal) z) h0))
  rfl

/-- The derivative of the squared activation, by the sign of its argument. -/
theorem deriv (g u : EReal) : (if 0 < u then g * (tw * max u 0) else 0) = g * (tw * max u 0) := by
  split
  · rfl
  · rename_i h
    rw [max_eq_right (not_lt.1 h), mul_zero, mul_zero]

/-- The reference at an index. -/
theorem ref_at (u : X0) (y : X1) (x : X2) (i : Fin 2048) (j : Fin 8192) :
    val_main_v14 (F := Ideal) u y x (ix2 i j)
      = (∑ k : Fin 2048, (x (ix2 i k) : EReal) * y (ix2 j k)) * (tw * max (u (ix2 i j) : EReal) 0) := by
  have hg : Cert.ReferenceDactIdeal.Read.val_main_v10 (F := Ideal) y x (ix2 i j) = ∑ k : Fin 2048, (x (ix2 i k) : EReal) * y (ix2 j k) := by
    rw [val_main_v10_apply]
    refine Cert.Products.sum_eq (fun k => congrArg _ ?_) (fun k => congrArg _ ?_) <;>
    · funext z
      match z with
      | ⟨0, _⟩ => rfl
      | ⟨1, _⟩ => rfl

  rw [← deriv, ← hg]
  have h0 : Ideal.ofBits .f32 0x00000000#32 = (0 : EReal) := Ideal.ofBits_zero_f32
  refine Eq.trans (?_ : _ = Scalar.select (Ideal.cmp .ogt (u (ix2 i j) : EReal) (Ideal.ofBits .f32 0x00000000#32))
    (Cert.ReferenceDactIdeal.Read.val_main_v10 (F := Ideal) y x (ix2 i j) * (tw * max (u (ix2 i j) : EReal) (Ideal.ofBits .f32 0x00000000#32)))
      (Ideal.ofBits .f32 0x00000000#32)) ?_
  · rfl
  · rw [h0]
    split
    · rename_i h
      have e : Ideal.cmp .ogt (u (ix2 i j) : EReal) 0 = 1#1 := by
        show BitVec.ofBool (decide _) = _
        rw [decide_eq_true h]; rfl
      rw [e]
      exact select_one _ _
    · rename_i h
      have e : Ideal.cmp .ogt (u (ix2 i j) : EReal) 0 = 0#1 := by
        show BitVec.ofBool (decide _) = _
        rw [decide_eq_false h]; rfl
      rw [e]
      exact select_zero _ _

/-- The result array. -/
theorem result : (dats m 0 c).arrAt 3 cfg0.N = val_main_v14 (F := Ideal) (a0 m c) (a1 m c) (a2 m c) := by
  refine (dats m 0 c).arrAt_eq_of_covers 3 _ (by decide +kernel) fun t hf y => ?_
  blk_simp
  rw [after0_3]
  obtain ⟨i, j, rfl⟩ : ∃ (i j : Fin 1024), y = ix2 i j := ⟨y 0, y 1, ValueIdx.eq_ix2 y⟩
  refine (out_at _ _ _ i j).trans ((congr (congrArg _ (Cert.Products.sum_eq
    (fun k => (w0 (V m c) t i k).trans (congrFun (v0_eq m c) _))
    (fun k => (w1 (V m c) t j k).trans (congrFun (v1_eq m c) _))))
      (congrArg (fun z : EReal => tw * max z 0) ((w2 (V m c) t i j).trans (congrFun (v2_eq m c) _)))).trans
      ((ref_at (a0 m c) (a1 m c) (a2 m c) ⟨1024 * (t.val / 8) + i.val, row_lt t i⟩ ⟨1024 * (t.val % 8) + j.val, col_lt t j⟩).symm.trans ?_))
  refine congrArg _ ?_
  blk_ext [i3]
  · show 1024 * (t.val / 8) + i.val = t.val / 8 * 1024 + i.val
    omega
  · show 1024 * (t.val % 8) + j.val = t.val % 8 * 1024 + j.val
    omega

/-- Over the extended reals the call is the reference. -/
theorem same : Cert.algebraic_KernelDactIdeal_ReferenceDactIdeal := by
  intro m g m' g' _ hargs
  refine ⟨fun c => (dats m 0 c).arrAt 3 cfg0.N, ?_, ?_⟩
  · exact (θ_run defs _ _).mono (fun r h c => h c) (Value.run_blocks m g)
  · refine (θ_run Cert.ReferenceDactIdeal.defs _ _).mono (fun r h c => ?_) (Cert.ReferenceDactIdeal.Value.run (F := Ideal) m' g')
    have h := h c
    have e := hargs c
    refine ⟨?_, h.2⟩
    refine (h.1.trans (Cert.ReferenceDactIdeal.Read.val_main_v14_eq _ _ _)).trans ?_
    refine Eq.trans ?_ (result m c).symm
    exact congr (congr (congrArg _ e.1) e.2.1) e.2.2

end Cert.KernelDactIdeal.Hand
-- ==== Proof.Up.lean ====
module

public import proofs.«01_k».proof.Defs
public import proofs.«01_k».proof.Proof.Products
public import proofs.«01_k».proof.Proof.Gen.KernelUpIdeal.Value
public import proofs.«01_k».proof.Proof.Gen.ReferenceUpIdeal.Read
public import proofs.«01_k».proof.Proof.Gen.ReferenceUpIdeal.Run
public import Idealize.ShloMosaic.Lib.Pipeline.ValueKit.Geometry

/-!
  The MLP's first product, forward: each grid point's block is whole rows of the activations by whole columns of the weight,
  once as it is and once with its positive part squared.
-/

@[expose] public section

set_option maxRecDepth 8192

noncomputable section

namespace Cert.KernelUpIdeal.Hand

open Cert.KernelUpIdeal Cert.KernelUpIdeal.Gen
open Idealize.ShloMosaic
open Idealize.ShloMosaic.TcCoe Idealize.ShloMosaic.ValueIdx Idealize.ShloMosaic.ValueKit Idealize.ShloMosaic.StableHlo
open Idealize.SL.Sem
open Cert.ReferenceUpIdeal.Read (val_main_v0 val_main_v1 val_main_v4 val_main_v0_apply)

abbrev X0 := (⟨S2048x2048, .f32⟩ : BufTy).Contents (Elt Ideal)
abbrev X1 := (⟨S2048x8192, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)

theorem v0_eq : V m c main_v0 = (fun i => (a0 m c) i : (⟨S2048x2048, .bf16⟩ : BufTy).Contents (Elt Ideal)) := by
  unfold V
  after_results_simp
  rfl

/-- A weight's four column blocks, one after the other. -/
theorem blocks_at (w : X1) (s : Fin 4) (k j : Fin 2048) (l : Fin 8192) (hl : l.val = 2048 * s.val + j.val) :
    (truncf (F := Ideal) .bf16 (transpose S4x2048x2048 [1, 0, 2] (shapeCast S2048x4x2048 w shapeCasts_S2048x8192_S2048x4x2048)
      transposes_S2048x4x2048_S4x2048x2048_1_0_2) bitsLt_bf16_f32 : (⟨S4x2048x2048, .bf16⟩ : BufTy).Contents (Elt Ideal)) (ix3 s k j) = w (ix2 k l) := by
  show transpose S4x2048x2048 [1, 0, 2] (shapeCast S2048x4x2048 w shapeCasts_S2048x8192_S2048x4x2048)
    transposes_S2048x4x2048_S4x2048x2048_1_0_2 (ix3 s k j) = _
  refine (transpose_apply _ _ transposes_S2048x4x2048_S4x2048x2048_1_0_2 (ix3 s k j) (ix3 k s j) (fun b => match b with
    | ⟨0, _⟩ => rfl
    | ⟨1, _⟩ => rfl
    | ⟨2, _⟩ => rfl)).trans ?_
  refine shapeCast_apply _ _ (ix3 k s j) (ix2 k l) ?_
  rw [Shape.rowMajor_val_two, Shape.rowMajor_val_three]
  show k.val * 8192 + l.val = (k.val * 4 + s.val) * 2048 + j.val
  omega

theorem v3_eq : V m c main_v3 = (truncf (F := Ideal) .bf16 (transpose S4x2048x2048 [1, 0, 2] (shapeCast S2048x4x2048 (a1 m c) shapeCasts_S2048x8192_S2048x4x2048)
      transposes_S2048x4x2048_S4x2048x2048_1_0_2) bitsLt_bf16_f32 : (⟨S4x2048x2048, .bf16⟩ : BufTy).Contents (Elt Ideal)) := by
  unfold V
  after_results_simp
  rfl

theorem i0 : ∀ t : Fin cfg0.N, win0_0.index t = ![t.val / 8, 0] := (by decide +kernel : ∀ t : Fin grid0.N, _)
theorem i1 : ∀ t : Fin cfg0.N, win0_1.index t = ![t.val % 8 / 2, 0, t.val % 8 % 2] := (by decide +kernel : ∀ t : Fin grid0.N, _)
theorem i2 : ∀ t : Fin cfg0.N, win0_2.index t = ![t.val / 8, t.val % 8] := (by decide +kernel : ∀ t : Fin grid0.N, _)
theorem i3 : ∀ t : Fin cfg0.N, win0_3.index t = ![t.val / 8, t.val % 8] := (by decide +kernel : ∀ t : Fin grid0.N, _)

theorem row_lt (t : Fin cfg0.N) (i : Fin 1024) : 1024 * (t.val / 8) + i.val < 2048 := by
  have := t.isLt; have : cfg0.N = 16 := rfl; omega
theorem col_lt (t : Fin cfg0.N) (j : Fin 1024) : 1024 * (t.val % 8) + j.val < 8192 := by
  omega
theorem blk_lt (t : Fin cfg0.N) : t.val % 8 / 2 < 4 := by omega
theorem sub_lt (t : Fin cfg0.N) (j : Fin 1024) : 1024 * (t.val % 8 % 2) + j.val < 2048 := by omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v0 (ix2 ⟨1024 * (t.val / 8) + i.val, row_lt t i⟩ k) := by
  blk_simp
  refine congrArg _ ?_
  blk_ext [i0]
  show t.val / 8 * 1024 + i.val = 1024 * (t.val / 8) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix3 0 k j)
      = X main_v3 (ix3 ⟨t.val % 8 / 2, blk_lt t⟩ k ⟨1024 * (t.val % 8 % 2) + j.val, sub_lt t j⟩) := by
  blk_simp
  refine congrArg _ ?_
  blk_ext [i1]
  show t.val % 8 % 2 * 1024 + j.val = 1024 * (t.val % 8 % 2) + j.val
  omega

/-- A block's product. -/
theorem pay1_at (x : Vec Ideal S1024x2048 .bf16) (y : Vec Ideal S1x2048x1024 .bf16) (i j : Fin 1024) :
    k0_pay1 x y (ix2 i j) = ∑ k : Fin 2048, (x (ix2 i k) : EReal) * y (ix3 0 k j) := by
  unfold k0_pay1
  simp only [shapeCast_self]
  refine (Cert.Products.nn (φ₁ := .bf16) (φ₂ := .bf16) x (shapeCast S2048x1024 y shapeCasts_S1x2048x1024_S2048x1024) i j).trans ?_
  refine Cert.Products.sum_eq (fun k => rfl) (fun k => ?_)
  refine shapeCast_apply _ _ (ix2 k j) (ix3 0 k j) ?_
  rw [Shape.rowMajor_val_two, Shape.rowMajor_val_three]
  show (0 * 2048 + k.val) * 1024 + j.val = k.val * 1024 + j.val
  omega

theorem out2_eq (x : Vec Ideal S1024x2048 .bf16) (y : Vec Ideal S1x2048x1024 .bf16) (i j : Fin 1024) :
    out0_2 x y (ix2 i j) = k0_pay1 x y (ix2 i j) := by
  have e : out0_2 x y = k0_pay2 x y := by
    unfold out0_2
    rw [View.canon_cons_unit_lit _ _ _ (by decide), View.ld_unit_lit _ _ (by decide), View.ld_unit_lit _ _ (by decide)]
  rw [e]
  rfl

/-- The squared positive part. -/
abbrev sq (x : EReal) : EReal := max x (Ideal.ofBits .f32 0x00000000#32) * max x (Ideal.ofBits .f32 0x00000000#32)

theorem out3_eq (x : Vec Ideal S1024x2048 .bf16) (y : Vec Ideal S1x2048x1024 .bf16) (i j : Fin 1024) :
    out0_3 x y (ix2 i j) = sq (k0_pay1 x y (ix2 i j)) := by
  have e : out0_3 x y = k0_pay3 x y := by
    unfold out0_3
    rw [View.canon_cons_unit_lit _ _ _ (by decide), View.ld_unit_lit _ _ (by decide), View.ld_unit_lit _ _ (by decide)]
  rw [e]
  rfl

/-- The reference's product at an index. -/
theorem ref_at (x : X0) (y : X1) (i : Fin 2048) (j : Fin 8192) :
    val_main_v0 (F := Ideal) x y (ix2 i j) = ∑ k : Fin 2048, (x (ix2 i k) : EReal) * y (ix2 k j) := by
  rw [val_main_v0_apply]
  refine Cert.Products.sum_eq (fun k => congrArg _ ?_) (fun k => congrArg _ ?_) <;>
  · funext z
    match z with
    | ⟨0, _⟩ => rfl
    | ⟨1, _⟩ => rfl

/-- A point's product is the reference's at its rows and columns. -/
theorem product (t : Fin cfg0.N) (i j : Fin 1024) :
    k0_pay1 (iblk m c 0 t) (iblk m c 1 t) (ix2 i j)
      = val_main_v0 (F := Ideal) (a0 m c) (a1 m c) (ix2 ⟨1024 * (t.val / 8) + i.val, row_lt t i⟩ ⟨1024 * (t.val % 8) + j.val, col_lt t j⟩) :=
  (pay1_at _ _ i j).trans ((Cert.Products.sum_eq
    (fun k => (w0 (V m c) t i k).trans (congrFun (v0_eq m c) _))
    (fun k => (w1 (V m c) t k j).trans ((congrFun (v3_eq m c) _).trans (blocks_at (a1 m c) _ k _ ⟨1024 * (t.val % 8) + j.val, col_lt t j⟩
      (by show 1024 * (t.val % 8) + j.val = 2048 * (t.val % 8 / 2) + (1024 * (t.val % 8 % 2) + j.val); omega))))).trans
      (ref_at (a0 m c) (a1 m c) _ _).symm)

/-- The product. -/
theorem result2 : (dats m 0 c).arrAt 2 cfg0.N = val_main_v1 (F := Ideal) (a0 m c) (a1 m c) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, ValueIdx.eq_ix2 y⟩
  refine (out2_eq _ _ i j).trans ((product m c t i j).trans (Eq.trans (b := val_main_v1 (F := Ideal) (a0 m c) (a1 m c)
    (ix2 ⟨1024 * (t.val / 8) + i.val, row_lt t i⟩ ⟨1024 * (t.val % 8) + j.val, col_lt t j⟩)) rfl ?_))
  refine congrArg _ ?_
  blk_ext [i2]
  · show 1024 * (t.val / 8) + i.val = t.val / 8 * 1024 + i.val
    omega
  · show 1024 * (t.val % 8) + j.val = t.val % 8 * 1024 + j.val
    omega

/-- The squared activations. -/
theorem result3 : (dats m 0 c).arrAt 3 cfg0.N = val_main_v4 (F := Ideal) (a0 m c) (a1 m c) := by
  refine (dats m 0 c).arrAt_eq_of_covers 3 _ (by decide +kernel) fun t hf y => ?_
  blk_simp
  rw [after0_3]
  obtain ⟨i, j, rfl⟩ : ∃ (i j : Fin 1024), y = ix2 i j := ⟨y 0, y 1, ValueIdx.eq_ix2 y⟩
  refine (out3_eq _ _ i j).trans ((congrArg sq (product m c t i j)).trans (Eq.trans (b := val_main_v4 (F := Ideal) (a0 m c) (a1 m c)
    (ix2 ⟨1024 * (t.val / 8) + i.val, row_lt t i⟩ ⟨1024 * (t.val % 8) + j.val, col_lt t j⟩)) rfl ?_))
  refine congrArg _ ?_
  blk_ext [i3]
  · show 1024 * (t.val / 8) + i.val = t.val / 8 * 1024 + i.val
    omega
  · show 1024 * (t.val % 8) + j.val = t.val % 8 * 1024 + j.val
    omega

/-- Over the extended reals the call is the reference. -/
theorem same : Cert.algebraic_KernelUpIdeal_ReferenceUpIdeal := by
  intro m g m' g' _ hargs
  refine ⟨fun c => (dats m 0 c).arrAt 2 cfg0.N, fun c => (dats m 0 c).arrAt 3 cfg0.N, ?_, ?_⟩
  · exact (θ_run defs _ _).mono (fun r h c => h c) (Value.run_blocks m g)
  · refine (θ_run Cert.ReferenceUpIdeal.defs _ _).mono (fun r h c => ?_) (Cert.ReferenceUpIdeal.Value.run (F := Ideal) m' g')
    have h := h c
    have e := hargs c
    refine ⟨?_, ?_, h.2.2⟩
    · refine (h.1.trans (Cert.ReferenceUpIdeal.Read.val_main_v1_eq _ _)).trans ?_
      refine Eq.trans ?_ (result2 m c).symm
      exact congr (congrArg _ e.1) e.2
    · refine (h.2.1.trans (Cert.ReferenceUpIdeal.Read.val_main_v4_eq _ _)).trans ?_
      refine Eq.trans ?_ (result3 m c).symm
      exact congr (congrArg _ e.1) e.2

end Cert.KernelUpIdeal.Hand
-- ==== Proof.GwUp.lean ====
module

public import proofs.«01_k».proof.Defs
public import proofs.«01_k».proof.Proof.Products
public import proofs.«01_k».proof.Proof.Gen.KernelGwUpIdeal.Value
public import proofs.«01_k».proof.Proof.Gen.ReferenceGwUpIdeal.Read
public import proofs.«01_k».proof.Proof.Gen.ReferenceGwUpIdeal.Run
public import Idealize.ShloMosaic.Lib.Pipeline.ValueKit.Geometry

/-!
  The gradient of the MLP's first weight: each grid point's block is whole columns of the activations by whole columns of the
  product's gradient, summed over the rows, laid out in four column blocks.
-/

@[expose] public section

set_option maxRecDepth 8192

noncomputable section

namespace Cert.KernelGwUpIdeal.Hand

open Cert.KernelGwUpIdeal Cert.KernelGwUpIdeal.Gen
open Idealize.ShloMosaic
open Idealize.ShloMosaic.TcCoe Idealize.ShloMosaic.ValueIdx Idealize.ShloMosaic.ValueKit Idealize.ShloMosaic.StableHlo
open Idealize.SL.Sem
open Cert.ReferenceGwUpIdeal.Read (val_main_v13 val_main_v4 val_main_v1_apply)

abbrev X0 := (⟨S2048x2048, .f32⟩ : BufTy).Contents (Elt Ideal)
abbrev X1 := (⟨S2048x8192, .f32⟩ : BufTy).Contents (Elt Ideal)
abbrev X2 := (⟨S2048x8192, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a0 m c) i : (⟨S2048x2048, .bf16⟩ : BufTy).Contents (Elt Ideal)) := by
  unfold V
  after_results_simp
  rfl

theorem v1_eq : V m c main_v1 = (fun i => (a2 m c) i : (⟨S2048x8192, .bf16⟩ : BufTy).Contents (Elt Ideal)) := by
  unfold V
  after_results_simp
  rfl

theorem i0 : ∀ t : Fin cfg0.N, win0_0.index t = ![0, t.val / 8] := (by decide +kernel : ∀ t : Fin grid0.N, _)
theorem i1 : ∀ t : Fin cfg0.N, win0_1.index t = ![0, t.val % 8] := (by decide +kernel : ∀ t : Fin grid0.N, _)
theorem i2 : ∀ t : Fin cfg0.N, win0_2.index t = ![t.val % 8 / 2, t.val / 8, t.val % 8 % 2] := (by decide +kernel : ∀ t : Fin grid0.N, _)

theorem row_lt (t : Fin cfg0.N) (i : Fin 1024) : 1024 * (t.val / 8) + i.val < 2048 := by
  have := t.isLt; have : cfg0.N = 16 := rfl; omega
theorem col_lt (t : Fin cfg0.N) (j : Fin 1024) : 1024 * (t.val % 8) + j.val < 8192 := by
  omega
theorem blk_lt (t : Fin cfg0.N) : t.val % 8 / 2 < 4 := by omega
theorem sub_lt (t : Fin cfg0.N) (j : Fin 1024) : 1024 * (t.val % 8 % 2) + j.val < 2048 := by omega

theorem w0 {c : Dev nD} (X : (b : Ref sig .tc) → Buf (Elt Ideal) ((c : Thread nD τ).loc b)) (t : Fin cfg0.N) (k : Fin 2048) (i : Fin 1024) :
    ((cfg0.win 0).blk t).view.read (Elt Ideal) (X (Pipeline.arrRef spec0 0)) (ix2 k i) = X main_v0 (ix2 k ⟨1024 * (t.val / 8) + i.val, row_lt t i⟩) := by
  blk_simp
  refine congrArg _ ?_
  blk_ext [i0]
  show t.val / 8 * 1024 + i.val = 1024 * (t.val / 8) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v1 (ix2 k ⟨1024 * (t.val % 8) + j.val, col_lt t j⟩) := by
  blk_simp
  refine congrArg _ ?_
  blk_ext [i1]
  show t.val % 8 * 1024 + j.val = 1024 * (t.val % 8) + j.val
  omega

/-- Columns by columns. -/
theorem tn (x y : FVec Ideal S2048x1024 .bf16) (a b : Fin 1024) :
    FloatOps.matmul dot_S2048x1024_S2048x1024_S1024x1024_0_0_1_1_n_n none x y (constant S1024x1024 .f32 0x00000000#32) (ix2 a b)
      = ∑ k : Fin 2048, (x (ix2 k a) : EReal) * y (ix2 k b) := by
  rw [Ideal.matmul_constant_zero_apply, ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b)
      ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b)
      ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x y : Vec Ideal S2048x1024 .bf16) (i j : Fin 1024) :
    out0_2 x y (ix3 0 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  refine (shapeCast_apply _ _ (ix3 0 i j) (ix2 i j) ?_).trans (tn x y i j)
  rw [Shape.rowMajor_val_two, Shape.rowMajor_val_three]
  show i.val * 1024 + j.val = (0 * 1024 + i.val) * 1024 + j.val
  omega

/-- The reference's product at an index. -/
theorem prod_at (x : X0) (z : X2) (i : Fin 2048) (j : Fin 8192) :
    val_main_v4 (F := Ideal) x z (ix2 i j) = ∑ k : Fin 2048, (x (ix2 k i) : EReal) * z (ix2 k j) := by
  refine (Cert.ReferenceGwUpIdeal.Read.val_main_v2_apply x z (ix2 i j)).trans ((val_main_v1_apply x z _).trans ?_)
  refine Finset.sum_congr rfl fun k _ => ?_
  rw [mul_comm]
  refine Cert.Products.mul_eq (congrArg _ ?_) (congrArg _ ?_) <;>
  · funext z
    match z with
    | ⟨0, _⟩ => rfl
    | ⟨1, _⟩ => rfl

/-- The four column blocks. -/
abbrev parts (x : X0) (z : X2) : List ((s : Shape) × (s.Idx → EReal)) :=
  [⟨Cert.ReferenceGwUpIdeal.S1x2048x2048, Cert.ReferenceGwUpIdeal.Read.val_main_v9 (F := Ideal) x z⟩, ⟨Cert.ReferenceGwUpIdeal.S1x2048x2048, Cert.ReferenceGwUpIdeal.Read.val_main_v10 (F := Ideal) x z⟩,
    ⟨Cert.ReferenceGwUpIdeal.S1x2048x2048, Cert.ReferenceGwUpIdeal.Read.val_main_v11 (F := Ideal) x z⟩, ⟨Cert.ReferenceGwUpIdeal.S1x2048x2048, Cert.ReferenceGwUpIdeal.Read.val_main_v12 (F := Ideal) x z⟩]

theorem part0 (x : X0) (z : X2) (i j : Fin 2048) :
    Cert.ReferenceGwUpIdeal.Read.val_main_v9 (F := Ideal) x z (ix3 0 i j) = val_main_v4 (F := Ideal) x z (ix2 i ⟨0 + j.val, by omega⟩) := by
  refine (Cert.ReferenceGwUpIdeal.Read.val_main_v9_apply x z _).trans ((Cert.ReferenceGwUpIdeal.Read.val_main_v5_apply x z _).trans (congrArg _ ?_))
  refine funext fun b => Fin.ext ?_
  match b with
  | ⟨0, _⟩ => first | rfl | (show 0 + i.val = i.val; omega)
  | ⟨1, _⟩ => first | rfl | (show j.val = 0 + j.val; omega)

theorem part1 (x : X0) (z : X2) (i j : Fin 2048) :
    Cert.ReferenceGwUpIdeal.Read.val_main_v10 (F := Ideal) x z (ix3 0 i j) = val_main_v4 (F := Ideal) x z (ix2 i ⟨2048 + j.val, by omega⟩) := by
  refine (Cert.ReferenceGwUpIdeal.Read.val_main_v10_apply x z _).trans ((Cert.ReferenceGwUpIdeal.Read.val_main_v6_apply x z _).trans (congrArg _ ?_))
  refine funext fun b => Fin.ext ?_
  match b with
  | ⟨0, _⟩ => first | rfl | (show 0 + i.val = i.val; omega)
  | ⟨1, _⟩ => first | rfl | (show j.val = 0 + j.val; omega)

theorem part2 (x : X0) (z : X2) (i j : Fin 2048) :
    Cert.ReferenceGwUpIdeal.Read.val_main_v11 (F := Ideal) x z (ix3 0 i j) = val_main_v4 (F := Ideal) x z (ix2 i ⟨4096 + j.val, by omega⟩) := by
  refine (Cert.ReferenceGwUpIdeal.Read.val_main_v11_apply x z _).trans ((Cert.ReferenceGwUpIdeal.Read.val_main_v7_apply x z _).trans (congrArg _ ?_))
  refine funext fun b => Fin.ext ?_
  match b with
  | ⟨0, _⟩ => first | rfl | (show 0 + i.val = i.val; omega)
  | ⟨1, _⟩ => first | rfl | (show j.val = 0 + j.val; omega)

theorem part3 (x : X0) (z : X2) (i j : Fin 2048) :
    Cert.ReferenceGwUpIdeal.Read.val_main_v12 (F := Ideal) x z (ix3 0 i j) = val_main_v4 (F := Ideal) x z (ix2 i ⟨6144 + j.val, by omega⟩) := by
  refine (Cert.ReferenceGwUpIdeal.Read.val_main_v12_apply x z _).trans ((Cert.ReferenceGwUpIdeal.Read.val_main_v8_apply x z _).trans (congrArg _ ?_))
  refine funext fun b => Fin.ext ?_
  match b with
  | ⟨0, _⟩ => first | rfl | (show 0 + i.val = i.val; omega)
  | ⟨1, _⟩ => first | rfl | (show j.val = 0 + j.val; omega)

/-- The reference at an index. -/
theorem ref_at (x : X0) (z : X2) (s : Fin 4) (i j : Fin 2048) (l : Fin 8192) (hl : l.val = 2048 * s.val + j.val) :
    val_main_v13 (F := Ideal) x z (ix3 s i j) = ∑ k : Fin 2048, (x (ix2 k i) : EReal) * z (ix2 k l) := by
  rw [← prod_at]
  unfold val_main_v13
  match s with
  | ⟨0, _⟩ =>
    refine (concatenate_apply_piece (t := S4x2048x2048) 0 (parts x z)
      Cert.ReferenceGwUpIdeal.Facts₀.concatenates_S1x2048x2048_S1x2048x2048_S1x2048x2048_S1x2048x2048_S4x2048x2048_d0 _ 0 (show 0 < 4 by decide) Cert.ReferenceGwUpIdeal.S1x2048x2048 _ rfl rfl 0 rfl (ix3 0 i j) ?_ ?_).trans ((part0 x z i j).trans (congrArg _ ?_))
    · intro b hb
      match b with
      | ⟨0, _⟩ => exact absurd rfl hb
      | ⟨1, _⟩ => rfl
      | ⟨2, _⟩ => rfl
    · rfl
    · refine funext fun b => Fin.ext ?_
      match b with
      | ⟨0, _⟩ => rfl
      | ⟨1, _⟩ => exact (show 0 + j.val = 2048 * 0 + j.val by omega).trans hl.symm
  | ⟨1, _⟩ =>
    refine (concatenate_apply_piece (t := S4x2048x2048) 0 (parts x z)
      Cert.ReferenceGwUpIdeal.Facts₀.concatenates_S1x2048x2048_S1x2048x2048_S1x2048x2048_S1x2048x2048_S4x2048x2048_d0 _ 1 (show 1 < 4 by decide) Cert.ReferenceGwUpIdeal.S1x2048x2048 _ rfl rfl 1 rfl (ix3 0 i j) ?_ ?_).trans ((part1 x z i j).trans (congrArg _ ?_))
    · intro b hb
      match b with
      | ⟨0, _⟩ => exact absurd rfl hb
      | ⟨1, _⟩ => rfl
      | ⟨2, _⟩ => rfl
    · rfl
    · refine funext fun b => Fin.ext ?_
      match b with
      | ⟨0, _⟩ => rfl
      | ⟨1, _⟩ => exact (show 2048 + j.val = 2048 * 1 + j.val by omega).trans hl.symm
  | ⟨2, _⟩ =>
    refine (concatenate_apply_piece (t := S4x2048x2048) 0 (parts x z)
      Cert.ReferenceGwUpIdeal.Facts₀.concatenates_S1x2048x2048_S1x2048x2048_S1x2048x2048_S1x2048x2048_S4x2048x2048_d0 _ 2 (show 2 < 4 by decide) Cert.ReferenceGwUpIdeal.S1x2048x2048 _ rfl rfl 2 rfl (ix3 0 i j) ?_ ?_).trans ((part2 x z i j).trans (congrArg _ ?_))
    · intro b hb
      match b with
      | ⟨0, _⟩ => exact absurd rfl hb
      | ⟨1, _⟩ => rfl
      | ⟨2, _⟩ => rfl
    · rfl
    · refine funext fun b => Fin.ext ?_
      match b with
      | ⟨0, _⟩ => rfl
      | ⟨1, _⟩ => exact (show 4096 + j.val = 2048 * 2 + j.val by omega).trans hl.symm
  | ⟨3, _⟩ =>
    refine (concatenate_apply_piece (t := S4x2048x2048) 0 (parts x z)
      Cert.ReferenceGwUpIdeal.Facts₀.concatenates_S1x2048x2048_S1x2048x2048_S1x2048x2048_S1x2048x2048_S4x2048x2048_d0 _ 3 (show 3 < 4 by decide) Cert.ReferenceGwUpIdeal.S1x2048x2048 _ rfl rfl 3 rfl (ix3 0 i j) ?_ ?_).trans ((part3 x z i j).trans (congrArg _ ?_))
    · intro b hb
      match b with
      | ⟨0, _⟩ => exact absurd rfl hb
      | ⟨1, _⟩ => rfl
      | ⟨2, _⟩ => rfl
    · rfl
    · refine funext fun b => Fin.ext ?_
      match b with
      | ⟨0, _⟩ => rfl
      | ⟨1, _⟩ => exact (show 6144 + j.val = 2048 * 3 + j.val by omega).trans hl.symm

/-- The result array. -/
theorem result : (dats m 0 c).arrAt 2 cfg0.N = val_main_v13 (F := Ideal) (a0 m c) (a2 m c) := by
  refine (dats m 0 c).arrAt_eq_of_covers 2 _ (by decide +kernel) fun t hf y => ?_
  blk_simp
  rw [after0_2]
  obtain ⟨i, j, rfl⟩ : ∃ (i j : Fin 1024), y = ix3 0 i j := ⟨y 1, y 2, by
    funext b
    match b with
    | ⟨0, _⟩ => exact Fin.ext (Nat.lt_one_iff.1 (y 0).isLt)
    | ⟨1, _⟩ => rfl
    | ⟨2, _⟩ => rfl⟩
  refine (out_at _ _ i j).trans ((Cert.Products.sum_eq
    (fun k => (w0 (V m c) t k i).trans (congrFun (v0_eq m c) _))
    (fun k => (w1 (V m c) t k j).trans (congrFun (v1_eq m c) _))).trans
      ((ref_at (a0 m c) (a2 m c) ⟨t.val % 8 / 2, blk_lt t⟩ ⟨1024 * (t.val / 8) + i.val, row_lt t i⟩ ⟨1024 * (t.val % 8 % 2) + j.val, sub_lt t j⟩
        ⟨1024 * (t.val % 8) + j.val, col_lt t j⟩
        (by show 1024 * (t.val % 8) + j.val = 2048 * (t.val % 8 / 2) + (1024 * (t.val % 8 % 2) + j.val); omega)).symm.trans ?_))
  refine congrArg _ ?_
  blk_ext [i2]
  · show 1024 * (t.val / 8) + i.val = t.val / 8 * 1024 + i.val
    omega
  · show 1024 * (t.val % 8 % 2) + j.val = t.val % 8 % 2 * 1024 + j.val
    omega

/-- Over the extended reals the call is the reference. -/
theorem same : Cert.algebraic_KernelGwUpIdeal_ReferenceGwUpIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwUpIdeal.defs _ _).mono (fun r h c => ?_) (Cert.ReferenceGwUpIdeal.Value.run (F := Ideal) m' g')
    have h := h c
    have e := hargs c
    refine ⟨?_, h.2⟩
    refine (h.1.trans (Cert.ReferenceGwUpIdeal.Read.val_main_v13_eq _ _)).trans ?_
    refine Eq.trans ?_ (result m c).symm
    exact congr (congrArg _ e.1) e.2.2

end Cert.KernelGwUpIdeal.Hand
-- ==== Proof.Dh2.lean ====
module

public import proofs.«01_k».proof.Defs
public import proofs.«01_k».proof.Proof.Products
public import proofs.«01_k».proof.Proof.Gen.KernelDh2Ideal.Value
public import proofs.«01_k».proof.Proof.Gen.ReferenceDh2Ideal.Read
public import proofs.«01_k».proof.Proof.Gen.ReferenceDh2Ideal.Run
public import Idealize.ShloMosaic.Lib.Pipeline.ValueKit.Geometry
public import Idealize.ShloMosaic.Lib.Pipeline.ValueKit.Acc

/-!
  The gradient of the MLP's input: a block of the result is the sum of four products, each over a quarter of the hidden width, kept in
  the scratch buffer between the grid's points; together they are the sum over the whole hidden width.
-/

@[expose] public section

set_option maxRecDepth 8192

noncomputable section

namespace Cert.KernelDh2Ideal.Hand

open Cert.KernelDh2Ideal Cert.KernelDh2Ideal.Gen
open Idealize.ShloMosaic
open Idealize.ShloMosaic.TcCoe Idealize.ShloMosaic.ValueIdx Idealize.ShloMosaic.ValueKit Idealize.ShloMosaic.StableHlo
open Idealize.SL.Sem
open Cert.ReferenceDh2Ideal.Read (val_main_v3 val_main_v3_apply)

abbrev X1 := (⟨S2048x8192, .f32⟩ : BufTy).Contents (Elt Ideal)

variable (m : (ℓ : Loc nD τ sig) → Buf (Elt Ideal) ℓ) (c : Dev nD)

/-- The weight. -/
abbrev a1 : X1 := m ((c : Thread nD τ).loc main_arg1)

/-- The gradient of the product. -/
abbrev a2 : X1 := m ((c : Thread nD τ).loc main_arg2)

theorem v0_eq : V m c main_v0 = (fun i => (a2 m c) i : (⟨S2048x8192, .bf16⟩ : BufTy).Contents (Elt Ideal)) := by
  unfold V
  after_results_simp
  rfl

/-- A weight's four column blocks, one after the other. -/
theorem blocks_at (w : X1) (s : Fin 4) (k j : Fin 2048) (l : Fin 8192) (hl : l.val = 2048 * s.val + j.val) :
    (truncf (F := Ideal) .bf16 (transpose S4x2048x2048 [1, 0, 2] (shapeCast S2048x4x2048 w shapeCasts_S2048x8192_S2048x4x2048)
      transposes_S2048x4x2048_S4x2048x2048_1_0_2) bitsLt_bf16_f32 : (⟨S4x2048x2048, .bf16⟩ : BufTy).Contents (Elt Ideal)) (ix3 s k j) = w (ix2 k l) := by
  show transpose S4x2048x2048 [1, 0, 2] (shapeCast S2048x4x2048 w shapeCasts_S2048x8192_S2048x4x2048)
    transposes_S2048x4x2048_S4x2048x2048_1_0_2 (ix3 s k j) = _
  refine (transpose_apply _ _ transposes_S2048x4x2048_S4x2048x2048_1_0_2 (ix3 s k j) (ix3 k s j) (fun b => match b with
    | ⟨0, _⟩ => rfl
    | ⟨1, _⟩ => rfl
    | ⟨2, _⟩ => rfl)).trans ?_
  refine shapeCast_apply _ _ (ix3 k s j) (ix2 k l) ?_
  rw [Shape.rowMajor_val_two, Shape.rowMajor_val_three]
  show k.val * 8192 + l.val = (k.val * 4 + s.val) * 2048 + j.val
  omega

theorem v3_eq : V m c main_v3 = (truncf (F := Ideal) .bf16 (transpose S4x2048x2048 [1, 0, 2] (shapeCast S2048x4x2048 (a1 m c) shapeCasts_S2048x8192_S2048x4x2048)
      transposes_S2048x4x2048_S4x2048x2048_1_0_2) bitsLt_bf16_f32 : (⟨S4x2048x2048, .bf16⟩ : BufTy).Contents (Elt Ideal)) := by
  unfold V
  after_results_simp
  rfl

theorem i0 : ∀ t : Fin cfg0.N, win0_0.index t = ![t.val / 8, t.val % 4] := (by decide +kernel : ∀ t : Fin grid0.N, _)
theorem i1 : ∀ t : Fin cfg0.N, win0_1.index t = ![t.val % 4, t.val % 8 / 4, 0] := (by decide +kernel : ∀ t : Fin grid0.N, _)
theorem i2 : ∀ t : Fin cfg0.N, win0_2.index t = ![t.val / 8, t.val % 8 / 4] := (by decide +kernel : ∀ t : Fin grid0.N, _)

theorem row_lt (t : Fin cfg0.N) (i : Fin 1024) : 1024 * (t.val / 8) + i.val < 2048 := by
  have := t.isLt; have : cfg0.N = 16 := rfl; omega
theorem col_lt (t : Fin cfg0.N) (j : Fin 1024) : 1024 * (t.val % 8 / 4) + j.val < 2048 := by omega
theorem in_lt (t : Fin cfg0.N) (k : Fin 2048) : k.val + 2048 * (t.val % 4) < 8192 := by omega
theorem blk_lt (t : Fin cfg0.N) : t.val % 4 < 4 := by omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k)
      = X main_v0 (ix2 ⟨1024 * (t.val / 8) + i.val, row_lt t i⟩ ⟨k.val + 2048 * (t.val % 4), in_lt t k⟩) := by
  blk_simp
  refine congrArg _ ?_
  blk_ext [i0]
  · show t.val / 8 * 1024 + i.val = 1024 * (t.val / 8) + i.val
    omega
  · show t.val % 4 * 2048 + k.val = k.val + 2048 * (t.val % 4)
    omega

theorem w1 {c : Dev nD} (X : (b : Ref sig .tc) → Buf (Elt Ideal) ((c : Thread nD τ).loc b)) (t : Fin cfg0.N) (j : Fin 1024) (k : Fin 2048) :
    ((cfg0.win 1).blk t).view.read (Elt Ideal) (X (Pipeline.arrRef spec0 1)) (ix3 0 j k)
      = X main_v3 (ix3 ⟨t.val % 4, blk_lt t⟩ ⟨1024 * (t.val % 8 / 4) + j.val, col_lt t j⟩ k) := by
  blk_simp
  refine congrArg _ ?_
  blk_ext [i1]
  show t.val % 8 / 4 * 1024 + j.val = 1024 * (t.val % 8 / 4) + j.val
  omega

/-- One point's product. -/
theorem pay1_at (x : Vec Ideal S1024x2048 .bf16) (y : Vec Ideal S1x1024x2048 .bf16) (i j : Fin 1024) :
    k0_pay1 x y (ix2 i j) = ∑ k : Fin 2048, (x (ix2 i k) : EReal) * y (ix3 0 j k) := by
  unfold k0_pay1
  simp only [shapeCast_self]
  refine (Cert.Products.nt (φ₁ := .bf16) (φ₂ := .bf16) x (shapeCast S1024x2048 y shapeCasts_S1x1024x2048_S1024x2048) i j).trans ?_
  refine Cert.Products.sum_eq (fun k => rfl) (fun k => ?_)
  refine shapeCast_apply _ _ (ix2 j k) (ix3 0 j k) ?_
  rw [Shape.rowMajor_val_two, Shape.rowMajor_val_three]
  show (0 * 1024 + j.val) * 2048 + k.val = j.val * 2048 + k.val
  omega

/-- A term of the sum over the hidden width. -/
abbrev term (x y : X1) (r l : Fin 2048) (k : Fin 8192) : EReal := (x (ix2 r k) : EReal) * y (ix2 l k)

/-- What a point adds. -/
theorem part_at (t : Fin cfg0.N) (i j : Fin 1024) :
    k0_pay1 (iblk m c 0 t) (iblk m c 1 t) (ix2 i j)
      = ∑ k : Fin 2048, term (a2 m c) (a1 m c) ⟨1024 * (t.val / 8) + i.val, row_lt t i⟩ ⟨1024 * (t.val % 8 / 4) + j.val, col_lt t j⟩
          ⟨k.val + 2048 * (t.val % 4), in_lt t k⟩ :=
  (pay1_at _ _ i j).trans (Cert.Products.sum_eq
    (fun k => (w0 (V m c) t i k).trans (congrFun (v0_eq m c) _))
    (fun k => (w1 (V m c) t j k).trans ((congrFun (v3_eq m c) _).trans (blocks_at (a1 m c) _ _ k ⟨k.val + 2048 * (t.val % 4), in_lt t k⟩
      (by show k.val + 2048 * (t.val % 4) = 2048 * (t.val % 4) + k.val; omega)))))

theorem pay2_at (x : Vec Ideal S1024x2048 .bf16) (y : Vec Ideal S1x1024x2048 .bf16) : k0_pay2 x y = k0_pay1 x y := by
  unfold k0_pay2
  simp only [shapeCast_self]

theorem pay3_at (x : Vec Ideal S1024x2048 .bf16) (y : Vec Ideal S1x1024x2048 .bf16) (z : Vec Ideal S1024x1024 .f32) (i j : Fin 1024) :
    k0_pay3 x y z (ix2 i j) = (z (ix2 i j) : EReal) + k0_pay1 x y (ix2 i j) := by
  unfold k0_pay3
  simp only [shapeCast_self]
  rfl

theorem pay4_at (x : Vec Ideal S1024x2048 .bf16) (y : Vec Ideal S1x1024x2048 .bf16) (z : Vec Ideal S1024x1024 .f32) (i j : Fin 1024) :
    k0_pay4 x y z (ix2 i j) = (z (ix2 i j) : EReal) + k0_pay1 x y (ix2 i j) := by
  unfold k0_pay4
  rfl

theorem scratch_read (X : Vec Ideal S1024x1024 .f32) :
    View.read (Elt Ideal) (View.whole cc0_scratch0) ((Memref.isWhole_whole cc0_scratch0).unread X) = X :=
  (Memref.isWhole_whole cc0_scratch0).read_unread X

/-- The first point of four leaves its product in the scratch buffer. -/
theorem first (t : Fin cfg0.N) (h : t.val % 4 = 0) :
    (outsAt0 m c t.val t.isLt).2 = k0_pay1 (iblk m c 0 t) (iblk m c 1 t) := by
  rw [outsAt0_A m c t h (by omega) (by omega)]
  dsimp only
  frame_out
  exact pay2_at _ _

/-- The second and the third add theirs. -/
theorem next (t : Fin cfg0.N) (h : 1 ≤ t.val % 4 ∧ t.val % 4 ≤ 2) (i j : Fin 1024) :
    (outsAt0 m c t.val t.isLt).2 (ix2 i j)
      = ((outsAt0 m c (t.val - 1) (Nat.lt_of_le_of_lt (Nat.sub_le _ _) t.isLt)).2 (ix2 i j) : EReal)
        + k0_pay1 (iblk m c 0 t) (iblk m c 1 t) (ix2 i j) := by
  rw [outsAt0_B m c t (by omega) h (by omega)]
  dsimp only
  frame_out
  exact (pay3_at _ _ _ i j).trans (congrArg (· + _) (congrFun (scratch_read _) (ix2 i j)))

/-- The fourth adds its own and writes the block. -/
theorem last (t : Fin cfg0.N) (h : t.val % 4 = 3) (i j : Fin 1024) :
    (outsAt0 m c t.val t.isLt).1 (ix2 i j)
      = ((outsAt0 m c (t.val - 1) (Nat.lt_of_le_of_lt (Nat.sub_le _ _) t.isLt)).2 (ix2 i j) : EReal)
        + k0_pay1 (iblk m c 0 t) (iblk m c 1 t) (ix2 i j) := by
  rw [outsAt0_C m c t (by omega) (by omega) h]
  dsimp only
  frame_out
  exact (pay4_at _ _ _ i j).trans (congrArg (· + _) (congrFun (scratch_read _) (ix2 i j)))

theorem back_lt (t : Fin cfg0.N) (n : ℕ) : t.val - n < cfg0.N := Nat.lt_of_le_of_lt (Nat.sub_le _ _) t.isLt

/-- A part of the sum: the quarter `s` of the hidden width. -/
abbrev quarter (x y : X1) (r l : Fin 2048) (s : Fin 4) : EReal :=
  ∑ k : Fin 2048, term x y r l ⟨k.val + 2048 * s.val, by have := s.isLt; have := k.isLt; omega⟩

/-- What a point adds is its quarter. -/
theorem part_quarter (t u : Fin cfg0.N) (s : Fin 4) (h4 : u.val / 4 = t.val / 4) (hs : u.val % 4 = s.val) (i j : Fin 1024) :
    k0_pay1 (iblk m c 0 u) (iblk m c 1 u) (ix2 i j)
      = quarter (a2 m c) (a1 m c) ⟨1024 * (t.val / 8) + i.val, row_lt t i⟩ ⟨1024 * (t.val % 8 / 4) + j.val, col_lt t j⟩ s := by
  refine (part_at m c u i j).trans (Finset.sum_congr rfl fun k _ => ?_)
  have er : (⟨1024 * (u.val / 8) + i.val, row_lt u i⟩ : Fin 2048) = ⟨1024 * (t.val / 8) + i.val, row_lt t i⟩ :=
    Fin.ext (by show 1024 * (u.val / 8) + i.val = 1024 * (t.val / 8) + i.val; omega)
  have el : (⟨1024 * (u.val % 8 / 4) + j.val, col_lt u j⟩ : Fin 2048) = ⟨1024 * (t.val % 8 / 4) + j.val, col_lt t j⟩ :=
    Fin.ext (by show 1024 * (u.val % 8 / 4) + j.val = 1024 * (t.val % 8 / 4) + j.val; omega)
  have ek : (⟨k.val + 2048 * (u.val % 4), in_lt u k⟩ : Fin 8192) = ⟨k.val + 2048 * s.val, by have := s.isLt; have := k.isLt; omega⟩ :=
    Fin.ext (by show k.val + 2048 * (u.val % 4) = k.val + 2048 * s.val; omega)
  rw [er, el, ek]

/-- The block the fourth point writes is the sum of the four quarters. -/
theorem total (t : Fin cfg0.N) (h : t.val % 4 = 3) (i j : Fin 1024) :
    (outsAt0 m c t.val t.isLt).1 (ix2 i j)
      = ∑ s : Fin 4, quarter (a2 m c) (a1 m c) ⟨1024 * (t.val / 8) + i.val, row_lt t i⟩ ⟨1024 * (t.val % 8 / 4) + j.val, col_lt t j⟩ s := by
  have e3 := last m c t h i j
  have e2 := next m c ⟨t.val - 1, back_lt t 1⟩ (by dsimp only; omega) i j
  have e1 := next m c ⟨t.val - 1 - 1, by have := t.isLt; omega⟩ (by dsimp only; omega) i j
  have e0 := congrFun (first m c ⟨t.val - 1 - 1 - 1, by have := t.isLt; omega⟩ (by dsimp only; omega)) (ix2 i j)
  dsimp only at e2 e1 e0
  rw [e3, e2, e1, e0]
  rw [part_quarter m c t ⟨t.val - 1 - 1 - 1, by have := t.isLt; omega⟩ 0 (by dsimp only; omega) (by dsimp only; show _ = 0; omega) i j,
    part_quarter m c t ⟨t.val - 1 - 1, by have := t.isLt; omega⟩ 1 (by dsimp only; omega) (by dsimp only; show _ = 1; omega) i j,
    part_quarter m c t ⟨t.val - 1, by have := t.isLt; omega⟩ 2 (by dsimp only; omega) (by dsimp only; show _ = 2; omega) i j,
    part_quarter m c t t 3 rfl (by show _ = 3; omega) i j]
  rw [Fin.sum_univ_four]

/-- The reference's product at an index. -/
theorem ref_at (y x : X1) (r l : Fin 2048) :
    val_main_v3 (F := Ideal) y x (ix2 r l) = ∑ s : Fin 4, quarter x y r l s := by
  rw [val_main_v3_apply]
  refine Eq.trans (Cert.Products.sum_eq (f' := fun k => x (ix2 r k)) (g' := fun k => y (ix2 l k))
    (fun k => congrArg _ ?_) (fun k => congrArg _ ?_)) (Cert.Products.split (P := 4) (K := 2048) rfl (fun k => term x y r l k)) <;>
  · funext z
    match z with
    | ⟨0, _⟩ => rfl
    | ⟨1, _⟩ => rfl

/-- The gradient of the MLP's input. -/
theorem result : (dats m 0 c).arrAt 2 cfg0.N = val_main_v3 (F := Ideal) (a1 m c) (a2 m c) := by
  refine (dats m 0 c).arrAt_eq_of_covers 2 _ (by decide +kernel) fun t hf y => ?_
  have h3 : t.val % 4 = 3 := (flush0_2 t).mp hf
  blk_simp
  rw [after0_2]
  obtain ⟨i, j, rfl⟩ : ∃ (i j : Fin 1024), y = ix2 i j := ⟨y 0, y 1, ValueIdx.eq_ix2 y⟩
  refine (total m c t h3 i j).trans ((ref_at (a1 m c) (a2 m c) _ _).symm.trans ?_)
  refine congrArg _ ?_
  blk_ext [i2]
  · show 1024 * (t.val / 8) + i.val = t.val / 8 * 1024 + i.val
    omega
  · show 1024 * (t.val % 8 / 4) + j.val = t.val % 8 / 4 * 1024 + j.val
    omega

/-- Over the extended reals the call is the reference. -/
theorem same : Cert.algebraic_KernelDh2Ideal_ReferenceDh2Ideal := by
  intro m g m' g' _ hargs
  refine ⟨fun c => (dats m 0 c).arrAt 2 cfg0.N, ?_⟩
  refine ⟨(θ_run defs _ _).mono (fun r h c => h c) (Value.run_blocks m g), ?_⟩
  refine (θ_run Cert.ReferenceDh2Ideal.defs _ _).mono (fun r h c => ?_) (Cert.ReferenceDh2Ideal.Value.run (F := Ideal) m' g')
  have h := h c
  have e := hargs c
  refine ⟨?_, h.2⟩
  refine (h.1.trans (Cert.ReferenceDh2Ideal.Read.val_main_v3_eq _ _)).trans ?_
  refine Eq.trans ?_ (result m c).symm
  exact congr (congrArg _ e.2.1) e.2.2

end Cert.KernelDh2Ideal.Hand
-- ==== Proof.Out.lean ====
module

public import proofs.«01_k».proof.Defs
public import proofs.«01_k».proof.Proof.Products
public import proofs.«01_k».proof.Proof.Gen.KernelOutIdeal.Value
public import proofs.«01_k».proof.Proof.Gen.ReferenceOutIdeal.Read
public import proofs.«01_k».proof.Proof.Gen.ReferenceOutIdeal.Run
public import Idealize.ShloMosaic.Lib.Pipeline.ValueKit.Geometry

/-!
  The mixers' output projection, forward: each grid point's block is whole rows of the mixers' output by whole columns of
  the weight.
-/

@[expose] public section

set_option maxRecDepth 8192

noncomputable section

namespace Cert.KernelOutIdeal.Hand

open Cert.KernelOutIdeal Cert.KernelOutIdeal.Gen
open Idealize.ShloMosaic
open Idealize.ShloMosaic.TcCoe Idealize.ShloMosaic.ValueIdx Idealize.ShloMosaic.ValueKit Idealize.ShloMosaic.StableHlo
open Idealize.SL.Sem
open Cert.ReferenceOutIdeal.Read (val_main_v0 val_main_v0_apply)

abbrev X0 := (⟨S2048x2048, .f32⟩ : BufTy).Contents (Elt Ideal)
abbrev X1 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)

theorem v0_eq : V m c main_v0 = (fun i => (a0 m c) i : (⟨S2048x2048, .bf16⟩ : BufTy).Contents (Elt Ideal)) := by
  unfold V
  after_results_simp
  rfl

theorem v1_eq : V m c main_v1 = (fun i => (a1 m c) i : (⟨S2048x2048, .bf16⟩ : BufTy).Contents (Elt Ideal)) := by
  unfold V
  after_results_simp
  rfl

theorem i0 : ∀ t : Fin cfg0.N, win0_0.index t = ![t.val / 2, 0] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 2048 := by
  have := t.isLt; have : cfg0.N = 4 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v0 (ix2 ⟨1024 * (t.val / 2) + i.val, row_lt t i⟩ k) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v1 (ix2 k ⟨1024 * (t.val % 2) + j.val, col_lt t j⟩) := by
  blk_simp
  refine congrArg _ ?_
  blk_ext [i1]
  show t.val % 2 * 1024 + j.val = 1024 * (t.val % 2) + j.val
  omega

/-- What a point's body leaves. -/
theorem out_at (x : Vec Ideal S1024x2048 .bf16) (y : Vec Ideal S2048x1024 .bf16) (i : Fin 1024) (j : Fin 1024) :
    out0_2 x y (ix2 i j) = ∑ k : Fin 2048, (x (ix2 i k) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nn (φ₁ := .bf16) (φ₂ := .bf16) x y i j

/-- The reference at an index. -/
theorem ref_at (x0 : X0) (x1 : X1) (i : Fin 2048) (j : Fin 2048) :
    val_main_v0 (F := Ideal) x0 x1 (ix2 i j) = ∑ k : Fin 2048, (x0 (ix2 i k) : EReal) * x1 (ix2 k j) := by
  refine (val_main_v0_apply x0 x1 (ix2 i j)).trans ?_
  refine Cert.Products.sum_eq (fun k => congrArg _ ?_) (fun k => congrArg _ ?_) <;>
  · funext z
    match z with
    | ⟨0, _⟩ => rfl
    | ⟨1, _⟩ => rfl

/-- The result array. -/
theorem result : (dats m 0 c).arrAt 2 cfg0.N = val_main_v0 (F := Ideal) (a0 m c) (a1 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, ValueIdx.eq_ix2 y⟩
  refine (out_at _ _ i j).trans ((Cert.Products.sum_eq
    (fun k => (w0 (V m c) t i k).trans (congrFun (v0_eq m c) _))
    (fun k => (w1 (V m c) t k j).trans (congrFun (v1_eq m c) _))).trans
      ((ref_at (a0 m c) (a1 m c) ⟨1024 * (t.val / 2) + i.val, row_lt t i⟩ ⟨1024 * (t.val % 2) + j.val, col_lt t j⟩).symm.trans ?_))
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelOutIdeal_ReferenceOutIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceOutIdeal.defs _ _).mono (fun r h c => ?_) (Cert.ReferenceOutIdeal.Value.run (F := Ideal) m' g')
    have h := h c
    have e := hargs c
    refine ⟨?_, h.2⟩
    refine (h.1.trans (Cert.ReferenceOutIdeal.Read.val_main_v0_eq _ _)).trans ?_
    refine Eq.trans ?_ (result m c).symm
    exact congr (congrArg _ e.1) e.2

end Cert.KernelOutIdeal.Hand
-- ==== Proof.GwOut.lean ====
module

public import proofs.«01_k».proof.Defs
public import proofs.«01_k».proof.Proof.Products
public import proofs.«01_k».proof.Proof.Gen.KernelGwOutIdeal.Value
public import proofs.«01_k».proof.Proof.Gen.ReferenceGwOutIdeal.Read
public import proofs.«01_k».proof.Proof.Gen.ReferenceGwOutIdeal.Run
public import Idealize.ShloMosaic.Lib.Pipeline.ValueKit.Geometry

/-!
  The gradient of the output projection's weight: each grid point's block is whole columns of the mixers' output by whole
  columns of the gradient, summed over the rows.
-/

@[expose] public section

set_option maxRecDepth 8192

noncomputable section

namespace Cert.KernelGwOutIdeal.Hand

open Cert.KernelGwOutIdeal Cert.KernelGwOutIdeal.Gen
open Idealize.ShloMosaic
open Idealize.ShloMosaic.TcCoe Idealize.ShloMosaic.ValueIdx Idealize.ShloMosaic.ValueKit Idealize.ShloMosaic.StableHlo
open Idealize.SL.Sem
open Cert.ReferenceGwOutIdeal.Read (val_main_v4 val_main_v1_apply val_main_v2_apply)

abbrev X0 := (⟨S2048x2048, .f32⟩ : BufTy).Contents (Elt Ideal)
abbrev X1 := (⟨S2048x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a0 m c) i : (⟨S2048x2048, .bf16⟩ : BufTy).Contents (Elt Ideal)) := by
  unfold V
  after_results_simp
  rfl

theorem v1_eq : V m c main_v1 = (fun i => (a2 m c) i : (⟨S2048x2048, .bf16⟩ : BufTy).Contents (Elt Ideal)) := by
  unfold V
  after_results_simp
  rfl

theorem i0 : ∀ t : Fin cfg0.N, win0_0.index t = ![0, t.val / 2] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 2048 := by
  have := t.isLt; have : cfg0.N = 4 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (k : Fin 2048) (i : Fin 1024) :
    ((cfg0.win 0).blk t).view.read (Elt Ideal) (X (Pipeline.arrRef spec0 0)) (ix2 k i) = X main_v0 (ix2 k ⟨1024 * (t.val / 2) + i.val, row_lt t i⟩) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v1 (ix2 k ⟨1024 * (t.val % 2) + j.val, col_lt t j⟩) := by
  blk_simp
  refine congrArg _ ?_
  blk_ext [i1]
  show t.val % 2 * 1024 + j.val = 1024 * (t.val % 2) + j.val
  omega

/-- Columns by columns. -/
theorem tn (x : FVec Ideal S2048x1024 .bf16) (y : FVec Ideal S2048x1024 .bf16) (a : Fin 1024) (b : Fin 1024) :
    FloatOps.matmul dot_S2048x1024_S2048x1024_S1024x1024_0_0_1_1_n_n none x y (constant S1024x1024 .f32 0x00000000#32) (ix2 a b)
      = ∑ k : Fin 2048, (x (ix2 k a) : EReal) * y (ix2 k b) := by
  rw [Ideal.matmul_constant_zero_apply, ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b)
      ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b)
      ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x : Vec Ideal S2048x1024 .bf16) (y : Vec Ideal S2048x1024 .bf16) (i : Fin 1024) (j : Fin 1024) :
    out0_2 x y (ix2 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact tn x y i j

/-- The reference at an index. -/
theorem ref_at (x0 : X0) (x2 : X2) (i : Fin 2048) (j : Fin 2048) :
    val_main_v4 (F := Ideal) x0 x2 (ix2 i j) = ∑ k : Fin 2048, (x0 (ix2 k i) : EReal) * x2 (ix2 k j) := by
  refine (val_main_v2_apply x0 x2 (ix2 i j)).trans ((val_main_v1_apply x0 x2 _).trans ?_)
  refine Finset.sum_congr rfl fun k _ => ?_
  rw [mul_comm]
  refine congr (congrArg _ (congrArg _ ?_)) (congrArg _ ?_) <;>
  · funext z
    match z with
    | ⟨0, _⟩ => rfl
    | ⟨1, _⟩ => rfl

/-- The result array. -/
theorem result : (dats m 0 c).arrAt 2 cfg0.N = val_main_v4 (F := Ideal) (a0 m c) (a2 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, ValueIdx.eq_ix2 y⟩
  refine (out_at _ _ i j).trans ((Cert.Products.sum_eq
    (fun k => (w0 (V m c) t k i).trans (congrFun (v0_eq m c) _))
    (fun k => (w1 (V m c) t k j).trans (congrFun (v1_eq m c) _))).trans
      ((ref_at (a0 m c) (a2 m c) ⟨1024 * (t.val / 2) + i.val, row_lt t i⟩ ⟨1024 * (t.val % 2) + j.val, col_lt t j⟩).symm.trans ?_))
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelGwOutIdeal_ReferenceGwOutIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwOutIdeal.defs _ _).mono (fun r h c => ?_) (Cert.ReferenceGwOutIdeal.Value.run (F := Ideal) m' g')
    have h := h c
    have e := hargs c
    refine ⟨?_, h.2⟩
    refine (h.1.trans (Cert.ReferenceGwOutIdeal.Read.val_main_v4_eq _ _)).trans ?_
    refine Eq.trans ?_ (result m c).symm
    exact congr (congrArg _ e.1) e.2.2

end Cert.KernelGwOutIdeal.Hand
-- ==== Proof.Dycat.lean ====
module

public import proofs.«01_k».proof.Defs
public import proofs.«01_k».proof.Proof.Products
public import proofs.«01_k».proof.Proof.Gen.KernelDycatIdeal.Value
public import proofs.«01_k».proof.Proof.Gen.ReferenceDycatIdeal.Read
public import proofs.«01_k».proof.Proof.Gen.ReferenceDycatIdeal.Run
public import Idealize.ShloMosaic.Lib.Pipeline.ValueKit.Geometry

/-!
  The gradient of the mixers' output: each grid point's block is whole rows of the projection's gradient by whole rows of
  the weight.
-/

@[expose] public section

set_option maxRecDepth 8192

noncomputable section

namespace Cert.KernelDycatIdeal.Hand

open Cert.KernelDycatIdeal Cert.KernelDycatIdeal.Gen
open Idealize.ShloMosaic
open Idealize.ShloMosaic.TcCoe Idealize.ShloMosaic.ValueIdx Idealize.ShloMosaic.ValueKit Idealize.ShloMosaic.StableHlo
open Idealize.SL.Sem
open Cert.ReferenceDycatIdeal.Read (val_main_v3 val_main_v3_apply)

abbrev X0 := (⟨S2048x2048, .f32⟩ : BufTy).Contents (Elt Ideal)
abbrev X1 := (⟨S2048x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a2 m c) i : (⟨S2048x2048, .bf16⟩ : BufTy).Contents (Elt Ideal)) := by
  unfold V
  after_results_simp
  rfl

theorem v1_eq : V m c main_v1 = (fun i => (a1 m c) i : (⟨S2048x2048, .bf16⟩ : BufTy).Contents (Elt Ideal)) := by
  unfold V
  after_results_simp
  rfl

theorem i0 : ∀ t : Fin cfg0.N, win0_0.index t = ![t.val / 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 2048 := by
  have := t.isLt; have : cfg0.N = 4 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v0 (ix2 ⟨1024 * (t.val / 2) + i.val, row_lt t i⟩ k) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (j : Fin 1024) (k : Fin 2048) :
    ((cfg0.win 1).blk t).view.read (Elt Ideal) (X (Pipeline.arrRef spec0 1)) (ix2 j k) = X main_v1 (ix2 ⟨1024 * (t.val % 2) + j.val, col_lt t j⟩ k) := by
  blk_simp
  refine congrArg _ ?_
  blk_ext [i1]
  show t.val % 2 * 1024 + j.val = 1024 * (t.val % 2) + j.val
  omega

/-- What a point's body leaves. -/
theorem out_at (x : Vec Ideal S1024x2048 .bf16) (y : Vec Ideal S1024x2048 .bf16) (i : Fin 1024) (j : Fin 1024) :
    out0_2 x y (ix2 i j) = ∑ k : Fin 2048, (x (ix2 i k) : EReal) * y (ix2 j k) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nt (φ₁ := .bf16) (φ₂ := .bf16) x y i j

/-- The reference at an index. -/
theorem ref_at (x1 : X1) (x2 : X2) (i : Fin 2048) (j : Fin 2048) :
    val_main_v3 (F := Ideal) x1 x2 (ix2 i j) = ∑ k : Fin 2048, (x2 (ix2 i k) : EReal) * x1 (ix2 j k) := by
  refine (val_main_v3_apply x1 x2 (ix2 i j)).trans ?_
  refine Cert.Products.sum_eq (fun k => congrArg _ ?_) (fun k => congrArg _ ?_) <;>
  · funext z
    match z with
    | ⟨0, _⟩ => rfl
    | ⟨1, _⟩ => rfl

/-- The result array. -/
theorem result : (dats m 0 c).arrAt 2 cfg0.N = val_main_v3 (F := Ideal) (a1 m c) (a2 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, ValueIdx.eq_ix2 y⟩
  refine (out_at _ _ i j).trans ((Cert.Products.sum_eq
    (fun k => (w0 (V m c) t i k).trans (congrFun (v0_eq m c) _))
    (fun k => (w1 (V m c) t j k).trans (congrFun (v1_eq m c) _))).trans
      ((ref_at (a1 m c) (a2 m c) ⟨1024 * (t.val / 2) + i.val, row_lt t i⟩ ⟨1024 * (t.val % 2) + j.val, col_lt t j⟩).symm.trans ?_))
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelDycatIdeal_ReferenceDycatIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceDycatIdeal.defs _ _).mono (fun r h c => ?_) (Cert.ReferenceDycatIdeal.Value.run (F := Ideal) m' g')
    have h := h c
    have e := hargs c
    refine ⟨?_, h.2⟩
    refine (h.1.trans (Cert.ReferenceDycatIdeal.Read.val_main_v3_eq _ _)).trans ?_
    refine Eq.trans ?_ (result m c).symm
    exact congr (congrArg _ e.2.1) e.2.2

end Cert.KernelDycatIdeal.Hand
-- ==== Proof.Kv.lean ====
module

public import proofs.«01_k».proof.Defs
public import proofs.«01_k».proof.Proof.Products
public import proofs.«01_k».proof.Proof.Gen.KernelKvIdeal.Value
public import proofs.«01_k».proof.Proof.Gen.ReferenceKvIdeal.Read
public import proofs.«01_k».proof.Proof.Gen.ReferenceKvIdeal.Run
public import Idealize.ShloMosaic.Lib.Pipeline.ValueKit.Geometry

/-!
  The keys and values from their latent rows, forward: each grid point's block is whole rows by whole columns.
-/

@[expose] public section

set_option maxRecDepth 8192

noncomputable section

namespace Cert.KernelKvIdeal.Hand

open Cert.KernelKvIdeal Cert.KernelKvIdeal.Gen
open Idealize.ShloMosaic
open Idealize.ShloMosaic.TcCoe Idealize.ShloMosaic.ValueIdx Idealize.ShloMosaic.ValueKit Idealize.ShloMosaic.StableHlo
open Idealize.SL.Sem
open Cert.ReferenceKvIdeal.Read (val_main_v1 val_main_v0_apply)

abbrev X0 := (⟨S2048x512, .f32⟩ : BufTy).Contents (Elt Ideal)
abbrev X1 := (⟨S512x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)

theorem v0_eq : V m c main_v0 = (fun i => (a0 m c) i : (⟨S2048x512, .bf16⟩ : BufTy).Contents (Elt Ideal)) := by
  unfold V
  after_results_simp
  rfl

theorem v1_eq : V m c main_v1 = (fun i => (a1 m c) i : (⟨S512x2048, .bf16⟩ : BufTy).Contents (Elt Ideal)) := by
  unfold V
  after_results_simp
  rfl

theorem i0 : ∀ t : Fin cfg0.N, win0_0.index t = ![t.val / 2, 0] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 2048 := by
  have := t.isLt; have : cfg0.N = 4 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (i : Fin 1024) (k : Fin 512) :
    ((cfg0.win 0).blk t).view.read (Elt Ideal) (X (Pipeline.arrRef spec0 0)) (ix2 i k) = X main_v0 (ix2 ⟨1024 * (t.val / 2) + i.val, row_lt t i⟩ k) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (k : Fin 512) (j : Fin 1024) :
    ((cfg0.win 1).blk t).view.read (Elt Ideal) (X (Pipeline.arrRef spec0 1)) (ix2 k j) = X main_v1 (ix2 k ⟨1024 * (t.val % 2) + j.val, col_lt t j⟩) := by
  blk_simp
  refine congrArg _ ?_
  blk_ext [i1]
  show t.val % 2 * 1024 + j.val = 1024 * (t.val % 2) + j.val
  omega

/-- What a point's body leaves. -/
theorem out_at (x : Vec Ideal S1024x512 .bf16) (y : Vec Ideal S512x1024 .bf16) (i : Fin 1024) (j : Fin 1024) :
    out0_2 x y (ix2 i j) = ∑ k : Fin 512, (x (ix2 i k) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nn (φ₁ := .bf16) (φ₂ := .bf16) x y i j

/-- The reference at an index. -/
theorem ref_at (x0 : X0) (x1 : X1) (i : Fin 2048) (j : Fin 2048) :
    val_main_v1 (F := Ideal) x0 x1 (ix2 i j) = ∑ k : Fin 512, (x0 (ix2 i k) : EReal) * x1 (ix2 k j) := by
  refine (val_main_v0_apply x0 x1 (ix2 i j)).trans ?_
  refine Cert.Products.sum_eq (fun k => congrArg _ ?_) (fun k => congrArg _ ?_) <;>
  · funext z
    match z with
    | ⟨0, _⟩ => rfl
    | ⟨1, _⟩ => rfl

/-- The result array. -/
theorem result : (dats m 0 c).arrAt 2 cfg0.N = val_main_v1 (F := Ideal) (a0 m c) (a1 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, ValueIdx.eq_ix2 y⟩
  refine (out_at _ _ i j).trans ((Cert.Products.sum_eq
    (fun k => (w0 (V m c) t i k).trans (congrFun (v0_eq m c) _))
    (fun k => (w1 (V m c) t k j).trans (congrFun (v1_eq m c) _))).trans
      ((ref_at (a0 m c) (a1 m c) ⟨1024 * (t.val / 2) + i.val, row_lt t i⟩ ⟨1024 * (t.val % 2) + j.val, col_lt t j⟩).symm.trans ?_))
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelKvIdeal_ReferenceKvIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceKvIdeal.defs _ _).mono (fun r h c => ?_) (Cert.ReferenceKvIdeal.Value.run (F := Ideal) m' g')
    have h := h c
    have e := hargs c
    refine ⟨?_, h.2⟩
    refine (h.1.trans (Cert.ReferenceKvIdeal.Read.val_main_v1_eq _ _)).trans ?_
    refine Eq.trans ?_ (result m c).symm
    exact congr (congrArg _ e.1) e.2

end Cert.KernelKvIdeal.Hand
-- ==== Proof.GwUkv.lean ====
module

public import proofs.«01_k».proof.Defs
public import proofs.«01_k».proof.Proof.Products
public import proofs.«01_k».proof.Proof.Gen.KernelGwUkvIdeal.Value
public import proofs.«01_k».proof.Proof.Gen.ReferenceGwUkvIdeal.Read
public import proofs.«01_k».proof.Proof.Gen.ReferenceGwUkvIdeal.Run
public import Idealize.ShloMosaic.Lib.Pipeline.ValueKit.Geometry

/-!
  The gradient of the weight that makes keys and values: each grid point's block is whole columns by whole columns, summed
  over the rows.
-/

@[expose] public section

set_option maxRecDepth 8192

noncomputable section

namespace Cert.KernelGwUkvIdeal.Hand

open Cert.KernelGwUkvIdeal Cert.KernelGwUkvIdeal.Gen
open Idealize.ShloMosaic
open Idealize.ShloMosaic.TcCoe Idealize.ShloMosaic.ValueIdx Idealize.ShloMosaic.ValueKit Idealize.ShloMosaic.StableHlo
open Idealize.SL.Sem
open Cert.ReferenceGwUkvIdeal.Read (val_main_v4 val_main_v1_apply val_main_v2_apply)

abbrev X0 := (⟨S2048x512, .f32⟩ : BufTy).Contents (Elt Ideal)
abbrev X1 := (⟨S512x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a0 m c) i : (⟨S2048x512, .bf16⟩ : BufTy).Contents (Elt Ideal)) := by
  unfold V
  after_results_simp
  rfl

theorem v1_eq : V m c main_v1 = (fun i => (a2 m c) i : (⟨S2048x2048, .bf16⟩ : BufTy).Contents (Elt Ideal)) := by
  unfold V
  after_results_simp
  rfl

theorem i0 : ∀ t : Fin cfg0.N, win0_0.index t = ![0, t.val / 2] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 512) : 512 * (t.val / 2) + i.val < 512 := by
  have := t.isLt; have : cfg0.N = 2 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (k : Fin 2048) (i : Fin 512) :
    ((cfg0.win 0).blk t).view.read (Elt Ideal) (X (Pipeline.arrRef spec0 0)) (ix2 k i) = X main_v0 (ix2 k ⟨512 * (t.val / 2) + i.val, row_lt t i⟩) := by
  blk_simp
  refine congrArg _ ?_
  blk_ext [i0]
  show t.val / 2 * 512 + i.val = 512 * (t.val / 2) + i.val
  omega

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v1 (ix2 k ⟨1024 * (t.val % 2) + j.val, col_lt t j⟩) := by
  blk_simp
  refine congrArg _ ?_
  blk_ext [i1]
  show t.val % 2 * 1024 + j.val = 1024 * (t.val % 2) + j.val
  omega

/-- Columns by columns. -/
theorem tn (x : FVec Ideal S2048x512 .bf16) (y : FVec Ideal S2048x1024 .bf16) (a : Fin 512) (b : Fin 1024) :
    FloatOps.matmul dot_S2048x512_S2048x1024_S512x1024_0_0_1_1_n_n none x y (constant S512x1024 .f32 0x00000000#32) (ix2 a b)
      = ∑ k : Fin 2048, (x (ix2 k a) : EReal) * y (ix2 k b) := by
  rw [Ideal.matmul_constant_zero_apply, ← Equiv.sum_comp (contrEquiv1 dot_S2048x512_S2048x1024_S512x1024_0_0_1_1_n_n 2048 rfl rfl).symm]
  refine Finset.sum_congr rfl fun k _ => ?_
  have hk := contrEquiv1_symm_val dot_S2048x512_S2048x1024_S512x1024_0_0_1_1_n_n 2048 rfl rfl k
  have el : dot_S2048x512_S2048x1024_S512x1024_0_0_1_1_n_n.lhsIdx (ix2 a b)
      ((contrEquiv1 dot_S2048x512_S2048x1024_S512x1024_0_0_1_1_n_n 2048 rfl rfl).symm k) = ix2 k a := by
    funext z; apply Fin.ext
    match z with
    | ⟨0, _⟩ => exact hk
    | ⟨1, _⟩ => rfl
  have er : dot_S2048x512_S2048x1024_S512x1024_0_0_1_1_n_n.rhsIdx (ix2 a b)
      ((contrEquiv1 dot_S2048x512_S2048x1024_S512x1024_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x : Vec Ideal S2048x512 .bf16) (y : Vec Ideal S2048x1024 .bf16) (i : Fin 512) (j : Fin 1024) :
    out0_2 x y (ix2 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact tn x y i j

/-- The reference at an index. -/
theorem ref_at (x0 : X0) (x2 : X2) (i : Fin 512) (j : Fin 2048) :
    val_main_v4 (F := Ideal) x0 x2 (ix2 i j) = ∑ k : Fin 2048, (x0 (ix2 k i) : EReal) * x2 (ix2 k j) := by
  refine (val_main_v2_apply x0 x2 (ix2 i j)).trans ((val_main_v1_apply x0 x2 _).trans ?_)
  refine Finset.sum_congr rfl fun k _ => ?_
  rw [mul_comm]
  refine congr (congrArg _ (congrArg _ ?_)) (congrArg _ ?_) <;>
  · funext z
    match z with
    | ⟨0, _⟩ => rfl
    | ⟨1, _⟩ => rfl

/-- The result array. -/
theorem result : (dats m 0 c).arrAt 2 cfg0.N = val_main_v4 (F := Ideal) (a0 m c) (a2 m c) := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, ValueIdx.eq_ix2 y⟩
  refine (out_at _ _ i j).trans ((Cert.Products.sum_eq
    (fun k => (w0 (V m c) t k i).trans (congrFun (v0_eq m c) _))
    (fun k => (w1 (V m c) t k j).trans (congrFun (v1_eq m c) _))).trans
      ((ref_at (a0 m c) (a2 m c) ⟨512 * (t.val / 2) + i.val, row_lt t i⟩ ⟨1024 * (t.val % 2) + j.val, col_lt t j⟩).symm.trans ?_))
  refine congrArg _ ?_
  blk_ext [i2]
  · show 512 * (t.val / 2) + i.val = t.val / 2 * 512 + i.val
    omega
  · show 1024 * (t.val % 2) + j.val = t.val % 2 * 1024 + j.val
    omega

/-- Over the extended reals the call is the reference. -/
theorem same : Cert.algebraic_KernelGwUkvIdeal_ReferenceGwUkvIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwUkvIdeal.defs _ _).mono (fun r h c => ?_) (Cert.ReferenceGwUkvIdeal.Value.run (F := Ideal) m' g')
    have h := h c
    have e := hargs c
    refine ⟨?_, h.2⟩
    refine (h.1.trans (Cert.ReferenceGwUkvIdeal.Read.val_main_v4_eq _ _)).trans ?_
    refine Eq.trans ?_ (result m c).symm
    exact congr (congrArg _ e.1) e.2.2

end Cert.KernelGwUkvIdeal.Hand
-- ==== Proof.Dckv.lean ====
module

public import proofs.«01_k».proof.Defs
public import proofs.«01_k».proof.Proof.Products
public import proofs.«01_k».proof.Proof.Gen.KernelDckvIdeal.Value
public import proofs.«01_k».proof.Proof.Gen.ReferenceDckvIdeal.Read
public import proofs.«01_k».proof.Proof.Gen.ReferenceDckvIdeal.Run
public import Idealize.ShloMosaic.Lib.Pipeline.ValueKit.Geometry

/-!
  The gradient of the latent rows of keys and values: each grid point's block is whole rows by whole rows of the weight.
-/

@[expose] public section

set_option maxRecDepth 8192

noncomputable section

namespace Cert.KernelDckvIdeal.Hand

open Cert.KernelDckvIdeal Cert.KernelDckvIdeal.Gen
open Idealize.ShloMosaic
open Idealize.ShloMosaic.TcCoe Idealize.ShloMosaic.ValueIdx Idealize.ShloMosaic.ValueKit Idealize.ShloMosaic.StableHlo
open Idealize.SL.Sem
open Cert.ReferenceDckvIdeal.Read (val_main_v3 val_main_v3_apply)

abbrev X0 := (⟨S2048x512, .f32⟩ : BufTy).Contents (Elt Ideal)
abbrev X1 := (⟨S512x2048, .f32⟩ : BufTy).Contents (Elt Ideal)
abbrev X2 := (⟨S2048x2048, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)
abbrev a2 : X2 := m ((c : Thread nD τ).loc main_arg2)

theorem v0_eq : V m c main_v0 = (fun i => (a2 m c) i : (⟨S2048x2048, .bf16⟩ : BufTy).Contents (Elt Ideal)) := by
  unfold V
  after_results_simp
  rfl

theorem v1_eq : V m c main_v1 = (fun i => (a1 m c) i : (⟨S512x2048, .bf16⟩ : BufTy).Contents (Elt Ideal)) := by
  unfold V
  after_results_simp
  rfl

theorem i0 : ∀ t : Fin cfg0.N, win0_0.index t = ![t.val / 1, 0] := (by decide +kernel : ∀ t : Fin grid0.N, _)
theorem i1 : ∀ t : Fin cfg0.N, win0_1.index t = ![t.val % 1, 0] := (by decide +kernel : ∀ t : Fin grid0.N, _)
theorem i2 : ∀ t : Fin cfg0.N, win0_2.index t = ![t.val / 1, t.val % 1] := (by decide +kernel : ∀ t : Fin grid0.N, _)

theorem row_lt (t : Fin cfg0.N) (i : Fin 1024) : 1024 * (t.val / 1) + i.val < 2048 := by
  have := t.isLt; have : cfg0.N = 2 := rfl; omega
theorem col_lt (t : Fin cfg0.N) (j : Fin 512) : 512 * (t.val % 1) + j.val < 512 := by
  omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v0 (ix2 ⟨1024 * (t.val / 1) + i.val, row_lt t i⟩ k) := by
  blk_simp
  refine congrArg _ ?_
  blk_ext [i0]
  show t.val / 1 * 1024 + i.val = 1024 * (t.val / 1) + i.val
  omega

theorem w1 {c : Dev nD} (X : (b : Ref sig .tc) → Buf (Elt Ideal) ((c : Thread nD τ).loc b)) (t : Fin cfg0.N) (j : Fin 512) (k : Fin 2048) :
    ((cfg0.win 1).blk t).view.read (Elt Ideal) (X (Pipeline.arrRef spec0 1)) (ix2 j k) = X main_v1 (ix2 ⟨512 * (t.val % 1) + j.val, col_lt t j⟩ k) := by
  blk_simp
  refine congrArg _ ?_
  blk_ext [i1]
  show t.val % 1 * 512 + j.val = 512 * (t.val % 1) + j.val
  omega

/-- What a point's body leaves. -/
theorem out_at (x : Vec Ideal S1024x2048 .bf16) (y : Vec Ideal S512x2048 .bf16) (i : Fin 1024) (j : Fin 512) :
    out0_2 x y (ix2 i j) = ∑ k : Fin 2048, (x (ix2 i k) : EReal) * y (ix2 j k) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nt (φ₁ := .bf16) (φ₂ := .bf16) x y i j

/-- The reference at an index. -/
theorem ref_at (x1 : X1) (x2 : X2) (i : Fin 2048) (j : Fin 512) :
    val_main_v3 (F := Ideal) x1 x2 (ix2 i j) = ∑ k : Fin 2048, (x2 (ix2 i k) : EReal) * x1 (ix2 j k) := by
  refine (val_main_v3_apply x1 x2 (ix2 i j)).trans ?_
  refine Cert.Products.sum_eq (fun k => congrArg _ ?_) (fun k => congrArg _ ?_) <;>
  · funext z
    match z with
    | ⟨0, _⟩ => rfl
    | ⟨1, _⟩ => rfl

/-- The result array. -/
theorem result : (dats m 0 c).arrAt 2 cfg0.N = val_main_v3 (F := Ideal) (a1 m c) (a2 m c) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, ValueIdx.eq_ix2 y⟩
  refine (out_at _ _ i j).trans ((Cert.Products.sum_eq
    (fun k => (w0 (V m c) t i k).trans (congrFun (v0_eq m c) _))
    (fun k => (w1 (V m c) t j k).trans (congrFun (v1_eq m c) _))).trans
      ((ref_at (a1 m c) (a2 m c) ⟨1024 * (t.val / 1) + i.val, row_lt t i⟩ ⟨512 * (t.val % 1) + j.val, col_lt t j⟩).symm.trans ?_))
  refine congrArg _ ?_
  blk_ext [i2]
  · show 1024 * (t.val / 1) + i.val = t.val / 1 * 1024 + i.val
    omega
  · show 512 * (t.val % 1) + j.val = t.val % 1 * 512 + j.val
    omega

/-- Over the extended reals the call is the reference. -/
theorem same : Cert.algebraic_KernelDckvIdeal_ReferenceDckvIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceDckvIdeal.defs _ _).mono (fun r h c => ?_) (Cert.ReferenceDckvIdeal.Value.run (F := Ideal) m' g')
    have h := h c
    have e := hargs c
    refine ⟨?_, h.2⟩
    refine (h.1.trans (Cert.ReferenceDckvIdeal.Read.val_main_v3_eq _ _)).trans ?_
    refine Eq.trans ?_ (result m c).symm
    exact congr (congrArg _ e.2.1) e.2.2

end Cert.KernelDckvIdeal.Hand
-- ==== Proof.AdamwMlp.lean ====
module

public import proofs.«01_k».proof.Defs
public import proofs.«01_k».proof.Proof.Gen.KernelAdamwMlpIdeal.Value
public import proofs.«01_k».proof.Proof.Gen.ReferenceAdamwMlpIdeal.Read
public import proofs.«01_k».proof.Proof.Gen.ReferenceAdamwMlpIdeal.Run
public import Idealize.ShloMosaic.Lib.Pipeline.ValueKit.Geometry
public import proofs.«01_k».proof.Proof.Products

/-!
  The optimiser's step for `w_up` and `w_down`: each grid point steps 256 rows, entry by entry.
-/

@[expose] public section

set_option maxRecDepth 8192

noncomputable section

namespace Cert.KernelAdamwMlpIdeal.Hand

open Cert.KernelAdamwMlpIdeal Cert.KernelAdamwMlpIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwMlpIdeal.Read (val_main_v4 val_main_v10 val_main_v23)

abbrev X := (⟨S2048x2048, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 256) : 256 * t.val + i.val < 2048 := by
  have := t.isLt; have : cfg0.N = 8 := rfl; omega

/-- A point's rows of an array. -/
abbrev rows (x : X) (t : Fin cfg0.N) : Vec Ideal S256x2048 .f32 := fun y => x (ix2 ⟨256 * t.val + (y 0).val, row_lt t (y 0)⟩ (y 1))

/-- The reference's steps on a point's rows are the payloads. -/
theorem pay1_at (x1 x2 : X) (t : Fin cfg0.N) (i : Fin 256) (j : Fin 2048) :
    k0_pay1 (rows x1 t) (rows x2 t) (ix2 i j) = val_main_v4 (F := Ideal) x1 x2 (ix2 ⟨256 * t.val + i.val, row_lt t i⟩ j) := rfl
theorem pay2_at (x1 x3 : X) (t : Fin cfg0.N) (i : Fin 256) (j : Fin 2048) :
    k0_pay2 (rows x1 t) (rows x3 t) (ix2 i j) = val_main_v10 (F := Ideal) x1 x3 (ix2 ⟨256 * t.val + i.val, row_lt t i⟩ j) := rfl
theorem pay3_at (x0 x1 x2 x3 : X) (t : Fin cfg0.N) (i : Fin 256) (j : Fin 2048) :
    k0_pay3 (rows x1 t) (rows x2 t) (rows x3 t) (rows x0 t) (ix2 i j) = val_main_v23 (F := Ideal) x0 x1 x2 x3 (ix2 ⟨256 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S256x2048.Idx) :
      ((cfg0.win 0).blk t).view.read (Elt Ideal) (Z (Pipeline.arrRef spec0 0)) y
        = Z main_arg0 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S256x2048.Idx) :
      ((cfg0.win 1).blk t).view.read (Elt Ideal) (Z (Pipeline.arrRef spec0 1)) y
        = Z main_arg1 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S256x2048.Idx) :
      ((cfg0.win 2).blk t).view.read (Elt Ideal) (Z (Pipeline.arrRef spec0 2)) y
        = Z main_arg2 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S256x2048.Idx) :
      ((cfg0.win 3).blk t).view.read (Elt Ideal) (Z (Pipeline.arrRef spec0 3)) y
        = Z main_arg3 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S256x2048 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 256) (j : Fin 2048), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨256 * t.val + i.val, row_lt t i⟩ j)).trans ?_
  refine congrArg _ ?_
  blk_ext [i4]
  show 256 * t.val + i.val = t.val * 256 + i.val
  omega

theorem out5 (x0 x1 x2 x3 : Vec Ideal S256x2048 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 256) (j : Fin 2048), y = ix2 i j := ⟨y 0, y 1, ValueIdx.eq_ix2 y⟩
  refine (pay1_at (a1 m c) (a2 m c) t i j : _ = (val_main_v4 (F := Ideal) (a1 m c) (a2 m c) : X) (ix2 ⟨256 * t.val + i.val, row_lt t i⟩ j)).trans ?_
  refine congrArg _ ?_
  blk_ext [i5]
  show 256 * t.val + i.val = t.val * 256 + i.val
  omega

theorem out6 (x0 x1 x2 x3 : Vec Ideal S256x2048 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 256) (j : Fin 2048), y = ix2 i j := ⟨y 0, y 1, ValueIdx.eq_ix2 y⟩
  refine (pay2_at (a1 m c) (a3 m c) t i j : _ = (val_main_v10 (F := Ideal) (a1 m c) (a3 m c) : X) (ix2 ⟨256 * t.val + i.val, row_lt t i⟩ j)).trans ?_
  refine congrArg _ ?_
  blk_ext [i6]
  show 256 * t.val + i.val = t.val * 256 + i.val
  omega

theorem out7 (x0 x1 x2 x3 : Vec Ideal S256x2048 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 256) (j : Fin 2048), y = ix2 i j := ⟨y 0, y 1, ValueIdx.eq_ix2 y⟩
  refine (rfl : _ = (a1 m c : X) (ix2 ⟨256 * t.val + i.val, row_lt t i⟩ j)).trans ?_
  refine congrArg _ ?_
  blk_ext [i7]
  show 256 * t.val + i.val = t.val * 256 + i.val
  omega

/-- Over the extended reals the call is the reference. -/
theorem same : Cert.algebraic_KernelAdamwMlpIdeal_ReferenceAdamwMlpIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwMlpIdeal.defs _ _).mono (fun r h c => ?_) (Cert.ReferenceAdamwMlpIdeal.Value.run (F := Ideal) m' g')
    have h := h c
    obtain ⟨e0, e1, e2, e3⟩ := hargs c
    refine ⟨?_, ?_, ?_, ?_, h.2.2.2.2⟩
    · refine (h.1.trans (Cert.ReferenceAdamwMlpIdeal.Read.val_main_v23_eq _ _ _ _)).trans (Eq.trans ?_ (result4 m c).symm)
      exact congr (congr (congr (congrArg _ e0) e1) e2) e3
    · refine (h.2.1.trans (Cert.ReferenceAdamwMlpIdeal.Read.val_main_v4_eq _ _)).trans (Eq.trans ?_ (result5 m c).symm)
      exact congr (congrArg _ e1) e2
    · refine (h.2.2.1.trans (Cert.ReferenceAdamwMlpIdeal.Read.val_main_v10_eq _ _)).trans (Eq.trans ?_ (result6 m c).symm)
      exact congr (congrArg _ e1) e3
    · exact (h.2.2.2.1.trans e1).trans (result7 m c).symm

end Cert.KernelAdamwMlpIdeal.Hand
-- ==== Proof.AdamwIn.lean ====
module

public import proofs.«01_k».proof.Defs
public import proofs.«01_k».proof.Proof.Gen.KernelAdamwInIdeal.Value
public import proofs.«01_k».proof.Proof.Gen.ReferenceAdamwInIdeal.Read
public import proofs.«01_k».proof.Proof.Gen.ReferenceAdamwInIdeal.Run
public import Idealize.ShloMosaic.Lib.Pipeline.ValueKit.Geometry
public import proofs.«01_k».proof.Proof.Products

/-!
  The optimiser's step for `w_in`: each grid point steps 256 rows, entry by entry.
-/

@[expose] public section

set_option maxRecDepth 8192

noncomputable section

namespace Cert.KernelAdamwInIdeal.Hand

open Cert.KernelAdamwInIdeal Cert.KernelAdamwInIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwInIdeal.Read (val_main_v4 val_main_v10 val_main_v23)

abbrev X := (⟨S2048x1104, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 256) : 256 * t.val + i.val < 2048 := by
  have := t.isLt; have : cfg0.N = 8 := rfl; omega

/-- A point's rows of an array. -/
abbrev rows (x : X) (t : Fin cfg0.N) : Vec Ideal S256x1104 .f32 := fun y => x (ix2 ⟨256 * t.val + (y 0).val, row_lt t (y 0)⟩ (y 1))

/-- The reference's steps on a point's rows are the payloads. -/
theorem pay1_at (x1 x2 : X) (t : Fin cfg0.N) (i : Fin 256) (j : Fin 1104) :
    k0_pay1 (rows x1 t) (rows x2 t) (ix2 i j) = val_main_v4 (F := Ideal) x1 x2 (ix2 ⟨256 * t.val + i.val, row_lt t i⟩ j) := rfl
theorem pay2_at (x1 x3 : X) (t : Fin cfg0.N) (i : Fin 256) (j : Fin 1104) :
    k0_pay2 (rows x1 t) (rows x3 t) (ix2 i j) = val_main_v10 (F := Ideal) x1 x3 (ix2 ⟨256 * t.val + i.val, row_lt t i⟩ j) := rfl
theorem pay3_at (x0 x1 x2 x3 : X) (t : Fin cfg0.N) (i : Fin 256) (j : Fin 1104) :
    k0_pay3 (rows x1 t) (rows x2 t) (rows x3 t) (rows x0 t) (ix2 i j) = val_main_v23 (F := Ideal) x0 x1 x2 x3 (ix2 ⟨256 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S256x1104.Idx) :
      ((cfg0.win 0).blk t).view.read (Elt Ideal) (Z (Pipeline.arrRef spec0 0)) y
        = Z main_arg0 (ix2 ⟨256 * t.val + (y 0).val, row_lt t (y 0)⟩ (y 1)) := by
    obtain ⟨i, j, rfl⟩ : ∃ (i : Fin 256) (j : Fin 1104), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S256x1104.Idx) :
      ((cfg0.win 1).blk t).view.read (Elt Ideal) (Z (Pipeline.arrRef spec0 1)) y
        = Z main_arg1 (ix2 ⟨256 * t.val + (y 0).val, row_lt t (y 0)⟩ (y 1)) := by
    obtain ⟨i, j, rfl⟩ : ∃ (i : Fin 256) (j : Fin 1104), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S256x1104.Idx) :
      ((cfg0.win 2).blk t).view.read (Elt Ideal) (Z (Pipeline.arrRef spec0 2)) y
        = Z main_arg2 (ix2 ⟨256 * t.val + (y 0).val, row_lt t (y 0)⟩ (y 1)) := by
    obtain ⟨i, j, rfl⟩ : ∃ (i : Fin 256) (j : Fin 1104), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S256x1104.Idx) :
      ((cfg0.win 3).blk t).view.read (Elt Ideal) (Z (Pipeline.arrRef spec0 3)) y
        = Z main_arg3 (ix2 ⟨256 * t.val + (y 0).val, row_lt t (y 0)⟩ (y 1)) := by
    obtain ⟨i, j, rfl⟩ : ∃ (i : Fin 256) (j : Fin 1104), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S256x1104 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 256) (j : Fin 1104), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨256 * t.val + i.val, row_lt t i⟩ j)).trans ?_
  refine congrArg _ ?_
  blk_ext [i4]
  show 256 * t.val + i.val = t.val * 256 + i.val
  omega

theorem out5 (x0 x1 x2 x3 : Vec Ideal S256x1104 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 256) (j : Fin 1104), y = ix2 i j := ⟨y 0, y 1, ValueIdx.eq_ix2 y⟩
  refine (pay1_at (a1 m c) (a2 m c) t i j : _ = (val_main_v4 (F := Ideal) (a1 m c) (a2 m c) : X) (ix2 ⟨256 * t.val + i.val, row_lt t i⟩ j)).trans ?_
  refine congrArg _ ?_
  blk_ext [i5]
  show 256 * t.val + i.val = t.val * 256 + i.val
  omega

theorem out6 (x0 x1 x2 x3 : Vec Ideal S256x1104 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 256) (j : Fin 1104), y = ix2 i j := ⟨y 0, y 1, ValueIdx.eq_ix2 y⟩
  refine (pay2_at (a1 m c) (a3 m c) t i j : _ = (val_main_v10 (F := Ideal) (a1 m c) (a3 m c) : X) (ix2 ⟨256 * t.val + i.val, row_lt t i⟩ j)).trans ?_
  refine congrArg _ ?_
  blk_ext [i6]
  show 256 * t.val + i.val = t.val * 256 + i.val
  omega

theorem out7 (x0 x1 x2 x3 : Vec Ideal S256x1104 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 256) (j : Fin 1104), y = ix2 i j := ⟨y 0, y 1, ValueIdx.eq_ix2 y⟩
  refine (rfl : _ = (a1 m c : X) (ix2 ⟨256 * t.val + i.val, row_lt t i⟩ j)).trans ?_
  refine congrArg _ ?_
  blk_ext [i7]
  show 256 * t.val + i.val = t.val * 256 + i.val
  omega

/-- Over the extended reals the call is the reference. -/
theorem same : Cert.algebraic_KernelAdamwInIdeal_ReferenceAdamwInIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwInIdeal.defs _ _).mono (fun r h c => ?_) (Cert.ReferenceAdamwInIdeal.Value.run (F := Ideal) m' g')
    have h := h c
    obtain ⟨e0, e1, e2, e3⟩ := hargs c
    refine ⟨?_, ?_, ?_, ?_, h.2.2.2.2⟩
    · refine (h.1.trans (Cert.ReferenceAdamwInIdeal.Read.val_main_v23_eq _ _ _ _)).trans (Eq.trans ?_ (result4 m c).symm)
      exact congr (congr (congr (congrArg _ e0) e1) e2) e3
    · refine (h.2.1.trans (Cert.ReferenceAdamwInIdeal.Read.val_main_v4_eq _ _)).trans (Eq.trans ?_ (result5 m c).symm)
      exact congr (congrArg _ e1) e2
    · refine (h.2.2.1.trans (Cert.ReferenceAdamwInIdeal.Read.val_main_v10_eq _ _)).trans (Eq.trans ?_ (result6 m c).symm)
      exact congr (congrArg _ e1) e3
    · exact (h.2.2.2.1.trans e1).trans (result7 m c).symm

end Cert.KernelAdamwInIdeal.Hand
-- ==== Proof.AdamwUq.lean ====
module

public import proofs.«01_k».proof.Defs
public import proofs.«01_k».proof.Proof.Gen.KernelAdamwUqIdeal.Value
public import proofs.«01_k».proof.Proof.Gen.ReferenceAdamwUqIdeal.Read
public import proofs.«01_k».proof.Proof.Gen.ReferenceAdamwUqIdeal.Run
public import Idealize.ShloMosaic.Lib.Pipeline.ValueKit.Geometry
public import proofs.«01_k».proof.Proof.Products

/-!
  The optimiser's step for `w_uq`: each grid point steps 256 rows, entry by entry.
-/

@[expose] public section

set_option maxRecDepth 8192

noncomputable section

namespace Cert.KernelAdamwUqIdeal.Hand

open Cert.KernelAdamwUqIdeal Cert.KernelAdamwUqIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwUqIdeal.Read (val_main_v4 val_main_v10 val_main_v23)

abbrev X := (⟨S768x384, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 256) : 256 * t.val + i.val < 768 := by
  have := t.isLt; have : cfg0.N = 3 := rfl; omega

/-- A point's rows of an array. -/
abbrev rows (x : X) (t : Fin cfg0.N) : Vec Ideal S256x384 .f32 := fun y => x (ix2 ⟨256 * t.val + (y 0).val, row_lt t (y 0)⟩ (y 1))

/-- The reference's steps on a point's rows are the payloads. -/
theorem pay1_at (x1 x2 : X) (t : Fin cfg0.N) (i : Fin 256) (j : Fin 384) :
    k0_pay1 (rows x1 t) (rows x2 t) (ix2 i j) = val_main_v4 (F := Ideal) x1 x2 (ix2 ⟨256 * t.val + i.val, row_lt t i⟩ j) := rfl
theorem pay2_at (x1 x3 : X) (t : Fin cfg0.N) (i : Fin 256) (j : Fin 384) :
    k0_pay2 (rows x1 t) (rows x3 t) (ix2 i j) = val_main_v10 (F := Ideal) x1 x3 (ix2 ⟨256 * t.val + i.val, row_lt t i⟩ j) := rfl
theorem pay3_at (x0 x1 x2 x3 : X) (t : Fin cfg0.N) (i : Fin 256) (j : Fin 384) :
    k0_pay3 (rows x1 t) (rows x2 t) (rows x3 t) (rows x0 t) (ix2 i j) = val_main_v23 (F := Ideal) x0 x1 x2 x3 (ix2 ⟨256 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S256x384.Idx) :
      ((cfg0.win 0).blk t).view.read (Elt Ideal) (Z (Pipeline.arrRef spec0 0)) y
        = Z main_arg0 (ix2 ⟨256 * t.val + (y 0).val, row_lt t (y 0)⟩ (y 1)) := by
    obtain ⟨i, j, rfl⟩ : ∃ (i : Fin 256) (j : Fin 384), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S256x384.Idx) :
      ((cfg0.win 1).blk t).view.read (Elt Ideal) (Z (Pipeline.arrRef spec0 1)) y
        = Z main_arg1 (ix2 ⟨256 * t.val + (y 0).val, row_lt t (y 0)⟩ (y 1)) := by
    obtain ⟨i, j, rfl⟩ : ∃ (i : Fin 256) (j : Fin 384), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S256x384.Idx) :
      ((cfg0.win 2).blk t).view.read (Elt Ideal) (Z (Pipeline.arrRef spec0 2)) y
        = Z main_arg2 (ix2 ⟨256 * t.val + (y 0).val, row_lt t (y 0)⟩ (y 1)) := by
    obtain ⟨i, j, rfl⟩ : ∃ (i : Fin 256) (j : Fin 384), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S256x384.Idx) :
      ((cfg0.win 3).blk t).view.read (Elt Ideal) (Z (Pipeline.arrRef spec0 3)) y
        = Z main_arg3 (ix2 ⟨256 * t.val + (y 0).val, row_lt t (y 0)⟩ (y 1)) := by
    obtain ⟨i, j, rfl⟩ : ∃ (i : Fin 256) (j : Fin 384), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S256x384 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 256) (j : Fin 384), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨256 * t.val + i.val, row_lt t i⟩ j)).trans ?_
  refine congrArg _ ?_
  blk_ext [i4]
  show 256 * t.val + i.val = t.val * 256 + i.val
  omega

theorem out5 (x0 x1 x2 x3 : Vec Ideal S256x384 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 256) (j : Fin 384), y = ix2 i j := ⟨y 0, y 1, ValueIdx.eq_ix2 y⟩
  refine (pay1_at (a1 m c) (a2 m c) t i j : _ = (val_main_v4 (F := Ideal) (a1 m c) (a2 m c) : X) (ix2 ⟨256 * t.val + i.val, row_lt t i⟩ j)).trans ?_
  refine congrArg _ ?_
  blk_ext [i5]
  show 256 * t.val + i.val = t.val * 256 + i.val
  omega

theorem out6 (x0 x1 x2 x3 : Vec Ideal S256x384 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 256) (j : Fin 384), y = ix2 i j := ⟨y 0, y 1, ValueIdx.eq_ix2 y⟩
  refine (pay2_at (a1 m c) (a3 m c) t i j : _ = (val_main_v10 (F := Ideal) (a1 m c) (a3 m c) : X) (ix2 ⟨256 * t.val + i.val, row_lt t i⟩ j)).trans ?_
  refine congrArg _ ?_
  blk_ext [i6]
  show 256 * t.val + i.val = t.val * 256 + i.val
  omega

theorem out7 (x0 x1 x2 x3 : Vec Ideal S256x384 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 256) (j : Fin 384), y = ix2 i j := ⟨y 0, y 1, ValueIdx.eq_ix2 y⟩
  refine (rfl : _ = (a1 m c : X) (ix2 ⟨256 * t.val + i.val, row_lt t i⟩ j)).trans ?_
  refine congrArg _ ?_
  blk_ext [i7]
  show 256 * t.val + i.val = t.val * 256 + i.val
  omega

/-- Over the extended reals the call is the reference. -/
theorem same : Cert.algebraic_KernelAdamwUqIdeal_ReferenceAdamwUqIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwUqIdeal.defs _ _).mono (fun r h c => ?_) (Cert.ReferenceAdamwUqIdeal.Value.run (F := Ideal) m' g')
    have h := h c
    obtain ⟨e0, e1, e2, e3⟩ := hargs c
    refine ⟨?_, ?_, ?_, ?_, h.2.2.2.2⟩
    · refine (h.1.trans (Cert.ReferenceAdamwUqIdeal.Read.val_main_v23_eq _ _ _ _)).trans (Eq.trans ?_ (result4 m c).symm)
      exact congr (congr (congr (congrArg _ e0) e1) e2) e3
    · refine (h.2.1.trans (Cert.ReferenceAdamwUqIdeal.Read.val_main_v4_eq _ _)).trans (Eq.trans ?_ (result5 m c).symm)
      exact congr (congrArg _ e1) e2
    · refine (h.2.2.1.trans (Cert.ReferenceAdamwUqIdeal.Read.val_main_v10_eq _ _)).trans (Eq.trans ?_ (result6 m c).symm)
      exact congr (congrArg _ e1) e3
    · exact (h.2.2.2.1.trans e1).trans (result7 m c).symm

end Cert.KernelAdamwUqIdeal.Hand
-- ==== Proof.AdamwUkv.lean ====
module

public import proofs.«01_k».proof.Defs
public import proofs.«01_k».proof.Proof.Gen.KernelAdamwUkvIdeal.Value
public import proofs.«01_k».proof.Proof.Gen.ReferenceAdamwUkvIdeal.Read
public import proofs.«01_k».proof.Proof.Gen.ReferenceAdamwUkvIdeal.Run
public import Idealize.ShloMosaic.Lib.Pipeline.ValueKit.Geometry
public import proofs.«01_k».proof.Proof.Products

/-!
  The optimiser's step for `w_ukv`: each grid point steps 256 rows, entry by entry.
-/

@[expose] public section

set_option maxRecDepth 8192

noncomputable section

namespace Cert.KernelAdamwUkvIdeal.Hand

open Cert.KernelAdamwUkvIdeal Cert.KernelAdamwUkvIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwUkvIdeal.Read (val_main_v4 val_main_v10 val_main_v23)

abbrev X := (⟨S512x512, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 256) : 256 * t.val + i.val < 512 := by
  have := t.isLt; have : cfg0.N = 2 := rfl; omega

/-- A point's rows of an array. -/
abbrev rows (x : X) (t : Fin cfg0.N) : Vec Ideal S256x512 .f32 := fun y => x (ix2 ⟨256 * t.val + (y 0).val, row_lt t (y 0)⟩ (y 1))

/-- The reference's steps on a point's rows are the payloads. -/
theorem pay1_at (x1 x2 : X) (t : Fin cfg0.N) (i : Fin 256) (j : Fin 512) :
    k0_pay1 (rows x1 t) (rows x2 t) (ix2 i j) = val_main_v4 (F := Ideal) x1 x2 (ix2 ⟨256 * t.val + i.val, row_lt t i⟩ j) := rfl
theorem pay2_at (x1 x3 : X) (t : Fin cfg0.N) (i : Fin 256) (j : Fin 512) :
    k0_pay2 (rows x1 t) (rows x3 t) (ix2 i j) = val_main_v10 (F := Ideal) x1 x3 (ix2 ⟨256 * t.val + i.val, row_lt t i⟩ j) := rfl
theorem pay3_at (x0 x1 x2 x3 : X) (t : Fin cfg0.N) (i : Fin 256) (j : Fin 512) :
    k0_pay3 (rows x1 t) (rows x2 t) (rows x3 t) (rows x0 t) (ix2 i j) = val_main_v23 (F := Ideal) x0 x1 x2 x3 (ix2 ⟨256 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S256x512.Idx) :
      ((cfg0.win 0).blk t).view.read (Elt Ideal) (Z (Pipeline.arrRef spec0 0)) y
        = Z main_arg0 (ix2 ⟨256 * t.val + (y 0).val, row_lt t (y 0)⟩ (y 1)) := by
    obtain ⟨i, j, rfl⟩ : ∃ (i : Fin 256) (j : Fin 512), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S256x512.Idx) :
      ((cfg0.win 1).blk t).view.read (Elt Ideal) (Z (Pipeline.arrRef spec0 1)) y
        = Z main_arg1 (ix2 ⟨256 * t.val + (y 0).val, row_lt t (y 0)⟩ (y 1)) := by
    obtain ⟨i, j, rfl⟩ : ∃ (i : Fin 256) (j : Fin 512), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S256x512.Idx) :
      ((cfg0.win 2).blk t).view.read (Elt Ideal) (Z (Pipeline.arrRef spec0 2)) y
        = Z main_arg2 (ix2 ⟨256 * t.val + (y 0).val, row_lt t (y 0)⟩ (y 1)) := by
    obtain ⟨i, j, rfl⟩ : ∃ (i : Fin 256) (j : Fin 512), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S256x512.Idx) :
      ((cfg0.win 3).blk t).view.read (Elt Ideal) (Z (Pipeline.arrRef spec0 3)) y
        = Z main_arg3 (ix2 ⟨256 * t.val + (y 0).val, row_lt t (y 0)⟩ (y 1)) := by
    obtain ⟨i, j, rfl⟩ : ∃ (i : Fin 256) (j : Fin 512), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S256x512 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 256) (j : Fin 512), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨256 * t.val + i.val, row_lt t i⟩ j)).trans ?_
  refine congrArg _ ?_
  blk_ext [i4]
  show 256 * t.val + i.val = t.val * 256 + i.val
  omega

theorem out5 (x0 x1 x2 x3 : Vec Ideal S256x512 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 256) (j : Fin 512), y = ix2 i j := ⟨y 0, y 1, ValueIdx.eq_ix2 y⟩
  refine (pay1_at (a1 m c) (a2 m c) t i j : _ = (val_main_v4 (F := Ideal) (a1 m c) (a2 m c) : X) (ix2 ⟨256 * t.val + i.val, row_lt t i⟩ j)).trans ?_
  refine congrArg _ ?_
  blk_ext [i5]
  show 256 * t.val + i.val = t.val * 256 + i.val
  omega

theorem out6 (x0 x1 x2 x3 : Vec Ideal S256x512 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 256) (j : Fin 512), y = ix2 i j := ⟨y 0, y 1, ValueIdx.eq_ix2 y⟩
  refine (pay2_at (a1 m c) (a3 m c) t i j : _ = (val_main_v10 (F := Ideal) (a1 m c) (a3 m c) : X) (ix2 ⟨256 * t.val + i.val, row_lt t i⟩ j)).trans ?_
  refine congrArg _ ?_
  blk_ext [i6]
  show 256 * t.val + i.val = t.val * 256 + i.val
  omega

theorem out7 (x0 x1 x2 x3 : Vec Ideal S256x512 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 256) (j : Fin 512), y = ix2 i j := ⟨y 0, y 1, ValueIdx.eq_ix2 y⟩
  refine (rfl : _ = (a1 m c : X) (ix2 ⟨256 * t.val + i.val, row_lt t i⟩ j)).trans ?_
  refine congrArg _ ?_
  blk_ext [i7]
  show 256 * t.val + i.val = t.val * 256 + i.val
  omega

/-- Over the extended reals the call is the reference. -/
theorem same : Cert.algebraic_KernelAdamwUkvIdeal_ReferenceAdamwUkvIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwUkvIdeal.defs _ _).mono (fun r h c => ?_) (Cert.ReferenceAdamwUkvIdeal.Value.run (F := Ideal) m' g')
    have h := h c
    obtain ⟨e0, e1, e2, e3⟩ := hargs c
    refine ⟨?_, ?_, ?_, ?_, h.2.2.2.2⟩
    · refine (h.1.trans (Cert.ReferenceAdamwUkvIdeal.Read.val_main_v23_eq _ _ _ _)).trans (Eq.trans ?_ (result4 m c).symm)
      exact congr (congr (congr (congrArg _ e0) e1) e2) e3
    · refine (h.2.1.trans (Cert.ReferenceAdamwUkvIdeal.Read.val_main_v4_eq _ _)).trans (Eq.trans ?_ (result5 m c).symm)
      exact congr (congrArg _ e1) e2
    · refine (h.2.2.1.trans (Cert.ReferenceAdamwUkvIdeal.Read.val_main_v10_eq _ _)).trans (Eq.trans ?_ (result6 m c).symm)
      exact congr (congrArg _ e1) e3
    · exact (h.2.2.2.1.trans e1).trans (result7 m c).symm

end Cert.KernelAdamwUkvIdeal.Hand
-- ==== Proof.AdamwO.lean ====
module

public import proofs.«01_k».proof.Defs
public import proofs.«01_k».proof.Proof.Gen.KernelAdamwOIdeal.Value
public import proofs.«01_k».proof.Proof.Gen.ReferenceAdamwOIdeal.Read
public import proofs.«01_k».proof.Proof.Gen.ReferenceAdamwOIdeal.Run
public import Idealize.ShloMosaic.Lib.Pipeline.ValueKit.Geometry
public import proofs.«01_k».proof.Proof.Products

/-!
  The optimiser's step for `w_o`: each grid point steps 256 rows, entry by entry.
-/

@[expose] public section

set_option maxRecDepth 8192

noncomputable section

namespace Cert.KernelAdamwOIdeal.Hand

open Cert.KernelAdamwOIdeal Cert.KernelAdamwOIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwOIdeal.Read (val_main_v4 val_main_v10 val_main_v23)

abbrev X := (⟨S512x2048, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 256) : 256 * t.val + i.val < 512 := by
  have := t.isLt; have : cfg0.N = 2 := rfl; omega

/-- A point's rows of an array. -/
abbrev rows (x : X) (t : Fin cfg0.N) : Vec Ideal S256x2048 .f32 := fun y => x (ix2 ⟨256 * t.val + (y 0).val, row_lt t (y 0)⟩ (y 1))

/-- The reference's steps on a point's rows are the payloads. -/
theorem pay1_at (x1 x2 : X) (t : Fin cfg0.N) (i : Fin 256) (j : Fin 2048) :
    k0_pay1 (rows x1 t) (rows x2 t) (ix2 i j) = val_main_v4 (F := Ideal) x1 x2 (ix2 ⟨256 * t.val + i.val, row_lt t i⟩ j) := rfl
theorem pay2_at (x1 x3 : X) (t : Fin cfg0.N) (i : Fin 256) (j : Fin 2048) :
    k0_pay2 (rows x1 t) (rows x3 t) (ix2 i j) = val_main_v10 (F := Ideal) x1 x3 (ix2 ⟨256 * t.val + i.val, row_lt t i⟩ j) := rfl
theorem pay3_at (x0 x1 x2 x3 : X) (t : Fin cfg0.N) (i : Fin 256) (j : Fin 2048) :
    k0_pay3 (rows x1 t) (rows x2 t) (rows x3 t) (rows x0 t) (ix2 i j) = val_main_v23 (F := Ideal) x0 x1 x2 x3 (ix2 ⟨256 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S256x2048.Idx) :
      ((cfg0.win 0).blk t).view.read (Elt Ideal) (Z (Pipeline.arrRef spec0 0)) y
        = Z main_arg0 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S256x2048.Idx) :
      ((cfg0.win 1).blk t).view.read (Elt Ideal) (Z (Pipeline.arrRef spec0 1)) y
        = Z main_arg1 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S256x2048.Idx) :
      ((cfg0.win 2).blk t).view.read (Elt Ideal) (Z (Pipeline.arrRef spec0 2)) y
        = Z main_arg2 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S256x2048.Idx) :
      ((cfg0.win 3).blk t).view.read (Elt Ideal) (Z (Pipeline.arrRef spec0 3)) y
        = Z main_arg3 (ix2 ⟨256 * t.val + (y 0).val, row_lt t (y 0)⟩ (y 1)) := by
    obtain ⟨i, j, rfl⟩ : ∃ (i : Fin 256) (j : Fin 2048), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S256x2048 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 256) (j : Fin 2048), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨256 * t.val + i.val, row_lt t i⟩ j)).trans ?_
  refine congrArg _ ?_
  blk_ext [i4]
  show 256 * t.val + i.val = t.val * 256 + i.val
  omega

theorem out5 (x0 x1 x2 x3 : Vec Ideal S256x2048 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 256) (j : Fin 2048), y = ix2 i j := ⟨y 0, y 1, ValueIdx.eq_ix2 y⟩
  refine (pay1_at (a1 m c) (a2 m c) t i j : _ = (val_main_v4 (F := Ideal) (a1 m c) (a2 m c) : X) (ix2 ⟨256 * t.val + i.val, row_lt t i⟩ j)).trans ?_
  refine congrArg _ ?_
  blk_ext [i5]
  show 256 * t.val + i.val = t.val * 256 + i.val
  omega

theorem out6 (x0 x1 x2 x3 : Vec Ideal S256x2048 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 256) (j : Fin 2048), y = ix2 i j := ⟨y 0, y 1, ValueIdx.eq_ix2 y⟩
  refine (pay2_at (a1 m c) (a3 m c) t i j : _ = (val_main_v10 (F := Ideal) (a1 m c) (a3 m c) : X) (ix2 ⟨256 * t.val + i.val, row_lt t i⟩ j)).trans ?_
  refine congrArg _ ?_
  blk_ext [i6]
  show 256 * t.val + i.val = t.val * 256 + i.val
  omega

theorem out7 (x0 x1 x2 x3 : Vec Ideal S256x2048 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 256) (j : Fin 2048), y = ix2 i j := ⟨y 0, y 1, ValueIdx.eq_ix2 y⟩
  refine (rfl : _ = (a1 m c : X) (ix2 ⟨256 * t.val + i.val, row_lt t i⟩ j)).trans ?_
  refine congrArg _ ?_
  blk_ext [i7]
  show 256 * t.val + i.val = t.val * 256 + i.val
  omega

/-- Over the extended reals the call is the reference. -/
theorem same : Cert.algebraic_KernelAdamwOIdeal_ReferenceAdamwOIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwOIdeal.defs _ _).mono (fun r h c => ?_) (Cert.ReferenceAdamwOIdeal.Value.run (F := Ideal) m' g')
    have h := h c
    obtain ⟨e0, e1, e2, e3⟩ := hargs c
    refine ⟨?_, ?_, ?_, ?_, h.2.2.2.2⟩
    · refine (h.1.trans (Cert.ReferenceAdamwOIdeal.Read.val_main_v23_eq _ _ _ _)).trans (Eq.trans ?_ (result4 m c).symm)
      exact congr (congr (congr (congrArg _ e0) e1) e2) e3
    · refine (h.2.1.trans (Cert.ReferenceAdamwOIdeal.Read.val_main_v4_eq _ _)).trans (Eq.trans ?_ (result5 m c).symm)
      exact congr (congrArg _ e1) e2
    · refine (h.2.2.1.trans (Cert.ReferenceAdamwOIdeal.Read.val_main_v10_eq _ _)).trans (Eq.trans ?_ (result6 m c).symm)
      exact congr (congrArg _ e1) e3
    · exact (h.2.2.2.1.trans e1).trans (result7 m c).symm

end Cert.KernelAdamwOIdeal.Hand
-- ==== Proof.AdamwSmall.lean ====
module

public import proofs.«01_k».proof.Defs
public import proofs.«01_k».proof.Proof.Gen.KernelAdamwSmallIdeal.Value
public import proofs.«01_k».proof.Proof.Gen.ReferenceAdamwSmallIdeal.Read
public import proofs.«01_k».proof.Proof.Gen.ReferenceAdamwSmallIdeal.Run
public import Idealize.ShloMosaic.Lib.Pipeline.ValueKit.Geometry
public import proofs.«01_k».proof.Proof.Products

/-!
  The optimiser's step for the nine small weights, packed in one array: each grid point steps 16 rows, entry by entry.
-/

@[expose] public section

set_option maxRecDepth 8192

noncomputable section

namespace Cert.KernelAdamwSmallIdeal.Hand

open Cert.KernelAdamwSmallIdeal Cert.KernelAdamwSmallIdeal.Gen
open Idealize.ShloMosaic
open Idealize.ShloMosaic.TcCoe Idealize.ShloMosaic.ValueIdx Idealize.ShloMosaic.ValueKit Idealize.ShloMosaic.StableHlo
open Idealize.SL.Sem
open Cert.ReferenceAdamwSmallIdeal.Read (val_main_v4 val_main_v10 val_main_v23)

abbrev X := (⟨S16x2048, .f32⟩ : BufTy).Contents (Elt Ideal)

variable (m : (ℓ : Loc nD τ sig) → Buf (Elt Ideal) ℓ) (c : Dev nD)

/-- The weight, its gradient and the two moments. -/
abbrev a0 : X := m ((c : Thread nD τ).loc main_arg0)
abbrev a1 : X := m ((c : Thread nD τ).loc main_arg1)
abbrev a2 : X := m ((c : Thread nD τ).loc main_arg2)
abbrev a3 : X := m ((c : Thread nD τ).loc main_arg3)

theorem row_lt (t : Fin cfg0.N) (i : Fin 16) : 16 * t.val + i.val < 16 := by
  have := t.isLt; have : cfg0.N = 1 := rfl; omega

/-- A point's rows of an array. -/
abbrev rows (x : X) (t : Fin cfg0.N) : Vec Ideal S16x2048 .f32 := fun y => x (ix2 ⟨16 * t.val + (y 0).val, row_lt t (y 0)⟩ (y 1))

/-- The reference's steps on a point's rows are the payloads. -/
theorem pay1_at (x1 x2 : X) (t : Fin cfg0.N) (i : Fin 16) (j : Fin 2048) :
    k0_pay1 (rows x1 t) (rows x2 t) (ix2 i j) = val_main_v4 (F := Ideal) x1 x2 (ix2 ⟨16 * t.val + i.val, row_lt t i⟩ j) := rfl
theorem pay2_at (x1 x3 : X) (t : Fin cfg0.N) (i : Fin 16) (j : Fin 2048) :
    k0_pay2 (rows x1 t) (rows x3 t) (ix2 i j) = val_main_v10 (F := Ideal) x1 x3 (ix2 ⟨16 * t.val + i.val, row_lt t i⟩ j) := rfl
theorem pay3_at (x0 x1 x2 x3 : X) (t : Fin cfg0.N) (i : Fin 16) (j : Fin 2048) :
    k0_pay3 (rows x1 t) (rows x2 t) (rows x3 t) (rows x0 t) (ix2 i j) = val_main_v23 (F := Ideal) x0 x1 x2 x3 (ix2 ⟨16 * t.val + i.val, row_lt t i⟩ j) := rfl

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)

theorem w0 (t : Fin cfg0.N) : iblk m c 0 t = rows (a0 m c) t := by
  have h (Z : (b : Ref sig .tc) → Buf (Elt Ideal) ((c : Thread nD τ).loc b)) (y : S16x2048.Idx) :
      ((cfg0.win 0).blk t).view.read (Elt Ideal) (Z (Pipeline.arrRef spec0 0)) y
        = Z main_arg0 (ix2 ⟨16 * t.val + (y 0).val, row_lt t (y 0)⟩ (y 1)) := by
    obtain ⟨i, j, rfl⟩ : ∃ (i : Fin 16) (j : Fin 2048), y = ix2 i j := ⟨y 0, y 1, ValueIdx.eq_ix2 y⟩
    blk_simp
    refine congrArg _ ?_
    blk_ext [i0]
  funext y
  exact (h (V m c) y).trans (congrFun (V_main_arg0 m c) _)

theorem w1 (t : Fin cfg0.N) : iblk m c 1 t = rows (a1 m c) t := by
  have h (Z : (b : Ref sig .tc) → Buf (Elt Ideal) ((c : Thread nD τ).loc b)) (y : S16x2048.Idx) :
      ((cfg0.win 1).blk t).view.read (Elt Ideal) (Z (Pipeline.arrRef spec0 1)) y
        = Z main_arg1 (ix2 ⟨16 * t.val + (y 0).val, row_lt t (y 0)⟩ (y 1)) := by
    obtain ⟨i, j, rfl⟩ : ∃ (i : Fin 16) (j : Fin 2048), y = ix2 i j := ⟨y 0, y 1, ValueIdx.eq_ix2 y⟩
    blk_simp
    refine congrArg _ ?_
    blk_ext [i1]
  funext y
  exact (h (V m c) y).trans (congrFun (V_main_arg1 m c) _)

theorem w2 (t : Fin cfg0.N) : iblk m c 2 t = rows (a2 m c) t := by
  have h (Z : (b : Ref sig .tc) → Buf (Elt Ideal) ((c : Thread nD τ).loc b)) (y : S16x2048.Idx) :
      ((cfg0.win 2).blk t).view.read (Elt Ideal) (Z (Pipeline.arrRef spec0 2)) y
        = Z main_arg2 (ix2 ⟨16 * t.val + (y 0).val, row_lt t (y 0)⟩ (y 1)) := by
    obtain ⟨i, j, rfl⟩ : ∃ (i : Fin 16) (j : Fin 2048), y = ix2 i j := ⟨y 0, y 1, ValueIdx.eq_ix2 y⟩
    blk_simp
    refine congrArg _ ?_
    blk_ext [i2]
  funext y
  exact (h (V m c) y).trans (congrFun (V_main_arg2 m c) _)

theorem w3 (t : Fin cfg0.N) : iblk m c 3 t = rows (a3 m c) t := by
  have h (Z : (b : Ref sig .tc) → Buf (Elt Ideal) ((c : Thread nD τ).loc b)) (y : S16x2048.Idx) :
      ((cfg0.win 3).blk t).view.read (Elt Ideal) (Z (Pipeline.arrRef spec0 3)) y
        = Z main_arg3 (ix2 ⟨16 * t.val + (y 0).val, row_lt t (y 0)⟩ (y 1)) := by
    obtain ⟨i, j, rfl⟩ : ∃ (i : Fin 16) (j : Fin 2048), y = ix2 i j := ⟨y 0, y 1, ValueIdx.eq_ix2 y⟩
    blk_simp
    refine congrArg _ ?_
    blk_ext [i3]
  funext y
  exact (h (V m c) y).trans (congrFun (V_main_arg3 m c) _)

theorem out4 (x0 x1 x2 x3 : Vec Ideal S16x2048 .f32) : out0_4 x0 x1 x2 x3 = k0_pay3 x1 x2 x3 x0 := by
  unfold out0_4
  rw [View.canon_cons_unit_lit _ _ _ (by decide), View.ld_unit_lit _ _ (by decide), View.ld_unit_lit _ _ (by decide), View.ld_unit_lit _ _ (by decide), View.ld_unit_lit _ _ (by decide)]

/-- The weight's change. -/
theorem result4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4, out4, w0, w1, w2, w3]
  obtain ⟨i, j, rfl⟩ : ∃ (i : Fin 16) (j : Fin 2048), y = ix2 i j := ⟨y 0, y 1, ValueIdx.eq_ix2 y⟩
  refine (pay3_at (a0 m c) (a1 m c) (a2 m c) (a3 m c) t i j : _ = (val_main_v23 (F := Ideal) (a0 m c) (a1 m c) (a2 m c) (a3 m c) : X) (ix2 ⟨16 * t.val + i.val, row_lt t i⟩ j)).trans ?_
  refine congrArg _ ?_
  blk_ext [i4]
  show 16 * 0 + i.val = i.val
  omega

theorem out5 (x0 x1 x2 x3 : Vec Ideal S16x2048 .f32) : out0_5 x0 x1 x2 x3 = k0_pay1 x1 x2 := by
  unfold out0_5
  rw [View.canon_cons_unit_lit _ _ _ (by decide), View.ld_unit_lit _ _ (by decide), View.ld_unit_lit _ _ (by decide)]

/-- The first moment. -/
theorem result5 : (dats m 0 c).arrAt 5 cfg0.N = val_main_v4 (F := Ideal) (a1 m c) (a2 m c) := by
  refine (dats m 0 c).arrAt_eq_of_covers 5 _ (by decide +kernel) fun t hf y => ?_
  blk_simp
  rw [after0_5, out5, w1, w2]
  obtain ⟨i, j, rfl⟩ : ∃ (i : Fin 16) (j : Fin 2048), y = ix2 i j := ⟨y 0, y 1, ValueIdx.eq_ix2 y⟩
  refine (pay1_at (a1 m c) (a2 m c) t i j : _ = (val_main_v4 (F := Ideal) (a1 m c) (a2 m c) : X) (ix2 ⟨16 * t.val + i.val, row_lt t i⟩ j)).trans ?_
  refine congrArg _ ?_
  blk_ext [i5]
  show 16 * 0 + i.val = i.val
  omega

theorem out6 (x0 x1 x2 x3 : Vec Ideal S16x2048 .f32) : out0_6 x0 x1 x2 x3 = k0_pay2 x1 x3 := by
  unfold out0_6
  rw [View.canon_cons_unit_lit _ _ _ (by decide), View.ld_unit_lit _ _ (by decide), View.ld_unit_lit _ _ (by decide)]

/-- The second moment. -/
theorem result6 : (dats m 0 c).arrAt 6 cfg0.N = val_main_v10 (F := Ideal) (a1 m c) (a3 m c) := by
  refine (dats m 0 c).arrAt_eq_of_covers 6 _ (by decide +kernel) fun t hf y => ?_
  blk_simp
  rw [after0_6, out6, w1, w3]
  obtain ⟨i, j, rfl⟩ : ∃ (i : Fin 16) (j : Fin 2048), y = ix2 i j := ⟨y 0, y 1, ValueIdx.eq_ix2 y⟩
  refine (pay2_at (a1 m c) (a3 m c) t i j : _ = (val_main_v10 (F := Ideal) (a1 m c) (a3 m c) : X) (ix2 ⟨16 * t.val + i.val, row_lt t i⟩ j)).trans ?_
  refine congrArg _ ?_
  blk_ext [i6]
  show 16 * 0 + i.val = i.val
  omega

theorem out7 (x0 x1 x2 x3 : Vec Ideal S16x2048 .f32) : out0_7 x0 x1 x2 x3 = x1 := by
  unfold out0_7
  rw [View.canon_cons_unit_lit _ _ _ (by decide), View.ld_unit_lit _ _ (by decide)]

/-- The gradient, copied. -/
theorem result7 : (dats m 0 c).arrAt 7 cfg0.N = a1 m c := by
  refine (dats m 0 c).arrAt_eq_of_covers 7 _ (by decide +kernel) fun t hf y => ?_
  blk_simp
  rw [after0_7, out7, w1]
  obtain ⟨i, j, rfl⟩ : ∃ (i : Fin 16) (j : Fin 2048), y = ix2 i j := ⟨y 0, y 1, ValueIdx.eq_ix2 y⟩
  refine (rfl : _ = (a1 m c : X) (ix2 ⟨16 * t.val + i.val, row_lt t i⟩ j)).trans ?_
  refine congrArg _ ?_
  blk_ext [i7]
  show 16 * 0 + i.val = i.val
  omega

/-- Over the extended reals the call is the reference. -/
theorem same : Cert.algebraic_KernelAdamwSmallIdeal_ReferenceAdamwSmallIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact (θ_run defs _ _).mono (fun r h c => h c) (Value.run_blocks m g)
  · refine (θ_run Cert.ReferenceAdamwSmallIdeal.defs _ _).mono (fun r h c => ?_) (Cert.ReferenceAdamwSmallIdeal.Value.run (F := Ideal) m' g')
    have h := h c
    obtain ⟨e0, e1, e2, e3⟩ := hargs c
    refine ⟨?_, ?_, ?_, ?_, h.2.2.2.2⟩
    · refine (h.1.trans (Cert.ReferenceAdamwSmallIdeal.Read.val_main_v23_eq _ _ _ _)).trans (Eq.trans ?_ (result4 m c).symm)
      exact congr (congr (congr (congrArg _ e0) e1) e2) e3
    · refine (h.2.1.trans (Cert.ReferenceAdamwSmallIdeal.Read.val_main_v4_eq _ _)).trans (Eq.trans ?_ (result5 m c).symm)
      exact congr (congrArg _ e1) e2
    · refine (h.2.2.1.trans (Cert.ReferenceAdamwSmallIdeal.Read.val_main_v10_eq _ _)).trans (Eq.trans ?_ (result6 m c).symm)
      exact congr (congrArg _ e1) e3
    · exact (h.2.2.2.1.trans e1).trans (result7 m c).symm

end Cert.KernelAdamwSmallIdeal.Hand
-- ==== Proof.Norm.lean ====
module

public import Idealize.ShloMosaic.PureOps.Ideal
public import Idealize.ShloMosaic.Lib.ValueIdx
public import proofs.«01_k».proof.Proof.Spec

/-!
  Back through a norm of one row, over the extended reals: the gradient with the sum over the row taken of the
  normalised row, and the gradient summand by summand. They agree at every row, the infinite ones included: an infinite
  entry makes the mean of the squares infinite and the scale zero.
-/

@[expose] public section

noncomputable section

namespace Cert.Norm

open Idealize.ShloMosaic

/-- The row's length, the number added under the root, and minus a half, as they are written. -/
abbrev cN : EReal := Ideal.ofBits .f32 0x45000000#32
abbrev cE : EReal := Ideal.ofBits .f32 0x358637BD#32
abbrev cH : EReal := Ideal.ofBits .f32 0xBF000000#32

theorem cN_eq : cN = ((2048 : ℝ) : EReal) := by
  simp [cN, Ideal.ofBits, Ideal.ieee, -EReal.coe_mul]; norm_num
theorem cE_eq : cE = ((Spec.eps : ℝ) : EReal) := by
  unfold Spec.eps; simp [cE, Ideal.ofBits, Ideal.ieee, -EReal.coe_mul]; norm_num
theorem cH_eq : cH = ((-(1 / 2) : ℝ) : EReal) := by
  simp [cH, Ideal.ofBits, Ideal.ieee, -EReal.coe_mul, -EReal.coe_neg]; norm_num

/-- The mean of the squares, with the number added. -/
def den (x : Fin 2048 → EReal) : EReal := Ideal.div (∑ k, x k * x k) cN + cE
/-- The row's scale. -/
def rs (x : Fin 2048 → EReal) : EReal := Ideal.rsqrt (den x)
/-- The gradient, with the sum over the row taken of the normalised row. -/
def dxK (x g d e : Fin 2048 → EReal) (j : Fin 2048) : EReal :=
  e j + rs x * (d j * g j - x j * rs x * Ideal.div (∑ k, x k * rs x * (d k * g k)) cN)
/-- The derivative through the scale, of the mean of the squares. -/
def dsR (x g d : Fin 2048 → EReal) : EReal :=
  Ideal.div ((∑ k, x k * (d k * g k)) * (cH * Ideal.div (rs x) (den x))) cN
/-- The gradient, summand by summand. -/
def dxR (x g d e : Fin 2048 → EReal) (j : Fin 2048) : EReal :=
  e j + d j * g j * rs x + x j * dsR x g d + dsR x g d * x j

theorem coe_mul_sum {ι : Type} (r : ℝ) (hr : 0 ≤ r) (s : Finset ι) (f : ι → EReal) : ∑ k ∈ s, (r : EReal) * f k = (r : EReal) * ∑ k ∈ s, f k := by
  classical
  induction s using Finset.induction_on with
  | empty => simp
  | insert a s ha ih =>
    rw [Finset.sum_insert ha, Finset.sum_insert ha, ih, EReal.left_distrib_of_nonneg_of_ne_top (EReal.coe_nonneg.mpr hr) (EReal.coe_ne_top r)]

theorem twice (z : EReal) : z + z = ((2 : ℝ) : EReal) * z := by
  induction z with
  | bot => rw [EReal.coe_mul_bot_of_pos (by norm_num)]; rfl
  | coe a => rw [← EReal.coe_add, ← EReal.coe_mul, two_mul]
  | top => rw [EReal.coe_mul_top_of_pos (by norm_num)]; rfl

/-- A real row. -/
theorem dx_real (x : Fin 2048 → ℝ) (g d e : Fin 2048 → EReal) (j : Fin 2048) :
    dxK (fun k => (x k : EReal)) g d e j = dxR (fun k => (x k : EReal)) g d e j := by
  have hn : (2048 : ℝ) ≠ 0 := by norm_num
  have hpos : 0 < (∑ k, x k * x k) * (1 / 2048) + Spec.eps :=
    add_pos_of_nonneg_of_pos (mul_nonneg (Finset.sum_nonneg fun k _ => mul_self_nonneg _) (by norm_num)) Spec.eps_pos
  have hden : den (fun k => (x k : EReal)) = (((∑ k, x k * x k) * (1 / 2048) + Spec.eps : ℝ) : EReal) := by
    unfold den
    rw [cN_eq, cE_eq]
    simp only [← EReal.coe_mul]
    rw [Spec.coe_sum, Ideal.div_coe hn, ← EReal.coe_mul, ← EReal.coe_add]
  generalize (∑ k, x k * x k) * (1 / 2048) + Spec.eps = y at hpos hden
  have hrs : rs (fun k => (x k : EReal)) = (((Real.sqrt y)⁻¹ : ℝ) : EReal) := by
    unfold rs
    rw [hden, Ideal.rsqrt_coe, if_neg hpos.not_gt, if_neg hpos.ne']
  have hr : (Real.sqrt y)⁻¹ * (Real.sqrt y)⁻¹ = 1 / y := by
    rw [← mul_inv, Real.mul_self_sqrt hpos.le, one_div]
  have h0 : 0 ≤ (Real.sqrt y)⁻¹ := inv_nonneg.mpr (Real.sqrt_nonneg y)
  generalize (Real.sqrt y)⁻¹ = r at hrs hr h0
  have hsum : ∑ k, (x k : EReal) * (r : EReal) * (d k * g k) = (r : EReal) * ∑ k, (x k : EReal) * (d k * g k) := by
    rw [← coe_mul_sum r h0]
    exact Finset.sum_congr rfl fun k _ => by rw [mul_comm (x k : EReal), mul_assoc]
  unfold dxK dxR dsR
  rw [hrs, hden, cN_eq, cH_eq, hsum]
  generalize ∑ k, (x k : EReal) * (d k * g k) = S
  generalize d j * g j = u
  rw [Ideal.div_coe hpos.ne', Ideal.div_coe hn, Ideal.div_coe hn, mul_comm (S * _ * _) (x j : EReal), add_assoc (e j + _), twice, sub_eq_add_neg,
    EReal.left_distrib_of_nonneg_of_ne_top (EReal.coe_nonneg.mpr h0) (EReal.coe_ne_top r), mul_comm u, ← add_assoc]
  refine congrArg (e j + (r : EReal) * u + ·) ?_
  have el : (r : EReal) * -((x j : EReal) * (r : EReal) * ((r : EReal) * S * ((1 / 2048 : ℝ) : EReal))) = ((-(r * x j * r * r * (1 / 2048)) : ℝ) : EReal) * S := by
    rw [EReal.coe_neg, neg_mul, mul_neg]
    simp only [EReal.coe_mul]
    refine congrArg _ ?_
    ac_rfl
  have er : ((2 : ℝ) : EReal) * ((x j : EReal) * (S * (((-(1 / 2) : ℝ) : EReal) * ((r : EReal) * ((1 / y : ℝ) : EReal))) * ((1 / 2048 : ℝ) : EReal)))
      = ((2 * x j * (-(1 / 2)) * r * (1 / y) * (1 / 2048) : ℝ) : EReal) * S := by
    simp only [EReal.coe_mul]
    ac_rfl
  rw [el, er, ← hr]
  refine congrArg (fun z : ℝ => (z : EReal) * S) ?_
  ring

/-- A row with an infinite entry. -/
theorem rs_inf (x : Fin 2048 → EReal) (i : Fin 2048) (h : x i = ⊤ ∨ x i = ⊥) : den x = ⊤ := by
  have hsq (k : Fin 2048) : 0 ≤ x k * x k := by
    induction x k with
    | bot => simp
    | coe a => rw [← EReal.coe_mul]; exact EReal.coe_nonneg.mpr (mul_self_nonneg a)
    | top => simp
  have hi : x i * x i = ⊤ := by rcases h with h | h <;> rw [h] <;> rfl
  have hs : ∑ k, x k * x k = ⊤ := top_le_iff.mp (hi ▸ Finset.single_le_sum (f := fun k => x k * x k) (fun k _ => hsq k) (Finset.mem_univ i))
  unfold den
  rw [hs, cN_eq, cE_eq, Ideal.div_coe (by norm_num), EReal.top_mul_coe_of_pos (by norm_num), EReal.top_add_coe]

theorem dx_inf (x g d e : Fin 2048 → EReal) (j : Fin 2048) (h : den x = ⊤) : dxK x g d e j = dxR x g d e j := by
  have hr : rs x = 0 := by unfold rs; rw [h]; rfl
  have hd : Ideal.div (0 : EReal) ⊤ = 0 := by simp [Ideal.div]
  have hn : Ideal.div (0 : EReal) cN = 0 := by rw [cN_eq, Ideal.div_coe (by norm_num), zero_mul]
  unfold dxK dxR dsR
  rw [hr, h, hd]
  simp only [mul_zero, zero_mul, hn, add_zero]

/-- The two gradients agree. -/
theorem dx_eq (x g d e : Fin 2048 → EReal) (j : Fin 2048) : dxK x g d e j = dxR x g d e j := by
  by_cases h : ∃ i, x i = ⊤ ∨ x i = ⊥
  · obtain ⟨i, h⟩ := h
    exact dx_inf x g d e j (rs_inf x i h)
  · have hx : x = fun k => ((x k).toReal : EReal) := funext fun k =>
      (EReal.coe_toReal (fun e => h ⟨k, .inl e⟩) (fun e => h ⟨k, .inr e⟩)).symm
    rw [hx]
    exact dx_real _ g d e j

end Cert.Norm
-- ==== Proof.Input.lean ====
module

public import proofs.«01_k».proof.Defs
public import proofs.«01_k».proof.Proof.Gen.KernelInputIdeal.Value
public import proofs.«01_k».proof.Proof.Gen.ReferenceInputIdeal.Read
public import proofs.«01_k».proof.Proof.Gen.ReferenceInputIdeal.Run
public import Idealize.ShloMosaic.Lib.Pipeline.ValueKit.Geometry
public import Idealize.ShloMosaic.Lib.Pipeline.ValueKit.Acc
public import proofs.«01_k».proof.Proof.Products
public import proofs.«01_k».proof.Proof.Norm

/-!
  Back through the norm before the mixing layer. A grid point takes 256 rows: it writes their gradient and adds their
  part of the gradient of the gains to the sum of the earlier points.
-/

@[expose] public section

set_option maxRecDepth 8192

noncomputable section

namespace Cert.KernelInputIdeal.Hand

open Cert.KernelInputIdeal Cert.KernelInputIdeal.Gen
open Idealize.ShloMosaic
open Idealize.ShloMosaic.TcCoe Idealize.ShloMosaic.ValueIdx Idealize.ShloMosaic.ValueKit Idealize.ShloMosaic.StableHlo
open Idealize.SL.Sem
open Cert.Norm
open Cert.ReferenceInputIdeal.Read (val_main_v34 val_main_v17)

abbrev X := (⟨S2048x2048, .f32⟩ : BufTy).Contents (Elt Ideal)
abbrev G := (⟨S1x2048, .f32⟩ : BufTy).Contents (Elt Ideal)

/-! ## The reference -/

section Reference
open Cert.ReferenceInputIdeal.Read

variable (x0 x2 x3 : X) (x1 : G)

abbrev rowOf (x : X) (i : Fin 2048) : Fin 2048 → EReal := fun k => x (ix2 i k)
abbrev gOf (x : G) : Fin 2048 → EReal := fun k => x (ix2 0 k)

theorem ref_v6 (i : Fin 2048) : val_main_v6 (F := Ideal) x0 (ix2 i 0) = den (rowOf x0 i) := by
  rw [val_main_v6_apply, val_main_v4_apply, val_main_v2_apply, val_main_v1_apply, val_main_v3_apply, val_main_v5_apply]
  show Ideal.div (Ideal.ofBits .f32 0x00000000#32 + _) cN + cE = _
  rw [Ideal.ofBits_zero_f32, zero_add]
  unfold den
  refine congrArg (fun z => Ideal.div z cN + cE) (Finset.sum_congr rfl fun k _ => ?_)
  have h : idx_main_v1 (idx_main_v2 (ix2 i 0)) k = ix2 i k := by
    funext a; match a with | ⟨0, _⟩ => rfl | ⟨1, _⟩ => rfl
  rw [h]
  rfl

theorem ref_v7 (i : Fin 2048) : val_main_v7 (F := Ideal) x0 (ix2 i 0) = rs (rowOf x0 i) := by
  rw [val_main_v7_apply, ref_v6]
  rfl

theorem ref_v19 (i j : Fin 2048) : val_main_v19 (F := Ideal) x1 x3 (ix2 i j) = (rowOf x3 i j * gOf x1 j : EReal) := by
  rw [val_main_v19_apply, val_main_v18_apply]
  have h : idx_main_v18 (ix2 i j) = ix2 0 j := by
    funext a; match a with | ⟨0, _⟩ => rfl | ⟨1, _⟩ => rfl
  rw [h]
  rfl

theorem ref_v28 (i : Fin 2048) : val_main_v28 (F := Ideal) x0 x1 x3 (ix2 i 0) = dsR (rowOf x0 i) (gOf x1) (rowOf x3 i) := by
  rw [val_main_v28_apply, val_main_v26_apply, val_main_v10_apply, val_main_v8_apply, ref_v7, ref_v6, val_main_v22_apply, val_main_v21_apply,
    val_main_v27_apply, val_main_v9_apply]
  show Ideal.div ((Ideal.ofBits .f32 0x00000000#32 + _) * (cH * Ideal.div _ _)) cN = _
  rw [Ideal.ofBits_zero_f32, zero_add]
  unfold dsR
  refine congrArg (fun z => Ideal.div (z * _) cN) (Finset.sum_congr rfl fun k _ => ?_)
  have h : idx_main_v21 (idx_main_v22 (ix2 i 0)) k = ix2 i k := by
    funext a; match a with
    | ⟨0, _⟩ => exact Fin.ext (show i.val * 1 + 0 = i.val by omega)
    | ⟨1, _⟩ => rfl
  rw [h, val_main_v20_apply, ref_v19]
  rfl

theorem ref_v30 (i j : Fin 2048) : val_main_v30 (F := Ideal) x0 x1 x3 (ix2 i j) = dsR (rowOf x0 i) (gOf x1) (rowOf x3 i) := by
  rw [val_main_v30_apply, val_main_v29_apply, ← ref_v28]
  show Ideal.ofBits .f32 0x00000000#32 + _ = _
  rw [Ideal.ofBits_zero_f32, zero_add, Fin.sum_univ_one]
  refine congrArg _ ?_
  funext a; match a with | ⟨0, _⟩ => rfl | ⟨1, _⟩ => rfl

theorem ref_dx (i j : Fin 2048) :
    val_main_v34 (F := Ideal) x0 x1 x2 x3 (ix2 i j) = dxR (rowOf x0 i) (gOf x1) (rowOf x3 i) (rowOf x2 i) j := by
  rw [val_main_v34_apply, val_main_v33_apply, val_main_v32_apply, val_main_v31_apply, ref_v30, val_main_v25_apply, val_main_v24_apply, ref_v19,
    val_main_v23_apply]
  have h : idx_main_v23 (ix2 i j) = ix2 i 0 := by
    funext a; match a with | ⟨0, _⟩ => rfl | ⟨1, _⟩ => rfl
  rw [h, ref_v7]
  rfl

/-- The gradient of the gains: a sum over the rows. -/
theorem ref_dg (j : Fin 2048) :
    val_main_v17 (F := Ideal) x0 x3 (ix2 0 j) = ∑ i : Fin 2048, (rowOf x3 i j * (rowOf x0 i j * rs (rowOf x0 i)) : EReal) := by
  rw [val_main_v17_apply, val_main_v16_apply]
  show Ideal.ofBits .f32 0x00000000#32 + _ = _
  rw [Ideal.ofBits_zero_f32, zero_add]
  refine Finset.sum_congr rfl fun i _ => ?_
  have h : idx_main_v16 (idx_main_v17 (ix2 0 j)) i = ix2 i j := by
    funext a; match a with
    | ⟨0, _⟩ => rfl
    | ⟨1, _⟩ => exact Fin.ext (show 0 * 2048 + j.val = j.val by omega)
  rw [h, val_main_v15_apply, val_main_v12_apply, val_main_v11_apply]
  have h' : idx_main_v11 (ix2 i j) = ix2 i 0 := by
    funext a; match a with | ⟨0, _⟩ => rfl | ⟨1, _⟩ => rfl
  rw [h', ref_v7]
  exact mul_comm _ _

end Reference

/-! ## One grid point -/

section Point

variable (x d e : Vec Ideal S256x2048 .f32) (g : Vec Ideal S1x2048 .f32)

abbrev rowB (x : Vec Ideal S256x2048 .f32) (i : Fin 256) : Fin 2048 → EReal := fun k => x (ix2 i k)

theorem rowsum (x : FVec Ideal S256x2048 .f32) (i : Fin 256) :
    shapeCast S256x1 (multiReduction .add [1] S256 x 0x00000000#32 reduces_S256x2048_S256 (.inl rfl) rfl) shapeCasts_S256_S256x1 (ix2 i 0)
      = (∑ k : Fin 2048, x (ix2 i k) : EReal) := by
  rw [shapeCast_apply _ _ (ix2 i 0) (ix1 i) (by rw [Shape.rowMajor_val_two, Shape.rowMajor_val_one]; show i.val = i.val * 1 + 0; omega)]
  refine (Ideal.multiReduction_add_single x _ _ _ _ (ix1 i)).trans ?_
  refine Finset.sum_congr rfl fun k _ => congrArg x (funext fun z => Fin.ext ?_)
  match z with
  | ⟨0, _⟩ => rfl
  | ⟨1, _⟩ => rfl

theorem colsum (x : FVec Ideal S256x2048 .f32) (j : Fin 2048) :
    shapeCast S1x2048 (multiReduction .add [0] S2048 x 0x00000000#32 reduces_S256x2048_S2048 (.inl rfl) rfl) shapeCasts_S2048_S1x2048 (ix2 0 j)
      = (∑ i : Fin 256, x (ix2 i j) : EReal) := by
  rw [shapeCast_apply _ _ (ix2 0 j) (ix1 j) (by rw [Shape.rowMajor_val_two, Shape.rowMajor_val_one]; show j.val = 0 * 2048 + j.val; omega)]
  refine (Ideal.multiReduction_add_single x _ _ _ _ (ix1 j)).trans ?_
  refine Finset.sum_congr rfl fun k _ => congrArg x (funext fun z => Fin.ext ?_)
  match z with
  | ⟨0, _⟩ => rfl
  | ⟨1, _⟩ => rfl

theorem bcol (y : FVec Ideal S256x1 .f32) (i : Fin 256) (j : Fin 2048) :
    broadcastTo S256x2048 y broadcasts_S256x1_S256x2048 (ix2 i j) = y (ix2 i 0) := by
  refine congrArg y (funext fun z => Fin.ext ?_)
  match z with
  | ⟨0, _⟩ => rfl
  | ⟨1, _⟩ => rfl

theorem brow (y : FVec Ideal S1x2048 .f32) (i : Fin 256) (j : Fin 2048) :
    broadcastTo S256x2048 y broadcasts_S1x2048_S256x2048 (ix2 i j) = y (ix2 0 j) := by
  refine congrArg y (funext fun z => Fin.ext ?_)
  match z with
  | ⟨0, _⟩ => rfl
  | ⟨1, _⟩ => rfl

theorem pay2_at (i : Fin 256) : k0_pay2 x (ix2 i 0) = rs (rowB x i) := by
  show Ideal.rsqrt (Ideal.div (shapeCast S256x1 _ _ (ix2 i 0)) cN + cE) = _
  rw [rowsum]
  rfl

theorem pay3_at (i : Fin 256) (j : Fin 2048) : k0_pay3 x (ix2 i j) = (rowB x i j * rs (rowB x i) : EReal) := by
  rw [← pay2_at]
  exact congrArg (fun z : EReal => x (ix2 i j) * z) (bcol (k0_pay2 x) i j)

theorem pay4_at (i : Fin 256) (j : Fin 2048) :
    k0_pay4 x g d e (ix2 i j) = dxK (rowB x i) (fun k => g (ix2 0 k)) (rowB d i) (rowB e i) j := by
  have hu (k : Fin 2048) : (mulf (F := Ideal) (φ := .f32) d (broadcastTo S256x2048 g broadcasts_S1x2048_S256x2048) (ix2 i k) : EReal) = (rowB d i k * g (ix2 0 k) : EReal) :=
    (mulf_apply _ _ _).trans (congrArg (fun z : EReal => d (ix2 i k) * z) (brow g i k))
  unfold k0_pay4
  dsimp only
  rw [addf_apply, mulf_apply, subf_apply, mulf_apply (k0_pay3 x), bcol, bcol, pay2_at, pay3_at, hu]
  show (_ + _ * (_ - _ * Ideal.div (shapeCast S256x1 _ _ (ix2 i 0)) cN) : EReal) = _
  rw [rowsum]
  unfold dxK
  refine congrArg (fun z : EReal => rowB e i j + rs (rowB x i) * (rowB d i j * g (ix2 0 j) - rowB x i j * rs (rowB x i) * Ideal.div z cN)) ?_
  refine Finset.sum_congr rfl fun k _ => ?_
  rw [mulf_apply, pay3_at, hu]

theorem pay5_at (j : Fin 2048) : k0_pay5 x d (ix2 0 j) = (∑ i : Fin 256, rowB d i j * (rowB x i j * rs (rowB x i)) : EReal) := by
  unfold k0_pay5
  dsimp only
  rw [colsum]
  refine Finset.sum_congr rfl fun i _ => ?_
  rw [mulf_apply, pay3_at]

theorem cast_self (z : Vec Ideal S1x2048 .f32) : shapeCast S1x2048 z shapeCasts_S1x2048_S1x2048 = z := by
  funext i; exact shapeCast_apply z _ i i rfl

theorem pay1_at (y z : Vec Ideal S1x2048 .f32) (j : Fin 2048) : k0_pay1 y z (ix2 0 j) = (z (ix2 0 j) + y (ix2 0 j) : EReal) := by
  unfold k0_pay1
  rw [addf_apply, cast_self]

end Point

/-! ## The call -/

variable (m : (ℓ : Loc nD τ sig) → Buf (Elt Ideal) ℓ) (c : Dev nD)

/-- The layer's input, the norm's gains, the gradient of the residual branch and that of the norm's output. -/
abbrev a0 : X := m ((c : Thread nD τ).loc main_arg0)
abbrev a1 : G := m ((c : Thread nD τ).loc main_arg1)
abbrev a2 : X := m ((c : Thread nD τ).loc main_arg2)
abbrev a3 : X := m ((c : Thread nD τ).loc main_arg3)

theorem row_lt (t : Fin cfg0.N) (i : Fin 256) : i.val + 256 * t.val < 2048 := by
  have := t.isLt; have : cfg0.N = 8 := rfl; omega

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![0, 0] := (by decide +kernel : ∀ t : Fin grid0.N, _)

theorem w0 (t : Fin cfg0.N) (i : Fin 256) (j : Fin 2048) : iblk m c 0 t (ix2 i j) = a2 m c (ix2 ⟨i.val + 256 * t.val, row_lt t i⟩ j) := by
  have h (Z : (b : Ref sig .tc) → Buf (Elt Ideal) ((c : Thread nD τ).loc b)) :
      ((cfg0.win 0).blk t).view.read (Elt Ideal) (Z (Pipeline.arrRef spec0 0)) (ix2 i j)
        = Z main_arg2 (ix2 ⟨i.val + 256 * t.val, row_lt t i⟩ j) := by
    blk_simp
    refine congrArg _ ?_
    blk_ext [i0]
    show t.val * 256 + i.val = i.val + 256 * t.val
    omega
  exact (h (V m c)).trans (congrFun (V_main_arg2 m c) _)

theorem w1 (t : Fin cfg0.N) (i : Fin 256) (j : Fin 2048) : iblk m c 1 t (ix2 i j) = a3 m c (ix2 ⟨i.val + 256 * t.val, row_lt t i⟩ j) := by
  have h (Z : (b : Ref sig .tc) → Buf (Elt Ideal) ((c : Thread nD τ).loc b)) :
      ((cfg0.win 1).blk t).view.read (Elt Ideal) (Z (Pipeline.arrRef spec0 1)) (ix2 i j)
        = Z main_arg3 (ix2 ⟨i.val + 256 * t.val, row_lt t i⟩ j) := by
    blk_simp
    refine congrArg _ ?_
    blk_ext [i1]
    show t.val * 256 + i.val = i.val + 256 * t.val
    omega
  exact (h (V m c)).trans (congrFun (V_main_arg3 m c) _)

theorem w2 (t : Fin cfg0.N) (i : Fin 256) (j : Fin 2048) : iblk m c 2 t (ix2 i j) = a0 m c (ix2 ⟨i.val + 256 * t.val, row_lt t i⟩ j) := by
  have h (Z : (b : Ref sig .tc) → Buf (Elt Ideal) ((c : Thread nD τ).loc b)) :
      ((cfg0.win 2).blk t).view.read (Elt Ideal) (Z (Pipeline.arrRef spec0 2)) (ix2 i j)
        = Z main_arg0 (ix2 ⟨i.val + 256 * t.val, row_lt t i⟩ j) := by
    blk_simp
    refine congrArg _ ?_
    blk_ext [i2]
    show t.val * 256 + i.val = i.val + 256 * t.val
    omega
  exact (h (V m c)).trans (congrFun (V_main_arg0 m c) _)

theorem w3 (t : Fin cfg0.N) (j : Fin 2048) : iblk m c 3 t (ix2 0 j) = a1 m c (ix2 0 j) := by
  have h (Z : (b : Ref sig .tc) → Buf (Elt Ideal) ((c : Thread nD τ).loc b)) :
      ((cfg0.win 3).blk t).view.read (Elt Ideal) (Z (Pipeline.arrRef spec0 3)) (ix2 0 j) = Z main_arg1 (ix2 0 j) := by
    blk_simp
    refine congrArg _ ?_
    blk_ext [i3]
  exact (h (V m c)).trans (congrFun (V_main_arg1 m c) _)

theorem row0 (t : Fin cfg0.N) (i : Fin 256) : rowB (iblk m c 0 t) i = rowOf (a2 m c) ⟨i.val + 256 * t.val, row_lt t i⟩ := funext fun k => w0 m c t i k
theorem row1 (t : Fin cfg0.N) (i : Fin 256) : rowB (iblk m c 1 t) i = rowOf (a3 m c) ⟨i.val + 256 * t.val, row_lt t i⟩ := funext fun k => w1 m c t i k
theorem row2 (t : Fin cfg0.N) (i : Fin 256) : rowB (iblk m c 2 t) i = rowOf (a0 m c) ⟨i.val + 256 * t.val, row_lt t i⟩ := funext fun k => w2 m c t i k
theorem row3 (t : Fin cfg0.N) : (fun k => iblk m c 3 t (ix2 0 k)) = gOf (a1 m c) := funext fun k => w3 m c t k

/-- The block of the rows' gradient a point writes. -/
theorem block (t : Fin cfg0.N) :
    (outsAt0 m c t.val t.isLt).1 = k0_pay4 (iblk m c 2 t) (iblk m c 3 t) (iblk m c 1 t) (iblk m c 0 t) := by
  have ht : t.val < 8 := t.isLt
  by_cases h : t.val = 0
  · rw [outsAt0_A m c t (by omega) (by omega)]
    dsimp only
    frame_out
  · rw [outsAt0_B m c t (by omega) (by omega)]
    dsimp only
    frame_out

/-- The first point leaves its part of the gains' gradient. -/
theorem first (t : Fin cfg0.N) (h : t.val = 0) : (outsAt0 m c t.val t.isLt).2 = k0_pay5 (iblk m c 2 t) (iblk m c 1 t) := by
  rw [outsAt0_A m c t (by omega) (by omega)]
  dsimp only
  frame_out

/-- A later one adds its own. -/
theorem next (t : Fin cfg0.N) (h : 1 ≤ t.val) (j : Fin 2048) :
    (outsAt0 m c t.val t.isLt).2 (ix2 0 j)
      = ((outsAt0 m c (t.val - 1) (Nat.lt_of_le_of_lt (Nat.sub_le _ _) t.isLt)).2 (ix2 0 j) : EReal)
        + k0_pay5 (iblk m c 2 t) (iblk m c 1 t) (ix2 0 j) := by
  have ht : t.val < 8 := t.isLt
  rw [outsAt0_B m c t (by omega) h]
  dsimp only
  frame_out
  exact pay1_at _ _ j

/-- A row's summand of the gains' gradient. -/
abbrev term (x d : X) (j i : Fin 2048) : EReal := rowOf d i j * (rowOf x i j * rs (rowOf x i))

/-- The summands of 256 rows. -/
abbrev part (x d : X) (j : Fin 2048) (n : ℕ) : EReal :=
  ∑ i : Fin 256, term x d j ⟨(i.val + 256 * n) % 2048, Nat.mod_lt _ (by decide)⟩

theorem part_at (t : Fin cfg0.N) (j : Fin 2048) : k0_pay5 (iblk m c 2 t) (iblk m c 1 t) (ix2 0 j) = part (a0 m c) (a3 m c) j t.val := by
  refine (pay5_at _ _ j).trans (Finset.sum_congr rfl fun i _ => ?_)
  rw [row1, row2]
  have e : (⟨i.val + 256 * t.val, row_lt t i⟩ : Fin 2048) = ⟨(i.val + 256 * t.val) % 2048, Nat.mod_lt _ (by decide)⟩ :=
    Fin.ext (Nat.mod_eq_of_lt (row_lt t i)).symm
  rw [e]

/-- After a point the buffer holds the sum of the points so far. -/
theorem total (n : ℕ) (hn : n < cfg0.N) (j : Fin 2048) :
    (outsAt0 m c n hn).2 (ix2 0 j) = ∑ s ∈ Finset.range (n + 1), part (a0 m c) (a3 m c) j s := by
  induction n with
  | zero =>
    rw [Finset.sum_range_one]
    exact (congrFun (first m c ⟨0, hn⟩ rfl) (ix2 0 j)).trans (part_at m c ⟨0, hn⟩ j)
  | succ n ih =>
    rw [Finset.sum_range_succ, ← ih (by omega)]
    exact (next m c ⟨n + 1, hn⟩ (by dsimp only; omega) j).trans (congrArg (_ + ·) (part_at m c ⟨n + 1, hn⟩ j))

theorem parts (x d : X) (j : Fin 2048) : ∑ s ∈ Finset.range 8, part x d j s = ∑ i : Fin 2048, term x d j i := by
  rw [Cert.Products.split (P := 8) (K := 256) rfl (fun i => term x d j i), Finset.sum_range]
  refine Finset.sum_congr rfl fun s _ => Finset.sum_congr rfl fun i _ => ?_
  exact congrArg _ (Fin.ext (Nat.mod_eq_of_lt (by have := s.isLt; have := i.isLt; show i.val + 256 * s.val < 2048; omega)))

/-- The gradient of the gains. -/
theorem result_dg : (dats m 0 c).arrAt 5 cfg0.N = val_main_v17 (F := Ideal) (a0 m c) (a3 m c) := by
  refine (dats m 0 c).arrAt_eq_of_covers 5 _ (by decide +kernel) fun t hf y => ?_
  have h7 : t.val % 8 = 7 := (flush0_5 t).mp hf
  have ht : t.val < 8 := t.isLt
  blk_simp
  rw [after0_5]
  obtain ⟨i, j, rfl⟩ : ∃ (i : Fin 1) (j : Fin 2048), y = ix2 i j := ⟨y 0, y 1, ValueIdx.eq_ix2 y⟩
  obtain rfl : i = 0 := Subsingleton.elim _ _
  have e : t.val + 1 = 8 := by omega
  refine (total m c t.val t.isLt j).trans ?_
  rw [e, parts, ← ref_dg]
  refine congrArg _ ?_
  blk_ext [i5]

/-- The gradient of the layer's input. -/
theorem result_dx :
    (dats m 0 c).arrAt 4 cfg0.N = val_main_v34 (F := Ideal) (a0 m c) (a1 m c) (a2 m c) (a3 m c) := by
  refine (dats m 0 c).arrAt_eq_of_covers 4 _ (by decide +kernel) fun t hf y => ?_
  blk_simp
  rw [after0_4, block]
  obtain ⟨i, j, rfl⟩ : ∃ (i : Fin 256) (j : Fin 2048), y = ix2 i j := ⟨y 0, y 1, ValueIdx.eq_ix2 y⟩
  refine (pay4_at _ _ _ _ i j).trans ?_
  rw [row0, row1, row2, row3]
  have e : dxK (rowOf (a0 m c) ⟨i.val + 256 * t.val, row_lt t i⟩) (gOf (a1 m c)) (rowOf (a3 m c) ⟨i.val + 256 * t.val, row_lt t i⟩)
        (rowOf (a2 m c) ⟨i.val + 256 * t.val, row_lt t i⟩) j
      = val_main_v34 (F := Ideal) (a0 m c) (a1 m c) (a2 m c) (a3 m c) (ix2 ⟨i.val + 256 * t.val, row_lt t i⟩ j) := by
    rw [ref_dx]
    exact dx_eq _ _ _ _ j
  refine e.trans (congrArg _ ?_)
  blk_ext [i4]
  show i.val + 256 * t.val = t.val * 256 + i.val
  omega

/-- Over the extended reals the call is the reference. -/
theorem same : Cert.algebraic_KernelInputIdeal_ReferenceInputIdeal := by
  intro m g m' g' _ hargs
  refine ⟨fun c => (dats m 0 c).arrAt 4 cfg0.N, fun c => (dats m 0 c).arrAt 5 cfg0.N, ?_⟩
  refine ⟨(θ_run defs _ _).mono (fun r h c => h c) (Value.run_blocks m g), ?_⟩
  refine (θ_run Cert.ReferenceInputIdeal.defs _ _).mono (fun r h c => ?_) (Cert.ReferenceInputIdeal.Value.run (F := Ideal) m' g')
  have h := h c
  obtain ⟨e0, e1, e2, e3⟩ := hargs c
  refine ⟨?_, ?_, h.2.2⟩
  · refine (h.1.trans (Cert.ReferenceInputIdeal.Read.val_main_v34_eq _ _ _ _)).trans ?_
    refine Eq.trans ?_ (result_dx m c).symm
    exact congr (congr (congr (congrArg _ e0) e1) e2) e3
  · refine (h.2.1.trans (Cert.ReferenceInputIdeal.Read.val_main_v17_eq _ _)).trans ?_
    refine Eq.trans ?_ (result_dg m c).symm
    exact congr (congrArg _ e0) e3

end Cert.KernelInputIdeal.Hand
-- ==== Proof.Padded.lean ====
module

public import Idealize.ShloMosaic.Lib.ValueIdx
public import Idealize.ShloMosaic.Lib.Pipeline.Value
public import proofs.«01_k».proof.Proof.Products

/-!
  The input projection's columns as the kernel lays them out: 3840 columns, then the rotary key's 64, 192 columns of
  zeros, then the latent rows' 512. The weight, the gradient of the projection and the reference's results are each
  laid out so, from pieces of different widths.
-/

@[expose] public section

noncomputable section

namespace Cert.Padded

open Idealize.ShloMosaic
open Idealize.ShloMosaic.TcCoe Idealize.ShloMosaic.ValueIdx

/-- 2048 rows. -/
abbrev Mat (n : ℕ) : Type := (⟨2, ![2048, n]⟩ : Shape).Idx → EReal

/-- A row in the padded layout. -/
def pad (y : Fin 4416 → EReal) (n : Fin 4608) : EReal :=
  if h : n.val < 3840 then y ⟨n.val, by omega⟩
  else if h' : n.val < 3904 then y ⟨n.val + 512, by omega⟩
  else if n.val < 4096 then 0
  else y ⟨n.val - 256, by omega⟩

theorem pad_lo (y : Fin 4416 → EReal) (n : Fin 4608) (q : Fin 4416) (h : n.val < 3840) (e : q.val = n.val) : pad y n = y q := by
  unfold pad
  rw [dif_pos h]
  exact congrArg y (Fin.ext e.symm)

theorem pad_key (y : Fin 4416 → EReal) (n : Fin 4608) (q : Fin 4416) (h : 3840 ≤ n.val) (h' : n.val < 3904) (e : q.val = n.val + 512) :
    pad y n = y q := by
  unfold pad
  rw [dif_neg (by omega), dif_pos h']
  exact congrArg y (Fin.ext e.symm)

theorem pad_zero (y : Fin 4416 → EReal) (n : Fin 4608) (h : 3904 ≤ n.val) (h' : n.val < 4096) : pad y n = 0 := by
  unfold pad
  rw [dif_neg (by omega), dif_neg (by omega), if_pos h']

theorem pad_lat (y : Fin 4416 → EReal) (n : Fin 4608) (q : Fin 4416) (h : 4096 ≤ n.val) (e : n.val = q.val + 256) : pad y n = y q := by
  unfold pad
  rw [dif_neg (by omega), dif_neg (by omega), if_neg (by omega)]
  exact congrArg y (Fin.ext (by show n.val - 256 = q.val; omega))

/-- A product with padded columns is the product's padded columns. -/
theorem pad_sum {K : ℕ} (x : Fin K → EReal) (w : Fin K → Fin 4416 → EReal) (n : Fin 4608) :
    ∑ k, x k * pad (w k) n = pad (fun q => ∑ k, x k * w k q) n := by
  unfold pad
  by_cases h1 : n.val < 3840
  · simp only [dif_pos h1]
  · by_cases h2 : n.val < 3904
    · simp only [dif_neg h1, dif_pos h2]
    · by_cases h3 : n.val < 4096
      · simp only [dif_neg h1, dif_neg h2, if_pos h3, mul_zero, Finset.sum_const_zero]
      · simp only [dif_neg h1, dif_neg h2, if_neg h3]

/-- A sum over padded columns: the zeros add nothing, and the order of the pieces does not matter. -/
theorem sum_pad (a b : Fin 4416 → EReal) : ∑ n, pad a n * pad b n = ∑ q, a q * b q := by
  have e1 := Fin.sum_univ_add (a := 3840 + 64 + 192) (b := 512) (fun n : Fin (3840 + 64 + 192 + 512) => pad a n * pad b n)
  have e2 := Fin.sum_univ_add (a := 3840 + 64) (b := 192) (fun n : Fin (3840 + 64 + 192) => pad a (Fin.castAdd 512 n) * pad b (Fin.castAdd 512 n))
  have e3 := Fin.sum_univ_add (a := 3840) (b := 64) (fun n : Fin (3840 + 64) => pad a (Fin.castAdd 512 (Fin.castAdd 192 n)) * pad b (Fin.castAdd 512 (Fin.castAdd 192 n)))
  have f1 := Fin.sum_univ_add (a := 3840 + 512) (b := 64) (fun q : Fin (3840 + 512 + 64) => a q * b q)
  have f2 := Fin.sum_univ_add (a := 3840) (b := 512) (fun q : Fin (3840 + 512) => a (Fin.castAdd 64 q) * b (Fin.castAdd 64 q))
  have g1 : ∑ i : Fin 512, pad a (Fin.natAdd (3840 + 64 + 192) i) * pad b (Fin.natAdd (3840 + 64 + 192) i)
      = ∑ i : Fin 512, a (Fin.castAdd 64 (Fin.natAdd 3840 i)) * b (Fin.castAdd 64 (Fin.natAdd 3840 i)) :=
    Finset.sum_congr rfl fun i _ => by
      rw [pad_lat a _ (Fin.castAdd 64 (Fin.natAdd 3840 i)) (by show 4096 ≤ 4096 + i.val; omega) (by show 4096 + i.val = 3840 + i.val + 256; omega),
        pad_lat b _ (Fin.castAdd 64 (Fin.natAdd 3840 i)) (by show 4096 ≤ 4096 + i.val; omega) (by show 4096 + i.val = 3840 + i.val + 256; omega)]
  have g2 : ∑ i : Fin 192, pad a (Fin.castAdd 512 (Fin.natAdd (3840 + 64) i)) * pad b (Fin.castAdd 512 (Fin.natAdd (3840 + 64) i)) = 0 :=
    Finset.sum_eq_zero fun i _ => by
      rw [pad_zero a _ (by show 3904 ≤ 3904 + i.val; omega) (by show 3904 + i.val < 4096; have := i.isLt; omega), zero_mul]
  have g3 : ∑ i : Fin 64, pad a (Fin.castAdd 512 (Fin.castAdd 192 (Fin.natAdd 3840 i))) * pad b (Fin.castAdd 512 (Fin.castAdd 192 (Fin.natAdd 3840 i)))
      = ∑ i : Fin 64, a (Fin.natAdd (3840 + 512) i) * b (Fin.natAdd (3840 + 512) i) :=
    Finset.sum_congr rfl fun i _ => by
      have hi := i.isLt
      rw [pad_key a _ (Fin.natAdd (3840 + 512) i) (by show 3840 ≤ 3840 + i.val; omega) (by show 3840 + i.val < 3904; omega) (by show 4352 + i.val = 3840 + i.val + 512; omega),
        pad_key b _ (Fin.natAdd (3840 + 512) i) (by show 3840 ≤ 3840 + i.val; omega) (by show 3840 + i.val < 3904; omega) (by show 4352 + i.val = 3840 + i.val + 512; omega)]
  have g4 : ∑ i : Fin 3840, pad a (Fin.castAdd 512 (Fin.castAdd 192 (Fin.castAdd 64 i))) * pad b (Fin.castAdd 512 (Fin.castAdd 192 (Fin.castAdd 64 i)))
      = ∑ i : Fin 3840, a (Fin.castAdd 64 (Fin.castAdd 512 i)) * b (Fin.castAdd 64 (Fin.castAdd 512 i)) :=
    Finset.sum_congr rfl fun i _ => by
      rw [pad_lo a _ (Fin.castAdd 64 (Fin.castAdd 512 i)) i.isLt rfl, pad_lo b _ (Fin.castAdd 64 (Fin.castAdd 512 i)) i.isLt rfl]
  refine (e1.trans (congr (congrArg _ (e2.trans (congr (congrArg _ (e3.trans (congr (congrArg _ g4) g3))) g2))) g1)).trans
    (Eq.trans ?_ (f1.trans (congrArg (· + _) f2)).symm)
  show (_ + _ + 0 + _ : EReal) = _ + _ + _
  rw [add_zero, add_right_comm]

/-- A piece of a concatenation of columns. -/
theorem piece (xs : List ((s : Shape) × (s.Idx → EReal))) (h : Shape.Concatenates (xs.map (·.1)) ⟨2, ![2048, 4608]⟩ 1) (k : ℕ) (hk : k < xs.length)
    (w pre : ℕ) (x : Mat w) (hxk : xs[k] = ⟨⟨2, ![2048, w]⟩, x⟩)
    (hpre : (((xs.take k).map (·.1)).map fun s => if h : s.rank = 2 then s.size ((1 : Fin 2).cast h.symm) else 0).sum = pre)
    (i : Fin 2048) (l : Fin 4608) (j : Fin w) (hl : pre + j.val = l.val) : concatenate ⟨2, ![2048, 4608]⟩ 1 xs h (ix2 i l) = x (ix2 i j) := by
  refine concatenate_apply_piece (t := ⟨2, ![2048, 4608]⟩) 1 xs h (ix2 i l) k hk ⟨2, ![2048, w]⟩ x hxk rfl pre hpre (ix2 i j) ?_ hl
  intro b hb
  match b with
  | ⟨0, _⟩ => rfl
  | ⟨1, _⟩ => exact absurd rfl hb

/-- The weight, from its four column blocks. -/
theorem cat_shards (p0 : Mat 1104) (p1 : Mat 1104) (p2 : Mat 1104) (p3 : Mat 528) (p4 : Mat 64) (p5 : Mat 192) (p6 : Mat 512)
    (h : Shape.Concatenates [⟨2, ![2048, 1104]⟩, ⟨2, ![2048, 1104]⟩, ⟨2, ![2048, 1104]⟩, ⟨2, ![2048, 528]⟩, ⟨2, ![2048, 64]⟩, ⟨2, ![2048, 192]⟩, ⟨2, ![2048, 512]⟩] ⟨2, ![2048, 4608]⟩ 1)
    (y : Fin 4416 → EReal) (i : Fin 2048)
    (h0 : ∀ (j : Fin 1104) (q : Fin 4416), q.val = 0 + j.val → p0 (ix2 i j) = y q)
    (h1 : ∀ (j : Fin 1104) (q : Fin 4416), q.val = 1104 + j.val → p1 (ix2 i j) = y q)
    (h2 : ∀ (j : Fin 1104) (q : Fin 4416), q.val = 2208 + j.val → p2 (ix2 i j) = y q)
    (h3 : ∀ (j : Fin 528) (q : Fin 4416), q.val = 3312 + j.val → p3 (ix2 i j) = y q)
    (h4 : ∀ (j : Fin 64) (q : Fin 4416), q.val = 4352 + j.val → p4 (ix2 i j) = y q)
    (h5 : ∀ j, p5 (ix2 i j) = 0)
    (h6 : ∀ (j : Fin 512) (q : Fin 4416), q.val = 3840 + j.val → p6 (ix2 i j) = y q)
    (l : Fin 4608) :
    concatenate ⟨2, ![2048, 4608]⟩ 1 [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h (ix2 i l) = pad y l := by
  by_cases c0 : l.val < 1104
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 0 (show 0 < 7 by decide) 1104 0 p0 rfl rfl i l ⟨l.val - 0, by have := l.isLt; omega⟩ (by show 0 + (l.val - 0) = l.val; omega)).trans ?_
    exact (h0 ⟨l.val - 0, by have := l.isLt; omega⟩ ⟨0 + (l.val - 0), by have := l.isLt; omega⟩ rfl).trans (pad_lo y l ⟨0 + (l.val - 0), by have := l.isLt; omega⟩ (by omega) (by show 0 + (l.val - 0) = l.val; omega)).symm
  by_cases c1 : l.val < 2208
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 1 (show 1 < 7 by decide) 1104 1104 p1 rfl rfl i l ⟨l.val - 1104, by have := l.isLt; omega⟩ (by show 1104 + (l.val - 1104) = l.val; omega)).trans ?_
    exact (h1 ⟨l.val - 1104, by have := l.isLt; omega⟩ ⟨1104 + (l.val - 1104), by have := l.isLt; omega⟩ rfl).trans (pad_lo y l ⟨1104 + (l.val - 1104), by have := l.isLt; omega⟩ (by omega) (by show 1104 + (l.val - 1104) = l.val; omega)).symm
  by_cases c2 : l.val < 3312
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 2 (show 2 < 7 by decide) 1104 2208 p2 rfl rfl i l ⟨l.val - 2208, by have := l.isLt; omega⟩ (by show 2208 + (l.val - 2208) = l.val; omega)).trans ?_
    exact (h2 ⟨l.val - 2208, by have := l.isLt; omega⟩ ⟨2208 + (l.val - 2208), by have := l.isLt; omega⟩ rfl).trans (pad_lo y l ⟨2208 + (l.val - 2208), by have := l.isLt; omega⟩ (by omega) (by show 2208 + (l.val - 2208) = l.val; omega)).symm
  by_cases c3 : l.val < 3840
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 3 (show 3 < 7 by decide) 528 3312 p3 rfl rfl i l ⟨l.val - 3312, by have := l.isLt; omega⟩ (by show 3312 + (l.val - 3312) = l.val; omega)).trans ?_
    exact (h3 ⟨l.val - 3312, by have := l.isLt; omega⟩ ⟨3312 + (l.val - 3312), by have := l.isLt; omega⟩ rfl).trans (pad_lo y l ⟨3312 + (l.val - 3312), by have := l.isLt; omega⟩ (by omega) (by show 3312 + (l.val - 3312) = l.val; omega)).symm
  by_cases c4 : l.val < 3904
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 4 (show 4 < 7 by decide) 64 3840 p4 rfl rfl i l ⟨l.val - 3840, by have := l.isLt; omega⟩ (by show 3840 + (l.val - 3840) = l.val; omega)).trans ?_
    exact (h4 ⟨l.val - 3840, by have := l.isLt; omega⟩ ⟨4352 + (l.val - 3840), by have := l.isLt; omega⟩ rfl).trans (pad_key y l ⟨4352 + (l.val - 3840), by have := l.isLt; omega⟩ (by omega) (by omega) (by show 4352 + (l.val - 3840) = l.val + 512; omega)).symm
  by_cases c5 : l.val < 4096
  · refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 5 (show 5 < 7 by decide) 192 3904 p5 rfl rfl i l ⟨l.val - 3904, by have := l.isLt; omega⟩ (by show 3904 + (l.val - 3904) = l.val; omega)).trans ?_
    exact (h5 _).trans (pad_zero y l (by omega) (by omega)).symm
  refine (piece [⟨⟨2, ![2048, 1104]⟩, p0⟩, ⟨⟨2, ![2048, 1104]⟩, p1⟩, ⟨⟨2, ![2048, 1104]⟩, p2⟩, ⟨⟨2, ![2048, 528]⟩, p3⟩, ⟨⟨2, ![2048, 64]⟩, p4⟩, ⟨⟨2, ![2048, 192]⟩, p5⟩, ⟨⟨2, ![2048, 512]⟩, p6⟩] h 6 (show 6 < 7 by decide) 512 4096 p6 rfl rfl i l ⟨l.val - 4096, by have := l.isLt; omega⟩ (by show 4096 + (l.val - 4096) = l.val; omega)).trans ?_
  exact (h6 ⟨l.val - 4096, by have := l.isLt; omega⟩ ⟨3840 + (l.val - 4096), by have := l.isLt; omega⟩ rfl).trans (pad_lat y l ⟨3840 + (l.val - 4096), by have := l.isLt; omega⟩ (by omega) (by show l.val = 3840 + (l.val - 4096) + 256; omega)).symm

/-- A gradient, spread over the padded columns. -/
theorem cat_spread (p0 : Mat 3840) (p1 : Mat 64) (p2 : Mat 64) (p3 : Mat 128) (p4 : Mat 512)
    (h : Shape.Concatenates [⟨2, ![2048, 3840]⟩, ⟨2, ![2048, 64]⟩, ⟨2, ![2048, 64]⟩, ⟨2, ![2048, 128]⟩, ⟨2, ![2048, 512]⟩] ⟨2, ![2048, 4608]⟩ 1)
    (y : Fin 4416 → EReal) (i : Fin 2048)
    (h0 : ∀ (j : Fin 3840) (q : Fin 4416), q.val = 0 + j.val → p0 (ix2 i j) = y q)
    (h1 : ∀ (j : Fin 64) (q : Fin 4416), q.val = 4352 + j.val → p1 (ix2 i j) = y q)
    (h2 : ∀ j, p2 (ix2 i j) = 0)
    (h3 : ∀ j, p3 (ix2 i j) = 0)
    (h4 : ∀ (j : Fin 512) (q : Fin 4416), q.val = 3840 + j.val → p4 (ix2 i j) = y q)
    (l : Fin 4608) :
    concatenate ⟨2, ![2048, 4608]⟩ 1 [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h (ix2 i l) = pad y l := by
  by_cases c0 : l.val < 3840
  · refine (piece [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h 0 (show 0 < 5 by decide) 3840 0 p0 rfl rfl i l ⟨l.val - 0, by have := l.isLt; omega⟩ (by show 0 + (l.val - 0) = l.val; omega)).trans ?_
    exact (h0 ⟨l.val - 0, by have := l.isLt; omega⟩ ⟨0 + (l.val - 0), by have := l.isLt; omega⟩ rfl).trans (pad_lo y l ⟨0 + (l.val - 0), by have := l.isLt; omega⟩ (by omega) (by show 0 + (l.val - 0) = l.val; omega)).symm
  by_cases c1 : l.val < 3904
  · refine (piece [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h 1 (show 1 < 5 by decide) 64 3840 p1 rfl rfl i l ⟨l.val - 3840, by have := l.isLt; omega⟩ (by show 3840 + (l.val - 3840) = l.val; omega)).trans ?_
    exact (h1 ⟨l.val - 3840, by have := l.isLt; omega⟩ ⟨4352 + (l.val - 3840), by have := l.isLt; omega⟩ rfl).trans (pad_key y l ⟨4352 + (l.val - 3840), by have := l.isLt; omega⟩ (by omega) (by omega) (by show 4352 + (l.val - 3840) = l.val + 512; omega)).symm
  by_cases c2 : l.val < 3968
  · refine (piece [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h 2 (show 2 < 5 by decide) 64 3904 p2 rfl rfl i l ⟨l.val - 3904, by have := l.isLt; omega⟩ (by show 3904 + (l.val - 3904) = l.val; omega)).trans ?_
    exact (h2 _).trans (pad_zero y l (by omega) (by omega)).symm
  by_cases c3 : l.val < 4096
  · refine (piece [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h 3 (show 3 < 5 by decide) 128 3968 p3 rfl rfl i l ⟨l.val - 3968, by have := l.isLt; omega⟩ (by show 3968 + (l.val - 3968) = l.val; omega)).trans ?_
    exact (h3 _).trans (pad_zero y l (by omega) (by omega)).symm
  refine (piece [⟨⟨2, ![2048, 3840]⟩, p0⟩, ⟨⟨2, ![2048, 64]⟩, p1⟩, ⟨⟨2, ![2048, 64]⟩, p2⟩, ⟨⟨2, ![2048, 128]⟩, p3⟩, ⟨⟨2, ![2048, 512]⟩, p4⟩] h 4 (show 4 < 5 by decide) 512 4096 p4 rfl rfl i l ⟨l.val - 4096, by have := l.isLt; omega⟩ (by show 4096 + (l.val - 4096) = l.val; omega)).trans ?_
  exact (h4 ⟨l.val - 4096, by have := l.isLt; omega⟩ ⟨3840 + (l.val - 4096), by have := l.isLt; omega⟩ rfl).trans (pad_lat y l ⟨3840 + (l.val - 4096), by have := l.isLt; omega⟩ (by omega) (by show l.val = 3840 + (l.val - 4096) + 256; omega)).symm

/-- The reference's columns, from their six parts. -/
theorem cat_split (p0 : Mat 1024) (p1 : Mat 1024) (p2 : Mat 1024) (p3 : Mat 768) (p4 : Mat 64) (p5 : Mat 192) (p6 : Mat 512)
    (h : Shape.Concatenates [⟨2, ![2048, 1024]⟩, ⟨2, ![2048, 1024]⟩, ⟨2, ![2048, 1024]⟩, ⟨2, ![2048, 768]⟩, ⟨2, ![2048, 64]⟩, ⟨2, ![2048, 192]⟩, ⟨2, ![2048, 512]⟩] ⟨2, ![2048, 4608]⟩ 1)
    (y : Fin 4416 → EReal) (i : Fin 2048)
    (h0 : ∀ (j : Fin 1024) (q : Fin 4416), q.val = 0 + j.val → p0 (ix2 i j) = y q)
    (h1 : ∀ (j : Fin 1024) (q : Fin 4416), q.val = 1024 + j.val → p1 (ix2 i j) = y q)
    (h2 : ∀ (j : Fin 1024) (q : Fin 4416), q.val = 2048 + j.val → p2 (ix2 i j) = y q)
    (h3 : ∀ (j : Fin 768) (q : Fin 4416), q.val = 3072 + j.val → p3 (ix2 i j) = y q)
    (h4 : ∀ (j : Fin 64) (q : Fin 4416), q.val = 4352 + j.val → p4 (ix2 i j) = y q)
    (h5 : ∀ j, p5 (ix2 i j) = 0)
    (h6 : ∀ (j : Fin 512) (q : Fin 4416), q.val = 3840 + j.val → p6 (ix2 i j) = y q)
    (l : Fin 4608) :
    concatenate ⟨2, ![2048, 4608]⟩ 1 [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h (ix2 i l) = pad y l := by
  by_cases c0 : l.val < 1024
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 0 (show 0 < 7 by decide) 1024 0 p0 rfl rfl i l ⟨l.val - 0, by have := l.isLt; omega⟩ (by show 0 + (l.val - 0) = l.val; omega)).trans ?_
    exact (h0 ⟨l.val - 0, by have := l.isLt; omega⟩ ⟨0 + (l.val - 0), by have := l.isLt; omega⟩ rfl).trans (pad_lo y l ⟨0 + (l.val - 0), by have := l.isLt; omega⟩ (by omega) (by show 0 + (l.val - 0) = l.val; omega)).symm
  by_cases c1 : l.val < 2048
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 1 (show 1 < 7 by decide) 1024 1024 p1 rfl rfl i l ⟨l.val - 1024, by have := l.isLt; omega⟩ (by show 1024 + (l.val - 1024) = l.val; omega)).trans ?_
    exact (h1 ⟨l.val - 1024, by have := l.isLt; omega⟩ ⟨1024 + (l.val - 1024), by have := l.isLt; omega⟩ rfl).trans (pad_lo y l ⟨1024 + (l.val - 1024), by have := l.isLt; omega⟩ (by omega) (by show 1024 + (l.val - 1024) = l.val; omega)).symm
  by_cases c2 : l.val < 3072
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 2 (show 2 < 7 by decide) 1024 2048 p2 rfl rfl i l ⟨l.val - 2048, by have := l.isLt; omega⟩ (by show 2048 + (l.val - 2048) = l.val; omega)).trans ?_
    exact (h2 ⟨l.val - 2048, by have := l.isLt; omega⟩ ⟨2048 + (l.val - 2048), by have := l.isLt; omega⟩ rfl).trans (pad_lo y l ⟨2048 + (l.val - 2048), by have := l.isLt; omega⟩ (by omega) (by show 2048 + (l.val - 2048) = l.val; omega)).symm
  by_cases c3 : l.val < 3840
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 3 (show 3 < 7 by decide) 768 3072 p3 rfl rfl i l ⟨l.val - 3072, by have := l.isLt; omega⟩ (by show 3072 + (l.val - 3072) = l.val; omega)).trans ?_
    exact (h3 ⟨l.val - 3072, by have := l.isLt; omega⟩ ⟨3072 + (l.val - 3072), by have := l.isLt; omega⟩ rfl).trans (pad_lo y l ⟨3072 + (l.val - 3072), by have := l.isLt; omega⟩ (by omega) (by show 3072 + (l.val - 3072) = l.val; omega)).symm
  by_cases c4 : l.val < 3904
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 4 (show 4 < 7 by decide) 64 3840 p4 rfl rfl i l ⟨l.val - 3840, by have := l.isLt; omega⟩ (by show 3840 + (l.val - 3840) = l.val; omega)).trans ?_
    exact (h4 ⟨l.val - 3840, by have := l.isLt; omega⟩ ⟨4352 + (l.val - 3840), by have := l.isLt; omega⟩ rfl).trans (pad_key y l ⟨4352 + (l.val - 3840), by have := l.isLt; omega⟩ (by omega) (by omega) (by show 4352 + (l.val - 3840) = l.val + 512; omega)).symm
  by_cases c5 : l.val < 4096
  · refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 5 (show 5 < 7 by decide) 192 3904 p5 rfl rfl i l ⟨l.val - 3904, by have := l.isLt; omega⟩ (by show 3904 + (l.val - 3904) = l.val; omega)).trans ?_
    exact (h5 _).trans (pad_zero y l (by omega) (by omega)).symm
  refine (piece [⟨⟨2, ![2048, 1024]⟩, p0⟩, ⟨⟨2, ![2048, 1024]⟩, p1⟩, ⟨⟨2, ![2048, 1024]⟩, p2⟩, ⟨⟨2, ![2048, 768]⟩, p3⟩, ⟨⟨2, ![2048, 64]⟩, p4⟩, ⟨⟨2, ![2048, 192]⟩, p5⟩, ⟨⟨2, ![2048, 512]⟩, p6⟩] h 6 (show 6 < 7 by decide) 512 4096 p6 rfl rfl i l ⟨l.val - 4096, by have := l.isLt; omega⟩ (by show 4096 + (l.val - 4096) = l.val; omega)).trans ?_
  exact (h6 ⟨l.val - 4096, by have := l.isLt; omega⟩ ⟨3840 + (l.val - 4096), by have := l.isLt; omega⟩ rfl).trans (pad_lat y l ⟨3840 + (l.val - 4096), by have := l.isLt; omega⟩ (by omega) (by show l.val = 3840 + (l.val - 4096) + 256; omega)).symm

/-- Columns cut out of an array. -/
theorem cols_at {w w' : ℕ} (x : Mat w) (o : ℕ) (h : (⟨2, ![2048, w]⟩ : Shape).Slices ![0, o] ⟨2, ![2048, w']⟩) (i : Fin 2048) (j : Fin w')
    (q : Fin w) (e : q.val = o + j.val) : extractStridedSlice ⟨2, ![2048, w']⟩ ![0, o] x h (ix2 i j) = x (ix2 i q) :=
  extractStridedSlice_apply ![0, o] x h (ix2 i j) (ix2 i q) fun a => match a with
    | ⟨0, _⟩ => (Nat.zero_add _).symm
    | ⟨1, _⟩ => e

/-- The weight's four column blocks, one after the other. -/
theorem shard_at (w : Mat 4416) (h : (⟨2, ![2048, 4416]⟩ : Shape).ShapeCasts ⟨3, ![2048, 4, 1104]⟩)
    (h' : (⟨3, ![2048, 4, 1104]⟩ : Shape).Transposes [1, 0, 2] ⟨3, ![4, 2048, 1104]⟩) (s : Fin 4) (i : Fin 2048) (j : Fin 1104) (q : Fin 4416)
    (e : q.val = 1104 * s.val + j.val) :
    transpose ⟨3, ![4, 2048, 1104]⟩ [1, 0, 2] (shapeCast ⟨3, ![2048, 4, 1104]⟩ w h) h' (ix3 s i j) = w (ix2 i q) := by
  refine (transpose_apply _ _ h' (ix3 s i j) (ix3 i s j) (fun b => match b with
    | ⟨0, _⟩ => rfl
    | ⟨1, _⟩ => rfl
    | ⟨2, _⟩ => rfl)).trans ?_
  refine shapeCast_apply _ _ (ix3 i s j) (ix2 i q) ?_
  rw [Shape.rowMajor_val_two, Shape.rowMajor_val_three]
  show i.val * 4416 + q.val = (i.val * 4 + s.val) * 1104 + j.val
  omega

/-- One column block. -/
theorem block_at (v : (⟨3, ![4, 2048, 1104]⟩ : Shape).Idx → EReal) (s : Fin 4) (h : (⟨3, ![4, 2048, 1104]⟩ : Shape).Slices ![s.val, 0, 0] ⟨3, ![1, 2048, 1104]⟩)
    (h' : (⟨3, ![1, 2048, 1104]⟩ : Shape).ShapeCasts ⟨2, ![2048, 1104]⟩) (i : Fin 2048) (j : Fin 1104) :
    shapeCast ⟨2, ![2048, 1104]⟩ (extractStridedSlice ⟨3, ![1, 2048, 1104]⟩ ![s.val, 0, 0] v h) h' (ix2 i j) = v (ix3 s i j) := by
  refine (shapeCast_apply _ _ (ix2 i j) (ix3 0 i j) ?_).trans ?_
  · rw [Shape.rowMajor_val_two, Shape.rowMajor_val_three]
    show (0 * 2048 + i.val) * 1104 + j.val = i.val * 1104 + j.val
    omega
  · exact extractStridedSlice_apply ![s.val, 0, 0] v h (ix3 0 i j) (ix3 s i j) fun a => match a with
      | ⟨0, _⟩ => rfl
      | ⟨1, _⟩ => (Nat.zero_add _).symm
      | ⟨2, _⟩ => (Nat.zero_add _).symm

end Cert.Padded
-- ==== Proof.Proj.lean ====
module

public import proofs.«01_k».proof.Defs
public import proofs.«01_k».proof.Proof.Products
public import proofs.«01_k».proof.Proof.Padded
public import proofs.«01_k».proof.Proof.Gen.KernelProjIdeal.Value
public import proofs.«01_k».proof.Proof.Gen.ReferenceProjIdeal.Read
public import proofs.«01_k».proof.Proof.Gen.ReferenceProjIdeal.Run
public import Idealize.ShloMosaic.Lib.Pipeline.ValueKit.Geometry

/-!
  The input projection, forward: each grid point's block is whole rows of the normalised input by whole columns of the
  padded weight.
-/

@[expose] public section

set_option maxRecDepth 8192

noncomputable section

namespace Cert.KernelProjIdeal.Hand

open Cert.KernelProjIdeal Cert.KernelProjIdeal.Gen
open Idealize.ShloMosaic
open Idealize.ShloMosaic.TcCoe Idealize.ShloMosaic.ValueIdx Idealize.ShloMosaic.ValueKit Idealize.ShloMosaic.StableHlo
open Idealize.SL.Sem
open Cert.ReferenceProjIdeal.Read (val_main_v0 val_main_v0_apply val_main_v1 val_main_v1_apply val_main_v2 val_main_v2_apply val_main_v3 val_main_v3_apply val_main_v4 val_main_v4_apply
  val_main_v5 val_main_v5_apply val_main_v6 val_main_v6_apply val_main_v7 val_main_v7_apply val_main_v8 val_main_cst)

abbrev X0 := (⟨S2048x2048, .f32⟩ : BufTy).Contents (Elt Ideal)
abbrev X1 := (⟨S2048x4416, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a1 : X1 := m ((c : Thread nD τ).loc main_arg1)

theorem v20_eq : V m c main_v20 = (fun i => (a0 m c) i : (⟨S2048x2048, .bf16⟩ : BufTy).Contents (Elt Ideal)) := by
  unfold V
  after_results_simp
  rfl

theorem zero16 : Ideal.ofBits .bf16 0x0000#16 = (0 : EReal) := by simp [Ideal.ofBits, Ideal.ieee]

/-- The weight's column blocks. -/
abbrev shards (w : X1) : (⟨S4x2048x1104, .bf16⟩ : BufTy).Contents (Elt Ideal) :=
  truncf (F := Ideal) .bf16 (transpose S4x2048x1104 [1, 0, 2] (shapeCast S2048x4x1104 w shapeCasts_S2048x4416_S2048x4x1104)
    transposes_S2048x4x1104_S4x2048x1104_1_0_2) bitsLt_bf16_f32

abbrev block0 (w : X1) : (⟨S2048x1104, .bf16⟩ : BufTy).Contents (Elt Ideal) :=
  shapeCast S2048x1104 (extractStridedSlice S1x2048x1104 ![0, 0, 0] (shards w) slices_S4x2048x1104_S1x2048x1104_0_0_0) shapeCasts_S1x2048x1104_S2048x1104
abbrev block1 (w : X1) : (⟨S2048x1104, .bf16⟩ : BufTy).Contents (Elt Ideal) :=
  shapeCast S2048x1104 (extractStridedSlice S1x2048x1104 ![1, 0, 0] (shards w) slices_S4x2048x1104_S1x2048x1104_1_0_0) shapeCasts_S1x2048x1104_S2048x1104
abbrev block2 (w : X1) : (⟨S2048x1104, .bf16⟩ : BufTy).Contents (Elt Ideal) :=
  shapeCast S2048x1104 (extractStridedSlice S1x2048x1104 ![2, 0, 0] (shards w) slices_S4x2048x1104_S1x2048x1104_2_0_0) shapeCasts_S1x2048x1104_S2048x1104
abbrev block3 (w : X1) : (⟨S2048x1104, .bf16⟩ : BufTy).Contents (Elt Ideal) :=
  shapeCast S2048x1104 (extractStridedSlice S1x2048x1104 ![3, 0, 0] (shards w) slices_S4x2048x1104_S1x2048x1104_3_0_0) shapeCasts_S1x2048x1104_S2048x1104

/-- The columns of zeros. -/
abbrev gap : (⟨S2048x192, .bf16⟩ : BufTy).Contents (Elt Ideal) :=
  broadcastInDim S2048x192 ![] bcast_S_S2048x192 (constant (F := Ideal) S_ .bf16 0x0000#16)

/-- The padded weight. -/
abbrev wide (w : X1) : (⟨S2048x4608, .bf16⟩ : BufTy).Contents (Elt Ideal) :=
  concatenate S2048x4608 1 [⟨S2048x1104, block0 w⟩, ⟨S2048x1104, block1 w⟩, ⟨S2048x1104, block2 w⟩,
      ⟨S2048x528, extractStridedSlice S2048x528 ![0, 0] (block3 w) slices_S2048x1104_S2048x528_0_0⟩,
      ⟨S2048x64, extractStridedSlice S2048x64 ![0, 1040] (block3 w) slices_S2048x1104_S2048x64_0_1040⟩, ⟨S2048x192, gap⟩,
      ⟨S2048x512, extractStridedSlice S2048x512 ![0, 528] (block3 w) slices_S2048x1104_S2048x512_0_528⟩]
    concatenates_S2048x1104_S2048x1104_S2048x1104_S2048x528_S2048x64_S2048x192_S2048x512_S2048x4608_d1

theorem v19_eq : V m c main_v19 = wide (a1 m c) := by
  unfold V
  after_results_simp
  rfl

theorem shards_at (w : X1) (s : Fin 4) (k : Fin 2048) (j : Fin 1104) (q : Fin 4416) (e : q.val = 1104 * s.val + j.val) :
    shards w (ix3 s k j) = w (ix2 k q) :=
  Cert.Padded.shard_at w shapeCasts_S2048x4416_S2048x4x1104 transposes_S2048x4x1104_S4x2048x1104_1_0_2 s k j q e

theorem block3_at (w : X1) (k : Fin 2048) (j : Fin 1104) (q : Fin 4416) (e : q.val = 3312 + j.val) : block3 w (ix2 k j) = w (ix2 k q) :=
  (Cert.Padded.block_at (shards w) 3 slices_S4x2048x1104_S1x2048x1104_3_0_0 _ k j).trans (shards_at w 3 k j q e)

theorem gap_at (i : S2048x192.Idx) : gap i = (0 : EReal) := zero16

theorem block0_at (w : X1) (k : Fin 2048) (j : Fin 1104) (q : Fin 4416) (e : q.val = 0 + j.val) : block0 w (ix2 k j) = w (ix2 k q) :=
  (Cert.Padded.block_at (shards w) 0 slices_S4x2048x1104_S1x2048x1104_0_0_0 _ k j).trans (shards_at w 0 k j q e)

theorem block1_at (w : X1) (k : Fin 2048) (j : Fin 1104) (q : Fin 4416) (e : q.val = 1104 + j.val) : block1 w (ix2 k j) = w (ix2 k q) :=
  (Cert.Padded.block_at (shards w) 1 slices_S4x2048x1104_S1x2048x1104_1_0_0 _ k j).trans (shards_at w 1 k j q e)

theorem block2_at (w : X1) (k : Fin 2048) (j : Fin 1104) (q : Fin 4416) (e : q.val = 2208 + j.val) : block2 w (ix2 k j) = w (ix2 k q) :=
  (Cert.Padded.block_at (shards w) 2 slices_S4x2048x1104_S1x2048x1104_2_0_0 _ k j).trans (shards_at w 2 k j q e)

/-- The last block's parts. -/
theorem rest_at (w : X1) (k : Fin 2048) (j : Fin 528) (q : Fin 4416) (e : q.val = 3312 + j.val) :
    extractStridedSlice S2048x528 ![0, 0] (block3 w) slices_S2048x1104_S2048x528_0_0 (ix2 k j) = w (ix2 k q) :=
  (Cert.Padded.cols_at (block3 w) 0 slices_S2048x1104_S2048x528_0_0 k j ⟨j.val, Nat.lt_trans j.isLt (by decide)⟩ (Nat.zero_add _).symm).trans
    (block3_at w k _ q e)

theorem key_at (w : X1) (k : Fin 2048) (j : Fin 64) (q : Fin 4416) (e : q.val = 4352 + j.val) :
    extractStridedSlice S2048x64 ![0, 1040] (block3 w) slices_S2048x1104_S2048x64_0_1040 (ix2 k j) = w (ix2 k q) := by
  have hj : 1040 + j.val < 1104 := by omega
  exact (Cert.Padded.cols_at (block3 w) 1040 slices_S2048x1104_S2048x64_0_1040 k j ⟨1040 + j.val, hj⟩ rfl).trans
    (block3_at w k ⟨1040 + j.val, hj⟩ q (by show q.val = 3312 + (1040 + j.val); omega))

theorem latent_at (w : X1) (k : Fin 2048) (j : Fin 512) (q : Fin 4416) (e : q.val = 3840 + j.val) :
    extractStridedSlice S2048x512 ![0, 528] (block3 w) slices_S2048x1104_S2048x512_0_528 (ix2 k j) = w (ix2 k q) := by
  have hj : 528 + j.val < 1104 := by omega
  exact (Cert.Padded.cols_at (block3 w) 528 slices_S2048x1104_S2048x512_0_528 k j ⟨528 + j.val, hj⟩ rfl).trans
    (block3_at w k ⟨528 + j.val, hj⟩ q (by show q.val = 3312 + (528 + j.val); omega))

/-- The padded weight at an index. -/
theorem wide_at (w : X1) (k : Fin 2048) (n : Fin 4608) : (wide w (ix2 k n) : EReal) = Cert.Padded.pad (fun q => w (ix2 k q)) n := by
  have h0 := block0_at w k
  have h1 := block1_at w k
  have h2 := block2_at w k
  have h3 := rest_at w k
  have h4 := key_at w k
  have h6 := latent_at w k
  have h5 : ∀ j, gap (ix2 k j) = (0 : EReal) := fun j => gap_at (ix2 k j)
  unfold wide
  generalize extractStridedSlice S2048x528 ![0, 0] (block3 w) slices_S2048x1104_S2048x528_0_0 = p3 at h3 ⊢
  generalize extractStridedSlice S2048x64 ![0, 1040] (block3 w) slices_S2048x1104_S2048x64_0_1040 = p4 at h4 ⊢
  generalize extractStridedSlice S2048x512 ![0, 528] (block3 w) slices_S2048x1104_S2048x512_0_528 = p6 at h6 ⊢
  generalize block0 w = p0 at h0 ⊢
  generalize block1 w = p1 at h1 ⊢
  generalize block2 w = p2 at h2 ⊢
  generalize gap = p5 at h5 ⊢
  exact Cert.Padded.cat_shards p0 p1 p2 p3 p4 p5 p6 _ (fun q => w (ix2 k q)) k h0 h1 h2 h3 h4 h5 h6 n

theorem i0 : ∀ t : Fin cfg0.N, win0_0.index t = ![t.val / 3, 0] := (by decide +kernel : ∀ t : Fin grid0.N, _)
theorem i1 : ∀ t : Fin cfg0.N, win0_1.index t = ![0, t.val % 3] := (by decide +kernel : ∀ t : Fin grid0.N, _)
theorem i2 : ∀ t : Fin cfg0.N, win0_2.index t = ![t.val / 3, t.val % 3] := (by decide +kernel : ∀ t : Fin grid0.N, _)

theorem row_lt (t : Fin cfg0.N) (i : Fin 1024) : 1024 * (t.val / 3) + i.val < 2048 := by
  have := t.isLt; have : cfg0.N = 6 := rfl; omega
theorem col_lt (t : Fin cfg0.N) (j : Fin 1536) : 1536 * (t.val % 3) + j.val < 4608 := by
  omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v20 (ix2 ⟨1024 * (t.val / 3) + i.val, row_lt t i⟩ k) := by
  blk_simp
  refine congrArg _ ?_
  blk_ext [i0]
  show t.val / 3 * 1024 + i.val = 1024 * (t.val / 3) + i.val
  omega

theorem w1 {c : Dev nD} (X : (b : Ref sig .tc) → Buf (Elt Ideal) ((c : Thread nD τ).loc b)) (t : Fin cfg0.N) (k : Fin 2048) (j : Fin 1536) :
    ((cfg0.win 1).blk t).view.read (Elt Ideal) (X (Pipeline.arrRef spec0 1)) (ix2 k j) = X main_v19 (ix2 k ⟨1536 * (t.val % 3) + j.val, col_lt t j⟩) := by
  blk_simp
  refine congrArg _ ?_
  blk_ext [i1]
  show t.val % 3 * 1536 + j.val = 1536 * (t.val % 3) + j.val
  omega

/-- What a point's body leaves. -/
theorem out_at (x : Vec Ideal S1024x2048 .bf16) (y : Vec Ideal S2048x1536 .bf16) (i : Fin 1024) (j : Fin 1536) :
    out0_2 x y (ix2 i j) = ∑ k : Fin 2048, (x (ix2 i k) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nn (φ₁ := .bf16) (φ₂ := .bf16) x y i j

/-- The product without padding. -/
abbrev dot (x0 : X0) (x1 : X1) (i : Fin 2048) (q : Fin 4416) : EReal := ∑ k : Fin 2048, (x0 (ix2 i k) : EReal) * x1 (ix2 k q)

theorem v0_at (x0 : X0) (x1 : X1) (z : S2048x4416.Idx) (i : Fin 2048) (q : Fin 4416) (h0 : (z 0).val = i.val) (h1 : (z 1).val = q.val) :
    val_main_v0 (F := Ideal) x0 x1 z = dot x0 x1 i q := by
  obtain rfl : z = ix2 i q := by
    funext b
    match b with
    | ⟨0, _⟩ => exact Fin.ext h0
    | ⟨1, _⟩ => exact Fin.ext h1
  refine (val_main_v0_apply x0 x1 (ix2 i q)).trans ?_
  refine Cert.Products.sum_eq (fun k => congrArg _ ?_) (fun k => congrArg _ ?_) <;>
  · funext b
    match b with
    | ⟨0, _⟩ => rfl
    | ⟨1, _⟩ => rfl

/-- The reference at an index. -/
theorem ref_at (x0 : X0) (x1 : X1) (i : Fin 2048) (n : Fin 4608) :
    val_main_v8 (F := Ideal) x0 x1 (ix2 i n) = Cert.Padded.pad (dot x0 x1 i) n := by
  unfold val_main_v8
  refine Cert.Padded.cat_split _ _ _ _ _ _ _ _ (dot x0 x1 i) i
    (fun j q e => (val_main_v1_apply (F := Ideal) x0 x1 (ix2 i j)).trans (v0_at x0 x1 _ i q rfl (by show j.val = q.val; omega)))
    (fun j q e => (val_main_v2_apply (F := Ideal) x0 x1 (ix2 i j)).trans (v0_at x0 x1 _ i q rfl e.symm))
    (fun j q e => (val_main_v3_apply (F := Ideal) x0 x1 (ix2 i j)).trans (v0_at x0 x1 _ i q rfl e.symm))
    (fun j q e => (val_main_v4_apply (F := Ideal) x0 x1 (ix2 i j)).trans (v0_at x0 x1 _ i q rfl e.symm))
    (fun j q e => (val_main_v6_apply (F := Ideal) x0 x1 (ix2 i j)).trans (v0_at x0 x1 _ i q rfl e.symm))
    (fun j => (val_main_v7_apply (F := Ideal) (ix2 i j)).trans Ideal.ofBits_zero_f32)
    (fun j q e => (val_main_v5_apply (F := Ideal) x0 x1 (ix2 i j)).trans (v0_at x0 x1 _ i q rfl e.symm)) n

/-- The result array. -/
theorem result : (dats m 0 c).arrAt 2 cfg0.N = val_main_v8 (F := Ideal) (a0 m c) (a1 m c) := by
  refine (dats m 0 c).arrAt_eq_of_covers 2 _ (by decide +kernel) fun t hf y => ?_
  blk_simp
  rw [after0_2]
  obtain ⟨i, j, rfl⟩ : ∃ (i : Fin 1024) (j : Fin 1536), y = ix2 i j := ⟨y 0, y 1, ValueIdx.eq_ix2 y⟩
  refine (out_at _ _ i j).trans ((Cert.Products.sum_eq
    (fun k => (w0 (V m c) t i k).trans (congrFun (v20_eq m c) _))
    (fun k => (w1 (V m c) t k j).trans ((congrFun (v19_eq m c) _).trans (wide_at (a1 m c) _ _)))).trans ?_)
  refine (Cert.Padded.pad_sum (fun k => (a0 m c) (ix2 ⟨1024 * (t.val / 3) + i.val, row_lt t i⟩ k)) (fun k q => (a1 m c) (ix2 k q)) _).trans
    ((ref_at (a0 m c) (a1 m c) ⟨1024 * (t.val / 3) + i.val, row_lt t i⟩ ⟨1536 * (t.val % 3) + j.val, col_lt t j⟩).symm.trans ?_)
  refine congrArg _ ?_
  blk_ext [i2]
  · show 1024 * (t.val / 3) + i.val = t.val / 3 * 1024 + i.val
    omega
  · show 1536 * (t.val % 3) + j.val = t.val % 3 * 1536 + j.val
    omega

/-- Over the extended reals the call is the reference. -/
theorem same : Cert.algebraic_KernelProjIdeal_ReferenceProjIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceProjIdeal.defs _ _).mono (fun r h c => ?_) (Cert.ReferenceProjIdeal.Value.run (F := Ideal) m' g')
    have h := h c
    have e := hargs c
    refine ⟨?_, h.2⟩
    refine (h.1.trans (Cert.ReferenceProjIdeal.Read.val_main_v8_eq _ _)).trans ?_
    refine Eq.trans ?_ (result m c).symm
    exact congr (congrArg _ e.1) e.2

end Cert.KernelProjIdeal.Hand
-- ==== Proof.GwIn.lean ====
module

public import proofs.«01_k».proof.Defs
public import proofs.«01_k».proof.Proof.Products
public import proofs.«01_k».proof.Proof.Padded
public import proofs.«01_k».proof.Proof.Gen.KernelGwInIdeal.Value
public import proofs.«01_k».proof.Proof.Gen.ReferenceGwInIdeal.Read
public import proofs.«01_k».proof.Proof.Gen.ReferenceGwInIdeal.Run
public import Idealize.ShloMosaic.Lib.Pipeline.ValueKit.Geometry

/-!
  One device's summand of the gradient of the input projection's weight, in the padded layout: each grid point's block is
  whole columns of the normalised input by whole columns of the gradient, summed over the rows.
-/

@[expose] public section

set_option maxRecDepth 8192

noncomputable section

namespace Cert.KernelGwInIdeal.Hand

open Cert.KernelGwInIdeal Cert.KernelGwInIdeal.Gen
open Idealize.ShloMosaic
open Idealize.ShloMosaic.TcCoe Idealize.ShloMosaic.ValueIdx Idealize.ShloMosaic.ValueKit Idealize.ShloMosaic.StableHlo
open Idealize.SL.Sem
open Cert.ReferenceGwInIdeal.Read (val_main_v1 val_main_v1_apply val_main_v2 val_main_v2_apply val_main_v4 val_main_v4_apply val_main_v5 val_main_v5_apply val_main_v6 val_main_v6_apply
  val_main_v7 val_main_v7_apply val_main_v8 val_main_v8_apply val_main_v9 val_main_v9_apply val_main_v10 val_main_v10_apply val_main_v11 val_main_v12)

abbrev X0 := (⟨S2048x2048, .f32⟩ : BufTy).Contents (Elt Ideal)
abbrev X1 := (⟨S2048x4416, .f32⟩ : BufTy).Contents (Elt Ideal)

variable (m : (ℓ : Loc nD τ sig) → Buf (Elt Ideal) ℓ) (c : Dev nD)

/-- The arguments. -/
abbrev a0 : X0 := m ((c : Thread nD τ).loc main_arg0)
abbrev a2 : X1 := m ((c : Thread nD τ).loc main_arg2)

theorem v0_eq : V m c main_v0 = (fun i => (a0 m c) i : (⟨S2048x2048, .bf16⟩ : BufTy).Contents (Elt Ideal)) := by
  unfold V
  after_results_simp
  rfl

theorem zero16 : Ideal.ofBits .bf16 0x0000#16 = (0 : EReal) := by simp [Ideal.ofBits, Ideal.ieee]

/-- The gradient of the projection, as the kernel holds it. -/
abbrev thin (y : X1) : (⟨S2048x4416, .bf16⟩ : BufTy).Contents (Elt Ideal) := truncf (F := Ideal) .bf16 y bitsLt_bf16_f32

/-- Columns of zeros. -/
abbrev gap64 : (⟨S2048x64, .bf16⟩ : BufTy).Contents (Elt Ideal) :=
  broadcastInDim S2048x64 ![] bcast_S_S2048x64 (constant (F := Ideal) S_ .bf16 0x0000#16)
abbrev gap128 : (⟨S2048x128, .bf16⟩ : BufTy).Contents (Elt Ideal) :=
  broadcastInDim S2048x128 ![] bcast_S_S2048x128 (constant (F := Ideal) S_ .bf16 0x0000#16)

/-- The gradient over the padded columns. -/
abbrev spread (y : X1) : (⟨S2048x4608, .bf16⟩ : BufTy).Contents (Elt Ideal) :=
  concatenate S2048x4608 1 [⟨S2048x3840, extractStridedSlice S2048x3840 ![0, 0] (thin y) slices_S2048x4416_S2048x3840_0_0⟩,
      ⟨S2048x64, extractStridedSlice S2048x64 ![0, 4352] (thin y) slices_S2048x4416_S2048x64_0_4352⟩, ⟨S2048x64, gap64⟩, ⟨S2048x128, gap128⟩,
      ⟨S2048x512, extractStridedSlice S2048x512 ![0, 3840] (thin y) slices_S2048x4416_S2048x512_0_3840⟩]
    concatenates_S2048x3840_S2048x64_S2048x64_S2048x128_S2048x512_S2048x4608_d1

theorem spread_eq : V m c main_v7 = spread (a2 m c) := by
  unfold V
  after_results_simp
  rfl

theorem spread_at (y : X1) (k : Fin 2048) (n : Fin 4608) : (spread y (ix2 k n) : EReal) = Cert.Padded.pad (fun q => y (ix2 k q)) n := by
  have h0 : ∀ (j : Fin 3840) (q : Fin 4416), q.val = 0 + j.val →
      (extractStridedSlice S2048x3840 ![0, 0] (thin y) slices_S2048x4416_S2048x3840_0_0 (ix2 k j) : EReal) = y (ix2 k q) :=
    fun j q e => Cert.Padded.cols_at (thin y) 0 slices_S2048x4416_S2048x3840_0_0 k j q e
  have h1 : ∀ (j : Fin 64) (q : Fin 4416), q.val = 4352 + j.val →
      (extractStridedSlice S2048x64 ![0, 4352] (thin y) slices_S2048x4416_S2048x64_0_4352 (ix2 k j) : EReal) = y (ix2 k q) :=
    fun j q e => Cert.Padded.cols_at (thin y) 4352 slices_S2048x4416_S2048x64_0_4352 k j q e
  have h2 : ∀ j, gap64 (ix2 k j) = (0 : EReal) := fun _ => zero16
  have h3 : ∀ j, gap128 (ix2 k j) = (0 : EReal) := fun _ => zero16
  have h4 : ∀ (j : Fin 512) (q : Fin 4416), q.val = 3840 + j.val →
      (extractStridedSlice S2048x512 ![0, 3840] (thin y) slices_S2048x4416_S2048x512_0_3840 (ix2 k j) : EReal) = y (ix2 k q) :=
    fun j q e => Cert.Padded.cols_at (thin y) 3840 slices_S2048x4416_S2048x512_0_3840 k j q e
  unfold spread
  generalize extractStridedSlice S2048x3840 ![0, 0] (thin y) slices_S2048x4416_S2048x3840_0_0 = p0 at h0 ⊢
  generalize extractStridedSlice S2048x64 ![0, 4352] (thin y) slices_S2048x4416_S2048x64_0_4352 = p1 at h1 ⊢
  generalize extractStridedSlice S2048x512 ![0, 3840] (thin y) slices_S2048x4416_S2048x512_0_3840 = p4 at h4 ⊢
  generalize gap64 = p2 at h2 ⊢
  generalize gap128 = p3 at h3 ⊢
  exact Cert.Padded.cat_spread p0 p1 p2 p3 p4 _ (fun q => y (ix2 k q)) k h0 h1 h2 h3 h4 n

theorem i0 : ∀ t : Fin cfg0.N, win0_0.index t = ![0, t.val / 3] := (by decide +kernel : ∀ t : Fin grid0.N, _)
theorem i1 : ∀ t : Fin cfg0.N, win0_1.index t = ![0, t.val % 3] := (by decide +kernel : ∀ t : Fin grid0.N, _)
theorem i2 : ∀ t : Fin cfg0.N, win0_2.index t = ![t.val / 3, t.val % 3] := (by decide +kernel : ∀ t : Fin grid0.N, _)

theorem row_lt (t : Fin cfg0.N) (i : Fin 1024) : 1024 * (t.val / 3) + i.val < 2048 := by
  have := t.isLt; have : cfg0.N = 6 := rfl; omega
theorem col_lt (t : Fin cfg0.N) (j : Fin 1536) : 1536 * (t.val % 3) + j.val < 4608 := by
  omega

theorem w0 {c : Dev nD} (X : (b : Ref sig .tc) → Buf (Elt Ideal) ((c : Thread nD τ).loc b)) (t : Fin cfg0.N) (k : Fin 2048) (i : Fin 1024) :
    ((cfg0.win 0).blk t).view.read (Elt Ideal) (X (Pipeline.arrRef spec0 0)) (ix2 k i) = X main_v0 (ix2 k ⟨1024 * (t.val / 3) + i.val, row_lt t i⟩) := by
  blk_simp
  refine congrArg _ ?_
  blk_ext [i0]
  show t.val / 3 * 1024 + i.val = 1024 * (t.val / 3) + i.val
  omega

theorem w1 {c : Dev nD} (X : (b : Ref sig .tc) → Buf (Elt Ideal) ((c : Thread nD τ).loc b)) (t : Fin cfg0.N) (k : Fin 2048) (j : Fin 1536) :
    ((cfg0.win 1).blk t).view.read (Elt Ideal) (X (Pipeline.arrRef spec0 1)) (ix2 k j) = X main_v7 (ix2 k ⟨1536 * (t.val % 3) + j.val, col_lt t j⟩) := by
  blk_simp
  refine congrArg _ ?_
  blk_ext [i1]
  show t.val % 3 * 1536 + j.val = 1536 * (t.val % 3) + j.val
  omega

/-- Columns by columns. -/
theorem tn (x : FVec Ideal S2048x1024 .bf16) (y : FVec Ideal S2048x1536 .bf16) (a : Fin 1024) (b : Fin 1536) :
    FloatOps.matmul dot_S2048x1024_S2048x1536_S1024x1536_0_0_1_1_n_n none x y (constant S1024x1536 .f32 0x00000000#32) (ix2 a b)
      = ∑ k : Fin 2048, (x (ix2 k a) : EReal) * y (ix2 k b) := by
  rw [Ideal.matmul_constant_zero_apply, ← Equiv.sum_comp (contrEquiv1 dot_S2048x1024_S2048x1536_S1024x1536_0_0_1_1_n_n 2048 rfl rfl).symm]
  refine Finset.sum_congr rfl fun k _ => ?_
  have hk := contrEquiv1_symm_val dot_S2048x1024_S2048x1536_S1024x1536_0_0_1_1_n_n 2048 rfl rfl k
  have el : dot_S2048x1024_S2048x1536_S1024x1536_0_0_1_1_n_n.lhsIdx (ix2 a b)
      ((contrEquiv1 dot_S2048x1024_S2048x1536_S1024x1536_0_0_1_1_n_n 2048 rfl rfl).symm k) = ix2 k a := by
    funext z; apply Fin.ext
    match z with
    | ⟨0, _⟩ => exact hk
    | ⟨1, _⟩ => rfl
  have er : dot_S2048x1024_S2048x1536_S1024x1536_0_0_1_1_n_n.rhsIdx (ix2 a b)
      ((contrEquiv1 dot_S2048x1024_S2048x1536_S1024x1536_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x : Vec Ideal S2048x1024 .bf16) (y : Vec Ideal S2048x1536 .bf16) (i : Fin 1024) (j : Fin 1536) :
    out0_2 x y (ix2 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact tn x y i j

/-- The product without padding. -/
abbrev dot (x0 : X0) (x2 : X1) (i : Fin 2048) (q : Fin 4416) : EReal := ∑ k : Fin 2048, (x0 (ix2 k i) : EReal) * x2 (ix2 k q)

theorem v2_at (x0 : X0) (x2 : X1) (z : S2048x4416.Idx) (i : Fin 2048) (q : Fin 4416) (h0 : (z 0).val = i.val) (h1 : (z 1).val = q.val) :
    val_main_v2 (F := Ideal) x0 x2 z = dot x0 x2 i q := by
  obtain rfl : z = ix2 i q := by
    funext b
    match b with
    | ⟨0, _⟩ => exact Fin.ext h0
    | ⟨1, _⟩ => exact Fin.ext h1
  refine (val_main_v2_apply x0 x2 (ix2 i q)).trans ((val_main_v1_apply x0 x2 _).trans ?_)
  refine Finset.sum_congr rfl fun k _ => ?_
  rw [mul_comm]
  refine congr (congrArg _ (congrArg _ ?_)) (congrArg _ ?_) <;>
  · funext b
    match b with
    | ⟨0, _⟩ => rfl
    | ⟨1, _⟩ => rfl

/-- The reference at an index. -/
theorem ref_at (x0 : X0) (x2 : X1) (i : Fin 2048) (n : Fin 4608) :
    (val_main_v12 (F := Ideal) x0 x2 (ix2 i n) : EReal) = Cert.Padded.pad (dot x0 x2 i) n := by
  show (val_main_v11 (F := Ideal) x0 x2 (ix2 i n) : EReal) = _
  unfold val_main_v11
  exact Cert.Padded.cat_split _ _ _ _ _ _ _ _ (dot x0 x2 i) i
    (fun j q e => (val_main_v4_apply (F := Ideal) x0 x2 (ix2 i j)).trans (v2_at x0 x2 _ i q rfl (by show j.val = q.val; omega)))
    (fun j q e => (val_main_v5_apply (F := Ideal) x0 x2 (ix2 i j)).trans (v2_at x0 x2 _ i q rfl e.symm))
    (fun j q e => (val_main_v6_apply (F := Ideal) x0 x2 (ix2 i j)).trans (v2_at x0 x2 _ i q rfl e.symm))
    (fun j q e => (val_main_v7_apply (F := Ideal) x0 x2 (ix2 i j)).trans (v2_at x0 x2 _ i q rfl e.symm))
    (fun j q e => (val_main_v9_apply (F := Ideal) x0 x2 (ix2 i j)).trans (v2_at x0 x2 _ i q rfl e.symm))
    (fun j => (val_main_v10_apply (F := Ideal) (ix2 i j)).trans Ideal.ofBits_zero_f32)
    (fun j q e => (val_main_v8_apply (F := Ideal) x0 x2 (ix2 i j)).trans (v2_at x0 x2 _ i q rfl e.symm)) n

/-- The result array. -/
theorem result : (dats m 0 c).arrAt 2 cfg0.N = val_main_v12 (F := Ideal) (a0 m c) (a2 m c) := by
  refine (dats m 0 c).arrAt_eq_of_covers 2 _ (by decide +kernel) fun t hf y => ?_
  blk_simp
  rw [after0_2]
  obtain ⟨i, j, rfl⟩ : ∃ (i : Fin 1024) (j : Fin 1536), y = ix2 i j := ⟨y 0, y 1, ValueIdx.eq_ix2 y⟩
  refine (out_at _ _ i j).trans ((Cert.Products.sum_eq
    (fun k => (w0 (V m c) t k i).trans (congrFun (v0_eq m c) _))
    (fun k => (w1 (V m c) t k j).trans ((congrFun (spread_eq m c) _).trans (spread_at (a2 m c) _ _)))).trans ?_)
  refine (Cert.Padded.pad_sum (fun k => (a0 m c) (ix2 k ⟨1024 * (t.val / 3) + i.val, row_lt t i⟩)) (fun k q => (a2 m c) (ix2 k q)) _).trans
    ((ref_at (a0 m c) (a2 m c) ⟨1024 * (t.val / 3) + i.val, row_lt t i⟩ ⟨1536 * (t.val % 3) + j.val, col_lt t j⟩).symm.trans ?_)
  refine congrArg _ ?_
  blk_ext [i2]
  · show 1024 * (t.val / 3) + i.val = t.val / 3 * 1024 + i.val
    omega
  · show 1536 * (t.val % 3) + j.val = t.val % 3 * 1536 + j.val
    omega

/-- Over the extended reals the call is the reference. -/
theorem same : Cert.algebraic_KernelGwInIdeal_ReferenceGwInIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwInIdeal.defs _ _).mono (fun r h c => ?_) (Cert.ReferenceGwInIdeal.Value.run (F := Ideal) m' g')
    have h := h c
    have e := hargs c
    refine ⟨?_, h.2⟩
    refine (h.1.trans (Cert.ReferenceGwInIdeal.Read.val_main_v12_eq _ _)).trans ?_
    refine Eq.trans ?_ (result m c).symm
    exact congr (congrArg _ e.1) e.2.2

end Cert.KernelGwInIdeal.Hand
-- ==== Proof.Dh1.lean ====
module

public import proofs.«01_k».proof.Defs
public import proofs.«01_k».proof.Proof.Products
public import proofs.«01_k».proof.Proof.Padded
public import proofs.«01_k».proof.Proof.Gen.KernelDh1Ideal.Value
public import proofs.«01_k».proof.Proof.Gen.ReferenceDh1Ideal.Read
public import proofs.«01_k».proof.Proof.Gen.ReferenceDh1Ideal.Run
public import Idealize.ShloMosaic.Lib.Pipeline.ValueKit.Geometry
public import Idealize.ShloMosaic.Lib.Pipeline.ValueKit.Acc

/-!
  The gradient of the projection's input: a block of the result is the sum of two products, each over a half of the padded
  columns, kept in the scratch buffer between the two points; the columns of zeros add nothing.
-/

@[expose] public section

set_option maxRecDepth 8192

noncomputable section

namespace Cert.KernelDh1Ideal.Hand

open Cert.KernelDh1Ideal Cert.KernelDh1Ideal.Gen
open Idealize.ShloMosaic
open Idealize.ShloMosaic.TcCoe Idealize.ShloMosaic.ValueIdx Idealize.ShloMosaic.ValueKit Idealize.ShloMosaic.StableHlo
open Idealize.SL.Sem
open Cert.ReferenceDh1Ideal.Read (val_main_v3 val_main_v3_apply)

abbrev X1 := (⟨S2048x4416, .f32⟩ : BufTy).Contents (Elt Ideal)

variable (m : (ℓ : Loc nD τ sig) → Buf (Elt Ideal) ℓ) (c : Dev nD)

/-- The weight and the gradient of the projection. -/
abbrev a1 : X1 := m ((c : Thread nD τ).loc main_arg1)
abbrev a2 : X1 := m ((c : Thread nD τ).loc main_arg2)

theorem zero16 : Ideal.ofBits .bf16 0x0000#16 = (0 : EReal) := by simp [Ideal.ofBits, Ideal.ieee]

/-- The gradient of the projection, as the kernel holds it. -/
abbrev thin (y : X1) : (⟨S2048x4416, .bf16⟩ : BufTy).Contents (Elt Ideal) := truncf (F := Ideal) .bf16 y bitsLt_bf16_f32

/-- Columns of zeros. -/
abbrev gap64 : (⟨S2048x64, .bf16⟩ : BufTy).Contents (Elt Ideal) :=
  broadcastInDim S2048x64 ![] bcast_S_S2048x64 (constant (F := Ideal) S_ .bf16 0x0000#16)
abbrev gap128 : (⟨S2048x128, .bf16⟩ : BufTy).Contents (Elt Ideal) :=
  broadcastInDim S2048x128 ![] bcast_S_S2048x128 (constant (F := Ideal) S_ .bf16 0x0000#16)

/-- The gradient over the padded columns. -/
abbrev spread (y : X1) : (⟨S2048x4608, .bf16⟩ : BufTy).Contents (Elt Ideal) :=
  concatenate S2048x4608 1 [⟨S2048x3840, extractStridedSlice S2048x3840 ![0, 0] (thin y) slices_S2048x4416_S2048x3840_0_0⟩,
      ⟨S2048x64, extractStridedSlice S2048x64 ![0, 4352] (thin y) slices_S2048x4416_S2048x64_0_4352⟩, ⟨S2048x64, gap64⟩, ⟨S2048x128, gap128⟩,
      ⟨S2048x512, extractStridedSlice S2048x512 ![0, 3840] (thin y) slices_S2048x4416_S2048x512_0_3840⟩]
    concatenates_S2048x3840_S2048x64_S2048x64_S2048x128_S2048x512_S2048x4608_d1

theorem spread_eq : V m c main_v26 = spread (a2 m c) := by
  unfold V
  after_results_simp
  rfl

theorem spread_at (y : X1) (k : Fin 2048) (n : Fin 4608) : (spread y (ix2 k n) : EReal) = Cert.Padded.pad (fun q => y (ix2 k q)) n := by
  have h0 : ∀ (j : Fin 3840) (q : Fin 4416), q.val = 0 + j.val →
      (extractStridedSlice S2048x3840 ![0, 0] (thin y) slices_S2048x4416_S2048x3840_0_0 (ix2 k j) : EReal) = y (ix2 k q) :=
    fun j q e => Cert.Padded.cols_at (thin y) 0 slices_S2048x4416_S2048x3840_0_0 k j q e
  have h1 : ∀ (j : Fin 64) (q : Fin 4416), q.val = 4352 + j.val →
      (extractStridedSlice S2048x64 ![0, 4352] (thin y) slices_S2048x4416_S2048x64_0_4352 (ix2 k j) : EReal) = y (ix2 k q) :=
    fun j q e => Cert.Padded.cols_at (thin y) 4352 slices_S2048x4416_S2048x64_0_4352 k j q e
  have h2 : ∀ j, gap64 (ix2 k j) = (0 : EReal) := fun _ => zero16
  have h3 : ∀ j, gap128 (ix2 k j) = (0 : EReal) := fun _ => zero16
  have h4 : ∀ (j : Fin 512) (q : Fin 4416), q.val = 3840 + j.val →
      (extractStridedSlice S2048x512 ![0, 3840] (thin y) slices_S2048x4416_S2048x512_0_3840 (ix2 k j) : EReal) = y (ix2 k q) :=
    fun j q e => Cert.Padded.cols_at (thin y) 3840 slices_S2048x4416_S2048x512_0_3840 k j q e
  unfold spread
  generalize extractStridedSlice S2048x3840 ![0, 0] (thin y) slices_S2048x4416_S2048x3840_0_0 = p0 at h0 ⊢
  generalize extractStridedSlice S2048x64 ![0, 4352] (thin y) slices_S2048x4416_S2048x64_0_4352 = p1 at h1 ⊢
  generalize extractStridedSlice S2048x512 ![0, 3840] (thin y) slices_S2048x4416_S2048x512_0_3840 = p4 at h4 ⊢
  generalize gap64 = p2 at h2 ⊢
  generalize gap128 = p3 at h3 ⊢
  exact Cert.Padded.cat_spread p0 p1 p2 p3 p4 _ (fun q => y (ix2 k q)) k h0 h1 h2 h3 h4 n

/-- The weight's column blocks. -/
abbrev shards (w : X1) : (⟨S4x2048x1104, .bf16⟩ : BufTy).Contents (Elt Ideal) :=
  truncf (F := Ideal) .bf16 (transpose S4x2048x1104 [1, 0, 2] (shapeCast S2048x4x1104 w shapeCasts_S2048x4416_S2048x4x1104)
    transposes_S2048x4x1104_S4x2048x1104_1_0_2) bitsLt_bf16_f32

abbrev block0 (w : X1) : (⟨S2048x1104, .bf16⟩ : BufTy).Contents (Elt Ideal) :=
  shapeCast S2048x1104 (extractStridedSlice S1x2048x1104 ![0, 0, 0] (shards w) slices_S4x2048x1104_S1x2048x1104_0_0_0) shapeCasts_S1x2048x1104_S2048x1104
abbrev block1 (w : X1) : (⟨S2048x1104, .bf16⟩ : BufTy).Contents (Elt Ideal) :=
  shapeCast S2048x1104 (extractStridedSlice S1x2048x1104 ![1, 0, 0] (shards w) slices_S4x2048x1104_S1x2048x1104_1_0_0) shapeCasts_S1x2048x1104_S2048x1104
abbrev block2 (w : X1) : (⟨S2048x1104, .bf16⟩ : BufTy).Contents (Elt Ideal) :=
  shapeCast S2048x1104 (extractStridedSlice S1x2048x1104 ![2, 0, 0] (shards w) slices_S4x2048x1104_S1x2048x1104_2_0_0) shapeCasts_S1x2048x1104_S2048x1104
abbrev block3 (w : X1) : (⟨S2048x1104, .bf16⟩ : BufTy).Contents (Elt Ideal) :=
  shapeCast S2048x1104 (extractStridedSlice S1x2048x1104 ![3, 0, 0] (shards w) slices_S4x2048x1104_S1x2048x1104_3_0_0) shapeCasts_S1x2048x1104_S2048x1104

/-- The columns of zeros. -/
abbrev gap : (⟨S2048x192, .bf16⟩ : BufTy).Contents (Elt Ideal) :=
  broadcastInDim S2048x192 ![] bcast_S_S2048x192 (constant (F := Ideal) S_ .bf16 0x0000#16)

/-- The padded weight. -/
abbrev wide (w : X1) : (⟨S2048x4608, .bf16⟩ : BufTy).Contents (Elt Ideal) :=
  concatenate S2048x4608 1 [⟨S2048x1104, block0 w⟩, ⟨S2048x1104, block1 w⟩, ⟨S2048x1104, block2 w⟩,
      ⟨S2048x528, extractStridedSlice S2048x528 ![0, 0] (block3 w) slices_S2048x1104_S2048x528_0_0⟩,
      ⟨S2048x64, extractStridedSlice S2048x64 ![0, 1040] (block3 w) slices_S2048x1104_S2048x64_0_1040⟩, ⟨S2048x192, gap⟩,
      ⟨S2048x512, extractStridedSlice S2048x512 ![0, 528] (block3 w) slices_S2048x1104_S2048x512_0_528⟩]
    concatenates_S2048x1104_S2048x1104_S2048x1104_S2048x528_S2048x64_S2048x192_S2048x512_S2048x4608_d1

theorem v19_eq : V m c main_v19 = wide (a1 m c) := by
  unfold V
  after_results_simp
  rfl

theorem shards_at (w : X1) (s : Fin 4) (k : Fin 2048) (j : Fin 1104) (q : Fin 4416) (e : q.val = 1104 * s.val + j.val) :
    shards w (ix3 s k j) = w (ix2 k q) :=
  Cert.Padded.shard_at w shapeCasts_S2048x4416_S2048x4x1104 transposes_S2048x4x1104_S4x2048x1104_1_0_2 s k j q e

theorem block3_at (w : X1) (k : Fin 2048) (j : Fin 1104) (q : Fin 4416) (e : q.val = 3312 + j.val) : block3 w (ix2 k j) = w (ix2 k q) :=
  (Cert.Padded.block_at (shards w) 3 slices_S4x2048x1104_S1x2048x1104_3_0_0 _ k j).trans (shards_at w 3 k j q e)

theorem gap_at (i : S2048x192.Idx) : gap i = (0 : EReal) := zero16

theorem block0_at (w : X1) (k : Fin 2048) (j : Fin 1104) (q : Fin 4416) (e : q.val = 0 + j.val) : block0 w (ix2 k j) = w (ix2 k q) :=
  (Cert.Padded.block_at (shards w) 0 slices_S4x2048x1104_S1x2048x1104_0_0_0 _ k j).trans (shards_at w 0 k j q e)

theorem block1_at (w : X1) (k : Fin 2048) (j : Fin 1104) (q : Fin 4416) (e : q.val = 1104 + j.val) : block1 w (ix2 k j) = w (ix2 k q) :=
  (Cert.Padded.block_at (shards w) 1 slices_S4x2048x1104_S1x2048x1104_1_0_0 _ k j).trans (shards_at w 1 k j q e)

theorem block2_at (w : X1) (k : Fin 2048) (j : Fin 1104) (q : Fin 4416) (e : q.val = 2208 + j.val) : block2 w (ix2 k j) = w (ix2 k q) :=
  (Cert.Padded.block_at (shards w) 2 slices_S4x2048x1104_S1x2048x1104_2_0_0 _ k j).trans (shards_at w 2 k j q e)

/-- The last block's parts. -/
theorem rest_at (w : X1) (k : Fin 2048) (j : Fin 528) (q : Fin 4416) (e : q.val = 3312 + j.val) :
    extractStridedSlice S2048x528 ![0, 0] (block3 w) slices_S2048x1104_S2048x528_0_0 (ix2 k j) = w (ix2 k q) :=
  (Cert.Padded.cols_at (block3 w) 0 slices_S2048x1104_S2048x528_0_0 k j ⟨j.val, Nat.lt_trans j.isLt (by decide)⟩ (Nat.zero_add _).symm).trans
    (block3_at w k _ q e)

theorem key_at (w : X1) (k : Fin 2048) (j : Fin 64) (q : Fin 4416) (e : q.val = 4352 + j.val) :
    extractStridedSlice S2048x64 ![0, 1040] (block3 w) slices_S2048x1104_S2048x64_0_1040 (ix2 k j) = w (ix2 k q) := by
  have hj : 1040 + j.val < 1104 := by omega
  exact (Cert.Padded.cols_at (block3 w) 1040 slices_S2048x1104_S2048x64_0_1040 k j ⟨1040 + j.val, hj⟩ rfl).trans
    (block3_at w k ⟨1040 + j.val, hj⟩ q (by show q.val = 3312 + (1040 + j.val); omega))

theorem latent_at (w : X1) (k : Fin 2048) (j : Fin 512) (q : Fin 4416) (e : q.val = 3840 + j.val) :
    extractStridedSlice S2048x512 ![0, 528] (block3 w) slices_S2048x1104_S2048x512_0_528 (ix2 k j) = w (ix2 k q) := by
  have hj : 528 + j.val < 1104 := by omega
  exact (Cert.Padded.cols_at (block3 w) 528 slices_S2048x1104_S2048x512_0_528 k j ⟨528 + j.val, hj⟩ rfl).trans
    (block3_at w k ⟨528 + j.val, hj⟩ q (by show q.val = 3312 + (528 + j.val); omega))

/-- The padded weight at an index. -/
theorem wide_at (w : X1) (k : Fin 2048) (n : Fin 4608) : (wide w (ix2 k n) : EReal) = Cert.Padded.pad (fun q => w (ix2 k q)) n := by
  have h0 := block0_at w k
  have h1 := block1_at w k
  have h2 := block2_at w k
  have h3 := rest_at w k
  have h4 := key_at w k
  have h6 := latent_at w k
  have h5 : ∀ j, gap (ix2 k j) = (0 : EReal) := fun j => gap_at (ix2 k j)
  unfold wide
  generalize extractStridedSlice S2048x528 ![0, 0] (block3 w) slices_S2048x1104_S2048x528_0_0 = p3 at h3 ⊢
  generalize extractStridedSlice S2048x64 ![0, 1040] (block3 w) slices_S2048x1104_S2048x64_0_1040 = p4 at h4 ⊢
  generalize extractStridedSlice S2048x512 ![0, 528] (block3 w) slices_S2048x1104_S2048x512_0_528 = p6 at h6 ⊢
  generalize block0 w = p0 at h0 ⊢
  generalize block1 w = p1 at h1 ⊢
  generalize block2 w = p2 at h2 ⊢
  generalize gap = p5 at h5 ⊢
  exact Cert.Padded.cat_shards p0 p1 p2 p3 p4 p5 p6 _ (fun q => w (ix2 k q)) k h0 h1 h2 h3 h4 h5 h6 n

theorem i0 : ∀ t : Fin cfg0.N, win0_0.index t = ![t.val / 4, t.val % 2] := (by decide +kernel : ∀ t : Fin grid0.N, _)
theorem i1 : ∀ t : Fin cfg0.N, win0_1.index t = ![t.val % 4 / 2, t.val % 2] := (by decide +kernel : ∀ t : Fin grid0.N, _)
theorem i2 : ∀ t : Fin cfg0.N, win0_2.index t = ![t.val / 4, t.val % 4 / 2] := (by decide +kernel : ∀ t : Fin grid0.N, _)

theorem row_lt (t : Fin cfg0.N) (i : Fin 1024) : 1024 * (t.val / 4) + i.val < 2048 := by
  have := t.isLt; have : cfg0.N = 8 := rfl; omega
theorem col_lt (t : Fin cfg0.N) (j : Fin 1024) : 1024 * (t.val % 4 / 2) + j.val < 2048 := by omega
theorem in_lt (t : Fin cfg0.N) (k : Fin 2304) : k.val + 2304 * (t.val % 2) < 4608 := by omega

theorem w0 {c : Dev nD} (X : (b : Ref sig .tc) → Buf (Elt Ideal) ((c : Thread nD τ).loc b)) (t : Fin cfg0.N) (i : Fin 1024) (k : Fin 2304) :
    ((cfg0.win 0).blk t).view.read (Elt Ideal) (X (Pipeline.arrRef spec0 0)) (ix2 i k)
      = X main_v26 (ix2 ⟨1024 * (t.val / 4) + i.val, row_lt t i⟩ ⟨k.val + 2304 * (t.val % 2), in_lt t k⟩) := by
  blk_simp
  refine congrArg _ ?_
  blk_ext [i0]
  · show t.val / 4 * 1024 + i.val = 1024 * (t.val / 4) + i.val
    omega
  · show t.val % 2 * 2304 + k.val = k.val + 2304 * (t.val % 2)
    omega

theorem w1 {c : Dev nD} (X : (b : Ref sig .tc) → Buf (Elt Ideal) ((c : Thread nD τ).loc b)) (t : Fin cfg0.N) (j : Fin 1024) (k : Fin 2304) :
    ((cfg0.win 1).blk t).view.read (Elt Ideal) (X (Pipeline.arrRef spec0 1)) (ix2 j k)
      = X main_v19 (ix2 ⟨1024 * (t.val % 4 / 2) + j.val, col_lt t j⟩ ⟨k.val + 2304 * (t.val % 2), in_lt t k⟩) := by
  blk_simp
  refine congrArg _ ?_
  blk_ext [i1]
  · show t.val % 4 / 2 * 1024 + j.val = 1024 * (t.val % 4 / 2) + j.val
    omega
  · show t.val % 2 * 2304 + k.val = k.val + 2304 * (t.val % 2)
    omega

/-- One point's product. -/
theorem pay1_at (x y : Vec Ideal S1024x2304 .bf16) (i j : Fin 1024) :
    k0_pay1 x y (ix2 i j) = ∑ k : Fin 2304, (x (ix2 i k) : EReal) * y (ix2 j k) := by
  unfold k0_pay1
  simp only [shapeCast_self]
  exact Cert.Products.nt (φ₁ := .bf16) (φ₂ := .bf16) x y i j

/-- A term of the sum over the padded columns. -/
abbrev term (x y : X1) (r l : Fin 2048) (n : Fin 4608) : EReal :=
  Cert.Padded.pad (fun q => x (ix2 r q)) n * Cert.Padded.pad (fun q => y (ix2 l q)) n

/-- What a point adds. -/
theorem part_at (t : Fin cfg0.N) (i j : Fin 1024) :
    k0_pay1 (iblk m c 0 t) (iblk m c 1 t) (ix2 i j)
      = ∑ k : Fin 2304, term (a2 m c) (a1 m c) ⟨1024 * (t.val / 4) + i.val, row_lt t i⟩ ⟨1024 * (t.val % 4 / 2) + j.val, col_lt t j⟩
          ⟨k.val + 2304 * (t.val % 2), in_lt t k⟩ :=
  (pay1_at _ _ i j).trans (Cert.Products.sum_eq
    (fun k => (w0 (V m c) t i k).trans ((congrFun (spread_eq m c) _).trans (spread_at (a2 m c) _ _)))
    (fun k => (w1 (V m c) t j k).trans ((congrFun (v19_eq m c) _).trans (wide_at (a1 m c) _ _))))

theorem pay2_at (x y : Vec Ideal S1024x2304 .bf16) : k0_pay2 x y = k0_pay1 x y := by
  unfold k0_pay2
  simp only [shapeCast_self]

theorem pay4_at (x y : Vec Ideal S1024x2304 .bf16) (z : Vec Ideal S1024x1024 .f32) (i j : Fin 1024) :
    k0_pay4 x y z (ix2 i j) = (z (ix2 i j) : EReal) + k0_pay1 x y (ix2 i j) := by
  unfold k0_pay4
  rfl

theorem scratch_read (X : Vec Ideal S1024x1024 .f32) :
    View.read (Elt Ideal) (View.whole cc0_scratch0) ((Memref.isWhole_whole cc0_scratch0).unread X) = X :=
  (Memref.isWhole_whole cc0_scratch0).read_unread X

/-- The first point of two leaves its product in the scratch buffer. -/
theorem first (t : Fin cfg0.N) (h : t.val % 2 = 0) :
    (outsAt0 m c t.val t.isLt).2 = k0_pay1 (iblk m c 0 t) (iblk m c 1 t) := by
  rw [outsAt0_A m c t h (by omega)]
  dsimp only
  frame_out
  exact pay2_at _ _

/-- The second adds its own and writes the block. -/
theorem last (t : Fin cfg0.N) (h : t.val % 2 = 1) (i j : Fin 1024) :
    (outsAt0 m c t.val t.isLt).1 (ix2 i j)
      = ((outsAt0 m c (t.val - 1) (Nat.lt_of_le_of_lt (Nat.sub_le _ _) t.isLt)).2 (ix2 i j) : EReal)
        + k0_pay1 (iblk m c 0 t) (iblk m c 1 t) (ix2 i j) := by
  rw [outsAt0_B m c t (by omega) h]
  dsimp only
  frame_out
  exact (pay4_at _ _ _ i j).trans (congrArg (· + _) (congrFun (scratch_read _) (ix2 i j)))

theorem back_lt (t : Fin cfg0.N) (n : ℕ) : t.val - n < cfg0.N := Nat.lt_of_le_of_lt (Nat.sub_le _ _) t.isLt

/-- A half of the sum. -/
abbrev half (x y : X1) (r l : Fin 2048) (s : Fin 2) : EReal :=
  ∑ k : Fin 2304, term x y r l ⟨k.val + 2304 * s.val, by have := s.isLt; have := k.isLt; omega⟩

/-- What a point adds is its half. -/
theorem part_half (t u : Fin cfg0.N) (s : Fin 2) (h2 : u.val / 2 = t.val / 2) (hs : u.val % 2 = s.val) (i j : Fin 1024) :
    k0_pay1 (iblk m c 0 u) (iblk m c 1 u) (ix2 i j)
      = half (a2 m c) (a1 m c) ⟨1024 * (t.val / 4) + i.val, row_lt t i⟩ ⟨1024 * (t.val % 4 / 2) + j.val, col_lt t j⟩ s := by
  refine (part_at m c u i j).trans (Finset.sum_congr rfl fun k _ => ?_)
  have er : (⟨1024 * (u.val / 4) + i.val, row_lt u i⟩ : Fin 2048) = ⟨1024 * (t.val / 4) + i.val, row_lt t i⟩ :=
    Fin.ext (by show 1024 * (u.val / 4) + i.val = 1024 * (t.val / 4) + i.val; omega)
  have el : (⟨1024 * (u.val % 4 / 2) + j.val, col_lt u j⟩ : Fin 2048) = ⟨1024 * (t.val % 4 / 2) + j.val, col_lt t j⟩ :=
    Fin.ext (by show 1024 * (u.val % 4 / 2) + j.val = 1024 * (t.val % 4 / 2) + j.val; omega)
  have ek : (⟨k.val + 2304 * (u.val % 2), in_lt u k⟩ : Fin 4608) = ⟨k.val + 2304 * s.val, by have := s.isLt; have := k.isLt; omega⟩ :=
    Fin.ext (by show k.val + 2304 * (u.val % 2) = k.val + 2304 * s.val; omega)
  rw [er, el, ek]

/-- The block the second point writes is the sum of the two halves. -/
theorem total (t : Fin cfg0.N) (h : t.val % 2 = 1) (i j : Fin 1024) :
    (outsAt0 m c t.val t.isLt).1 (ix2 i j)
      = ∑ s : Fin 2, half (a2 m c) (a1 m c) ⟨1024 * (t.val / 4) + i.val, row_lt t i⟩ ⟨1024 * (t.val % 4 / 2) + j.val, col_lt t j⟩ s := by
  have e1 := last m c t h i j
  have e0 := congrFun (first m c ⟨t.val - 1, back_lt t 1⟩ (by dsimp only; omega)) (ix2 i j)
  dsimp only at e0
  rw [e1, e0]
  rw [part_half m c t ⟨t.val - 1, back_lt t 1⟩ 0 (by dsimp only; omega) (by dsimp only; show _ = 0; omega) i j,
    part_half m c t t 1 rfl (by show _ = 1; omega) i j]
  rw [Fin.sum_univ_two]

/-- The reference's product at an index. -/
theorem ref_at (y x : X1) (r l : Fin 2048) :
    val_main_v3 (F := Ideal) y x (ix2 r l) = ∑ s : Fin 2, half x y r l s := by
  rw [val_main_v3_apply]
  refine Eq.trans (Cert.Products.sum_eq (f' := fun q => x (ix2 r q)) (g' := fun q => y (ix2 l q))
    (fun k => congrArg _ ?_) (fun k => congrArg _ ?_))
    ((Cert.Padded.sum_pad (fun q => x (ix2 r q)) (fun q => y (ix2 l q))).symm.trans
      (Cert.Products.split (P := 2) (K := 2304) rfl (fun n => term x y r l n))) <;>
  · funext z
    match z with
    | ⟨0, _⟩ => rfl
    | ⟨1, _⟩ => rfl

/-- The gradient of the projection's input. -/
theorem result : (dats m 0 c).arrAt 2 cfg0.N = val_main_v3 (F := Ideal) (a1 m c) (a2 m c) := by
  refine (dats m 0 c).arrAt_eq_of_covers 2 _ (by decide +kernel) fun t hf y => ?_
  have h1 : t.val % 2 = 1 := (flush0_2 t).mp hf
  blk_simp
  rw [after0_2]
  obtain ⟨i, j, rfl⟩ : ∃ (i j : Fin 1024), y = ix2 i j := ⟨y 0, y 1, ValueIdx.eq_ix2 y⟩
  refine (total m c t h1 i j).trans ((ref_at (a1 m c) (a2 m c) _ _).symm.trans ?_)
  refine congrArg _ ?_
  blk_ext [i2]
  · show 1024 * (t.val / 4) + i.val = t.val / 4 * 1024 + i.val
    omega
  · show 1024 * (t.val % 4 / 2) + j.val = t.val % 4 / 2 * 1024 + j.val
    omega

/-- Over the extended reals the call is the reference. -/
theorem same : Cert.algebraic_KernelDh1Ideal_ReferenceDh1Ideal := by
  intro m g m' g' _ hargs
  refine ⟨fun c => (dats m 0 c).arrAt 2 cfg0.N, ?_⟩
  refine ⟨(θ_run defs _ _).mono (fun r h c => h c) (Value.run_blocks m g), ?_⟩
  refine (θ_run Cert.ReferenceDh1Ideal.defs _ _).mono (fun r h c => ?_) (Cert.ReferenceDh1Ideal.Value.run (F := Ideal) m' g')
  have h := h c
  have e := hargs c
  refine ⟨?_, h.2⟩
  refine (h.1.trans (Cert.ReferenceDh1Ideal.Read.val_main_v3_eq _ _)).trans ?_
  refine Eq.trans ?_ (result m c).symm
  exact congr (congrArg _ e.2.1) e.2.2

end Cert.KernelDh1Ideal.Hand
-- ==== Proof.Heads.lean ====
module

public import Idealize.ShloMosaic.Lib.ValueIdx
public import Idealize.ShloMosaic.Lib.KernelVsHost
public import Idealize.ShloMosaic.Lib.Pipeline.Value
public import proofs.«01_k».proof.Proof.Products

/-!
  The queries' columns as the kernel lays them out: 192 columns of each of the eight heads, padded with zeros to 256.
-/

@[expose] public section

noncomputable section

namespace Cert.Heads

open Idealize.ShloMosaic
open Idealize.ShloMosaic.TcCoe Idealize.ShloMosaic.ValueIdx

/-- A row in the padded layout. -/
def heads (y : Fin 1536 → EReal) (n : Fin 2048) : EReal :=
  if h : n.val % 256 < 192 then y ⟨192 * (n.val / 256) + n.val % 256, by omega⟩ else 0

/-- A product with padded columns is the product's padded columns. -/
theorem heads_sum {K : ℕ} (x : Fin K → EReal) (w : Fin K → Fin 1536 → EReal) (n : Fin 2048) :
    ∑ k, x k * heads (w k) n = heads (fun q => ∑ k, x k * w k q) n := by
  unfold heads
  by_cases h : n.val % 256 < 192
  · simp only [dif_pos h]
  · simp only [dif_neg h, mul_zero, Finset.sum_const_zero]

/-- A sum over padded columns: the zeros add nothing. -/
theorem sum_heads (a b : Fin 1536 → EReal) : ∑ n, heads a n * heads b n = ∑ q, a q * b q := by
  refine (Cert.Products.split (P := 8) (K := 256) rfl (fun n => heads a n * heads b n)).trans
    (Eq.trans (Finset.sum_congr rfl fun s _ => ?_) (Cert.Products.split (P := 8) (K := 192) rfl (fun q => a q * b q)).symm)
  have hs := s.isLt
  refine (Fin.sum_univ_add (a := 192) (b := 64) (fun k : Fin (192 + 64) =>
    heads a ⟨k.val + 256 * s.val, by have := k.isLt; omega⟩ * heads b ⟨k.val + 256 * s.val, by have := k.isLt; omega⟩)).trans ?_
  have e0 : ∀ (y : Fin 1536 → EReal) (k : Fin 192), heads y ⟨k.val + 256 * s.val, by omega⟩ = y ⟨k.val + 192 * s.val, by omega⟩ := fun y k => by
    unfold heads
    rw [dif_pos (show (k.val + 256 * s.val) % 256 < 192 by omega)]
    exact congrArg y (Fin.ext (show 192 * ((k.val + 256 * s.val) / 256) + (k.val + 256 * s.val) % 256 = k.val + 192 * s.val by omega))
  have e1 : ∀ (y : Fin 1536 → EReal) (k : Fin 64), heads y ⟨192 + k.val + 256 * s.val, by omega⟩ = 0 := fun y k => by
    unfold heads
    rw [dif_neg (show ¬(192 + k.val + 256 * s.val) % 256 < 192 by omega)]
  have z : ∑ k : Fin 64, heads a ⟨192 + k.val + 256 * s.val, by omega⟩ * heads b ⟨192 + k.val + 256 * s.val, by omega⟩ = 0 :=
    Finset.sum_eq_zero fun k _ => by rw [e1 a k, zero_mul]
  refine (congr (congrArg _ (Finset.sum_congr rfl fun k _ => ?_)) z).trans (add_zero _)
  exact congr (congrArg _ (e0 a k)) (e0 b k)

variable {R : ℕ}

theorem split_at (x : (⟨2, ![R, 1536]⟩ : Shape).Idx → EReal) (h : (⟨2, ![R, 1536]⟩ : Shape).ShapeCasts ⟨3, ![R, 8, 192]⟩) (i : Fin R) (s : Fin 8)
    (d : Fin 192) (q : Fin 1536) (e : q.val = 192 * s.val + d.val) : shapeCast ⟨3, ![R, 8, 192]⟩ x h (ix3 i s d) = x (ix2 i q) := by
  refine shapeCast_apply _ _ (ix3 i s d) (ix2 i q) ?_
  rw [Shape.rowMajor_val_two, Shape.rowMajor_val_three]
  show i.val * 1536 + q.val = (i.val * 8 + s.val) * 192 + d.val
  omega

theorem join_at (x : (⟨3, ![R, 8, 256]⟩ : Shape).Idx → EReal) (h : (⟨3, ![R, 8, 256]⟩ : Shape).ShapeCasts ⟨2, ![R, 2048]⟩) (i : Fin R) (n : Fin 2048) :
    shapeCast ⟨2, ![R, 2048]⟩ x h (ix2 i n) = x (ix3 i ⟨n.val / 256, by omega⟩ ⟨n.val % 256, by omega⟩) := by
  refine shapeCast_apply _ _ (ix2 i n) (ix3 i ⟨n.val / 256, by omega⟩ ⟨n.val % 256, by omega⟩) ?_
  rw [Shape.rowMajor_val_two, Shape.rowMajor_val_three]
  show (i.val * 8 + n.val / 256) * 256 + n.val % 256 = i.val * 2048 + n.val
  omega

/-- Padding every head's columns. -/
theorem pad_at (x : (⟨2, ![R, 1536]⟩ : Shape).Idx → EReal) {u : Shape} (v : u.Idx → EReal)
    (h : (⟨2, ![R, 1536]⟩ : Shape).ShapeCasts ⟨3, ![R, 8, 192]⟩)
    (hp : (⟨3, ![R, 8, 192]⟩ : Shape).Pads ![0, 0, 0] ![0, 0, 64] ![0, 0, 0] ⟨3, ![R, 8, 256]⟩) (hu : 0 < u.numel)
    (h' : (⟨3, ![R, 8, 256]⟩ : Shape).ShapeCasts ⟨2, ![R, 2048]⟩) (hv : ∀ k, v k = 0) (i : Fin R) (n : Fin 2048) :
    shapeCast ⟨2, ![R, 2048]⟩ (pad ⟨3, ![R, 8, 256]⟩ ![0, 0, 0] ![0, 0, 64] ![0, 0, 0] (shapeCast ⟨3, ![R, 8, 192]⟩ x h) v hp hu) h' (ix2 i n)
      = heads (fun q => x (ix2 i q)) n := by
  refine (join_at _ h' i n).trans ?_
  unfold heads
  by_cases hd : n.val % 256 < 192
  · rw [dif_pos hd]
    refine (pad_apply_of_inside _ _ _ _ _ _ _ _ (ix3 i ⟨n.val / 256, by omega⟩ ⟨n.val % 256, hd⟩) (fun b => match b with
      | ⟨0, _⟩ => (show i.val = 0 + i.val * 1 by omega)
      | ⟨1, _⟩ => (show n.val / 256 = 0 + n.val / 256 * 1 by omega)
      | ⟨2, _⟩ => (show n.val % 256 = 0 + n.val % 256 * 1 by omega))).trans ?_
    exact split_at x h i _ _ _ rfl
  · rw [dif_neg hd]
    refine (pad_apply_of_not_inside _ _ _ _ _ _ _ _ 2 ?_).trans (hv _)
    intro hc
    have h1 : (n.val % 256 - 0) / 1 < 192 := hc.2.2
    omega

/-- Every head's columns followed by zeros. -/
theorem cat_at (x : (⟨2, ![R, 1536]⟩ : Shape).Idx → EReal) (z : (⟨3, ![R, 8, 64]⟩ : Shape).Idx → EReal)
    (h : (⟨2, ![R, 1536]⟩ : Shape).ShapeCasts ⟨3, ![R, 8, 192]⟩)
    (hc : Shape.Concatenates [⟨3, ![R, 8, 192]⟩, ⟨3, ![R, 8, 64]⟩] ⟨3, ![R, 8, 256]⟩ 2)
    (h' : (⟨3, ![R, 8, 256]⟩ : Shape).ShapeCasts ⟨2, ![R, 2048]⟩) (hz : ∀ k, z k = 0) (i : Fin R) (n : Fin 2048) :
    shapeCast ⟨2, ![R, 2048]⟩ (concatenate ⟨3, ![R, 8, 256]⟩ 2 [⟨⟨3, ![R, 8, 192]⟩, shapeCast ⟨3, ![R, 8, 192]⟩ x h⟩, ⟨⟨3, ![R, 8, 64]⟩, z⟩] hc) h' (ix2 i n)
      = heads (fun q => x (ix2 i q)) n := by
  refine (join_at _ h' i n).trans ?_
  unfold heads
  by_cases hd : n.val % 256 < 192
  · rw [dif_pos hd]
    refine (concatenate_apply_piece (t := ⟨3, ![R, 8, 256]⟩) 2 [⟨⟨3, ![R, 8, 192]⟩, shapeCast ⟨3, ![R, 8, 192]⟩ x h⟩, ⟨⟨3, ![R, 8, 64]⟩, z⟩] hc _ 0 (show 0 < 2 by decide) ⟨3, ![R, 8, 192]⟩ _ rfl rfl 0 rfl
      (ix3 i ⟨n.val / 256, by omega⟩ ⟨n.val % 256, hd⟩) ?_ ?_).trans (split_at x h i _ _ _ rfl)
    · intro b hb
      match b with
      | ⟨0, _⟩ => rfl
      | ⟨1, _⟩ => rfl
      | ⟨2, _⟩ => exact absurd rfl hb
    · exact Nat.zero_add _
  · rw [dif_neg hd]
    refine (concatenate_apply_piece (t := ⟨3, ![R, 8, 256]⟩) 2 [⟨⟨3, ![R, 8, 192]⟩, shapeCast ⟨3, ![R, 8, 192]⟩ x h⟩, ⟨⟨3, ![R, 8, 64]⟩, z⟩] hc _ 1 (show 1 < 2 by decide) ⟨3, ![R, 8, 64]⟩ z rfl rfl 192 rfl
      (ix3 i ⟨n.val / 256, by omega⟩ ⟨n.val % 256 - 192, by omega⟩) ?_ ?_).trans (hz _)
    · intro b hb
      match b with
      | ⟨0, _⟩ => rfl
      | ⟨1, _⟩ => rfl
      | ⟨2, _⟩ => exact absurd rfl hb
    · show 192 + (n.val % 256 - 192) = n.val % 256
      omega

end Cert.Heads
-- ==== Proof.Q.lean ====
module

public import proofs.«01_k».proof.Defs
public import proofs.«01_k».proof.Proof.Products
public import proofs.«01_k».proof.Proof.Heads
public import proofs.«01_k».proof.Proof.Gen.KernelQIdeal.Value
public import proofs.«01_k».proof.Proof.Gen.ReferenceQIdeal.Read
public import proofs.«01_k».proof.Proof.Gen.ReferenceQIdeal.Run
public import Idealize.ShloMosaic.Lib.Pipeline.ValueKit.Geometry

/-!
  The queries' up-projection, forward: each grid point's block is whole rows of the normalised latent rows by whole columns of
  the padded weight.
-/

@[expose] public section

set_option maxRecDepth 8192

noncomputable section

namespace Cert.KernelQIdeal.Hand

open Cert.KernelQIdeal Cert.KernelQIdeal.Gen
open Idealize.ShloMosaic
open Idealize.ShloMosaic.TcCoe Idealize.ShloMosaic.ValueIdx Idealize.ShloMosaic.ValueKit Idealize.ShloMosaic.StableHlo
open Idealize.SL.Sem
open Cert.ReferenceQIdeal.Read (val_main_v0 val_main_v0_apply val_main_v1 val_main_v1_apply val_main_v2 val_main_v3 val_main_v4)

abbrev X0 := (⟨S2048x768, .f32⟩ : BufTy).Contents (Elt Ideal)
abbrev X1 := (⟨S768x1536, .f32⟩ : BufTy).Contents (Elt Ideal)

variable (m : (ℓ : Loc nD τ sig) → Buf (Elt Ideal) ℓ) (c : Dev nD)

theorem zero16 {s : Shape} (k : s.Idx) : sitofp (F := Ideal) .bf16 (constantI s 32 0#32) k = (0 : EReal) := by
  show ((((0#32 : BitVec 32).toInt : ℤ) : ℝ) : EReal) = _
  simp

/-- The arguments. -/
abbrev a0 : X0 := m ((c : Thread nD τ).loc main_arg0)
abbrev a1 : X1 := m ((c : Thread nD τ).loc main_arg1)

theorem v4_eq : V m c main_v4 = (fun i => (a0 m c) i : (⟨S2048x768, .bf16⟩ : BufTy).Contents (Elt Ideal)) := by
  unfold V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp
  rfl

/-- The weight over the padded columns. -/
abbrev wide (x : X1) : (⟨S768x2048, .bf16⟩ : BufTy).Contents (Elt Ideal) :=
  shapeCast S768x2048 (pad S768x8x256 ![0, 0, 0] ![0, 0, 64] ![0, 0, 0]
    (shapeCast S768x8x192 (truncf (F := Ideal) (φ := .f32) .bf16 x bitsLt_bf16_f32 : FVec Ideal S768x1536 .bf16) shapeCasts_S768x1536_S768x8x192)
    (sitofp (F := Ideal) .bf16 (constantI S_ 32 0#32)) pads_S768x8x192_S768x8x256_000_000_0640 h_S_) shapeCasts_S768x8x256_S768x2048

theorem wide_eq : V m c main_v3 = wide (a1 m c) := by
  unfold V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp
  rfl

theorem wide_at (x : X1) (i : Fin 768) (n : Fin 2048) : (wide x (ix2 i n) : EReal) = Cert.Heads.heads (fun q => x (ix2 i q)) n :=
  Cert.Heads.pad_at (truncf (F := Ideal) (φ := .f32) .bf16 x bitsLt_bf16_f32 : FVec Ideal S768x1536 .bf16) _ shapeCasts_S768x1536_S768x8x192
    pads_S768x8x192_S768x8x256_000_000_0640 h_S_ shapeCasts_S768x8x256_S768x2048 zero16 i n

theorem i0 : ∀ t : Fin cfg0.N, win0_0.index t = ![t.val / 2, 0] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, t.val % 2] := (by decide +kernel : ∀ t : Fin grid0.N, _)

theorem row_lt (t : Fin cfg0.N) (i : Fin 1024) : 1024 * (t.val / 2) + i.val < 2048 := by
  have := t.isLt; have : cfg0.N = 4 := rfl; omega
theorem col_lt (t : Fin cfg0.N) (j : Fin 1024) : 1024 * (t.val % 2) + j.val < 2048 := by
  omega

theorem w0 {c : Dev nD} (X : (b : Ref sig .tc) → Buf (Elt Ideal) ((c : Thread nD τ).loc b)) (t : Fin cfg0.N) (i : Fin 1024) (k : Fin 768) :
    ((cfg0.win 0).blk t).view.read (Elt Ideal) (X (Pipeline.arrRef spec0 0)) (ix2 i k) = X main_v4 (ix2 ⟨1024 * (t.val / 2) + i.val, row_lt t i⟩ k) := by
  blk_simp
  refine congrArg _ ?_
  blk_ext [i0]
  show t.val / 2 * 1024 + i.val = 1024 * (t.val / 2) + i.val
  omega

theorem w1 {c : Dev nD} (X : (b : Ref sig .tc) → Buf (Elt Ideal) ((c : Thread nD τ).loc b)) (t : Fin cfg0.N) (k : Fin 768) (j : Fin 1024) :
    ((cfg0.win 1).blk t).view.read (Elt Ideal) (X (Pipeline.arrRef spec0 1)) (ix2 k j) = X main_v3 (ix2 k ⟨1024 * (t.val % 2) + j.val, col_lt t j⟩) := by
  blk_simp
  refine congrArg _ ?_
  blk_ext [i1]
  show t.val % 2 * 1024 + j.val = 1024 * (t.val % 2) + j.val
  omega

/-- What a point's body leaves. -/
theorem out_at (x : Vec Ideal S1024x768 .bf16) (y : Vec Ideal S768x1024 .bf16) (i : Fin 1024) (j : Fin 1024) :
    out0_2 x y (ix2 i j) = ∑ k : Fin 768, (x (ix2 i k) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nn (φ₁ := .bf16) (φ₂ := .bf16) x y i j

/-- The product without padding. -/
abbrev dot (x0 : X0) (x1 : X1) (i : Fin 2048) (q : Fin 1536) : EReal := ∑ k : Fin 768, (x0 (ix2 i k) : EReal) * x1 (ix2 k q)

theorem v0_at (x0 : X0) (x1 : X1) (i : Fin 2048) (q : Fin 1536) : val_main_v0 (F := Ideal) x0 x1 (ix2 i q) = dot x0 x1 i q := by
  refine (val_main_v0_apply x0 x1 (ix2 i q)).trans ?_
  refine Cert.Products.sum_eq (fun k => congrArg _ ?_) (fun k => congrArg _ ?_) <;>
  · funext b
    match b with
    | ⟨0, _⟩ => rfl
    | ⟨1, _⟩ => rfl

/-- The reference at an index. -/
theorem ref_at (x0 : X0) (x1 : X1) (i : Fin 2048) (n : Fin 2048) :
    val_main_v4 (F := Ideal) x0 x1 (ix2 i n) = Cert.Heads.heads (dot x0 x1 i) n := by
  unfold val_main_v4 val_main_v3 val_main_v2
  refine (Cert.Heads.cat_at (val_main_v0 (F := Ideal) x0 x1) (val_main_v1 (F := Ideal)) _ _ _
    (fun k => (val_main_v1_apply (F := Ideal) k).trans Ideal.ofBits_zero_f32) i n).trans ?_
  exact congrArg (Cert.Heads.heads · n) (funext fun q => v0_at x0 x1 i q)

/-- The result array. -/
theorem result : (dats m 0 c).arrAt 2 cfg0.N = val_main_v4 (F := Ideal) (a0 m c) (a1 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, ValueIdx.eq_ix2 y⟩
  refine (out_at _ _ i j).trans ((Cert.Products.sum_eq
    (fun k => (w0 (V m c) t i k).trans (congrFun (v4_eq m c) _))
    (fun k => (w1 (V m c) t k j).trans ((congrFun (wide_eq m c) _).trans (wide_at (a1 m c) _ _)))).trans ?_)
  refine (Cert.Heads.heads_sum (fun k => (a0 m c) (ix2 ⟨1024 * (t.val / 2) + i.val, row_lt t i⟩ k)) (fun k q => (a1 m c) (ix2 k q)) _).trans
    ((ref_at (a0 m c) (a1 m c) ⟨1024 * (t.val / 2) + i.val, row_lt t i⟩ ⟨1024 * (t.val % 2) + j.val, col_lt t j⟩).symm.trans ?_)
  refine congrArg _ ?_
  blk_ext [i2]
  · show 1024 * (t.val / 2) + i.val = t.val / 2 * 1024 + i.val
    omega
  · show 1024 * (t.val % 2) + j.val = t.val % 2 * 1024 + j.val
    omega

/-- Over the extended reals the call is the reference. -/
theorem same : Cert.algebraic_KernelQIdeal_ReferenceQIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceQIdeal.defs _ _).mono (fun r h c => ?_) (Cert.ReferenceQIdeal.Value.run (F := Ideal) m' g')
    have h := h c
    have e := hargs c
    refine ⟨?_, h.2⟩
    refine (h.1.trans (Cert.ReferenceQIdeal.Read.val_main_v4_eq _ _)).trans ?_
    refine Eq.trans ?_ (result m c).symm
    exact congr (congrArg _ e.1) e.2

end Cert.KernelQIdeal.Hand
-- ==== Proof.GwUq.lean ====
module

public import proofs.«01_k».proof.Defs
public import proofs.«01_k».proof.Proof.Products
public import proofs.«01_k».proof.Proof.Heads
public import proofs.«01_k».proof.Proof.Gen.KernelGwUqIdeal.Value
public import proofs.«01_k».proof.Proof.Gen.ReferenceGwUqIdeal.Read
public import proofs.«01_k».proof.Proof.Gen.ReferenceGwUqIdeal.Run
public import Idealize.ShloMosaic.Lib.Pipeline.ValueKit.Geometry

/-!
  One device's summand of the gradient of the queries' up-projection, in the padded layout: each grid point's block is whole
  columns of the normalised latent rows by whole columns of the gradient, summed over the rows.
-/

@[expose] public section

set_option maxRecDepth 8192

noncomputable section

namespace Cert.KernelGwUqIdeal.Hand

open Cert.KernelGwUqIdeal Cert.KernelGwUqIdeal.Gen
open Idealize.ShloMosaic
open Idealize.ShloMosaic.TcCoe Idealize.ShloMosaic.ValueIdx Idealize.ShloMosaic.ValueKit Idealize.ShloMosaic.StableHlo
open Idealize.SL.Sem
open Cert.ReferenceGwUqIdeal.Read (val_main_v1 val_main_v1_apply val_main_v2 val_main_v2_apply val_main_v4 val_main_v4_apply val_main_v5 val_main_v6 val_main_v7 val_main_v8)

abbrev X0 := (⟨S2048x768, .f32⟩ : BufTy).Contents (Elt Ideal)
abbrev X2 := (⟨S2048x1536, .f32⟩ : BufTy).Contents (Elt Ideal)

variable (m : (ℓ : Loc nD τ sig) → Buf (Elt Ideal) ℓ) (c : Dev nD)

theorem zero16 {s : Shape} (k : s.Idx) : sitofp (F := Ideal) .bf16 (constantI s 32 0#32) k = (0 : EReal) := by
  show ((((0#32 : BitVec 32).toInt : ℤ) : ℝ) : EReal) = _
  simp

/-- The arguments. -/
abbrev a0 : X0 := m ((c : Thread nD τ).loc main_arg0)
abbrev a2 : X2 := m ((c : Thread nD τ).loc main_arg2)

theorem v0_eq : V m c main_v0 = (fun i => (a0 m c) i : (⟨S2048x768, .bf16⟩ : BufTy).Contents (Elt Ideal)) := by
  unfold V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp
  rfl

/-- The gradient over the padded columns. -/
abbrev spread (x : X2) : (⟨S2048x2048, .bf16⟩ : BufTy).Contents (Elt Ideal) :=
  shapeCast S2048x2048 (pad S2048x8x256 ![0, 0, 0] ![0, 0, 64] ![0, 0, 0]
    (shapeCast S2048x8x192 (truncf (F := Ideal) (φ := .f32) .bf16 x bitsLt_bf16_f32 : FVec Ideal S2048x1536 .bf16) shapeCasts_S2048x1536_S2048x8x192)
    (sitofp (F := Ideal) .bf16 (constantI S_ 32 0#32)) pads_S2048x8x192_S2048x8x256_000_000_0640 h_S_) shapeCasts_S2048x8x256_S2048x2048

theorem spread_eq : V m c main_v4 = spread (a2 m c) := by
  unfold V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp
  rfl

theorem spread_at (x : X2) (i : Fin 2048) (n : Fin 2048) : (spread x (ix2 i n) : EReal) = Cert.Heads.heads (fun q => x (ix2 i q)) n :=
  Cert.Heads.pad_at (truncf (F := Ideal) (φ := .f32) .bf16 x bitsLt_bf16_f32 : FVec Ideal S2048x1536 .bf16) _ shapeCasts_S2048x1536_S2048x8x192
    pads_S2048x8x192_S2048x8x256_000_000_0640 h_S_ shapeCasts_S2048x8x256_S2048x2048 zero16 i n

theorem i0 : ∀ t : Fin cfg0.N, win0_0.index t = ![0, 0] := (by decide +kernel : ∀ t : Fin grid0.N, _)
theorem i1 : ∀ t : Fin cfg0.N, win0_1.index t = ![0, t.val] := (by decide +kernel : ∀ t : Fin grid0.N, _)
theorem i2 : ∀ t : Fin cfg0.N, win0_2.index t = ![0, t.val] := (by decide +kernel : ∀ t : Fin grid0.N, _)

theorem col_lt (t : Fin cfg0.N) (j : Fin 1024) : 1024 * t.val + j.val < 2048 := by
  have := t.isLt; have : cfg0.N = 2 := rfl; omega

theorem w0 {c : Dev nD} (X : (b : Ref sig .tc) → Buf (Elt Ideal) ((c : Thread nD τ).loc b)) (t : Fin cfg0.N) (k : Fin 2048) (i : Fin 768) :
    ((cfg0.win 0).blk t).view.read (Elt Ideal) (X (Pipeline.arrRef spec0 0)) (ix2 k i) = X main_v0 (ix2 k i) := by
  blk_simp
  refine congrArg _ ?_
  blk_ext [i0]

theorem w1 {c : Dev nD} (X : (b : Ref sig .tc) → Buf (Elt Ideal) ((c : Thread nD τ).loc b)) (t : Fin cfg0.N) (k : Fin 2048) (j : Fin 1024) :
    ((cfg0.win 1).blk t).view.read (Elt Ideal) (X (Pipeline.arrRef spec0 1)) (ix2 k j) = X main_v4 (ix2 k ⟨1024 * t.val + j.val, col_lt t j⟩) := by
  blk_simp
  refine congrArg _ ?_
  blk_ext [i1]
  show t.val * 1024 + j.val = 1024 * t.val + j.val
  omega

/-- Columns by columns. -/
theorem tn (x : FVec Ideal S2048x768 .bf16) (y : FVec Ideal S2048x1024 .bf16) (a : Fin 768) (b : Fin 1024) :
    FloatOps.matmul dot_S2048x768_S2048x1024_S768x1024_0_0_1_1_n_n none x y (constant S768x1024 .f32 0x00000000#32) (ix2 a b)
      = ∑ k : Fin 2048, (x (ix2 k a) : EReal) * y (ix2 k b) := by
  rw [Ideal.matmul_constant_zero_apply, ← Equiv.sum_comp (contrEquiv1 dot_S2048x768_S2048x1024_S768x1024_0_0_1_1_n_n 2048 rfl rfl).symm]
  refine Finset.sum_congr rfl fun k _ => ?_
  have hk := contrEquiv1_symm_val dot_S2048x768_S2048x1024_S768x1024_0_0_1_1_n_n 2048 rfl rfl k
  have el : dot_S2048x768_S2048x1024_S768x1024_0_0_1_1_n_n.lhsIdx (ix2 a b)
      ((contrEquiv1 dot_S2048x768_S2048x1024_S768x1024_0_0_1_1_n_n 2048 rfl rfl).symm k) = ix2 k a := by
    funext z; apply Fin.ext
    match z with
    | ⟨0, _⟩ => exact hk
    | ⟨1, _⟩ => rfl
  have er : dot_S2048x768_S2048x1024_S768x1024_0_0_1_1_n_n.rhsIdx (ix2 a b)
      ((contrEquiv1 dot_S2048x768_S2048x1024_S768x1024_0_0_1_1_n_n 2048 rfl rfl).symm k) = ix2 k b := by
    funext z; apply Fin.ext
    match z with
    | ⟨0, _⟩ => exact hk
    | ⟨1, _⟩ => rfl
  rw [el, er]

/-- What a point's body leaves. -/
theorem out_at (x : Vec Ideal S2048x768 .bf16) (y : Vec Ideal S2048x1024 .bf16) (i : Fin 768) (j : Fin 1024) :
    out0_2 x y (ix2 i j) = ∑ k : Fin 2048, (x (ix2 k i) : EReal) * y (ix2 k j) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact tn x y i j

/-- The product without padding. -/
abbrev dot (x0 : X0) (x2 : X2) (i : Fin 768) (q : Fin 1536) : EReal := ∑ k : Fin 2048, (x0 (ix2 k i) : EReal) * x2 (ix2 k q)

theorem v2_at (x0 : X0) (x2 : X2) (i : Fin 768) (q : Fin 1536) : val_main_v2 (F := Ideal) x0 x2 (ix2 i q) = dot x0 x2 i q := by
  refine (val_main_v2_apply x0 x2 (ix2 i q)).trans ((val_main_v1_apply x0 x2 _).trans ?_)
  refine Finset.sum_congr rfl fun k _ => ?_
  rw [mul_comm]
  refine congr (congrArg _ (congrArg _ ?_)) (congrArg _ ?_) <;>
  · funext b
    match b with
    | ⟨0, _⟩ => rfl
    | ⟨1, _⟩ => rfl

/-- The reference at an index. -/
theorem ref_at (x0 : X0) (x2 : X2) (i : Fin 768) (n : Fin 2048) :
    (val_main_v8 (F := Ideal) x0 x2 (ix2 i n) : EReal) = Cert.Heads.heads (dot x0 x2 i) n := by
  show (val_main_v7 (F := Ideal) x0 x2 (ix2 i n) : EReal) = _
  unfold val_main_v7 val_main_v6 val_main_v5
  refine (Cert.Heads.cat_at (val_main_v2 (F := Ideal) x0 x2) (val_main_v4 (F := Ideal)) _ _ _
    (fun k => (val_main_v4_apply (F := Ideal) k).trans Ideal.ofBits_zero_f32) i n).trans ?_
  exact congrArg (Cert.Heads.heads · n) (funext fun q => v2_at x0 x2 i q)

/-- The result array. -/
theorem result : (dats m 0 c).arrAt 2 cfg0.N = val_main_v8 (F := Ideal) (a0 m c) (a2 m c) := by
  refine (dats m 0 c).arrAt_eq_of_covers 2 _ (by decide +kernel) fun t hf y => ?_
  blk_simp
  rw [after0_2]
  obtain ⟨i, j, rfl⟩ : ∃ (i : Fin 768) (j : Fin 1024), y = ix2 i j := ⟨y 0, y 1, ValueIdx.eq_ix2 y⟩
  refine (out_at _ _ i j).trans ((Cert.Products.sum_eq
    (fun k => (w0 (V m c) t k i).trans (congrFun (v0_eq m c) _))
    (fun k => (w1 (V m c) t k j).trans ((congrFun (spread_eq m c) _).trans (spread_at (a2 m c) _ _)))).trans ?_)
  refine (Cert.Heads.heads_sum (fun k => (a0 m c) (ix2 k i)) (fun k q => (a2 m c) (ix2 k q)) _).trans
    ((ref_at (a0 m c) (a2 m c) i ⟨1024 * t.val + j.val, col_lt t j⟩).symm.trans ?_)
  refine congrArg _ ?_
  blk_ext [i2]
  show 1024 * t.val + j.val = t.val * 1024 + j.val
  omega

/-- Over the extended reals the call is the reference. -/
theorem same : Cert.algebraic_KernelGwUqIdeal_ReferenceGwUqIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceGwUqIdeal.defs _ _).mono (fun r h c => ?_) (Cert.ReferenceGwUqIdeal.Value.run (F := Ideal) m' g')
    have h := h c
    have e := hargs c
    refine ⟨?_, h.2⟩
    refine (h.1.trans (Cert.ReferenceGwUqIdeal.Read.val_main_v8_eq _ _)).trans ?_
    refine Eq.trans ?_ (result m c).symm
    exact congr (congrArg _ e.1) e.2.2

end Cert.KernelGwUqIdeal.Hand
-- ==== Proof.Dcq.lean ====
module

public import proofs.«01_k».proof.Defs
public import proofs.«01_k».proof.Proof.Products
public import proofs.«01_k».proof.Proof.Heads
public import proofs.«01_k».proof.Proof.Gen.KernelDcqIdeal.Value
public import proofs.«01_k».proof.Proof.Gen.ReferenceDcqIdeal.Read
public import proofs.«01_k».proof.Proof.Gen.ReferenceDcqIdeal.Run
public import Idealize.ShloMosaic.Lib.Pipeline.ValueKit.Geometry

/-!
  The gradient of the queries' latent rows: each grid point's block is whole rows of the padded gradient by whole rows of the
  padded weight; the columns of zeros add nothing.
-/

@[expose] public section

set_option maxRecDepth 8192

noncomputable section

namespace Cert.KernelDcqIdeal.Hand

open Cert.KernelDcqIdeal Cert.KernelDcqIdeal.Gen
open Idealize.ShloMosaic
open Idealize.ShloMosaic.TcCoe Idealize.ShloMosaic.ValueIdx Idealize.ShloMosaic.ValueKit Idealize.ShloMosaic.StableHlo
open Idealize.SL.Sem
open Cert.ReferenceDcqIdeal.Read (val_main_v3 val_main_v3_apply)

abbrev X1 := (⟨S768x1536, .f32⟩ : BufTy).Contents (Elt Ideal)
abbrev X2 := (⟨S2048x1536, .f32⟩ : BufTy).Contents (Elt Ideal)

variable (m : (ℓ : Loc nD τ sig) → Buf (Elt Ideal) ℓ) (c : Dev nD)

theorem zero16 {s : Shape} (k : s.Idx) : sitofp (F := Ideal) .bf16 (constantI s 32 0#32) k = (0 : EReal) := by
  show ((((0#32 : BitVec 32).toInt : ℤ) : ℝ) : EReal) = _
  simp

/-- The arguments. -/
abbrev a1 : X1 := m ((c : Thread nD τ).loc main_arg1)
abbrev a2 : X2 := m ((c : Thread nD τ).loc main_arg2)

/-- The weight over the padded columns. -/
abbrev wide (x : X1) : (⟨S768x2048, .bf16⟩ : BufTy).Contents (Elt Ideal) :=
  shapeCast S768x2048 (pad S768x8x256 ![0, 0, 0] ![0, 0, 64] ![0, 0, 0]
    (shapeCast S768x8x192 (truncf (F := Ideal) (φ := .f32) .bf16 x bitsLt_bf16_f32 : FVec Ideal S768x1536 .bf16) shapeCasts_S768x1536_S768x8x192)
    (sitofp (F := Ideal) .bf16 (constantI S_ 32 0#32)) pads_S768x8x192_S768x8x256_000_000_0640 h_S_) shapeCasts_S768x8x256_S768x2048

theorem wide_eq : V m c main_v3 = wide (a1 m c) := by
  unfold V
  simp only [hostOps0, hostOps0_1, hostOps0_2, hostOps0_3, hostOps0_4, List.flatten_cons, List.flatten_nil, List.append_nil, List.cons_append, List.nil_append, TRef.binary, TRef.nullary, TRef.unary, TRef.ternary, TRef.toBuf, TRef.ofBuf, cast_eq]
  after_results_simp
  rfl

theorem wide_at (x : X1) (i : Fin 768) (n : Fin 2048) : (wide x (ix2 i n) : EReal) = Cert.Heads.heads (fun q => x (ix2 i q)) n :=
  Cert.Heads.pad_at (truncf (F := Ideal) (φ := .f32) .bf16 x bitsLt_bf16_f32 : FVec Ideal S768x1536 .bf16) _ shapeCasts_S768x1536_S768x8x192
    pads_S768x8x192_S768x8x256_000_000_0640 h_S_ shapeCasts_S768x8x256_S768x2048 zero16 i n

/-- The gradient over the padded columns. -/
abbrev spread (x : X2) : (⟨S2048x2048, .bf16⟩ : BufTy).Contents (Elt Ideal) :=
  shapeCast S2048x2048 (pad S2048x8x256 ![0, 0, 0] ![0, 0, 64] ![0, 0, 0]
    (shapeCast S2048x8x192 (truncf (F := Ideal) (φ := .f32) .bf16 x bitsLt_bf16_f32 : FVec Ideal S2048x1536 .bf16) shapeCasts_S2048x1536_S2048x8x192)
    (sitofp (F := Ideal) .bf16 (constantI S_ 32 0#32)) pads_S2048x8x192_S2048x8x256_000_000_0640 h_S_) shapeCasts_S2048x8x256_S2048x2048

theorem spread_eq : V m c main_v7 = spread (a2 m c) := by
  unfold V
  simp only [hostOps0, hostOps0_1, hostOps0_2, hostOps0_3, hostOps0_4, List.flatten_cons, List.flatten_nil, List.append_nil, List.cons_append, List.nil_append, TRef.binary, TRef.nullary, TRef.unary, TRef.ternary, TRef.toBuf, TRef.ofBuf, cast_eq]
  after_results_simp
  rfl

theorem spread_at (x : X2) (i : Fin 2048) (n : Fin 2048) : (spread x (ix2 i n) : EReal) = Cert.Heads.heads (fun q => x (ix2 i q)) n :=
  Cert.Heads.pad_at (truncf (F := Ideal) (φ := .f32) .bf16 x bitsLt_bf16_f32 : FVec Ideal S2048x1536 .bf16) _ shapeCasts_S2048x1536_S2048x8x192
    pads_S2048x8x192_S2048x8x256_000_000_0640 h_S_ shapeCasts_S2048x8x256_S2048x2048 zero16 i n

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![t.val, 0] := (by decide +kernel : ∀ t : Fin grid0.N, _)

theorem row_lt (t : Fin cfg0.N) (i : Fin 1024) : 1024 * t.val + i.val < 2048 := by
  have := t.isLt; have : cfg0.N = 2 := rfl; omega

theorem w0 {c : Dev nD} (X : (b : Ref sig .tc) → Buf (Elt Ideal) ((c : Thread nD τ).loc b)) (t : Fin cfg0.N) (i : Fin 1024) (k : Fin 2048) :
    ((cfg0.win 0).blk t).view.read (Elt Ideal) (X (Pipeline.arrRef spec0 0)) (ix2 i k) = X main_v7 (ix2 ⟨1024 * t.val + i.val, row_lt t i⟩ k) := by
  blk_simp
  refine congrArg _ ?_
  blk_ext [i0]
  show t.val * 1024 + i.val = 1024 * t.val + i.val
  omega

theorem w1 {c : Dev nD} (X : (b : Ref sig .tc) → Buf (Elt Ideal) ((c : Thread nD τ).loc b)) (t : Fin cfg0.N) (j : Fin 768) (k : Fin 2048) :
    ((cfg0.win 1).blk t).view.read (Elt Ideal) (X (Pipeline.arrRef spec0 1)) (ix2 j k) = X main_v3 (ix2 j k) := by
  blk_simp
  refine congrArg _ ?_
  blk_ext [i1]

/-- What a point's body leaves. -/
theorem out_at (x : Vec Ideal S1024x2048 .bf16) (y : Vec Ideal S768x2048 .bf16) (i : Fin 1024) (j : Fin 768) :
    out0_2 x y (ix2 i j) = ∑ k : Fin 2048, (x (ix2 i k) : EReal) * y (ix2 j k) := by
  have e : out0_2 x y = k0_pay1 x y := by
    unfold out0_2
    rw [View.canon_cons_unit_lit _ _ _ (by decide), View.ld_unit_lit _ _ (by decide), View.ld_unit_lit _ _ (by decide)]
  rw [e]
  unfold k0_pay1
  simp only [shapeCast_self]
  exact Cert.Products.nt (φ₁ := .bf16) (φ₂ := .bf16) x y i j

/-- The reference at an index. -/
theorem ref_at (y : X1) (x : X2) (r : Fin 2048) (l : Fin 768) :
    val_main_v3 (F := Ideal) y x (ix2 r l) = ∑ n, Cert.Heads.heads (fun q => x (ix2 r q)) n * Cert.Heads.heads (fun q => y (ix2 l q)) n := by
  rw [val_main_v3_apply]
  refine Eq.trans (Cert.Products.sum_eq (f' := fun q => x (ix2 r q)) (g' := fun q => y (ix2 l q))
    (fun k => congrArg _ ?_) (fun k => congrArg _ ?_)) (Cert.Heads.sum_heads (fun q => x (ix2 r q)) (fun q => y (ix2 l q))).symm <;>
  · funext b
    match b with
    | ⟨0, _⟩ => rfl
    | ⟨1, _⟩ => rfl

/-- The result array. -/
theorem result : (dats m 0 c).arrAt 2 cfg0.N = val_main_v3 (F := Ideal) (a1 m c) (a2 m c) := by
  refine (dats m 0 c).arrAt_eq_of_covers 2 _ (by decide +kernel) fun t hf y => ?_
  blk_simp
  rw [after0_2]
  obtain ⟨i, j, rfl⟩ : ∃ (i : Fin 1024) (j : Fin 768), y = ix2 i j := ⟨y 0, y 1, ValueIdx.eq_ix2 y⟩
  refine (out_at _ _ i j).trans ((Cert.Products.sum_eq
    (fun k => (w0 (V m c) t i k).trans ((congrFun (spread_eq m c) _).trans (spread_at (a2 m c) _ _)))
    (fun k => (w1 (V m c) t j k).trans ((congrFun (wide_eq m c) _).trans (wide_at (a1 m c) _ _)))).trans ?_)
  refine (ref_at (a1 m c) (a2 m c) ⟨1024 * t.val + i.val, row_lt t i⟩ j).symm.trans ?_
  refine congrArg _ ?_
  blk_ext [i2]
  show 1024 * t.val + i.val = t.val * 1024 + i.val
  omega

/-- Over the extended reals the call is the reference. -/
theorem same : Cert.algebraic_KernelDcqIdeal_ReferenceDcqIdeal := by
  intro m g m' g' _ hargs
  refine ⟨fun c => (dats m 0 c).arrAt 2 cfg0.N, ?_, ?_⟩
  · exact (θ_run defs _ _).mono (fun r h c => h c) (Value.run_blocks m g)
  · refine (θ_run Cert.ReferenceDcqIdeal.defs _ _).mono (fun r h c => ?_) (Cert.ReferenceDcqIdeal.Value.run (F := Ideal) m' g')
    have h := h c
    have e := hargs c
    refine ⟨?_, h.2⟩
    refine (h.1.trans (Cert.ReferenceDcqIdeal.Read.val_main_v3_eq _ _)).trans ?_
    refine Eq.trans ?_ (result m c).symm
    exact congr (congrArg _ e.2.1) e.2.2

end Cert.KernelDcqIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Read
public import proofs.«01_k».proof.Proof.Gen.ReferenceIdeal.Run
public import proofs.«01_k».proof.Proof.Run
public import proofs.«01_k».proof.Proof.RunBits
public import proofs.«01_k».proof.Proof.Arrays
public import proofs.«01_k».proof.Proof.Finite
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Down
public import proofs.«01_k».proof.Proof.Gen.KernelGwDown
public import proofs.«01_k».proof.Proof.Gen.KernelGwDown.Frame
public import proofs.«01_k».proof.Proof.Gen.KernelGwDownIdeal
public import proofs.«01_k».proof.Proof.Gen.KernelGwDownIdeal.Frame
public import proofs.«01_k».proof.Proof.Gen.ReferenceGwDownIdeal
public import proofs.«01_k».proof.Proof.Gen.ReferenceGwDownIdeal.Run
public import proofs.«01_k».proof.Proof.GwDown
public import proofs.«01_k».proof.Proof.Gen.KernelDact
public import proofs.«01_k».proof.Proof.Gen.KernelDact.Frame
public import proofs.«01_k».proof.Proof.Gen.KernelDactIdeal
public import proofs.«01_k».proof.Proof.Gen.KernelDactIdeal.Frame
public import proofs.«01_k».proof.Proof.Gen.ReferenceDactIdeal
public import proofs.«01_k».proof.Proof.Gen.ReferenceDactIdeal.Run
public import proofs.«01_k».proof.Proof.Dact
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Up
public import proofs.«01_k».proof.Proof.Gen.KernelGwUp
public import proofs.«01_k».proof.Proof.Gen.KernelGwUp.Frame
public import proofs.«01_k».proof.Proof.Gen.KernelGwUpIdeal
public import proofs.«01_k».proof.Proof.Gen.KernelGwUpIdeal.Frame
public import proofs.«01_k».proof.Proof.Gen.ReferenceGwUpIdeal
public import proofs.«01_k».proof.Proof.Gen.ReferenceGwUpIdeal.Run
public import proofs.«01_k».proof.Proof.GwUp
public import proofs.«01_k».proof.Proof.Gen.KernelDh2
public import proofs.«01_k».proof.Proof.Gen.KernelDh2.Frame
public import proofs.«01_k».proof.Proof.Gen.KernelDh2Ideal
public import proofs.«01_k».proof.Proof.Gen.KernelDh2Ideal.Frame
public import proofs.«01_k».proof.Proof.Gen.ReferenceDh2Ideal
public import proofs.«01_k».proof.Proof.Gen.ReferenceDh2Ideal.Run
public import proofs.«01_k».proof.Proof.Dh2
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Out
public import proofs.«01_k».proof.Proof.Gen.KernelGwOut
public import proofs.«01_k».proof.Proof.Gen.KernelGwOut.Frame
public import proofs.«01_k».proof.Proof.Gen.KernelGwOutIdeal
public import proofs.«01_k».proof.Proof.Gen.KernelGwOutIdeal.Frame
public import proofs.«01_k».proof.Proof.Gen.ReferenceGwOutIdeal
public import proofs.«01_k».proof.Proof.Gen.ReferenceGwOutIdeal.Run
public import proofs.«01_k».proof.Proof.GwOut
public import proofs.«01_k».proof.Proof.Gen.KernelDycat
public import proofs.«01_k».proof.Proof.Gen.KernelDycat.Frame
public import proofs.«01_k».proof.Proof.Gen.KernelDycatIdeal
public import proofs.«01_k».proof.Proof.Gen.KernelDycatIdeal.Frame
public import proofs.«01_k».proof.Proof.Gen.ReferenceDycatIdeal
public import proofs.«01_k».proof.Proof.Gen.ReferenceDycatIdeal.Run
public import proofs.«01_k».proof.Proof.Dycat
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.ReferenceKvIdeal
public import proofs.«01_k».proof.Proof.Gen.ReferenceKvIdeal.Run
public import proofs.«01_k».proof.Proof.Kv
public import proofs.«01_k».proof.Proof.Gen.KernelGwUkv
public import proofs.«01_k».proof.Proof.Gen.KernelGwUkv.Frame
public import proofs.«01_k».proof.Proof.Gen.KernelGwUkvIdeal
public import proofs.«01_k».proof.Proof.Gen.KernelGwUkvIdeal.Frame
public import proofs.«01_k».proof.Proof.Gen.ReferenceGwUkvIdeal
public import proofs.«01_k».proof.Proof.Gen.ReferenceGwUkvIdeal.Run
public import proofs.«01_k».proof.Proof.GwUkv
public import proofs.«01_k».proof.Proof.Gen.KernelDckv
public import proofs.«01_k».proof.Proof.Gen.KernelDckv.Frame
public import proofs.«01_k».proof.Proof.Gen.KernelDckvIdeal
public import proofs.«01_k».proof.Proof.Gen.KernelDckvIdeal.Frame
public import proofs.«01_k».proof.Proof.Gen.ReferenceDckvIdeal
public import proofs.«01_k».proof.Proof.Gen.ReferenceDckvIdeal.Run
public import proofs.«01_k».proof.Proof.Dckv
public import proofs.«01_k».proof.Proof.Gen.KernelAdamwMlp
public import proofs.«01_k».proof.Proof.Gen.KernelAdamwMlp.Frame
public import proofs.«01_k».proof.Proof.Gen.KernelAdamwMlpIdeal
public import proofs.«01_k».proof.Proof.Gen.KernelAdamwMlpIdeal.Frame
public import proofs.«01_k».proof.Proof.Gen.ReferenceAdamwMlpIdeal
public import proofs.«01_k».proof.Proof.Gen.ReferenceAdamwMlpIdeal.Run
public import proofs.«01_k».proof.Proof.AdamwMlp
public import proofs.«01_k».proof.Proof.Gen.KernelAdamwIn
public import proofs.«01_k».proof.Proof.Gen.KernelAdamwIn.Frame
public import proofs.«01_k».proof.Proof.Gen.KernelAdamwInIdeal
public import proofs.«01_k».proof.Proof.Gen.KernelAdamwInIdeal.Frame
public import proofs.«01_k».proof.Proof.Gen.ReferenceAdamwInIdeal
public import proofs.«01_k».proof.Proof.Gen.ReferenceAdamwInIdeal.Run
public import proofs.«01_k».proof.Proof.AdamwIn
public import proofs.«01_k».proof.Proof.Gen.KernelAdamwUq
public import proofs.«01_k».proof.Proof.Gen.KernelAdamwUq.Frame
public import proofs.«01_k».proof.Proof.Gen.KernelAdamwUqIdeal
public import proofs.«01_k».proof.Proof.Gen.KernelAdamwUqIdeal.Frame
public import proofs.«01_k».proof.Proof.Gen.ReferenceAdamwUqIdeal
public import proofs.«01_k».proof.Proof.Gen.ReferenceAdamwUqIdeal.Run
public import proofs.«01_k».proof.Proof.AdamwUq
public import proofs.«01_k».proof.Proof.Gen.KernelAdamwUkv
public import proofs.«01_k».proof.Proof.Gen.KernelAdamwUkv.Frame
public import proofs.«01_k».proof.Proof.Gen.KernelAdamwUkvIdeal
public import proofs.«01_k».proof.Proof.Gen.KernelAdamwUkvIdeal.Frame
public import proofs.«01_k».proof.Proof.Gen.ReferenceAdamwUkvIdeal
public import proofs.«01_k».proof.Proof.Gen.ReferenceAdamwUkvIdeal.Run
public import proofs.«01_k».proof.Proof.AdamwUkv
public import proofs.«01_k».proof.Proof.Gen.KernelAdamwO
public import proofs.«01_k».proof.Proof.Gen.KernelAdamwO.Frame
public import proofs.«01_k».proof.Proof.Gen.KernelAdamwOIdeal
public import proofs.«01_k».proof.Proof.Gen.KernelAdamwOIdeal.Frame
public import proofs.«01_k».proof.Proof.Gen.ReferenceAdamwOIdeal
public import proofs.«01_k».proof.Proof.Gen.ReferenceAdamwOIdeal.Run
public import proofs.«01_k».proof.Proof.AdamwO
public import proofs.«01_k».proof.Proof.Gen.KernelAdamwSmall
public import proofs.«01_k».proof.Proof.Gen.KernelAdamwSmall.Frame
public import proofs.«01_k».proof.Proof.Gen.KernelAdamwSmallIdeal
public import proofs.«01_k».proof.Proof.Gen.KernelAdamwSmallIdeal.Frame
public import proofs.«01_k».proof.Proof.Gen.ReferenceAdamwSmallIdeal
public import proofs.«01_k».proof.Proof.Gen.ReferenceAdamwSmallIdeal.Run
public import proofs.«01_k».proof.Proof.AdamwSmall
public import proofs.«01_k».proof.Proof.Gen.KernelInput
public import proofs.«01_k».proof.Proof.Gen.KernelInput.Frame
public import proofs.«01_k».proof.Proof.Gen.KernelInputIdeal
public import proofs.«01_k».proof.Proof.Gen.KernelInputIdeal.Frame
public import proofs.«01_k».proof.Proof.Gen.ReferenceInputIdeal
public import proofs.«01_k».proof.Proof.Gen.ReferenceInputIdeal.Run
public import proofs.«01_k».proof.Proof.Input
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.ReferenceProjIdeal
public import proofs.«01_k».proof.Proof.Gen.ReferenceProjIdeal.Run
public import proofs.«01_k».proof.Proof.Proj
public import proofs.«01_k».proof.Proof.Gen.KernelGwIn
public import proofs.«01_k».proof.Proof.Gen.KernelGwIn.Frame
public import proofs.«01_k».proof.Proof.Gen.KernelGwInIdeal
public import proofs.«01_k».proof.Proof.Gen.KernelGwInIdeal.Frame
public import proofs.«01_k».proof.Proof.Gen.ReferenceGwInIdeal
public import proofs.«01_k».proof.Proof.Gen.ReferenceGwInIdeal.Run
public import proofs.«01_k».proof.Proof.GwIn
public import proofs.«01_k».proof.Proof.Gen.KernelDh1
public import proofs.«01_k».proof.Proof.Gen.KernelDh1.Frame
public import proofs.«01_k».proof.Proof.Gen.KernelDh1Ideal
public import proofs.«01_k».proof.Proof.Gen.KernelDh1Ideal.Frame
public import proofs.«01_k».proof.Proof.Gen.ReferenceDh1Ideal
public import proofs.«01_k».proof.Proof.Gen.ReferenceDh1Ideal.Run
public import proofs.«01_k».proof.Proof.Dh1
public import proofs.«01_k».proof.Proof.Gen.KernelQ
public import proofs.«01_k».proof.Proof.Gen.KernelQ.Frame
public import proofs.«01_k».proof.Proof.Gen.KernelQIdeal
public import proofs.«01_k».proof.Proof.Gen.KernelQIdeal.Frame
public import proofs.«01_k».proof.Proof.Gen.ReferenceQIdeal
public import proofs.«01_k».proof.Proof.Gen.ReferenceQIdeal.Run
public import proofs.«01_k».proof.Proof.Q
public import proofs.«01_k».proof.Proof.Gen.KernelGwUq
public import proofs.«01_k».proof.Proof.Gen.KernelGwUq.Frame
public import proofs.«01_k».proof.Proof.Gen.KernelGwUqIdeal
public import proofs.«01_k».proof.Proof.Gen.KernelGwUqIdeal.Frame
public import proofs.«01_k».proof.Proof.Gen.ReferenceGwUqIdeal
public import proofs.«01_k».proof.Proof.Gen.ReferenceGwUqIdeal.Run
public import proofs.«01_k».proof.Proof.GwUq
public import proofs.«01_k».proof.Proof.Gen.KernelDcq
public import proofs.«01_k».proof.Proof.Gen.KernelDcq.Frame
public import proofs.«01_k».proof.Proof.Gen.KernelDcqIdeal
public import proofs.«01_k».proof.Proof.Gen.KernelDcqIdeal.Frame
public import proofs.«01_k».proof.Proof.Gen.ReferenceDcqIdeal
public import proofs.«01_k».proof.Proof.Gen.ReferenceDcqIdeal.Run
public import proofs.«01_k».proof.Proof.Dcq
public import Idealize.ShloMosaic.Adequacy
public import Idealize.ShloMosaic.Init

@[expose] public section

noncomputable section

namespace Cert.Proof

open Idealize.ShloMosaic Idealize.SL.Sem

/-- The reference declares no semaphore, and each of its operations writes an array of its own. -/
theorem frame_reference : Cert.quiescent_ReferenceIdeal := fun m ρ _ =>
  (θ_run Cert.ReferenceIdeal.defs _ _).mono (fun r h =>
      ⟨fun c => ⟨(h c).2.2.2.2.1, (h c).2.2.2.2.2.1, (h c).2.2.2.2.2.2.1, (h c).2.2.2.2.2.2.2.1, (h c).2.2.2.2.2.2.2.2⟩,
        sem_eq_zero_of_no_sems (by decide) r.2⟩)
    (Cert.ReferenceIdeal.Value.run (F := Ideal) m ρ)

open Cert.ReferenceIdeal.Read (val_main_v123 val_main_v125 val_main_v126 val_main_v127 val_main_v123_eq val_main_v125_eq val_main_v126_eq val_main_v127_eq)
open Cert.KernelIdeal.Hand (dats)

/-- The real numbers device `c`'s arguments hold. -/
def argsOf (m : (ℓ : Loc Cert.KernelIdeal.nD Cert.KernelIdeal.τ Cert.KernelIdeal.sig) → Buf (Elt Ideal) ℓ) (c : Dev Cert.KernelIdeal.nD) : Cert.Values.Args where
  x0 := Cert.Values.down (m ((c.tc : Thread Cert.KernelIdeal.nD Cert.KernelIdeal.τ).loc Cert.KernelIdeal.main_arg0))
  x1 := Cert.Values.down (m ((c.tc : Thread Cert.KernelIdeal.nD Cert.KernelIdeal.τ).loc Cert.KernelIdeal.main_arg1))
  x2 := Cert.Values.down (m ((c.tc : Thread Cert.KernelIdeal.nD Cert.KernelIdeal.τ).loc Cert.KernelIdeal.main_arg2))
  x3 := Cert.Values.down (m ((c.tc : Thread Cert.KernelIdeal.nD Cert.KernelIdeal.τ).loc Cert.KernelIdeal.main_arg3))
  x4 := Cert.Values.down (m ((c.tc : Thread Cert.KernelIdeal.nD Cert.KernelIdeal.τ).loc Cert.KernelIdeal.main_arg4))

/-- Over real arguments the call's four results are the reference's. -/
theorem same_values : Cert.algebraic_KernelIdeal_ReferenceIdeal_pre_finite := by
  intro m g m' g' hpre hargs
  have hA : ∀ c, Cert.KernelIdeal.HostVal.ArgsAre m c (argsOf m c) := fun c =>
    have h := Cert.Values.finite_up _ _ _ _ _ (hpre c)
    ⟨h.1, h.2.1, h.2.2.1, h.2.2.2.1, h.2.2.2.2⟩
  refine ⟨fun c => (dats m 0 c).arrAt 8 Cert.KernelIdeal.cfg0.N, fun c => (dats m 0 c).arrAt 9 Cert.KernelIdeal.cfg0.N,
    fun c => (dats m 0 c).arrAt 10 Cert.KernelIdeal.cfg0.N, fun c => (dats m 0 c).arrAt 11 Cert.KernelIdeal.cfg0.N, ?_, ?_⟩
  · refine (θ_run Cert.KernelIdeal.defs _ _).mono (fun r h c => ?_) (Cert.KernelIdeal.Hand.run_main m g)
    exact ⟨(h.1 c).1 8, (h.1 c).1 9, (h.1 c).1 10, (h.1 c).1 11, Cert.KernelIdeal.Hand.args_of m h.1 c⟩
  · refine (θ_run Cert.ReferenceIdeal.defs _ _).mono (fun r h c => ?_) (Cert.ReferenceIdeal.Value.run (F := Ideal) m' g')
    have h := h c
    have e := hargs c
    have e0 := e.1.trans (hA c).e0
    have e1 := e.2.1.trans (hA c).e1
    have e2 := e.2.2.1.trans (hA c).e2
    have e3 := e.2.2.2.1.trans (hA c).e3
    have e4 := e.2.2.2.2.trans (hA c).e4
    refine ⟨(h.1.trans (val_main_v123_eq _)).trans ?_, (h.2.1.trans (val_main_v125_eq _)).trans ?_, (h.2.2.1.trans (val_main_v126_eq _)).trans ?_,
      (h.2.2.2.1.trans (val_main_v127_eq _)).trans ?_, h.2.2.2.2⟩
    · refine Eq.trans ?_ (Cert.KernelIdeal.HostVal.r8 (hA c)).symm
      exact congr (congr (congr (congr (congrArg _ e0) e1) e2) e3) e4
    · refine Eq.trans ?_ (Cert.KernelIdeal.HostVal.r9 (hA c)).symm
      exact congr (congr (congr (congr (congrArg _ e0) e1) e2) e3) e4
    · refine Eq.trans ?_ (Cert.KernelIdeal.HostVal.r10 (hA c)).symm
      exact congr (congr (congr (congr (congrArg _ e0) e1) e2) e3) e4
    · refine Eq.trans ?_ (Cert.KernelIdeal.HostVal.r11 (hA c)).symm
      exact congr (congr (congr (congrArg _ e0) e1) e2) e4

/-! The references of the other calls declare no semaphore either. -/

theorem frame_reference_Down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem frame_reference_GwDown : Cert.quiescent_ReferenceGwDownIdeal := fun m ρ _ =>
  (θ_run Cert.ReferenceGwDownIdeal.defs _ _).mono (fun r h => ⟨fun c => (h c).2, sem_eq_zero_of_no_sems (by decide) r.2⟩)
    (Cert.ReferenceGwDownIdeal.Value.run (F := Ideal) m ρ)

theorem frame_reference_Dact : Cert.quiescent_ReferenceDactIdeal := fun m ρ _ =>
  (θ_run Cert.ReferenceDactIdeal.defs _ _).mono (fun r h => ⟨fun c => (h c).2, sem_eq_zero_of_no_sems (by decide) r.2⟩)
    (Cert.ReferenceDactIdeal.Value.run (F := Ideal) m ρ)

theorem frame_reference_Up : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run (F := Ideal) m ρ)

theorem frame_reference_GwUp : Cert.quiescent_ReferenceGwUpIdeal := fun m ρ _ =>
  (θ_run Cert.ReferenceGwUpIdeal.defs _ _).mono (fun r h => ⟨fun c => (h c).2, sem_eq_zero_of_no_sems (by decide) r.2⟩)
    (Cert.ReferenceGwUpIdeal.Value.run (F := Ideal) m ρ)

theorem frame_reference_Dh2 : Cert.quiescent_ReferenceDh2Ideal := fun m ρ _ =>
  (θ_run Cert.ReferenceDh2Ideal.defs _ _).mono (fun r h => ⟨fun c => (h c).2, sem_eq_zero_of_no_sems (by decide) r.2⟩)
    (Cert.ReferenceDh2Ideal.Value.run (F := Ideal) m ρ)

theorem frame_reference_Out : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem frame_reference_GwOut : Cert.quiescent_ReferenceGwOutIdeal := fun m ρ _ =>
  (θ_run Cert.ReferenceGwOutIdeal.defs _ _).mono (fun r h => ⟨fun c => (h c).2, sem_eq_zero_of_no_sems (by decide) r.2⟩)
    (Cert.ReferenceGwOutIdeal.Value.run (F := Ideal) m ρ)

theorem frame_reference_Dycat : Cert.quiescent_ReferenceDycatIdeal := fun m ρ _ =>
  (θ_run Cert.ReferenceDycatIdeal.defs _ _).mono (fun r h => ⟨fun c => (h c).2, sem_eq_zero_of_no_sems (by decide) r.2⟩)
    (Cert.ReferenceDycatIdeal.Value.run (F := Ideal) m ρ)

theorem frame_reference_Kv : Cert.quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

theorem frame_reference_GwUkv : Cert.quiescent_ReferenceGwUkvIdeal := fun m ρ _ =>
  (θ_run Cert.ReferenceGwUkvIdeal.defs _ _).mono (fun r h => ⟨fun c => (h c).2, sem_eq_zero_of_no_sems (by decide) r.2⟩)
    (Cert.ReferenceGwUkvIdeal.Value.run (F := Ideal) m ρ)

theorem frame_reference_Dckv : Cert.quiescent_ReferenceDckvIdeal := fun m ρ _ =>
  (θ_run Cert.ReferenceDckvIdeal.defs _ _).mono (fun r h => ⟨fun c => (h c).2, sem_eq_zero_of_no_sems (by decide) r.2⟩)
    (Cert.ReferenceDckvIdeal.Value.run (F := Ideal) m ρ)

theorem frame_reference_AdamwMlp : Cert.quiescent_ReferenceAdamwMlpIdeal := fun m ρ _ =>
  (θ_run Cert.ReferenceAdamwMlpIdeal.defs _ _).mono (fun r h => ⟨fun c => (h c).2.2.2.2, sem_eq_zero_of_no_sems (by decide) r.2⟩)
    (Cert.ReferenceAdamwMlpIdeal.Value.run (F := Ideal) m ρ)

theorem frame_reference_AdamwIn : Cert.quiescent_ReferenceAdamwInIdeal := fun m ρ _ =>
  (θ_run Cert.ReferenceAdamwInIdeal.defs _ _).mono (fun r h => ⟨fun c => (h c).2.2.2.2, sem_eq_zero_of_no_sems (by decide) r.2⟩)
    (Cert.ReferenceAdamwInIdeal.Value.run (F := Ideal) m ρ)

theorem frame_reference_AdamwUq : Cert.quiescent_ReferenceAdamwUqIdeal := fun m ρ _ =>
  (θ_run Cert.ReferenceAdamwUqIdeal.defs _ _).mono (fun r h => ⟨fun c => (h c).2.2.2.2, sem_eq_zero_of_no_sems (by decide) r.2⟩)
    (Cert.ReferenceAdamwUqIdeal.Value.run (F := Ideal) m ρ)

theorem frame_reference_AdamwUkv : Cert.quiescent_ReferenceAdamwUkvIdeal := fun m ρ _ =>
  (θ_run Cert.ReferenceAdamwUkvIdeal.defs _ _).mono (fun r h => ⟨fun c => (h c).2.2.2.2, sem_eq_zero_of_no_sems (by decide) r.2⟩)
    (Cert.ReferenceAdamwUkvIdeal.Value.run (F := Ideal) m ρ)

theorem frame_reference_AdamwO : Cert.quiescent_ReferenceAdamwOIdeal := fun m ρ _ =>
  (θ_run Cert.ReferenceAdamwOIdeal.defs _ _).mono (fun r h => ⟨fun c => (h c).2.2.2.2, sem_eq_zero_of_no_sems (by decide) r.2⟩)
    (Cert.ReferenceAdamwOIdeal.Value.run (F := Ideal) m ρ)

theorem frame_reference_AdamwSmall : Cert.quiescent_ReferenceAdamwSmallIdeal := fun m ρ _ =>
  (θ_run Cert.ReferenceAdamwSmallIdeal.defs _ _).mono (fun r h => ⟨fun c => (h c).2.2.2.2, sem_eq_zero_of_no_sems (by decide) r.2⟩)
    (Cert.ReferenceAdamwSmallIdeal.Value.run (F := Ideal) m ρ)

theorem frame_reference_Input : Cert.quiescent_ReferenceInputIdeal := fun m ρ _ =>
  (θ_run Cert.ReferenceInputIdeal.defs _ _).mono (fun r h => ⟨fun c => (h c).2.2, sem_eq_zero_of_no_sems (by decide) r.2⟩)
    (Cert.ReferenceInputIdeal.Value.run (F := Ideal) m ρ)

theorem frame_reference_Proj : Cert.quiescent_ReferenceProjIdeal := fun m ρ _ =>
  (θ_run Cert.ReferenceProjIdeal.defs _ _).mono (fun r h => ⟨fun c => (h c).2, sem_eq_zero_of_no_sems (by decide) r.2⟩)
    (Cert.ReferenceProjIdeal.Value.run (F := Ideal) m ρ)

theorem frame_reference_GwIn : Cert.quiescent_ReferenceGwInIdeal := fun m ρ _ =>
  (θ_run Cert.ReferenceGwInIdeal.defs _ _).mono (fun r h => ⟨fun c => (h c).2, sem_eq_zero_of_no_sems (by decide) r.2⟩)
    (Cert.ReferenceGwInIdeal.Value.run (F := Ideal) m ρ)

theorem frame_reference_Dh1 : Cert.quiescent_ReferenceDh1Ideal := fun m ρ _ =>
  (θ_run Cert.ReferenceDh1Ideal.defs _ _).mono (fun r h => ⟨fun c => (h c).2, sem_eq_zero_of_no_sems (by decide) r.2⟩)
    (Cert.ReferenceDh1Ideal.Value.run (F := Ideal) m ρ)

theorem frame_reference_Q : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

theorem frame_reference_GwUq : Cert.quiescent_ReferenceGwUqIdeal := fun m ρ _ =>
  (θ_run Cert.ReferenceGwUqIdeal.defs _ _).mono (fun r h => ⟨fun c => (h c).2, sem_eq_zero_of_no_sems (by decide) r.2⟩)
    (Cert.ReferenceGwUqIdeal.Value.run (F := Ideal) m ρ)

theorem frame_reference_Dcq : Cert.quiescent_ReferenceDcqIdeal := fun m ρ _ =>
  (θ_run Cert.ReferenceDcqIdeal.defs _ _).mono (fun r h => ⟨fun c => (h c).2, sem_eq_zero_of_no_sems (by decide) r.2⟩)
    (Cert.ReferenceDcqIdeal.Value.run (F := Ideal) m ρ)

theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelGwDown.Gen.facts, Cert.KernelGwDownIdeal.Gen.facts, Cert.ReferenceGwDownIdeal.Gen.facts,
    Cert.KernelDact.Gen.facts, Cert.KernelDactIdeal.Gen.facts, Cert.ReferenceDactIdeal.Gen.facts,
    Cert.KernelUp.Gen.facts, Cert.KernelUpIdeal.Gen.facts, Cert.ReferenceUpIdeal.Gen.facts,
    Cert.KernelGwUp.Gen.facts, Cert.KernelGwUpIdeal.Gen.facts, Cert.ReferenceGwUpIdeal.Gen.facts,
    Cert.KernelDh2.Gen.facts, Cert.KernelDh2Ideal.Gen.facts, Cert.ReferenceDh2Ideal.Gen.facts,
    Cert.KernelOut.Gen.facts, Cert.KernelOutIdeal.Gen.facts, Cert.ReferenceOutIdeal.Gen.facts,
    Cert.KernelGwOut.Gen.facts, Cert.KernelGwOutIdeal.Gen.facts, Cert.ReferenceGwOutIdeal.Gen.facts,
    Cert.KernelDycat.Gen.facts, Cert.KernelDycatIdeal.Gen.facts, Cert.ReferenceDycatIdeal.Gen.facts,
    Cert.KernelKv.Gen.facts, Cert.KernelKvIdeal.Gen.facts, Cert.ReferenceKvIdeal.Gen.facts,
    Cert.KernelGwUkv.Gen.facts, Cert.KernelGwUkvIdeal.Gen.facts, Cert.ReferenceGwUkvIdeal.Gen.facts,
    Cert.KernelDckv.Gen.facts, Cert.KernelDckvIdeal.Gen.facts, Cert.ReferenceDckvIdeal.Gen.facts,
    Cert.KernelAdamwMlp.Gen.facts, Cert.KernelAdamwMlpIdeal.Gen.facts, Cert.ReferenceAdamwMlpIdeal.Gen.facts,
    Cert.KernelAdamwIn.Gen.facts, Cert.KernelAdamwInIdeal.Gen.facts, Cert.ReferenceAdamwInIdeal.Gen.facts,
    Cert.KernelAdamwUq.Gen.facts, Cert.KernelAdamwUqIdeal.Gen.facts, Cert.ReferenceAdamwUqIdeal.Gen.facts,
    Cert.KernelAdamwUkv.Gen.facts, Cert.KernelAdamwUkvIdeal.Gen.facts, Cert.ReferenceAdamwUkvIdeal.Gen.facts,
    Cert.KernelAdamwO.Gen.facts, Cert.KernelAdamwOIdeal.Gen.facts, Cert.ReferenceAdamwOIdeal.Gen.facts,
    Cert.KernelAdamwSmall.Gen.facts, Cert.KernelAdamwSmallIdeal.Gen.facts, Cert.ReferenceAdamwSmallIdeal.Gen.facts,
    Cert.KernelInput.Gen.facts, Cert.KernelInputIdeal.Gen.facts, Cert.ReferenceInputIdeal.Gen.facts,
    Cert.KernelProj.Gen.facts, Cert.KernelProjIdeal.Gen.facts, Cert.ReferenceProjIdeal.Gen.facts,
    Cert.KernelGwIn.Gen.facts, Cert.KernelGwInIdeal.Gen.facts, Cert.ReferenceGwInIdeal.Gen.facts,
    Cert.KernelDh1.Gen.facts, Cert.KernelDh1Ideal.Gen.facts, Cert.ReferenceDh1Ideal.Gen.facts,
    Cert.KernelQ.Gen.facts, Cert.KernelQIdeal.Gen.facts, Cert.ReferenceQIdeal.Gen.facts,
    Cert.KernelGwUq.Gen.facts, Cert.KernelGwUqIdeal.Gen.facts, Cert.ReferenceGwUqIdeal.Gen.facts,
    Cert.KernelDcq.Gen.facts, Cert.KernelDcqIdeal.Gen.facts, Cert.ReferenceDcqIdeal.Gen.facts,
    Cert.Pre_finite.Gen.facts,
    fun m ρ _ => Cert.Kernel.Hand.quiescent m ρ, fun m ρ _ => Cert.KernelIdeal.Hand.quiescent m ρ,
    fun m ρ _ => Cert.KernelIdeal.Hand.quiescent m ρ, frame_reference, fun m ρ _ => frame_reference m ρ trivial,
    fun m ρ _ => Cert.KernelDown.Gen.frame m ρ, fun m ρ _ => Cert.KernelDownIdeal.Gen.frame m ρ, frame_reference_Down,
    fun m ρ _ => Cert.KernelGwDown.Gen.frame m ρ, fun m ρ _ => Cert.KernelGwDownIdeal.Gen.frame m ρ, frame_reference_GwDown,
    fun m ρ _ => Cert.KernelDact.Gen.frame m ρ, fun m ρ _ => Cert.KernelDactIdeal.Gen.frame m ρ, frame_reference_Dact,
    fun m ρ _ => Cert.KernelUp.Gen.frame m ρ, fun m ρ _ => Cert.KernelUpIdeal.Gen.frame m ρ, frame_reference_Up,
    fun m ρ _ => Cert.KernelGwUp.Gen.frame m ρ, fun m ρ _ => Cert.KernelGwUpIdeal.Gen.frame m ρ, frame_reference_GwUp,
    fun m ρ _ => Cert.KernelDh2.Gen.frame m ρ, fun m ρ _ => Cert.KernelDh2Ideal.Gen.frame m ρ, frame_reference_Dh2,
    fun m ρ _ => Cert.KernelOut.Gen.frame m ρ, fun m ρ _ => Cert.KernelOutIdeal.Gen.frame m ρ, frame_reference_Out,
    fun m ρ _ => Cert.KernelGwOut.Gen.frame m ρ, fun m ρ _ => Cert.KernelGwOutIdeal.Gen.frame m ρ, frame_reference_GwOut,
    fun m ρ _ => Cert.KernelDycat.Gen.frame m ρ, fun m ρ _ => Cert.KernelDycatIdeal.Gen.frame m ρ, frame_reference_Dycat,
    fun m ρ _ => Cert.KernelKv.Gen.frame m ρ, fun m ρ _ => Cert.KernelKvIdeal.Gen.frame m ρ, frame_reference_Kv,
    fun m ρ _ => Cert.KernelGwUkv.Gen.frame m ρ, fun m ρ _ => Cert.KernelGwUkvIdeal.Gen.frame m ρ, frame_reference_GwUkv,
    fun m ρ _ => Cert.KernelDckv.Gen.frame m ρ, fun m ρ _ => Cert.KernelDckvIdeal.Gen.frame m ρ, frame_reference_Dckv,
    fun m ρ _ => Cert.KernelAdamwMlp.Gen.frame m ρ, fun m ρ _ => Cert.KernelAdamwMlpIdeal.Gen.frame m ρ, frame_reference_AdamwMlp,
    fun m ρ _ => Cert.KernelAdamwIn.Gen.frame m ρ, fun m ρ _ => Cert.KernelAdamwInIdeal.Gen.frame m ρ, frame_reference_AdamwIn,
    fun m ρ _ => Cert.KernelAdamwUq.Gen.frame m ρ, fun m ρ _ => Cert.KernelAdamwUqIdeal.Gen.frame m ρ, frame_reference_AdamwUq,
    fun m ρ _ => Cert.KernelAdamwUkv.Gen.frame m ρ, fun m ρ _ => Cert.KernelAdamwUkvIdeal.Gen.frame m ρ, frame_reference_AdamwUkv,
    fun m ρ _ => Cert.KernelAdamwO.Gen.frame m ρ, fun m ρ _ => Cert.KernelAdamwOIdeal.Gen.frame m ρ, frame_reference_AdamwO,
    fun m ρ _ => Cert.KernelAdamwSmall.Gen.frame m ρ, fun m ρ _ => Cert.KernelAdamwSmallIdeal.Gen.frame m ρ, frame_reference_AdamwSmall,
    fun m ρ _ => Cert.KernelInput.Gen.frame m ρ, fun m ρ _ => Cert.KernelInputIdeal.Gen.frame m ρ, frame_reference_Input,
    fun m ρ _ => Cert.KernelProj.Gen.frame m ρ, fun m ρ _ => Cert.KernelProjIdeal.Gen.frame m ρ, frame_reference_Proj,
    fun m ρ _ => Cert.KernelGwIn.Gen.frame m ρ, fun m ρ _ => Cert.KernelGwInIdeal.Gen.frame m ρ, frame_reference_GwIn,
    fun m ρ _ => Cert.KernelDh1.Gen.frame m ρ, fun m ρ _ => Cert.KernelDh1Ideal.Gen.frame m ρ, frame_reference_Dh1,
    fun m ρ _ => Cert.KernelQ.Gen.frame m ρ, fun m ρ _ => Cert.KernelQIdeal.Gen.frame m ρ, frame_reference_Q,
    fun m ρ _ => Cert.KernelGwUq.Gen.frame m ρ, fun m ρ _ => Cert.KernelGwUqIdeal.Gen.frame m ρ, frame_reference_GwUq,
    fun m ρ _ => Cert.KernelDcq.Gen.frame m ρ, fun m ρ _ => Cert.KernelDcqIdeal.Gen.frame m ρ, frame_reference_Dcq,
    IdealRules.named_const.statement Cert.KernelIdeal.κ "mask" .f32 0xF149F2CA#32 ⊥ rfl, same_values,
    trivial, Cert.KernelDownIdeal.Hand.same,
    trivial, Cert.KernelGwDownIdeal.Hand.same,
    trivial, Cert.KernelDactIdeal.Hand.same,
    trivial, Cert.KernelUpIdeal.Hand.same,
    trivial, Cert.KernelGwUpIdeal.Hand.same,
    trivial, Cert.KernelDh2Ideal.Hand.same,
    trivial, Cert.KernelOutIdeal.Hand.same,
    trivial, Cert.KernelGwOutIdeal.Hand.same,
    trivial, Cert.KernelDycatIdeal.Hand.same,
    trivial, Cert.KernelKvIdeal.Hand.same,
    trivial, Cert.KernelGwUkvIdeal.Hand.same,
    trivial, Cert.KernelDckvIdeal.Hand.same,
    trivial, Cert.KernelAdamwMlpIdeal.Hand.same,
    trivial, Cert.KernelAdamwInIdeal.Hand.same,
    trivial, Cert.KernelAdamwUqIdeal.Hand.same,
    trivial, Cert.KernelAdamwUkvIdeal.Hand.same,
    trivial, Cert.KernelAdamwOIdeal.Hand.same,
    trivial, Cert.KernelAdamwSmallIdeal.Hand.same,
    trivial, Cert.KernelInputIdeal.Hand.same,
    trivial, Cert.KernelProjIdeal.Hand.same,
    trivial, Cert.KernelGwInIdeal.Hand.same,
    trivial, Cert.KernelDh1Ideal.Hand.same,
    trivial, Cert.KernelQIdeal.Hand.same,
    trivial, Cert.KernelGwUqIdeal.Hand.same,
    trivial, Cert.KernelDcqIdeal.Hand.same⟩

end Cert.Proof

end
